-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11)) (m ((c.tc : Thread Cert.FfnIdeal.nD Cert.FfnIdeal.τ).loc Cert.FfnIdeal.main_arg12))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11)) (m ((c.tc : Thread Cert.FfnRefIdeal.nD Cert.FfnRefIdeal.τ).loc Cert.FfnRefIdeal.main_arg12))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8)) (m ((c.tc : Thread Cert.LossIdeal.nD Cert.LossIdeal.τ).loc Cert.LossIdeal.main_arg9)) (m ((c.tc : Thread Cert.LossIdeal.nD Cert.LossIdeal.τ).loc Cert.LossIdeal.main_arg10)) (m ((c.tc : Thread Cert.LossIdeal.nD Cert.LossIdeal.τ).loc Cert.LossIdeal.main_arg11)) (m ((c.tc : Thread Cert.LossIdeal.nD Cert.LossIdeal.τ).loc Cert.LossIdeal.main_arg12)) (m ((c.tc : Thread Cert.LossIdeal.nD Cert.LossIdeal.τ).loc Cert.LossIdeal.main_arg13)) (m ((c.tc : Thread Cert.LossIdeal.nD Cert.LossIdeal.τ).loc Cert.LossIdeal.main_arg14))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12)) (m ((c.tc : Thread Cert.LossRefIdeal.nD Cert.LossRefIdeal.τ).loc Cert.LossRefIdeal.main_arg13)) (m ((c.tc : Thread Cert.LossRefIdeal.nD Cert.LossRefIdeal.τ).loc Cert.LossRefIdeal.main_arg14))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1))) = (fun _ => 1#1)

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Dffn (m : (ℓ : Loc Cert.Dffn.nD Cert.Dffn.τ Cert.Dffn.sig) → Buf (Elt Bits) ℓ) : Prop :=
  True

def Pre_DffnIdeal (m : (ℓ : Loc Cert.DffnIdeal.nD Cert.DffnIdeal.τ Cert.DffnIdeal.sig) → Buf (Elt Ideal) ℓ) : Prop :=
  True

def Pre_DffnRefIdeal (m : (ℓ : Loc Cert.DffnRefIdeal.nD Cert.DffnRefIdeal.τ Cert.DffnRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9)
      ∧ r.2.mem ((c.tc : Thread Cert.Loss.nD Cert.Loss.τ).loc Cert.Loss.main_arg10) = m ((c.tc : Thread Cert.Loss.nD Cert.Loss.τ).loc Cert.Loss.main_arg10)
      ∧ r.2.mem ((c.tc : Thread Cert.Loss.nD Cert.Loss.τ).loc Cert.Loss.main_arg11) = m ((c.tc : Thread Cert.Loss.nD Cert.Loss.τ).loc Cert.Loss.main_arg11)
      ∧ r.2.mem ((c.tc : Thread Cert.Loss.nD Cert.Loss.τ).loc Cert.Loss.main_arg12) = m ((c.tc : Thread Cert.Loss.nD Cert.Loss.τ).loc Cert.Loss.main_arg12)
      ∧ r.2.mem ((c.tc : Thread Cert.Loss.nD Cert.Loss.τ).loc Cert.Loss.main_arg13) = m ((c.tc : Thread Cert.Loss.nD Cert.Loss.τ).loc Cert.Loss.main_arg13)
      ∧ r.2.mem ((c.tc : Thread Cert.Loss.nD Cert.Loss.τ).loc Cert.Loss.main_arg14) = m ((c.tc : Thread Cert.Loss.nD Cert.Loss.τ).loc Cert.Loss.main_arg14))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
      ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
      ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
      ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
      ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12)
      ∧ r.2.mem ((c.tc : Thread Cert.LossRefIdeal.nD Cert.LossRefIdeal.τ).loc Cert.LossRefIdeal.main_arg13) = m ((c.tc : Thread Cert.LossRefIdeal.nD Cert.LossRefIdeal.τ).loc Cert.LossRefIdeal.main_arg13)
      ∧ r.2.mem ((c.tc : Thread Cert.LossRefIdeal.nD Cert.LossRefIdeal.τ).loc Cert.LossRefIdeal.main_arg14) = m ((c.tc : Thread Cert.LossRefIdeal.nD Cert.LossRefIdeal.τ).loc Cert.LossRefIdeal.main_arg14))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12)
      ∧ r.2.mem ((c.tc : Thread Cert.LossRefIdeal.nD Cert.LossRefIdeal.τ).loc Cert.LossRefIdeal.main_arg13) = m ((c.tc : Thread Cert.LossRefIdeal.nD Cert.LossRefIdeal.τ).loc Cert.LossRefIdeal.main_arg13)
      ∧ r.2.mem ((c.tc : Thread Cert.LossRefIdeal.nD Cert.LossRefIdeal.τ).loc Cert.LossRefIdeal.main_arg14) = m ((c.tc : Thread Cert.LossRefIdeal.nD Cert.LossRefIdeal.τ).loc Cert.LossRefIdeal.main_arg14))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4)
      ∧ r.2.mem ((c.tc : Thread Cert.Ln1.nD Cert.Ln1.τ).loc Cert.Ln1.main_arg5) = m ((c.tc : Thread Cert.Ln1.nD Cert.Ln1.τ).loc Cert.Ln1.main_arg5))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Dffn [hDffn : Cert.Dffn.Facts] : Prop :=
  ∀ (m : (ℓ : Loc Cert.Dffn.nD Cert.Dffn.τ Cert.Dffn.sig) → Buf (Elt Bits) ℓ) (g : Dev Cert.Dffn.nD → PrngReg), Pre_Dffn m →
    θ_run (Cert.Dffn.defs (F := Bits)) (onTc (τ := Cert.Dffn.τ) (Cert.Dffn.main (F := Bits))) ⟨m, fun _ => 0, g⟩ (fun r => (∀ c : Dev Cert.Dffn.nD,
      r.2.mem ((c.tc : Thread Cert.Dffn.nD Cert.Dffn.τ).loc Cert.Dffn.main_arg0) = m ((c.tc : Thread Cert.Dffn.nD Cert.Dffn.τ).loc Cert.Dffn.main_arg0)
      ∧ r.2.mem ((c.tc : Thread Cert.Dffn.nD Cert.Dffn.τ).loc Cert.Dffn.main_arg1) = m ((c.tc : Thread Cert.Dffn.nD Cert.Dffn.τ).loc Cert.Dffn.main_arg1)
      ∧ r.2.mem ((c.tc : Thread Cert.Dffn.nD Cert.Dffn.τ).loc Cert.Dffn.main_arg2) = m ((c.tc : Thread Cert.Dffn.nD Cert.Dffn.τ).loc Cert.Dffn.main_arg2)
      ∧ r.2.mem ((c.tc : Thread Cert.Dffn.nD Cert.Dffn.τ).loc Cert.Dffn.main_arg3) = m ((c.tc : Thread Cert.Dffn.nD Cert.Dffn.τ).loc Cert.Dffn.main_arg3)
      ∧ r.2.mem ((c.tc : Thread Cert.Dffn.nD Cert.Dffn.τ).loc Cert.Dffn.main_arg4) = m ((c.tc : Thread Cert.Dffn.nD Cert.Dffn.τ).loc Cert.Dffn.main_arg4))
      ∧ r.2.sem = fun _ => 0)

def quiescent_DffnIdeal [hDffnIdeal : Cert.DffnIdeal.Facts] : Prop :=
  ∀ (m : (ℓ : Loc Cert.DffnIdeal.nD Cert.DffnIdeal.τ Cert.DffnIdeal.sig) → Buf (Elt Ideal) ℓ) (g : Dev Cert.DffnIdeal.nD → PrngReg), Pre_DffnIdeal m →
    θ_run (Cert.DffnIdeal.defs (F := Ideal)) (onTc (τ := Cert.DffnIdeal.τ) (Cert.DffnIdeal.main (F := Ideal))) ⟨m, fun _ => 0, g⟩ (fun r => (∀ c : Dev Cert.DffnIdeal.nD,
      r.2.mem ((c.tc : Thread Cert.DffnIdeal.nD Cert.DffnIdeal.τ).loc Cert.DffnIdeal.main_arg0) = m ((c.tc : Thread Cert.DffnIdeal.nD Cert.DffnIdeal.τ).loc Cert.DffnIdeal.main_arg0)
      ∧ r.2.mem ((c.tc : Thread Cert.DffnIdeal.nD Cert.DffnIdeal.τ).loc Cert.DffnIdeal.main_arg1) = m ((c.tc : Thread Cert.DffnIdeal.nD Cert.DffnIdeal.τ).loc Cert.DffnIdeal.main_arg1)
      ∧ r.2.mem ((c.tc : Thread Cert.DffnIdeal.nD Cert.DffnIdeal.τ).loc Cert.DffnIdeal.main_arg2) = m ((c.tc : Thread Cert.DffnIdeal.nD Cert.DffnIdeal.τ).loc Cert.DffnIdeal.main_arg2)
      ∧ r.2.mem ((c.tc : Thread Cert.DffnIdeal.nD Cert.DffnIdeal.τ).loc Cert.DffnIdeal.main_arg3) = m ((c.tc : Thread Cert.DffnIdeal.nD Cert.DffnIdeal.τ).loc Cert.DffnIdeal.main_arg3)
      ∧ r.2.mem ((c.tc : Thread Cert.DffnIdeal.nD Cert.DffnIdeal.τ).loc Cert.DffnIdeal.main_arg4) = m ((c.tc : Thread Cert.DffnIdeal.nD Cert.DffnIdeal.τ).loc Cert.DffnIdeal.main_arg4))
      ∧ r.2.sem = fun _ => 0)

def quiescent_DffnRefIdeal [hDffnRefIdeal : Cert.DffnRefIdeal.Facts] : Prop :=
  ∀ (m : (ℓ : Loc Cert.DffnRefIdeal.nD Cert.DffnRefIdeal.τ Cert.DffnRefIdeal.sig) → Buf (Elt Ideal) ℓ) (g : Dev Cert.DffnRefIdeal.nD → PrngReg), Pre_DffnRefIdeal m →
    θ_run (Cert.DffnRefIdeal.defs (F := Ideal)) (onTc (τ := Cert.DffnRefIdeal.τ) (Cert.DffnRefIdeal.main (F := Ideal))) ⟨m, fun _ => 0, g⟩ (fun r => (∀ c : Dev Cert.DffnRefIdeal.nD,
      r.2.mem ((c.tc : Thread Cert.DffnRefIdeal.nD Cert.DffnRefIdeal.τ).loc Cert.DffnRefIdeal.main_arg0) = m ((c.tc : Thread Cert.DffnRefIdeal.nD Cert.DffnRefIdeal.τ).loc Cert.DffnRefIdeal.main_arg0)
      ∧ r.2.mem ((c.tc : Thread Cert.DffnRefIdeal.nD Cert.DffnRefIdeal.τ).loc Cert.DffnRefIdeal.main_arg1) = m ((c.tc : Thread Cert.DffnRefIdeal.nD Cert.DffnRefIdeal.τ).loc Cert.DffnRefIdeal.main_arg1)
      ∧ r.2.mem ((c.tc : Thread Cert.DffnRefIdeal.nD Cert.DffnRefIdeal.τ).loc Cert.DffnRefIdeal.main_arg2) = m ((c.tc : Thread Cert.DffnRefIdeal.nD Cert.DffnRefIdeal.τ).loc Cert.DffnRefIdeal.main_arg2)
      ∧ r.2.mem ((c.tc : Thread Cert.DffnRefIdeal.nD Cert.DffnRefIdeal.τ).loc Cert.DffnRefIdeal.main_arg3) = m ((c.tc : Thread Cert.DffnRefIdeal.nD Cert.DffnRefIdeal.τ).loc Cert.DffnRefIdeal.main_arg3)
      ∧ r.2.mem ((c.tc : Thread Cert.DffnRefIdeal.nD Cert.DffnRefIdeal.τ).loc Cert.DffnRefIdeal.main_arg4) = m ((c.tc : Thread Cert.DffnRefIdeal.nD Cert.DffnRefIdeal.τ).loc Cert.DffnRefIdeal.main_arg4))
      ∧ r.2.sem = fun _ => 0)

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v48_0)) (v1 : (c : Dev Cert.FfnIdeal.nD) → Buf (Elt Ideal) ((c.tc : Thread Cert.FfnIdeal.nD Cert.FfnIdeal.τ).loc Cert.FfnIdeal.main_v48_1)) (v2 : (c : Dev Cert.FfnIdeal.nD) → Buf (Elt Ideal) ((c.tc : Thread Cert.FfnIdeal.nD Cert.FfnIdeal.τ).loc Cert.FfnIdeal.main_v48_2)) (v3 : (c : Dev Cert.FfnIdeal.nD) → Buf (Elt Ideal) ((c.tc : Thread Cert.FfnIdeal.nD Cert.FfnIdeal.τ).loc Cert.FfnIdeal.main_v48_3)) (v4 : (c : Dev Cert.FfnIdeal.nD) → Buf (Elt Ideal) ((c.tc : Thread Cert.FfnIdeal.nD Cert.FfnIdeal.τ).loc Cert.FfnIdeal.main_v48_4)) (v5 : (c : Dev Cert.FfnIdeal.nD) → Buf (Elt Ideal) ((c.tc : Thread Cert.FfnIdeal.nD Cert.FfnIdeal.τ).loc Cert.FfnIdeal.main_v48_5)) (v6 : (c : Dev Cert.FfnIdeal.nD) → Buf (Elt Ideal) ((c.tc : Thread Cert.FfnIdeal.nD Cert.FfnIdeal.τ).loc Cert.FfnIdeal.main_v48_6)) (v7 : (c : Dev Cert.FfnIdeal.nD) → Buf (Elt Ideal) ((c.tc : Thread Cert.FfnIdeal.nD Cert.FfnIdeal.τ).loc Cert.FfnIdeal.main_v48_7)) (v8 : (c : Dev Cert.FfnIdeal.nD) → Buf (Elt Ideal) ((c.tc : Thread Cert.FfnIdeal.nD Cert.FfnIdeal.τ).loc Cert.FfnIdeal.main_v48_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v48_0) = v0 c
          ∧ r.2.mem ((c.tc : Thread Cert.FfnIdeal.nD Cert.FfnIdeal.τ).loc Cert.FfnIdeal.main_v48_1) = v1 c
          ∧ r.2.mem ((c.tc : Thread Cert.FfnIdeal.nD Cert.FfnIdeal.τ).loc Cert.FfnIdeal.main_v48_2) = v2 c
          ∧ r.2.mem ((c.tc : Thread Cert.FfnIdeal.nD Cert.FfnIdeal.τ).loc Cert.FfnIdeal.main_v48_3) = v3 c
          ∧ r.2.mem ((c.tc : Thread Cert.FfnIdeal.nD Cert.FfnIdeal.τ).loc Cert.FfnIdeal.main_v48_4) = v4 c
          ∧ r.2.mem ((c.tc : Thread Cert.FfnIdeal.nD Cert.FfnIdeal.τ).loc Cert.FfnIdeal.main_v48_5) = v5 c
          ∧ r.2.mem ((c.tc : Thread Cert.FfnIdeal.nD Cert.FfnIdeal.τ).loc Cert.FfnIdeal.main_v48_6) = v6 c
          ∧ r.2.mem ((c.tc : Thread Cert.FfnIdeal.nD Cert.FfnIdeal.τ).loc Cert.FfnIdeal.main_v48_7) = v7 c
          ∧ r.2.mem ((c.tc : Thread Cert.FfnIdeal.nD Cert.FfnIdeal.τ).loc Cert.FfnIdeal.main_v48_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v106) = v0 c
          ∧ r.2.mem ((c.tc : Thread Cert.FfnRefIdeal.nD Cert.FfnRefIdeal.τ).loc Cert.FfnRefIdeal.main_v107) = v1 c
          ∧ r.2.mem ((c.tc : Thread Cert.FfnRefIdeal.nD Cert.FfnRefIdeal.τ).loc Cert.FfnRefIdeal.main_v108) = v2 c
          ∧ r.2.mem ((c.tc : Thread Cert.FfnRefIdeal.nD Cert.FfnRefIdeal.τ).loc Cert.FfnRefIdeal.main_v109) = v3 c
          ∧ r.2.mem ((c.tc : Thread Cert.FfnRefIdeal.nD Cert.FfnRefIdeal.τ).loc Cert.FfnRefIdeal.main_v100) = v4 c
          ∧ r.2.mem ((c.tc : Thread Cert.FfnRefIdeal.nD Cert.FfnRefIdeal.τ).loc Cert.FfnRefIdeal.main_v110) = v5 c
          ∧ r.2.mem ((c.tc : Thread Cert.FfnRefIdeal.nD Cert.FfnRefIdeal.τ).loc Cert.FfnRefIdeal.main_v111) = v6 c
          ∧ r.2.mem ((c.tc : Thread Cert.FfnRefIdeal.nD Cert.FfnRefIdeal.τ).loc Cert.FfnRefIdeal.main_v74) = v7 c
          ∧ r.2.mem ((c.tc : Thread Cert.FfnRefIdeal.nD Cert.FfnRefIdeal.τ).loc Cert.FfnRefIdeal.main_v71) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v93_0)) (v1 : (c : Dev Cert.AttnIdeal.nD) → Buf (Elt Ideal) ((c.tc : Thread Cert.AttnIdeal.nD Cert.AttnIdeal.τ).loc Cert.AttnIdeal.main_v93_1)) (v2 : (c : Dev Cert.AttnIdeal.nD) → Buf (Elt Ideal) ((c.tc : Thread Cert.AttnIdeal.nD Cert.AttnIdeal.τ).loc Cert.AttnIdeal.main_v93_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v93_0) = v0 c
          ∧ r.2.mem ((c.tc : Thread Cert.AttnIdeal.nD Cert.AttnIdeal.τ).loc Cert.AttnIdeal.main_v93_1) = v1 c
          ∧ r.2.mem ((c.tc : Thread Cert.AttnIdeal.nD Cert.AttnIdeal.τ).loc Cert.AttnIdeal.main_v93_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v209) = v0 c
          ∧ r.2.mem ((c.tc : Thread Cert.AttnRefIdeal.nD Cert.AttnRefIdeal.τ).loc Cert.AttnRefIdeal.main_v210) = v1 c
          ∧ r.2.mem ((c.tc : Thread Cert.AttnRefIdeal.nD Cert.AttnRefIdeal.τ).loc Cert.AttnRefIdeal.main_v212) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)
      ∧ m' ((c.tc : Thread Cert.LossRefIdeal.nD Cert.LossRefIdeal.τ).loc Cert.LossRefIdeal.main_arg9) = m ((c.tc : Thread Cert.LossIdeal.nD Cert.LossIdeal.τ).loc Cert.LossIdeal.main_arg9)
      ∧ m' ((c.tc : Thread Cert.LossRefIdeal.nD Cert.LossRefIdeal.τ).loc Cert.LossRefIdeal.main_arg10) = m ((c.tc : Thread Cert.LossIdeal.nD Cert.LossIdeal.τ).loc Cert.LossIdeal.main_arg10)
      ∧ m' ((c.tc : Thread Cert.LossRefIdeal.nD Cert.LossRefIdeal.τ).loc Cert.LossRefIdeal.main_arg11) = m ((c.tc : Thread Cert.LossIdeal.nD Cert.LossIdeal.τ).loc Cert.LossIdeal.main_arg11)
      ∧ m' ((c.tc : Thread Cert.LossRefIdeal.nD Cert.LossRefIdeal.τ).loc Cert.LossRefIdeal.main_arg12) = m ((c.tc : Thread Cert.LossIdeal.nD Cert.LossIdeal.τ).loc Cert.LossIdeal.main_arg12)
      ∧ m' ((c.tc : Thread Cert.LossRefIdeal.nD Cert.LossRefIdeal.τ).loc Cert.LossRefIdeal.main_arg13) = m ((c.tc : Thread Cert.LossIdeal.nD Cert.LossIdeal.τ).loc Cert.LossIdeal.main_arg13)
      ∧ m' ((c.tc : Thread Cert.LossRefIdeal.nD Cert.LossRefIdeal.τ).loc Cert.LossRefIdeal.main_arg14) = m ((c.tc : Thread Cert.LossIdeal.nD Cert.LossIdeal.τ).loc Cert.LossIdeal.main_arg14)) →
    ∃ (v0 : (c : Dev Cert.LossIdeal.nD) → Buf (Elt Ideal) ((c.tc : Thread Cert.LossIdeal.nD Cert.LossIdeal.τ).loc Cert.LossIdeal.main_v37_0)) (v1 : (c : Dev Cert.LossIdeal.nD) → Buf (Elt Ideal) ((c.tc : Thread Cert.LossIdeal.nD Cert.LossIdeal.τ).loc Cert.LossIdeal.main_v37_1)) (v2 : (c : Dev Cert.LossIdeal.nD) → Buf (Elt Ideal) ((c.tc : Thread Cert.LossIdeal.nD Cert.LossIdeal.τ).loc Cert.LossIdeal.main_v37_2)) (v3 : (c : Dev Cert.LossIdeal.nD) → Buf (Elt Ideal) ((c.tc : Thread Cert.LossIdeal.nD Cert.LossIdeal.τ).loc Cert.LossIdeal.main_v37_3)) (v4 : (c : Dev Cert.LossIdeal.nD) → Buf (Elt Ideal) ((c.tc : Thread Cert.LossIdeal.nD Cert.LossIdeal.τ).loc Cert.LossIdeal.main_v37_4)) (v5 : (c : Dev Cert.LossIdeal.nD) → Buf (Elt Ideal) ((c.tc : Thread Cert.LossIdeal.nD Cert.LossIdeal.τ).loc Cert.LossIdeal.main_v37_5)) (v6 : (c : Dev Cert.LossIdeal.nD) → Buf (Elt Ideal) ((c.tc : Thread Cert.LossIdeal.nD Cert.LossIdeal.τ).loc Cert.LossIdeal.main_v37_6)) (v7 : (c : Dev Cert.LossIdeal.nD) → Buf (Elt Ideal) ((c.tc : Thread Cert.LossIdeal.nD Cert.LossIdeal.τ).loc Cert.LossIdeal.main_v37_7)) (v8 : (c : Dev Cert.LossIdeal.nD) → Buf (Elt Ideal) ((c.tc : Thread Cert.LossIdeal.nD Cert.LossIdeal.τ).loc Cert.LossIdeal.main_v37_8)) (v9 : (c : Dev Cert.LossIdeal.nD) → Buf (Elt Ideal) ((c.tc : Thread Cert.LossIdeal.nD Cert.LossIdeal.τ).loc Cert.LossIdeal.main_v37_9)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v37_0) = v0 c
          ∧ r.2.mem ((c.tc : Thread Cert.LossIdeal.nD Cert.LossIdeal.τ).loc Cert.LossIdeal.main_v37_1) = v1 c
          ∧ r.2.mem ((c.tc : Thread Cert.LossIdeal.nD Cert.LossIdeal.τ).loc Cert.LossIdeal.main_v37_2) = v2 c
          ∧ r.2.mem ((c.tc : Thread Cert.LossIdeal.nD Cert.LossIdeal.τ).loc Cert.LossIdeal.main_v37_3) = v3 c
          ∧ r.2.mem ((c.tc : Thread Cert.LossIdeal.nD Cert.LossIdeal.τ).loc Cert.LossIdeal.main_v37_4) = v4 c
          ∧ r.2.mem ((c.tc : Thread Cert.LossIdeal.nD Cert.LossIdeal.τ).loc Cert.LossIdeal.main_v37_5) = v5 c
          ∧ r.2.mem ((c.tc : Thread Cert.LossIdeal.nD Cert.LossIdeal.τ).loc Cert.LossIdeal.main_v37_6) = v6 c
          ∧ r.2.mem ((c.tc : Thread Cert.LossIdeal.nD Cert.LossIdeal.τ).loc Cert.LossIdeal.main_v37_7) = v7 c
          ∧ r.2.mem ((c.tc : Thread Cert.LossIdeal.nD Cert.LossIdeal.τ).loc Cert.LossIdeal.main_v37_8) = v8 c
          ∧ r.2.mem ((c.tc : Thread Cert.LossIdeal.nD Cert.LossIdeal.τ).loc Cert.LossIdeal.main_v37_9) = v9 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
          ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
          ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
          ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
          ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
          ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v117) = v0 c
          ∧ r.2.mem ((c.tc : Thread Cert.LossRefIdeal.nD Cert.LossRefIdeal.τ).loc Cert.LossRefIdeal.main_v120) = v1 c
          ∧ r.2.mem ((c.tc : Thread Cert.LossRefIdeal.nD Cert.LossRefIdeal.τ).loc Cert.LossRefIdeal.main_v121) = v2 c
          ∧ r.2.mem ((c.tc : Thread Cert.LossRefIdeal.nD Cert.LossRefIdeal.τ).loc Cert.LossRefIdeal.main_v122) = v3 c
          ∧ r.2.mem ((c.tc : Thread Cert.LossRefIdeal.nD Cert.LossRefIdeal.τ).loc Cert.LossRefIdeal.main_v123) = v4 c
          ∧ r.2.mem ((c.tc : Thread Cert.LossRefIdeal.nD Cert.LossRefIdeal.τ).loc Cert.LossRefIdeal.main_v124) = v5 c
          ∧ r.2.mem ((c.tc : Thread Cert.LossRefIdeal.nD Cert.LossRefIdeal.τ).loc Cert.LossRefIdeal.main_v125) = v6 c
          ∧ r.2.mem ((c.tc : Thread Cert.LossRefIdeal.nD Cert.LossRefIdeal.τ).loc Cert.LossRefIdeal.main_v119) = v7 c
          ∧ r.2.mem ((c.tc : Thread Cert.LossRefIdeal.nD Cert.LossRefIdeal.τ).loc Cert.LossRefIdeal.main_v91) = v8 c
          ∧ r.2.mem ((c.tc : Thread Cert.LossRefIdeal.nD Cert.LossRefIdeal.τ).loc Cert.LossRefIdeal.main_v88) = v9 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10)
          ∧ r.2.mem ((c.tc : Thread Cert.LossRefIdeal.nD Cert.LossRefIdeal.τ).loc Cert.LossRefIdeal.main_arg11) = m' ((c.tc : Thread Cert.LossRefIdeal.nD Cert.LossRefIdeal.τ).loc Cert.LossRefIdeal.main_arg11)
          ∧ r.2.mem ((c.tc : Thread Cert.LossRefIdeal.nD Cert.LossRefIdeal.τ).loc Cert.LossRefIdeal.main_arg12) = m' ((c.tc : Thread Cert.LossRefIdeal.nD Cert.LossRefIdeal.τ).loc Cert.LossRefIdeal.main_arg12)
          ∧ r.2.mem ((c.tc : Thread Cert.LossRefIdeal.nD Cert.LossRefIdeal.τ).loc Cert.LossRefIdeal.main_arg13) = m' ((c.tc : Thread Cert.LossRefIdeal.nD Cert.LossRefIdeal.τ).loc Cert.LossRefIdeal.main_arg13)
          ∧ r.2.mem ((c.tc : Thread Cert.LossRefIdeal.nD Cert.LossRefIdeal.τ).loc Cert.LossRefIdeal.main_arg14) = m' ((c.tc : Thread Cert.LossRefIdeal.nD Cert.LossRefIdeal.τ).loc Cert.LossRefIdeal.main_arg14))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v6_0)) (v1 : (c : Dev Cert.FwdIdeal.nD) → Buf (Elt Ideal) ((c.tc : Thread Cert.FwdIdeal.nD Cert.FwdIdeal.τ).loc Cert.FwdIdeal.main_v6_1)) (v2 : (c : Dev Cert.FwdIdeal.nD) → Buf (Elt Ideal) ((c.tc : Thread Cert.FwdIdeal.nD Cert.FwdIdeal.τ).loc Cert.FwdIdeal.main_v6_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v6_0) = v0 c
          ∧ r.2.mem ((c.tc : Thread Cert.FwdIdeal.nD Cert.FwdIdeal.τ).loc Cert.FwdIdeal.main_v6_1) = v1 c
          ∧ r.2.mem ((c.tc : Thread Cert.FwdIdeal.nD Cert.FwdIdeal.τ).loc Cert.FwdIdeal.main_v6_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v102) = v0 c
          ∧ r.2.mem ((c.tc : Thread Cert.FwdRefIdeal.nD Cert.FwdRefIdeal.τ).loc Cert.FwdRefIdeal.main_v103) = v1 c
          ∧ r.2.mem ((c.tc : Thread Cert.FwdRefIdeal.nD Cert.FwdRefIdeal.τ).loc Cert.FwdRefIdeal.main_v101) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1))

def preserves_Ln1_Ln1Ideal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)
      ∧ m' ((c.tc : Thread Cert.Ln1RefIdeal.nD Cert.Ln1RefIdeal.τ).loc Cert.Ln1RefIdeal.main_arg5) = m ((c.tc : Thread Cert.Ln1Ideal.nD Cert.Ln1Ideal.τ).loc Cert.Ln1Ideal.main_arg5)) →
    ∃ (v0 : (c : Dev Cert.Ln1Ideal.nD) → Buf (Elt Ideal) ((c.tc : Thread Cert.Ln1Ideal.nD Cert.Ln1Ideal.τ).loc Cert.Ln1Ideal.main_v3_0)) (v1 : (c : Dev Cert.Ln1Ideal.nD) → Buf (Elt Ideal) ((c.tc : Thread Cert.Ln1Ideal.nD Cert.Ln1Ideal.τ).loc Cert.Ln1Ideal.main_v3_1)) (v2 : (c : Dev Cert.Ln1Ideal.nD) → Buf (Elt Ideal) ((c.tc : Thread Cert.Ln1Ideal.nD Cert.Ln1Ideal.τ).loc Cert.Ln1Ideal.main_v3_2)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v3_0) = v0 c
          ∧ r.2.mem ((c.tc : Thread Cert.Ln1Ideal.nD Cert.Ln1Ideal.τ).loc Cert.Ln1Ideal.main_v3_1) = v1 c
          ∧ r.2.mem ((c.tc : Thread Cert.Ln1Ideal.nD Cert.Ln1Ideal.τ).loc Cert.Ln1Ideal.main_v3_2) = v2 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
          ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v22) = v0 c
          ∧ r.2.mem ((c.tc : Thread Cert.Ln1RefIdeal.nD Cert.Ln1RefIdeal.τ).loc Cert.Ln1RefIdeal.main_v18) = v1 c
          ∧ r.2.mem ((c.tc : Thread Cert.Ln1RefIdeal.nD Cert.Ln1RefIdeal.τ).loc Cert.Ln1RefIdeal.main_v45) = v2 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4)
          ∧ r.2.mem ((c.tc : Thread Cert.Ln1RefIdeal.nD Cert.Ln1RefIdeal.τ).loc Cert.Ln1RefIdeal.main_arg5) = m' ((c.tc : Thread Cert.Ln1RefIdeal.nD Cert.Ln1RefIdeal.τ).loc Cert.Ln1RefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)) →
    ∃ (v0 : (c : Dev Cert.DxIdeal.nD) → Buf (Elt Ideal) ((c.tc : Thread Cert.DxIdeal.nD Cert.DxIdeal.τ).loc Cert.DxIdeal.main_v8)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v8) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v14) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v1) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Dffn_DffnIdeal : Prop :=
  True

def algebraic_DffnIdeal_DffnRefIdeal [hDffnIdeal : Cert.DffnIdeal.Facts] [hDffnRefIdeal : Cert.DffnRefIdeal.Facts] : Prop :=
  ∀ (m : (ℓ : Loc Cert.DffnIdeal.nD Cert.DffnIdeal.τ Cert.DffnIdeal.sig) → Buf (Elt Ideal) ℓ) (g : Dev Cert.DffnIdeal.nD → PrngReg)
    (m' : (ℓ : Loc Cert.DffnRefIdeal.nD Cert.DffnRefIdeal.τ Cert.DffnRefIdeal.sig) → Buf (Elt Ideal) ℓ) (g' : Dev Cert.DffnRefIdeal.nD → PrngReg), Pre_DffnIdeal m →
    (∀ c : Dev Cert.DffnIdeal.nD,
      m' ((c.tc : Thread Cert.DffnRefIdeal.nD Cert.DffnRefIdeal.τ).loc Cert.DffnRefIdeal.main_arg0) = m ((c.tc : Thread Cert.DffnIdeal.nD Cert.DffnIdeal.τ).loc Cert.DffnIdeal.main_arg0)
      ∧ m' ((c.tc : Thread Cert.DffnRefIdeal.nD Cert.DffnRefIdeal.τ).loc Cert.DffnRefIdeal.main_arg1) = m ((c.tc : Thread Cert.DffnIdeal.nD Cert.DffnIdeal.τ).loc Cert.DffnIdeal.main_arg1)
      ∧ m' ((c.tc : Thread Cert.DffnRefIdeal.nD Cert.DffnRefIdeal.τ).loc Cert.DffnRefIdeal.main_arg2) = m ((c.tc : Thread Cert.DffnIdeal.nD Cert.DffnIdeal.τ).loc Cert.DffnIdeal.main_arg2)
      ∧ m' ((c.tc : Thread Cert.DffnRefIdeal.nD Cert.DffnRefIdeal.τ).loc Cert.DffnRefIdeal.main_arg3) = m ((c.tc : Thread Cert.DffnIdeal.nD Cert.DffnIdeal.τ).loc Cert.DffnIdeal.main_arg3)
      ∧ m' ((c.tc : Thread Cert.DffnRefIdeal.nD Cert.DffnRefIdeal.τ).loc Cert.DffnRefIdeal.main_arg4) = m ((c.tc : Thread Cert.DffnIdeal.nD Cert.DffnIdeal.τ).loc Cert.DffnIdeal.main_arg4)) →
    ∃ (v0 : (c : Dev Cert.DffnIdeal.nD) → Buf (Elt Ideal) ((c.tc : Thread Cert.DffnIdeal.nD Cert.DffnIdeal.τ).loc Cert.DffnIdeal.main_v5_0)) (v1 : (c : Dev Cert.DffnIdeal.nD) → Buf (Elt Ideal) ((c.tc : Thread Cert.DffnIdeal.nD Cert.DffnIdeal.τ).loc Cert.DffnIdeal.main_v5_1)) (v2 : (c : Dev Cert.DffnIdeal.nD) → Buf (Elt Ideal) ((c.tc : Thread Cert.DffnIdeal.nD Cert.DffnIdeal.τ).loc Cert.DffnIdeal.main_v5_2)),
      θ_run (Cert.DffnIdeal.defs (F := Ideal)) (onTc (τ := Cert.DffnIdeal.τ) (Cert.DffnIdeal.main (F := Ideal))) ⟨m, fun _ => 0, g⟩ (fun r => ∀ c : Dev Cert.DffnIdeal.nD,
          r.2.mem ((c.tc : Thread Cert.DffnIdeal.nD Cert.DffnIdeal.τ).loc Cert.DffnIdeal.main_v5_0) = v0 c
          ∧ r.2.mem ((c.tc : Thread Cert.DffnIdeal.nD Cert.DffnIdeal.τ).loc Cert.DffnIdeal.main_v5_1) = v1 c
          ∧ r.2.mem ((c.tc : Thread Cert.DffnIdeal.nD Cert.DffnIdeal.τ).loc Cert.DffnIdeal.main_v5_2) = v2 c
          ∧ r.2.mem ((c.tc : Thread Cert.DffnIdeal.nD Cert.DffnIdeal.τ).loc Cert.DffnIdeal.main_arg0) = m ((c.tc : Thread Cert.DffnIdeal.nD Cert.DffnIdeal.τ).loc Cert.DffnIdeal.main_arg0)
          ∧ r.2.mem ((c.tc : Thread Cert.DffnIdeal.nD Cert.DffnIdeal.τ).loc Cert.DffnIdeal.main_arg1) = m ((c.tc : Thread Cert.DffnIdeal.nD Cert.DffnIdeal.τ).loc Cert.DffnIdeal.main_arg1)
          ∧ r.2.mem ((c.tc : Thread Cert.DffnIdeal.nD Cert.DffnIdeal.τ).loc Cert.DffnIdeal.main_arg2) = m ((c.tc : Thread Cert.DffnIdeal.nD Cert.DffnIdeal.τ).loc Cert.DffnIdeal.main_arg2)
          ∧ r.2.mem ((c.tc : Thread Cert.DffnIdeal.nD Cert.DffnIdeal.τ).loc Cert.DffnIdeal.main_arg3) = m ((c.tc : Thread Cert.DffnIdeal.nD Cert.DffnIdeal.τ).loc Cert.DffnIdeal.main_arg3)
          ∧ r.2.mem ((c.tc : Thread Cert.DffnIdeal.nD Cert.DffnIdeal.τ).loc Cert.DffnIdeal.main_arg4) = m ((c.tc : Thread Cert.DffnIdeal.nD Cert.DffnIdeal.τ).loc Cert.DffnIdeal.main_arg4))
      ∧ θ_run (Cert.DffnRefIdeal.defs (F := Ideal)) (onTc (τ := Cert.DffnRefIdeal.τ) (Cert.DffnRefIdeal.main (F := Ideal))) ⟨m', fun _ => 0, g'⟩ (fun r => ∀ c : Dev Cert.DffnRefIdeal.nD,
          r.2.mem ((c.tc : Thread Cert.DffnRefIdeal.nD Cert.DffnRefIdeal.τ).loc Cert.DffnRefIdeal.main_v11) = v0 c
          ∧ r.2.mem ((c.tc : Thread Cert.DffnRefIdeal.nD Cert.DffnRefIdeal.τ).loc Cert.DffnRefIdeal.main_v12) = v1 c
          ∧ r.2.mem ((c.tc : Thread Cert.DffnRefIdeal.nD Cert.DffnRefIdeal.τ).loc Cert.DffnRefIdeal.main_v6) = v2 c
          ∧ r.2.mem ((c.tc : Thread Cert.DffnRefIdeal.nD Cert.DffnRefIdeal.τ).loc Cert.DffnRefIdeal.main_arg0) = m' ((c.tc : Thread Cert.DffnRefIdeal.nD Cert.DffnRefIdeal.τ).loc Cert.DffnRefIdeal.main_arg0)
          ∧ r.2.mem ((c.tc : Thread Cert.DffnRefIdeal.nD Cert.DffnRefIdeal.τ).loc Cert.DffnRefIdeal.main_arg1) = m' ((c.tc : Thread Cert.DffnRefIdeal.nD Cert.DffnRefIdeal.τ).loc Cert.DffnRefIdeal.main_arg1)
          ∧ r.2.mem ((c.tc : Thread Cert.DffnRefIdeal.nD Cert.DffnRefIdeal.τ).loc Cert.DffnRefIdeal.main_arg2) = m' ((c.tc : Thread Cert.DffnRefIdeal.nD Cert.DffnRefIdeal.τ).loc Cert.DffnRefIdeal.main_arg2)
          ∧ r.2.mem ((c.tc : Thread Cert.DffnRefIdeal.nD Cert.DffnRefIdeal.τ).loc Cert.DffnRefIdeal.main_arg3) = m' ((c.tc : Thread Cert.DffnRefIdeal.nD Cert.DffnRefIdeal.τ).loc Cert.DffnRefIdeal.main_arg3)
          ∧ r.2.mem ((c.tc : Thread Cert.DffnRefIdeal.nD Cert.DffnRefIdeal.τ).loc Cert.DffnRefIdeal.main_arg4) = m' ((c.tc : Thread Cert.DffnRefIdeal.nD Cert.DffnRefIdeal.τ).loc Cert.DffnRefIdeal.main_arg4))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hLoss : Cert.Loss.Facts) (hLossIdeal : Cert.LossIdeal.Facts) (hLossRefIdeal : Cert.LossRefIdeal.Facts) (hFwd : Cert.Fwd.Facts) (hFwdIdeal : Cert.FwdIdeal.Facts) (hFwdRefIdeal : Cert.FwdRefIdeal.Facts) (hLn1 : Cert.Ln1.Facts) (hLn1Ideal : Cert.Ln1Ideal.Facts) (hLn1RefIdeal : Cert.Ln1RefIdeal.Facts) (hDx : Cert.Dx.Facts) (hDxIdeal : Cert.DxIdeal.Facts) (hDxRefIdeal : Cert.DxRefIdeal.Facts) (hInproj : Cert.Inproj.Facts) (hInprojIdeal : Cert.InprojIdeal.Facts) (hInprojRefIdeal : Cert.InprojRefIdeal.Facts) (hDffn : Cert.Dffn.Facts) (hDffnIdeal : Cert.DffnIdeal.Facts) (hDffnRefIdeal : Cert.DffnRefIdeal.Facts) (hPre_finite_ffn : Cert.Pre_finite_ffn.Facts) (hPre_finite_attn : Cert.Pre_finite_attn.Facts) (hPre_finite_loss : Cert.Pre_finite_loss.Facts) (hPre_finite_fwd : Cert.Pre_finite_fwd.Facts),
    quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Ln1 (hLn1 := hLn1)
    ∧ quiescent_Ln1Ideal (hLn1Ideal := hLn1Ideal)
    ∧ quiescent_Ln1RefIdeal (hLn1RefIdeal := hLn1RefIdeal)
    ∧ quiescent_Dx (hDx := hDx)
    ∧ quiescent_DxIdeal (hDxIdeal := hDxIdeal)
    ∧ quiescent_DxRefIdeal (hDxRefIdeal := hDxRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Dffn (hDffn := hDffn)
    ∧ quiescent_DffnIdeal (hDffnIdeal := hDffnIdeal)
    ∧ quiescent_DffnRefIdeal (hDffnRefIdeal := hDffnRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Ln1_Ln1Ideal
    ∧ algebraic_Ln1Ideal_Ln1RefIdeal (hLn1Ideal := hLn1Ideal) (hLn1RefIdeal := hLn1RefIdeal)
    ∧ preserves_Dx_DxIdeal
    ∧ algebraic_DxIdeal_DxRefIdeal (hDxIdeal := hDxIdeal) (hDxRefIdeal := hDxRefIdeal)
    ∧ preserves_Inproj_InprojIdeal
    ∧ algebraic_InprojIdeal_InprojRefIdeal (hInprojIdeal := hInprojIdeal) (hInprojRefIdeal := hInprojRefIdeal)
    ∧ preserves_Dffn_DffnIdeal
    ∧ algebraic_DffnIdeal_DffnRefIdeal (hDffnIdeal := hDffnIdeal) (hDffnRefIdeal := hDffnRefIdeal)
-- ==== Pre_finite_attn.lean ====
abbrev S2x2048x2816 : Shape := ⟨3, ![2, 2048, 2816]⟩
abbrev S1x8 : Shape := ⟨2, ![1, 8]⟩
abbrev S2x2048x512 : Shape := ⟨3, ![2, 2048, 512]⟩
abbrev S_ : Shape := ⟨0, ![]⟩

class Facts : Prop where
  bitsLt_bf16_f32 : FTy.bits .bf16 < FTy.bits .f32
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn {F : FTy → Type} [FloatOps F] (main_arg0 : FVec F S2x2048x2816 .bf16) (main_arg1 : FVec F S1x8 .f32) (main_arg2 : FVec F S2x2048x512 .bf16) : IVec S_ 1 :=
  let main_v0 : FVec F S2x2048x2816 .f32 := (extf .f32 · bitsLt_bf16_f32) main_arg0
  let main_v1 : FVec F S2x2048x2816 .f32 := Host.absf main_v0
  let main_cst : FVec F S_ .f32 := constant S_ .f32 0x7F800000#32
  let main_v2 : FVec F S2x2048x2816 .f32 := broadcastInDim S2x2048x2816 ![] bcast_S_S2x2048x2816 main_cst
  let main_v3 : IVec S2x2048x2816 1 := cmpf .olt main_v1 main_v2
  let main_c : IVec S_ 1 := constantI S_ 1 1#1
  let main_v4 : IVec S_ 1 := (fun x v => Host.reduce IntOp.andi x v reducesTo_S2x2048x2816_S_d0_1_2 h_S_) main_v3 main_c
  let main_v5 : FVec F S1x8 .f32 := Host.absf main_arg1
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_c_1 : IVec S_ 1 := constantI S_ 1 1#1
  let main_v8 : IVec S_ 1 := (fun x v => Host.reduce IntOp.andi x v reducesTo_S1x8_S_d0_1 h_S_) main_v7 main_c_1
  let main_v9 : IVec S_ 1 := andi main_v4 main_v8
  let main_v10 : FVec F S2x2048x512 .f32 := (extf .f32 · bitsLt_bf16_f32) main_arg2
  let main_v11 : FVec F S2x2048x512 .f32 := Host.absf main_v10
  let main_cst_2 : FVec F S_ .f32 := constant S_ .f32 0x7F800000#32
  let main_v12 : FVec F S2x2048x512 .f32 := broadcastInDim S2x2048x512 ![] bcast_S_S2x2048x512 main_cst_2
  let main_v13 : IVec S2x2048x512 1 := cmpf .olt main_v11 main_v12
  let main_c_3 : IVec S_ 1 := constantI S_ 1 1#1
  let main_v14 : IVec S_ 1 := (fun x v => Host.reduce IntOp.andi x v reducesTo_S2x2048x512_S_d0_1_2 h_S_) main_v13 main_c_3
  let main_v15 : IVec S_ 1 := andi main_v9 main_v14
  main_v15
-- ==== Pre_finite_ffn.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part3 {F : FTy → Type} [FloatOps F] (main_arg11 : FVec F S1024x1024 .f32) (main_arg12 : FVec F S4096x1024 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S4096x1024 .f32 := Host.absf main_arg12
  let main_cst_22 : FVec F S_ .f32 := constant S_ .f32 0x7F800000#32
  let main_v60 : FVec F S4096x1024 .f32 := broadcastInDim S4096x1024 ![] bcast_S_S4096x1024 main_cst_22
  let main_v61 : IVec S4096x1024 1 := cmpf .olt main_v59 main_v60
  let main_c_23 : IVec S_ 1 := constantI S_ 1 1#1
  let main_v62 : IVec S_ 1 := (fun x v => Host.reduce IntOp.andi x v reducesTo_S4096x1024_S_d0_1 h_S_) main_v61 main_c_23
  let main_v63 : IVec S_ 1 := andi main_v58 main_v62
  main_v63

def fn_part2 {F : FTy → Type} [FloatOps F] (main_arg7 : FVec F S1024x2816 .f32) (main_arg8 : FVec F S1024x2816 .f32) (main_arg9 : FVec F S2816x1024 .f32) (main_arg10 : FVec F S256x1024 .f32) (main_arg11 : FVec F S1024x1024 .f32) (main_arg12 : FVec F S4096x1024 .f32) (main_v33 : IVec S_ 1) : IVec S_ 1 :=
  let main_v34 : FVec F S1024x2816 .f32 := Host.absf main_arg7
  let main_cst_12 : FVec F S_ .f32 := constant S_ .f32 0x7F800000#32
  let main_v35 : FVec F S1024x2816 .f32 := broadcastInDim S1024x2816 ![] bcast_S_S1024x2816 main_cst_12
  let main_v36 : IVec S1024x2816 1 := cmpf .olt main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S1024x2816 .f32 := Host.absf main_arg8
  let main_cst_14 : FVec F S_ .f32 := constant S_ .f32 0x7F800000#32
  let main_v40 : FVec F S1024x2816 .f32 := broadcastInDim S1024x2816 ![] bcast_S_S1024x2816 main_cst_14
  let main_v41 : IVec S1024x2816 1 := cmpf .olt main_v39 main_v40
  let main_c_15 : IVec S_ 1 := constantI S_ 1 1#1
  let main_v42 : IVec S_ 1 := (fun x v => Host.reduce IntOp.andi x v reducesTo_S1024x2816_S_d0_1 h_S_) main_v41 main_c_15
  let main_v43 : IVec S_ 1 := andi main_v38 main_v42
  let main_v44 : FVec F S2816x1024 .f32 := Host.absf main_arg9
  let main_cst_16 : FVec F S_ .f32 := constant S_ .f32 0x7F800000#32
  let main_v45 : FVec F S2816x1024 .f32 := broadcastInDim S2816x1024 ![] bcast_S_S2816x1024 main_cst_16
  let main_v46 : IVec S2816x1024 1 := cmpf .olt main_v44 main_v45
  let main_c_17 : IVec S_ 1 := constantI S_ 1 1#1
  let main_v47 : IVec S_ 1 := (fun x v => Host.reduce IntOp.andi x v reducesTo_S2816x1024_S_d0_1 h_S_) main_v46 main_c_17
  let main_v48 : IVec S_ 1 := andi main_v43 main_v47
  let main_v49 : FVec F S256x1024 .f32 := Host.absf main_arg10
  let main_cst_18 : FVec F S_ .f32 := constant S_ .f32 0x7F800000#32
  let main_v50 : FVec F S256x1024 .f32 := broadcastInDim S256x1024 ![] bcast_S_S256x1024 main_cst_18
  fn_part3 (F := F) main_arg11 main_arg12 main_v48 main_v49 main_v50

def fn_part1 {F : FTy → Type} [FloatOps F] (main_arg4 : FVec F S1024x1024 .f32) (main_arg5 : FVec F S1x1024 .f32) (main_arg6 : FVec F S1x1024 .f32) (main_arg7 : FVec F S1024x2816 .f32) (main_arg8 : FVec F S1024x2816 .f32) (main_arg9 : FVec F S2816x1024 .f32) (main_arg10 : FVec F S256x1024 .f32) (main_arg11 : FVec F S1024x1024 .f32) (main_arg12 : FVec F S4096x1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x1024 .f32) (main_arg1 : FVec F S4096x512 .f32) (main_arg2 : FVec F S4096x512 .f32) (main_arg3 : FVec F S4096x256 .f32) (main_arg4 : FVec F S1024x1024 .f32) (main_arg5 : FVec F S1x1024 .f32) (main_arg6 : FVec F S1x1024 .f32) (main_arg7 : FVec F S1024x2816 .f32) (main_arg8 : FVec F S1024x2816 .f32) (main_arg9 : FVec F S2816x1024 .f32) (main_arg10 : FVec F S256x1024 .f32) (main_arg11 : FVec F S1024x1024 .f32) (main_arg12 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_v13 main_v16
-- ==== Pre_finite_fwd.lean ====
abbrev S2x2048x2816 : Shape := ⟨3, ![2, 2048, 2816]⟩
abbrev S8 : Shape := ⟨1, ![8]⟩
abbrev S_ : Shape := ⟨0, ![]⟩

class Facts : Prop where
  bitsLt_bf16_f32 : FTy.bits .bf16 < FTy.bits .f32
  bcast_S_S2x2048x2816 : S_.BroadcastsInDim S2x2048x2816 (![] : Fin 0 → Fin S2x2048x2816.rank)
  reducesTo_S2x2048x2816_S_d0_1_2 : S2x2048x2816.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x2048x2816 .bf16) (main_arg1 : FVec F S8 .f32) : IVec S_ 1 :=
  let main_v0 : FVec F S2x2048x2816 .f32 := (extf .f32 · bitsLt_bf16_f32) main_arg0
  let main_v1 : FVec F S2x2048x2816 .f32 := Host.absf main_v0
  let main_cst : FVec F S_ .f32 := constant S_ .f32 0x7F800000#32
  let main_v2 : FVec F S2x2048x2816 .f32 := broadcastInDim S2x2048x2816 ![] bcast_S_S2x2048x2816 main_cst
  let main_v3 : IVec S2x2048x2816 1 := cmpf .olt main_v1 main_v2
  let main_c : IVec S_ 1 := constantI S_ 1 1#1
  let main_v4 : IVec S_ 1 := (fun x v => Host.reduce IntOp.andi x v reducesTo_S2x2048x2816_S_d0_1_2 h_S_) main_v3 main_c
  let main_v5 : FVec F S8 .f32 := Host.absf main_arg1
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  main_v9
-- ==== Pre_finite_loss.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part4 {F : FTy → Type} [FloatOps F] (main_arg14 : FVec F S1x1024 .f32) (main_v63 : IVec S_ 1) (main_v67 : IVec S_ 1) : IVec S_ 1 :=
  let main_v68 : IVec S_ 1 := andi main_v63 main_v67
  let main_v69 : FVec F S1x1024 .f32 := Host.absf main_arg14
  let main_cst_26 : FVec F S_ .f32 := constant S_ .f32 0x7F800000#32
  let main_v70 : FVec F S1x1024 .f32 := broadcastInDim S1x1024 ![] bcast_S_S1x1024 main_cst_26
  let main_v71 : IVec S1x1024 1 := cmpf .olt main_v69 main_v70
  let main_c_27 : IVec S_ 1 := constantI S_ 1 1#1
  let main_v72 : IVec S_ 1 := (fun x v => Host.reduce IntOp.andi x v reducesTo_S1x1024_S_d0_1 h_S_) main_v71 main_c_27
  let main_v73 : IVec S_ 1 := andi main_v68 main_v72
  main_v73

def fn_part3 {F : FTy → Type} [FloatOps F] (main_arg11 : FVec F S256x1024 .f32) (main_arg12 : FVec F S1024x1024 .f32) (main_arg13 : FVec F S1x1024 .f32) (main_arg14 : FVec F S1x1024 .f32) (main_v48 : IVec S_ 1) (main_v49 : FVec F S2816x1024 .f32) (main_v50 : FVec F S2816x1024 .f32) : IVec S_ 1 :=
  let main_v51 : IVec S2816x1024 1 := cmpf .olt main_v49 main_v50
  let main_c_19 : IVec S_ 1 := constantI S_ 1 1#1
  let main_v52 : IVec S_ 1 := (fun x v => Host.reduce IntOp.andi x v reducesTo_S2816x1024_S_d0_1 h_S_) main_v51 main_c_19
  let main_v53 : IVec S_ 1 := andi main_v48 main_v52
  let main_v54 : FVec F S256x1024 .f32 := Host.absf main_arg11
  let main_cst_20 : FVec F S_ .f32 := constant S_ .f32 0x7F800000#32
  let main_v55 : FVec F S256x1024 .f32 := broadcastInDim S256x1024 ![] bcast_S_S256x1024 main_cst_20
  let main_v56 : IVec S256x1024 1 := cmpf .olt main_v54 main_v55
  let main_c_21 : IVec S_ 1 := constantI S_ 1 1#1
  let main_v57 : IVec S_ 1 := (fun x v => Host.reduce IntOp.andi x v reducesTo_S256x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1x1024 .f32 := Host.absf main_arg13
  let main_cst_24 : FVec F S_ .f32 := constant S_ .f32 0x7F800000#32
  let main_v65 : FVec F S1x1024 .f32 := broadcastInDim S1x1024 ![] bcast_S_S1x1024 main_cst_24
  let main_v66 : IVec S1x1024 1 := cmpf .olt main_v64 main_v65
  let main_c_25 : IVec S_ 1 := constantI S_ 1 1#1
  let main_v67 : IVec S_ 1 := (fun x v => Host.reduce IntOp.andi x v reducesTo_S1x1024_S_d0_1 h_S_) main_v66 main_c_25
  fn_part4 (F := F) main_arg14 main_v63 main_v67

def fn_part2 {F : FTy → Type} [FloatOps F] (main_arg7 : FVec F S1x1024 .f32) (main_arg8 : FVec F S1024x2816 .f32) (main_arg9 : FVec F S1024x2816 .f32) (main_arg10 : FVec F S2816x1024 .f32) (main_arg11 : FVec F S256x1024 .f32) (main_arg12 : FVec F S1024x1024 .f32) (main_arg13 : FVec F S1x1024 .f32) (main_arg14 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x2816 .f32 := Host.absf main_arg8
  let main_cst_14 : FVec F S_ .f32 := constant S_ .f32 0x7F800000#32
  let main_v40 : FVec F S1024x2816 .f32 := broadcastInDim S1024x2816 ![] bcast_S_S1024x2816 main_cst_14
  let main_v41 : IVec S1024x2816 1 := cmpf .olt main_v39 main_v40
  let main_c_15 : IVec S_ 1 := constantI S_ 1 1#1
  let main_v42 : IVec S_ 1 := (fun x v => Host.reduce IntOp.andi x v reducesTo_S1024x2816_S_d0_1 h_S_) main_v41 main_c_15
  let main_v43 : IVec S_ 1 := andi main_v38 main_v42
  let main_v44 : FVec F S1024x2816 .f32 := Host.absf main_arg9
  let main_cst_16 : FVec F S_ .f32 := constant S_ .f32 0x7F800000#32
  let main_v45 : FVec F S1024x2816 .f32 := broadcastInDim S1024x2816 ![] bcast_S_S1024x2816 main_cst_16
  let main_v46 : IVec S1024x2816 1 := cmpf .olt main_v44 main_v45
  let main_c_17 : IVec S_ 1 := constantI S_ 1 1#1
  let main_v47 : IVec S_ 1 := (fun x v => Host.reduce IntOp.andi x v reducesTo_S1024x2816_S_d0_1 h_S_) main_v46 main_c_17
  let main_v48 : IVec S_ 1 := andi main_v43 main_v47
  let main_v49 : FVec F S2816x1024 .f32 := Host.absf main_arg10
  let main_cst_18 : FVec F S_ .f32 := constant S_ .f32 0x7F800000#32
  let main_v50 : FVec F S2816x1024 .f32 := broadcastInDim S2816x1024 ![] bcast_S_S2816x1024 main_cst_18
  fn_part3 (F := F) main_arg11 main_arg12 main_arg13 main_arg14 main_v48 main_v49 main_v50

def fn_part1 {F : FTy → Type} [FloatOps F] (main_arg4 : FVec F S4096x1024 .f32) (main_arg5 : FVec F S1024x1024 .f32) (main_arg6 : FVec F S1x1024 .f32) (main_arg7 : FVec F S1x1024 .f32) (main_arg8 : FVec F S1024x2816 .f32) (main_arg9 : FVec F S1024x2816 .f32) (main_arg10 : FVec F S2816x1024 .f32) (main_arg11 : FVec F S256x1024 .f32) (main_arg12 : FVec F S1024x1024 .f32) (main_arg13 : FVec F S1x1024 .f32) (main_arg14 : FVec F S1x1024 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x512 .f32) (main_arg2 : FVec F S4096x512 .f32) (main_arg3 : FVec F S4096x256 .f32) (main_arg4 : FVec F S4096x1024 .f32) (main_arg5 : FVec F S1024x1024 .f32) (main_arg6 : FVec F S1x1024 .f32) (main_arg7 : FVec F S1x1024 .f32) (main_arg8 : FVec F S1024x2816 .f32) (main_arg9 : FVec F S1024x2816 .f32) (main_arg10 : FVec F S2816x1024 .f32) (main_arg11 : FVec F S256x1024 .f32) (main_arg12 : FVec F S1024x1024 .f32) (main_arg13 : FVec F S1x1024 .f32) (main_arg14 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_arg6 main_arg7 main_arg8 main_arg9 main_arg10 main_arg11 main_arg12 main_arg13 main_arg14 main_v13 main_v16
-- ==== Ffn.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x2816 : Shape := ⟨2, ![256, 2816]⟩
abbrev S256x1 : Shape := ⟨2, ![256, 1]⟩
abbrev S256x512 : Shape := ⟨2, ![256, 512]⟩
abbrev S14 : Shape := ⟨1, ![14]⟩
abbrev S1 : Shape := ⟨1, ![1]⟩
abbrev S704x1024 : Shape := ⟨2, ![704, 1024]⟩
abbrev S256x256 : Shape := ⟨2, ![256, 256]⟩
abbrev S1024 : Shape := ⟨1, ![1024]⟩
abbrev S256 : Shape := ⟨1, ![256]⟩

abbrev nBuf : Space → Nat
  | .hbm => 78
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S1024x1024, .f32⟩
  | .hbm, ⟨5, _⟩ => ⟨S1x1024, .f32⟩
  | .hbm, ⟨6, _⟩ => ⟨S1x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S256x1024, .f32⟩
  | .hbm, ⟨11, _⟩ => ⟨S1024x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S2816x1024, .f32⟩
  | .hbm, ⟨59, _⟩ => ⟨S2816x1024, .bf16⟩
  | .hbm, ⟨60, _⟩ => ⟨S2816x1024, .f32⟩
  | .hbm, ⟨61, _⟩ => ⟨S2816x1024, .bf16⟩
  | .hbm, ⟨62, _⟩ => ⟨S4096x2816, .bf16⟩
  | .hbm, ⟨63, _⟩ => ⟨S4096x2816, .bf16⟩
  | .hbm, ⟨64, _⟩ => ⟨S4096x1024, .bf16⟩
  | .hbm, ⟨65, _⟩ => ⟨S4096x1024, .bf16⟩
  | .hbm, ⟨66, _⟩ => ⟨S2816x1024, .bf16⟩
  | .hbm, ⟨67, _⟩ => ⟨S1024x1024, .bf16⟩
  | .hbm, ⟨68, _⟩ => ⟨S1024x1024, .bf16⟩
  | .hbm, ⟨69, _⟩ => ⟨S4096x2816, .bf16⟩
  | .hbm, ⟨70, _⟩ => ⟨S4096x2816, .bf16⟩
  | .hbm, ⟨71, _⟩ => ⟨S4096x1024, .bf16⟩
  | .hbm, ⟨72, _⟩ => ⟨S4096x1024, .bf16⟩
  | .hbm, ⟨73, _⟩ => ⟨S4096x1024, .f32⟩
  | .hbm, ⟨74, _⟩ => ⟨S4096x512, .bf16⟩
  | .hbm, ⟨75, _⟩ => ⟨S4096x512, .bf16⟩
  | .hbm, ⟨76, _⟩ => ⟨S1x1024, .f32⟩
  | .hbm, ⟨77, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S1x1024, .f32⟩
  | .local _ .vmem, ⟨30, _⟩ => ⟨S1x1024, .f32⟩
  | .local _ .vmem, ⟨31, _⟩ => ⟨S2816x1024, .bf16⟩
  | .local _ .vmem, ⟨32, _⟩ => ⟨S2816x1024, .bf16⟩
  | .local _ .vmem, ⟨33, _⟩ => ⟨S2816x1024, .bf16⟩
  | .local _ .vmem, ⟨34, _⟩ => ⟨S1024x1024, .bf16⟩
  | .local _ .vmem, ⟨35, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_v48_3 : Ref sig .tc := ⟨.hbm, 72, rfl⟩
abbrev main_v48_4 : Ref sig .tc := ⟨.hbm, 73, rfl⟩
abbrev main_v48_5 : Ref sig .tc := ⟨.hbm, 74, rfl⟩
abbrev main_v48_6 : Ref sig .tc := ⟨.hbm, 75, rfl⟩
abbrev main_v48_7 : Ref sig .tc := ⟨.hbm, 76, rfl⟩
abbrev main_v48_8 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg16_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem16_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnRefIdeal.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 162
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x256, .f32⟩
  | 4 => ⟨S1024x1024, .f32⟩
  | 5 => ⟨S1x1024, .f32⟩
  | 6 => ⟨S1x1024, .f32⟩
  | 7 => ⟨S1024x2816, .f32⟩
  | 8 => ⟨S1024x2816, .f32⟩
  | 9 => ⟨S2816x1024, .f32⟩
  | 10 => ⟨S256x1024, .f32⟩
  | 11 => ⟨S1024x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x2816, .f32⟩
  | 54 => ⟨S4096x2816, .f32⟩
  | 55 => ⟨S4096x1024, .f32⟩
  | 56 => ⟨S4096x1024, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S4096x2816, .f32⟩
  | 69 => ⟨S4096x2816, .f32⟩
  | 70 => ⟨S4096x2816, .f32⟩
  | 71 => ⟨S4096x1024, .f32⟩
  | 72 => ⟨S_, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x2816, .f32⟩
  | 99 => ⟨S4096x2816, .f32⟩
  | 100 => ⟨S4096x2816, .f32⟩
  | 101 => ⟨S4096x2816, .f32⟩
  | 102 => ⟨S4096x2816, .f32⟩
  | 103 => ⟨S4096x2816, .f32⟩
  | 104 => ⟨S4096x2816, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S4096x1024, .f32⟩
  | 120 => ⟨S4096x1024, .f32⟩
  | 121 => ⟨S_, .f32⟩
  | 122 => ⟨S4096, .f32⟩
  | 123 => ⟨S4096x1, .f32⟩
  | 124 => ⟨S4096x1024, .f32⟩
  | 125 => ⟨S4096x1024, .f32⟩
  | 126 => ⟨S4096x1, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S4096x512, .f32⟩
  | 27 => ⟨S4096x512, .f32⟩
  | 28 => ⟨S4096x2816, .bf16⟩
  | 29 => ⟨S4096x2816, .bf16⟩
  | 30 => ⟨S4096x1024, .bf16⟩
  | 31 => ⟨S4096x1024, .bf16⟩
  | 32 => ⟨S4096x512, .bf16⟩
  | 33 => ⟨S4096x512, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v36_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v36_1 : Ref sig .tc := ⟨.hbm, 68, rfl⟩
abbrev main_v36_0 : Ref sig .tc := ⟨.hbm, 69, rfl⟩
abbrev main_v37 : Ref sig .tc := ⟨.hbm, 70, rfl⟩
abbrev main_v38 : Ref sig .tc := ⟨.hbm, 71, rfl⟩
abbrev main_cst_7 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_v47 : Ref sig .tc := ⟨.hbm, 83, rfl⟩
abbrev main_cst_10 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_12 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_13 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_14 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_15 : Ref sig .tc := ⟨.hbm, 128, rfl⟩
abbrev main_v84 : Ref sig .tc := ⟨.hbm, 129, rfl⟩
abbrev main_v85 : Ref sig .tc := ⟨.hbm, 130, rfl⟩
abbrev main_cst_16 : Ref sig .tc := ⟨.hbm, 131, rfl⟩
abbrev main_v86 : Ref sig .tc := ⟨.hbm, 132, rfl⟩
abbrev main_v87 : Ref sig .tc := ⟨.hbm, 133, rfl⟩
abbrev main_cst_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_19 : Ref sig .tc := ⟨.hbm, 144, rfl⟩
abbrev main_v96 : Ref sig .tc := ⟨.hbm, 145, rfl⟩
abbrev main_v97 : Ref sig .tc := ⟨.hbm, 146, rfl⟩
abbrev main_cst_20 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩

abbrev nD : Nat := 1
abbrev τ : Topo := Topo.v7x

variable {F : FTy → Type} [FloatOps F]
-- ==== Attn.lean ====
abbrev S2x2048x2816 : Shape := ⟨3, ![2, 2048, 2816]⟩
abbrev S1x8 : Shape := ⟨2, ![1, 8]⟩
abbrev S2x2048x512 : Shape := ⟨3, ![2, 2048, 512]⟩
abbrev S2x2048x128 : Shape := ⟨3, ![2, 2048, 128]⟩
abbrev S2x8 : Shape := ⟨2, ![2, 8]⟩
abbrev S2x16x128x2x4x64 : Shape := ⟨6, ![2, 16, 128, 2, 4, 64]⟩
abbrev S_ : Shape := ⟨0, ![]⟩
abbrev S2x128x2x64 : Shape := ⟨4, ![2, 128, 2, 64]⟩
abbrev S2x2048x2x64 : Shape := ⟨4, ![2, 2048, 2, 64]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S2x16x2x384x128x4 : Shape := ⟨6, ![2, 16, 2, 384, 128, 4]⟩
abbrev S2x16x2x4x128x384 : Shape := ⟨6, ![2, 16, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S8 : Shape := ⟨1, ![8]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x16x1x1x128x384 : Shape := ⟨6, ![1, 16, 1, 1, 128, 384]⟩
abbrev S1x1x2x4x128x384 : Shape := ⟨6, ![1, 1, 2, 4, 128, 384]⟩
abbrev S2x1x2x4x1x1 : Shape := ⟨6, ![2, 1, 2, 4, 1, 1]⟩
abbrev S2x16x2x4x128 : Shape := ⟨5, ![2, 16, 2, 4, 128]⟩
abbrev S2x16x2x4x128x1 : Shape := ⟨6, ![2, 16, 2, 4, 128, 1]⟩
abbrev S2x2x16x4x128x384 : Shape := ⟨6, ![2, 2, 16, 4, 128, 384]⟩
abbrev S2x2x16x512x384 : Shape := ⟨5, ![2, 2, 16, 512, 384]⟩
abbrev S2x2x16x4x128x1 : Shape := ⟨6, ![2, 2, 16, 4, 128, 1]⟩
abbrev S2x2x16x512x1 : Shape := ⟨5, ![2, 2, 16, 512, 1]⟩
abbrev S2x2048x256 : Shape := ⟨3, ![2, 2048, 256]⟩
abbrev S2x2x8x128 : Shape := ⟨4, ![2, 2, 8, 128]⟩
abbrev S1x2048x256 : Shape := ⟨3, ![1, 2048, 256]⟩
abbrev S1x2048x128 : Shape := ⟨3, ![1, 2048, 128]⟩
abbrev S1x1x16x512x384 : Shape := ⟨5, ![1, 1, 16, 512, 384]⟩
abbrev S1x1x16x512x1 : Shape := ⟨5, ![1, 1, 16, 512, 1]⟩
abbrev S1x1x8x128 : Shape := ⟨4, ![1, 1, 8, 128]⟩
abbrev S2304x128 : Shape := ⟨2, ![2304, 128]⟩
abbrev S2048x128 : Shape := ⟨2, ![2048, 128]⟩
abbrev S128x128 : Shape := ⟨2, ![128, 128]⟩
abbrev S1x128 : Shape := ⟨2, ![1, 128]⟩
abbrev S384x128 : Shape := ⟨2, ![384, 128]⟩
abbrev S1x128x256 : Shape := ⟨3, ![1, 128, 256]⟩
abbrev S128x256 : Shape := ⟨2, ![128, 256]⟩
abbrev S512x128 : Shape := ⟨2, ![512, 128]⟩
abbrev S1x1x1x512x384 : Shape := ⟨5, ![1, 1, 1, 512, 384]⟩
abbrev S512x384 : Shape := ⟨2, ![512, 384]⟩
abbrev S1x1x1x512x1 : Shape := ⟨5, ![1, 1, 1, 512, 1]⟩
abbrev S512x1 : Shape := ⟨2, ![512, 1]⟩
abbrev S1 : Shape := ⟨1, ![1]⟩
abbrev S1x1 : Shape := ⟨2, ![1, 1]⟩
abbrev S1x128x128 : Shape := ⟨3, ![1, 128, 128]⟩
abbrev S8x128 : Shape := ⟨2, ![8, 128]⟩
abbrev S1x1x1x128 : Shape := ⟨4, ![1, 1, 1, 128]⟩

abbrev nBuf : Space → Nat
  | .hbm => 117
  | .vmem => 22
  | .smem => 0
  | _ => 0

abbrev bufTy : (tb : Table) → Fin (tcTables nBuf tb) → BufTy
  | .hbm, ⟨0, _⟩ => ⟨S2x2048x2816, .bf16⟩
  | .hbm, ⟨1, _⟩ => ⟨S1x8, .f32⟩
  | .hbm, ⟨2, _⟩ => ⟨S2x2048x512, .bf16⟩
  | .hbm, ⟨3, _⟩ => ⟨S2x2048x2816, .f32⟩
  | .hbm, ⟨4, _⟩ => ⟨S2x2048x512, .f32⟩
  | .hbm, ⟨5, _⟩ => ⟨S2x2048x128, .f32⟩
  | .hbm, ⟨6, _⟩ => ⟨S2x8, .f32⟩
  | .hbm, ⟨7, _⟩ => ⟨S2x16x128x2x4x64, .f32⟩
  | .hbm, ⟨8, _⟩ => ⟨S_, .f32⟩
  | .hbm, ⟨9, _⟩ => ⟨S2x128x2x64, .f32⟩
  | .hbm, ⟨10, _⟩ => ⟨S2x2048x2x64, .f32⟩
  | .hbm, ⟨11, _⟩ => ⟨S2x2304x2x64, .f32⟩
  | .hbm, ⟨12, _⟩ => ⟨S2x18x128x2x64, .f32⟩
  | .hbm, ⟨13, _⟩ => ⟨S2x16x128x2x64, .f32⟩
  | .hbm, ⟨14, _⟩ => ⟨S2x16x128x2x64, .f32⟩
  | .hbm, ⟨15, _⟩ => ⟨S2x16x128x2x64, .f32⟩
  | .hbm, ⟨16, _⟩ => ⟨S2x16x384x2x64, .f32⟩
  | .hbm, ⟨17, _⟩ => ⟨S2x16x2x384x128x4, .f32⟩
  | .hbm, ⟨18, _⟩ => ⟨S2x16x2x4x128x384, .f32⟩
  | .hbm, ⟨19, _⟩ => ⟨S_, .f32⟩
  | .hbm, ⟨20, _⟩ => ⟨S2x16x2x4x128x384, .f32⟩
  | .hbm, ⟨21, _⟩ => ⟨S2x16x2x4x128x384, .f32⟩
  | .hbm, ⟨22, _⟩ => ⟨S128, .i32⟩
  | .hbm, ⟨23, _⟩ => ⟨S384, .i32⟩
  | .hbm, ⟨24, _⟩ => ⟨S1x384, .i32⟩
  | .hbm, ⟨25, _⟩ => ⟨S_, .i32⟩
  | .hbm, ⟨26, _⟩ => ⟨S1x384, .i32⟩
  | .hbm, ⟨27, _⟩ => ⟨S1x384, .i32⟩
  | .hbm, ⟨28, _⟩ => ⟨S128x1, .i32⟩
  | .hbm, ⟨29, _⟩ => ⟨S128x384, .i32⟩
  | .hbm, ⟨30, _⟩ => ⟨S128x384, .i32⟩
  | .hbm, ⟨31, _⟩ => ⟨S128x384, .i32⟩
  | .hbm, ⟨32, _⟩ => ⟨S128x384, .i32⟩
  | .hbm, ⟨33, _⟩ => ⟨S16, .i32⟩
  | .hbm, ⟨34, _⟩ => ⟨S16x1, .i32⟩
  | .hbm, ⟨35, _⟩ => ⟨S_, .i32⟩
  | .hbm, ⟨36, _⟩ => ⟨S16x1, .i32⟩
  | .hbm, ⟨37, _⟩ => ⟨S16x1, .i32⟩
  | .hbm, ⟨38, _⟩ => ⟨S_, .i32⟩
  | .hbm, ⟨39, _⟩ => ⟨S16x1, .i32⟩
  | .hbm, ⟨40, _⟩ => ⟨S16x1, .i32⟩
  | .hbm, ⟨41, _⟩ => ⟨S1x384, .i32⟩
  | .hbm, ⟨42, _⟩ => ⟨S16x384, .i32⟩
  | .hbm, ⟨43, _⟩ => ⟨S16x384, .i32⟩
  | .hbm, ⟨44, _⟩ => ⟨S16x384, .i32⟩
  | .hbm, ⟨45, _⟩ => ⟨S_, .i32⟩
  | .hbm, ⟨46, _⟩ => ⟨S128x384, .i32⟩
  | .hbm, ⟨47, _⟩ => ⟨S128x384, .i1⟩
  | .hbm, ⟨48, _⟩ => ⟨S1x128x384, .i1⟩
  | .hbm, ⟨49, _⟩ => ⟨S_, .i32⟩
  | .hbm, ⟨50, _⟩ => ⟨S16x384, .i32⟩
  | .hbm, ⟨51, _⟩ => ⟨S16x384, .i1⟩
  | .hbm, ⟨52, _⟩ => ⟨S_, .i32⟩
  | .hbm, ⟨53, _⟩ => ⟨S16x384, .i32⟩
  | .hbm, ⟨54, _⟩ => ⟨S16x384, .i1⟩
  | .hbm, ⟨55, _⟩ => ⟨S16x384, .i1⟩
  | .hbm, ⟨56, _⟩ => ⟨S16x1x384, .i1⟩
  | .hbm, ⟨57, _⟩ => ⟨S16x128x384, .i1⟩
  | .hbm, ⟨58, _⟩ => ⟨S16x128x384, .i1⟩
  | .hbm, ⟨59, _⟩ => ⟨S16x128x384, .i1⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S2x4, .f32⟩
  | .hbm, ⟨74, _⟩ => ⟨S2x4x1x1, .f32⟩
  | .hbm, ⟨75, _⟩ => ⟨S2x4x1x1, .f32⟩
  | .hbm, ⟨76, _⟩ => ⟨S128x384, .f32⟩
  | .hbm, ⟨77, _⟩ => ⟨S1x1x128x384, .f32⟩
  | .hbm, ⟨78, _⟩ => ⟨S2x4x128x384, .f32⟩
  | .hbm, ⟨79, _⟩ => ⟨S2x4x128x384, .f32⟩
  | .hbm, ⟨80, _⟩ => ⟨S2x4x128x384, .f32⟩
  | .hbm, ⟨81, _⟩ => ⟨S1x16x1x1x128x384, .i1⟩
  | .hbm, ⟨82, _⟩ => ⟨S1x1x2x4x128x384, .f32⟩
  | .hbm, ⟨83, _⟩ => ⟨S2x16x2x4x128x384, .f32⟩
  | .hbm, ⟨84, _⟩ => ⟨S2x16x2x4x128x384, .f32⟩
  | .hbm, ⟨85, _⟩ => ⟨S_, .f32⟩
  | .hbm, ⟨86, _⟩ => ⟨S_, .f32⟩
  | .hbm, ⟨87, _⟩ => ⟨S2x16x2x4x128x384, .i1⟩
  | .hbm, ⟨88, _⟩ => ⟨S2x16x2x4x128x384, .f32⟩
  | .hbm, ⟨89, _⟩ => ⟨S2x16x2x4x128x384, .f32⟩
  | .hbm, ⟨90, _⟩ => ⟨S2x1x2x4x1x1, .f32⟩
  | .hbm, ⟨91, _⟩ => ⟨S_, .f32⟩
  | .hbm, ⟨92, _⟩ => ⟨S2x16x2x4x128, .f32⟩
  | .hbm, ⟨93, _⟩ => ⟨S2x16x2x4x128x1, .f32⟩
  | .hbm, ⟨94, _⟩ => ⟨S2x16x2x4x128x1, .f32⟩
  | .hbm, ⟨95, _⟩ => ⟨S2x16x2x4x128x1, .f32⟩
  | .hbm, ⟨96, _⟩ => ⟨S2x16x2x4x128x384, .f32⟩
  | .hbm, ⟨97, _⟩ => ⟨S2x16x2x4x128x384, .f32⟩
  | .hbm, ⟨98, _⟩ => ⟨S2x16x2x4x128x384, .f32⟩
  | .hbm, ⟨99, _⟩ => ⟨S2x16x2x4x128x1, .f32⟩
  | .hbm, ⟨100, _⟩ => ⟨S2x16x2x4x128x1, .f32⟩
  | .hbm, ⟨101, _⟩ => ⟨S2x16x2x4x128x1, .f32⟩
  | .hbm, ⟨102, _⟩ => ⟨S_, .f32⟩
  | .hbm, ⟨103, _⟩ => ⟨S2x16x2x4x128, .f32⟩
  | .hbm, ⟨104, _⟩ => ⟨S2x16x2x4x128x1, .f32⟩
  | .hbm, ⟨105, _⟩ => ⟨S2x16x2x4x128x1, .f32⟩
  | .hbm, ⟨106, _⟩ => ⟨S2x16x2x4x128x384, .f32⟩
  | .hbm, ⟨107, _⟩ => ⟨S2x16x2x4x128x384, .f32⟩
  | .hbm, ⟨108, _⟩ => ⟨S2x16x2x4x128x1, .f32⟩
  | .hbm, ⟨109, _⟩ => ⟨S2x2x16x4x128x384, .f32⟩
  | .hbm, ⟨110, _⟩ => ⟨S2x2x16x512x384, .f32⟩
  | .hbm, ⟨111, _⟩ => ⟨S2x2x16x512x384, .bf16⟩
  | .hbm, ⟨112, _⟩ => ⟨S2x2x16x4x128x1, .f32⟩
  | .hbm, ⟨113, _⟩ => ⟨S2x2x16x512x1, .f32⟩
  | .hbm, ⟨114, _⟩ => ⟨S2x2048x512, .bf16⟩
  | .hbm, ⟨115, _⟩ => ⟨S2x2048x256, .bf16⟩
  | .hbm, ⟨116, _⟩ => ⟨S2x2x8x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1x16x512x384, .bf16⟩
  | .local _ .vmem, ⟨9, _⟩ => ⟨S1x1x16x512x384, .bf16⟩
  | .local _ .vmem, ⟨10, _⟩ => ⟨S1x1x16x512x1, .f32⟩
  | .local _ .vmem, ⟨11, _⟩ => ⟨S1x1x16x512x1, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x1x8x128, .f32⟩
  | .local _ .vmem, ⟨17, _⟩ => ⟨S1x1x8x128, .f32⟩
  | .local _ .vmem, ⟨18, _⟩ => ⟨S2304x128, .bf16⟩
  | .local _ .vmem, ⟨19, _⟩ => ⟨S2304x128, .bf16⟩
  | .local _ .vmem, ⟨20, _⟩ => ⟨S2304x128, .f32⟩
  | .local _ .vmem, ⟨21, _⟩ => ⟨S2304x128, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93_0 : Ref sig .tc := ⟨.hbm, 114, rfl⟩
abbrev main_v93_1 : Ref sig .tc := ⟨.hbm, 115, rfl⟩
abbrev main_v93_2 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_35 : BitVec 32 := 0#32
  let c4_i32 : BitVec 32 := 4#32
  let v65 : BitVec 32 := Scalar.addi c0_i32_35 c4_i32
  let c1_i32 : BitVec 32 := 1#32
  ⟨c0_i32_35, v65, c1_i32⟩
def k0_mult1 (k0_t1 : Fin k0_t1_loop.trips) : BitVec 32 :=
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let c0_i32_66 : BitVec 32 := 0#32
  let v98 : BitVec 32 := Scalar.addi v97 c0_i32_66
  let c128_i32 : BitVec 32 := 128#32
  let v99 : BitVec 32 := Scalar.muli v98 c128_i32
  v99
def k0_off1 (k0_t1 : Fin k0_t1_loop.trips) (c0_i32_66 : BitVec 32) : Fin 2 → Nat :=
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let c128_i32 : BitVec 32 := 128#32
  let v99 : BitVec 32 := Scalar.muli v98 c128_i32
  let v100 : BitVec 32 := v99
  let v101 : Index := Scalar.indexCast v100
  let c0_67 : Index := 0#32
  ![v101.toNat, 0]
def k0_off2 (k0_t1 : Fin k0_t1_loop.trips) (c0_i32_66 : BitVec 32) : Fin 3 → Nat :=
  let c0_69 : Index := 0#32
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let c128_i32 : BitVec 32 := 128#32
  let v99 : BitVec 32 := Scalar.muli v98 c128_i32
  let v100 : BitVec 32 := v99
  let v105 : Index := Scalar.indexCast v100
  let c0_70 : Index := 0#32
  ![0, v105.toNat, 0]
def k0_off3 (k0_t1 : Fin k0_t1_loop.trips) (c0_i32_66 : BitVec 32) : Fin 5 → Nat :=
  let c0_82 : Index := 0#32
  let c0_83 : Index := 0#32
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let v139 : Index := Scalar.indexCast v98
  let c0_84 : Index := 0#32
  let c0_85 : Index := 0#32
  ![0, 0, v139.toNat, 0, 0]
def k0_off4 (k0_t1 : Fin k0_t1_loop.trips) (c0_i32_66 : BitVec 32) : Fin 5 → Nat :=
  let c0_86 : Index := 0#32
  let c0_87 : Index := 0#32
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let v142 : Index := Scalar.indexCast v98
  let c0_88 : Index := 0#32
  let c0_89 : Index := 0#32
  ![0, 0, v142.toNat, 0, 0]
def k0_off5 (k0_t1 : Fin k0_t1_loop.trips) (c0_i32_66 : BitVec 32) : Fin 3 → Nat :=
  let c0_107 : Index := 0#32
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let c128_i32 : BitVec 32 := 128#32
  let v99 : BitVec 32 := Scalar.muli v98 c128_i32
  let v100 : BitVec 32 := v99
  let v238 : Index := Scalar.indexCast v100
  let c0_108 : Index := 0#32
  ![0, v238.toNat, 0]
def k0_off6 (k0_t1 : Fin k0_t1_loop.trips) (c0_i32_66 : BitVec 32) : Fin 3 → Nat :=
  let c0_110 : Index := 0#32
  let c4_i32_65 : BitVec 32 := 4#32
  let c0_i32_35 : BitVec 32 := 0#32
  let c1_i32 : BitVec 32 := 1#32
  let arg15 : BitVec 32 := Scf.iv c0_i32_35 c1_i32 k0_t1
  let v97 : BitVec 32 := Scalar.muli c4_i32_65 arg15
  let v98 : BitVec 32 := Scalar.addi v97 c0_i32_66
  let c128_i32 : BitVec 32 := 128#32
  let v99 : BitVec 32 := Scalar.muli v98 c128_i32
  let v100 : BitVec 32 := v99
  let v248 : Index := Scalar.indexCast v100
  let c128_111 : Index := 128#32
  ![0, v248.toNat, 128]
def k0_mult2 (k0_t1 : Fin k0_t1_loop.trips) : BitVec 32 :=
  let c4_i32_112 : BitVec 32 := 4#32
  let c0_i32_35 : BitVec 32 := 0#32
  let c1_i32 : BitVec 32 := 1#32
  let arg15 : BitVec 32 := Scf.iv c0_i32_35 c1_i32 k0_t1
  let v252 : BitVec 32 := Scalar.muli c4_i32_112 arg15
  let c1_i32_113 : BitVec 32 := 1#32
  let v253 : BitVec 32 := Scalar.addi v252 c1_i32_113
  let c128_i32_114 : BitVec 32 := 128#32
  let v254 : BitVec 32 := Scalar.muli v253 c128_i32_114
  v254
def k0_mult3 (k0_t1 : Fin k0_t1_loop.trips) : BitVec 32 :=
  let c4_i32_160 : BitVec 32 := 4#32
  let c0_i32_35 : BitVec 32 := 0#32
  let c1_i32 : BitVec 32 := 1#32
  let arg15 : BitVec 32 := Scf.iv c0_i32_35 c1_i32 k0_t1
  let v407 : BitVec 32 := Scalar.muli c4_i32_160 arg15
  let c2_i32 : BitVec 32 := 2#32
  let v408 : BitVec 32 := Scalar.addi v407 c2_i32
  let c128_i32_161 : BitVec 32 := 128#32
  let v409 : BitVec 32 := Scalar.muli v408 c128_i32_161
  v409
def k0_mult4 (k0_t1 : Fin k0_t1_loop.trips) : BitVec 32 :=
  let c4_i32_207 : BitVec 32 := 4#32
  let c0_i32_35 : BitVec 32 := 0#32
  let c1_i32 : BitVec 32 := 1#32
  let arg15 : BitVec 32 := Scf.iv c0_i32_35 c1_i32 k0_t1
  let v562 : BitVec 32 := Scalar.muli c4_i32_207 arg15
  let c3_i32 : BitVec 32 := 3#32
  let v563 : BitVec 32 := Scalar.addi v562 c3_i32
  let c128_i32_208 : BitVec 32 := 128#32
  let v564 : BitVec 32 := Scalar.muli v563 c128_i32_208
  v564
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c21_i32 : BitVec 32 := 21#32
  let c0_i32_0 : BitVec 32 := 0#32
  ![arg0.toNat, c0_i32.toNat, c21_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S2x2048x2816 : Shape := ⟨3, ![2, 2048, 2816]⟩
abbrev S1x8 : Shape := ⟨2, ![1, 8]⟩
abbrev S2x2048x512 : Shape := ⟨3, ![2, 2048, 512]⟩
abbrev S2x2048x128 : Shape := ⟨3, ![2, 2048, 128]⟩
abbrev S2x8 : Shape := ⟨2, ![2, 8]⟩
abbrev S2x16x128x2x4x64 : Shape := ⟨6, ![2, 16, 128, 2, 4, 64]⟩
abbrev S_ : Shape := ⟨0, ![]⟩
abbrev S2x128x2x64 : Shape := ⟨4, ![2, 128, 2, 64]⟩
abbrev S2x2048x2x64 : Shape := ⟨4, ![2, 2048, 2, 64]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S2x16x2x384x128x4 : Shape := ⟨6, ![2, 16, 2, 384, 128, 4]⟩
abbrev S2x16x2x4x128x384 : Shape := ⟨6, ![2, 16, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S8 : Shape := ⟨1, ![8]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x16x1x1x128x384 : Shape := ⟨6, ![1, 16, 1, 1, 128, 384]⟩
abbrev S1x1x2x4x128x384 : Shape := ⟨6, ![1, 1, 2, 4, 128, 384]⟩
abbrev S2x1x2x4x1x1 : Shape := ⟨6, ![2, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x384 : Shape := ⟨5, ![2, 16, 2, 64, 384]⟩
abbrev S2x2x4x1 : Shape := ⟨4, ![2, 2, 4, 1]⟩
abbrev S2x16x2x128x4x64 : Shape := ⟨6, ![2, 16, 2, 128, 4, 64]⟩
abbrev S2x16x2x384x64 : Shape := ⟨5, ![2, 16, 2, 384, 64]⟩
abbrev S2x2048x64 : Shape := ⟨3, ![2, 2048, 64]⟩
abbrev S2x2048x256 : Shape := ⟨3, ![2, 2048, 256]⟩
abbrev S2x2x4 : Shape := ⟨3, ![2, 2, 4]⟩
abbrev S2x2x8 : Shape := ⟨3, ![2, 2, 8]⟩
abbrev S2x2x8x1 : Shape := ⟨4, ![2, 2, 8, 1]⟩
abbrev S2x2x8x128 : Shape := ⟨4, ![2, 2, 8, 128]⟩

abbrev nBuf : Space → Nat
  | .hbm => 265
  | .vmem => 0
  | .smem => 0
  | _ => 0

abbrev hbmTy0_0 (i : Nat) : BufTy := match i % 128 with
  | 0 => ⟨S2x2048x2816, .bf16⟩
  | 1 => ⟨S1x8, .f32⟩
  | 2 => ⟨S2x2048x512, .bf16⟩
  | 3 => ⟨S2x2048x2816, .f32⟩
  | 4 => ⟨S2x2048x512, .f32⟩
  | 5 => ⟨S2x2048x128, .f32⟩
  | 6 => ⟨S2x2048x128, .f32⟩
  | 7 => ⟨S2x8, .f32⟩
  | 8 => ⟨S2x16x128x2x4x64, .f32⟩
  | 9 => ⟨S_, .f32⟩
  | 10 => ⟨S2x128x2x64, .f32⟩
  | 11 => ⟨S2x2048x2x64, .f32⟩
  | 12 => ⟨S2x2304x2x64, .f32⟩
  | 13 => ⟨S_, .f32⟩
  | 14 => ⟨S2x128x2x64, .f32⟩
  | 15 => ⟨S_, .f32⟩
  | 16 => ⟨S2x128x2x64, .f32⟩
  | 17 => ⟨S2x18x128x2x64, .f32⟩
  | 18 => ⟨S2x16x128x2x64, .f32⟩
  | 19 => ⟨S2x16x128x2x64, .f32⟩
  | 20 => ⟨S2x16x128x2x64, .f32⟩
  | 21 => ⟨S2x16x384x2x64, .f32⟩
  | 22 => ⟨S_, .f32⟩
  | 23 => ⟨S2x128x2x64, .f32⟩
  | 24 => ⟨S2x2048x2x64, .f32⟩
  | 25 => ⟨S2x2304x2x64, .f32⟩
  | 26 => ⟨S_, .f32⟩
  | 27 => ⟨S2x128x2x64, .f32⟩
  | 28 => ⟨S_, .f32⟩
  | 29 => ⟨S2x128x2x64, .f32⟩
  | 30 => ⟨S2x18x128x2x64, .f32⟩
  | 31 => ⟨S2x16x128x2x64, .f32⟩
  | 32 => ⟨S2x16x128x2x64, .f32⟩
  | 33 => ⟨S2x16x128x2x64, .f32⟩
  | 34 => ⟨S2x16x384x2x64, .f32⟩
  | 35 => ⟨S2x16x2x384x128x4, .f32⟩
  | 36 => ⟨S2x16x2x4x128x384, .f32⟩
  | 37 => ⟨S_, .f32⟩
  | 38 => ⟨S2x16x2x4x128x384, .f32⟩
  | 39 => ⟨S2x16x2x4x128x384, .f32⟩
  | 40 => ⟨S128, .i32⟩
  | 41 => ⟨S384, .i32⟩
  | 42 => ⟨S1x384, .i32⟩
  | 43 => ⟨S_, .i32⟩
  | 44 => ⟨S1x384, .i32⟩
  | 45 => ⟨S1x384, .i32⟩
  | 46 => ⟨S128x1, .i32⟩
  | 47 => ⟨S128x384, .i32⟩
  | 48 => ⟨S128x384, .i32⟩
  | 49 => ⟨S128x384, .i32⟩
  | 50 => ⟨S128x384, .i32⟩
  | 51 => ⟨S16, .i32⟩
  | 52 => ⟨S16x1, .i32⟩
  | 53 => ⟨S_, .i32⟩
  | 54 => ⟨S16x1, .i32⟩
  | 55 => ⟨S16x1, .i32⟩
  | 56 => ⟨S_, .i32⟩
  | 57 => ⟨S16x1, .i32⟩
  | 58 => ⟨S16x1, .i32⟩
  | 59 => ⟨S1x384, .i32⟩
  | 60 => ⟨S16x384, .i32⟩
  | 61 => ⟨S16x384, .i32⟩
  | 62 => ⟨S16x384, .i32⟩
  | 63 => ⟨S_, .i32⟩
  | 64 => ⟨S128x384, .i32⟩
  | 65 => ⟨S128x384, .i1⟩
  | 66 => ⟨S1x128x384, .i1⟩
  | 67 => ⟨S_, .i32⟩
  | 68 => ⟨S16x384, .i32⟩
  | 69 => ⟨S16x384, .i1⟩
  | 70 => ⟨S_, .i32⟩
  | 71 => ⟨S16x384, .i32⟩
  | 72 => ⟨S16x384, .i1⟩
  | 73 => ⟨S16x384, .i1⟩
  | 74 => ⟨S16x1x384, .i1⟩
  | 75 => ⟨S16x128x384, .i1⟩
  | 76 => ⟨S16x128x384, .i1⟩
  | 77 => ⟨S16x128x384, .i1⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S2x4, .f32⟩
  | 92 => ⟨S2x4x1x1, .f32⟩
  | 93 => ⟨S2x4x1x1, .f32⟩
  | 94 => ⟨S128x384, .f32⟩
  | 95 => ⟨S1x1x128x384, .f32⟩
  | 96 => ⟨S2x4x128x384, .f32⟩
  | 97 => ⟨S2x4x128x384, .f32⟩
  | 98 => ⟨S2x4x128x384, .f32⟩
  | 99 => ⟨S1x16x1x1x128x384, .i1⟩
  | 100 => ⟨S1x1x2x4x128x384, .f32⟩
  | 101 => ⟨S2x16x2x4x128x384, .f32⟩
  | 102 => ⟨S2x16x2x4x128x384, .f32⟩
  | 103 => ⟨S_, .f32⟩
  | 104 => ⟨S_, .f32⟩
  | 105 => ⟨S2x16x2x4x128x384, .i1⟩
  | 106 => ⟨S2x16x2x4x128x384, .f32⟩
  | 107 => ⟨S2x16x2x4x128x384, .f32⟩
  | 108 => ⟨S_, .f32⟩
  | 109 => ⟨S2x16x2x4x128x384, .f32⟩
  | 110 => ⟨S2x1x2x4x1x1, .f32⟩
  | 111 => ⟨S_, .f32⟩
  | 112 => ⟨S2x16x2x4x128, .f32⟩
  | 113 => ⟨S2x16x2x4x128x1, .f32⟩
  | 114 => ⟨S2x16x2x4x128x384, .f32⟩
  | 115 => ⟨S2x16x2x4x128x384, .i1⟩
  | 116 => ⟨S2x16x2x4x128x384, .f32⟩
  | 117 => ⟨S_, .f32⟩
  | 118 => ⟨S2x16x2x4x128, .f32⟩
  | 119 => ⟨S2x16x2x4x128x1, .f32⟩
  | 120 => ⟨S2x16x2x4x128x1, .f32⟩
  | 121 => ⟨S2x16x2x4x128x1, .f32⟩
  | 122 => ⟨S2x16x2x4x128x1, .f32⟩
  | 123 => ⟨S2x16x2x4x128x1, .i1⟩
  | 124 => ⟨S2x16x2x4x128x1, .f32⟩
  | 125 => ⟨S2x16x2x4x128x1, .i1⟩
  | 126 => ⟨S_, .f32⟩
  | 127 => ⟨S2x16x2x4x128x1, .f32⟩
  | _ => ⟨S2x2048x2816, .bf16⟩

abbrev hbmTy0_1 (i : Nat) : BufTy := match i % 128 with
  | 0 => ⟨S_, .f32⟩
  | 1 => ⟨S2x16x2x4x128x1, .f32⟩
  | 2 => ⟨S_, .f32⟩
  | 3 => ⟨S2x16x2x4x128x1, .f32⟩
  | 4 => ⟨S2x16x2x4x128x1, .f32⟩
  | 5 => ⟨S2x16x2x4x128x1, .f32⟩
  | 6 => ⟨S2x16x2x4x128x1, .f32⟩
  | 7 => ⟨S2x16x2x4x128x1, .i1⟩
  | 8 => ⟨S2x16x2x4x128x1, .f32⟩
  | 9 => ⟨S2x16x2x4x128x1, .i1⟩
  | 10 => ⟨S_, .f32⟩
  | 11 => ⟨S2x16x2x4x128x1, .f32⟩
  | 12 => ⟨S_, .f32⟩
  | 13 => ⟨S2x16x2x4x128x1, .f32⟩
  | 14 => ⟨S_, .f32⟩
  | 15 => ⟨S2x16x2x4x128x1, .f32⟩
  | 16 => ⟨S2x16x2x4x128x1, .f32⟩
  | 17 => ⟨S2x16x2x4x128x1, .f32⟩
  | 18 => ⟨S2x16x2x4x128x384, .f32⟩
  | 19 => ⟨S2x16x2x4x128x384, .f32⟩
  | 20 => ⟨S2x16x2x4x128x384, .f32⟩
  | 21 => ⟨S_, .f32⟩
  | 22 => ⟨S2x16x2x4x128, .f32⟩
  | 23 => ⟨S2x16x2x4x128x1, .f32⟩
  | 24 => ⟨S2x16x2x4x128x1, .f32⟩
  | 25 => ⟨S2x16x2x4x128x1, .f32⟩
  | 26 => ⟨S2x16x2x4x128x1, .f32⟩
  | 27 => ⟨S2x16x2x4x128x1, .f32⟩
  | 28 => ⟨S2x16x2x4x128x384, .f32⟩
  | 29 => ⟨S2x16x2x4x128x384, .f32⟩
  | 30 => ⟨S2x16x2x4x128x1, .f32⟩
  | 31 => ⟨S_, .f32⟩
  | 32 => ⟨S2x16x2x4x128x1, .f32⟩
  | 33 => ⟨S2x16x2x4x128x1, .f32⟩
  | 34 => ⟨S2x16x2x64x4x128, .f32⟩
  | 35 => ⟨S2x16x128x2x4x64, .f32⟩
  | 36 => ⟨S2x2048x512, .f32⟩
  | 37 => ⟨S2x2048x512, .f32⟩
  | 38 => ⟨S2x16x128x2x4x64, .f32⟩
  | 39 => ⟨S2x16x2x64x4x128, .f32⟩
  | 40 => ⟨S2x16x2x4x128x384, .f32⟩
  | 41 => ⟨S2x16x2x64x384, .f32⟩
  | 42 => ⟨S2x16x384x2x64, .f32⟩
  | 43 => ⟨S2x16x2x4x128x384, .f32⟩
  | 44 => ⟨S2x16x2x4x128x384, .f32⟩
  | 45 => ⟨S2x16x2x4x128x384, .f32⟩
  | 46 => ⟨S_, .f32⟩
  | 47 => ⟨S2x16x2x4x128, .f32⟩
  | 48 => ⟨S2x16x2x4x128x1, .f32⟩
  | 49 => ⟨S2x16x2x4x128x1, .f32⟩
  | 50 => ⟨S2x16x2x4x128x384, .f32⟩
  | 51 => ⟨S2x16x2x4x128x384, .f32⟩
  | 52 => ⟨S2x16x2x4x128x1, .f32⟩
  | 53 => ⟨S_, .f32⟩
  | 54 => ⟨S2x2x4x1, .f32⟩
  | 55 => ⟨S2x1x2x4x1x1, .f32⟩
  | 56 => ⟨S2x16x2x4x128x1, .f32⟩
  | 57 => ⟨S_, .f32⟩
  | 58 => ⟨S2x16x2x4x128, .f32⟩
  | 59 => ⟨S2x16x2x4x128x384, .f32⟩
  | 60 => ⟨S2x16x2x4x128x384, .f32⟩
  | 61 => ⟨S2x16x2x4x128x384, .f32⟩
  | 62 => ⟨S2x16x2x4x128x384, .f32⟩
  | 63 => ⟨S_, .f32⟩
  | 64 => ⟨S2x16x2x4x128, .f32⟩
  | 65 => ⟨S2x16x2x4x128x1, .f32⟩
  | 66 => ⟨S2x16x2x4x128x1, .f32⟩
  | 67 => ⟨S2x16x2x4x128x1, .f32⟩
  | 68 => ⟨S_, .f32⟩
  | 69 => ⟨S2x2x4x1, .f32⟩
  | 70 => ⟨S2x1x2x4x1x1, .f32⟩
  | 71 => ⟨S2x1x2x4x1x1, .f32⟩
  | 72 => ⟨S2x16x2x4x128x1, .f32⟩
  | 73 => ⟨S_, .f32⟩
  | 74 => ⟨S2x16x2x4x128, .f32⟩
  | 75 => ⟨S2x16x2x4x128, .f32⟩
  | 76 => ⟨S2x16x2x4x128x384, .f32⟩
  | 77 => ⟨S2x16x2x4x128x384, .f32⟩
  | 78 => ⟨S2x16x2x4x128x384, .f32⟩
  | 79 => ⟨S2x8, .f32⟩
  | 80 => ⟨S_, .f32⟩
  | 81 => ⟨S2x16x2x4x128x384, .f32⟩
  | 82 => ⟨S2x16x2x4x128x384, .f32⟩
  | 83 => ⟨S_, .f32⟩
  | 84 => ⟨S2x16x2x4x128x384, .f32⟩
  | 85 => ⟨S2x16x2x4x128x384, .f32⟩
  | 86 => ⟨S2x16x2x384x128x4, .f32⟩
  | 87 => ⟨S2x16x2x128x4x64, .f32⟩
  | 88 => ⟨S2x16x128x2x4x64, .f32⟩
  | 89 => ⟨S2x16x2x384x64, .f32⟩
  | 90 => ⟨S2x16x384x2x64, .f32⟩
  | 91 => ⟨S2x16x128x2x64, .f32⟩
  | 92 => ⟨S2x16x128x2x64, .f32⟩
  | 93 => ⟨S2x16x128x2x64, .f32⟩
  | 94 => ⟨S_, .f32⟩
  | 95 => ⟨S2x18x128x2x64, .f32⟩
  | 96 => ⟨S_, .f32⟩
  | 97 => ⟨S2x18x128x2x64, .f32⟩
  | 98 => ⟨S2x18x128x2x64, .f32⟩
  | 99 => ⟨S_, .f32⟩
  | 100 => ⟨S2x18x128x2x64, .f32⟩
  | 101 => ⟨S2x18x128x2x64, .f32⟩
  | 102 => ⟨S2x2304x2x64, .f32⟩
  | 103 => ⟨S2x128x2x64, .f32⟩
  | 104 => ⟨S2x2048x2x64, .f32⟩
  | 105 => ⟨S2x128x2x64, .f32⟩
  | 106 => ⟨S2x2048x128, .f32⟩
  | 107 => ⟨S2x16x128x2x64, .f32⟩
  | 108 => ⟨S2x16x128x2x64, .f32⟩
  | 109 => ⟨S2x16x128x2x64, .f32⟩
  | 110 => ⟨S_, .f32⟩
  | 111 => ⟨S2x18x128x2x64, .f32⟩
  | 112 => ⟨S_, .f32⟩
  | 113 => ⟨S2x18x128x2x64, .f32⟩
  | 114 => ⟨S2x18x128x2x64, .f32⟩
  | 115 => ⟨S_, .f32⟩
  | 116 => ⟨S2x18x128x2x64, .f32⟩
  | 117 => ⟨S2x18x128x2x64, .f32⟩
  | 118 => ⟨S2x2304x2x64, .f32⟩
  | 119 => ⟨S2x128x2x64, .f32⟩
  | 120 => ⟨S2x2048x2x64, .f32⟩
  | 121 => ⟨S2x128x2x64, .f32⟩
  | 122 => ⟨S2x2048x128, .f32⟩
  | 123 => ⟨S2x2048x512, .f32⟩
  | 124 => ⟨S2x2048x64, .f32⟩
  | 125 => ⟨S2x2048x64, .f32⟩
  | 126 => ⟨S2x2048x64, .f32⟩
  | 127 => ⟨S2x2048x64, .f32⟩
  | _ => ⟨S2x2048x2816, .bf16⟩

abbrev hbmTy0_2 (i : Nat) : BufTy := match i % 128 with
  | 0 => ⟨S2x2048x256, .f32⟩
  | 1 => ⟨S2x2x4, .f32⟩
  | 2 => ⟨S_, .f32⟩
  | 3 => ⟨S2x2x4, .f32⟩
  | 4 => ⟨S2x2x8, .f32⟩
  | 5 => ⟨S2x2048x512, .bf16⟩
  | 6 => ⟨S2x2048x256, .bf16⟩
  | 7 => ⟨S2x2x8x1, .f32⟩
  | 8 => ⟨S2x2x8x128, .f32⟩
  | _ => ⟨S2x2048x2816, .bf16⟩

abbrev hbmTy (i : Nat) : BufTy := match i / 128 with
  | 0 => hbmTy0_0 i
  | 1 => hbmTy0_1 i
  | 2 => hbmTy0_2 i
  | _ => ⟨S2x2048x2816, .bf16⟩

abbrev bufTy : (tb : Table) → Fin (tcTables nBuf tb) → BufTy
  | .hbm, ⟨i, _⟩ => hbmTy i
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_c_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_15 : Ref sig .tc := ⟨.hbm, 103, rfl⟩
abbrev main_call0_v0 : Ref sig .tc := ⟨.hbm, 104, rfl⟩
abbrev main_v83_1 : Ref sig .tc := ⟨.hbm, 105, rfl⟩
abbrev main_call0_v2 : Ref sig .tc := ⟨.hbm, 106, rfl⟩
abbrev main_v83_0 : Ref sig .tc := ⟨.hbm, 107, rfl⟩
abbrev main_call0_cst : Ref sig .tc := ⟨.hbm, 108, rfl⟩
abbrev main_v83_2 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_18 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_cst_22 : Ref sig .tc := ⟨.hbm, 140, rfl⟩
abbrev main_v108 : Ref sig .tc := ⟨.hbm, 141, rfl⟩
abbrev main_cst_23 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_25 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_26 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_27 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_28 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_29 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_30 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_cst_31 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_call1_cst : Ref sig .tc := ⟨.hbm, 208, rfl⟩
abbrev main_call1_v0 : Ref sig .tc := ⟨.hbm, 209, rfl⟩
abbrev main_v166 : Ref sig .tc := ⟨.hbm, 210, rfl⟩
abbrev main_cst_32 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_33 : Ref sig .tc := ⟨.hbm, 222, rfl⟩
abbrev main_v177 : Ref sig .tc := ⟨.hbm, 223, rfl⟩
abbrev main_cst_34 : Ref sig .tc := ⟨.hbm, 224, rfl⟩
abbrev main_v178 : Ref sig .tc := ⟨.hbm, 225, rfl⟩
abbrev main_v179 : Ref sig .tc := ⟨.hbm, 226, rfl⟩
abbrev main_cst_35 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_36 : Ref sig .tc := ⟨.hbm, 238, rfl⟩
abbrev main_v190 : Ref sig .tc := ⟨.hbm, 239, rfl⟩
abbrev main_cst_37 : Ref sig .tc := ⟨.hbm, 240, rfl⟩
abbrev main_v191 : Ref sig .tc := ⟨.hbm, 241, rfl⟩
abbrev main_v192 : Ref sig .tc := ⟨.hbm, 242, rfl⟩
abbrev main_cst_38 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_cst_39 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩

abbrev nD : Nat := 1
abbrev τ : Topo := Topo.v7x

variable {F : FTy → Type} [FloatOps F]
-- ==== Loss.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S256x4x256 : Shape := ⟨3, ![256, 4, 256]⟩
abbrev S4x256x256 : Shape := ⟨3, ![4, 256, 256]⟩
abbrev S4096x2816 : Shape := ⟨2, ![4096, 2816]⟩
abbrev S8x128 : Shape := ⟨2, ![8, 128]⟩
abbrev S256x256 : Shape := ⟨2, ![256, 256]⟩
abbrev S256x2816 : Shape := ⟨2, ![256, 2816]⟩
abbrev S17 : Shape := ⟨1, ![17]⟩
abbrev S1 : Shape := ⟨1, ![1]⟩
abbrev S704x1024 : Shape := ⟨2, ![704, 1024]⟩
abbrev S1x256x256 : Shape := ⟨3, ![1, 256, 256]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 68
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S4096x1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S256x1024, .f32⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S2816x1024, .f32⟩
  | .hbm, ⟨49, _⟩ => ⟨S2816x1024, .bf16⟩
  | .hbm, ⟨50, _⟩ => ⟨S2816x1024, .f32⟩
  | .hbm, ⟨51, _⟩ => ⟨S2816x1024, .bf16⟩
  | .hbm, ⟨52, _⟩ => ⟨S256x4x256, .f32⟩
  | .hbm, ⟨53, _⟩ => ⟨S4x256x256, .f32⟩
  | .hbm, ⟨54, _⟩ => ⟨S4x256x256, .bf16⟩
  | .hbm, ⟨55, _⟩ => ⟨S4096x1024, .bf16⟩
  | .hbm, ⟨56, _⟩ => ⟨S2816x1024, .bf16⟩
  | .hbm, ⟨57, _⟩ => ⟨S1024x1024, .bf16⟩
  | .hbm, ⟨58, _⟩ => ⟨S4096x1024, .f32⟩
  | .hbm, ⟨59, _⟩ => ⟨S4096x1024, .bf16⟩
  | .hbm, ⟨60, _⟩ => ⟨S4096x2816, .bf16⟩
  | .hbm, ⟨61, _⟩ => ⟨S4096x2816, .bf16⟩
  | .hbm, ⟨62, _⟩ => ⟨S4096x2816, .bf16⟩
  | .hbm, ⟨63, _⟩ => ⟨S4096x1024, .bf16⟩
  | .hbm, ⟨64, _⟩ => ⟨S4096x1024, .bf16⟩
  | .hbm, ⟨65, _⟩ => ⟨S8x128, .f32⟩
  | .hbm, ⟨66, _⟩ => ⟨S1x1024, .f32⟩
  | .hbm, ⟨67, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x128, .f32⟩
  | .local _ .vmem, ⟨27, _⟩ => ⟨S1x1024, .f32⟩
  | .local _ .vmem, ⟨28, _⟩ => ⟨S1x1024, .f32⟩
  | .local _ .vmem, ⟨29, _⟩ => ⟨S2816x1024, .bf16⟩
  | .local _ .vmem, ⟨30, _⟩ => ⟨S2816x1024, .bf16⟩
  | .local _ .vmem, ⟨31, _⟩ => ⟨S2816x1024, .bf16⟩
  | .local _ .vmem, ⟨32, _⟩ => ⟨S256x1024, .bf16⟩
  | .local _ .vmem, ⟨33, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_v37_5 : Ref sig .tc := ⟨.hbm, 63, rfl⟩
abbrev main_v37_6 : Ref sig .tc := ⟨.hbm, 64, rfl⟩
abbrev main_v37_7 : Ref sig .tc := ⟨.hbm, 65, rfl⟩
abbrev main_v37_8 : Ref sig .tc := ⟨.hbm, 66, rfl⟩
abbrev main_v37_9 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== LossRefIdeal.lean ====
abbrev S4096x1024 : Shape := ⟨2, ![4096, 1024]⟩
abbrev S4096x512 : Shape := ⟨2, ![4096, 512]⟩
abbrev S4096x256 : Shape := ⟨2, ![4096, 256]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S8x128 : Shape := ⟨2, ![8, 128]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x256, .f32⟩
  | 4 => ⟨S4096x1024, .f32⟩
  | 5 => ⟨S1024x1024, .f32⟩
  | 6 => ⟨S1x1024, .f32⟩
  | 7 => ⟨S1x1024, .f32⟩
  | 8 => ⟨S1024x2816, .f32⟩
  | 9 => ⟨S1024x2816, .f32⟩
  | 10 => ⟨S2816x1024, .f32⟩
  | 11 => ⟨S256x1024, .f32⟩
  | 12 => ⟨S1024x1024, .f32⟩
  | 13 => ⟨S1x1024, .f32⟩
  | 14 => ⟨S1x1024, .f32⟩
  | 15 => ⟨S_, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S_, .f32⟩
  | 39 => ⟨S4096x1, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x2816, .f32⟩
  | 49 => ⟨S4096x2816, .f32⟩
  | 50 => ⟨S4096x2816, .f32⟩
  | 51 => ⟨S4096x2816, .f32⟩
  | 52 => ⟨S_, .f32⟩
  | 53 => ⟨S4096x2816, .f32⟩
  | 54 => ⟨S4096x2816, .f32⟩
  | 55 => ⟨S_, .f32⟩
  | 56 => ⟨S4096x2816, .f32⟩
  | 57 => ⟨S4096x2816, .f32⟩
  | 58 => ⟨S4096x2816, .f32⟩
  | 59 => ⟨S4096x2816, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S4096x1024, .f32⟩
  | 96 => ⟨S4096x1024, .f32⟩
  | 97 => ⟨S_, .f32⟩
  | 98 => ⟨S4096x1, .f32⟩
  | 99 => ⟨S4096x1, .f32⟩
  | 100 => ⟨S4096x1, .f32⟩
  | 101 => ⟨S4096x1, .f32⟩
  | 102 => ⟨S_, .f32⟩
  | 103 => ⟨S4096x1, .f32⟩
  | 104 => ⟨S4096x1, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S_, .f32⟩
  | 119 => ⟨S4096, .f32⟩
  | 120 => ⟨S4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S4096x1024, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096, .f32⟩
  | 44 => ⟨S4096x1024, .f32⟩
  | 45 => ⟨S4096x1024, .f32⟩
  | 46 => ⟨S_, .f32⟩
  | 47 => ⟨S_, .f32⟩
  | 48 => ⟨S8x128, .f32⟩
  | 49 => ⟨S4096x1024, .bf16⟩
  | 50 => ⟨S4096x2816, .bf16⟩
  | 51 => ⟨S4096x2816, .bf16⟩
  | 52 => ⟨S4096x2816, .bf16⟩
  | 53 => ⟨S4096x1024, .bf16⟩
  | 54 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_cst_16 : Ref sig .tc := ⟨.hbm, 116, rfl⟩
abbrev main_v76 : Ref sig .tc := ⟨.hbm, 117, rfl⟩
abbrev main_cst_17 : Ref sig .tc := ⟨.hbm, 118, rfl⟩
abbrev main_v77 : Ref sig .tc := ⟨.hbm, 119, rfl⟩
abbrev main_v78 : Ref sig .tc := ⟨.hbm, 120, rfl⟩
abbrev main_cst_18 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_cst_20 : Ref sig .tc := ⟨.hbm, 125, rfl⟩
abbrev main_cst_21 : Ref sig .tc := ⟨.hbm, 126, rfl⟩
abbrev main_v81 : Ref sig .tc := ⟨.hbm, 127, rfl⟩
abbrev main_v82 : Ref sig .tc := ⟨.hbm, 128, rfl⟩
abbrev main_cst_22 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_23 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_24 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_25 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_26 : Ref sig .tc := ⟨.hbm, 151, rfl⟩
abbrev main_v101 : Ref sig .tc := ⟨.hbm, 152, rfl⟩
abbrev main_v102 : Ref sig .tc := ⟨.hbm, 153, rfl⟩
abbrev main_cst_27 : Ref sig .tc := ⟨.hbm, 154, rfl⟩
abbrev main_v103 : Ref sig .tc := ⟨.hbm, 155, rfl⟩
abbrev main_v104 : Ref sig .tc := ⟨.hbm, 156, rfl⟩
abbrev main_cst_28 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_29 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_30 : Ref sig .tc := ⟨.hbm, 167, rfl⟩
abbrev main_v113 : Ref sig .tc := ⟨.hbm, 168, rfl⟩
abbrev main_v114 : Ref sig .tc := ⟨.hbm, 169, rfl⟩
abbrev main_cst_31 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_32 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩

abbrev nD : Nat := 1
abbrev τ : Topo := Topo.v7x

variable {F : FTy → Type} [FloatOps F]
-- ==== Fwd.lean ====
abbrev S2x2048x2816 : Shape := ⟨3, ![2, 2048, 2816]⟩
abbrev S8 : Shape := ⟨1, ![8]⟩
abbrev S_ : Shape := ⟨0, ![]⟩
abbrev S2x2048x512 : Shape := ⟨3, ![2, 2048, 512]⟩
abbrev S2x2x16x512x384 : Shape := ⟨5, ![2, 2, 16, 512, 384]⟩
abbrev S2x2x16x512x1 : Shape := ⟨5, ![2, 2, 16, 512, 1]⟩
abbrev S1x2048x256 : Shape := ⟨3, ![1, 2048, 256]⟩
abbrev S1x2048x128 : Shape := ⟨3, ![1, 2048, 128]⟩
abbrev S1x1x16x512x384 : Shape := ⟨5, ![1, 1, 16, 512, 384]⟩
abbrev S1x1x16x512x1 : Shape := ⟨5, ![1, 1, 16, 512, 1]⟩
abbrev S2304x128 : Shape := ⟨2, ![2304, 128]⟩
abbrev S2048x128 : Shape := ⟨2, ![2048, 128]⟩
abbrev S128x128 : Shape := ⟨2, ![128, 128]⟩
abbrev S384x128 : Shape := ⟨2, ![384, 128]⟩
abbrev S128x384 : Shape := ⟨2, ![128, 384]⟩
abbrev S1x128x256 : Shape := ⟨3, ![1, 128, 256]⟩
abbrev S128x256 : Shape := ⟨2, ![128, 256]⟩
abbrev S512x128 : Shape := ⟨2, ![512, 128]⟩
abbrev S512x384 : Shape := ⟨2, ![512, 384]⟩
abbrev S1 : Shape := ⟨1, ![1]⟩
abbrev S128 : Shape := ⟨1, ![128]⟩
abbrev S128x1 : Shape := ⟨2, ![128, 1]⟩
abbrev S1x1x1x512x384 : Shape := ⟨5, ![1, 1, 1, 512, 384]⟩
abbrev S512x1 : Shape := ⟨2, ![512, 1]⟩
abbrev S1x1x1x512x1 : Shape := ⟨5, ![1, 1, 1, 512, 1]⟩
abbrev S1x128x128 : Shape := ⟨3, ![1, 128, 128]⟩

abbrev nBuf : Space → Nat
  | .hbm => 13
  | .vmem => 14
  | .smem => 2
  | _ => 0

abbrev bufTy : (tb : Table) → Fin (tcTables nBuf tb) → BufTy
  | .hbm, ⟨0, _⟩ => ⟨S2x2048x2816, .bf16⟩
  | .hbm, ⟨1, _⟩ => ⟨S8, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S2x2048x512, .bf16⟩
  | .hbm, ⟨11, _⟩ => ⟨S2x2x16x512x384, .bf16⟩
  | .hbm, ⟨12, _⟩ => ⟨S2x2x16x512x1, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1x16x512x384, .bf16⟩
  | .local _ .vmem, ⟨9, _⟩ => ⟨S1x1x16x512x384, .bf16⟩
  | .local _ .vmem, ⟨10, _⟩ => ⟨S1x1x16x512x1, .f32⟩
  | .local _ .vmem, ⟨11, _⟩ => ⟨S1x1x16x512x1, .f32⟩
  | .local _ .vmem, ⟨12, _⟩ => ⟨S2304x128, .bf16⟩
  | .local _ .vmem, ⟨13, _⟩ => ⟨S2304x128, .bf16⟩
  | .local _ .smem, ⟨0, _⟩ => ⟨S8, .f32⟩
  | .local _ .smem, ⟨1, _⟩ => ⟨S8, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_25 : BitVec 32 := 0#32
  let c16_i32 : BitVec 32 := 16#32
  let v53 : BitVec 32 := Scalar.addi c0_i32_25 c16_i32
  let c1_i32 : BitVec 32 := 1#32
  ⟨c0_i32_25, v53, c1_i32⟩
def k0_mult1 (k0_t1 : Fin k0_t1_loop.trips) : BitVec 32 :=
  let c0_i32_25 : BitVec 32 := 0#32
  let c1_i32 : BitVec 32 := 1#32
  let arg12 : BitVec 32 := Scf.iv c0_i32_25 c1_i32 k0_t1
  let c128_i32 : BitVec 32 := 128#32
  let v54 : BitVec 32 := Scalar.muli arg12 c128_i32
  v54
def k0_off1 (k0_t1 : Fin k0_t1_loop.trips) : Fin 2 → Nat :=
  let c0_i32_25 : BitVec 32 := 0#32
  let c1_i32 : BitVec 32 := 1#32
  let arg12 : BitVec 32 := Scf.iv c0_i32_25 c1_i32 k0_t1
  let c128_i32 : BitVec 32 := 128#32
  let v54 : BitVec 32 := Scalar.muli arg12 c128_i32
  let v55 : BitVec 32 := v54
  let v56 : Index := Scalar.indexCast v55
  let c0_27 : Index := 0#32
  ![v56.toNat, 0]
def k0_off2 (k0_t1 : Fin k0_t1_loop.trips) : Fin 3 → Nat :=
  let c0_34 : Index := 0#32
  let c0_i32_25 : BitVec 32 := 0#32
  let c1_i32 : BitVec 32 := 1#32
  let arg12 : BitVec 32 := Scf.iv c0_i32_25 c1_i32 k0_t1
  let c128_i32 : BitVec 32 := 128#32
  let v54 : BitVec 32 := Scalar.muli arg12 c128_i32
  let v55 : BitVec 32 := v54
  let v79 : Index := Scalar.indexCast v55
  let c0_35 : Index := 0#32
  ![0, v79.toNat, 0]
def k0_off3 (i : grid0.Coords) (c0_i32_42 : BitVec 32) : Fin 1 → Nat :=
  let arg1 : BitVec 32 := BitVec.ofNat 32 (i 1).val
  let c4_i32 : BitVec 32 := 4#32
  let v99 : BitVec 32 := Scalar.muli arg1 c4_i32
  let v100 : BitVec 32 := Scalar.addi v99 c0_i32_42
  let v101 : Index := Scalar.indexCast v100
  ![v101.toNat]
def k0_off4 (k0_t1 : Fin k0_t1_loop.trips) : Fin 5 → Nat :=
  let c0_71 : Index := 0#32
  let c0_72 : Index := 0#32
  let c0_i32_25 : BitVec 32 := 0#32
  let c1_i32 : BitVec 32 := 1#32
  let arg12 : BitVec 32 := Scf.iv c0_i32_25 c1_i32 k0_t1
  let v231 : Index := Scalar.indexCast arg12
  let c0_73 : Index := 0#32
  let c0_74 : Index := 0#32
  ![0, 0, v231.toNat, 0, 0]
def k0_off5 (k0_t1 : Fin k0_t1_loop.trips) : Fin 5 → Nat :=
  let c0_75 : Index := 0#32
  let c0_76 : Index := 0#32
  let c0_i32_25 : BitVec 32 := 0#32
  let c1_i32 : BitVec 32 := 1#32
  let arg12 : BitVec 32 := Scf.iv c0_i32_25 c1_i32 k0_t1
  let v236 : Index := Scalar.indexCast arg12
  let c0_77 : Index := 0#32
  let c0_78 : Index := 0#32
  ![0, 0, v236.toNat, 0, 0]
def k0_off6 (k0_t1 : Fin k0_t1_loop.trips) : Fin 3 → Nat :=
  let c0_80 : Index := 0#32
  let c0_i32_25 : BitVec 32 := 0#32
  let c1_i32 : BitVec 32 := 1#32
  let arg12 : BitVec 32 := Scf.iv c0_i32_25 c1_i32 k0_t1
  let c128_i32 : BitVec 32 := 128#32
  let v54 : BitVec 32 := Scalar.muli arg12 c128_i32
  let v55 : BitVec 32 := v54
  let v245 : Index := Scalar.indexCast v55
  let c0_81 : Index := 0#32
  ![0, v245.toNat, 0]
def k0_off7 (k0_t1 : Fin k0_t1_loop.trips) : Fin 3 → Nat :=
  let c0_82 : Index := 0#32
  let c0_i32_25 : BitVec 32 := 0#32
  let c1_i32 : BitVec 32 := 1#32
  let arg12 : BitVec 32 := Scf.iv c0_i32_25 c1_i32 k0_t1
  let c128_i32 : BitVec 32 := 128#32
  let v54 : BitVec 32 := Scalar.muli arg12 c128_i32
  let v55 : BitVec 32 := v54
  let v253 : Index := Scalar.indexCast v55
  let c128_83 : Index := 128#32
  ![0, v253.toNat, 128]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c21_i32 : BitVec 32 := 21#32
  let c0_i32_0 : BitVec 32 := 0#32
  ![arg0.toNat, c0_i32.toNat, c21_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x16x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdRefIdeal.lean ====
abbrev S2x2048x2816 : Shape := ⟨3, ![2, 2048, 2816]⟩
abbrev S8 : Shape := ⟨1, ![8]⟩
abbrev S2x2048x512 : Shape := ⟨3, ![2, 2048, 512]⟩
abbrev S2x2048x128 : Shape := ⟨3, ![2, 2048, 128]⟩
abbrev S2x8 : Shape := ⟨2, ![2, 8]⟩
abbrev S2x16x128x2x4x64 : Shape := ⟨6, ![2, 16, 128, 2, 4, 64]⟩
abbrev S2x2048x2x64 : Shape := ⟨4, ![2, 2048, 2, 64]⟩
abbrev S_ : Shape := ⟨0, ![]⟩
abbrev S2x2304x2x64 : Shape := ⟨4, ![2, 2304, 2, 64]⟩
abbrev S2x18x128x2x64 : Shape := ⟨5, ![2, 18, 128, 2, 64]⟩
abbrev S2x16x128x2x64 : Shape := ⟨5, ![2, 16, 128, 2, 64]⟩
abbrev S2x16x384x2x64 : Shape := ⟨5, ![2, 16, 384, 2, 64]⟩
abbrev S2x16x2x384x128x4 : Shape := ⟨6, ![2, 16, 2, 384, 128, 4]⟩
abbrev S2x16x2x4x128x384 : Shape := ⟨6, ![2, 16, 2, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x16x1x1x128x384 : Shape := ⟨6, ![1, 16, 1, 1, 128, 384]⟩
abbrev S1x1x2x4x128x384 : Shape := ⟨6, ![1, 1, 2, 4, 128, 384]⟩
abbrev S2x1x2x4x1x1 : Shape := ⟨6, ![2, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x2x16x4x128x384 : Shape := ⟨6, ![2, 2, 16, 4, 128, 384]⟩
abbrev S2x2x16x512x384 : Shape := ⟨5, ![2, 2, 16, 512, 384]⟩
abbrev S2x2x16x4x128x1 : Shape := ⟨6, ![2, 2, 16, 4, 128, 1]⟩
abbrev S2x2x16x512x1 : Shape := ⟨5, ![2, 2, 16, 512, 1]⟩

abbrev nBuf : Space → Nat
  | .hbm => 127
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S8, .f32⟩
  | .hbm, ⟨2, _⟩ => ⟨S2x2048x2816, .f32⟩
  | .hbm, ⟨3, _⟩ => ⟨S2x2048x512, .f32⟩
  | .hbm, ⟨4, _⟩ => ⟨S2x2048x128, .f32⟩
  | .hbm, ⟨5, _⟩ => ⟨S2x2048x128, .f32⟩
  | .hbm, ⟨6, _⟩ => ⟨S2x8, .f32⟩
  | .hbm, ⟨7, _⟩ => ⟨S2x16x128x2x4x64, .f32⟩
  | .hbm, ⟨8, _⟩ => ⟨S2x2048x2x64, .f32⟩
  | .hbm, ⟨9, _⟩ => ⟨S_, .i32⟩
  | .hbm, ⟨10, _⟩ => ⟨S_, .f32⟩
  | .hbm, ⟨11, _⟩ => ⟨S2x2304x2x64, .f32⟩
  | .hbm, ⟨12, _⟩ => ⟨S2x18x128x2x64, .f32⟩
  | .hbm, ⟨13, _⟩ => ⟨S2x16x128x2x64, .f32⟩
  | .hbm, ⟨14, _⟩ => ⟨S2x16x128x2x64, .f32⟩
  | .hbm, ⟨15, _⟩ => ⟨S2x16x128x2x64, .f32⟩
  | .hbm, ⟨16, _⟩ => ⟨S2x16x384x2x64, .f32⟩
  | .hbm, ⟨17, _⟩ => ⟨S2x2048x2x64, .f32⟩
  | .hbm, ⟨18, _⟩ => ⟨S_, .i32⟩
  | .hbm, ⟨19, _⟩ => ⟨S_, .f32⟩
  | .hbm, ⟨20, _⟩ => ⟨S2x2304x2x64, .f32⟩
  | .hbm, ⟨21, _⟩ => ⟨S2x18x128x2x64, .f32⟩
  | .hbm, ⟨22, _⟩ => ⟨S2x16x128x2x64, .f32⟩
  | .hbm, ⟨23, _⟩ => ⟨S2x16x128x2x64, .f32⟩
  | .hbm, ⟨24, _⟩ => ⟨S2x16x128x2x64, .f32⟩
  | .hbm, ⟨25, _⟩ => ⟨S2x16x384x2x64, .f32⟩
  | .hbm, ⟨26, _⟩ => ⟨S2x16x2x384x128x4, .f32⟩
  | .hbm, ⟨27, _⟩ => ⟨S2x16x2x4x128x384, .f32⟩
  | .hbm, ⟨28, _⟩ => ⟨S_, .f32⟩
  | .hbm, ⟨29, _⟩ => ⟨S2x16x2x4x128x384, .f32⟩
  | .hbm, ⟨30, _⟩ => ⟨S2x16x2x4x128x384, .f32⟩
  | .hbm, ⟨31, _⟩ => ⟨S128, .i32⟩
  | .hbm, ⟨32, _⟩ => ⟨S384, .i32⟩
  | .hbm, ⟨33, _⟩ => ⟨S1x384, .i32⟩
  | .hbm, ⟨34, _⟩ => ⟨S_, .i32⟩
  | .hbm, ⟨35, _⟩ => ⟨S1x384, .i32⟩
  | .hbm, ⟨36, _⟩ => ⟨S1x384, .i32⟩
  | .hbm, ⟨37, _⟩ => ⟨S128x1, .i32⟩
  | .hbm, ⟨38, _⟩ => ⟨S128x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S_, .i32⟩
  | .hbm, ⟨48, _⟩ => ⟨S16x1, .i32⟩
  | .hbm, ⟨49, _⟩ => ⟨S16x1, .i32⟩
  | .hbm, ⟨50, _⟩ => ⟨S1x384, .i32⟩
  | .hbm, ⟨51, _⟩ => ⟨S16x384, .i32⟩
  | .hbm, ⟨52, _⟩ => ⟨S16x384, .i32⟩
  | .hbm, ⟨53, _⟩ => ⟨S16x384, .i32⟩
  | .hbm, ⟨54, _⟩ => ⟨S_, .i32⟩
  | .hbm, ⟨55, _⟩ => ⟨S128x384, .i32⟩
  | .hbm, ⟨56, _⟩ => ⟨S128x384, .i1⟩
  | .hbm, ⟨57, _⟩ => ⟨S1x128x384, .i1⟩
  | .hbm, ⟨58, _⟩ => ⟨S_, .i32⟩
  | .hbm, ⟨59, _⟩ => ⟨S16x384, .i32⟩
  | .hbm, ⟨60, _⟩ => ⟨S16x384, .i1⟩
  | .hbm, ⟨61, _⟩ => ⟨S_, .i32⟩
  | .hbm, ⟨62, _⟩ => ⟨S16x384, .i32⟩
  | .hbm, ⟨63, _⟩ => ⟨S16x384, .i1⟩
  | .hbm, ⟨64, _⟩ => ⟨S16x384, .i1⟩
  | .hbm, ⟨65, _⟩ => ⟨S16x1x384, .i1⟩
  | .hbm, ⟨66, _⟩ => ⟨S16x128x384, .i1⟩
  | .hbm, ⟨67, _⟩ => ⟨S16x128x384, .i1⟩
  | .hbm, ⟨68, _⟩ => ⟨S16x128x384, .i1⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S2x4, .f32⟩
  | .hbm, ⟨83, _⟩ => ⟨S2x4x1x1, .f32⟩
  | .hbm, ⟨84, _⟩ => ⟨S2x4x1x1, .f32⟩
  | .hbm, ⟨85, _⟩ => ⟨S128x384, .f32⟩
  | .hbm, ⟨86, _⟩ => ⟨S1x1x128x384, .f32⟩
  | .hbm, ⟨87, _⟩ => ⟨S2x4x128x384, .f32⟩
  | .hbm, ⟨88, _⟩ => ⟨S2x4x128x384, .f32⟩
  | .hbm, ⟨89, _⟩ => ⟨S2x4x128x384, .f32⟩
  | .hbm, ⟨90, _⟩ => ⟨S1x16x1x1x128x384, .i1⟩
  | .hbm, ⟨91, _⟩ => ⟨S1x1x2x4x128x384, .f32⟩
  | .hbm, ⟨92, _⟩ => ⟨S2x16x2x4x128x384, .f32⟩
  | .hbm, ⟨93, _⟩ => ⟨S2x16x2x4x128x384, .f32⟩
  | .hbm, ⟨94, _⟩ => ⟨S_, .f32⟩
  | .hbm, ⟨95, _⟩ => ⟨S_, .f32⟩
  | .hbm, ⟨96, _⟩ => ⟨S2x16x2x4x128x384, .i1⟩
  | .hbm, ⟨97, _⟩ => ⟨S2x16x2x4x128x384, .f32⟩
  | .hbm, ⟨98, _⟩ => ⟨S2x16x2x4x128x384, .f32⟩
  | .hbm, ⟨99, _⟩ => ⟨S2x1x2x4x1x1, .f32⟩
  | .hbm, ⟨100, _⟩ => ⟨S_, .f32⟩
  | .hbm, ⟨101, _⟩ => ⟨S2x16x2x4x128, .f32⟩
  | .hbm, ⟨102, _⟩ => ⟨S2x16x2x4x128x1, .f32⟩
  | .hbm, ⟨103, _⟩ => ⟨S2x16x2x4x128x1, .f32⟩
  | .hbm, ⟨104, _⟩ => ⟨S2x16x2x4x128x1, .f32⟩
  | .hbm, ⟨105, _⟩ => ⟨S2x16x2x4x128x384, .f32⟩
  | .hbm, ⟨106, _⟩ => ⟨S2x16x2x4x128x384, .f32⟩
  | .hbm, ⟨107, _⟩ => ⟨S2x16x2x4x128x384, .f32⟩
  | .hbm, ⟨108, _⟩ => ⟨S2x16x2x4x128x1, .f32⟩
  | .hbm, ⟨109, _⟩ => ⟨S2x16x2x4x128x1, .f32⟩
  | .hbm, ⟨110, _⟩ => ⟨S2x16x2x4x128x1, .f32⟩
  | .hbm, ⟨111, _⟩ => ⟨S_, .f32⟩
  | .hbm, ⟨112, _⟩ => ⟨S2x16x2x4x128, .f32⟩
  | .hbm, ⟨113, _⟩ => ⟨S2x16x2x4x128x1, .f32⟩
  | .hbm, ⟨114, _⟩ => ⟨S2x16x2x4x128x1, .f32⟩
  | .hbm, ⟨115, _⟩ => ⟨S2x16x2x4x128x384, .f32⟩
  | .hbm, ⟨116, _⟩ => ⟨S2x16x2x4x128x384, .f32⟩
  | .hbm, ⟨117, _⟩ => ⟨S2x16x2x64x4x128, .f32⟩
  | .hbm, ⟨118, _⟩ => ⟨S2x16x128x2x4x64, .f32⟩
  | .hbm, ⟨119, _⟩ => ⟨S2x2048x512, .f32⟩
  | .hbm, ⟨120, _⟩ => ⟨S2x16x2x4x128x1, .f32⟩
  | .hbm, ⟨121, _⟩ => ⟨S2x2x16x4x128x384, .f32⟩
  | .hbm, ⟨122, _⟩ => ⟨S2x2x16x512x384, .f32⟩
  | .hbm, ⟨123, _⟩ => ⟨S2x2x16x4x128x1, .f32⟩
  | .hbm, ⟨124, _⟩ => ⟨S2x2x16x512x1, .f32⟩
  | .hbm, ⟨125, _⟩ => ⟨S2x2048x512, .bf16⟩
  | .hbm, ⟨126, _⟩ => ⟨S2x2x16x512x384, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_c_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_cst_8 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]
-- ==== Ln1.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S4096x512, .bf16⟩
  | .hbm, ⟨7, _⟩ => ⟨S4096x512, .bf16⟩
  | .hbm, ⟨8, _⟩ => ⟨S1024x1024, .bf16⟩
  | .hbm, ⟨9, _⟩ => ⟨S4096x1024, .f32⟩
  | .hbm, ⟨10, _⟩ => ⟨S4096x1, .f32⟩
  | .hbm, ⟨11, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Ln1RefIdeal.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Dx.lean ====
abbrev S4096x1024 : Shape := ⟨2, ![4096, 1024]⟩
abbrev S4096x512 : Shape := ⟨2, ![4096, 512]⟩
abbrev S4096x256 : Shape := ⟨2, ![4096, 256]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512x256 : Shape := ⟨2, ![512, 256]⟩
abbrev S64x1024 : Shape := ⟨2, ![64, 1024]⟩
abbrev S256x1024 : Shape := ⟨2, ![256, 1024]⟩

abbrev nBuf : Space → Nat
  | .hbm => 17
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x256, .f32⟩
  | .hbm, ⟨7, _⟩ => ⟨S1024x2816, .f32⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x256, .bf16⟩
  | .hbm, ⟨14, _⟩ => ⟨S2816x1024, .f32⟩
  | .hbm, ⟨15, _⟩ => ⟨S2816x1024, .bf16⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x256, .bf16⟩
  | .local _ .vmem, ⟨13, _⟩ => ⟨S512x256, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DxRefIdeal.lean ====
abbrev S4096x1024 : Shape := ⟨2, ![4096, 1024]⟩
abbrev S4096x512 : Shape := ⟨2, ![4096, 512]⟩
abbrev S4096x256 : Shape := ⟨2, ![4096, 256]⟩
abbrev S1024x2816 : Shape := ⟨2, ![1024, 2816]⟩
abbrev S4096x64 : Shape := ⟨2, ![4096, 64]⟩
abbrev S4096x128 : Shape := ⟨2, ![4096, 128]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x256, .f32⟩
  | .hbm, ⟨7, _⟩ => ⟨S1024x2816, .f32⟩
  | .hbm, ⟨8, _⟩ => ⟨S4096x64, .f32⟩
  | .hbm, ⟨9, _⟩ => ⟨S4096x64, .f32⟩
  | .hbm, ⟨10, _⟩ => ⟨S4096x128, .f32⟩
  | .hbm, ⟨11, _⟩ => ⟨S4096x64, .f32⟩
  | .hbm, ⟨12, _⟩ => ⟨S4096x64, .f32⟩
  | .hbm, ⟨13, _⟩ => ⟨S4096x128, .f32⟩
  | .hbm, ⟨14, _⟩ => ⟨S4096x2816, .f32⟩
  | .hbm, ⟨15, _⟩ => ⟨S_, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Inproj.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InprojRefIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dffn.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x1024, .bf16⟩
  | .hbm, ⟨9, _⟩ => ⟨S4096x1024, .bf16⟩
  | .hbm, ⟨10, _⟩ => ⟨S2816x1024, .f32⟩
  | .hbm, ⟨11, _⟩ => ⟨S2816x1024, .f32⟩
  | .hbm, ⟨12, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .f32⟩
  | .local _ .vmem, ⟨11, _⟩ => ⟨S1408x1024, .f32⟩
  | .local _ .vmem, ⟨12, _⟩ => ⟨S1408x1024, .f32⟩
  | .local _ .vmem, ⟨13, _⟩ => ⟨S1408x1024, .f32⟩
  | .local _ .vmem, ⟨14, _⟩ => ⟨S1408x1024, .f32⟩
  | .local _ .vmem, ⟨15, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DffnRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x2816, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S2816x1024, .f32⟩
  | .hbm, ⟨8, _⟩ => ⟨S4096x2816, .f32⟩
  | .hbm, ⟨9, _⟩ => ⟨S4096x2816, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Ffn.Block.lean ====
/- What one grid point of the feed-forward backward call computes from its blocks: the gate and up gradients
   chunk by chunk, the running gradient of the normed input, and the layer norm's gradient on its rows. -/
module

public import proofs.«01_k».proof.Proof.Gen.FfnIdeal.Skeleton
public import Idealize.ShloMosaic.Lib.Pipeline.Value

@[expose] public section

noncomputable section

namespace Cert.Proof.Ffn

open Idealize.ShloMosaic Idealize.SL.Sem Cert.FfnIdeal Cert.FfnIdeal.Gen

/-- The blocks one grid point reads: its rows of the eight inputs and the five whole weights. -/
structure Blk (F : FTy → Type) where
  dz : Vec F S256x1024 .f32
  gs : Vec F S256x2816 .bf16
  us : Vec F S256x2816 .bf16
  pg : Vec F S256x1024 .bf16
  ple : Vec F S256x1024 .bf16
  zh : Vec F S256x1024 .f32
  r : Vec F S256x1 .f32
  g1 : Vec F S1x1024 .f32
  wg : Vec F S2816x1024 .bf16
  wu : Vec F S2816x1024 .bf16
  wd : Vec F S2816x1024 .bf16
  wpg : Vec F S1024x1024 .bf16
  wo : Vec F S1024x1024 .bf16

/-- The columns of chunk `n` of a hidden block. -/
def colRect (n : Fin 11) : Rect S256x2816 := Rect.unit ![0, 256 * n.val] S256x256.size (by
  have := n.isLt
  intro a; match a with | ⟨0, _⟩ => show 0 + 256 ≤ 256; omega | ⟨1, _⟩ => show 256 * n.val + 256 ≤ 2816; omega)

/-- The rows of chunk `n` of a weight with the hidden axis first. -/
def rowRect (n : Fin 11) : Rect S2816x1024 := Rect.unit ![256 * n.val, 0] S256x1024.size (by
  have := n.isLt
  intro a; match a with | ⟨0, _⟩ => show 256 * n.val + 256 ≤ 2816; omega | ⟨1, _⟩ => show 0 + 1024 ≤ 1024; omega)

variable {F : FTy → Type} [FloatOps F]

/-! The chunks' payloads are one computation each. -/

theorem same_dg : k0_pay23 (F := F) = k0_pay17 ∧ k0_pay29 (F := F) = k0_pay17 ∧ k0_pay35 (F := F) = k0_pay17 ∧ k0_pay41 (F := F) = k0_pay17 ∧ k0_pay47 (F := F) = k0_pay17 ∧ k0_pay53 (F := F) = k0_pay17 ∧ k0_pay59 (F := F) = k0_pay17 ∧ k0_pay65 (F := F) = k0_pay17 ∧ k0_pay71 (F := F) = k0_pay17 :=
  ⟨rfl, rfl, rfl, rfl, rfl, rfl, rfl, rfl, rfl⟩
theorem same_du : k0_pay24 (F := F) = k0_pay18 ∧ k0_pay30 (F := F) = k0_pay18 ∧ k0_pay36 (F := F) = k0_pay18 ∧ k0_pay42 (F := F) = k0_pay18 ∧ k0_pay48 (F := F) = k0_pay18 ∧ k0_pay54 (F := F) = k0_pay18 ∧ k0_pay60 (F := F) = k0_pay18 ∧ k0_pay66 (F := F) = k0_pay18 ∧ k0_pay72 (F := F) = k0_pay18 :=
  ⟨rfl, rfl, rfl, rfl, rfl, rfl, rfl, rfl, rfl⟩
theorem same_dh : k0_pay25 (F := F) = (fun a b h w v => k0_pay19 h a b w v) ∧ k0_pay31 (F := F) = k0_pay25 ∧ k0_pay37 (F := F) = k0_pay25 ∧ k0_pay43 (F := F) = k0_pay25 ∧ k0_pay49 (F := F) = k0_pay25 ∧ k0_pay55 (F := F) = k0_pay25 ∧ k0_pay61 (F := F) = k0_pay25 ∧ k0_pay67 (F := F) = k0_pay25 :=
  ⟨rfl, rfl, rfl, rfl, rfl, rfl, rfl, rfl⟩
theorem first_dg (dz : Vec F S256x1024 .f32) (w : Vec F S256x1024 .bf16) (g u : Vec F S256x256 .bf16) :
    k0_pay12 (k0_pay9 g) (k0_pay10 g) (k0_pay11 dz w u) = k0_pay17 (k0_pay6 dz) w g u := rfl
theorem first_du (dz : Vec F S256x1024 .f32) (w : Vec F S256x1024 .bf16) (g : Vec F S256x256 .bf16) :
    k0_pay13 (k0_pay8 dz w) (k0_pay9 g) (k0_pay10 g) = k0_pay18 (k0_pay6 dz) w g := rfl

namespace Blk
variable (b : Blk F)

/-- The gradient of the gate's input on chunk `n`. -/
def dg (n : Fin 11) : FVec F S256x256 .bf16 :=
  k0_pay17 (k0_pay6 b.dz) (View.ld (Val := Elt F) b.wd (rowRect n)) (View.ld (Val := Elt F) b.gs (colRect n)) (View.ld (Val := Elt F) b.us (colRect n))

/-- The gradient of the up projection on chunk `n`. -/
def du (n : Fin 11) : FVec F S256x256 .bf16 :=
  k0_pay18 (k0_pay6 b.dz) (View.ld (Val := Elt F) b.wd (rowRect n)) (View.ld (Val := Elt F) b.gs (colRect n))

/-- The gradient of the normed input after the first `n` chunks. -/
def dhTo : Nat → FVec F S256x1024 .f32
  | 0 => k0_pay7 b.dz
  | n + 1 => k0_pay19 (dhTo n) (b.dg (Fin.ofNat 11 n)) (b.du (Fin.ofNat 11 n))
      (View.ld (Val := Elt F) b.wg (rowRect (Fin.ofNat 11 n))) (View.ld (Val := Elt F) b.wu (rowRect (Fin.ofNat 11 n)))

/-- The gradient of the normed input: all chunks and the gate of the embeddings. -/
def dh : FVec F S256x1024 .f32 :=
  k0_pay76 b.dz (b.dg 9) (b.du 9) (b.dhTo 9) (b.dg 10) (b.du 10)
    (View.ld (Val := Elt F) b.wg (rowRect 9)) (View.ld (Val := Elt F) b.wu (rowRect 9))
    (View.ld (Val := Elt F) b.wg (rowRect 10)) (View.ld (Val := Elt F) b.wu (rowRect 10)) b.pg b.ple b.wpg

/-- The hidden column a chunk and a column in it name, read back from the column. -/
def chunkOf (k : Fin 2816) : Fin 11 := ⟨k.val / 256, by have := k.isLt; omega⟩
def inChunk (k : Fin 2816) : Fin 256 := ⟨k.val % 256, Nat.mod_lt _ (by decide)⟩

/-- The nine blocks it leaves. -/
def dgs : Vec F S256x2816 .bf16 := fun i => b.dg (chunkOf (i 1)) (fun a => match a with | ⟨0, _⟩ => i 0 | ⟨1, _⟩ => inChunk (i 1))
def dus : Vec F S256x2816 .bf16 := fun i => b.du (chunkOf (i 1)) (fun a => match a with | ⟨0, _⟩ => i 0 | ⟨1, _⟩ => inChunk (i 1))
def dsp : Vec F S256x1024 .bf16 := k0_pay75 b.dz b.pg b.ple
def dple : Vec F S256x1024 .bf16 := k0_pay74 b.dz b.pg
def dz1 : Vec F S256x1024 .f32 := k0_pay80 b.dh (k0_pay77 b.zh) b.g1 b.r
def dz1b : Vec F S256x1024 .bf16 := k0_pay81 b.dh (k0_pay77 b.zh) b.g1 b.r
def dyr : Vec F S256x512 .bf16 := k0_pay2 b.dz1b b.wo
def dya : Vec F S256x512 .bf16 := k0_pay3 b.dz1b b.wo
def dg1 (prev : Vec F S1x1024 .f32) : Vec F S1x1024 .f32 := k0_pay78 b.dh (k0_pay77 b.zh) prev
def db1 (prev : Vec F S1x1024 .f32) : Vec F S1x1024 .f32 := k0_pay79 b.dh prev

theorem chunk_coords (n : Fin 11) (x : (colRect n).shape.Idx) :
    chunkOf ((colRect n).emb x 1) = n ∧ (fun a : Fin 2 => match a with | ⟨0, _⟩ => (colRect n).emb x 0 | ⟨1, _⟩ => inChunk ((colRect n).emb x 1) : S256x256.Idx) = x := by
  have h0 : ((colRect n).emb x 0).val = (x 0).val := by show 0 + 1 * (x 0).val = _; omega
  have h1 : ((colRect n).emb x 1).val = 256 * n.val + (x 1).val := by show 256 * n.val + 1 * (x 1).val = _; omega
  have hx : (x 1).val < 256 := (x 1).isLt
  refine ⟨Fin.ext ?_, funext fun a => Fin.ext ?_⟩
  · show ((colRect n).emb x 1).val / 256 = n.val; omega
  · match a with
    | ⟨0, _⟩ => exact h0
    | ⟨1, _⟩ => show ((colRect n).emb x 1).val % 256 = (x 1).val; omega

/-- Read through a chunk's columns the hidden gradients are the chunk's own. -/
theorem dgs_chunk (n : Fin 11) (x : (colRect n).shape.Idx) : b.dg n x = b.dgs ((colRect n).emb x) := by
  unfold dgs; rw [(chunk_coords n x).1]; exact congrArg _ (chunk_coords n x).2.symm

theorem dus_chunk (n : Fin 11) (x : (colRect n).shape.Idx) : b.du n x = b.dus ((colRect n).emb x) := by
  unfold dus; rw [(chunk_coords n x).1]; exact congrArg _ (chunk_coords n x).2.symm

end Blk

end Cert.Proof.Ffn
-- ==== Proof.Ffn.Body.lean ====
/- The run of one grid point of the feed-forward backward call: at the first point, which copies the weights in
   and clears the two bias rows, and at every later point, which finds them there. -/
module

public import proofs.«01_k».proof.Proof.Gen.FfnIdeal.Frame.Runs
public import proofs.«01_k».proof.Proof.Ffn.Block

@[expose] public section

set_option maxRecDepth 16384

noncomputable section

namespace Cert.Proof.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal Cert.FfnIdeal.Gen

variable {F : FTy → Type} [FloatOps F]

local notation "𝕄" => MT nD τ sig Unit (Elt F) ℕ (Pipeline.UD sig nD τ) ℕ

/-- The staging and scratch memory the body is called with. -/
structure Mems where
  arg1 : Memref sig .tc .vmem S256x1024 .f32
  harg1 : arg1.IsWhole
  arg2 : Memref sig .tc .vmem S256x2816 .bf16
  harg2 : arg2.IsWhole
  arg3 : Memref sig .tc .vmem S256x2816 .bf16
  harg3 : arg3.IsWhole
  arg4 : Memref sig .tc .vmem S256x1024 .bf16
  harg4 : arg4.IsWhole
  arg5 : Memref sig .tc .vmem S256x1024 .bf16
  harg5 : arg5.IsWhole
  arg6 : Memref sig .tc .vmem S256x1024 .f32
  harg6 : arg6.IsWhole
  arg7 : Memref sig .tc .vmem S256x1 .f32
  harg7 : arg7.IsWhole
  arg8 : Memref sig .tc .vmem S1x1024 .f32
  harg8 : arg8.IsWhole
  arg14 : Memref sig .tc .vmem S256x2816 .bf16
  harg14 : arg14.IsWhole
  arg15 : Memref sig .tc .vmem S256x2816 .bf16
  harg15 : arg15.IsWhole
  arg16 : Memref sig .tc .vmem S256x1024 .bf16
  harg16 : arg16.IsWhole
  arg17 : Memref sig .tc .vmem S256x1024 .bf16
  harg17 : arg17.IsWhole
  arg18 : Memref sig .tc .vmem S256x1024 .f32
  harg18 : arg18.IsWhole
  arg19 : Memref sig .tc .vmem S256x512 .bf16
  harg19 : arg19.IsWhole
  arg20 : Memref sig .tc .vmem S256x512 .bf16
  harg20 : arg20.IsWhole
  arg21 : Memref sig .tc .vmem S1x1024 .f32
  harg21 : arg21.IsWhole
  arg22 : Memref sig .tc .vmem S1x1024 .f32
  harg22 : arg22.IsWhole
  arg23 : Memref sig .tc .vmem S2816x1024 .bf16
  harg23 : arg23.IsWhole
  arg24 : Memref sig .tc .vmem S2816x1024 .bf16
  harg24 : arg24.IsWhole
  arg25 : Memref sig .tc .vmem S2816x1024 .bf16
  harg25 : arg25.IsWhole
  arg26 : Memref sig .tc .vmem S1024x1024 .bf16
  harg26 : arg26.IsWhole
  arg27 : Memref sig .tc .vmem S1024x1024 .bf16
  harg27 : arg27.IsWhole

/-- The eight inputs' blocks in their staging memory. -/
def ins (c : Dev nD) (M : Mems) (b : Blk F) : sProp 𝕄 :=
  iprop(owns (c : Thread nD τ) M.arg1 fullShare b.dz ∗ owns (c : Thread nD τ) M.arg2 fullShare b.gs ∗
    owns (c : Thread nD τ) M.arg3 fullShare b.us ∗ owns (c : Thread nD τ) M.arg4 fullShare b.pg ∗
    owns (c : Thread nD τ) M.arg5 fullShare b.ple ∗ owns (c : Thread nD τ) M.arg6 fullShare b.zh ∗
    owns (c : Thread nD τ) M.arg7 fullShare b.r ∗ owns (c : Thread nD τ) M.arg8 fullShare b.g1)

/-- The nine results' staging memory, each at some contents. -/
def outsAny (c : Dev nD) (M : Mems) : sProp 𝕄 :=
  iprop((∃ d, owns (c : Thread nD τ) M.arg14 fullShare d) ∗ (∃ d, owns (c : Thread nD τ) M.arg15 fullShare d) ∗
    (∃ d, owns (c : Thread nD τ) M.arg16 fullShare d) ∗ (∃ d, owns (c : Thread nD τ) M.arg17 fullShare d) ∗
    (∃ d, owns (c : Thread nD τ) M.arg18 fullShare d) ∗ (∃ d, owns (c : Thread nD τ) M.arg19 fullShare d) ∗
    (∃ d, owns (c : Thread nD τ) M.arg20 fullShare d) ∗ (∃ d, owns (c : Thread nD τ) M.arg21 fullShare d) ∗
    (∃ d, owns (c : Thread nD τ) M.arg22 fullShare d))

/-- The same with the two bias rows at known contents. -/
def outsKept (c : Dev nD) (M : Mems) (p q : Vec F S1x1024 .f32) : sProp 𝕄 :=
  iprop((∃ d, owns (c : Thread nD τ) M.arg14 fullShare d) ∗ (∃ d, owns (c : Thread nD τ) M.arg15 fullShare d) ∗
    (∃ d, owns (c : Thread nD τ) M.arg16 fullShare d) ∗ (∃ d, owns (c : Thread nD τ) M.arg17 fullShare d) ∗
    (∃ d, owns (c : Thread nD τ) M.arg18 fullShare d) ∗ (∃ d, owns (c : Thread nD τ) M.arg19 fullShare d) ∗
    (∃ d, owns (c : Thread nD τ) M.arg20 fullShare d) ∗ owns (c : Thread nD τ) M.arg21 fullShare p ∗
    owns (c : Thread nD τ) M.arg22 fullShare q)

/-- What a grid point leaves in the results' staging memory, from the bias rows before it. -/
def outs (c : Dev nD) (M : Mems) (b : Blk F) (p q : Vec F S1x1024 .f32) : sProp 𝕄 :=
  iprop(owns (c : Thread nD τ) M.arg14 fullShare b.dgs ∗ owns (c : Thread nD τ) M.arg15 fullShare b.dus ∗
    owns (c : Thread nD τ) M.arg16 fullShare b.dsp ∗ owns (c : Thread nD τ) M.arg17 fullShare b.dple ∗
    owns (c : Thread nD τ) M.arg18 fullShare b.dz1 ∗ owns (c : Thread nD τ) M.arg19 fullShare b.dyr ∗
    owns (c : Thread nD τ) M.arg20 fullShare b.dya ∗ owns (c : Thread nD τ) M.arg21 fullShare (b.dg1 p) ∗
    owns (c : Thread nD τ) M.arg22 fullShare (b.db1 q))

/-- The resident weights' memory at some contents, and holding the weights. -/
def scrAny (c : Dev nD) (M : Mems) : sProp 𝕄 :=
  iprop((∃ d, owns (c : Thread nD τ) M.arg23 fullShare d) ∗ (∃ d, owns (c : Thread nD τ) M.arg24 fullShare d) ∗
    (∃ d, owns (c : Thread nD τ) M.arg25 fullShare d) ∗ (∃ d, owns (c : Thread nD τ) M.arg26 fullShare d) ∗
    (∃ d, owns (c : Thread nD τ) M.arg27 fullShare d))
def scr (c : Dev nD) (M : Mems) (b : Blk F) : sProp 𝕄 :=
  iprop(owns (c : Thread nD τ) M.arg23 fullShare b.wg ∗ owns (c : Thread nD τ) M.arg24 fullShare b.wu ∗
    owns (c : Thread nD τ) M.arg25 fullShare b.wd ∗ owns (c : Thread nD τ) M.arg26 fullShare b.wpg ∗
    owns (c : Thread nD τ) M.arg27 fullShare b.wo)

/-- The copies' cells at zero, and the weights in the large memory. -/
def cells (c : Dev nD) : sProp 𝕄 :=
  iprop(semVal ((c : Thread nD τ), SemLoc.dma 31) 0 ∗ semVal ((c : Thread nD τ), SemLoc.dma 32) 0 ∗
    semVal ((c : Thread nD τ), SemLoc.dma 33) 0 ∗ semVal ((c : Thread nD τ), SemLoc.dma 34) 0 ∗
    semVal ((c : Thread nD τ), SemLoc.dma 35) 0 ∗ semVal ((c : Thread nD τ), SemLoc.dma 36) 0 ∗
    semVal ((c : Thread nD τ), SemLoc.dma 37) 0 ∗ semVal ((c : Thread nD τ), SemLoc.dma 38) 0 ∗
    semVal ((c : Thread nD τ), SemLoc.dma 39) 0 ∗ semVal ((c : Thread nD τ), SemLoc.dma 40) 0 ∗
    semVal ((c : Thread nD τ), SemLoc.dma 41) 0 ∗ semVal ((c : Thread nD τ), SemLoc.dma 42) 0 ∗
    semVal ((c : Thread nD τ), SemLoc.dma 43) 0 ∗ semVal ((c : Thread nD τ), SemLoc.dma 44) 0)
def hbm (c : Dev nD) (b : Blk F) : sProp 𝕄 :=
  iprop(hbPt0 c hbM0_0 b.wg ∗ hbPt0 c hbM0_1 b.wu ∗ hbPt0 c hbM0_2 b.wd ∗ hbPt0 c hbM0_3 b.wpg ∗ hbPt0 c hbM0_4 b.wo)

/-- The body on the memory `M`. -/
def body (i : grid0.Coords) (M : Mems) : Prog (TpuEff nD τ sig (Elt F) Λ₀ .tc) PUnit :=
  cc0_ffn_bwd i M.arg1 M.harg1 M.arg2 M.harg2 M.arg3 M.harg3 M.arg4 M.harg4 M.arg5 M.harg5 M.arg6 M.harg6 M.arg7 M.harg7 M.arg8 M.harg8 (Memref.whole main_v38) (Memref.isWhole_whole _) (Memref.whole main_v40) (Memref.isWhole_whole _)
    (Memref.whole main_v45) (Memref.isWhole_whole _) (Memref.whole main_v46) (Memref.isWhole_whole _)
    (Memref.whole main_v47) (Memref.isWhole_whole _) M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 cc0_scratch5

/-! ### What loads and stores of the body read -/

theorem zeros : (![0, 0] : Fin 2 → Nat) = fun _ => 0 := funext fun a => match a with | ⟨0, _⟩ => rfl | ⟨1, _⟩ => rfl

/-- A load of a whole rank-two block reads its contents. -/
theorem ld_all {e : EltTy} {m n : Nat} (X : (⟨2, ![m, n]⟩ : Shape).Idx → Elt F e) (inb) :
    View.ld X (Rect.unit (s := ⟨2, ![m, n]⟩) ![0, 0] ![m, n] inb) = X := View.ld_unit_zero zeros inb X

/-- A buffer that one whole store filled reads what was stored. -/
theorem read_all {e : EltTy} {m n : Nat} {κ : Kind} {sp : Space} (v : View sig κ sp ⟨2, ![m, n]⟩ e) (f : v.ty.Contents (Elt F)) (inb)
    (w : (⟨2, ![m, n]⟩ : Shape).Idx → Elt F e) (L : List (View.Piece (Elt F) ⟨2, ![m, n]⟩ e)) :
    v.read (Elt F) (v.writes (Elt F) f (⟨Rect.unit (s := ⟨2, ![m, n]⟩) ![0, 0] ![m, n] inb, w⟩ :: L)) = w := by
  have cover : ∀ y, ∃ p ∈ (⟨Rect.unit (s := ⟨2, ![m, n]⟩) ![0, 0] ![m, n] inb, w⟩ :: L : List (View.Piece (Elt F) ⟨2, ![m, n]⟩ e)), y ∈ p.1.set :=
    fun y => ⟨_, List.mem_cons_self, View.mem_set_unit_zero zeros inb y⟩
  rw [View.read_writes_eq_canon _ _ _ cover]
  exact View.canon_cons_unit_zero zeros inb w L

/-- Membership in a rectangle of a rank-two shape, coordinate by coordinate. -/
theorem mem_rect {m n o₀ o₁ s₀ s₁ : Nat} (inb) (y : (⟨2, ![m, n]⟩ : Shape).Idx) (h₀ : o₀ ≤ (y 0).val) (h₀' : (y 0).val < o₀ + s₀)
    (h₁ : o₁ ≤ (y 1).val) (h₁' : (y 1).val < o₁ + s₁) : y ∈ (Rect.unit (s := ⟨2, ![m, n]⟩) ![o₀, o₁] ![s₀, s₁] inb).set :=
  Rect.mem_set_unit.2 fun a => match a with | ⟨0, _⟩ => ⟨h₀, h₀'⟩ | ⟨1, _⟩ => ⟨h₁, h₁'⟩

/-- The rows one of the four copies of a weight moves. -/
abbrev quarterRect (q : Fin 4) : Rect S2816x1024 := Rect.unit ![704 * q.val, 0] S704x1024.size (by
  have := q.isLt
  intro a; match a with | ⟨0, _⟩ => show 704 * q.val + 704 ≤ 2816; omega | ⟨1, _⟩ => show 0 + 1024 ≤ 1024; omega)

/-- A weight in four quarters of its rows. -/
abbrev quarters (W : Vec F S2816x1024 .bf16) : List (View.Piece (Elt F) S2816x1024 .bf16) :=
  [⟨quarterRect 3, View.ld W (quarterRect 3)⟩, ⟨quarterRect 2, View.ld W (quarterRect 2)⟩,
   ⟨quarterRect 1, View.ld W (quarterRect 1)⟩, ⟨quarterRect 0, View.ld W (quarterRect 0)⟩]

theorem mem_quarters (W : Vec F S2816x1024 .bf16) (p : View.Piece (Elt F) S2816x1024 .bf16) :
    p ∈ quarters W ↔ ∃ q, p = ⟨quarterRect q, View.ld W (quarterRect q)⟩ := by
  refine ⟨fun h => ?_, ?_⟩
  · simp only [quarters, List.mem_cons, List.not_mem_nil, or_false] at h
    rcases h with h | h | h | h <;> exact ⟨_, h⟩
  · rintro ⟨q, rfl⟩
    fin_cases q <;> simp [quarters]

theorem quarters_cover (W : Vec F S2816x1024 .bf16) (y : S2816x1024.Idx) : ∃ p ∈ quarters W, y ∈ p.1.set := by
  have h0 : (y 0).val < 2816 := (y 0).isLt
  have h1 : (y 1).val < 1024 := (y 1).isLt
  have mem : ∀ q : Fin 4, 704 * q.val ≤ (y 0).val → (y 0).val < 704 * q.val + 704 → y ∈ (quarterRect q).set := fun q lo hi =>
    mem_rect _ y lo hi (Nat.zero_le _) (by omega)
  let q : Fin 4 := ⟨(y 0).val / 704, by omega⟩
  refine ⟨⟨quarterRect q, View.ld W (quarterRect q)⟩, (mem_quarters W _).2 ⟨q, rfl⟩, mem q ?_ ?_⟩
  · show 704 * ((y 0).val / 704) ≤ _; omega
  · show _ < 704 * ((y 0).val / 704) + 704; omega

theorem canon_quarters (W : Vec F S2816x1024 .bf16) : View.canon (quarters W) = W :=
  funext fun y => View.canon_apply_of_pieces W _ (by
    intro p hp x
    obtain ⟨q, rfl⟩ := (mem_quarters W p).1 hp
    rfl) y (quarters_cover W y)

/-- After the four copies the memory holds the weight, -/
theorem read_quarters {κ : Kind} {sp : Space} (v : View sig κ sp S2816x1024 .bf16) (f : v.ty.Contents (Elt F)) (W : Vec F S2816x1024 .bf16) :
    v.read (Elt F) (v.writes (Elt F) f (quarters W)) = W := by
  rw [View.read_writes_eq_canon _ _ _ (quarters_cover W), canon_quarters]

/-- and a load from it reads the weight's rows. -/
theorem readCov_quarters {κ : Kind} {sp : Space} (v : View sig κ sp S2816x1024 .bf16) (W : Vec F S2816x1024 .bf16) (r : Rect S2816x1024) :
    v.readCov (quarters W) r.toLoadRect = View.ld W r := by
  rw [View.readCov_eq_canon_ld _ _ _ (quarters_cover W), canon_quarters]

/-- The same read where each quarter is spelt as the copy's own read of the weight's memory. -/
theorem readCov_copies {κ κ' : Kind} {sp sp' : Space} (v : View sig κ sp S2816x1024 .bf16) (H : View sig κ' sp' S2816x1024 .bf16) (X : H.ty.Contents (Elt F))
    (i₀ i₁ i₂ i₃) (r : Rect S2816x1024) :
    v.readCov
      [⟨Rect.unit ![2112, 0] ![704, 1024] i₃, (ReadAs.same : ReadAs (Elt F) S704x1024 .bf16 S704x1024 .bf16).apply (View.read (Elt F) (H.slice (Rect.unit ![2112, 0] ![704, 1024] i₃)) X)⟩,
       ⟨Rect.unit ![1408, 0] ![704, 1024] i₂, (ReadAs.same : ReadAs (Elt F) S704x1024 .bf16 S704x1024 .bf16).apply (View.read (Elt F) (H.slice (Rect.unit ![1408, 0] ![704, 1024] i₂)) X)⟩,
       ⟨Rect.unit ![704, 0] ![704, 1024] i₁, (ReadAs.same : ReadAs (Elt F) S704x1024 .bf16 S704x1024 .bf16).apply (View.read (Elt F) (H.slice (Rect.unit ![704, 0] ![704, 1024] i₁)) X)⟩,
       ⟨Rect.unit ![0, 0] ![704, 1024] i₀, (ReadAs.same : ReadAs (Elt F) S704x1024 .bf16 S704x1024 .bf16).apply (View.read (Elt F) (H.slice (Rect.unit ![0, 0] ![704, 1024] i₀)) X)⟩]
      r.toLoadRect = View.ld (H.read (Elt F) X) r :=
  readCov_quarters v (H.read (Elt F) X) r

/-- A square weight is copied whole. -/
theorem read_copy {κ : Kind} {sp : Space} (v : View sig κ sp S1024x1024 .bf16) (f : v.ty.Contents (Elt F)) (X : Vec F S1024x1024 .bf16) :
    v.read (Elt F) (v.writes (Elt F) f [⟨Rect.whole S1024x1024, X⟩]) = X := by
  have cover : ∀ y, ∃ p ∈ ([⟨Rect.whole S1024x1024, X⟩] : List (View.Piece (Elt F) S1024x1024 .bf16)), y ∈ p.1.set :=
    fun y => ⟨_, List.mem_cons_self, by show y ∈ (Rect.whole S1024x1024).set; rw [Rect.set_whole]; exact Finset.mem_univ y⟩
  rw [View.read_writes_eq_canon _ _ _ cover]
  funext y
  have e := View.canon_cons_emb (Val := Elt F) (Rect.whole S1024x1024) X [] y
  rw [Rect.emb_whole_apply] at e
  exact e

theorem readCov_copy {κ : Kind} {sp : Space} (v : View sig κ sp S1024x1024 .bf16) (X : Vec F S1024x1024 .bf16) (inb) :
    v.readCov [⟨Rect.whole S1024x1024, X⟩] (Rect.unit (s := S1024x1024) ![0, 0] ![1024, 1024] inb).toLoadRect = X := by
  have e := read_copy v v.junk X
  exact (ld_all (F := F) (e := .bf16) _ inb).trans e

/-- The eleven chunks of a hidden block. -/
abbrev chunks (G : Fin 11 → FVec F S256x256 .bf16) : List (View.Piece (Elt F) S256x2816 .bf16) :=
  [⟨colRect 10, G 10⟩, ⟨colRect 9, G 9⟩, ⟨colRect 8, G 8⟩, ⟨colRect 7, G 7⟩, ⟨colRect 6, G 6⟩, ⟨colRect 5, G 5⟩,
   ⟨colRect 4, G 4⟩, ⟨colRect 3, G 3⟩, ⟨colRect 2, G 2⟩, ⟨colRect 1, G 1⟩, ⟨colRect 0, G 0⟩]

theorem mem_chunks (G : Fin 11 → FVec F S256x256 .bf16) (p : View.Piece (Elt F) S256x2816 .bf16) :
    p ∈ chunks G ↔ ∃ n, p = ⟨colRect n, G n⟩ := by
  constructor
  · intro h
    simp only [chunks, List.mem_cons, List.not_mem_nil, or_false] at h
    rcases h with h | h | h | h | h | h | h | h | h | h | h <;> exact ⟨_, h⟩
  · rintro ⟨n, rfl⟩
    fin_cases n <;> simp [chunks]

/-- A hidden block stored chunk by chunk. -/
theorem read_chunks {κ : Kind} {sp : Space} (v : View sig κ sp S256x2816 .bf16) (f : v.ty.Contents (Elt F)) (G : Fin 11 → FVec F S256x256 .bf16)
    (X : Vec F S256x2816 .bf16) (hX : ∀ n x, G n x = X ((colRect n).emb x)) :
    v.read (Elt F) (v.writes (Elt F) f (chunks G)) = X := by
  have cover : ∀ y : S256x2816.Idx, ∃ p ∈ chunks G, y ∈ p.1.set := fun y => by
    have h0 : (y 0).val < 256 := (y 0).isLt
    have h1 : (y 1).val < 2816 := (y 1).isLt
    let q : Fin 11 := ⟨(y 1).val / 256, by omega⟩
    refine ⟨⟨colRect q, G q⟩, (mem_chunks G _).2 ⟨q, rfl⟩, ?_⟩
    show y ∈ (colRect q).set
    unfold colRect
    exact mem_rect _ y (Nat.zero_le _) (by omega) (by show 256 * ((y 1).val / 256) ≤ _; omega) (by show _ < 256 * ((y 1).val / 256) + 256; omega)
  rw [View.read_writes_eq_canon _ _ _ cover]
  refine funext fun y => View.canon_apply_of_pieces X _ (fun p hp x => ?_) y (cover y)
  obtain ⟨n, rfl⟩ := (mem_chunks G p).1 hp
  exact hX n x

/-- A buffer's contents handed over by what they read. -/
theorem held (c : Dev nD) {sp : Space} {S : Shape} {e : EltTy} (M : Memref sig .tc sp S e) {f : BufTy.Contents (Elt F) M.view.ty} {x : S.Idx → Elt F e}
    (h : M.view.read (Elt F) f = x) :
    (M.view.loc (c : Thread nD τ) ↦[M.view.set]{fullShare} f : sProp 𝕄) ⊢
      iprop(∃ f, ⌜M.view.read (Elt F) f = x⌝ ∗ M.view.loc (c : Thread nD τ) ↦[M.view.set]{fullShare} f) := by
  iintro H
  iexists _; isplitr; · ipureintro; exact h
  iexact H

set_option maxHeartbeats 4000000 in set_option sl_exec.dmaWindow true in set_option sl_exec.dmaWindowSet true in
/-- The first grid point copies the weights in, clears the bias rows and leaves its blocks. -/
theorem first_point (c : Dev nD) (i : grid0.Coords) (M : Mems) (b : Blk F) (hc0 : cond0_0 i) (hc1 : cond0_1 i) (W : Waits sig Unit) (K : PUnit → sProp 𝕄) :
    iprop(ins c M b ∗ outsAny c M ∗ scrAny c M ∗ cells c ∗ hbm c b ∗ owes (c : Thread nD τ) 0 W ∗
      (iprop(ins c M b ∗ outs c M b k0_pay4 k0_pay5 ∗ scr c M b ∗ cells c ∗ hbm c b ∗ (∃ W', owes (c : Thread nD τ) 0 W')) -∗ K ⟨⟩))
    ⊢ wp frame (wpE (defs₀ (F := F)) Variants.none c none) Set.univ (body i M) K := by
  obtain ⟨arg1, harg1, arg2, harg2, arg3, harg3, arg4, harg4, arg5, harg5, arg6, harg6, arg7, harg7, arg8, harg8, arg14, harg14, arg15, harg15, arg16, harg16, arg17, harg17, arg18, harg18, arg19, harg19, arg20, harg20, arg21, harg21, arg22, harg22, arg23, harg23, arg24, harg24, arg25, harg25, arg26, harg26, arg27, harg27⟩ := M
  obtain ⟨dz, gs, us, pg, ple, zh, r, g1, wg, wu, wd, wpg, wo⟩ := b
  unfold body
  simp only [cc0_ffn_bwd_eq_skeleton]; unfold cc0_ffn_bwd_skel
  simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins outsAny scrAny cells hbm owns; dsimp only
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, ⟨⟨%ds0, %fs0, -, HS0⟩, ⟨%ds1, %fs1, -, HS1⟩, ⟨%ds2, %fs2, -, HS2⟩, ⟨%ds3, %fs3, -, HS3⟩, ⟨%ds4, %fs4, -, HS4⟩⟩, ⟨Hq0, Hq1, Hq2, Hq3, Hq4, Hq5, Hq6, Hq7, Hq8, Hq9, Hq10, Hq11, Hq12, Hq13⟩, ⟨Hh0, Hh1, Hh2, Hh3, Hh4⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  have qg := readCov_copies (F := F) arg23.view (View.whole main_v38) wg
  have qu := readCov_copies (F := F) arg24.view (View.whole main_v40) wu
  have qd := readCov_copies (F := F) arg25.view (View.whole main_v45) wd
  obtain ⟨e1, e2, e3, e4, e5, e6, e7, e8, e9⟩ := same_dg (F := F)
  obtain ⟨g1', g2', g3', g4', g5', g6', g7', g8', g9'⟩ := same_du (F := F)
  obtain ⟨k1, k2, k3, k4, k5, k6, k7, k8⟩ := same_dh (F := F)
  sl_exec (disch := first | sl_exact hc0 | sl_exact hc1)
  sl_step
  iapply Hk
  unfold outs scr owns; dsimp only
  isplitl [H0 H1 H2 H3 H4 H5 H6 H7]
  · isplitl [H0]; · iapply held c arg1 (harg1.read_unread _); iexact H0
    isplitl [H1]; · iapply held c arg2 (harg2.read_unread _); iexact H1
    isplitl [H2]; · iapply held c arg3 (harg3.read_unread _); iexact H2
    isplitl [H3]; · iapply held c arg4 (harg4.read_unread _); iexact H3
    isplitl [H4]; · iapply held c arg5 (harg5.read_unread _); iexact H4
    isplitl [H5]; · iapply held c arg6 (harg6.read_unread _); iexact H5
    isplitl [H6]; · iapply held c arg7 (harg7.read_unread _); iexact H6
    iapply held c arg8 (harg8.read_unread _); iexact H7
  isplitl [H8 H9 H10 H11 H12 H13 H14 H15 H16]
  · isplitl [H8]; · iexists _; isplitr; swap; (iexact H8); ipureintro; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; exact read_chunks _ _ (Blk.dg ⟨dz, gs, us, pg, ple, zh, r, g1, wg, wu, wd, wpg, wo⟩) _ (Blk.dgs_chunk ⟨dz, gs, us, pg, ple, zh, r, g1, wg, wu, wd, wpg, wo⟩)
    isplitl [H9]; · iexists _; isplitr; swap; (iexact H9); ipureintro; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; exact read_chunks _ _ (Blk.du ⟨dz, gs, us, pg, ple, zh, r, g1, wg, wu, wd, wpg, wo⟩) _ (Blk.dus_chunk ⟨dz, gs, us, pg, ple, zh, r, g1, wg, wu, wd, wpg, wo⟩)
    isplitl [H10]; · iexists _; isplitr; swap; (iexact H10); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    isplitl [H11]; · iexists _; isplitr; swap; (iexact H11); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    isplitl [H12]; · iexists _; isplitr; swap; (iexact H12); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    isplitl [H13]; · iexists _; isplitr; swap; (iexact H13); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    isplitl [H14]; · iexists _; isplitr; swap; (iexact H14); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    isplitl [H15]; · iexists _; isplitr; swap; (iexact H15); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
    iexists _; isplitr; swap; (iexact H16); ipureintro; refine (read_all _ _ _ _ _).trans ?_; sl_unfold_run_names; simp only [View.readAt_eq_ld, hf0, hf1, hf2, hf3, hf4, hf5, hf6, hf7, ld_all, qg, qu, qd, readCov_copy, View.readCov_cons_toLoadRect, View.read_whole, first_dg, first_du, e1, e2, e3, e4, e5, e6, e7, e8, e9, g1', g2', g3', g4', g5', g6', g7', g8', g9', k1, k2, k3, k4, k5, k6, k7, k8]; rfl
  isplitl [HS0 HS1 HS2 HS3 HS4]
  · isplitl [HS0]; · iapply held c arg23 (read_quarters _ _ wg); iexact HS0
    isplitl [HS1]; · iapply held c arg24 (read_quarters _ _ wu); iexact HS1
    isplitl [HS2]; · iapply held c arg25 (read_quarters _ _ wd); iexact HS2
    isplitl [HS3]; · iapply held c arg26 (read_copy _ _ wpg); iexact HS3
    iapply held c arg27 (read_copy _ _ wo); iexact HS4
  isplitl [Hq0 Hq1 Hq2 Hq3 Hq4 Hq5 Hq6 Hq7 Hq8 Hq9 Hq10 Hq11 Hq12 Hq13]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    iexact Hq13
  isplitl [Hh0 Hh1 Hh2 Hh3 Hh4]; · iframe
  iexists _; iexact HW

set_option maxHeartbeats 4000000 in
/-- A later grid point finds the weights in and leaves its blocks, the bias rows added to. -/
theorem later_point (c : Dev nD) (i : grid0.Coords) (M : Mems) (b : Blk F) (p q : Vec F S1x1024 .f32) (hc0 : ¬cond0_0 i) (hc1 : ¬cond0_1 i) (W : Waits sig Unit) (K : PUnit → sProp 𝕄) :
    iprop(ins c M b ∗ outsKept c M p q ∗ scr c M b ∗ owes (c : Thread nD τ) 0 W ∗
      (iprop(ins c M b ∗ outs c M b p q ∗ scr c M b ∗ (∃ W', owes (c : Thread nD τ) 0 W')) -∗ K ⟨⟩))
    ⊢ wp frame (wpE (defs₀ (F := F)) Variants.none c none) Set.univ (body i M) K := by
  obtain ⟨arg1, harg1, arg2, harg2, arg3, harg3, arg4, harg4, arg5, harg5, arg6, harg6, arg7, harg7, arg8, harg8, arg14, harg14, arg15, harg15, arg16, harg16, arg17, harg17, arg18, harg18, arg19, harg19, arg20, harg20, arg21, harg21, arg22, harg22, arg23, harg23, arg24, harg24, arg25, harg25, arg26, harg26, arg27, harg27⟩ := M
  obtain ⟨dz, gs, us, pg, ple, zh, r, g1, wg, wu, wd, wpg, wo⟩ := b
  unfold body
  simp only [cc0_ffn_bwd_eq_skeleton]; unfold cc0_ffn_bwd_skel
  simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins outsKept scr owns; dsimp only
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩⟩, ⟨⟨%fs0, %hs0, HS0⟩, ⟨%fs1, %hs1, HS1⟩, ⟨%fs2, %hs2, HS2⟩, ⟨%fs3, %hs3, HS3⟩, ⟨%fs4, %hs4, HS4⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg21.eq_unread hf15; obtain rfl := harg22.eq_unread hf16; obtain rfl := harg23.eq_unread hs0; obtain rfl := harg24.eq_unread hs1; obtain rfl := harg25.eq_unread hs2; obtain rfl := harg26.eq_unread hs3; obtain rfl := harg27.eq_unread hs4
  obtain ⟨e1, e2, e3, e4, e5, e6, e7, e8, e9⟩ := same_dg (F := F)
  obtain ⟨g1', g2', g3', g4', g5', g6', g7', g8', g9'⟩ := same_du (F := F)
  obtain ⟨k1, k2, k3, k4, k5, k6, k7, k8⟩ := same_dh (F := F)
  sl_exec (disch := first | sl_exact hc0 | sl_exact hc1)
  sl_step
  iapply Hk
  unfold outs owns; dsimp only
  isplitl [H0 H1 H2 H3 H4 H5 H6 H7]
  · isplitl [H0]; · iapply held c arg1 (harg1.read_unread _); iexact H0
    isplitl [H1]; · iapply held c arg2 (harg2.read_unread _); iexact H1
    isplitl [H2]; · iapply held c arg3 (harg3.read_unread _); iexact H2
    isplitl [H3]; · iapply held c arg4 (harg4.read_unread _); iexact H3
    isplitl [H4]; · iapply held c arg5 (harg5.read_unread _); iexact H4
    isplitl [H5]; · iapply held c arg6 (harg6.read_unread _); iexact H5
    isplitl [H6]; · iapply held c arg7 (harg7.read_unread _); iexact H6
    iapply held c arg8 (harg8.read_unread _); iexact H7
  isplitl [H8 H9 H10 H11 H12 H13 H14 H15 H16]
  · isplitl [H8]; · iexists _; isplitr; swap; (iexact H8); ipureintro; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; exact read_chunks _ _ (Blk.dg ⟨dz, gs, us, pg, ple, zh, r, g1, wg, wu, wd, wpg, wo⟩) _ (Blk.dgs_chunk ⟨dz, gs, us, pg, ple, zh, r, g1, wg, wu, wd, wpg, wo⟩)
    isplitl [H9]; · iexists _; isplitr; swap; (iexact H9); ipureintro; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; exact read_chunks _ _ (Blk.du ⟨dz, gs, us, pg, ple, zh, r, g1, wg, wu, wd, wpg, wo⟩) _ (Blk.dus_chunk ⟨dz, gs, us, pg, ple, zh, r, g1, wg, wu, wd, wpg, wo⟩)
    isplitl [H10]; · iexists _; isplitr; swap; (iexact H10); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    isplitl [H11]; · iexists _; isplitr; swap; (iexact H11); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    isplitl [H12]; · iexists _; isplitr; swap; (iexact H12); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    isplitl [H13]; · iexists _; isplitr; swap; (iexact H13); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    isplitl [H14]; · iexists _; isplitr; swap; (iexact H14); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    isplitl [H15]; · iexists _; isplitr; swap; (iexact H15); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
    iexists _; isplitr; swap; (iexact H16); ipureintro; refine (read_all _ _ _ _ _).trans ?_; sl_unfold_run_names; simp only [View.readAt_eq_ld, hf0, hf1, hf2, hf3, hf4, hf5, hf6, hf7, hf15, hf16, hs0, hs1, hs2, hs3, hs4, ld_all, first_dg, first_du, e1, e2, e3, e4, e5, e6, e7, e8, e9, g1', g2', g3', g4', g5', g6', g7', g8', g9', k1, k2, k3, k4, k5, k6, k7, k8]; rfl
  isplitl [HS0 HS1 HS2 HS3 HS4]
  · isplitl [HS0]; · iapply held c arg23 (harg23.read_unread _); iexact HS0
    isplitl [HS1]; · iapply held c arg24 (harg24.read_unread _); iexact HS1
    isplitl [HS2]; · iapply held c arg25 (harg25.read_unread _); iexact HS2
    isplitl [HS3]; · iapply held c arg26 (harg26.read_unread _); iexact HS3
    iapply held c arg27 (harg27.read_unread _); iexact HS4
  iexists _; iexact HW

end Cert.Proof.Ffn
-- ==== Proof.Ffn.Frame.lean ====
/- The feed-forward backward call's run: the proof data of its pipeline, point by point from the body's two
   triples, and its frame. -/
module

public import proofs.«01_k».proof.Proof.Ffn.Body
public import Idealize.ShloMosaic.Lib.Claim

@[expose] public section

set_option maxRecDepth 16384

noncomputable section

namespace Cert.Proof.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memory the body is called with at point `t`. -/
def mems (t : Fin cfg0.N) : Mems := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, scM0_0, Memref.isWhole_whole _, scM0_1, Memref.isWhole_whole _, scM0_2, Memref.isWhole_whole _, scM0_3, Memref.isWhole_whole _, scM0_4, Memref.isWhole_whole _⟩

/-- The blocks it finds there. -/
def blk (c : Dev nD) (t : Fin cfg0.N) : Blk F :=
  ⟨iblk m c 0 t, iblk m c 1 t, iblk m c 2 t, iblk m c 3 t, iblk m c 4 t, iblk m c 5 t, iblk m c 6 t, iblk m c 7 t,
   V m c main_v38, V m c main_v40, V m c main_v45, V m c main_v46, V m c main_v47⟩

theorem points : cfg0.N = 16 := N_0

/-- Point `n`. -/
def pt (n : Nat) : Fin cfg0.N := ⟨n % cfg0.N, Nat.mod_lt _ (by rw [points]; decide)⟩
theorem pt_val (t : Fin cfg0.N) : pt t.val = t := Fin.ext (Nat.mod_eq_of_lt t.isLt)

/-- The two bias rows' running gradients before point `n`. -/
def dg1Before (c : Dev nD) : Nat → Vec F S1x1024 .f32
  | 0 => k0_pay4
  | n + 1 => (blk m c (pt n)).dg1 (dg1Before c n)
def db1Before (c : Dev nD) : Nat → Vec F S1x1024 .f32
  | 0 => k0_pay5
  | n + 1 => (blk m c (pt n)).db1 (db1Before c n)

/-- What holds between points: at first the launch's memory, later the weights in their resident memory. -/
def Phi (c : Dev nD) : Nat → sProp 𝕄
  | 0 => Pipeline.ΦD osem0 spec0 H0 (V m) c
  | n + 1 => iprop(scr c (mems (pt n)) (blk m c (pt n)) ∗ (∃ r, prngReg c r) ∗ cells c ∗ hbm c (blk m c (pt n)))

/-- The launch's memory, in the same parts. -/
theorem PhiD_eq (c : Dev nD) (t : Fin cfg0.N) : (Pipeline.ΦD osem0 spec0 H0 (V m) c : sProp 𝕄)
    = iprop(scrAny c (mems t) ∗ (∃ r, prngReg c r) ∗ cells c ∗ hbm c (blk m c t)) := by
  rw [PhiD0_eq]; rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blk m c t).dgs
    | ⟨9, _⟩ => (blk m c t).dus
    | ⟨10, _⟩ => (blk m c t).dsp
    | ⟨11, _⟩ => (blk m c t).dple
    | ⟨12, _⟩ => (blk m c t).dz1
    | ⟨13, _⟩ => (blk m c t).dyr
    | ⟨14, _⟩ => (blk m c t).dya
    | ⟨15, _⟩ => (blk m c t).dg1 (dg1Before m c t.val)
    | ⟨16, _⟩ => (blk m c t).db1 (db1Before m c t.val)
    | ⟨_ + 17, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d

/-- At a later point each bias row's memory holds what the point before left. -/
theorem before_15 (c : Dev nD) (t : Fin cfg0.N) (h : t.val ≠ 0) (d) : (dats m 0 c).before 15 t d = dg1Before m c t.val := by
  have hN : t.val < 16 := lt_of_lt_of_eq t.isLt points
  obtain ⟨n, hn⟩ : ∃ n, t.val = n + 1 := ⟨t.val - 1, by omega⟩
  rw [Dat.before_out_kept _ 15 rfl t (by omega) (Bool.eq_false_iff.mpr fun h => by have := (flush0_15 _).mp h; dsimp only at this; omega)
    (fun _ => rfl) (fun _ _ => rfl)]
  dsimp only [dats]
  simp only [hn, Nat.add_sub_cancel]
  rw [← pt_val ⟨n, _⟩]
  rfl
theorem before_16 (c : Dev nD) (t : Fin cfg0.N) (h : t.val ≠ 0) (d) : (dats m 0 c).before 16 t d = db1Before m c t.val := by
  have hN : t.val < 16 := lt_of_lt_of_eq t.isLt points
  obtain ⟨n, hn⟩ : ∃ n, t.val = n + 1 := ⟨t.val - 1, by omega⟩
  rw [Dat.before_out_kept _ 16 rfl t (by omega) (Bool.eq_false_iff.mpr fun h => by have := (flush0_16 _).mp h; dsimp only at this; omega)
    (fun _ => rfl) (fun _ _ => rfl)]
  dsimp only [dats]
  simp only [hn, Nat.add_sub_cancel]
  rw [← pt_val ⟨n, _⟩]
  rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 4000000 in
/-- The body at any point: the first by `first_point`, a later one by `later_point`. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt points
  have hsucc : (dats m 0 c).Φ t.succ = iprop(scr c (mems t) (blk m c t) ∗ (∃ r, prngReg c r) ∗ cells c ∗ hbm c (blk m c t)) := by
    show Phi m c (t.val + 1) = _
    rw [Phi, pt_val]
  have hbody : bodyAt0 (F := F) t = body (grid0.coords t) (mems t) := rfl
  unfold bodyPre bodyPost
  rw [hsucc, hbody]
  simp only [before_0, before_1, before_2, before_3, before_4, before_5, before_6, before_7]
  unfold Dat.owesAt Pipeline.owesWithin
  rw [show (dats m 0 c).owed t.castSucc = 0 from rfl, show (dats m 0 c).owed t.succ = 0 from rfl]
  by_cases h0 : t.val = 0
  · have hc : t.val % 16 = 0 := by omega
    rw [show (dats m 0 c).Φ t.castSucc = Pipeline.ΦD osem0 spec0 H0 (V m) c from by show Phi m c t.val = _; rw [h0, Phi], PhiD_eq m c t]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply first_point c (grid0.coords t) (mems t) (blk m c t) ((hcond0_0 t).mpr hc) ((hcond0_1 t).mpr hc) W _
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15 H16]
    · unfold outsAny
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16
    isplitl [HS]; · iexact HS
    isplitl [Hq]; · iexact Hq
    isplitl [Hh]; · iexact Hh
    isplitl [HW]; · iexact HW
    iintro ⟨Hins, Houts, HS, Hq, Hh, HW⟩
    isplitl [HS Hg Hq Hh]
    · isplitl [HS]; · iexact HS
      isplitl [Hg]; · iexact Hg
      isplitl [Hq]; · iexact Hq
      iexact Hh
    isplitl [HW]
    · icases HW with ⟨%W', HW⟩; iexists W'; isplitr; · ipureintro; exact fun _ _ => Or.inl trivial
      iexact HW
    unfold ins outs; dsimp only [dats, mems, blk]
    icases Hins with ⟨H0, H1, H2, H3, H4, H5, H6, H7⟩
    icases Houts with ⟨H8, H9, H10, H11, H12, H13, H14, H15, H16⟩
    rw [h0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · have hc : ¬t.val % 16 = 0 := by omega
    obtain ⟨n, hn⟩ : ∃ n, t.val = n + 1 := ⟨t.val - 1, by omega⟩
    rw [show (dats m 0 c).Φ t.castSucc = iprop(scr c (mems t) (blk m c t) ∗ (∃ r, prngReg c r) ∗ cells c ∗ hbm c (blk m c t)) from by
      show Phi m c t.val = _; rw [hn, Phi]; rfl]
    simp only [before_15 m c t h0, before_16 m c t h0]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply later_point c (grid0.coords t) (mems t) (blk m c t) (dg1Before m c t.val) (db1Before m c t.val) (fun h => hc ((hcond0_0 t).mp h)) (fun h => hc ((hcond0_1 t).mp h)) W _
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15 H16]
    · unfold outsKept
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexact H15
      iexact H16
    isplitl [HS]; · iexact HS
    isplitl [HW]; · iexact HW
    iintro ⟨Hins, Houts, HS, HW⟩
    isplitl [HS Hg Hq Hh]
    · isplitl [HS]; · iexact HS
      isplitl [Hg]; · iexact Hg
      isplitl [Hq]; · iexact Hq
      iexact Hh
    isplitl [HW]
    · icases HW with ⟨%W', HW⟩; iexists W'; isplitr; · ipureintro; exact fun _ _ => Or.inl trivial
      iexact HW
    unfold ins outs; dsimp only [dats, mems, blk]
    icases Hins with ⟨H0, H1, H2, H3, H4, H5, H6, H7⟩
    icases Houts with ⟨H8, H9, H10, H11, H12, H13, H14, H15, H16⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Pipeline.ΦD osem0 spec0 H0 (V m) c from rfl]

/-- After the last point the resident memory is given back. -/
theorem hout (c : Dev nD) : (dats m 0 c).Φ (Fin.last cfg0.N) ⊢ Pipeline.ΦD osem0 spec0 H0 (V m) c := by
  rw [show (dats m 0 c).Φ (Fin.last cfg0.N) = iprop(scr c (mems (pt 15)) (blk m c (pt 15)) ∗ (∃ r, prngReg c r) ∗ cells c ∗ hbm c (blk m c (pt 15))) from by
    show Phi m c (Fin.last cfg0.N).val = _; rw [Fin.val_last, points, Phi], PhiD_eq m c (pt 15)]
  unfold scr scrAny
  iintro ⟨⟨HS0, HS1, HS2, HS3, HS4⟩, Hg, Hq, Hh⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  isplitl [Hg]; · iexact Hg
  isplitl [Hq]; · iexact Hq
  iexact Hh

set_option backward.isDefEq.respectTransparency.types false in
/-- The launch: every array of the pipeline ends as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame's statement: the arguments end unchanged and every counter at zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

theorem frame : Kept m ρ :=
  θ_run_and (frame_of m ρ (dats m) (A_eq m) (run_main m ρ)) ((θ_run defs _ _).mono (fun _ h => h.2) (run_main_quiescent m ρ))

end Cert.Proof.Ffn
-- ==== Proof.Ffn.Claims.lean ====
/- The frames of the feed-forward backward call, of its idealization and of their reference. -/
module

public import proofs.«01_k».proof.Defs
public import proofs.«01_k».proof.Proof.Gen.Ffn
public import proofs.«01_k».proof.Proof.Ffn.Frame
public import proofs.«01_k».proof.Proof.Gen.FfnRefIdeal.Run
public import Idealize.ShloMosaic.Lib.Quiescent

@[expose] public section

noncomputable section

namespace Cert.Proof.Ffn

open Idealize.ShloMosaic Idealize.SL.Sem

/-- The kernel's frame on machine numbers: the idealization has the same text, so its run, which holds over any
    float values, is the kernel's. -/
theorem frame_ffn : Cert.quiescent_Ffn := by
  have same : Cert.quiescent_Ffn = ∀ m ρ, True → Kept (F := Bits) m ρ := by sl_kernel_rfl
  rw [same]
  exact fun m ρ _ => frame m ρ

theorem frame_ffnIdeal : Cert.quiescent_FfnIdeal := fun m ρ _ => Cert.Proof.Ffn.frame (F := Ideal) m ρ

/-- The reference keeps its arguments, and has no semaphore. -/
theorem frame_ffnRefIdeal : Cert.quiescent_FfnRefIdeal := fun m ρ _ =>
  (θ_run Cert.FfnRefIdeal.defs _ _).mono (fun r h => ⟨fun c => (h c).2.2.2.2.2.2.2.2.2, sem_eq_zero_of_no_sems rfl r.2⟩)
    (Cert.FfnRefIdeal.Value.run (F := Ideal) m ρ)

end Cert.Proof.Ffn

end
-- ==== Proof.Real.lean ====
/- Finite values: the extended reals that are real numbers, closed under what the programs do to them, and the host's
   products and sums read at an element. -/
module

public import Idealize.ShloMosaic.Lib.ReduceAll
public import Idealize.ShloMosaic.Lib.IdealHost
public import Idealize.ShloMosaic.Lib.MatmulPlain
public import Idealize.ShloMosaic.Lib.StackMember
public import Idealize.ShloMosaic.Lib.Pipeline.Value
public import Mathlib.Tactic.Ring
public import Mathlib.Tactic.FieldSimp
public import Mathlib.Tactic.NormNum
public import Mathlib.Tactic.Linarith
public import Mathlib.Tactic.Positivity

@[expose] public section

noncomputable section

namespace Cert.Proof

open Idealize.ShloMosaic Idealize.ShloMosaic.ValueIdx

/-- A finite value. -/
def IsReal (x : EReal) : Prop := ∃ r : ℝ, x = r

theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

theorem div_real (x : ℝ) {y : ℝ} (hy : y ≠ 0) : Ideal.div x y = ((x / y : ℝ) : EReal) := by
  rw [Ideal.div_coe hy, ← EReal.coe_mul, mul_one_div]

namespace IsReal

theorem coe (r : ℝ) : IsReal (r : EReal) := ⟨r, rfl⟩
theorem of_ne {x : EReal} (hb : x ≠ ⊥) (ht : x ≠ ⊤) : IsReal x := ⟨x.toReal, (EReal.coe_toReal ht hb).symm⟩
theorem add {x y : EReal} (hx : IsReal x) (hy : IsReal y) : IsReal (x + y) := by
  obtain ⟨a, rfl⟩ := hx; obtain ⟨b, rfl⟩ := hy; exact ⟨a + b, by norm_cast⟩
theorem sub {x y : EReal} (hx : IsReal x) (hy : IsReal y) : IsReal (x - y) := by
  obtain ⟨a, rfl⟩ := hx; obtain ⟨b, rfl⟩ := hy; exact ⟨a - b, by norm_cast⟩
theorem mul {x y : EReal} (hx : IsReal x) (hy : IsReal y) : IsReal (x * y) := by
  obtain ⟨a, rfl⟩ := hx; obtain ⟨b, rfl⟩ := hy; exact ⟨a * b, by norm_cast⟩
theorem neg {x : EReal} (hx : IsReal x) : IsReal (-x) := by
  obtain ⟨a, rfl⟩ := hx; exact ⟨-a, by norm_cast⟩
theorem sum {ι : Type} [Fintype ι] {f : ι → EReal} (h : ∀ i, IsReal (f i)) : IsReal (∑ i, f i) := by
  choose g hg using h
  exact ⟨∑ i, g i, by simp only [hg]; exact sum_coe _ g⟩
theorem div {x : EReal} (hx : IsReal x) {y : ℝ} (hy : y ≠ 0) : IsReal (Ideal.div x y) := by
  rw [Ideal.div_coe hy]; exact hx.mul (coe _)

/-- What a finiteness test of an element says. -/
theorem of_abs_lt {x : EReal} (h : max x (-x) < ⊤) : IsReal x := by
  refine of_ne ?_ ?_ <;> rintro rfl <;> simp at h

end IsReal

/-- The logistic function. -/
def sg (x : EReal) : EReal := Ideal.div 1 (1 + Ideal.exp (-x))

theorem sg_coe (g : ℝ) : sg g = (((1 + Real.exp (-g))⁻¹ : ℝ) : EReal) := by
  have h : (1 + Real.exp (-g)) ≠ 0 := by positivity
  unfold sg
  rw [← EReal.coe_neg, Ideal.exp_coe, ← EReal.coe_one, ← EReal.coe_add, div_real _ h, one_div]

theorem IsReal.sg {g : EReal} (h : IsReal g) : IsReal (sg g) := by
  obtain ⟨a, rfl⟩ := h; rw [sg_coe]; exact coe _

/-! ## The host's operations read at an element -/

theorem dotPlain_apply {M K N : ℕ} {φ₁ φ₂ : FTy} (A : FVec Ideal ⟨2, ![M, K]⟩ φ₁) (B : FVec Ideal ⟨2, ![K, N]⟩ φ₂) (r : Fin M) (c : Fin N) :
    Host.dotGeneral (DotDims.plain M K N) none A B (ix2 r c) = ∑ k : Fin K, A (ix2 r k) * B (ix2 k c) := StackMember.dotGeneral_plain_apply _ _ _ _ _

theorem dotT_apply {M K N : ℕ} {φ₁ φ₂ : FTy} (A : FVec Ideal ⟨2, ![M, K]⟩ φ₁) (B : FVec Ideal ⟨2, ![N, K]⟩ φ₂) (r : Fin M) (c : Fin N) :
    Host.dotGeneral (DotDims.transposedRhs M K N) none A B (ix2 r c) = ∑ k : Fin K, A (ix2 r k) * B (ix2 c k) := by
  rw [← matmul_zero_eq_dotGeneral]
  refine (Ideal.matmul_transposedRhs_apply _ _ _ _ r c).trans ?_
  show Ideal.ofBits .f32 0#32 + _ = _
  rw [Ideal.ofBits_zero_f32, zero_add]

/-- The sum of a row. -/
theorem rowSum_apply {M N : ℕ} {φ : FTy} (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (x : FVec Ideal ⟨2, ![M, N]⟩ φ) (init : (⟨0, ![]⟩ : Shape).Idx → Ideal φ) (h0 : init (Shape.Idx.first hu) = (0 : EReal)) (r : Fin M) :
    Host.reduceAdd x init h' hu (ix1 r) = ∑ d : Fin N, x (ix2 r d) := by
  rw [hostReduceAdd_apply, Ideal.hostReduceAdd_single h' h, h0, zero_add]
  refine Finset.sum_congr rfl fun d _ => congrArg x (funext fun a => ?_)
  match a with
  | ⟨0, _⟩ => rfl
  | ⟨1, _⟩ => rfl

/-- The sum of a column. -/
theorem colSum_apply {M N : ℕ} {φ : FTy} (h' : (⟨2, ![M, N]⟩ : Shape).ReducesTo [0] ⟨1, ![N]⟩) (h : (⟨2, ![M, N]⟩ : Shape).Reduces [0] ⟨1, ![N]⟩)
    (hu : 0 < (⟨0, ![]⟩ : Shape).numel) (x : FVec Ideal ⟨2, ![M, N]⟩ φ) (init : (⟨0, ![]⟩ : Shape).Idx → Ideal φ) (h0 : init (Shape.Idx.first hu) = (0 : EReal)) (d : Fin N) :
    Host.reduceAdd x init h' hu (ix1 d) = ∑ r : Fin M, x (ix2 r d) := by
  rw [hostReduceAdd_apply, Ideal.hostReduceAdd_single h' h, h0, zero_add]
  refine Finset.sum_congr rfl fun r _ => congrArg x (funext fun a => ?_)
  match a with
  | ⟨0, _⟩ => rfl
  | ⟨1, _⟩ => rfl

instance : Subsingleton (Shape.Idx ⟨0, ![]⟩) := ⟨fun a b => funext fun i => i.elim0⟩

/-- What `all(|x| < inf)` says: every element is a real number. -/
theorem isReal_of_all {s t u : Shape} {axes : List (Fin s.rank)} [Subsingleton t.Idx] (x : FVec Ideal s .f32) {dims : Fin u.rank → Fin s.rank}
    (hb : u.BroadcastsInDim s dims) (h : s.ReducesTo axes t) (hu : 0 < u.numel) (j : t.Idx)
    (e : Host.reduce IntOp.andi (cmpf .olt (Host.absf x) (broadcastInDim s dims hb (constant u .f32 0x7F800000#32))) (constantI u 1 1#1) h hu j = 1#1)
    (i : s.Idx) : IsReal (x i) := by
  have e := Host.reduce_andi_all _ _ _ _ j e i
  have e : BitVec.ofBool (decide (max (x i) (-x i) < Ideal.ofBits .f32 0x7F800000#32)) = 1#1 := e
  have ht : Ideal.ofBits .f32 0x7F800000#32 = ⊤ := by simp [Ideal.ofBits, Ideal.ieee]
  rw [ht] at e
  by_contra hx
  rw [decide_eq_false fun hlt => hx (.of_abs_lt hlt)] at e
  exact absurd e (by decide)

end Cert.Proof

end
-- ==== Proof.Ffn.Row.lean ====
/- The mathematics of the feed-forward backward call on one row: the gradients of the two hidden projections, of the
   embedding gate, of the normed input, of the layer norm's input and of the mix, as extended reals. -/
module

public import proofs.«01_k».proof.Proof.Real

@[expose] public section

noncomputable section

namespace Cert.Proof.Ffn

open Idealize.ShloMosaic

/-- The residual's scale and the width, as the programs write them. -/
def scale : EReal := Ideal.ofBits .f32 0x3F9837F0#32
def width : EReal := Ideal.ofBits .f32 0x44800000#32

/-- What is saved of one row of the forward pass, and the row of the incoming gradient. -/
structure Row where
  dz : Fin 1024 → EReal
  g : Fin 2816 → EReal
  u : Fin 2816 → EReal
  pg : Fin 1024 → EReal
  ple : Fin 1024 → EReal
  zh : Fin 1024 → EReal
  r : EReal

/-- The weights, the two hidden projections with the hidden axis first. -/
structure Weights where
  g1 : Fin 1024 → EReal
  wg : Fin 2816 → Fin 1024 → EReal
  wu : Fin 2816 → Fin 1024 → EReal
  wd : Fin 2816 → Fin 1024 → EReal
  wpg : Fin 1024 → Fin 1024 → EReal
  wo : Fin 1024 → Fin 1024 → EReal

namespace Row
variable (x : Row) (w : Weights)

/-- The gradient of the gated product. -/
def da (k : Fin 2816) : EReal := ∑ d, x.dz d * w.wd k d
def dg (k : Fin 2816) : EReal := x.da w k * x.u k * sg (x.g k) * (1 + x.g k * (1 - sg (x.g k)))
def du (k : Fin 2816) : EReal := x.da w k * x.g k * sg (x.g k)
def dple (d : Fin 1024) : EReal := x.dz d * x.pg d
def ds (d : Fin 1024) : EReal := x.dz d * x.ple d * x.pg d * (1 - x.pg d)
/-- The gradient of the normed input. -/
def dh (d : Fin 1024) : EReal :=
  scale * x.dz d + (∑ k, x.dg w k * w.wg k d) + (∑ k, x.du w k * w.wu k d) + ∑ e, x.ds e * w.wpg d e
def dzh (d : Fin 1024) : EReal := x.dh w d * w.g1 d
/-- The gradient of the layer norm's input. -/
def dz1 (d : Fin 1024) : EReal :=
  x.r * (x.dzh w d - Ideal.div (∑ e, x.dzh w e) width - x.zh d * Ideal.div (∑ e, x.dzh w e * x.zh e) width)
def dy (e : Fin 1024) : EReal := ∑ d, x.dz1 w d * w.wo e d

end Row

/-! ## On finite values -/

theorem width_eq : width = ((1024 : ℝ) : EReal) := by
  unfold width; simp [Ideal.ofBits, Ideal.ieee, -EReal.coe_mul]; norm_num
theorem scale_real : IsReal scale := by
  unfold scale; simp only [Ideal.ofBits, Ideal.ieee]; simp [-EReal.coe_mul]; exact ⟨_, rfl⟩
theorem eps_eq : ∃ e : ℝ, 0 < e ∧ Ideal.ofBits .f32 0x3727C5AC#32 = (e : EReal) := by
  simp only [Ideal.ofBits, Ideal.ieee]; simp [-EReal.coe_mul]
theorem half_eq : Ideal.ofBits .f32 0xBF000000#32 = ((-(1 / 2) : ℝ) : EReal) := by
  simp [Ideal.ofBits, Ideal.ieee, -EReal.coe_mul, -EReal.coe_neg]; norm_num
theorem two_eq : Ideal.ofBits .f32 0x40000000#32 = ((2 : ℝ) : EReal) := by
  simp [Ideal.ofBits, Ideal.ieee, -EReal.coe_mul]; norm_num

/-- The gate's derivative, in the two ways it is written. -/
theorem gate {a g u : EReal} (ha : IsReal a) (hg : IsReal g) (hu : IsReal u) :
    a * u * sg g + g * (a * u) * (sg g * (1 - sg g)) = a * u * sg g * (1 + g * (1 - sg g)) := by
  obtain ⟨a, rfl⟩ := ha; obtain ⟨g, rfl⟩ := hg; obtain ⟨u, rfl⟩ := hu
  rw [sg_coe]
  generalize (1 + Real.exp (-g))⁻¹ = s
  norm_cast
  ring

theorem layer_norm_real (c p : Fin 1024 → ℝ) {r v : ℝ} (hv : v ≠ 0) (hr : r * r * v = 1) (hc : ∑ e, c e = 0) (d : Fin 1024) :
    p d * r + (∑ e, c e * p e) * (-(1 / 2) * (r / v)) / 1024 * (2 * c d)
        + (∑ e, -(p e * r) + ∑ e, -((∑ e, c e * p e) * (-(1 / 2) * (r / v)) / 1024 * (2 * c e))) / 1024
      = r * (p d - (∑ e, p e) / 1024 - c d * r * ((∑ e, p e * (c e * r)) / 1024)) := by
  have h1 : ∑ e, p e * (c e * r) = (∑ e, c e * p e) * r := by
    rw [Finset.sum_mul]; exact Finset.sum_congr rfl fun e _ => by ring
  have h2 (w : ℝ) : ∑ e, -(w * (2 * c e)) = 0 := by
    rw [Finset.sum_neg_distrib, ← Finset.mul_sum, ← Finset.mul_sum, hc]; ring
  have h3 : ∑ e, -(p e * r) = -((∑ e, p e) * r) := by rw [Finset.sum_neg_distrib, Finset.sum_mul]
  have h4 : r / v = r * r * r := by rw [div_eq_iff hv]; linear_combination -r * hr
  rw [h1, h2, h3, h4]
  ring

/-- The layer norm's derivative, in the two ways it is written: through the centred values `c`, the variance `v` and
    its inverse root `r`, and through the normed values. -/
theorem layer_norm {c p : Fin 1024 → EReal} {r v : EReal} (hc : ∀ e, IsReal (c e)) (hp : ∀ e, IsReal (p e)) (hr : IsReal r)
    (hv : IsReal v) (hv0 : v ≠ 0) (hrv : r * r * v = 1) (hsum : ∑ e, c e = 0) (d : Fin 1024) :
    p d * r + Ideal.div ((∑ e, c e * p e) * (Ideal.ofBits .f32 0xBF000000#32 * Ideal.div r v)) width * (Ideal.ofBits .f32 0x40000000#32 * c d)
        + Ideal.div (∑ e, -(p e * r) + ∑ e, -(Ideal.div ((∑ e, c e * p e) * (Ideal.ofBits .f32 0xBF000000#32 * Ideal.div r v)) width * (Ideal.ofBits .f32 0x40000000#32 * c e))) width
      = r * (p d - Ideal.div (∑ e, p e) width - c d * r * Ideal.div (∑ e, p e * (c e * r)) width) := by
  choose c' hc using hc
  choose p' hp using hp
  obtain ⟨r, rfl⟩ := hr; obtain ⟨v, rfl⟩ := hv
  have hv' : v ≠ 0 := fun h => hv0 (by rw [h]; rfl)
  have hw : (1024 : ℝ) ≠ 0 := by norm_num
  simp only [hc, hp, width_eq, half_eq, two_eq, div_real _ hv', ← EReal.coe_mul, ← EReal.coe_neg, sum_coe, ← EReal.coe_add, ← EReal.coe_sub, div_real _ hw] at hrv hsum ⊢
  exact congrArg _ (layer_norm_real c' p' hv' (by exact_mod_cast hrv) (by exact_mod_cast hsum) d)

end Cert.Proof.Ffn

end
-- ==== Proof.Ffn.BlockValue.lean ====
/- One grid point's blocks, read element by element: each row of them is the mathematics of that row. -/
module

public import proofs.«01_k».proof.Proof.Ffn.Block
public import proofs.«01_k».proof.Proof.Ffn.Row
public import Idealize.ShloMosaic.Lib.MatmulPlain
public import Idealize.ShloMosaic.Lib.IdealHost

@[expose] public section

noncomputable section

namespace Cert.Proof.Ffn

open Idealize.ShloMosaic Idealize.ShloMosaic.ValueIdx Idealize.SL.Sem Cert.FfnIdeal Cert.FfnIdeal.Gen

theorem pay14_apply (a : FVec Ideal S256x1024 .bf16) (w : Vec Ideal S256x1024 .bf16) (r c : Fin 256) :
    k0_pay14 a w (ix2 r c) = ∑ d, a (ix2 r d) * w (ix2 c d) := by
  refine (Ideal.matmul_transposedRhs_apply (M := 256) (K := 1024) (N := 256) none a w _ r c).trans ?_
  show Ideal.ofBits .f32 0#32 + _ = _
  rw [Ideal.ofBits_zero_f32, zero_add]

theorem pay16_apply (g : Vec Ideal S256x256 .bf16) (i : S256x256.Idx) : k0_pay16 g i = sg (g i) := by
  dsimp only [k0_pay16, k0_pay15]
  simp only [shapeCast_self]
  show Ideal.div (Ideal.ofBits .f32 0x3F800000#32) (Ideal.ofBits .f32 0x3F800000#32 + Ideal.exp (Ideal.ofBits .f32 0x00000000#32 - (g i : EReal))) = _
  rw [Ideal.ofBits_one_f32, Ideal.ofBits_zero_f32, zero_sub]; rfl

theorem pay17_apply (a : FVec Ideal S256x1024 .bf16) (w : Vec Ideal S256x1024 .bf16) (g u : Vec Ideal S256x256 .bf16) (i : S256x256.Idx) :
    k0_pay17 a w g u i = k0_pay14 a w i * u i * sg (g i) * (1 + g i * (1 - sg (g i))) := by
  rw [← pay16_apply]
  dsimp only [k0_pay17, k0_pay15]
  simp only [shapeCast_self]
  show k0_pay14 a w i * u i * k0_pay16 g i * (Ideal.ofBits .f32 0x3F800000#32 + (g i : EReal) * (Ideal.ofBits .f32 0x3F800000#32 - k0_pay16 g i)) = _
  rw [Ideal.ofBits_one_f32]

theorem pay18_apply (a : FVec Ideal S256x1024 .bf16) (w : Vec Ideal S256x1024 .bf16) (g : Vec Ideal S256x256 .bf16) (i : S256x256.Idx) :
    k0_pay18 a w g i = k0_pay14 a w i * g i * sg (g i) := by
  rw [← pay16_apply]
  dsimp only [k0_pay18, k0_pay15]
  simp only [shapeCast_self]; rfl

theorem pay75_apply (z : Vec Ideal S256x1024 .f32) (p l : Vec Ideal S256x1024 .bf16) (i : S256x1024.Idx) :
    k0_pay75 z p l i = z i * l i * p i * (1 - p i) := by
  dsimp only [k0_pay75, k0_pay73]
  simp only [shapeCast_self]
  show (z i : EReal) * l i * p i * (Ideal.ofBits .f32 0x3F800000#32 - (p i : EReal)) = _
  rw [Ideal.ofBits_one_f32]

theorem pay74_apply (z : Vec Ideal S256x1024 .f32) (p : Vec Ideal S256x1024 .bf16) (i : S256x1024.Idx) : k0_pay74 z p i = z i * p i := by
  dsimp only [k0_pay74, k0_pay73]
  simp only [shapeCast_self]; rfl

/-- The hidden column that chunk `n` and a column in it name. -/
def col (n : Fin 11) (j : Fin 256) : Fin 2816 := ⟨256 * n.val + j.val, by have := n.isLt; have := j.isLt; omega⟩

namespace Blk
variable (b : Blk Ideal)

/-- The block's rows and weights. -/
def row (r : Fin 256) : Row where
  dz d := b.dz (ix2 r d)
  g k := b.gs (ix2 r k)
  u k := b.us (ix2 r k)
  pg d := b.pg (ix2 r d)
  ple d := b.ple (ix2 r d)
  zh d := b.zh (ix2 r d)
  r := b.r (ix2 r 0)

def weights : Weights where
  g1 d := b.g1 (ix2 0 d)
  wg k d := b.wg (ix2 k d)
  wu k d := b.wu (ix2 k d)
  wd k d := b.wd (ix2 k d)
  wpg k d := b.wpg (ix2 k d)
  wo k d := b.wo (ix2 k d)

theorem ld_rows (w : Vec Ideal S2816x1024 .bf16) (n : Fin 11) (j : Fin 256) (d : Fin 1024) :
    View.ld (Val := Elt Ideal) w (rowRect n) (ix2 j d) = w (ix2 (col n j) d) :=
  congrArg w (funext fun a => Fin.ext (match a with
    | ⟨0, _⟩ => (by show 256 * n.val + 1 * j.val = 256 * n.val + j.val; omega)
    | ⟨1, _⟩ => (by show 0 + 1 * d.val = d.val; omega)))

theorem ld_cols (w : Vec Ideal S256x2816 .bf16) (n : Fin 11) (r j : Fin 256) :
    View.ld (Val := Elt Ideal) w (colRect n) (ix2 r j) = w (ix2 r (col n j)) :=
  congrArg w (funext fun a => Fin.ext (match a with
    | ⟨0, _⟩ => (by show 0 + 1 * r.val = r.val; omega)
    | ⟨1, _⟩ => (by show 256 * n.val + 1 * j.val = 256 * n.val + j.val; omega)))

theorem da_apply (n : Fin 11) (r j : Fin 256) :
    k0_pay14 (k0_pay6 b.dz) (View.ld (Val := Elt Ideal) b.wd (rowRect n)) (ix2 r j) = (b.row r).da b.weights (col n j) := by
  refine (pay14_apply _ _ _ _).trans ?_
  exact Finset.sum_congr rfl fun d _ => congrArg (b.dz (ix2 r d) * ·) (ld_rows b.wd n j d)

theorem dg_apply (n : Fin 11) (r j : Fin 256) : b.dg n (ix2 r j) = (b.row r).dg b.weights (col n j) := by
  refine (pay17_apply _ _ _ _ _).trans ?_
  refine (congrArg₂ (· * ·) (congrArg₂ (· * ·) (congrArg₂ (· * ·) (b.da_apply n r j) (ld_cols b.us n r j)) (congrArg sg (ld_cols b.gs n r j)))
    (congrArg (fun g : EReal => 1 + g * (1 - sg g)) (ld_cols b.gs n r j))).trans rfl

theorem du_apply (n : Fin 11) (r j : Fin 256) : b.du n (ix2 r j) = (b.row r).du b.weights (col n j) := by
  refine (pay18_apply _ _ _ _).trans ?_
  exact (congrArg₂ (· * ·) (congrArg₂ (· * ·) (b.da_apply n r j) (ld_cols b.gs n r j)) (congrArg sg (ld_cols b.gs n r j))).trans rfl

theorem col_chunk (k : Fin 2816) : col (chunkOf k) (inChunk k) = k := Fin.ext (by show 256 * (k.val / 256) + k.val % 256 = k.val; omega)

theorem idx_eq (r : Fin 256) (k : Fin 2816) :
    (fun a : Fin 2 => match a with | ⟨0, _⟩ => (ix2 r k : S256x2816.Idx) 0 | ⟨1, _⟩ => inChunk ((ix2 r k : S256x2816.Idx) 1) : S256x256.Idx) = ix2 r (inChunk k) :=
  funext fun a => match a with | ⟨0, _⟩ => rfl | ⟨1, _⟩ => rfl

theorem dgs_apply (r : Fin 256) (k : Fin 2816) : b.dgs (ix2 r k) = (b.row r).dg b.weights k := by
  refine (congrArg (b.dg (chunkOf k)) (idx_eq r k)).trans ?_
  rw [dg_apply, col_chunk]

theorem dus_apply (r : Fin 256) (k : Fin 2816) : b.dus (ix2 r k) = (b.row r).du b.weights k := by
  refine (congrArg (b.du (chunkOf k)) (idx_eq r k)).trans ?_
  rw [du_apply, col_chunk]

theorem dsp_apply (r : Fin 256) (d : Fin 1024) : b.dsp (ix2 r d) = (b.row r).ds d := pay75_apply _ _ _ _

theorem dple_apply (r : Fin 256) (d : Fin 1024) : b.dple (ix2 r d) = (b.row r).dple d := pay74_apply _ _ _

theorem pay19_apply (h : FVec Ideal S256x1024 .f32) (x y : FVec Ideal S256x256 .bf16) (v w : Vec Ideal S256x1024 .bf16) (r : Fin 256) (d : Fin 1024) :
    k0_pay19 h x y v w (ix2 r d) = h (ix2 r d) + (∑ j, x (ix2 r j) * v (ix2 j d)) + ∑ j, y (ix2 r j) * w (ix2 j d) := by
  have one (x : FVec Ideal S256x256 .bf16) (v : Vec Ideal S256x1024 .bf16) :
      matmul (F := Ideal) (φ₁ := .bf16) (φ₂ := .bf16) dot_S256x256_S256x1024_S256x1024_1_0_0_1_n_n none x v (constant S256x1024 .f32 0x00000000#32) (ix2 r d) = ∑ j, x (ix2 r j) * v (ix2 j d) := by
    refine (Ideal.matmul_plain_apply (M := 256) (K := 256) (N := 1024) none x v _ r d).trans ?_
    show Ideal.ofBits .f32 0#32 + _ = _
    rw [Ideal.ofBits_zero_f32, zero_add]
  show h (ix2 r d) + matmul (F := Ideal) (φ₁ := .bf16) (φ₂ := .bf16) dot_S256x256_S256x1024_S256x1024_1_0_0_1_n_n none x v (constant S256x1024 .f32 0x00000000#32) (ix2 r d)
    + matmul (F := Ideal) (φ₁ := .bf16) (φ₂ := .bf16) dot_S256x256_S256x1024_S256x1024_1_0_0_1_n_n none y w (constant S256x1024 .f32 0x00000000#32) (ix2 r d) = _
  rw [one, one]

/-- One chunk's part of the gradient of the normed input. -/
def part (r : Fin 256) (d : Fin 1024) (n : Fin 11) : EReal :=
  (∑ j, (b.row r).dg b.weights (col n j) * b.wg (ix2 (col n j) d)) + ∑ j, (b.row r).du b.weights (col n j) * b.wu (ix2 (col n j) d)

theorem step_apply (h : FVec Ideal S256x1024 .f32) (n : Fin 11) (r : Fin 256) (d : Fin 1024) :
    k0_pay19 h (b.dg n) (b.du n) (View.ld (Val := Elt Ideal) b.wg (rowRect n)) (View.ld (Val := Elt Ideal) b.wu (rowRect n)) (ix2 r d)
      = h (ix2 r d) + b.part r d n := by
  refine (pay19_apply h (b.dg n) (b.du n) (View.ld (Val := Elt Ideal) b.wg (rowRect n)) (View.ld (Val := Elt Ideal) b.wu (rowRect n)) r d).trans ?_
  rw [add_assoc]
  refine congrArg (h (ix2 r d) + ·) (congrArg₂ (· + ·) ?_ ?_) <;>
  · refine Finset.sum_congr rfl fun j _ => ?_
    first | rw [dg_apply, ld_rows] | rw [du_apply, ld_rows]

/-- The running gradient after `n` chunks: the residual's part and theirs. -/
theorem dhTo_apply (r : Fin 256) (d : Fin 1024) (n : Nat) :
    b.dhTo n (ix2 r d) = scale * b.dz (ix2 r d) + ∑ i ∈ Finset.range n, b.part r d (Fin.ofNat 11 i) := by
  induction n with
  | zero => rw [Finset.sum_range_zero, add_zero]; rfl
  | succ n ih => rw [dhTo, step_apply, ih, Finset.sum_range_succ, add_assoc]

/-- A sum over the hidden columns, chunk by chunk. -/
theorem sum_chunks (f : Fin 2816 → EReal) : ∑ k, f k = ∑ n : Fin 11, ∑ j : Fin 256, f (col n j) := by
  rw [← Fintype.sum_prod_type', ← Equiv.sum_comp (finProdFinEquiv (m := 11) (n := 256)) (fun k : Fin (11 * 256) => f k)]
  refine Finset.sum_congr rfl fun x _ => congrArg f (Fin.ext ?_)
  show x.2.val + 256 * x.1.val = 256 * x.1.val + x.2.val
  omega

/-- The embedding gate's part of the gradient of the normed input. -/
def dspW : FVec Ideal S256x1024 .f32 :=
  matmul (F := Ideal) (φ₁ := .bf16) (φ₂ := .bf16) dot_S256x1024_S1024x1024_S256x1024_1_1_0_0_n_n none b.dsp b.wpg (constant S256x1024 .f32 0x00000000#32)

theorem dh_apply (r : Fin 256) (d : Fin 1024) : b.dh (ix2 r d) = (b.row r).dh b.weights d := by
  have e : b.dh (ix2 r d) = b.dhTo 11 (ix2 r d) + b.dspW (ix2 r d) := rfl
  have e2 : b.dspW (ix2 r d) = ∑ k, b.dsp (ix2 r k) * b.wpg (ix2 d k) := by
    refine (Ideal.matmul_transposedRhs_apply (M := 256) (K := 1024) (N := 1024) none b.dsp b.wpg _ r d).trans ?_
    show Ideal.ofBits .f32 0#32 + _ = _
    rw [Ideal.ofBits_zero_f32, zero_add]
  rw [e, e2, dhTo_apply]
  unfold Row.dh
  rw [sum_chunks (fun k => (b.row r).dg b.weights k * b.weights.wg k d), sum_chunks (fun k => (b.row r).du b.weights k * b.weights.wu k d)]
  refine congrArg₂ (· + ·) ?_ (Finset.sum_congr rfl fun k _ => by rw [dsp_apply]; rfl)
  rw [add_assoc, ← Finset.sum_add_distrib, Finset.sum_range]
  refine congrArg (scale * b.dz (ix2 r d) + ·) (Finset.sum_congr rfl fun n _ => ?_)
  rw [show Fin.ofNat 11 n.val = n from Fin.ext (Nat.mod_eq_of_lt n.isLt)]; rfl

end Blk

theorem sum_row (v : FVec Ideal S256x1024 .f32) (r : Fin 256) :
    shapeCast S256x1 (multiReduction .add [1] S256 v 0x00000000#32 reduces_S256x1024_S256 (.inl rfl) rfl) shapeCasts_S256_S256x1 (ix2 r 0) = ∑ d : Fin 1024, v (ix2 r d) := by
  refine (shapeCast_apply (s := S256) (t := S256x1) _ _ (ix2 r 0) (ix1 r) ?_).trans ?_
  · rw [Shape.rowMajor_val_one, Shape.rowMajor_val_two]; show r.val = r.val * 1 + 0; omega
  refine (Ideal.multiReduction_add_single (s := S256x1024) (t := S256) (a := (1 : Fin 2)) v 0#32 reduces_S256x1024_S256 (.inl rfl) rfl (ix1 r)).trans ?_
  refine Finset.sum_congr rfl fun d _ => congrArg v (funext fun a => ?_)
  match a with
  | ⟨0, _⟩ => rfl
  | ⟨1, _⟩ => rfl

theorem sum_col (v : FVec Ideal S256x1024 .f32) (d : Fin 1024) :
    shapeCast S1x1024 (multiReduction .add [0] S1024 v 0x00000000#32 reduces_S256x1024_S1024 (.inl rfl) rfl) shapeCasts_S1024_S1x1024 (ix2 0 d) = ∑ r : Fin 256, v (ix2 r d) := by
  refine (shapeCast_apply (s := S1024) (t := S1x1024) _ _ (ix2 0 d) (ix1 d) ?_).trans ?_
  · rw [Shape.rowMajor_val_one, Shape.rowMajor_val_two]; show d.val = 0 * 1024 + d.val; omega
  refine (Ideal.multiReduction_add_single (s := S256x1024) (t := S1024) (a := (0 : Fin 2)) v 0#32 reduces_S256x1024_S1024 (.inl rfl) rfl (ix1 d)).trans ?_
  refine Finset.sum_congr rfl fun d _ => congrArg v (funext fun a => ?_)
  match a with
  | ⟨0, _⟩ => rfl
  | ⟨1, _⟩ => rfl

theorem pay80_apply (h z : FVec Ideal S256x1024 .f32) (g : Vec Ideal S1x1024 .f32) (q : Vec Ideal S256x1 .f32) (r : Fin 256) (d : Fin 1024) :
    k0_pay80 h z g q (ix2 r d) = q (ix2 r 0) * (h (ix2 r d) * g (ix2 0 d) - Ideal.div (∑ e, h (ix2 r e) * g (ix2 0 e)) width
      - z (ix2 r d) * Ideal.div (∑ e, h (ix2 r e) * g (ix2 0 e) * z (ix2 r e)) width) := by
  have row (v : Vec Ideal S256x1 .f32) : broadcastTo S256x1024 v broadcasts_S256x1_S256x1024 (ix2 r d) = v (ix2 r 0) :=
    broadcastTo_apply _ _ _ _ fun a => match a with | ⟨0, _⟩ => rfl | ⟨1, _⟩ => rfl
  have col (e : Fin 1024) : broadcastTo S256x1024 g broadcasts_S1x1024_S256x1024 (ix2 r e) = g (ix2 0 e) :=
    broadcastTo_apply _ _ _ _ fun a => match a with | ⟨0, _⟩ => rfl | ⟨1, _⟩ => rfl
  dsimp only [k0_pay80]
  simp only [shapeCast_self]
  refine congrArg₂ (· * ·) (row q) (congrArg₂ (· - ·) (congrArg₂ (· - ·) (congrArg (h (ix2 r d) * ·) (col d)) ((row _).trans ?_))
    (congrArg (z (ix2 r d) * ·) ((row _).trans ?_)))
  · refine congrArg (Ideal.div · width) ((sum_row _ r).trans (Finset.sum_congr rfl fun e _ => congrArg (h (ix2 r e) * ·) (col e)))
  · refine congrArg (Ideal.div · width) ((sum_row _ r).trans (Finset.sum_congr rfl fun e _ => congrArg (h (ix2 r e) * · * z (ix2 r e)) (col e)))

theorem pay1_apply (x : FVec Ideal S256x1024 .bf16) (w : Vec Ideal S1024x1024 .bf16) (r : Fin 256) (e : Fin 1024) :
    k0_pay1 x w (ix2 r e) = ∑ d, x (ix2 r d) * w (ix2 e d) := by
  refine (Ideal.matmul_transposedRhs_apply (M := 256) (K := 1024) (N := 1024) none x w _ r e).trans ?_
  show Ideal.ofBits .f32 0#32 + _ = _
  rw [Ideal.ofBits_zero_f32, zero_add]

namespace Blk
variable (b : Blk Ideal)

theorem dz1_apply (r : Fin 256) (d : Fin 1024) : b.dz1 (ix2 r d) = (b.row r).dz1 b.weights d := by
  have e : b.dz1 (ix2 r d) = k0_pay80 b.dh b.zh b.g1 b.r (ix2 r d) := by
    unfold dz1 k0_pay77; rw [shapeCast_self]
  rw [e, pay80_apply]
  simp only [dh_apply]; rfl

theorem dz1b_apply (r : Fin 256) (d : Fin 1024) : b.dz1b (ix2 r d) = (b.row r).dz1 b.weights d := b.dz1_apply r d

theorem dyr_apply (r : Fin 256) (e : Fin 512) : b.dyr (ix2 r e) = (b.row r).dy b.weights ⟨e.val, by omega⟩ := by
  refine (congrArg (k0_pay1 b.dz1b b.wo) (a₂ := ix2 r ⟨e.val, by omega⟩) ?_).trans ((pay1_apply _ _ _ _).trans (Finset.sum_congr rfl fun d _ => congrArg (· * _) (b.dz1b_apply r d)))
  funext a; apply Fin.ext
  match a with
  | ⟨0, _⟩ => show 0 + r.val = r.val; omega
  | ⟨1, _⟩ => show 0 + e.val = e.val; omega

theorem dya_apply (r : Fin 256) (e : Fin 512) : b.dya (ix2 r e) = (b.row r).dy b.weights ⟨512 + e.val, by omega⟩ := by
  refine (congrArg (k0_pay1 b.dz1b b.wo) (a₂ := ix2 r ⟨512 + e.val, by omega⟩) ?_).trans ((pay1_apply _ _ _ _).trans (Finset.sum_congr rfl fun d _ => congrArg (· * _) (b.dz1b_apply r d)))
  funext a; apply Fin.ext
  match a with
  | ⟨0, _⟩ => show 0 + r.val = r.val; omega
  | ⟨1, _⟩ => show 512 + e.val = 512 + e.val; omega

theorem dg1_apply (p : Vec Ideal S1x1024 .f32) (d : Fin 1024) : b.dg1 p (ix2 0 d) = p (ix2 0 d) + ∑ r : Fin 256, (b.row r).dh b.weights d * (b.row r).zh d := by
  unfold dg1 k0_pay77
  rw [shapeCast_self]
  dsimp only [k0_pay78]
  rw [shapeCast_self]
  exact congrArg (p (ix2 0 d) + ·) ((sum_col _ d).trans (Finset.sum_congr rfl fun r _ => congrArg (· * b.zh (ix2 r d)) (b.dh_apply r d)))

theorem db1_apply (p : Vec Ideal S1x1024 .f32) (d : Fin 1024) : b.db1 p (ix2 0 d) = p (ix2 0 d) + ∑ r : Fin 256, (b.row r).dh b.weights d := by
  unfold db1
  dsimp only [k0_pay79]
  rw [shapeCast_self]
  exact congrArg (p (ix2 0 d) + ·) ((sum_col _ d).trans (Finset.sum_congr rfl fun r _ => b.dh_apply r d))

end Blk

end Cert.Proof.Ffn

end
-- ==== Proof.Ffn.Norm.lean ====
/- A layer norm's row: the centred values, the variance plus epsilon, its inverse root and the normed values, and what
   holds of them on finite values. -/
module

public import proofs.«01_k».proof.Proof.Ffn.Row

@[expose] public section

noncomputable section

namespace Cert.Proof.Norm

open Idealize.ShloMosaic Cert.Proof.Ffn

variable (z : Fin 1024 → EReal)

def cen (d : Fin 1024) : EReal := z d - Ideal.div (∑ d, z d) width
def var : EReal := Ideal.div (∑ d, cen z d * cen z d) width + Ideal.ofBits .f32 0x3727C5AC#32
def inv : EReal := Ideal.rsqrt (var z)
def normed (d : Fin 1024) : EReal := cen z d * inv z

variable {z} (h : ∀ d, IsReal (z d))
include h

theorem cen_real (d : Fin 1024) : IsReal (cen z d) := by
  unfold cen; rw [width_eq]
  exact (h d).sub ((IsReal.sum h).div (by norm_num))
/-- The centred values sum to zero. -/
theorem cen_sum : ∑ d, cen z d = 0 := by
  choose z' hz using h
  simp only [cen, hz, width_eq, sum_coe, div_real _ (show (1024 : ℝ) ≠ 0 by norm_num), ← EReal.coe_sub]
  rw [Finset.sum_sub_distrib, Finset.sum_const, Finset.card_univ, Fintype.card_fin, nsmul_eq_mul, ← EReal.coe_zero]
  congr 1
  push_cast
  ring
theorem var_pos : ∃ v : ℝ, 0 < v ∧ var z = v := by
  obtain ⟨e, he, hE⟩ := eps_eq
  have hc := cen_real h
  choose c hc using hc
  refine ⟨(∑ d, c d * c d) / 1024 + e, ?_, ?_⟩
  · have : 0 ≤ ∑ d, c d * c d := Finset.sum_nonneg fun d _ => mul_self_nonneg _
    positivity
  · unfold var; rw [hE]
    simp only [hc, width_eq, ← EReal.coe_mul, sum_coe, div_real _ (show (1024 : ℝ) ≠ 0 by norm_num), ← EReal.coe_add]
theorem inv_eq : IsReal (inv z) ∧ IsReal (var z) ∧ var z ≠ 0 ∧ inv z * inv z * var z = 1 := by
  obtain ⟨v, hv, e⟩ := var_pos h
  have er : inv z = (((Real.sqrt v)⁻¹ : ℝ) : EReal) := by
    rw [inv, e, Ideal.rsqrt_coe, if_neg (not_lt.mpr hv.le), if_neg hv.ne']
  refine ⟨er ▸ .coe _, e ▸ .coe _, ?_, ?_⟩
  · rw [e]; exact_mod_cast hv.ne'
  · rw [er, e]
    have := Real.mul_self_sqrt hv.le
    have hs : Real.sqrt v ≠ 0 := (Real.sqrt_pos.mpr hv).ne'
    norm_cast
    field_simp
    nlinarith
theorem normed_real (d : Fin 1024) : IsReal (normed z d) := (cen_real h d).mul (inv_eq h).1

end Cert.Proof.Norm

end
-- ==== Proof.Ffn.RefValue.lean ====
/- The reference's results, read element by element: each row of them is the mathematics of that row, where its saved
   values are the forward pass's. -/
module

public import proofs.«01_k».proof.Proof.Ffn.Norm
public import proofs.«01_k».proof.Proof.Gen.FfnRefIdeal.Run

@[expose] public section

noncomputable section

namespace Cert.Proof.Ffn

open Idealize.ShloMosaic Idealize.ShloMosaic.ValueIdx Idealize.SL.Sem Cert.FfnRefIdeal Cert.FfnRefIdeal.Gen Cert.FfnRefIdeal.Value

/-- The arguments. -/
structure Args where
  x : FVec Ideal S4096x1024 .f32
  yr : FVec Ideal S4096x512 .f32
  ya : FVec Ideal S4096x512 .f32
  p : FVec Ideal S4096x256 .f32
  wo : FVec Ideal S1024x1024 .f32
  g1 : FVec Ideal S1x1024 .f32
  b1 : FVec Ideal S1x1024 .f32
  wg : FVec Ideal S1024x2816 .f32
  wu : FVec Ideal S1024x2816 .f32
  wd : FVec Ideal S2816x1024 .f32
  wp : FVec Ideal S256x1024 .f32
  wpg : FVec Ideal S1024x1024 .f32
  dz : FVec Ideal S4096x1024 .f32

/-- Every argument finite. -/
structure Args.Finite (a : Args) : Prop where
  x : ∀ i, IsReal (a.x i)
  yr : ∀ i, IsReal (a.yr i)
  ya : ∀ i, IsReal (a.ya i)
  p : ∀ i, IsReal (a.p i)
  wo : ∀ i, IsReal (a.wo i)
  g1 : ∀ i, IsReal (a.g1 i)
  b1 : ∀ i, IsReal (a.b1 i)
  wg : ∀ i, IsReal (a.wg i)
  wu : ∀ i, IsReal (a.wu i)
  wd : ∀ i, IsReal (a.wd i)
  wp : ∀ i, IsReal (a.wp i)
  wpg : ∀ i, IsReal (a.wpg i)
  dz : ∀ i, IsReal (a.dz i)

variable (V0 : Valuation τ sig (Elt Ideal))

/-- The reference's arguments. -/
def args : Args where
  x := V0 (Proc.devRef .tc main_arg0)
  yr := V0 (Proc.devRef .tc main_arg1)
  ya := V0 (Proc.devRef .tc main_arg2)
  p := V0 (Proc.devRef .tc main_arg3)
  wo := V0 (Proc.devRef .tc main_arg4)
  g1 := V0 (Proc.devRef .tc main_arg5)
  b1 := V0 (Proc.devRef .tc main_arg6)
  wg := V0 (Proc.devRef .tc main_arg7)
  wu := V0 (Proc.devRef .tc main_arg8)
  wd := V0 (Proc.devRef .tc main_arg9)
  wp := V0 (Proc.devRef .tc main_arg10)
  wpg := V0 (Proc.devRef .tc main_arg11)
  dz := V0 (Proc.devRef .tc main_arg12)

/-- Row `t` of the saved values and of the incoming gradient. -/
def refRow (t : Fin 4096) : Row where
  dz d := (args V0).dz (ix2 t d)
  g k := res_main_v32 V0 (ix2 t k)
  u k := res_main_v33 V0 (ix2 t k)
  pg d := res_main_v47 V0 (ix2 t d)
  ple d := res_main_v35 V0 (ix2 t d)
  zh d := res_main_v27 V0 (ix2 t d)
  r := res_main_v22 V0 (ix2 t 0)

def refWeights : Weights where
  g1 d := (args V0).g1 (ix2 0 d)
  wg k d := (args V0).wg (ix2 d k)
  wu k d := (args V0).wu (ix2 d k)
  wd k d := (args V0).wd (ix2 k d)
  wpg d e := (args V0).wpg (ix2 d e)
  wo e d := (args V0).wo (ix2 e d)

/-! ## Layout -/

theorem red1 : S4096x1024.Reduces [1] S4096 := by decide
theorem red0 : S4096x1024.Reduces [0] S1024 := by decide
theorem red11 : S4096x1.Reduces [1] S4096 := by decide

theorem row_apply (x : FVec Ideal S4096x1 .f32) (t : Fin 4096) (d : Fin 1024) :
    broadcastInDim S4096x1024 ![0, 1] bcast_S4096x1_S4096x1024_0_1 x (ix2 t d) = x (ix2 t 0) :=
  broadcastInDim_apply _ _ _ _ _ fun a => match a with | ⟨0, _⟩ => rfl | ⟨1, _⟩ => rfl
theorem vec_row_apply (x : FVec Ideal S4096 .f32) (t : Fin 4096) (d : Fin 1024) :
    broadcastInDim S4096x1024 ![0] bcast_S4096_S4096x1024_0 x (ix2 t d) = x (ix1 t) :=
  broadcastInDim_apply _ _ _ _ _ fun a => match a with | ⟨0, _⟩ => rfl
theorem vec_col_apply (x : FVec Ideal S4096 .f32) (t : Fin 4096) :
    broadcastInDim S4096x1 ![0] bcast_S4096_S4096x1_0 x (ix2 t 0) = x (ix1 t) :=
  broadcastInDim_apply _ _ _ _ _ fun a => match a with | ⟨0, _⟩ => rfl
theorem gain_apply (x : FVec Ideal S1x1024 .f32) (t : Fin 4096) (d : Fin 1024) :
    broadcastInDim S4096x1024 ![0, 1] bcast_S1x1024_S4096x1024_0_1 x (ix2 t d) = x (ix2 0 d) :=
  broadcastInDim_apply _ _ _ _ _ fun a => match a with | ⟨0, _⟩ => rfl | ⟨1, _⟩ => rfl
theorem cast_col_apply (x : FVec Ideal S4096 .f32) (t : Fin 4096) : shapeCast S4096x1 x shapeCasts_S4096_S4096x1 (ix2 t 0) = x (ix1 t) :=
  shapeCast_apply _ _ _ _ (by rw [Shape.rowMajor_val_one, Shape.rowMajor_val_two]; show t.val = t.val * 1 + 0; omega)
theorem cast_row_apply (x : FVec Ideal S1024 .f32) (d : Fin 1024) : shapeCast S1x1024 x shapeCasts_S1024_S1x1024 (ix2 0 d) = x (ix1 d) :=
  shapeCast_apply _ _ _ _ (by rw [Shape.rowMajor_val_one, Shape.rowMajor_val_two]; show d.val = 0 * 1024 + d.val; omega)

theorem sum1 (x : FVec Ideal S4096x1024 .f32) (t : Fin 4096) :
    Host.reduceAdd x (constant S_ .f32 0x00000000#32) reducesTo_S4096x1024_S4096_d1 h_S_ (ix1 t) = ∑ d : Fin 1024, x (ix2 t d) :=
  rowSum_apply _ red1 _ _ _ Ideal.ofBits_zero_f32 _
theorem sum0 (x : FVec Ideal S4096x1024 .f32) (d : Fin 1024) :
    Host.reduceAdd x (constant S_ .f32 0x00000000#32) reducesTo_S4096x1024_S1024_d0 h_S_ (ix1 d) = ∑ t : Fin 4096, x (ix2 t d) :=
  colSum_apply _ red0 _ _ _ Ideal.ofBits_zero_f32 _
/-- A sum over an axis of one position is its element. -/
theorem sum11 (x : FVec Ideal S4096x1 .f32) (t : Fin 4096) :
    Host.reduceAdd x (constant S_ .f32 0x00000000#32) reducesTo_S4096x1_S4096_d1 h_S_ (ix1 t) = x (ix2 t 0) :=
  (rowSum_apply _ red11 _ _ _ Ideal.ofBits_zero_f32 _).trans (Fin.sum_univ_one _)

/-! ## The forward values are finite -/

/-- The layer norm's input, its centred values, the variance plus epsilon, the inverse root, the normed values and the output. -/
def z1 (t : Fin 4096) (d : Fin 1024) : EReal := res_main_v4 V0 (ix2 t d)
def cen (t : Fin 4096) (d : Fin 1024) : EReal := res_main_v10 V0 (ix2 t d)
def var (t : Fin 4096) : EReal := res_main_v21 V0 (ix2 t 0)
def rs (t : Fin 4096) : EReal := res_main_v22 V0 (ix2 t 0)
def zh (t : Fin 4096) (d : Fin 1024) : EReal := res_main_v27 V0 (ix2 t d)
def hh (t : Fin 4096) (d : Fin 1024) : EReal := res_main_v31 V0 (ix2 t d)

/-- The mix of two finite halves is finite. -/
theorem mix_real {yr ya : FVec Ideal S4096x512 .f32} (hr : ∀ i, IsReal (yr i)) (ha : ∀ i, IsReal (ya i)) (t : Fin 4096) (e : Fin 1024) :
    IsReal (concatenate S4096x1024 1 [⟨S4096x512, yr⟩, ⟨S4096x512, ya⟩] concatenates_S4096x512_S4096x512_S4096x1024_d1 (ix2 t e)) := by
  by_cases he : e.val < 512
  · have e1 := concatenate_pair_apply_left 1 yr ya concatenates_S4096x512_S4096x512_S4096x1024_d1 (ix2 t e) rfl (ix2 t ⟨e.val, he⟩)
      (fun b => match b with | ⟨0, _⟩ => rfl | ⟨1, _⟩ => rfl)
    exact (congrArg IsReal e1).mpr (hr _)
  · have e2 := concatenate_pair_apply_right 1 yr ya concatenates_S4096x512_S4096x512_S4096x1024_d1 (ix2 t e) rfl rfl
      (ix2 t ⟨e.val - 512, by have := e.isLt; omega⟩)
      (fun b hb => match b with | ⟨0, _⟩ => rfl | ⟨1, _⟩ => absurd rfl hb) (by show e.val - 512 + 512 = e.val; omega)
    exact (congrArg IsReal e2).mpr (ha _)

theorem z1_apply (t : Fin 4096) (d : Fin 1024) : ∃ y : Fin 1024 → EReal, ((args V0).Finite → ∀ e, IsReal (y e))
    ∧ z1 V0 t d = scale * (args V0).x (ix2 t d) + ∑ e, y e * (args V0).wo (ix2 e d) := by
  refine ⟨fun e => concatenate S4096x1024 1 [⟨S4096x512, (args V0).yr⟩, ⟨S4096x512, (args V0).ya⟩] concatenates_S4096x512_S4096x512_S4096x1024_d1 (ix2 t e), fun h e => mix_real h.yr h.ya t e, ?_⟩
  exact congrArg (scale * (args V0).x (ix2 t d) + ·) (dotPlain_apply (M := 4096) (K := 1024) (N := 1024) _ _ t d)

theorem cen_apply (t : Fin 4096) (d : Fin 1024) : cen V0 t d = Norm.cen (z1 V0 t) d :=
  congrArg (z1 V0 t d - ·) ((row_apply _ t d).trans (congrArg (Ideal.div · width) ((vec_col_apply _ t).trans (sum1 _ t))))
theorem var_apply (t : Fin 4096) : var V0 t = Norm.var (z1 V0 t) := by
  refine congrArg (fun x => Ideal.div x width + Ideal.ofBits .f32 0x3727C5AC#32) ((vec_col_apply _ t).trans ((sum1 _ t).trans (Finset.sum_congr rfl fun e _ => ?_)))
  exact congrArg₂ (· * ·) (cen_apply V0 t e) (cen_apply V0 t e)
theorem rs_apply (t : Fin 4096) : rs V0 t = Ideal.rsqrt (var V0 t) := rfl
theorem zh_apply (t : Fin 4096) (d : Fin 1024) : zh V0 t d = cen V0 t d * rs V0 t := congrArg (cen V0 t d * ·) (row_apply _ t d)
theorem hh_apply (t : Fin 4096) (d : Fin 1024) : hh V0 t d = zh V0 t d * (args V0).g1 (ix2 0 d) + (args V0).b1 (ix2 0 d) :=
  congrArg₂ (fun x y => zh V0 t d * x + y) (gain_apply _ t d) (gain_apply _ t d)
theorem g_apply (t : Fin 4096) (k : Fin 2816) : (refRow V0 t).g k = ∑ d, hh V0 t d * (args V0).wg (ix2 d k) :=
  dotPlain_apply (M := 4096) (K := 1024) (N := 2816) _ _ t k
theorem u_apply (t : Fin 4096) (k : Fin 2816) : (refRow V0 t).u k = ∑ d, hh V0 t d * (args V0).wu (ix2 d k) :=
  dotPlain_apply (M := 4096) (K := 1024) (N := 2816) _ _ t k
theorem ple_apply (t : Fin 4096) (d : Fin 1024) : (refRow V0 t).ple d = ∑ e, (args V0).p (ix2 t e) * (args V0).wp (ix2 e d) :=
  dotPlain_apply (M := 4096) (K := 256) (N := 1024) _ _ t d
theorem pg_apply (t : Fin 4096) (d : Fin 1024) : (refRow V0 t).pg d = sg (∑ e, hh V0 t e * (args V0).wpg (ix2 e d)) := by
  refine Eq.trans (b := _) ?_ (congrArg sg (dotPlain_apply (φ₁ := .f32) (φ₂ := .f32) (M := 4096) (K := 1024) (N := 1024) (res_main_v31 V0) (args V0).wpg t d))
  show Ideal.div (Ideal.ofBits .f32 0x3F800000#32) (Ideal.ofBits .f32 0x3F800000#32 + _) = _
  rw [Ideal.ofBits_one_f32]; rfl

section Finite
variable {V0} (h : (args V0).Finite) (t : Fin 4096)
include h

theorem z1_real (d : Fin 1024) : IsReal (z1 V0 t d) := by
  obtain ⟨y, hy, e⟩ := z1_apply V0 t d
  rw [e]
  exact (scale_real.mul (h.x _)).add (.sum fun k => (hy h k).mul (h.wo _))
theorem cen_real (d : Fin 1024) : IsReal (cen V0 t d) := cen_apply V0 t d ▸ Norm.cen_real (z1_real h t) d
theorem cen_sum : ∑ d, cen V0 t d = 0 := (Finset.sum_congr rfl fun d _ => cen_apply V0 t d).trans (Norm.cen_sum (z1_real h t))
theorem rs_eq : IsReal (rs V0 t) ∧ IsReal (var V0 t) ∧ var V0 t ≠ 0 ∧ rs V0 t * rs V0 t * var V0 t = 1 := by
  rw [rs_apply, var_apply]; exact Norm.inv_eq (z1_real h t)
theorem zh_real (d : Fin 1024) : IsReal (zh V0 t d) := by
  rw [zh_apply]; exact (cen_real h t d).mul (rs_eq h t).1
theorem hh_real (d : Fin 1024) : IsReal (hh V0 t d) := by
  rw [hh_apply]; exact ((zh_real h t d).mul (h.g1 _)).add (h.b1 _)
theorem g_real (k : Fin 2816) : IsReal ((refRow V0 t).g k) := by
  rw [g_apply]; exact .sum fun d => (hh_real h t d).mul (h.wg _)
theorem u_real (k : Fin 2816) : IsReal ((refRow V0 t).u k) := by
  rw [u_apply]; exact .sum fun d => (hh_real h t d).mul (h.wu _)
theorem ple_real (d : Fin 1024) : IsReal ((refRow V0 t).ple d) := by
  rw [ple_apply]; exact .sum fun e => (h.p _).mul (h.wp _)
theorem pg_real (d : Fin 1024) : IsReal ((refRow V0 t).pg d) := by
  rw [pg_apply]; exact (IsReal.sum fun e => (hh_real h t e).mul (h.wpg _)).sg

end Finite

/-! ## The results -/

/-- An entry of an array, as an extended real. -/
def ev {s : Shape} (x : FVec Ideal s .f32) (i : s.Idx) : EReal := x i

theorem dz_apply (t : Fin 4096) (d : Fin 1024) : ev (res_main_v53 V0) (ix2 t d) = (refRow V0 t).dz d :=
  congrFun (shapeCast_self (s := S4096x1024) _ _) _

theorem da_ref (t : Fin 4096) (k : Fin 2816) : ev (res_main_v60 V0) (ix2 t k) = (refRow V0 t).da (refWeights V0) k :=
  (dotT_apply (M := 4096) (K := 1024) (N := 2816) _ _ t k).trans (Finset.sum_congr rfl fun d _ => congrArg (· * (args V0).wd (ix2 k d)) (dz_apply V0 t d))

theorem sg_ref (t : Fin 4096) (k : Fin 2816) : ev (res_main_v36_2 V0) (ix2 t k) = sg ((refRow V0 t).g k) := by
  show Ideal.div (Ideal.ofBits .f32 0x3F800000#32) (Ideal.ofBits .f32 0x3F800000#32 + _) = _
  rw [Ideal.ofBits_one_f32]; rfl

theorem du_ref (t : Fin 4096) (k : Fin 2816) : ev (res_main_v61 V0) (ix2 t k) = (refRow V0 t).du (refWeights V0) k := by
  show (refRow V0 t).g k * ev (res_main_v36_2 V0) (ix2 t k) * ev (res_main_v60 V0) (ix2 t k) = _
  rw [sg_ref, da_ref, mul_comm, ← mul_assoc]; rfl

theorem ds_ref (t : Fin 4096) (d : Fin 1024) : ev (res_main_v57 V0) (ix2 t d) = (refRow V0 t).ds d := by
  show ev (res_main_v53 V0) (ix2 t d) * (refRow V0 t).ple d * ((refRow V0 t).pg d * (Ideal.ofBits .f32 0x3F800000#32 - (refRow V0 t).pg d)) = _
  rw [dz_apply, Ideal.ofBits_one_f32, ← mul_assoc]; rfl

theorem dple_ref (t : Fin 4096) (d : Fin 1024) : ev (res_main_v47 V0) (ix2 t d) * ev (res_main_v54 V0) (ix2 t d) = (refRow V0 t).dple d :=
  (congrArg ((refRow V0 t).pg d * ·) (dz_apply V0 t d)).trans (mul_comm _ _)

section Results
variable {V0} (h : (args V0).Finite) (t : Fin 4096)
include h

theorem da_real (k : Fin 2816) : IsReal ((refRow V0 t).da (refWeights V0) k) := .sum fun _ => (h.dz _).mul (h.wd _)

theorem dg_ref (k : Fin 2816) : ev (res_main_v63 V0) (ix2 t k) = (refRow V0 t).dg (refWeights V0) k := by
  show (ev (res_main_v60 V0) (ix2 t k) * (refRow V0 t).u k) * ev (res_main_v36_2 V0) (ix2 t k)
    + ((refRow V0 t).g k * (ev (res_main_v60 V0) (ix2 t k) * (refRow V0 t).u k)) * (ev (res_main_v36_2 V0) (ix2 t k) * (Ideal.ofBits .f32 0x3F800000#32 - ev (res_main_v36_2 V0) (ix2 t k))) = _
  rw [sg_ref, da_ref, Ideal.ofBits_one_f32]
  exact gate (da_real h t k) (g_real h t k) (u_real h t k)

theorem dh_ref (d : Fin 1024) : ev (res_main_v69 V0) (ix2 t d) = (refRow V0 t).dh (refWeights V0) d := by
  have e1 : Host.dotGeneral (F := Ideal) (φ₁ := .f32) (φ₂ := .f32) dot_S4096x1024_S1024x1024_S4096x1024_1_1_0_0_n_n none (res_main_v57 V0) (args V0).wpg (ix2 t d) = ∑ e, (refRow V0 t).ds e * (refWeights V0).wpg d e :=
    (dotT_apply (M := 4096) (K := 1024) (N := 1024) _ _ t d).trans (Finset.sum_congr rfl fun e _ => congrArg (· * (args V0).wpg (ix2 d e)) (ds_ref V0 t e))
  have e2 : Host.dotGeneral (F := Ideal) (φ₁ := .f32) (φ₂ := .f32) dot_S4096x2816_S1024x2816_S4096x1024_1_1_0_0_n_n none (res_main_v61 V0) (args V0).wu (ix2 t d) = ∑ k, (refRow V0 t).du (refWeights V0) k * (refWeights V0).wu k d :=
    (dotT_apply (M := 4096) (K := 2816) (N := 1024) _ _ t d).trans (Finset.sum_congr rfl fun e _ => congrArg (· * (args V0).wu (ix2 d e)) (du_ref V0 t e))
  have e3 : Host.dotGeneral (F := Ideal) (φ₁ := .f32) (φ₂ := .f32) dot_S4096x2816_S1024x2816_S4096x1024_1_1_0_0_n_n none (res_main_v63 V0) (args V0).wg (ix2 t d) = ∑ k, (refRow V0 t).dg (refWeights V0) k * (refWeights V0).wg k d :=
    (dotT_apply (M := 4096) (K := 2816) (N := 1024) _ _ t d).trans (Finset.sum_congr rfl fun e _ => congrArg (· * (args V0).wg (ix2 d e)) (dg_ref h t e))
  refine (congrArg₂ (· + ·) (congrArg (scale * ·) (dz_apply V0 t d)) (congrArg₂ (· + ·) (congrArg₂ (· + ·) e1 e2) e3)).trans ?_
  have key : ∀ a b c d : EReal, a + ((b + c) + d) = a + d + c + b := fun a b c d => by abel
  exact key _ _ _ _

theorem dh_real (d : Fin 1024) : IsReal ((refRow V0 t).dh (refWeights V0) d) := by
  have hd (k : Fin 2816) := da_real h t k
  have hs (k : Fin 2816) := (g_real h t k).sg
  have h1 : IsReal 1 := ⟨1, rfl⟩
  refine (((scale_real.mul (h.dz _)).add (.sum fun k => ?_)).add (.sum fun k => ?_)).add (.sum fun e => ?_)
  · exact (((hd k).mul (u_real h t k)).mul (hs k)).mul (h1.add ((g_real h t k).mul (h1.sub (hs k)))) |>.mul (h.wg _)
  · exact (((hd k).mul (g_real h t k)).mul (hs k)).mul (h.wu _)
  · exact ((((h.dz _).mul (ple_real h t e)).mul (pg_real h t e)).mul (h1.sub (pg_real h t e))).mul (h.wpg _)

theorem dzh_ref (d : Fin 1024) : ev (res_main_v76 V0) (ix2 t d) = (refRow V0 t).dzh (refWeights V0) d :=
  congrArg₂ (· * ·) (dh_ref h t d) (gain_apply _ t d)

/-- The gradient of the layer norm's input, as the reference writes it. -/
def dz1Ref (V0 : Valuation τ sig (Elt Ideal)) : FVec Ideal S4096x1024 .f32 :=
  addf (addf (res_main_v81 V0) (res_main_v90 V0)) (broadcastInDim S4096x1024 ![0] bcast_S4096_S4096x1024_0 (Host.reduceAdd (Host.divf (addf (shapeCast _ (Host.reduceAdd (Host.negf (res_main_v81 V0)) (constant S_ .f32 0x00000000#32) reducesTo_S4096x1024_S4096_d1 h_S_) shapeCasts_S4096_S4096x1) (shapeCast _ (Host.reduceAdd (Host.negf (res_main_v90 V0)) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

theorem v81_ref (d : Fin 1024) : ev (res_main_v81 V0) (ix2 t d) = (refRow V0 t).dzh (refWeights V0) d * rs V0 t :=
  congrArg₂ (· * ·) (dzh_ref h t d) (row_apply _ t d)

theorem v90_ref (d : Fin 1024) : ev (res_main_v90 V0) (ix2 t d)
    = Ideal.div ((∑ e, cen V0 t e * (refRow V0 t).dzh (refWeights V0) e) * (Ideal.ofBits .f32 0xBF000000#32 * Ideal.div (rs V0 t) (var V0 t))) width * (Ideal.ofBits .f32 0x40000000#32 * cen V0 t d) := by
  refine congrArg (· * (Ideal.ofBits .f32 0x40000000#32 * cen V0 t d)) ((vec_row_apply _ t d).trans ((sum11 _ t).trans ?_))
  refine congrArg (fun x => Ideal.div (x * (Ideal.ofBits .f32 0xBF000000#32 * Ideal.div (rs V0 t) (var V0 t))) width) ((cast_col_apply _ t).trans ((sum1 _ t).trans ?_))
  exact Finset.sum_congr rfl fun e _ => congrArg (cen V0 t e * ·) (dzh_ref h t e)

theorem dz1_ref (d : Fin 1024) : dz1Ref V0 (ix2 t d) = (refRow V0 t).dz1 (refWeights V0) d := by
  have e1 : dz1Ref V0 (ix2 t d) = ev (res_main_v81 V0) (ix2 t d) + ev (res_main_v90 V0) (ix2 t d)
      + Ideal.div (∑ e, -ev (res_main_v81 V0) (ix2 t e) + ∑ e, -ev (res_main_v90 V0) (ix2 t e)) width := by
    refine congrArg (ev (res_main_v81 V0) (ix2 t d) + ev (res_main_v90 V0) (ix2 t d) + ·) ((vec_row_apply _ t d).trans ((sum11 _ t).trans ?_))
    exact congrArg (Ideal.div · width) (congrArg₂ (· + ·) ((cast_col_apply _ t).trans (sum1 _ t)) ((cast_col_apply _ t).trans (sum1 _ t)))
  rw [e1]
  simp only [v81_ref h, v90_ref h]
  obtain ⟨hr, hv, hv0, hrv⟩ := rs_eq h t
  refine (layer_norm (cen_real h t) (fun e => (dh_real h t e).mul (h.g1 _)) hr hv hv0 hrv (cen_sum h t) d).trans ?_
  simp only [← zh_apply]; rfl

theorem dy_ref (e : Fin 1024) : ev (res_main_v103 V0) (ix2 t e) = (refRow V0 t).dy (refWeights V0) e :=
  (dotT_apply (M := 4096) (K := 1024) (N := 1024) (dz1Ref V0) (args V0).wo t e).trans
    (Finset.sum_congr rfl fun d _ => congrArg (· * (args V0).wo (ix2 e d)) (dz1_ref h t d))

end Results

theorem dg1_ref (h : (args V0).Finite) (d : Fin 1024) :
    shapeCast S1x1024 (Host.reduceAdd (F := Ideal) (φ := .f32) (mulf (res_main_v27 V0) (res_main_v69 V0)) (constant S_ .f32 0x00000000#32) reducesTo_S4096x1024_S1024_d0 h_S_) shapeCasts_S1024_S1x1024 (ix2 0 d)
      = ∑ t, (refRow V0 t).dh (refWeights V0) d * (refRow V0 t).zh d :=
  (cast_row_apply _ d).trans ((sum0 _ d).trans (Finset.sum_congr rfl fun t _ =>
    (congrArg ((refRow V0 t).zh d * ·) (dh_ref h t d)).trans (mul_comm _ _)))

theorem db1_ref (h : (args V0).Finite) (d : Fin 1024) :
    shapeCast S1x1024 (Host.reduceAdd (F := Ideal) (φ := .f32) (res_main_v69 V0) (constant S_ .f32 0x00000000#32) reducesTo_S4096x1024_S1024_d0 h_S_) shapeCasts_S1024_S1x1024 (ix2 0 d)
      = ∑ t, (refRow V0 t).dh (refWeights V0) d :=
  (cast_row_apply _ d).trans ((sum0 _ d).trans (Finset.sum_congr rfl fun t _ => dh_ref h t d))

end Cert.Proof.Ffn

end
-- ==== Proof.Ffn.Saved.lean ====
/- The values the feed-forward backward call is run on are the reference's forward values. -/
module

public import proofs.«01_k».proof.Proof.Ffn.BlockValue
public import proofs.«01_k».proof.Proof.Ffn.Frame
public import proofs.«01_k».proof.Proof.Ffn.RefValue
public import proofs.«01_k».proof.Proof.Gen.FfnRefIdeal.Read
public import Idealize.ShloMosaic.Lib.Pipeline.ValueKit.Geometry

@[expose] public section

noncomputable section

namespace Cert.Proof.Ffn

open Idealize.ShloMosaic Idealize.ShloMosaic.TcCoe Idealize.ShloMosaic.ValueIdx Idealize.SL.Sem
open Cert.FfnIdeal Cert.FfnIdeal.Gen
open Cert.FfnRefIdeal.Read (val_main_v32 val_main_v33 val_main_v47 val_main_v35 val_main_v27 val_main_v22)

variable (m : (ℓ : Loc nD τ sig) → Buf (Elt Ideal) ℓ)
variable (V0 : Valuation Cert.FfnRefIdeal.τ Cert.FfnRefIdeal.sig (Elt Ideal))

/-- The kernel's arguments on core `c`. -/
def kargs (c : Dev nD) : Args where
  x := m ((c.tc : Thread nD τ).loc main_arg0)
  yr := m ((c.tc : Thread nD τ).loc main_arg1)
  ya := m ((c.tc : Thread nD τ).loc main_arg2)
  p := m ((c.tc : Thread nD τ).loc main_arg3)
  wo := m ((c.tc : Thread nD τ).loc main_arg4)
  g1 := m ((c.tc : Thread nD τ).loc main_arg5)
  b1 := m ((c.tc : Thread nD τ).loc main_arg6)
  wg := m ((c.tc : Thread nD τ).loc main_arg7)
  wu := m ((c.tc : Thread nD τ).loc main_arg8)
  wd := m ((c.tc : Thread nD τ).loc main_arg9)
  wp := m ((c.tc : Thread nD τ).loc main_arg10)
  wpg := m ((c.tc : Thread nD τ).loc main_arg11)
  dz := m ((c.tc : Thread nD τ).loc main_arg12)

/-- Row `r` of point `t`'s block, in the whole array. -/
def rowOf (t : Fin cfg0.N) (r : Fin 256) : Fin 4096 := ⟨256 * t.val + r.val, by have := t.isLt; have := points; have := r.isLt; omega⟩

section Rows
variable (c : Dev nD) (t : Fin cfg0.N) (r : Fin 256)

theorem coords_val : (grid0.coords t 0).val = t.val := by
  have := t.isLt; have := points
  have e0 : (grid0.coords t 0).val = t.val / 1 % 16 := Pipeline.Grid.coords_val t 0 (by decide) rfl
  omega

theorem idx_ext {n k : Nat} (i j : (⟨2, ![n, k]⟩ : Shape).Idx) (h0 : (i 0).val = (j 0).val) (h1 : (i 1).val = (j 1).val) : i = j :=
  funext fun a => Fin.ext (match a with | ⟨0, _⟩ => h0 | ⟨1, _⟩ => h1)

/-- Point `t`'s block starts at row `256 t`. -/
theorem row_val : (BitVec.ofNat 32 (grid0.coords t 0).val).toNat * 256 + r.val = 256 * t.val + r.val := by
  have := t.isLt; have := points
  rw [coords_val, BitVec.toNat_ofNat, Nat.mod_eq_of_lt (by omega), Nat.mul_comm]
theorem col_val (d : Nat) (n : Nat) : (0#32).toNat * n + d = d := by simp

theorem iblk_0 (d : Fin 1024) : iblk m c 0 t (ix2 r d) = V m c main_arg12 (ix2 (rowOf t r) d) := by
  unfold iblk; blk_simp
  exact congrArg (V m c main_arg12) (idx_ext _ _ (by blk_simp; exact row_val t r) (by blk_simp; exact col_val _ _))
theorem iblk_1 (k : Fin 2816) : iblk m c 1 t (ix2 r k) = V m c main_v41 (ix2 (rowOf t r) k) := by
  unfold iblk; blk_simp
  exact congrArg (V m c main_v41) (idx_ext _ _ (by blk_simp; exact row_val t r) (by blk_simp; exact col_val _ _))
theorem iblk_2 (k : Fin 2816) : iblk m c 2 t (ix2 r k) = V m c main_v42 (ix2 (rowOf t r) k) := by
  unfold iblk; blk_simp
  exact congrArg (V m c main_v42) (idx_ext _ _ (by blk_simp; exact row_val t r) (by blk_simp; exact col_val _ _))
theorem iblk_3 (d : Fin 1024) : iblk m c 3 t (ix2 r d) = V m c main_v43 (ix2 (rowOf t r) d) := by
  unfold iblk; blk_simp
  exact congrArg (V m c main_v43) (idx_ext _ _ (by blk_simp; exact row_val t r) (by blk_simp; exact col_val _ _))
theorem iblk_4 (d : Fin 1024) : iblk m c 4 t (ix2 r d) = V m c main_v44 (ix2 (rowOf t r) d) := by
  unfold iblk; blk_simp
  exact congrArg (V m c main_v44) (idx_ext _ _ (by blk_simp; exact row_val t r) (by blk_simp; exact col_val _ _))
theorem iblk_5 (d : Fin 1024) : iblk m c 5 t (ix2 r d) = V m c main_v22 (ix2 (rowOf t r) d) := by
  unfold iblk; blk_simp
  exact congrArg (V m c main_v22) (idx_ext _ _ (by blk_simp; exact row_val t r) (by blk_simp; exact col_val _ _))
theorem iblk_6 : iblk m c 6 t (ix2 r 0) = V m c main_v18 (ix2 (rowOf t r) 0) := by
  unfold iblk; blk_simp
  exact congrArg (V m c main_v18) (idx_ext _ _ (by blk_simp; exact row_val t r) (by blk_simp; rfl))
theorem iblk_7 (d : Fin 1024) : iblk m c 7 t (ix2 0 d) = V m c main_arg5 (ix2 0 d) := by
  unfold iblk; blk_simp
  exact congrArg (V m c main_arg5) (idx_ext _ _ (by blk_simp; rfl) (by blk_simp; exact col_val _ _))

end Rows

/-! ## The saved values are the reference's forward values -/

section Saved
variable {m V0} {c : Dev nD} (hA : args V0 = kargs m c)
include hA

set_option maxHeartbeats 1600000 in
theorem row_eq (t : Fin cfg0.N) (r : Fin 256) : (blk m c t).row r = refRow V0 (rowOf t r) := by
  have e0 : V m c main_arg12 = (args V0).dz := hA ▸ V_main_arg12 m c
  have e1 : V m c main_v41 = Cert.FfnRefIdeal.Value.res_main_v32 V0 :=
    (congrArg (fun a : Args => val_main_v32 (F := Ideal) a.x a.yr a.ya a.wo a.g1 a.b1 a.wg) hA).symm
  have e2 : V m c main_v42 = Cert.FfnRefIdeal.Value.res_main_v33 V0 :=
    (congrArg (fun a : Args => val_main_v33 (F := Ideal) a.x a.yr a.ya a.wo a.g1 a.b1 a.wu) hA).symm
  have e3 : V m c main_v43 = Cert.FfnRefIdeal.Value.res_main_v47 V0 :=
    (congrArg (fun a : Args => val_main_v47 (F := Ideal) a.x a.yr a.ya a.wo a.g1 a.b1 a.wpg) hA).symm
  have e4 : V m c main_v44 = Cert.FfnRefIdeal.Value.res_main_v35 V0 :=
    (congrArg (fun a : Args => val_main_v35 (F := Ideal) a.p a.wp) hA).symm
  have e5 : V m c main_v22 = Cert.FfnRefIdeal.Value.res_main_v27 V0 :=
    (congrArg (fun a : Args => val_main_v27 (F := Ideal) a.x a.yr a.ya a.wo) hA).symm
  have e6 : V m c main_v18 = Cert.FfnRefIdeal.Value.res_main_v22 V0 :=
    (congrArg (fun a : Args => val_main_v22 (F := Ideal) a.x a.yr a.ya a.wo) hA).symm
  refine (Row.mk.injEq ..).mpr ⟨?_, ?_, ?_, ?_, ?_, ?_, ?_⟩
  · exact funext fun d => (iblk_0 m c t r d).trans (congrFun e0 _)
  · exact funext fun d => (iblk_1 m c t r d).trans (congrFun e1 _)
  · exact funext fun d => (iblk_2 m c t r d).trans (congrFun e2 _)
  · exact funext fun d => (iblk_3 m c t r d).trans (congrFun e3 _)
  · exact funext fun d => (iblk_4 m c t r d).trans (congrFun e4 _)
  · exact funext fun d => (iblk_5 m c t r d).trans (congrFun e5 _)
  · exact (iblk_6 m c t r).trans (congrFun e6 _)

set_option maxHeartbeats 1600000 in
theorem weights_eq (t : Fin cfg0.N) : (blk m c t).weights = refWeights V0 := by
  have e : refWeights V0 = ⟨fun d => (kargs m c).g1 (ix2 0 d), fun k d => (kargs m c).wg (ix2 d k), fun k d => (kargs m c).wu (ix2 d k),
      fun k d => (kargs m c).wd (ix2 k d), fun k d => (kargs m c).wpg (ix2 k d), fun k d => (kargs m c).wo (ix2 k d)⟩ := hA ▸ rfl
  rw [e]
  refine (Weights.mk.injEq ..).mpr ⟨?_, ?_, ?_, ?_, ?_, ?_⟩
  · exact funext fun d => (iblk_7 m c t d).trans (congrFun (V_main_arg5 m c) _)
  · exact funext fun k => funext fun d => (congrFun (show V m c main_v38 = transpose S2816x1024 [1, 0] (kargs m c).wg transposes_S1024x2816_S2816x1024_1_0 from rfl) _).trans
      (transpose_apply _ _ _ _ (ix2 d k) (fun b => match b with | ⟨0, _⟩ => rfl | ⟨1, _⟩ => rfl))
  · exact funext fun k => funext fun d => (congrFun (show V m c main_v40 = transpose S2816x1024 [1, 0] (kargs m c).wu transposes_S1024x2816_S2816x1024_1_0 from rfl) _).trans
      (transpose_apply _ _ _ _ (ix2 d k) (fun b => match b with | ⟨0, _⟩ => rfl | ⟨1, _⟩ => rfl))
  · rfl
  · rfl
  · rfl

end Saved

end Cert.Proof.Ffn
-- ==== Proof.Ffn.Value.lean ====
/- The feed-forward backward call's results are the reference's. -/
module

public import proofs.«01_k».proof.Proof.Ffn.BlockValue
public import proofs.«01_k».proof.Proof.Ffn.Saved
public import proofs.«01_k».proof.Proof.Ffn.Claims
public import proofs.«01_k».proof.Proof.Gen.Pre_finite_ffn

@[expose] public section

noncomputable section

namespace Cert.Proof.Ffn

open Idealize.ShloMosaic Idealize.ShloMosaic.StableHlo Idealize.ShloMosaic.TcCoe Idealize.ShloMosaic.ValueIdx Idealize.SL.Sem
open Cert.FfnIdeal Cert.FfnIdeal.Gen

variable {m : (ℓ : Loc nD τ sig) → Buf (Elt Ideal) ℓ} {V0 : Valuation Cert.FfnRefIdeal.τ Cert.FfnRefIdeal.sig (Elt Ideal)}

/-! ## The precondition -/

theorem finite_of_pre (h : Cert.Pre_FfnIdeal_finite_ffn m) (c : Dev nD) : (kargs m c).Finite := by
  have e := congrFun (h c) (fun i => i.elim0)
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨isReal_of_all _ _ _ _ _ e, isReal_of_all _ _ _ _ _ e1, isReal_of_all _ _ _ _ _ e2, isReal_of_all _ _ _ _ _ e3, isReal_of_all _ _ _ _ _ e4, isReal_of_all _ _ _ _ _ e5, isReal_of_all _ _ _ _ _ e6, isReal_of_all _ _ _ _ _ e7, isReal_of_all _ _ _ _ _ e8, isReal_of_all _ _ _ _ _ e9, isReal_of_all _ _ _ _ _ e10, isReal_of_all _ _ _ _ _ e11, isReal_of_all _ _ _ _ _ e12⟩

/-! ## The arrays, from their blocks -/

section Arrays
variable {c : Dev nD}

theorem after_8 (t : Fin cfg0.N) : (dats m 0 c).after 8 t = (blk m c t).dgs := by dsimp only [dats]
theorem emb_8 (t : Fin cfg0.N) (y : S256x2816.Idx) : (win0_8.blk t).view.emb y = ix2 (rowOf t (y 0)) (y 1) :=
  idx_ext _ _ (by blk_simp; exact row_val t (y 0)) (by blk_simp; exact col_val _ _)
theorem arr_8 {G : S4096x2816.Idx → EReal} (hG : ∀ t r k, (blk m c t).dgs (ix2 r k) = G (ix2 (rowOf t r) k)) : (dats m 0 c).arrAt 8 cfg0.N = G := by
  funext i
  refine (dats m 0 c).arrAt_forall_of_covers 8 (fun i v => v = G i) (by decide +kernel) (fun t _ => ?_) i
  blk_simp
  rw [after_8]
  show ∀ y : S256x2816.Idx, (blk m c t).dgs y = G ((win0_8.blk t).view.emb y)
  exact fun y => (congrArg (blk m c t).dgs (idx_ext y (ix2 (y 0) (y 1)) rfl rfl)).trans ((hG t (y 0) (y 1)).trans (congrArg G (emb_8 t y).symm))
theorem after_9 (t : Fin cfg0.N) : (dats m 0 c).after 9 t = (blk m c t).dus := by dsimp only [dats]
theorem emb_9 (t : Fin cfg0.N) (y : S256x2816.Idx) : (win0_9.blk t).view.emb y = ix2 (rowOf t (y 0)) (y 1) :=
  idx_ext _ _ (by blk_simp; exact row_val t (y 0)) (by blk_simp; exact col_val _ _)
theorem arr_9 {G : S4096x2816.Idx → EReal} (hG : ∀ t r k, (blk m c t).dus (ix2 r k) = G (ix2 (rowOf t r) k)) : (dats m 0 c).arrAt 9 cfg0.N = G := by
  funext i
  refine (dats m 0 c).arrAt_forall_of_covers 9 (fun i v => v = G i) (by decide +kernel) (fun t _ => ?_) i
  blk_simp
  rw [after_9]
  show ∀ y : S256x2816.Idx, (blk m c t).dus y = G ((win0_9.blk t).view.emb y)
  exact fun y => (congrArg (blk m c t).dus (idx_ext y (ix2 (y 0) (y 1)) rfl rfl)).trans ((hG t (y 0) (y 1)).trans (congrArg G (emb_9 t y).symm))
theorem after_10 (t : Fin cfg0.N) : (dats m 0 c).after 10 t = (blk m c t).dsp := by dsimp only [dats]
theorem emb_10 (t : Fin cfg0.N) (y : S256x1024.Idx) : (win0_10.blk t).view.emb y = ix2 (rowOf t (y 0)) (y 1) :=
  idx_ext _ _ (by blk_simp; exact row_val t (y 0)) (by blk_simp; exact col_val _ _)
theorem arr_10 {G : S4096x1024.Idx → EReal} (hG : ∀ t r k, (blk m c t).dsp (ix2 r k) = G (ix2 (rowOf t r) k)) : (dats m 0 c).arrAt 10 cfg0.N = G := by
  funext i
  refine (dats m 0 c).arrAt_forall_of_covers 10 (fun i v => v = G i) (by decide +kernel) (fun t _ => ?_) i
  blk_simp
  rw [after_10]
  show ∀ y : S256x1024.Idx, (blk m c t).dsp y = G ((win0_10.blk t).view.emb y)
  exact fun y => (congrArg (blk m c t).dsp (idx_ext y (ix2 (y 0) (y 1)) rfl rfl)).trans ((hG t (y 0) (y 1)).trans (congrArg G (emb_10 t y).symm))
theorem after_11 (t : Fin cfg0.N) : (dats m 0 c).after 11 t = (blk m c t).dple := by dsimp only [dats]
theorem emb_11 (t : Fin cfg0.N) (y : S256x1024.Idx) : (win0_11.blk t).view.emb y = ix2 (rowOf t (y 0)) (y 1) :=
  idx_ext _ _ (by blk_simp; exact row_val t (y 0)) (by blk_simp; exact col_val _ _)
theorem arr_11 {G : S4096x1024.Idx → EReal} (hG : ∀ t r k, (blk m c t).dple (ix2 r k) = G (ix2 (rowOf t r) k)) : (dats m 0 c).arrAt 11 cfg0.N = G := by
  funext i
  refine (dats m 0 c).arrAt_forall_of_covers 11 (fun i v => v = G i) (by decide +kernel) (fun t _ => ?_) i
  blk_simp
  rw [after_11]
  show ∀ y : S256x1024.Idx, (blk m c t).dple y = G ((win0_11.blk t).view.emb y)
  exact fun y => (congrArg (blk m c t).dple (idx_ext y (ix2 (y 0) (y 1)) rfl rfl)).trans ((hG t (y 0) (y 1)).trans (congrArg G (emb_11 t y).symm))
theorem after_12 (t : Fin cfg0.N) : (dats m 0 c).after 12 t = (blk m c t).dz1 := by dsimp only [dats]
theorem emb_12 (t : Fin cfg0.N) (y : S256x1024.Idx) : (win0_12.blk t).view.emb y = ix2 (rowOf t (y 0)) (y 1) :=
  idx_ext _ _ (by blk_simp; exact row_val t (y 0)) (by blk_simp; exact col_val _ _)
theorem arr_12 {G : S4096x1024.Idx → EReal} (hG : ∀ t r k, (blk m c t).dz1 (ix2 r k) = G (ix2 (rowOf t r) k)) : (dats m 0 c).arrAt 12 cfg0.N = G := by
  funext i
  refine (dats m 0 c).arrAt_forall_of_covers 12 (fun i v => v = G i) (by decide +kernel) (fun t _ => ?_) i
  blk_simp
  rw [after_12]
  show ∀ y : S256x1024.Idx, (blk m c t).dz1 y = G ((win0_12.blk t).view.emb y)
  exact fun y => (congrArg (blk m c t).dz1 (idx_ext y (ix2 (y 0) (y 1)) rfl rfl)).trans ((hG t (y 0) (y 1)).trans (congrArg G (emb_12 t y).symm))
theorem after_13 (t : Fin cfg0.N) : (dats m 0 c).after 13 t = (blk m c t).dyr := by dsimp only [dats]
theorem emb_13 (t : Fin cfg0.N) (y : S256x512.Idx) : (win0_13.blk t).view.emb y = ix2 (rowOf t (y 0)) (y 1) :=
  idx_ext _ _ (by blk_simp; exact row_val t (y 0)) (by blk_simp; exact col_val _ _)
theorem arr_13 {G : S4096x512.Idx → EReal} (hG : ∀ t r k, (blk m c t).dyr (ix2 r k) = G (ix2 (rowOf t r) k)) : (dats m 0 c).arrAt 13 cfg0.N = G := by
  funext i
  refine (dats m 0 c).arrAt_forall_of_covers 13 (fun i v => v = G i) (by decide +kernel) (fun t _ => ?_) i
  blk_simp
  rw [after_13]
  show ∀ y : S256x512.Idx, (blk m c t).dyr y = G ((win0_13.blk t).view.emb y)
  exact fun y => (congrArg (blk m c t).dyr (idx_ext y (ix2 (y 0) (y 1)) rfl rfl)).trans ((hG t (y 0) (y 1)).trans (congrArg G (emb_13 t y).symm))
theorem after_14 (t : Fin cfg0.N) : (dats m 0 c).after 14 t = (blk m c t).dya := by dsimp only [dats]
theorem emb_14 (t : Fin cfg0.N) (y : S256x512.Idx) : (win0_14.blk t).view.emb y = ix2 (rowOf t (y 0)) (y 1) :=
  idx_ext _ _ (by blk_simp; exact row_val t (y 0)) (by blk_simp; exact col_val _ _)
theorem arr_14 {G : S4096x512.Idx → EReal} (hG : ∀ t r k, (blk m c t).dya (ix2 r k) = G (ix2 (rowOf t r) k)) : (dats m 0 c).arrAt 14 cfg0.N = G := by
  funext i
  refine (dats m 0 c).arrAt_forall_of_covers 14 (fun i v => v = G i) (by decide +kernel) (fun t _ => ?_) i
  blk_simp
  rw [after_14]
  show ∀ y : S256x512.Idx, (blk m c t).dya y = G ((win0_14.blk t).view.emb y)
  exact fun y => (congrArg (blk m c t).dya (idx_ext y (ix2 (y 0) (y 1)) rfl rfl)).trans ((hG t (y 0) (y 1)).trans (congrArg G (emb_14 t y).symm))

theorem after_15 (t : Fin cfg0.N) : (dats m 0 c).after 15 t = (blk m c t).dg1 (dg1Before m c t.val) := by dsimp only [dats]
theorem arr_15 : (dats m 0 c).arrAt 15 cfg0.N = dg1Before m c 16 := by
  funext i
  refine ((dats m 0 c).arrAt_emb_eq_after_last 15 (pt 15) (by decide +kernel) i).trans ?_
  blk_simp
  rw [after_15]
  show (blk m c (pt 15)).dg1 (dg1Before m c (pt 15).val) i = dg1Before m c (15 + 1) i
  rw [show (pt 15).val = 15 from by show 15 % cfg0.N = 15; rw [points]]
  rfl
theorem after_16 (t : Fin cfg0.N) : (dats m 0 c).after 16 t = (blk m c t).db1 (db1Before m c t.val) := by dsimp only [dats]
theorem arr_16 : (dats m 0 c).arrAt 16 cfg0.N = db1Before m c 16 := by
  funext i
  refine ((dats m 0 c).arrAt_emb_eq_after_last 16 (pt 15) (by decide +kernel) i).trans ?_
  blk_simp
  rw [after_16]
  show (blk m c (pt 15)).db1 (db1Before m c (pt 15).val) i = db1Before m c (15 + 1) i
  rw [show (pt 15).val = 15 from by show 15 % cfg0.N = 15; rw [points]]
  rfl

end Arrays

/-- A sum over the rows, block by block. -/
theorem sum_rows (f : Fin 4096 → EReal) : ∑ t, f t = ∑ n ∈ Finset.range 16, ∑ r, f (rowOf (pt n) r) := by
  rw [← Fin.sum_univ_eq_sum_range (fun n => ∑ r, f (rowOf (pt n) r)) 16, ← Fintype.sum_prod_type', ← Equiv.sum_comp (finProdFinEquiv (m := 16) (n := 256)) (fun k : Fin (16 * 256) => f k)]
  refine Finset.sum_congr rfl fun x _ => congrArg f (Fin.ext ?_)
  show x.2.val + 256 * x.1.val = 256 * (x.1.val % cfg0.N) + x.2.val
  rw [points, Nat.mod_eq_of_lt x.1.isLt, Nat.add_comm]

section Results
variable {c : Dev nD} (hA : args V0 = kargs m c) (hF : (args V0).Finite)
include hA

theorem dg1_to (n : Nat) (d : Fin 1024) : dg1Before m c n (ix2 0 d)
    = ∑ i ∈ Finset.range n, ∑ r, (refRow V0 (rowOf (pt i) r)).dh (refWeights V0) d * (refRow V0 (rowOf (pt i) r)).zh d := by
  induction n with
  | zero => rw [Finset.sum_range_zero]; exact Ideal.ofBits_zero_f32
  | succ n ih =>
    rw [dg1Before, Blk.dg1_apply, ih, Finset.sum_range_succ]
    simp only [row_eq hA, weights_eq hA]
theorem db1_to (n : Nat) (d : Fin 1024) : db1Before m c n (ix2 0 d)
    = ∑ i ∈ Finset.range n, ∑ r, (refRow V0 (rowOf (pt i) r)).dh (refWeights V0) d := by
  induction n with
  | zero => rw [Finset.sum_range_zero]; exact Ideal.ofBits_zero_f32
  | succ n ih =>
    rw [db1Before, Blk.db1_apply, ih, Finset.sum_range_succ]
    simp only [row_eq hA, weights_eq hA]

end Results

/-- The arrays after the run, as the reference writes them. -/
theorem arrays {c : Dev nD} (hA : args V0 = kargs m c) (hF : (args V0).Finite) :
    (dats m 0 c).arrAt 8 cfg0.N = (Cert.FfnRefIdeal.Value.res_main_v63 V0 : S4096x2816.Idx → EReal)
    ∧ (dats m 0 c).arrAt 9 cfg0.N = (Cert.FfnRefIdeal.Value.res_main_v61 V0 : S4096x2816.Idx → EReal)
    ∧ (dats m 0 c).arrAt 10 cfg0.N = (Cert.FfnRefIdeal.Value.res_main_v57 V0 : S4096x1024.Idx → EReal)
    ∧ (dats m 0 c).arrAt 11 cfg0.N = (mulf (F := Ideal) (φ := .f32) (Cert.FfnRefIdeal.Value.res_main_v47 V0) (Cert.FfnRefIdeal.Value.res_main_v54 V0) : S4096x1024.Idx → EReal)
    ∧ (dats m 0 c).arrAt 12 cfg0.N = (dz1Ref V0 : S4096x1024.Idx → EReal)
    ∧ (dats m 0 c).arrAt 13 cfg0.N = (extractStridedSlice S4096x512 ![0, 0] (Cert.FfnRefIdeal.Value.res_main_v103 V0) Cert.FfnRefIdeal.Gen.slices_S4096x1024_S4096x512_0_0 : S4096x512.Idx → EReal)
    ∧ (dats m 0 c).arrAt 14 cfg0.N = (extractStridedSlice S4096x512 ![0, 512] (Cert.FfnRefIdeal.Value.res_main_v103 V0) Cert.FfnRefIdeal.Gen.slices_S4096x1024_S4096x512_0_512 : S4096x512.Idx → EReal) := by
  refine ⟨arr_8 fun t r k => ?_, arr_9 fun t r k => ?_, arr_10 fun t r k => ?_, arr_11 fun t r k => ?_, arr_12 fun t r k => ?_, arr_13 fun t r k => ?_, arr_14 fun t r k => ?_⟩
  · rw [Blk.dgs_apply, row_eq hA, weights_eq hA]; exact (dg_ref hF _ _).symm
  · rw [Blk.dus_apply, row_eq hA, weights_eq hA]; exact (du_ref _ _ _).symm
  · rw [Blk.dsp_apply, row_eq hA]; exact (ds_ref _ _ _).symm
  · rw [Blk.dple_apply, row_eq hA]; exact (dple_ref _ _ _).symm
  · rw [Blk.dz1_apply, row_eq hA, weights_eq hA]; exact (dz1_ref hF _ _).symm
  · rw [Blk.dyr_apply, row_eq hA, weights_eq hA]
    exact (dy_ref hF _ _).symm.trans (extractStridedSlice_apply _ _ _ _ (ix2 _ ⟨k.val, by omega⟩)
      fun a => match a with | ⟨0, _⟩ => (Nat.zero_add _).symm | ⟨1, _⟩ => (Nat.zero_add _).symm).symm
  · rw [Blk.dya_apply, row_eq hA, weights_eq hA]
    exact (dy_ref hF _ _).symm.trans (extractStridedSlice_apply _ _ _ _ (ix2 _ ⟨512 + k.val, by omega⟩)
      fun a => match a with | ⟨0, _⟩ => (Nat.zero_add _).symm | ⟨1, _⟩ => rfl).symm

/-- The two row sums after the run. -/
theorem rows {c : Dev nD} (hA : args V0 = kargs m c) (hF : (args V0).Finite) :
    (dats m 0 c).arrAt 15 cfg0.N = (shapeCast S1x1024 (Host.reduceAdd (F := Ideal) (φ := .f32) (mulf (Cert.FfnRefIdeal.Value.res_main_v27 V0) (Cert.FfnRefIdeal.Value.res_main_v69 V0)) (constant Cert.FfnRefIdeal.S_ .f32 0x00000000#32) Cert.FfnRefIdeal.Gen.reducesTo_S4096x1024_S1024_d0 Cert.FfnRefIdeal.Gen.h_S_) Cert.FfnRefIdeal.Gen.shapeCasts_S1024_S1x1024 : S1x1024.Idx → EReal)
    ∧ (dats m 0 c).arrAt 16 cfg0.N = (shapeCast S1x1024 (Host.reduceAdd (F := Ideal) (φ := .f32) (Cert.FfnRefIdeal.Value.res_main_v69 V0) (constant Cert.FfnRefIdeal.S_ .f32 0x00000000#32) Cert.FfnRefIdeal.Gen.reducesTo_S4096x1024_S1024_d0 Cert.FfnRefIdeal.Gen.h_S_) Cert.FfnRefIdeal.Gen.shapeCasts_S1024_S1x1024 : S1x1024.Idx → EReal) := by
  have row (i : S1x1024.Idx) : i = ix2 0 (i 1) := idx_ext _ _ (Nat.lt_one_iff.mp (i 0).isLt) rfl
  refine ⟨arr_15.trans (funext fun i => ?_), arr_16.trans (funext fun i => ?_)⟩
  · rw [row i]
    exact (dg1_to hA 16 _).trans ((sum_rows _).symm.trans (dg1_ref _ hF _).symm)
  · rw [row i]
    exact (db1_to hA 16 _).trans ((sum_rows _).symm.trans (db1_ref _ hF _).symm)

set_option maxHeartbeats 2000000 in
set_option backward.isDefEq.respectTransparency.types false in
/-- From finite arguments the kernel leaves in its nine results what the reference leaves in its. -/
theorem algebraic : Cert.algebraic_FfnIdeal_FfnRefIdeal_pre_finite_ffn := by
  intro m g m' g' hpre hargs
  have hA (c : Dev nD) : args (launchContents m' c) = kargs m c := by
    obtain ⟨h0, h1, h2, h3, h4, h5, h6, h7, h8, h9, h10, h11, h12⟩ := hargs c
    exact (Args.mk.injEq ..).mpr ⟨h0, h1, h2, h3, h4, h5, h6, h7, h8, h9, h10, h11, h12⟩
  have hF (c : Dev nD) : (args (launchContents m' c)).Finite := (hA c).symm ▸ finite_of_pre hpre c
  refine ⟨_, _, _, _, _, _, _, _, _, ?_, Cert.FfnRefIdeal.Value.run (F := Ideal) m' g'⟩
  refine (θ_run defs _ _).mono (fun r h c => ?_) (θ_run_and (run_main m g) (frame m g))
  obtain ⟨e8, e9, e10, e11, e12, e13, e14⟩ := arrays (hA c) (hF c)
  obtain ⟨e15, e16⟩ := rows (hA c) (hF c)
  have hw := (h.1 c).1
  exact ⟨(hw 8).trans e8, (hw 9).trans e9, (hw 10).trans e10, (hw 11).trans e11, (hw 12).trans e12, (hw 13).trans e13, (hw 14).trans e14, (hw 15).trans e15, (hw 16).trans e16, h.2.1 c⟩

end Cert.Proof.Ffn

end
-- ==== Proof.Attn.Block.lean ====
/- What the attention backward call computes from one block of 128 queries: the gradients of its scores for the four
   heads of a group, and from them the block's contributions to the gradients of the queries, keys, values and sinks. -/
module

public import proofs.«01_k».proof.Proof.Gen.AttnIdeal.Skeleton
public import Idealize.ShloMosaic.Lib.Pipeline.Value

@[expose] public section

noncomputable section

namespace Cert.Proof.Attn

open Idealize.ShloMosaic Idealize.SL.Sem Cert.AttnIdeal Cert.AttnIdeal.Gen

variable {F : FTy → Type} [FloatOps F]

/-- What one block of queries reads: its rows of the queries and of the incoming gradient, the keys and values in its
    window, its probabilities and its sinks' probabilities. -/
structure Win (F : FTy → Type) where
  q : Vec F S1x128x256 .bf16
  d : Vec F S1x128x256 .bf16
  kw : Vec F S384x128 .bf16
  vw : Vec F S384x128 .bf16
  p : Vec F S1x1x1x512x384 .bf16
  s : Vec F S1x1x1x512x1 .f32

/-- The four heads' lanes of a block stacked along the rows, each in its half of the lanes. -/
def stack (x : FVec F S128x256 .f32) : FVec F S512x128 .f32 :=
  let z : FVec F S128x128 .f32 := broadcast S128x128 (Scalar.ofBits .f32 0x00000000#32)
  let a : FVec F S128x128 .f32 := extractStridedSlice S128x128 ![0, 0] x slices_S128x256_o0_0_S128x128
  let b : FVec F S128x128 .f32 := extractStridedSlice S128x128 ![0, 128] x slices_S128x256_o0_128_S128x128
  concatenate S512x128 0 [⟨S128x128, select k0_pay140 a z⟩, ⟨S128x128, select k0_pay140 z a⟩, ⟨S128x128, select k0_pay140 b z⟩, ⟨S128x128, select k0_pay140 z b⟩] concatenates_S128x128_S128x128_S128x128_S128x128_S512x128_d0

theorem slices_head (i : Fin 4) : S512x384.Slices ![128 * i.val, 0] S128x384 := match i with
  | 0 => slices_S512x384_o0_0_S128x384 | 1 => slices_S512x384_o128_0_S128x384
  | 2 => slices_S512x384_o256_0_S128x384 | 3 => slices_S512x384_o384_0_S128x384
theorem slices_sink (i : Fin 4) : S512x1.Slices ![128 * i.val, 0] S128x1 := match i with
  | 0 => slices_S512x1_o0_0_S128x1 | 1 => slices_S512x1_o128_0_S128x1
  | 2 => slices_S512x1_o256_0_S128x1 | 3 => slices_S512x1_o384_0_S128x1
theorem slices_quarter (i : Fin 4) : S512x128.Slices ![128 * i.val, 0] S128x128 := match i with
  | 0 => slices_S512x128_o0_0_S128x128 | 1 => slices_S512x128_o128_0_S128x128
  | 2 => slices_S512x128_o256_0_S128x128 | 3 => slices_S512x128_o384_0_S128x128

namespace Win
variable (w : Win F)

/-- The scaled queries and the incoming gradient, stacked. -/
def qs : FVec F S512x128 .bf16 :=
  truncf .bf16 (stack (mulf (extf .f32 (shapeCast S128x256 w.q shapeCasts_S1x128x256_S128x256) bitsLt_bf16_f32) (broadcast S128x256 (Scalar.ofBits .f32 0x3E000000#32)))) bitsLt_bf16_f32
def ds : FVec F S512x128 .bf16 :=
  truncf .bf16 (stack (extf .f32 (shapeCast S128x256 w.d shapeCasts_S1x128x256_S128x256) bitsLt_bf16_f32)) bitsLt_bf16_f32
/-- The probabilities and the sinks' probabilities. -/
def pr : FVec F S512x384 .bf16 := shapeCast S512x384 w.p shapeCasts_S1x1x1x512x384_S512x384
def ps : FVec F S512x1 .f32 := shapeCast S512x1 w.s shapeCasts_S1x1x1x512x1_S512x1
/-- The gradient of the probabilities. -/
def dp : FVec F S512x384 .f32 := matmul dot_S512x128_S384x128_S512x384_1_1_0_0_n_n none w.ds w.vw (constant S512x384 .f32 0x00000000#32)
/-- Head `i`'s probabilities, their gradient, and each row's sum of the products. -/
def ph (i : Fin 4) : FVec F S128x384 .f32 := extf .f32 (extractStridedSlice S128x384 ![128 * i.val, 0] w.pr (slices_head i)) bitsLt_bf16_f32
def dph (i : Fin 4) : FVec F S128x384 .f32 := extractStridedSlice S128x384 ![128 * i.val, 0] w.dp (slices_head i)
def delta (i : Fin 4) : FVec F S128x1 .f32 :=
  shapeCast S128x1 (multiReduction .add [1] S128 (mulf (w.ph i) (w.dph i)) 0x00000000#32 reduces_S128x384_S128 (.inl rfl) rfl) shapeCasts_S128_S128x1
/-- The gradient of head `i`'s scores. -/
def dsc (i : Fin 4) : FVec F S128x384 .bf16 :=
  truncf .bf16 (mulf (w.ph i) (subf (w.dph i) (broadcastTo S128x384 (w.delta i) broadcasts_S128x1_S128x384))) bitsLt_bf16_f32
/-- Head `i`'s sink gradient, the block's part taken off the sum so far. -/
def dsink (i : Fin 4) (acc : FVec F S1x128 .f32) : FVec F S1x128 .f32 :=
  subf acc (broadcastTo S1x128 (shapeCast S1x1 (shapeCast S1x1 (multiReduction .add [0] S1
    (mulf (extractStridedSlice S128x1 ![128 * i.val, 0] w.ps (slices_sink i)) (w.delta i)) 0x00000000#32 reduces_S128x1_S1 (.inl rfl) rfl) shapeCasts_S1_S1x1) shapeCasts_S1x1_S1x1) broadcasts_S1x1_S1x128)
/-- The gradient of all four heads' scores, stacked. -/
def dscs : FVec F S512x384 .bf16 :=
  concatenate S512x384 0 [⟨S128x384, w.dsc 0⟩, ⟨S128x384, w.dsc 1⟩, ⟨S128x384, w.dsc 2⟩, ⟨S128x384, w.dsc 3⟩] concatenates_S128x384_S128x384_S128x384_S128x384_S512x384_d0
/-- The gradient of the stacked queries, and the contributions to the window's keys and values. -/
def dqs : FVec F S512x128 .f32 := matmul dot_S512x384_S384x128_S512x128_1_0_0_1_n_n none w.dscs w.kw (constant S512x128 .f32 0x00000000#32)
def dk : FVec F S384x128 .f32 := matmul dot_S512x384_S512x128_S384x128_0_0_1_1_n_n none w.dscs w.qs (constant S384x128 .f32 0x00000000#32)
def dv : FVec F S384x128 .f32 := matmul dot_S512x384_S512x128_S384x128_0_0_1_1_n_n none w.pr w.ds (constant S384x128 .f32 0x00000000#32)
/-- Two heads' query gradients side by side, scaled: heads 0 and 1, heads 2 and 3. -/
def half (a b : Fin 4) : FVec F S1x128x128 .bf16 :=
  shapeCast S1x128x128 (truncf .bf16 (mulf (select k0_pay140 (extractStridedSlice S128x128 ![128 * a.val, 0] w.dqs (slices_quarter a))
    (extractStridedSlice S128x128 ![128 * b.val, 0] w.dqs (slices_quarter b))) (broadcast S128x128 (Scalar.ofBits .f32 0x3E000000#32))) bitsLt_bf16_f32) shapeCasts_S128x128_S1x128x128
end Win

/-- A contribution added to a window's rows, as stored. -/
def added (x y : FVec F S384x128 .f32) : FVec F S384x128 .f32 := shapeCast S384x128 (addf x y) shapeCasts_S384x128_S384x128

end Cert.Proof.Attn
-- ==== Proof.Attn.Trip.lean ====
/- One trip of the attention backward call's loop, in terms of its four blocks. -/
module

public import proofs.«01_k».proof.Proof.Attn.Block
public import proofs.«01_k».proof.Proof.Gen.AttnIdeal.Loops
import all proofs.«01_k».proof.Proof.Gen.AttnIdeal.Loops

@[expose] public section

set_option maxRecDepth 16384

noncomputable section

namespace Cert.Proof.Attn

open Idealize.ShloMosaic Idealize.ShloMosaic.TcCoe Idealize.SL.Sem Cert.AttnIdeal Cert.AttnIdeal.Gen

variable {F : FTy → Type} [FloatOps F]

section
variable (𝒱 : Variants) (c : Dev nD) (bd : Option 𝒱.V) (i : grid0.Coords)
  (arg2 : Memref sig .tc .vmem S1x2048x256 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x256 .bf16) (harg5 : arg5.IsWhole)
  (arg6 : Memref sig .tc .vmem S1x1x16x512x384 .bf16) (harg6 : arg6.IsWhole) (arg7 : Memref sig .tc .vmem S1x1x16x512x1 .f32) (harg7 : arg7.IsWhole)
  (arg8 : Memref sig .tc .vmem S1x2048x256 .bf16) (harg8 : arg8.IsWhole) (arg9 : Memref sig .tc .vmem S1x2048x128 .bf16) (harg9 : arg9.IsWhole)
  (arg10 : Memref sig .tc .vmem S1x1x8x128 .f32) (harg10 : arg10.IsWhole) (arg11 : Memref sig .tc .vmem S2304x128 .bf16) (harg11 : arg11.IsWhole)
  (arg12 : Memref sig .tc .vmem S2304x128 .bf16) (harg12 : arg12.IsWhole) (arg13 : Memref sig .tc .vmem S2304x128 .f32) (harg13 : arg13.IsWhole)
  (arg14 : Memref sig .tc .vmem S2304x128 .f32) (harg14 : arg14.IsWhole)
  (X2 : BufTy.Contents (Elt F) arg2.view.ty) (X5 : BufTy.Contents (Elt F) arg5.view.ty) (X6 : BufTy.Contents (Elt F) arg6.view.ty)
  (X7 : BufTy.Contents (Elt F) arg7.view.ty) (X11 : BufTy.Contents (Elt F) arg11.view.ty) (X12 : BufTy.Contents (Elt F) arg12.view.ty)

/-- What block `j` of trip `k` reads. -/
def win (k : Fin k0_t1_loop.trips) (j : Fin 4) : Win F where
  q := View.readAt (Elt F) arg2.view (Rect.unit (s := S1x2048x256) (k0_off2 k (BitVec.ofNat 32 j.val)) S1x128x256.size (k0_off2_inb k j)).toLoadRect X2
  d := View.readAt (Elt F) arg5.view (Rect.unit (s := S1x2048x256) (k0_off2 k (BitVec.ofNat 32 j.val)) S1x128x256.size (k0_off2_inb k j)).toLoadRect X5
  kw := View.readAt (Elt F) arg11.view (Rect.unit (s := S2304x128) (k0_off1 k (BitVec.ofNat 32 j.val)) S384x128.size (k0_off1_inb k j)).toLoadRect X11
  vw := View.readAt (Elt F) arg12.view (Rect.unit (s := S2304x128) (k0_off1 k (BitVec.ofNat 32 j.val)) S384x128.size (k0_off1_inb k j)).toLoadRect X12
  p := View.readAt (Elt F) arg6.view (Rect.unit (s := S1x1x16x512x384) (k0_off3 k (BitVec.ofNat 32 j.val)) S1x1x1x512x384.size (k0_off3_inb k j)).toLoadRect X6
  s := View.readAt (Elt F) arg7.view (Rect.unit (s := S1x1x16x512x1) (k0_off4 k (BitVec.ofNat 32 j.val)) S1x1x1x512x1.size (k0_off4_inb k j)).toLoadRect X7

/-- The rows block `j` of trip `k` adds to. -/
abbrev accRect (k : Fin k0_t1_loop.trips) (j : Fin 4) : Rect S2304x128 :=
  Rect.unit (s := S2304x128) (k0_off1 k (BitVec.ofNat 32 j.val)) S384x128.size (k0_off1_inb k j)

/-- The pieces of the first `n` blocks of a trip that adds `D j` to block `j`'s rows. -/
def addPieces (v : View sig .tc .vmem S2304x128 .f32) (f : v.ty.Contents (Elt F)) (D : Fin 4 → FVec F S384x128 .f32) (k : Fin k0_t1_loop.trips) :
    (n : Nat) → n ≤ 4 → List (View.Piece (Elt F) S2304x128 .f32)
  | 0, _ => []
  | n + 1, h => ⟨accRect k ⟨n, h⟩, added (View.readAt (Elt F) v (accRect k ⟨n, h⟩).toLoadRect (v.writes (Elt F) f (addPieces v f D k n (by omega)))) (D ⟨n, h⟩)⟩
      :: addPieces v f D k n (by omega)

local notation "TRIP" => trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_pay140 (k0_pay141 (F := F)) (k0_pay142 (F := F)) (k0_pay143 (F := F)) (k0_pay144 (F := F)) 0#32 1#32 X2 X5 X6 X7 X11 X12
local notation "WIN" => win (F := F) arg2 arg5 arg6 arg7 arg11 arg12 X2 X5 X6 X7 X11 X12

set_option maxHeartbeats 4000000 in
theorem trip_yield (k) (acc) (f8) (f13) (f14) : (TRIP k).1 acc f8 f13 f14 =
    ((WIN k 3).dsink 0 ((WIN k 2).dsink 0 ((WIN k 1).dsink 0 ((WIN k 0).dsink 0 acc.1))),
     (WIN k 3).dsink 1 ((WIN k 2).dsink 1 ((WIN k 1).dsink 1 ((WIN k 0).dsink 1 acc.2.1))),
     (WIN k 3).dsink 2 ((WIN k 2).dsink 2 ((WIN k 1).dsink 2 ((WIN k 0).dsink 2 acc.2.2.1))),
     (WIN k 3).dsink 3 ((WIN k 2).dsink 3 ((WIN k 1).dsink 3 ((WIN k 0).dsink 3 acc.2.2.2)))) := by
  unfold trip_k0_t1; rfl

set_option maxHeartbeats 4000000 in
theorem trip_arg13 (k) (acc) (f8) (f13) (f14) : (TRIP k).2.2.1 acc f8 f13 f14 = addPieces arg13.view f13 (fun j => (WIN k j).dk) k 4 le_rfl := by
  unfold trip_k0_t1; rfl

set_option maxHeartbeats 4000000 in
theorem trip_arg14 (k) (acc) (f8) (f13) (f14) : (TRIP k).2.2.2.1 acc f8 f13 f14 = addPieces arg14.view f14 (fun j => (WIN k j).dv) k 4 le_rfl := by
  unfold trip_k0_t1; rfl

/-- The halves of block `j`'s query rows. -/
abbrev leftPiece (W : Win F) (k : Fin k0_t1_loop.trips) (j : Fin 4) : View.Piece (Elt F) S1x2048x256 .bf16 :=
  ⟨Rect.unit (s := S1x2048x256) (k0_off5 k (BitVec.ofNat 32 j.val)) S1x128x128.size (k0_off5_inb k j), W.half 0 1⟩
abbrev rightPiece (W : Win F) (k : Fin k0_t1_loop.trips) (j : Fin 4) : View.Piece (Elt F) S1x2048x256 .bf16 :=
  ⟨Rect.unit (s := S1x2048x256) (k0_off6 k (BitVec.ofNat 32 j.val)) S1x128x128.size (k0_off6_inb k j), W.half 2 3⟩

set_option maxHeartbeats 4000000 in
theorem trip_arg8 (k) (acc) (f8) (f13) (f14) : (TRIP k).2.1 acc f8 f13 f14 =
    [rightPiece (WIN k 3) k 3, leftPiece (WIN k 3) k 3, rightPiece (WIN k 2) k 2, leftPiece (WIN k 2) k 2,
     rightPiece (WIN k 1) k 1, leftPiece (WIN k 1) k 1, rightPiece (WIN k 0) k 0, leftPiece (WIN k 0) k 0] := by
  unfold trip_k0_t1; rfl
end

end Cert.Proof.Attn
-- ==== Proof.Attn.Loop.lean ====
/- The attention backward call's loop: after its trips the two accumulators hold the sums of the blocks' contributions
   to the keys' and values' gradients, the query rows their gradients, and the carried rows the sinks' gradients. -/
module

public import proofs.«01_k».proof.Proof.Attn.Trip
public import Idealize.ShloMosaic.Lib.WritesUnit
public import Idealize.ShloMosaic.Lib.ValueIdx
public import Mathlib.Tactic.IntervalCases

@[expose] public section

set_option maxRecDepth 16384

noncomputable section

namespace Cert.Proof.Attn

open Idealize.ShloMosaic Idealize.ShloMosaic.TcCoe Idealize.SL.Sem Cert.AttnIdeal Cert.AttnIdeal.Gen

variable {F : FTy → Type} [FloatOps F]

/-- What the loop reads: the queries, the incoming gradient, the padded keys and values, the probabilities and the
    sinks' probabilities. -/
structure Blk (F : FTy → Type) where
  q : Vec F S1x2048x256 .bf16
  d : Vec F S1x2048x256 .bf16
  kp : Vec F S2304x128 .bf16
  vp : Vec F S2304x128 .bf16
  p : Vec F S1x1x16x512x384 .bf16
  s : Vec F S1x1x16x512x1 .f32

/-! ### Where block `n` reads and writes -/

theorem lt16 (n : Nat) : n % 16 < 16 := Nat.mod_lt _ (by decide)

abbrev qRect (n : Nat) : Rect S1x2048x256 := Rect.unit ![0, 128 * (n % 16), 0] S1x128x256.size (by
  have := lt16 n
  intro a; match a with | ⟨0, _⟩ => show 0 + 1 ≤ 1; omega | ⟨1, _⟩ => show 128 * (n % 16) + 128 ≤ 2048; omega | ⟨2, _⟩ => show 0 + 256 ≤ 256; omega)
abbrev kRect (n : Nat) : Rect S2304x128 := Rect.unit ![128 * (n % 16), 0] S384x128.size (by
  have := lt16 n
  intro a; match a with | ⟨0, _⟩ => show 128 * (n % 16) + 384 ≤ 2304; omega | ⟨1, _⟩ => show 0 + 128 ≤ 128; omega)
abbrev pRect (n : Nat) : Rect S1x1x16x512x384 := Rect.unit ![0, 0, n % 16, 0, 0] S1x1x1x512x384.size (by
  have := lt16 n
  intro a; match a with | ⟨0, _⟩ => show 0 + 1 ≤ 1; omega | ⟨1, _⟩ => show 0 + 1 ≤ 1; omega | ⟨2, _⟩ => show n % 16 + 1 ≤ 16; omega | ⟨3, _⟩ => show 0 + 512 ≤ 512; omega | ⟨4, _⟩ => show 0 + 384 ≤ 384; omega)
abbrev sRect (n : Nat) : Rect S1x1x16x512x1 := Rect.unit ![0, 0, n % 16, 0, 0] S1x1x1x512x1.size (by
  have := lt16 n
  intro a; match a with | ⟨0, _⟩ => show 0 + 1 ≤ 1; omega | ⟨1, _⟩ => show 0 + 1 ≤ 1; omega | ⟨2, _⟩ => show n % 16 + 1 ≤ 16; omega | ⟨3, _⟩ => show 0 + 512 ≤ 512; omega | ⟨4, _⟩ => show 0 + 1 ≤ 1; omega)

theorem trips_le (k : Fin k0_t1_loop.trips) : k.val < 4 := Nat.lt_of_lt_of_le k.isLt k0_t1_abs.2.1

theorem off1 (k : Fin k0_t1_loop.trips) (j : Fin 4) : k0_off1 k (BitVec.ofNat 32 j.val) = ![128 * ((4 * k.val + j.val) % 16), 0] := by
  revert k j; decide +kernel
theorem off2 (k : Fin k0_t1_loop.trips) (j : Fin 4) : k0_off2 k (BitVec.ofNat 32 j.val) = ![0, 128 * ((4 * k.val + j.val) % 16), 0] := by
  revert k j; decide +kernel
theorem off3 (k : Fin k0_t1_loop.trips) (j : Fin 4) : k0_off3 k (BitVec.ofNat 32 j.val) = ![0, 0, (4 * k.val + j.val) % 16, 0, 0] := by
  revert k j; decide +kernel
theorem off4 (k : Fin k0_t1_loop.trips) (j : Fin 4) : k0_off4 k (BitVec.ofNat 32 j.val) = ![0, 0, (4 * k.val + j.val) % 16, 0, 0] := by
  revert k j; decide +kernel
theorem off5 (k : Fin k0_t1_loop.trips) (j : Fin 4) : k0_off5 k (BitVec.ofNat 32 j.val) = ![0, 128 * ((4 * k.val + j.val) % 16), 0] := by
  revert k j; decide +kernel
theorem off6 (k : Fin k0_t1_loop.trips) (j : Fin 4) : k0_off6 k (BitVec.ofNat 32 j.val) = ![0, 128 * ((4 * k.val + j.val) % 16), 128] := by
  revert k j; decide +kernel

theorem ld_congr {e : EltTy} {S : Shape} {off off' size : Fin S.rank → Nat} (X : S.Idx → Elt F e) (h : off = off') (inb) (inb') :
    View.ld X (Rect.unit (s := S) off size inb) = View.ld X (Rect.unit (s := S) off' size inb') := by subst h; rfl

/-- A block's contribution `D` added to its window's rows of `X`. -/
def addRows (n : Nat) (D : FVec F S384x128 .f32) (X : Vec F S2304x128 .f32) : Vec F S2304x128 .f32 := fun y =>
  if h : 128 * (n % 16) ≤ (y 0).val ∧ (y 0).val < 128 * (n % 16) + 384 then
    added (View.ld X (kRect n)) D (ValueIdx.ix2 ⟨(y 0).val - 128 * (n % 16), by omega⟩ ⟨(y 1).val, (y 1).isLt⟩)
  else X y

/-- The sum of the first `n` blocks' contributions over `X`. -/
def sums (D : Nat → FVec F S384x128 .f32) (X : Vec F S2304x128 .f32) : Nat → Vec F S2304x128 .f32
  | 0 => X
  | n + 1 => addRows n (D n) (sums D X n)

namespace Blk
variable (b : Blk F)

/-- What block `n` reads. -/
def win (n : Nat) : Win F := ⟨View.ld b.q (qRect n), View.ld b.d (qRect n), View.ld b.kp (kRect n), View.ld b.vp (kRect n), View.ld b.p (pRect n), View.ld b.s (sRect n)⟩

/-- Head `i`'s sink gradient after `n` blocks. -/
def dsinks (i : Fin 4) : Nat → FVec F S1x128 .f32
  | 0 => k0_pay141
  | n + 1 => (b.win n).dsink i (dsinks i n)

/-- The queries' gradient. -/
def dq : Vec F S1x2048x256 .bf16 := fun y =>
  if h : (y 2).val < 128 then (b.win ((y 1).val / 128)).half 0 1 (ValueIdx.ix3 0 ⟨(y 1).val % 128, Nat.mod_lt _ (by decide)⟩ ⟨(y 2).val, h⟩)
  else (b.win ((y 1).val / 128)).half 2 3 (ValueIdx.ix3 0 ⟨(y 1).val % 128, Nat.mod_lt _ (by decide)⟩ ⟨(y 2).val - 128, by have : (y 2).val < 256 := (y 2).isLt; omega⟩)
end Blk

/-- One block's addition, as written. -/
theorem read_added (v : View sig .tc .vmem S2304x128 .f32) (f : v.ty.Contents (Elt F)) (L : List (View.Piece (Elt F) S2304x128 .f32))
    (D : FVec F S384x128 .f32) (X : Vec F S2304x128 .f32) (k : Fin k0_t1_loop.trips) (j : Fin 4) (hX : v.read (Elt F) (v.writes (Elt F) f L) = X) :
    v.read (Elt F) (v.writes (Elt F) f (⟨accRect k j, added (View.readAt (Elt F) v (accRect k j).toLoadRect (v.writes (Elt F) f L)) D⟩ :: L))
      = addRows (4 * k.val + j.val) D X := by
  have hr : View.readAt (Elt F) v (accRect k j).toLoadRect (v.writes (Elt F) f L) = View.ld X (kRect (4 * k.val + j.val)) := by
    refine (View.readAt_eq_ld v _ (accRect k j)).trans ?_
    rw [hX]; exact ld_congr X (off1 k j) _ _
  funext y
  refine (View.read_writes_cons_rows v f (size := S384x128.size) (k0_off1_inb k j) _ L y (off1 k j) (W := 384) rfl rfl).trans ?_
  unfold addRows
  by_cases h : 128 * ((4 * k.val + j.val) % 16) ≤ (y 0).val ∧ (y 0).val < 128 * ((4 * k.val + j.val) % 16) + 384
  · rw [dif_pos h, dif_pos h]
    have e := congrArg (fun z => added z D) hr
    refine (congrFun e _).trans ?_
    refine congrArg (added (View.ld X (kRect (4 * k.val + j.val))) D) ?_
    funext a; match a with
      | ⟨0, _⟩ => rfl
      | ⟨1, _⟩ => exact Fin.ext (Nat.sub_zero _)
  · rw [dif_neg h, dif_neg h]; exact congrFun hX y

/-- A trip's additions. -/
theorem read_addPieces (v : View sig .tc .vmem S2304x128 .f32) (f : v.ty.Contents (Elt F)) (D : Nat → FVec F S384x128 .f32) (X : Vec F S2304x128 .f32)
    (k : Fin k0_t1_loop.trips) (hX : v.read (Elt F) f = sums D X (4 * k.val)) (n : Nat) (hn : n ≤ 4) :
    v.read (Elt F) (v.writes (Elt F) f (addPieces v f (fun j => D (4 * k.val + j.val)) k n hn)) = sums D X (4 * k.val + n) := by
  induction n with
  | zero => exact hX
  | succ n ih => exact read_added v f _ _ _ k ⟨n, hn⟩ (ih (by omega))

section
variable (𝒱 : Variants) (c : Dev nD) (bd : Option 𝒱.V) (i : grid0.Coords)
  (arg2 : Memref sig .tc .vmem S1x2048x256 .bf16) (harg2 : arg2.IsWhole) (arg3 : Memref sig .tc .vmem S1x2048x128 .bf16) (harg3 : arg3.IsWhole)
  (arg4 : Memref sig .tc .vmem S1x2048x128 .bf16) (harg4 : arg4.IsWhole) (arg5 : Memref sig .tc .vmem S1x2048x256 .bf16) (harg5 : arg5.IsWhole)
  (arg6 : Memref sig .tc .vmem S1x1x16x512x384 .bf16) (harg6 : arg6.IsWhole) (arg7 : Memref sig .tc .vmem S1x1x16x512x1 .f32) (harg7 : arg7.IsWhole)
  (arg8 : Memref sig .tc .vmem S1x2048x256 .bf16) (harg8 : arg8.IsWhole) (arg9 : Memref sig .tc .vmem S1x2048x128 .bf16) (harg9 : arg9.IsWhole)
  (arg10 : Memref sig .tc .vmem S1x1x8x128 .f32) (harg10 : arg10.IsWhole) (arg11 : Memref sig .tc .vmem S2304x128 .bf16) (harg11 : arg11.IsWhole)
  (arg12 : Memref sig .tc .vmem S2304x128 .bf16) (harg12 : arg12.IsWhole) (arg13 : Memref sig .tc .vmem S2304x128 .f32) (harg13 : arg13.IsWhole)
  (arg14 : Memref sig .tc .vmem S2304x128 .f32) (harg14 : arg14.IsWhole)
  (X2 : BufTy.Contents (Elt F) arg2.view.ty) (X5 : BufTy.Contents (Elt F) arg5.view.ty) (X6 : BufTy.Contents (Elt F) arg6.view.ty)
  (X7 : BufTy.Contents (Elt F) arg7.view.ty) (X11 : BufTy.Contents (Elt F) arg11.view.ty) (X12 : BufTy.Contents (Elt F) arg12.view.ty)
  (G8 : BufTy.Contents (Elt F) arg8.view.ty) (G13 : BufTy.Contents (Elt F) arg13.view.ty) (G14 : BufTy.Contents (Elt F) arg14.view.ty)

local notation "WIN" => win (F := F) arg2 arg5 arg6 arg7 arg11 arg12 X2 X5 X6 X7 X11 X12
local notation "STATE" => st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_pay140 (k0_pay141 (F := F)) (k0_pay142 (F := F)) (k0_pay143 (F := F)) (k0_pay144 (F := F)) 0#32 1#32 X2 X5 X6 X7 X11 X12 G8 G13 G14 (k0_pay141 (F := F), k0_pay142 (F := F), k0_pay143 (F := F), k0_pay144 (F := F))

/-- The blocks the memory holds. -/
abbrev blkOf : Blk F := ⟨arg2.view.read (Elt F) X2, arg5.view.read (Elt F) X5, arg11.view.read (Elt F) X11, arg12.view.read (Elt F) X12, arg6.view.read (Elt F) X6, arg7.view.read (Elt F) X7⟩
local notation "BLK" => blkOf (F := F) arg2 arg5 arg6 arg7 arg11 arg12 X2 X5 X6 X7 X11 X12

theorem win_eq (k : Fin k0_t1_loop.trips) (j : Fin 4) : WIN k j = (BLK).win (4 * k.val + j.val) := by
  unfold win Blk.win
  congr 1
  · exact ld_congr _ (off2 k j) _ _
  · exact ld_congr _ (off2 k j) _ _
  · exact ld_congr _ (off1 k j) _ _
  · exact ld_congr _ (off1 k j) _ _
  · exact ld_congr _ (off3 k j) _ _
  · exact ld_congr _ (off4 k j) _ _

/-- A half of block `n`'s query rows is the gradient there. -/
theorem left_at (b : Blk F) (W : Win F) (k : Fin k0_t1_loop.trips) (j : Fin 4) (hW : W = b.win (4 * k.val + j.val)) (x) :
    (leftPiece W k j).2 x = b.dq ((leftPiece W k j).1.emb x) := by
  have hk := trips_le k
  have hj := j.isLt
  have h1 : (x 1).val < 128 := (x 1).isLt
  have h2 : (x 2).val < 128 := (x 2).isLt
  have e1 : (((leftPiece W k j).1.emb x) 1).val = 128 * (4 * k.val + j.val) + (x 1).val := by
    have := congrFun (off5 k j) 1
    show k0_off5 k (BitVec.ofNat 32 j.val) 1 + 1 * (x 1).val = _
    rw [this]; show 128 * ((4 * k.val + j.val) % 16) + 1 * (x 1).val = _; omega
  have e2 : (((leftPiece W k j).1.emb x) 2).val = (x 2).val := by
    have := congrFun (off5 k j) 2
    show k0_off5 k (BitVec.ofNat 32 j.val) 2 + 1 * (x 2).val = _
    rw [this]; show 0 + 1 * (x 2).val = _; omega
  generalize (leftPiece W k j).1.emb x = y at e1 e2
  unfold Blk.dq
  rw [dif_pos (by omega), show (y 1).val / 128 = 4 * k.val + j.val by omega, ← hW]
  refine congrArg (W.half 0 1) ?_
  funext a; match a with
    | ⟨0, _⟩ => exact Fin.ext (by have : (x 0).val < 1 := (x 0).isLt; show (x 0).val = 0; omega)
    | ⟨1, _⟩ => exact Fin.ext (by show (x 1).val = (y 1).val % 128; omega)
    | ⟨2, _⟩ => exact Fin.ext e2.symm
theorem right_at (b : Blk F) (W : Win F) (k : Fin k0_t1_loop.trips) (j : Fin 4) (hW : W = b.win (4 * k.val + j.val)) (x) :
    (rightPiece W k j).2 x = b.dq ((rightPiece W k j).1.emb x) := by
  have hk := trips_le k
  have hj := j.isLt
  have h1 : (x 1).val < 128 := (x 1).isLt
  have h2 : (x 2).val < 128 := (x 2).isLt
  have e1 : (((rightPiece W k j).1.emb x) 1).val = 128 * (4 * k.val + j.val) + (x 1).val := by
    have := congrFun (off6 k j) 1
    show k0_off6 k (BitVec.ofNat 32 j.val) 1 + 1 * (x 1).val = _
    rw [this]; show 128 * ((4 * k.val + j.val) % 16) + 1 * (x 1).val = _; omega
  have e2 : (((rightPiece W k j).1.emb x) 2).val = 128 + (x 2).val := by
    have := congrFun (off6 k j) 2
    show k0_off6 k (BitVec.ofNat 32 j.val) 2 + 1 * (x 2).val = _
    rw [this]; show 128 + 1 * (x 2).val = _; omega
  generalize (rightPiece W k j).1.emb x = y at e1 e2
  unfold Blk.dq
  rw [dif_neg (by omega), show (y 1).val / 128 = 4 * k.val + j.val by omega, ← hW]
  refine congrArg (W.half 2 3) ?_
  funext a; match a with
    | ⟨0, _⟩ => exact Fin.ext (by have : (x 0).val < 1 := (x 0).isLt; show (x 0).val = 0; omega)
    | ⟨1, _⟩ => exact Fin.ext (by show (x 1).val = (y 1).val % 128; omega)
    | ⟨2, _⟩ => exact Fin.ext (by show (x 2).val = (y 2).val - 128; omega)

/-- The query rows of block `j` of trip `k` are the two halves' rectangles. -/
theorem halves_cover (W : Win F) (k : Fin k0_t1_loop.trips) (j : Fin 4) (y : S1x2048x256.Idx)
    (h : 128 * (4 * k.val + j.val) ≤ (y 1).val) (h' : (y 1).val < 128 * (4 * k.val + j.val) + 128) :
    y ∈ (leftPiece W k j).1.set ∨ y ∈ (rightPiece W k j).1.set := by
  have hk := trips_le k
  have hj := j.isLt
  have h0 : (y 0).val < 1 := (y 0).isLt
  have h2 : (y 2).val < 256 := (y 2).isLt
  by_cases hy : (y 2).val < 128
  · refine Or.inl ((Rect.mem_set_unit (inb := k0_off5_inb k j)).2 ?_)
    rw [off5 k j]
    intro a; match a with
      | ⟨0, _⟩ => exact ⟨Nat.zero_le _, by show (y 0).val < 0 + 1; omega⟩
      | ⟨1, _⟩ => exact ⟨by show 128 * ((4 * k.val + j.val) % 16) ≤ (y 1).val; omega, by show (y 1).val < 128 * ((4 * k.val + j.val) % 16) + 128; omega⟩
      | ⟨2, _⟩ => exact ⟨Nat.zero_le _, by show (y 2).val < 0 + 128; omega⟩
  · refine Or.inr ((Rect.mem_set_unit (inb := k0_off6_inb k j)).2 ?_)
    rw [off6 k j]
    intro a; match a with
      | ⟨0, _⟩ => exact ⟨Nat.zero_le _, by show (y 0).val < 0 + 1; omega⟩
      | ⟨1, _⟩ => exact ⟨by show 128 * ((4 * k.val + j.val) % 16) ≤ (y 1).val; omega, by show (y 1).val < 128 * ((4 * k.val + j.val) % 16) + 128; omega⟩
      | ⟨2, _⟩ => exact ⟨by show 128 ≤ (y 2).val; omega, by show (y 2).val < 128 + 128; omega⟩

/-- The state before trip `k`. -/
theorem state_eq (h13 : arg13.view.read (Elt F) G13 = k0_pay138) (h14 : arg14.view.read (Elt F) G14 = k0_pay139) (k : Nat) (hk : k ≤ 4) :
    (STATE k).1 = ((BLK).dsinks 0 (4 * k), (BLK).dsinks 1 (4 * k), (BLK).dsinks 2 (4 * k), (BLK).dsinks 3 (4 * k))
    ∧ arg13.view.read (Elt F) (arg13.view.writes (Elt F) G13 (STATE k).2.2.1) = sums (fun n => ((BLK).win n).dk) k0_pay138 (4 * k)
    ∧ arg14.view.read (Elt F) (arg14.view.writes (Elt F) G14 (STATE k).2.2.2) = sums (fun n => ((BLK).win n).dv) k0_pay139 (4 * k)
    ∧ (∀ p ∈ (STATE k).2.1, ∀ x, p.2 x = (BLK).dq (p.1.emb x))
    ∧ (∀ y : S1x2048x256.Idx, (y 1).val < 512 * k → ∃ p ∈ (STATE k).2.1, y ∈ p.1.set) := by
  induction k with
  | zero => exact ⟨rfl, h13, h14, fun p hp => absurd hp List.not_mem_nil, fun y hy => absurd hy (by omega)⟩
  | succ k ih =>
    obtain ⟨i1, i2, i3, i4, i5⟩ := ih (by omega)
    have hlt : k < k0_t1_loop.trips := lt_of_lt_of_eq (by omega : k < 4) (by decide)
    have hs := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 k0_pay140 (k0_pay141 (F := F)) (k0_pay142 (F := F)) (k0_pay143 (F := F)) (k0_pay144 (F := F)) 0#32 1#32 X2 X5 X6 X7 X11 X12 G8 G13 G14 (k0_pay141 (F := F), k0_pay142 (F := F), k0_pay143 (F := F), k0_pay144 (F := F)) ⟨k, hlt⟩
    dsimp only at hs
    rw [hs]
    have w0 := win_eq arg2 arg5 arg6 arg7 arg11 arg12 X2 X5 X6 X7 X11 X12 ⟨k, hlt⟩ 0
    have w1 := win_eq arg2 arg5 arg6 arg7 arg11 arg12 X2 X5 X6 X7 X11 X12 ⟨k, hlt⟩ 1
    have w2 := win_eq arg2 arg5 arg6 arg7 arg11 arg12 X2 X5 X6 X7 X11 X12 ⟨k, hlt⟩ 2
    have w3 := win_eq arg2 arg5 arg6 arg7 arg11 arg12 X2 X5 X6 X7 X11 X12 ⟨k, hlt⟩ 3
    refine ⟨?_, ?_, ?_, ?_, ?_⟩
    · refine (trip_yield 𝒱 c bd i arg2 harg2 arg3 harg3 arg4 harg4 arg5 harg5 arg6 harg6 arg7 harg7 arg8 harg8 arg9 harg9 arg10 harg10 arg11 harg11 arg12 harg12 arg13 harg13 arg14 harg14 X2 X5 X6 X7 X11 X12 _ _ _ _ _).trans ?_
      rw [i1, w0, w1, w2, w3]; rfl
    · dsimp only [tripL_k0_t1]
      rw [View.writes_append, trip_arg13]
      have e : (fun j : Fin 4 => (WIN ⟨k, hlt⟩ j).dk) = fun j => ((BLK).win (4 * k + j.val)).dk := funext fun j => congrArg Win.dk (win_eq arg2 arg5 arg6 arg7 arg11 arg12 X2 X5 X6 X7 X11 X12 ⟨k, hlt⟩ j)
      rw [e]
      exact read_addPieces arg13.view _ (fun n => ((BLK).win n).dk) k0_pay138 ⟨k, hlt⟩ i2 4 le_rfl
    · dsimp only [tripL_k0_t1]
      rw [View.writes_append, trip_arg14]
      have e : (fun j : Fin 4 => (WIN ⟨k, hlt⟩ j).dv) = fun j => ((BLK).win (4 * k + j.val)).dv := funext fun j => congrArg Win.dv (win_eq arg2 arg5 arg6 arg7 arg11 arg12 X2 X5 X6 X7 X11 X12 ⟨k, hlt⟩ j)
      rw [e]
      exact read_addPieces arg14.view _ (fun n => ((BLK).win n).dv) k0_pay139 ⟨k, hlt⟩ i3 4 le_rfl
    · dsimp only [tripL_k0_t1]
      rw [trip_arg8]
      intro p hp
      rcases List.mem_append.1 hp with hp | hp
      · simp only [List.mem_cons, List.not_mem_nil, or_false] at hp
        rcases hp with rfl | rfl | rfl | rfl | rfl | rfl | rfl | rfl
        · exact right_at _ _ ⟨k, hlt⟩ 3 w3
        · exact left_at _ _ ⟨k, hlt⟩ 3 w3
        · exact right_at _ _ ⟨k, hlt⟩ 2 w2
        · exact left_at _ _ ⟨k, hlt⟩ 2 w2
        · exact right_at _ _ ⟨k, hlt⟩ 1 w1
        · exact left_at _ _ ⟨k, hlt⟩ 1 w1
        · exact right_at _ _ ⟨k, hlt⟩ 0 w0
        · exact left_at _ _ ⟨k, hlt⟩ 0 w0
      · exact i4 p hp
    · dsimp only [tripL_k0_t1]
      rw [trip_arg8]
      intro y hy
      by_cases hy' : (y 1).val < 512 * k
      · obtain ⟨p, hp, hyp⟩ := i5 y hy'
        exact ⟨p, List.mem_append_right _ hp, hyp⟩
      · have cov := fun (j : Fin 4) (h : 128 * (4 * k + j.val) ≤ (y 1).val) (h' : (y 1).val < 128 * (4 * k + j.val) + 128) =>
          halves_cover (WIN ⟨k, hlt⟩ j) ⟨k, hlt⟩ j y h h'
        have hj : (y 1).val / 128 - 4 * k < 4 := by omega
        have c' := cov ⟨(y 1).val / 128 - 4 * k, hj⟩ (by dsimp only; omega) (by dsimp only; omega)
        generalize (⟨(y 1).val / 128 - 4 * k, hj⟩ : Fin 4) = j at c'
        rcases c' with h | h
        · exact ⟨leftPiece (WIN ⟨k, hlt⟩ j) ⟨k, hlt⟩ j, List.mem_append_left _ (by fin_cases j <;> simp), h⟩
        · exact ⟨rightPiece (WIN ⟨k, hlt⟩ j) ⟨k, hlt⟩ j, List.mem_append_left _ (by fin_cases j <;> simp), h⟩
end

end Cert.Proof.Attn
-- ==== Proof.Attn.Body.lean ====
/- The run of one grid point of the attention backward call: the keys and values are padded, the loop goes over the
   blocks, and the folded sums and the sinks' rows are stored. -/
module

public import proofs.«01_k».proof.Proof.Attn.Loop
public import proofs.«01_k».proof.Proof.Gen.AttnIdeal.Frame

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F]

local notation "𝕄" => MT nD τ sig Unit (Elt F) ℕ (UR sig nD τ) ℕ

/-- The staging and scratch memory the body is called with. -/
structure Mems where
  arg2 : Memref sig .tc .vmem S1x2048x256 .bf16
  harg2 : arg2.IsWhole
  arg3 : Memref sig .tc .vmem S1x2048x128 .bf16
  harg3 : arg3.IsWhole
  arg4 : Memref sig .tc .vmem S1x2048x128 .bf16
  harg4 : arg4.IsWhole
  arg5 : Memref sig .tc .vmem S1x2048x256 .bf16
  harg5 : arg5.IsWhole
  arg6 : Memref sig .tc .vmem S1x1x16x512x384 .bf16
  harg6 : arg6.IsWhole
  arg7 : Memref sig .tc .vmem S1x1x16x512x1 .f32
  harg7 : arg7.IsWhole
  arg8 : Memref sig .tc .vmem S1x2048x256 .bf16
  harg8 : arg8.IsWhole
  arg9 : Memref sig .tc .vmem S1x2048x128 .bf16
  harg9 : arg9.IsWhole
  arg10 : Memref sig .tc .vmem S1x1x8x128 .f32
  harg10 : arg10.IsWhole
  arg11 : Memref sig .tc .vmem S2304x128 .bf16
  harg11 : arg11.IsWhole
  arg12 : Memref sig .tc .vmem S2304x128 .bf16
  harg12 : arg12.IsWhole
  arg13 : Memref sig .tc .vmem S2304x128 .f32
  harg13 : arg13.IsWhole
  arg14 : Memref sig .tc .vmem S2304x128 .f32
  harg14 : arg14.IsWhole

/-- What a grid point reads. -/
structure In (F : FTy → Type) where
  q : Vec F S1x2048x256 .bf16
  k : Vec F S1x2048x128 .bf16
  v : Vec F S1x2048x128 .bf16
  d : Vec F S1x2048x256 .bf16
  p : Vec F S1x1x16x512x384 .bf16
  s : Vec F S1x1x16x512x1 .f32

/-- The three stores that pad a group's rows. -/
abbrev padPieces (top : FVec F S128x128 .bf16) (mid : FVec F S2048x128 .bf16) (bot : FVec F S128x128 .bf16) : List (View.Piece (Elt F) S2304x128 .bf16) :=
  [⟨Rect.unit (s := S2304x128) ![2176, 0] S128x128.size inb_S2304x128_S128x128_2176_0, bot⟩,
   ⟨Rect.unit (s := S2304x128) ![128, 0] S2048x128.size inb_S2304x128_S2048x128_128_0, mid⟩,
   ⟨Rect.unit (s := S2304x128) ![0, 0] S128x128.size inb_S2304x128_S128x128_0_0, top⟩]

/-- The rows they leave. -/
def padded (top : FVec F S128x128 .bf16) (mid : FVec F S2048x128 .bf16) (bot : FVec F S128x128 .bf16) : Vec F S2304x128 .bf16 := View.canon (padPieces top mid bot)

theorem mem_rows {m n o₀ o₁ s₀ s₁ : Nat} (inb) (y : (⟨2, ![m, n]⟩ : Shape).Idx) (h₀ : o₀ ≤ (y 0).val) (h₀' : (y 0).val < o₀ + s₀)
    (h₁ : o₁ ≤ (y 1).val) (h₁' : (y 1).val < o₁ + s₁) : y ∈ (Rect.unit (s := ⟨2, ![m, n]⟩) ![o₀, o₁] ![s₀, s₁] inb).set :=
  Rect.mem_set_unit.2 fun a => match a with | ⟨0, _⟩ => ⟨h₀, h₀'⟩ | ⟨1, _⟩ => ⟨h₁, h₁'⟩

theorem padPieces_cover (top : FVec F S128x128 .bf16) (mid : FVec F S2048x128 .bf16) (bot : FVec F S128x128 .bf16) (y : S2304x128.Idx) :
    ∃ p ∈ padPieces top mid bot, y ∈ p.1.set := by
  have h0 : (y 0).val < 2304 := (y 0).isLt
  have h1 : (y 1).val < 128 := (y 1).isLt
  by_cases h : (y 0).val < 128
  · refine ⟨_, List.mem_cons_of_mem _ (List.mem_cons_of_mem _ List.mem_cons_self), ?_⟩
    exact mem_rows inb_S2304x128_S128x128_0_0 y (Nat.zero_le _) (by omega) (Nat.zero_le _) (by omega)
  by_cases h' : (y 0).val < 2176
  · refine ⟨_, List.mem_cons_of_mem _ List.mem_cons_self, ?_⟩
    exact mem_rows inb_S2304x128_S2048x128_128_0 y (by omega) (by omega) (Nat.zero_le _) (by omega)
  · refine ⟨_, List.mem_cons_self, ?_⟩
    exact mem_rows inb_S2304x128_S128x128_2176_0 y (by omega) (by omega) (Nat.zero_le _) (by omega)

theorem read_padded {sp : Space} (v : View sig .tc sp S2304x128 .bf16) (f : v.ty.Contents (Elt F)) (top : FVec F S128x128 .bf16) (mid : FVec F S2048x128 .bf16) (bot : FVec F S128x128 .bf16) :
    v.read (Elt F) (v.writes (Elt F) f (padPieces top mid bot)) = padded top mid bot :=
  View.read_writes_eq_canon _ _ _ (padPieces_cover top mid bot)

namespace In
variable (b : In F) (i : grid0.Coords)

/-- What its loop reads. -/
def blk : Blk F := ⟨b.q, b.d, padded k0_pay130 (k0_pay131 i b.k) k0_pay132,
  padded k0_pay135 (k0_pay136 (k0_pay133 b.v) (k0_pay134 i) (constantI S2048x128 1 1#1)) k0_pay137, b.p, b.s⟩

/-- The keys' and values' sums over all blocks, and their rows without the padding, folded. -/
def dks : Vec F S2304x128 .f32 := sums (fun n => ((b.blk i).win n).dk) k0_pay138 16
def dvs : Vec F S2304x128 .f32 := sums (fun n => ((b.blk i).win n).dv) k0_pay139 16
abbrev innerRect : Rect S2304x128 := Rect.unit (s := S2304x128) ![128, 0] S2048x128.size inb_S2304x128_S2048x128_128_0
def dkv : FVec F S1x2048x128 .bf16 := k0_pay146 (View.ld (b.dks i) innerRect) (View.ld (b.dvs i) innerRect)

/-- The sinks' rows, as stored. -/
abbrev sinkPieces : List (View.Piece (Elt F) S1x1x8x128 .f32) :=
  [⟨Rect.unit (s := S1x1x8x128) ![0, 0, 3, 0] S1x1x1x128.size inb_S1x1x8x128_S1x1x1x128_0_0_3_0, k0_pay1 ((b.blk i).dsinks 3 16)⟩,
   ⟨Rect.unit (s := S1x1x8x128) ![0, 0, 2, 0] S1x1x1x128.size inb_S1x1x8x128_S1x1x1x128_0_0_2_0, k0_pay150 ((b.blk i).dsinks 2 16)⟩,
   ⟨Rect.unit (s := S1x1x8x128) ![0, 0, 1, 0] S1x1x1x128.size inb_S1x1x8x128_S1x1x1x128_0_0_1_0, k0_pay149 ((b.blk i).dsinks 1 16)⟩,
   ⟨Rect.unit (s := S1x1x8x128) ![0, 0, 0, 0] S1x1x1x128.size inb_S1x1x8x128_S1x1x1x128_0_0_0_0, k0_pay148 ((b.blk i).dsinks 0 16)⟩,
   ⟨Rect.unit (s := S1x1x8x128) ![0, 0, 0, 0] S1x1x8x128.size inb_S1x1x8x128_S1x1x8x128_0_0_0_0, k0_pay147⟩]
def dsk : Vec F S1x1x8x128 .f32 := View.canon (b.sinkPieces i)
end In

/-- The six inputs' blocks in their staging memory. -/
def ins (c : Dev nD) (M : Mems) (b : In F) : sProp 𝕄 :=
  iprop(owns (c : Thread nD τ) M.arg2 fullShare b.q ∗ owns (c : Thread nD τ) M.arg3 fullShare b.k ∗
    owns (c : Thread nD τ) M.arg4 fullShare b.v ∗ owns (c : Thread nD τ) M.arg5 fullShare b.d ∗
    owns (c : Thread nD τ) M.arg6 fullShare b.p ∗ owns (c : Thread nD τ) M.arg7 fullShare b.s)

/-- The three results' staging memory at some contents, and at what the point leaves. -/
def outsAny (c : Dev nD) (M : Mems) : sProp 𝕄 :=
  iprop((∃ d, owns (c : Thread nD τ) M.arg8 fullShare d) ∗ (∃ d, owns (c : Thread nD τ) M.arg9 fullShare d) ∗
    (∃ d, owns (c : Thread nD τ) M.arg10 fullShare d))
def outs (c : Dev nD) (M : Mems) (b : In F) (i : grid0.Coords) : sProp 𝕄 :=
  iprop(owns (c : Thread nD τ) M.arg8 fullShare (b.blk i).dq ∗ owns (c : Thread nD τ) M.arg9 fullShare (b.dkv i) ∗
    owns (c : Thread nD τ) M.arg10 fullShare (b.dsk i))

/-- The scratch memory at some contents. -/
def scrAny (c : Dev nD) (M : Mems) : sProp 𝕄 :=
  iprop((∃ d, owns (c : Thread nD τ) M.arg11 fullShare d) ∗ (∃ d, owns (c : Thread nD τ) M.arg12 fullShare d) ∗
    (∃ d, owns (c : Thread nD τ) M.arg13 fullShare d) ∗ (∃ d, owns (c : Thread nD τ) M.arg14 fullShare d))

/-- The body on the memory `M`. -/
def body (i : grid0.Coords) (M : Mems) : Prog (TpuEff nD τ sig (Elt F) Λ₀ .tc) PUnit :=
  cc0_attn_bwd i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14

theorem zeros2 : (![0, 0] : Fin 2 → Nat) = fun _ => 0 := funext fun a => match a with | ⟨0, _⟩ => rfl | ⟨1, _⟩ => rfl
theorem zeros3 : (![0, 0, 0] : Fin 3 → Nat) = fun _ => 0 := funext fun a => match a with | ⟨0, _⟩ => rfl | ⟨1, _⟩ => rfl | ⟨2, _⟩ => rfl
theorem zeros4 : (![0, 0, 0, 0] : Fin 4 → Nat) = fun _ => 0 := funext fun a => match a with | ⟨0, _⟩ => rfl | ⟨1, _⟩ => rfl | ⟨2, _⟩ => rfl | ⟨3, _⟩ => rfl

/-- A load of a whole block, and a buffer one whole store filled. -/
theorem ld_all3 {e : EltTy} {l m n : Nat} (X : (⟨3, ![l, m, n]⟩ : Shape).Idx → Elt F e) (inb) :
    View.ld X (Rect.unit (s := ⟨3, ![l, m, n]⟩) ![0, 0, 0] ![l, m, n] inb) = X := View.ld_unit_zero zeros3 inb X
theorem read_all {e : EltTy} {sp : Space} {s : Shape} (v : View sig .tc sp s e) (f : v.ty.Contents (Elt F)) {off : Fin s.rank → Nat} (h0 : off = fun _ => 0) (inb)
    (w : s.Idx → Elt F e) :
    v.read (Elt F) (v.writes (Elt F) f [⟨Rect.unit (s := s) off s.size inb, w⟩]) = w := by
  have cover : ∀ y, ∃ p ∈ ([⟨Rect.unit (s := s) off s.size inb, w⟩] : List (View.Piece (Elt F) s e)), y ∈ p.1.set :=
    fun y => ⟨_, List.mem_cons_self, View.mem_set_unit_zero h0 inb y⟩
  rw [View.read_writes_eq_canon _ _ _ cover]
  exact View.canon_cons_unit_zero h0 inb w []

/-- A buffer's contents handed over by what they read. -/
theorem held (c : Dev nD) {sp : Space} {S : Shape} {e : EltTy} (M : Memref sig .tc sp S e) {f : BufTy.Contents (Elt F) M.view.ty} {x : S.Idx → Elt F e}
    (h : M.view.read (Elt F) f = x) :
    (M.view.loc (c : Thread nD τ) ↦[M.view.set]{fullShare} f : sProp 𝕄) ⊢
      iprop(∃ f, ⌜M.view.read (Elt F) f = x⌝ ∗ M.view.loc (c : Thread nD τ) ↦[M.view.set]{fullShare} f) := by
  iintro H
  iexists _; isplitr; · ipureintro; exact h
  iexact H

set_option maxHeartbeats 4000000 in
theorem point (c : Dev nD) (i : grid0.Coords) (M : Mems) (b : In F) (W : Waits sig Unit) (K : PUnit → sProp 𝕄) :
    iprop(ins c M b ∗ outsAny c M ∗ scrAny c M ∗ owes (c : Thread nD τ) 0 W ∗
      (iprop(ins c M b ∗ outs c M b i ∗ scrAny c M ∗ (∃ W', owes (c : Thread nD τ) 0 W')) -∗ K ⟨⟩))
    ⊢ wp frame (wpE (defs₀ (F := F)) Variants.none c none) Set.univ (body i M) K := by
  obtain ⟨arg2, harg2, arg3, harg3, arg4, harg4, arg5, harg5, arg6, harg6, arg7, harg7, arg8, harg8, arg9, harg9, arg10, harg10, arg11, harg11, arg12, harg12, arg13, harg13, arg14, harg14⟩ := M
  obtain ⟨q, k, v, d, p, s⟩ := b
  unfold body
  simp only [cc0_attn_bwd_eq_skeleton]; unfold cc0_attn_bwd_skel
  simp only [k0_part15_eq_skeleton, k0_part16_eq_skeleton, k0_part17_eq_skeleton]
  unfold ins outsAny scrAny owns; dsimp only
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩⟩, ⟨⟨%d11, %f11, -, H11⟩, ⟨%d12, %f12, -, H12⟩, ⟨%d13, %f13, -, H13⟩, ⟨%d14, %f14, -, H14⟩⟩, HW, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  have e3 : View.readAt (Elt F) arg3.view (Rect.unit (s := S1x2048x128) ![0, 0, 0] S1x2048x128.size inb_S1x2048x128_S1x2048x128_0_0_0).toLoadRect (harg3.unread k) = k := by
    refine (View.readAt_eq_ld _ _ _).trans ?_; rw [hf3]; exact ld_all3 _ _
  have e4 : View.readAt (Elt F) arg4.view (Rect.unit (s := S1x2048x128) ![0, 0, 0] S1x2048x128.size inb_S1x2048x128_S1x2048x128_0_0_0).toLoadRect (harg4.unread v) = v := by
    refine (View.readAt_eq_ld _ _ _).trans ?_; rw [hf4]; exact ld_all3 _ _
  have ht : Scf.trips (0#32) (Scalar.addi 0#32 4#32) 1#32 = 4 := by decide
  have ht' : Scf.trips k0_t1_loop.lb k0_t1_loop.ub k0_t1_loop.st = 4 := by decide
  have hB : blkOf arg2 arg5 arg6 arg7 arg11 arg12 (harg2.unread q) (harg5.unread d) (harg6.unread p) (harg7.unread s)
      (arg11.view.writes (Elt F) arg11.view.junk (padPieces k0_pay130 (k0_pay131 i k) k0_pay132))
      (arg12.view.writes (Elt F) arg12.view.junk (padPieces k0_pay135 (k0_pay136 (k0_pay133 v) (k0_pay134 i) (constantI S2048x128 1 1#1)) k0_pay137)) = In.blk ⟨q, k, v, d, p, s⟩ i := by
    unfold blkOf In.blk; rw [hf2, hf5, hf6, hf7, read_padded, read_padded]
  obtain ⟨s1, s2, s3, s4, s5⟩ := state_eq (F := F) Variants.none c none i arg2 harg2 arg3 harg3 arg4 harg4 arg5 harg5 arg6 harg6 arg7 harg7 arg8 harg8 arg9 harg9 arg10 harg10 arg11 harg11 arg12 harg12 arg13 harg13 arg14 harg14
    (harg2.unread q) (harg5.unread d) (harg6.unread p) (harg7.unread s)
    (arg11.view.writes (Elt F) arg11.view.junk (padPieces k0_pay130 (k0_pay131 i k) k0_pay132))
    (arg12.view.writes (Elt F) arg12.view.junk (padPieces k0_pay135 (k0_pay136 (k0_pay133 v) (k0_pay134 i) (constantI S2048x128 1 1#1)) k0_pay137)) f8
    (arg13.view.writes (Elt F) arg13.view.junk [⟨Rect.unit (s := S2304x128) ![0, 0] S2304x128.size inb_S2304x128_S2304x128_0_0, k0_pay138⟩])
    (arg14.view.writes (Elt F) arg14.view.junk [⟨Rect.unit (s := S2304x128) ![0, 0] S2304x128.size inb_S2304x128_S2304x128_0_0, k0_pay139⟩])
    (read_all _ _ zeros2 _ _) (read_all _ _ zeros2 _ _) 4 le_rfl
  rw [hB] at s1 s2 s3 s4
  sl_exec
  sl_step
  iapply Hk
  unfold outs owns; dsimp only
  isplitl [H2 H3 H4 H5 H6 H7]
  · isplitl [H2]; · iapply held c arg2 (harg2.read_unread _); iexact H2
    isplitl [H3]; · iapply held c arg3 (harg3.read_unread _); iexact H3
    isplitl [H4]; · iapply held c arg4 (harg4.read_unread _); iexact H4
    isplitl [H5]; · iapply held c arg5 (harg5.read_unread _); iexact H5
    isplitl [H6]; · iapply held c arg6 (harg6.read_unread _); iexact H6
    iapply held c arg7 (harg7.read_unread _); iexact H7
  isplitl [H8 H9 H10]
  · isplitl [H8]
    · iexists _; isplitr; swap; (iexact H8); ipureintro
      sl_unfold_run_names
      rw [ht]
      exact funext fun y => View.read_writes_apply_of_pieces _ _ _ _ s4 y (s5 y (y 1).isLt)
    isplitl [H9]
    · iexists _; isplitr; swap; (iexact H9); ipureintro
      sl_unfold_run_names
      refine (read_all _ _ zeros3 _ _).trans ?_
      simp only [ht, ht']
      refine congrArg₂ k0_pay146 ?_ ?_
      · refine (congrArg (fun X => View.readAt (Elt F) arg13.view In.innerRect.toLoadRect X) (View.writes_append _ _ _ _)).trans ?_
        exact (View.readAt_eq_ld _ _ _).trans (congrArg (fun X => View.ld X In.innerRect) s2)
      · refine (congrArg (fun X => View.readAt (Elt F) arg14.view In.innerRect.toLoadRect X) (View.writes_append _ _ _ _)).trans ?_
        exact (View.readAt_eq_ld _ _ _).trans (congrArg (fun X => View.ld X In.innerRect) s3)
    · iexists _; isplitr; swap; (iexact H10); ipureintro
      sl_unfold_run_names
      simp only [ht, ht']
      refine (View.read_writes_eq_canon _ _ _ fun y => ⟨_, List.mem_cons_of_mem _ (List.mem_cons_of_mem _ (List.mem_cons_of_mem _ (List.mem_cons_of_mem _ List.mem_cons_self))), View.mem_set_unit_zero zeros4 inb_S1x1x8x128_S1x1x8x128_0_0_0_0 y⟩).trans ?_
      exact congrArg (fun x : FVec F S1x128 .f32 × FVec F S1x128 .f32 × FVec F S1x128 .f32 × FVec F S1x128 .f32 => View.canon
        [(⟨Rect.unit (s := S1x1x8x128) ![0, 0, 3, 0] S1x1x1x128.size inb_S1x1x8x128_S1x1x1x128_0_0_3_0, k0_pay1 x.2.2.2⟩ : View.Piece (Elt F) S1x1x8x128 .f32),
         ⟨Rect.unit (s := S1x1x8x128) ![0, 0, 2, 0] S1x1x1x128.size inb_S1x1x8x128_S1x1x1x128_0_0_2_0, k0_pay150 x.2.2.1⟩,
         ⟨Rect.unit (s := S1x1x8x128) ![0, 0, 1, 0] S1x1x1x128.size inb_S1x1x8x128_S1x1x1x128_0_0_1_0, k0_pay149 x.2.1⟩,
         ⟨Rect.unit (s := S1x1x8x128) ![0, 0, 0, 0] S1x1x1x128.size inb_S1x1x8x128_S1x1x1x128_0_0_0_0, k0_pay148 x.1⟩,
         ⟨Rect.unit (s := S1x1x8x128) ![0, 0, 0, 0] S1x1x8x128.size inb_S1x1x8x128_S1x1x8x128_0_0_0_0, k0_pay147⟩]) s1
  isplitl [H11 H12 H13 H14]
  · isplitl [H11]; · iexists _; iapply held c arg11 rfl; iexact H11
    isplitl [H12]; · iexists _; iapply held c arg12 rfl; iexact H12
    isplitl [H13]; · iexists _; iapply held c arg13 rfl; iexact H13
    iexists _; iapply held c arg14 rfl; iexact H14
  iexists _; iexact HW

end Cert.Proof.Attn
-- ==== Proof.Attn.Frame.lean ====
/- The attention backward call's run: the proof data of its pipeline from the body's triple, and its frame. -/
module

public import proofs.«01_k».proof.Proof.Attn.Body
public import Idealize.ShloMosaic.Lib.Claim

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory the body is called with at point `t`. -/
def mems (t : Fin cfg0.N) : Mems := ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8),
  Memref.whole cc0_scratch0, Memref.isWhole_whole _, Memref.whole cc0_scratch1, Memref.isWhole_whole _, Memref.whole cc0_scratch2, Memref.isWhole_whole _, Memref.whole cc0_scratch3, Memref.isWhole_whole _⟩

/-- The blocks it finds there. -/
def inAt (c : Dev nD) (t : Fin cfg0.N) : In F := ⟨iblk m c 0 t, iblk m c 1 t, iblk m c 2 t, iblk m c 3 t, iblk m c 4 t, iblk m c 5 t⟩

/-- The pipeline's proof data: the inputs keep their blocks, the results hold what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((inAt m c t).blk (grid0.coords t)).dq
    | ⟨7, _⟩ => (inAt m c t).dkv (grid0.coords t)
    | ⟨8, _⟩ => (inAt m c t).dsk (grid0.coords t)
    | ⟨_ + 9, h⟩ => absurd h (Nat.not_lt.2 (Nat.le_add_left _ _))
  Φ t := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The launch's memory between points: the scratch at any contents, and the random register. -/
theorem PhiA_eq (c : Dev nD) (t : Fin cfg0.N) : (Pipeline.ΦA spec0 c : sProp 𝕄) = iprop(scrAny c (mems t) ∗ ∃ r, prngReg c r) := by
  unfold Pipeline.ΦA
  rw [scopedRest0_eq]
  unfold scrAny mems
  simp only [owns_whole]; rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hbody : bodyAt0 (F := F) t = body (grid0.coords t) (mems t) := rfl
  unfold bodyPre bodyPost
  rw [hbody]
  simp only [before_0, before_1, before_2, before_3, before_4, before_5]
  unfold Dat.owesAt Pipeline.owesWithin
  rw [show (dats m 0 c).owed t.castSucc = 0 from rfl, show (dats m 0 c).owed t.succ = 0 from rfl,
    show (dats m 0 c).Φ t.castSucc = Pipeline.ΦA spec0 c from rfl, show (dats m 0 c).Φ t.succ = Pipeline.ΦA spec0 c from rfl, PhiA_eq c t]
  iintro ⟨⟨HS, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply point c (grid0.coords t) (mems t) (inAt m c t) W _
  isplitl [H0 H1 H2 H3 H4 H5]
  · unfold ins
    isplitl [H0]; · iexact H0
    isplitl [H1]; · iexact H1
    isplitl [H2]; · iexact H2
    isplitl [H3]; · iexact H3
    isplitl [H4]; · iexact H4
    iexact H5
  isplitl [H6 H7 H8]
  · unfold outsAny
    isplitl [H6]; · iexists _; iexact H6
    isplitl [H7]; · iexists _; iexact H7
    iexists _; iexact H8
  isplitl [HS]; · iexact HS
  isplitl [HW]; · iexact HW
  iintro ⟨Hins, Houts, HS, HW⟩
  isplitl [HS Hg]
  · isplitl [HS]; · iexact HS
    iexact Hg
  isplitl [HW]
  · icases HW with ⟨%W', HW⟩; iexists W'; isplitr; · ipureintro; exact fun _ _ => Or.inl trivial
    iexact HW
  unfold ins outs; dsimp only [dats, mems, inAt]
  icases Hins with ⟨H0, H1, H2, H3, H4, H5⟩
  icases Houts with ⟨H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hΦ := fun _ _ => rfl) (Q' := fun r => (Pipeline.FramePost cfgs (dats m) 0 (V m)) r ∧ r.2.sem = fun _ => 0) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The frame's statement: the arguments end unchanged and every counter at zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem frame : Kept m ρ :=
  θ_run_and (frame_of m ρ (dats m) (A_eq m) (run_main m ρ)) ((θ_run defs _ _).mono (fun _ h => h.2) (run_main_quiescent m ρ))

end Cert.Proof.Attn
-- ==== Proof.Attn.Claims.lean ====
/- The frames of the attention backward call, of its idealization and of their reference. -/
module

public import proofs.«01_k».proof.Defs
public import proofs.«01_k».proof.Proof.Gen.Attn
public import proofs.«01_k».proof.Proof.Attn.Frame
public import proofs.«01_k».proof.Proof.Gen.AttnRefIdeal.Run
public import Idealize.ShloMosaic.Lib.Quiescent

@[expose] public section

noncomputable section

namespace Cert.Proof.Attn

open Idealize.ShloMosaic Idealize.SL.Sem

/-- The kernel's frame on machine numbers: the idealization has the same text, so its run, which holds over any
    float values, is the kernel's. -/
theorem frame_attn : Cert.quiescent_Attn := by
  have same : Cert.quiescent_Attn = ∀ m ρ, True → Kept (F := Bits) m ρ := by sl_kernel_rfl
  rw [same]
  exact fun m ρ _ => frame m ρ

theorem frame_attnIdeal : Cert.quiescent_AttnIdeal := fun m ρ _ => Cert.Proof.Attn.frame (F := Ideal) m ρ

/-- The reference keeps its arguments, and has no semaphore. -/
theorem frame_attnRefIdeal : Cert.quiescent_AttnRefIdeal := fun m ρ _ =>
  (θ_run Cert.AttnRefIdeal.defs _ _).mono (fun r h => ⟨fun c => (h c).2.2.2, sem_eq_zero_of_no_sems rfl r.2⟩)
    (Cert.AttnRefIdeal.Value.run (F := Ideal) m ρ)

end Cert.Proof.Attn

end
-- ==== Proof.Attn.Math.lean ====
/- The attention's gradients as sums of extended reals: what both programs compute, element by element, and the softmax
   row's gradient from its exponentials. -/
module

public import proofs.«01_k».proof.Proof.Real
public import Idealize.ShloMosaic.Lib.Pointwise

@[expose] public section

noncomputable section

namespace Cert.Proof.Attn

open Idealize.ShloMosaic

/-! ## A row of the softmax -/

/-- A row's gradient from its exponentials `E`, the sink's `ES`, their sum `DN` and the gradient `D` of the
    probabilities: the scores' gradient, the sink's, and the gradient of the maximum, which is zero. -/
theorem row {n : Nat} (E D : Fin n → EReal) (ES DN : EReal) (hE : ∀ j, IsReal (E j)) (hD : ∀ j, IsReal (D j)) (hES : IsReal ES)
    (hDN : DN = ∑ j, E j + ES) (h0 : DN ≠ 0) :
    (∀ j, (Ideal.div (D j) DN + -∑ k, D k * Ideal.div 1 (DN * DN) * E k) * E j
        = Ideal.div (E j) DN * (D j - ∑ k, Ideal.div (E k) DN * D k))
      ∧ -(∑ k, D k * Ideal.div 1 (DN * DN) * E k) * ES = -(Ideal.div ES DN * ∑ k, Ideal.div (E k) DN * D k)
      ∧ -(-(∑ k, D k * Ideal.div 1 (DN * DN) * E k) * ES)
          + ∑ j, -((Ideal.div (D j) DN + -∑ k, D k * Ideal.div 1 (DN * DN) * E k) * E j) = 0 := by
  choose e he using hE
  choose d hd using hD
  obtain ⟨es, rfl⟩ := hES
  have hdn : DN = ((∑ j, e j + es : ℝ) : EReal) := by rw [hDN]; simp only [he, sum_coe, EReal.coe_add]
  set dn : ℝ := ∑ j, e j + es with hdef
  have hne : dn ≠ 0 := by rintro h; rw [h] at hdn; exact h0 hdn
  have hT : ∑ k, D k * Ideal.div 1 (DN * DN) * E k = (((∑ k, d k * e k) / (dn * dn) : ℝ) : EReal) := by
    have : ∀ k, D k * Ideal.div 1 (DN * DN) * E k = ((d k * e k / (dn * dn) : ℝ) : EReal) := fun k => by
      rw [hd, he, hdn, ← EReal.coe_mul, ← EReal.coe_one, div_real _ (mul_ne_zero hne hne), ← EReal.coe_mul, ← EReal.coe_mul]
      congr 1; field_simp
    simp only [this, sum_coe, Finset.sum_div]
  have hS : ∑ k, Ideal.div (E k) DN * D k = (((∑ k, d k * e k) / dn : ℝ) : EReal) := by
    have : ∀ k, Ideal.div (E k) DN * D k = ((d k * e k / dn : ℝ) : EReal) := fun k => by
      rw [hd, he, hdn, div_real _ hne, ← EReal.coe_mul]
      congr 1; field_simp
    simp only [this, sum_coe, Finset.sum_div]
  have h1 : ∀ j, (Ideal.div (D j) DN + -∑ k, D k * Ideal.div 1 (DN * DN) * E k) * E j
      = (((d j / dn - (∑ k, d k * e k) / (dn * dn)) * e j : ℝ) : EReal) := fun j => by
    rw [hT, hd, he, hdn, div_real _ hne, ← EReal.coe_neg, ← EReal.coe_add, ← EReal.coe_mul, sub_eq_add_neg]
  refine ⟨fun j => ?_, ?_, ?_⟩
  · rw [h1, hS, hd, he, hdn, div_real _ hne, ← EReal.coe_sub, ← EReal.coe_mul]
    congr 1; field_simp
  · rw [hT, hS, hdn, div_real _ hne, ← EReal.coe_neg, ← EReal.coe_mul, ← EReal.coe_mul, ← EReal.coe_neg]
    congr 1; field_simp
  · simp only [h1]
    simp only [hT, ← EReal.coe_neg, sum_coe, ← EReal.coe_mul, ← EReal.coe_add]
    rw [← EReal.coe_zero]; congr 1
    have h2 : ∑ j, -((d j / dn - (∑ k, d k * e k) / (dn * dn)) * e j) = -(∑ k, d k * e k) / dn + (∑ k, d k * e k) / (dn * dn) * ∑ j, e j := by
      have h4 : ∀ c : ℝ, ∑ j, -((d j / dn - c) * e j) = -(∑ k, d k * e k) / dn + c * ∑ j, e j := fun c => by
        rw [Finset.mul_sum, ← Finset.sum_neg_distrib, Finset.sum_div, ← Finset.sum_add_distrib]
        exact Finset.sum_congr rfl fun j _ => by ring
      exact h4 _
    rw [h2]
    have h3 : ∑ j, e j = dn - es := by rw [hdef]; ring
    rw [h3]; field_simp; ring

/-- Two reads of one array at equal places. -/
theorem ev3 {n0 n1 n2 : Nat} (u : (⟨3, ![n0, n1, n2]⟩ : Shape).Idx → EReal) {a a' : Fin n0} {b b' : Fin n1} {c c' : Fin n2}
    (ha : a.val = a'.val) (hb : b.val = b'.val) (hc : c.val = c'.val) : u (ix3 a b c) = u (ix3 a' b' c') := by
  rw [Fin.ext ha, Fin.ext hb, Fin.ext hc]

theorem ev5 {n0 n1 n2 n3 n4 : Nat} (u : (⟨5, ![n0, n1, n2, n3, n4]⟩ : Shape).Idx → EReal) {a a' : Fin n0} {b b' : Fin n1} {c c' : Fin n2} {d d' : Fin n3}
    {e e' : Fin n4} (ha : a.val = a'.val) (hb : b.val = b'.val) (hc : c.val = c'.val) (hd : d.val = d'.val) (he : e.val = e'.val) :
    u (ix5 a b c d e) = u (ix5 a' b' c' d' e') := by
  rw [Fin.ext ha, Fin.ext hb, Fin.ext hc, Fin.ext hd, Fin.ext he]

/-- Two guarded elements under one condition. -/
theorem dite_ev {c c' : Prop} [Decidable c] [Decidable c'] (hc : c ↔ c') {f : c → EReal} {f' : c' → EReal} (hf : ∀ x y, f x = f' y) :
    (if x : c then f x else 0) = (if x : c' then f' x else 0) := by
  by_cases x : c
  · rw [dif_pos x, dif_pos (hc.mp x)]; exact hf _ _
  · rw [dif_neg x, dif_neg fun y => x (hc.mpr y)]

/-! ## The gradients, element by element -/

section Elements
variable (u : (⟨3, ![2, 2048, 2816]⟩ : Shape).Idx → EReal) (w : (⟨3, ![2, 2048, 512]⟩ : Shape).Idx → EReal)
variable (P : (⟨6, ![2, 16, 2, 4, 128, 384]⟩ : Shape).Idx → EReal) (S : (⟨6, ![2, 16, 2, 4, 128, 1]⟩ : Shape).Idx → EReal)
variable (b : Fin 2) (n : Fin 16) (h : Fin 2) (g : Fin 4) (q : Fin 128) (j : Fin 384) (d : Fin 64)

/-- The scale of the scores. -/
abbrev scale : EReal := Ideal.ofBits .f32 0x3E000000#32

/-- A query, and the incoming gradient. -/
def qE : EReal := u (ix3 b ⟨128 * n.val + q.val, by omega⟩ ⟨2048 + 256 * h.val + 64 * g.val + d.val, by omega⟩)
def wE : EReal := w (ix3 b ⟨128 * n.val + q.val, by omega⟩ ⟨256 * h.val + 64 * g.val + d.val, by omega⟩)
/-- Row `r` of the padded keys (from column 2560) or values (from column 2688). -/
def padE (o : Nat) (ho : o + 128 ≤ 2816) (r : Nat) : EReal :=
  if H : 128 ≤ r ∧ r < 2176 then u (ix3 b ⟨r - 128, by omega⟩ ⟨o + 64 * h.val + d.val, by omega⟩) else 0
/-- A key and a value of block `n`'s window. -/
def kE : EReal := padE u b h d 2560 (by decide) (128 * n.val + j.val)
def vE : EReal := padE u b h d 2688 (by decide) (128 * n.val + j.val)
/-- The gradient of a probability, a row's weighted sum of them, and the gradient of a score. -/
def dpE : EReal := ∑ d, wE w b n h g q d * vE u b n h j d
def deltaE : EReal := ∑ j, P (ix6 b n h g q j) * dpE u w b n h g q j
def dsE : EReal := P (ix6 b n h g q j) * (dpE u w b n h g q j - deltaE u w P b n h g q)
/-- The gradient of a query, and block `n`'s contributions to a key's and a value's. -/
def dqE : EReal := (∑ j, dsE u w P b n h g q j * kE u b n h j d) * scale
def dkE : EReal := ∑ g, ∑ q, dsE u w P b n h g q j * (qE u b n h g q d * scale)
def dvE : EReal := ∑ g, ∑ q, P (ix6 b n h g q j) * wE w b n h g q d
/-- The sum of the contributions to padded row `r`. -/
def rowsE (D : Fin 16 → Fin 384 → EReal) (r : Nat) : EReal :=
  ∑ n : Fin 16, if H : 128 * n.val ≤ r ∧ r < 128 * n.val + 384 then D n ⟨r - 128 * n.val, by omega⟩ else 0
/-- A sink's gradient. -/
def sinkE : EReal := ∑ n : Fin 16, -∑ q : Fin 128, S (ix6 b n h g q 0) * deltaE u w P b n h g q
end Elements

theorem scale_eq : scale = ((1 / 8 : ℝ) : EReal) := by
  simp [scale, Ideal.ofBits, Ideal.ieee, -EReal.coe_mul]; norm_num

theorem sum_scale {ι : Type} (s : Finset ι) (f : ι → EReal) : ∑ i ∈ s, f i * scale = (∑ i ∈ s, f i) * scale := by
  classical
  induction s using Finset.induction_on with
  | empty => rw [Finset.sum_empty, Finset.sum_empty, zero_mul]
  | insert a s ha ih =>
    rw [Finset.sum_insert ha, Finset.sum_insert ha, ih]
    refine (EReal.right_distrib_of_nonneg_of_ne_top ?_ ?_ _ _).symm
    · rw [scale_eq]; exact EReal.coe_nonneg.mpr (by norm_num)
    · rw [scale_eq]; exact EReal.coe_ne_top _

theorem sum_neg {ι : Type} [Fintype ι] {f : ι → EReal} (h : ∀ i, IsReal (f i)) : ∑ i, -f i = -∑ i, f i := by
  choose r hr using h
  simp only [hr, ← EReal.coe_neg, sum_coe, Finset.sum_neg_distrib]

section Reals
variable {u : (⟨3, ![2, 2048, 2816]⟩ : Shape).Idx → EReal} {w : (⟨3, ![2, 2048, 512]⟩ : Shape).Idx → EReal} (hu : ∀ i, IsReal (u i)) (hw : ∀ i, IsReal (w i))
include hu
theorem padE_real (b h d o ho r) : IsReal (padE u b h d o ho r) := by
  unfold padE
  split_ifs
  · exact hu _
  · exact ⟨0, rfl⟩
include hw
theorem dpE_real (b n h g q j) : IsReal (dpE u w b n h g q j) := IsReal.sum fun _ => (hw _).mul (padE_real hu ..)
end Reals

/-- At most three blocks' windows hold a row: in the order the reference adds them. -/
theorem rowsE_eq (D : Fin 16 → Fin 384 → EReal) (B : Fin 18) (r : Fin 128) :
    rowsE D (128 * B.val + r.val) =
      ((if H : 2 ≤ B.val then D ⟨B.val - 2, by omega⟩ ⟨r.val + 256, by omega⟩ else 0)
        + (if H : 1 ≤ B.val ∧ B.val ≤ 16 then D ⟨B.val - 1, by omega⟩ ⟨r.val + 128, by omega⟩ else 0))
        + (if H : B.val ≤ 15 then D ⟨B.val, by omega⟩ ⟨r.val, by omega⟩ else 0) := by
  have key : ∀ n : Fin 16, (if H : 128 * n.val ≤ 128 * B.val + r.val ∧ 128 * B.val + r.val < 128 * n.val + 384 then D n ⟨128 * B.val + r.val - 128 * n.val, by omega⟩ else 0)
      = ((if n.val + 2 = B.val then D n ⟨r.val + 256, by omega⟩ else 0) + (if n.val + 1 = B.val then D n ⟨r.val + 128, by omega⟩ else 0))
        + (if n.val = B.val then D n ⟨r.val, by omega⟩ else 0) := fun n => by
    by_cases h2 : n.val + 2 = B.val
    · rw [dif_pos (by omega), if_pos h2, if_neg (by omega), if_neg (by omega), add_zero, add_zero]
      congr 2; omega
    by_cases h1 : n.val + 1 = B.val
    · rw [dif_pos (by omega), if_neg h2, if_pos h1, if_neg (by omega), add_zero, zero_add]
      congr 2; omega
    by_cases h0 : n.val = B.val
    · rw [dif_pos (by omega), if_neg h2, if_neg h1, if_pos h0, zero_add, zero_add]
      congr 2; omega
    · rw [dif_neg (by omega), if_neg h2, if_neg h1, if_neg h0, zero_add, zero_add]
  have one : ∀ (k : Nat) (f : Fin 16 → EReal) (H : k ≤ B.val ∧ B.val - k ≤ 15), ∑ n : Fin 16, (if n.val + k = B.val then f n else 0) = f ⟨B.val - k, by omega⟩ :=
    fun k f H => by
      rw [Finset.sum_eq_single ⟨B.val - k, by omega⟩, if_pos (by show B.val - k + k = B.val; omega)]
      · intro n _ hn; exact if_neg fun e => hn (Fin.ext (by show n.val = B.val - k; omega))
      · intro hn; exact absurd (Finset.mem_univ _) hn
  have none : ∀ (k : Nat) (f : Fin 16 → EReal) (H : ¬(k ≤ B.val ∧ B.val - k ≤ 15)), ∑ n : Fin 16, (if n.val + k = B.val then f n else 0) = 0 :=
    fun k f H => Finset.sum_eq_zero fun n _ => if_neg (by omega)
  unfold rowsE
  simp only [key, Finset.sum_add_distrib]
  congr 1; congr 1
  · split_ifs with H
    · exact one 2 _ (by omega)
    · exact none 2 _ (by omega)
  · split_ifs with H
    · exact one 1 _ (by omega)
    · exact none 1 _ (by omega)
  · split_ifs with H
    · exact one 0 _ (by omega)
    · exact none 0 _ (by omega)

/-! ## Sums along the last axis of six, and along the second and fifth -/

section Sums6
variable {n0 n1 n2 n3 n4 n5 : Nat}

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k : Fin n5, v (ix6 a b c d e k) := by
  refine congrArg (init + ·) (Finset.sum_filter_eq_sum_of_fiber _ (fun k : Fin n5 => ix6 a b c d e k) (fun _ _ e => congrFun e 5) (fun i => ?_) v)
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem fold_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    (Finset.univ.filter (fun i => h.drop i = ix5 a b c d e)).fold max init v = (Finset.univ : Finset (Fin n5)).fold max init fun k => v (ix6 a b c d e k) := by
  refine Finset.fold_filter_eq_fold_of_fiber max _ (fun k : Fin n5 => ix6 a b c d e k) (fun _ _ e => congrFun e 5) (fun i => ?_) init v
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

theorem sum_two (h : (⟨6, ![n0, n1, n2, n3, n4, n5]⟩ : Shape).ReducesTo [1, 4] ⟨4, ![n0, n2, n3, n5]⟩)
    (v : (⟨6, ![n0, n1, n2, n3, n4, n5]⟩ : Shape).Idx → EReal) (init : EReal) (a : Fin n0) (c : Fin n2) (d : Fin n3) (f : Fin n5) :
    Ideal.hostReduceAdd h v init (ix4 a c d f) = init + ∑ k : Fin n1, ∑ l : Fin n4, v (ix6 a k c d l f) := by
  rw [← Fintype.sum_prod_type' (f := fun k l => v (ix6 a k c d l f))]
  refine congrArg (init + ·) (Finset.sum_filter_eq_sum_of_fiber _ (fun k : Fin n1 × Fin n4 => ix6 a k.1 c d k.2 f) (fun _ _ e => Prod.ext (congrFun e 1) (congrFun e 4)) (fun i => ?_) v)
  constructor
  · intro e
    refine ⟨(i 1, i 4), ?_⟩
    funext x; apply Fin.ext
    match x with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => rfl
    | ⟨5, _⟩ => exact (congrArg Fin.val (congrFun e 3)).symm
  · rintro ⟨k, rfl⟩
    funext x; apply Fin.ext
    match x with
    | ⟨0, _⟩ => rfl
    | ⟨1, _⟩ => rfl
    | ⟨2, _⟩ => rfl
    | ⟨3, _⟩ => rfl
end Sums6

end Cert.Proof.Attn
end
-- ==== Proof.Attn.WinValue.lean ====
/- One block of queries of the attention backward call, element by element: the gradients' sums of its four heads. -/
module

public import proofs.«01_k».proof.Proof.Attn.Block
public import proofs.«01_k».proof.Proof.Attn.Math

@[expose] public section

set_option maxRecDepth 16384

noncomputable section

namespace Cert.Proof.Attn

open Idealize.ShloMosaic Idealize.SL.Sem Cert.AttnIdeal Cert.AttnIdeal.Gen

/-- A sum over the 128 lanes that keeps one half of them. -/
theorem sum_half (e : Nat) (he : e < 2) (f : Fin 64 → EReal) :
    ∑ l : Fin 128, (if l.val / 64 = e then f ⟨l.val % 64, by omega⟩ else 0) = ∑ d, f d := by
  rw [← Finset.sum_filter]
  refine Finset.sum_bij' (fun l _ => ⟨l.val % 64, by omega⟩) (fun d _ => ⟨64 * e + d.val, by omega⟩) ?_ ?_ ?_ ?_ ?_
  · exact fun _ _ => Finset.mem_univ _
  · exact fun d _ => Finset.mem_filter.mpr ⟨Finset.mem_univ _, by show (64 * e + d.val) / 64 = e; omega⟩
  · exact fun l hl => Fin.ext (by have := (Finset.mem_filter.mp hl).2; show 64 * e + l.val % 64 = l.val; omega)
  · exact fun d _ => Fin.ext (by show (64 * e + d.val) % 64 = d.val; omega)
  · exact fun _ _ => rfl

/-- A sum over the 512 stacked rows, head by head. -/
theorem sum_stacked (f : Fin 512 → EReal) : ∑ r, f r = ∑ g : Fin 4, ∑ q : Fin 128, f ⟨128 * g.val + q.val, by omega⟩ := by
  rw [← Fintype.sum_prod_type' (f := fun (g : Fin 4) (q : Fin 128) => f ⟨128 * g.val + q.val, by omega⟩)]
  refine Finset.sum_bij' (fun r _ => (⟨r.val / 128, by omega⟩, ⟨r.val % 128, by omega⟩)) (fun p _ => ⟨128 * p.1.val + p.2.val, by omega⟩) ?_ ?_ ?_ ?_ ?_
  · exact fun _ _ => Finset.mem_univ _
  · exact fun _ _ => Finset.mem_univ _
  · exact fun r _ => Fin.ext (by show 128 * (r.val / 128) + r.val % 128 = r.val; omega)
  · exact fun p _ => Prod.ext (Fin.ext (by show (128 * p.1.val + p.2.val) / 128 = p.1.val; omega)) (Fin.ext (by show (128 * p.1.val + p.2.val) % 128 = p.2.val; omega))
  · exact fun r _ => congrArg f (Fin.ext (by show r.val = 128 * (r.val / 128) + r.val % 128; omega))

/-- A stack of four heads' rows, read at a row of head `g`. -/
theorem quarter {A0 A1 A2 A3 : Fin 128 → EReal} (F : Fin 4 → Fin 128 → EReal) (h0 : ∀ q, A0 q = F 0 q) (h1 : ∀ q, A1 q = F 1 q)
    (h2 : ∀ q, A2 q = F 2 q) (h3 : ∀ q, A3 q = F 3 q) (g : Fin 4) (q : Fin 128) :
    (if h : 128 * g.val + q.val < 128 then A0 ⟨128 * g.val + q.val, h⟩
      else if h : 128 * g.val + q.val - 128 < 128 then A1 ⟨128 * g.val + q.val - 128, h⟩
      else if h : 128 * g.val + q.val - 128 - 128 < 128 then A2 ⟨128 * g.val + q.val - 128 - 128, h⟩
      else A3 ⟨128 * g.val + q.val - 128 - 128 - 128, by omega⟩) = F g q := by
  split_ifs with c0 c1 c2
  · obtain rfl : g = 0 := Fin.ext (by show g.val = 0; omega)
    rw [h0]; exact congrArg (F 0) (Fin.ext (by show 128 * 0 + q.val = q.val; omega))
  · obtain rfl : g = 1 := Fin.ext (by show g.val = 1; omega)
    rw [h1]; exact congrArg (F 1) (Fin.ext (by show 128 * 1 + q.val - 128 = q.val; omega))
  · obtain rfl : g = 2 := Fin.ext (by show g.val = 2; omega)
    rw [h2]; exact congrArg (F 2) (Fin.ext (by show 128 * 2 + q.val - 128 - 128 = q.val; omega))
  · obtain rfl : g = 3 := Fin.ext (by show g.val = 3; omega)
    rw [h3]; exact congrArg (F 3) (Fin.ext (by show 128 * 3 + q.val - 128 - 128 - 128 = q.val; omega))

theorem low_lane (q l : Fin 128) : k0_pay140 (ix2 q l) = if l.val / 64 = 0 then 1#1 else 0#1 := by
  pointwise [k0_pay140]
  revert l; decide +kernel

theorem select_low (q l : Fin 128) (a b : EReal) : Scalar.select (k0_pay140 (ix2 q l)) a b = if l.val / 64 = 0 then a else b := by
  rw [low_lane]; split_ifs <;> rfl

theorem stack_at (x : FVec Ideal S128x256 .f32) (g : Fin 4) (q l : Fin 128) :
    (stack x (ix2 ⟨128 * g.val + q.val, by omega⟩ l) : EReal) = if l.val / 64 = g.val % 2 then (x (ix2 q ⟨64 * g.val + l.val % 64, by omega⟩) : EReal) else 0 := by
  have keep : ∀ (q : Fin 128) (m : Fin 256) (g : Fin 4), l.val / 64 = g.val % 2 → m.val = 64 * g.val + l.val % 64 →
      (x (ix2 q m) : EReal) = if l.val / 64 = g.val % 2 then (x (ix2 q ⟨64 * g.val + l.val % 64, by omega⟩) : EReal) else 0 :=
    fun q m g hc hm => (congrArg (fun k => (x (ix2 q k) : EReal)) (Fin.ext hm)).trans (if_pos hc).symm
  have drop : ∀ (q : Fin 128) (g : Fin 4), ¬ l.val / 64 = g.val % 2 →
      (0 : EReal) = if l.val / 64 = g.val % 2 then (x (ix2 q ⟨64 * g.val + l.val % 64, by omega⟩) : EReal) else 0 :=
    fun q g hc => (if_neg hc).symm
  pointwise [stack]
  refine quarter (A0 := fun q => Scalar.select (k0_pay140 (ix2 q l)) (x (ix2 q ⟨l.val, by omega⟩)) (0 : EReal))
    (A1 := fun q => Scalar.select (k0_pay140 (ix2 q l)) (0 : EReal) (x (ix2 q ⟨l.val, by omega⟩)))
    (A2 := fun q => Scalar.select (k0_pay140 (ix2 q l)) (x (ix2 q ⟨128 + l.val, by omega⟩)) (0 : EReal))
    (A3 := fun q => Scalar.select (k0_pay140 (ix2 q l)) (0 : EReal) (x (ix2 q ⟨128 + l.val, by omega⟩)))
    (fun g q => if l.val / 64 = g.val % 2 then (x (ix2 q ⟨64 * g.val + l.val % 64, by omega⟩) : EReal) else 0) ?_ ?_ ?_ ?_ g q
  all_goals
    intro q
    refine (select_low _ _ _ _).trans ?_
  · by_cases hl : l.val / 64 = 0
    · exact (if_pos hl).trans (keep q _ 0 (by show l.val / 64 = 0 % 2; omega) (by show l.val = 64 * 0 + l.val % 64; omega))
    · exact (if_neg hl).trans (drop q 0 (by show ¬ l.val / 64 = 0 % 2; omega))
  · by_cases hl : l.val / 64 = 0
    · exact (if_pos hl).trans (drop q 1 (by show ¬ l.val / 64 = 1 % 2; omega))
    · exact (if_neg hl).trans (keep q _ 1 (by show l.val / 64 = 1 % 2; omega) (by show l.val = 64 * 1 + l.val % 64; omega))
  · by_cases hl : l.val / 64 = 0
    · exact (if_pos hl).trans (keep q _ 2 (by show l.val / 64 = 2 % 2; omega) (by show 128 + l.val = 64 * 2 + l.val % 64; omega))
    · exact (if_neg hl).trans (drop q 2 (by show ¬ l.val / 64 = 2 % 2; omega))
  · by_cases hl : l.val / 64 = 0
    · exact (if_pos hl).trans (drop q 3 (by show ¬ l.val / 64 = 3 % 2; omega))
    · exact (if_neg hl).trans (keep q _ 3 (by show l.val / 64 = 3 % 2; omega) (by show 128 + l.val = 64 * 3 + l.val % 64; omega))

/-- What a block of queries reads, from the arguments. -/
structure Reads (w : Win Ideal) (u : (⟨3, ![2, 2048, 2816]⟩ : Shape).Idx → EReal) (v : (⟨3, ![2, 2048, 512]⟩ : Shape).Idx → EReal)
    (P : (⟨6, ![2, 16, 2, 4, 128, 384]⟩ : Shape).Idx → EReal) (S : (⟨6, ![2, 16, 2, 4, 128, 1]⟩ : Shape).Idx → EReal)
    (b : Fin 2) (n : Fin 16) (h : Fin 2) : Prop where
  q : ∀ (q : Fin 128) (l : Fin 256), (w.q (ix3 0 q l) : EReal) = qE u b n h ⟨l.val / 64, by omega⟩ q ⟨l.val % 64, by omega⟩
  d : ∀ (q : Fin 128) (l : Fin 256), (w.d (ix3 0 q l) : EReal) = wE v b n h ⟨l.val / 64, by omega⟩ q ⟨l.val % 64, by omega⟩
  kw : ∀ (j : Fin 384) (l : Fin 128), (w.kw (ix2 j l) : EReal) = kE u b n h j ⟨l.val % 64, by omega⟩
  vw : ∀ (j : Fin 384) (l : Fin 128), (w.vw (ix2 j l) : EReal) = vE u b n h j ⟨l.val % 64, by omega⟩
  p : ∀ (g : Fin 4) (q : Fin 128) (j : Fin 384), (w.p (ix5 0 0 0 ⟨128 * g.val + q.val, by omega⟩ j) : EReal) = P (ix6 b n h g q j)
  s : ∀ (g : Fin 4) (q : Fin 128), (w.s (ix5 0 0 0 ⟨128 * g.val + q.val, by omega⟩ 0) : EReal) = S (ix6 b n h g q 0)

section Values
variable {w : Win Ideal} {u : (⟨3, ![2, 2048, 2816]⟩ : Shape).Idx → EReal} {v : (⟨3, ![2, 2048, 512]⟩ : Shape).Idx → EReal}
variable {P : (⟨6, ![2, 16, 2, 4, 128, 384]⟩ : Shape).Idx → EReal} {S : (⟨6, ![2, 16, 2, 4, 128, 1]⟩ : Shape).Idx → EReal}
variable {b : Fin 2} {n : Fin 16} {h : Fin 2} (R : Reads w u v P S b n h)
variable (g : Fin 4) (q : Fin 128) (j : Fin 384) (l : Fin 128)
include R

theorem qs_at : (w.qs (ix2 ⟨128 * g.val + q.val, by omega⟩ l) : EReal)
    = if l.val / 64 = g.val % 2 then qE u b n h g q ⟨l.val % 64, by omega⟩ * scale else 0 := by
  refine (stack_at _ g q l).trans (if_congr Iff.rfl ?_ rfl)
  pointwise
  refine congrArg (· * scale) ((R.q q _).trans ?_)
  congr 1
  · exact Fin.ext (by dsimp only; omega)
  · exact Fin.ext (by dsimp only; omega)

theorem ds_at : (w.ds (ix2 ⟨128 * g.val + q.val, by omega⟩ l) : EReal)
    = if l.val / 64 = g.val % 2 then wE v b n h g q ⟨l.val % 64, by omega⟩ else 0 := by
  refine (stack_at _ g q l).trans (if_congr Iff.rfl ?_ rfl)
  pointwise
  refine (R.d q _).trans ?_
  congr 1
  · exact Fin.ext (by dsimp only; omega)
  · exact Fin.ext (by dsimp only; omega)

theorem pr_at : (w.pr (ix2 ⟨128 * g.val + q.val, by omega⟩ j) : EReal) = P (ix6 b n h g q j) := by
  pointwise [Win.pr]
  exact R.p g q j

theorem ps_at : (w.ps (ix2 ⟨128 * g.val + q.val, by omega⟩ 0) : EReal) = S (ix6 b n h g q 0) := by
  pointwise [Win.ps]
  exact R.s g q

theorem dp_at : (w.dp (ix2 ⟨128 * g.val + q.val, by omega⟩ j) : EReal) = dpE u v b n h g q j := by
  pointwise [Win.dp]
  refine Eq.trans ?_ (sum_half (g.val % 2) (by omega) fun d => wE v b n h g q d * vE u b n h j d)
  refine Finset.sum_congr rfl fun l _ => ?_
  refine (congrArg₂ (fun x y : EReal => x * y) (ds_at R g q l) (R.vw j l)).trans ?_
  split_ifs
  · rfl
  · exact zero_mul _

theorem delta_at : (w.delta g (ix2 q 0) : EReal) = deltaE u v P b n h g q := by
  pointwise [Win.delta, Win.ph, Win.dph]
  exact Finset.sum_congr rfl fun j _ => congrArg₂ (fun x y : EReal => x * y) (pr_at R g q j) (dp_at R g q j)

theorem dsc_at : (w.dsc g (ix2 q j) : EReal) = dsE u v P b n h g q j := by
  pointwise [Win.dsc, Win.ph, Win.dph]
  exact congrArg₂ (fun x y : EReal => x * y) (pr_at R g q j) (congrArg₂ (fun x y : EReal => x - y) (dp_at R g q j) (delta_at R g q))

theorem dscs_at : (w.dscs (ix2 ⟨128 * g.val + q.val, by omega⟩ j) : EReal) = dsE u v P b n h g q j := by
  pointwise [Win.dscs]
  exact quarter (fun g q => dsE u v P b n h g q j) (fun q => dsc_at R 0 q j) (fun q => dsc_at R 1 q j) (fun q => dsc_at R 2 q j) (fun q => dsc_at R 3 q j) g q

theorem dsink_at (acc : FVec Ideal S1x128 .f32) :
    (w.dsink g acc (ix2 0 l) : EReal) = (acc (ix2 0 l) : EReal) + -∑ q : Fin 128, S (ix6 b n h g q 0) * deltaE u v P b n h g q := by
  pointwise [Win.dsink]
  refine (congrArg (fun x : EReal => (acc (ix2 0 l) : EReal) - x) (Finset.sum_congr rfl fun q _ => ?_)).trans (sub_eq_add_neg _ _)
  exact congrArg₂ (fun x y : EReal => x * y) (ps_at R g q) (delta_at R g q)

theorem dqs_at : (w.dqs (ix2 ⟨128 * g.val + q.val, by omega⟩ l) : EReal) = ∑ j, dsE u v P b n h g q j * kE u b n h j ⟨l.val % 64, by omega⟩ := by
  pointwise [Win.dqs]
  exact Finset.sum_congr rfl fun j _ => congrArg₂ (fun x y : EReal => x * y) (dscs_at R g q j) (R.kw j l)

theorem half_at (a e : Fin 4) (ha : a.val % 2 = 0) (he : e.val = a.val + 1) :
    (w.half a e (ix3 0 q l) : EReal) = dqE u v P b n h ⟨a.val + l.val / 64, by omega⟩ q ⟨l.val % 64, by omega⟩ := by
  pointwise [Win.half]
  refine congrArg (· * scale) ((select_low q l _ _).trans ?_)
  split_ifs with hl
  · refine (dqs_at R a q l).trans ?_
    have : a = ⟨a.val + l.val / 64, by omega⟩ := Fin.ext (by dsimp only; omega)
    rw [← this]
  · refine (dqs_at R e q l).trans ?_
    have : e = ⟨a.val + l.val / 64, by omega⟩ := Fin.ext (by dsimp only; omega)
    rw [← this]

/-- A lane's part of a key's gradient: the heads of its half. -/
theorem dk_at : (w.dk (ix2 j l) : EReal)
    = ∑ g : Fin 4, if l.val / 64 = g.val % 2 then ∑ q, dsE u v P b n h g q j * (qE u b n h g q ⟨l.val % 64, by omega⟩ * scale) else 0 := by
  pointwise [Win.dk]
  refine (sum_stacked _).trans (Finset.sum_congr rfl fun g _ => ?_)
  refine (Finset.sum_congr rfl fun q _ => congrArg₂ (fun x y : EReal => x * y) (dscs_at R g q j) (qs_at R g q l)).trans ?_
  split_ifs
  · rfl
  · exact Finset.sum_eq_zero fun _ _ => mul_zero _

theorem dv_at : (w.dv (ix2 j l) : EReal)
    = ∑ g : Fin 4, if l.val / 64 = g.val % 2 then ∑ q, P (ix6 b n h g q j) * wE v b n h g q ⟨l.val % 64, by omega⟩ else 0 := by
  pointwise [Win.dv]
  refine (sum_stacked _).trans (Finset.sum_congr rfl fun g _ => ?_)
  refine (Finset.sum_congr rfl fun q _ => congrArg₂ (fun x y : EReal => x * y) (pr_at R g q j) (ds_at R g q l)).trans ?_
  split_ifs
  · rfl
  · exact Finset.sum_eq_zero fun _ _ => mul_zero _

end Values

/-- Both halves' parts make the whole. -/
theorem both_halves (f : Fin 4 → EReal) : (∑ g : Fin 4, if 0 = g.val % 2 then f g else 0) + (∑ g : Fin 4, if 1 = g.val % 2 then f g else 0) = ∑ g, f g := by
  rw [← Finset.sum_add_distrib]
  refine Finset.sum_congr rfl fun g _ => ?_
  by_cases hg : 0 = g.val % 2
  · rw [if_pos hg, if_neg (by omega), add_zero]
  · rw [if_neg hg, if_pos (by omega), zero_add]

end Cert.Proof.Attn
end
-- ==== Proof.Attn.BlkValue.lean ====
/- One grid point of the attention backward call, element by element: the sixteen blocks' rows summed into the padded
   gradients, and what the point stores. -/
module

public import proofs.«01_k».proof.Proof.Attn.Body
public import proofs.«01_k».proof.Proof.Attn.WinValue
public import Idealize.ShloMosaic.Lib.Pointwise.IndexBridge
public import Idealize.ShloMosaic.Lib.Pipeline.ValueKit.Tiles
public import Idealize.ShloMosaic.Lib.Pipeline.ValueKit.Geometry

@[expose] public section

set_option maxRecDepth 16384

noncomputable section

namespace Cert.Proof.Attn

open Idealize.ShloMosaic Idealize.SL.Sem Cert.AttnIdeal Cert.AttnIdeal.Gen

/-- What a grid point reads, from the arguments. -/
structure InReads (B : In Ideal) (u : (⟨3, ![2, 2048, 2816]⟩ : Shape).Idx → EReal) (w : (⟨3, ![2, 2048, 512]⟩ : Shape).Idx → EReal)
    (P : (⟨6, ![2, 16, 2, 4, 128, 384]⟩ : Shape).Idx → EReal) (S : (⟨6, ![2, 16, 2, 4, 128, 1]⟩ : Shape).Idx → EReal)
    (b h : Fin 2) : Prop where
  q : ∀ (r : Fin 2048) (l : Fin 256), (B.q (ix3 0 r l) : EReal) = u (ix3 b r ⟨2048 + 256 * h.val + l.val, by omega⟩)
  k : ∀ (r : Fin 2048) (l : Fin 128), (B.k (ix3 0 r l) : EReal) = u (ix3 b r ⟨2560 + l.val, by omega⟩)
  v : ∀ (r : Fin 2048) (l : Fin 128), (B.v (ix3 0 r l) : EReal) = u (ix3 b r ⟨2688 + l.val, by omega⟩)
  d : ∀ (r : Fin 2048) (l : Fin 256), (B.d (ix3 0 r l) : EReal) = w (ix3 b r ⟨256 * h.val + l.val, by omega⟩)
  p : ∀ (n : Fin 16) (g : Fin 4) (q : Fin 128) (j : Fin 384), (B.p (ix5 0 0 n ⟨128 * g.val + q.val, by omega⟩ j) : EReal) = P (ix6 b n h g q j)
  s : ∀ (n : Fin 16) (g : Fin 4) (q : Fin 128), (B.s (ix5 0 0 n ⟨128 * g.val + q.val, by omega⟩ 0) : EReal) = S (ix6 b n h g q 0)

theorem sum_range16 (f : Nat → EReal) : (∑ n ∈ Finset.range 16, f n) = ∑ n : Fin 16, f n.val := Finset.sum_range f

section Padded
theorem zero_bf16 : Ideal.ofBits .bf16 0x0000#16 = 0 := by simp [Ideal.ofBits, Ideal.ieee]
theorem zero_f32 : Ideal.ofBits .f32 0x00000000#32 = 0 := by simp [Ideal.ofBits, Ideal.ieee]

theorem keep_lane (h : Fin 2) (l : Fin 128) : IntOp.xori (IntOp.xori (IntOp.cmpi CmpIPredicate.slt (BitVec.ofNat 32 l.val) 64#32)
    (Scalar.cmpi CmpIPredicate.eq (BitVec.ofNat 32 h.val) 0#32)) 1#1 = if l.val / 64 = h.val then 1#1 else 0#1 := by
  revert h l; decide +kernel

theorem low_half (l : Fin 128) : IntOp.cmpi CmpIPredicate.slt (BitVec.ofNat 32 l.val) 64#32 = if l.val < 64 then 1#1 else 0#1 := by
  revert l; decide +kernel

theorem own_half (f : Fin 128 → EReal) (h : Fin 2) (l : Fin 128) : Scalar.select (if l.val / 64 = h.val then 1#1 else 0#1) (f l)
    (f ⟨(l.val + 128 - 64) % 128, by omega⟩) = f ⟨64 * h.val + l.val % 64, by omega⟩ := by
  by_cases H : l.val / 64 = h.val
  · rw [if_pos H]; exact congrArg f (Fin.ext (show l.val = 64 * h.val + l.val % 64 by omega))
  · rw [if_neg H]; exact congrArg f (Fin.ext (show (l.val + 128 - 64) % 128 = 64 * h.val + l.val % 64 by omega))

section Half
variable (i : grid0.Coords) (h : Fin 2) (hi : (i 1).val = h.val) (x : Vec Ideal S1x2048x128 .bf16) (r : Fin 2048) (l : Fin 128)
include hi
theorem pay131_at : (k0_pay131 i x (ix2 r l) : EReal) = (x (ix3 0 r ⟨64 * h.val + l.val % 64, by omega⟩) : EReal) := by
  pointwise [k0_pay131]
  rw [hi, keep_lane]
  exact own_half (fun l => x (ix3 0 r l)) h l
theorem pay136_at : (k0_pay136 (k0_pay133 x) (k0_pay134 i) (constantI S2048x128 1 1#1) (ix2 r l) : EReal) =
    (x (ix3 0 r ⟨64 * h.val + l.val % 64, by omega⟩) : EReal) := by
  pointwise [k0_pay136, k0_pay133, k0_pay134]
  rw [hi, keep_lane]
  exact own_half (fun l => x (ix3 0 r l)) h l
end Half

theorem pay146_at (x y : Vec Ideal S2048x128 .f32) (r : Fin 2048) (l : Fin 128) :
    (k0_pay146 x y (ix3 0 r l) : EReal) = if l.val < 64 then (x (ix2 r l) : EReal) + (x (ix2 r ⟨(l.val + 64) % 128, by omega⟩) : EReal)
      else (y (ix2 r l) : EReal) + (y (ix2 r ⟨(l.val + 64) % 128, by omega⟩) : EReal) := by
  have e : ∀ z : Vec Ideal S2048x128 .f32, (z (ix2 r ⟨(l.val + 128 - 64) % 128, by omega⟩) : EReal) = (z (ix2 r ⟨(l.val + 64) % 128, by omega⟩) : EReal) :=
    fun z => congrArg (fun k => (z (ix2 r k) : EReal)) (Fin.ext (show (l.val + 128 - 64) % 128 = (l.val + 64) % 128 by omega))
  pointwise [k0_pay146]
  rw [low_half, e x, e y]
  split_ifs <;> rfl

theorem rows_emb {m n s₀ : Nat} (o₀ : Nat) (inb) (x : Fin s₀) (l : Fin n) (y : Fin m) (h : y.val = o₀ + x.val) :
    (Rect.unit (s := ⟨2, ![m, n]⟩) ![o₀, 0] ![s₀, n] inb).emb (ix2 x l) = ix2 y l := by
  funext a
  match a with
  | ⟨0, _⟩ => exact Fin.ext ((ValueKit.rect_emb_unit_val _ _ _ _ _).trans h.symm)
  | ⟨1, _⟩ => exact Fin.ext ((ValueKit.rect_emb_unit_val _ _ _ _ _).trans (Nat.zero_add _))

theorem rows_not_mem {m n s₀ : Nat} (o₀ : Nat) (inb) (l : Fin n) (y : Fin m) (h : ¬ (o₀ ≤ y.val ∧ y.val < o₀ + s₀)) :
    (ix2 y l : (⟨2, ![m, n]⟩ : Shape).Idx) ∉ (Rect.unit (s := ⟨2, ![m, n]⟩) ![o₀, 0] ![s₀, n] inb).set :=
  fun H => h (Rect.mem_set_unit.1 H 0)

theorem rows_hit {s₀ : Nat} (o : Nat) (inb) (x : FVec Ideal ⟨2, ![s₀, 128]⟩ .bf16) (L : List (View.Piece (Elt Ideal) S2304x128 .bf16)) (r : Fin 2304) (l : Fin 128) (y : Fin s₀) (H : r.val = o + y.val) :
    (View.canon ((⟨Rect.unit (s := S2304x128) ![o, 0] ![s₀, 128] inb, x⟩ : View.Piece (Elt Ideal) S2304x128 .bf16) :: L) (ix2 r l) : EReal) = (x (ix2 y l) : EReal) := by
  refine (congrArg (fun y => (View.canon ((⟨Rect.unit (s := S2304x128) ![o, 0] ![s₀, 128] inb, x⟩ : View.Piece (Elt Ideal) S2304x128 .bf16) :: L) y : EReal)) (rows_emb o inb y l r H).symm).trans ?_
  exact View.canon_cons_emb _ _ _ _

theorem rows_miss {s₀ : Nat} (o : Nat) (inb) (x : FVec Ideal ⟨2, ![s₀, 128]⟩ .bf16) (L : List (View.Piece (Elt Ideal) S2304x128 .bf16)) (r : Fin 2304) (l : Fin 128) (H : ¬ (o ≤ r.val ∧ r.val < o + s₀)) :
    (View.canon ((⟨Rect.unit (s := S2304x128) ![o, 0] ![s₀, 128] inb, x⟩ : View.Piece (Elt Ideal) S2304x128 .bf16) :: L) (ix2 r l) : EReal) = (View.canon L (ix2 r l) : EReal) :=
  View.canon_cons_of_not_mem _ _ (rows_not_mem o inb l r H)

theorem padded_at (top bot : FVec Ideal S128x128 .bf16) (mid : FVec Ideal S2048x128 .bf16)
    (ht : ∀ x l, (top (ix2 x l) : EReal) = 0) (hb : ∀ x l, (bot (ix2 x l) : EReal) = 0) (r : Fin 2304) (l : Fin 128) :
    (padded top mid bot (ix2 r l) : EReal) = if H : 128 ≤ r.val ∧ r.val < 2176 then (mid (ix2 ⟨r.val - 128, by omega⟩ l) : EReal) else 0 := by
  have hr := r.isLt
  by_cases H2 : 2176 ≤ r.val
  · rw [dif_neg (by omega)]
    exact (rows_hit 2176 _ bot _ r l ⟨r.val - 2176, by omega⟩ (Nat.add_sub_of_le H2).symm).trans (hb _ _)
  · have m2 : ¬ (2176 ≤ r.val ∧ r.val < 2176 + 128) := fun h => H2 h.1
    refine (rows_miss 2176 inb_S2304x128_S128x128_2176_0 bot _ r l m2).trans ?_
    by_cases H1 : 128 ≤ r.val
    · rw [dif_pos ⟨H1, Nat.lt_of_not_le H2⟩]
      exact rows_hit 128 _ mid _ r l ⟨r.val - 128, by omega⟩ (Nat.add_sub_of_le H1).symm
    · have m1 : ¬ (128 ≤ r.val ∧ r.val < 128 + 2048) := fun h => H1 h.1
      refine (rows_miss 128 inb_S2304x128_S2048x128_128_0 mid _ r l m1).trans ?_
      rw [dif_neg fun h => H1 h.1]
      exact (rows_hit 0 _ top _ r l ⟨r.val, by omega⟩ (Nat.zero_add _).symm).trans (ht _ _)
end Padded

theorem added_at (x y : FVec Ideal S384x128 .f32) (j : Fin 384) (l : Fin 128) : (added x y (ix2 j l) : EReal) = (x (ix2 j l) : EReal) + (y (ix2 j l) : EReal) := by
  pointwise [added]

theorem addRows_at (n : Nat) (D : FVec Ideal S384x128 .f32) (X : Vec Ideal S2304x128 .f32) (r : Fin 2304) (l : Fin 128) :
    (addRows n D X (ix2 r l) : EReal) = (X (ix2 r l) : EReal) + (if H : 128 * (n % 16) ≤ r.val ∧ r.val < 128 * (n % 16) + 384 then (D (ix2 ⟨r.val - 128 * (n % 16), by omega⟩ l) : EReal) else 0) := by
  by_cases H : 128 * (n % 16) ≤ r.val ∧ r.val < 128 * (n % 16) + 384
  · refine (dif_pos H).trans ?_
    rw [dif_pos H]
    rw [← ix2_eq_valueIdx]
    refine (added_at _ _ _ _).trans (congrArg₂ (fun x y : EReal => x + y) ?_ rfl)
    refine View.ld_unit_apply_of X _ _ _ _ _ fun a => ?_
    match a with
    | ⟨0, _⟩ => show r.val = 128 * (n % 16) + (r.val - 128 * (n % 16)); omega
    | ⟨1, _⟩ => show l.val = 0 + l.val; omega
  · refine (dif_neg H).trans ?_
    rw [dif_neg H, add_zero]

theorem sums_range (D : Nat → FVec Ideal S384x128 .f32) (X : Vec Ideal S2304x128 .f32) (r : Fin 2304) (l : Fin 128) (hX : (X (ix2 r l) : EReal) = 0) (k : Nat) :
    (sums D X k (ix2 r l) : EReal) = ∑ n ∈ Finset.range k, (if H : 128 * (n % 16) ≤ r.val ∧ r.val < 128 * (n % 16) + 384 then (D n (ix2 ⟨r.val - 128 * (n % 16), by omega⟩ l) : EReal) else 0) := by
  induction k with
  | zero => rw [Finset.sum_range_zero]; exact hX
  | succ n ih =>
    rw [Finset.sum_range_succ]
    exact (addRows_at n (D n) _ r l).trans (congrArg₂ (fun x y : EReal => x + y) ih rfl)

theorem sums_at (D : Nat → FVec Ideal S384x128 .f32) (X : Vec Ideal S2304x128 .f32) (r : Fin 2304) (l : Fin 128) (hX : (X (ix2 r l) : EReal) = 0) :
    (sums D X 16 (ix2 r l) : EReal) = rowsE (fun n j => D n.val (ix2 j l)) r.val := by
  refine (sums_range D X r l hX 16).trans ((sum_range16 _).trans (Finset.sum_congr rfl fun n _ => ?_))
  have e : n.val % 16 = n.val := Nat.mod_eq_of_lt n.isLt
  by_cases H : 128 * n.val ≤ r.val ∧ r.val < 128 * n.val + 384
  · rw [dif_pos (by rw [e]; exact H), dif_pos H]
    exact congrArg (fun k => (D n.val (ix2 k l) : EReal)) (Fin.ext (show r.val - 128 * (n.val % 16) = r.val - 128 * n.val by rw [e]))
  · rw [dif_neg (by rw [e]; exact H), dif_neg H]

theorem rowsE_add (D E : Fin 16 → Fin 384 → EReal) (r : Nat) : rowsE D r + rowsE E r = rowsE (fun n j => D n j + E n j) r := by
  unfold rowsE
  rw [← Finset.sum_add_distrib]
  exact Finset.sum_congr rfl fun n _ => by split_ifs <;> simp

theorem inner_at (X : Vec Ideal S2304x128 .f32) (r : Fin 2048) (l : Fin 128) : (View.ld X In.innerRect (ix2 r l) : EReal) = (X (ix2 ⟨r.val + 128, by omega⟩ l) : EReal) :=
  View.ld_unit_apply_of X _ _ _ _ _ fun a => match a with
    | ⟨0, _⟩ => Nat.add_comm r.val 128
    | ⟨1, _⟩ => (Nat.zero_add l.val).symm

theorem row_emb (o : Nat) (inb) (l : Fin 128) (r : Fin 8) (h : r.val = o) :
    (Rect.unit (s := S1x1x8x128) ![0, 0, o, 0] S1x1x1x128.size inb).emb (ix4 0 0 0 l) = ix4 0 0 r l := by
  funext a
  match a with
  | ⟨0, _⟩ => exact Fin.ext (ValueKit.rect_emb_unit_val _ _ _ _ _)
  | ⟨1, _⟩ => exact Fin.ext (ValueKit.rect_emb_unit_val _ _ _ _ _)
  | ⟨2, _⟩ => exact Fin.ext ((ValueKit.rect_emb_unit_val _ _ _ _ _).trans h.symm)
  | ⟨3, _⟩ => exact Fin.ext ((ValueKit.rect_emb_unit_val _ _ _ _ _).trans (Nat.zero_add _))

theorem row_not_mem (o : Nat) (inb) (l : Fin 128) (r : Fin 8) (h : r.val ≠ o) :
    (ix4 0 0 r l : S1x1x8x128.Idx) ∉ (Rect.unit (s := S1x1x8x128) ![0, 0, o, 0] S1x1x1x128.size inb).set :=
  fun H => h (by have := Rect.mem_set_unit.1 H 2; exact Nat.le_antisymm (Nat.le_of_lt_succ this.2) this.1)

theorem row_hit (o : Nat) (inb) (x : FVec Ideal S1x1x1x128 .f32) (L : List (View.Piece (Elt Ideal) S1x1x8x128 .f32)) (r : Fin 8) (l : Fin 128) (H : r.val = o) :
    (View.canon ((⟨Rect.unit (s := S1x1x8x128) ![0, 0, o, 0] S1x1x1x128.size inb, x⟩ : View.Piece (Elt Ideal) S1x1x8x128 .f32) :: L) (ix4 0 0 r l) : EReal) = (x (ix4 0 0 0 l) : EReal) := by
  refine (congrArg (fun y => (View.canon ((⟨Rect.unit (s := S1x1x8x128) ![0, 0, o, 0] S1x1x1x128.size inb, x⟩ : View.Piece (Elt Ideal) S1x1x8x128 .f32) :: L) y : EReal)) (row_emb o inb l r H).symm).trans ?_
  exact View.canon_cons_emb _ _ _ _

theorem row_miss (o : Nat) (inb) (x : FVec Ideal S1x1x1x128 .f32) (L : List (View.Piece (Elt Ideal) S1x1x8x128 .f32)) (r : Fin 8) (l : Fin 128) (H : r.val ≠ o) :
    (View.canon ((⟨Rect.unit (s := S1x1x8x128) ![0, 0, o, 0] S1x1x1x128.size inb, x⟩ : View.Piece (Elt Ideal) S1x1x8x128 .f32) :: L) (ix4 0 0 r l) : EReal) = (View.canon L (ix4 0 0 r l) : EReal) :=
  View.canon_cons_of_not_mem _ _ (row_not_mem o inb l r H)

section Point
variable {B : In Ideal} {u : (⟨3, ![2, 2048, 2816]⟩ : Shape).Idx → EReal} {w : (⟨3, ![2, 2048, 512]⟩ : Shape).Idx → EReal}
  {P : (⟨6, ![2, 16, 2, 4, 128, 384]⟩ : Shape).Idx → EReal} {S : (⟨6, ![2, 16, 2, 4, 128, 1]⟩ : Shape).Idx → EReal} {b h : Fin 2}
  (R : InReads B u w P S b h) (i : grid0.Coords) (hi : (i 1).val = h.val)
include R hi

theorem keys_at (r : Fin 2304) (l : Fin 128) : ((B.blk i).kp (ix2 r l) : EReal) = padE u b h ⟨l.val % 64, by omega⟩ 2560 (by decide) r.val := by
  refine (padded_at _ _ _ (fun x l => by pointwise [k0_pay130]) (fun x l => by pointwise [k0_pay132]) r l).trans ?_
  unfold padE
  by_cases H : 128 ≤ r.val ∧ r.val < 2176
  · rw [dif_pos H, dif_pos H]
    refine (pay131_at i h hi B.k _ l).trans ((R.k _ _).trans (ev3 u rfl rfl ?_))
    show 2560 + (64 * h.val + l.val % 64) = 2560 + 64 * h.val + l.val % 64
    omega
  · rw [dif_neg H, dif_neg H]

theorem values_at (r : Fin 2304) (l : Fin 128) : ((B.blk i).vp (ix2 r l) : EReal) = padE u b h ⟨l.val % 64, by omega⟩ 2688 (by decide) r.val := by
  refine (padded_at _ _ _ (fun x l => by pointwise [k0_pay135]) (fun x l => by pointwise [k0_pay137]) r l).trans ?_
  unfold padE
  by_cases H : 128 ≤ r.val ∧ r.val < 2176
  · rw [dif_pos H, dif_pos H]
    refine (pay136_at i h hi B.v _ l).trans ((R.v _ _).trans (ev3 u rfl rfl ?_))
    show 2688 + (64 * h.val + l.val % 64) = 2688 + 64 * h.val + l.val % 64
    omega
  · rw [dif_neg H, dif_neg H]

theorem reads (n : Fin 16) : Reads ((B.blk i).win n.val) u w P S b n h := by
  have e : n.val % 16 = n.val := Nat.mod_eq_of_lt n.isLt
  refine ⟨fun q l => ?_, fun q l => ?_, fun j l => ?_, fun j l => ?_, fun g q j => ?_, fun g q => ?_⟩
  · refine (View.ld_unit_apply_of B.q _ _ _ _ (ix3 0 ⟨128 * n.val + q.val, by omega⟩ l) fun a => ?_).trans ((R.q _ _).trans (ev3 u rfl rfl ?_))
    · match a with
      | ⟨0, _⟩ => rfl
      | ⟨1, _⟩ => show 128 * n.val + q.val = 128 * (n.val % 16) + q.val; rw [e]
      | ⟨2, _⟩ => show l.val = 0 + l.val; omega
    · show 2048 + 256 * h.val + l.val = 2048 + 256 * h.val + 64 * (l.val / 64) + l.val % 64
      omega
  · refine (View.ld_unit_apply_of B.d _ _ _ _ (ix3 0 ⟨128 * n.val + q.val, by omega⟩ l) fun a => ?_).trans ((R.d _ _).trans (ev3 w rfl rfl ?_))
    · match a with
      | ⟨0, _⟩ => rfl
      | ⟨1, _⟩ => show 128 * n.val + q.val = 128 * (n.val % 16) + q.val; rw [e]
      | ⟨2, _⟩ => show l.val = 0 + l.val; omega
    · show 256 * h.val + l.val = 256 * h.val + 64 * (l.val / 64) + l.val % 64
      omega
  · refine (View.ld_unit_apply_of (B.blk i).kp _ _ _ _ (ix2 ⟨128 * n.val + j.val, by omega⟩ l) fun a => ?_).trans (keys_at R i hi _ _)
    match a with
    | ⟨0, _⟩ => show 128 * n.val + j.val = 128 * (n.val % 16) + j.val; rw [e]
    | ⟨1, _⟩ => show l.val = 0 + l.val; omega
  · refine (View.ld_unit_apply_of (B.blk i).vp _ _ _ _ (ix2 ⟨128 * n.val + j.val, by omega⟩ l) fun a => ?_).trans (values_at R i hi _ _)
    match a with
    | ⟨0, _⟩ => show 128 * n.val + j.val = 128 * (n.val % 16) + j.val; rw [e]
    | ⟨1, _⟩ => show l.val = 0 + l.val; omega
  · refine (View.ld_unit_apply_of B.p _ _ _ _ (ix5 0 0 n ⟨128 * g.val + q.val, by omega⟩ j) fun a => ?_).trans (R.p _ _ _ _)
    match a with
    | ⟨0, _⟩ => rfl
    | ⟨1, _⟩ => rfl
    | ⟨2, _⟩ => show n.val = n.val % 16 + 0; omega
    | ⟨3, _⟩ => show 128 * g.val + q.val = 0 + (128 * g.val + q.val); omega
    | ⟨4, _⟩ => show j.val = 0 + j.val; omega
  · refine (View.ld_unit_apply_of B.s _ _ _ _ (ix5 0 0 n ⟨128 * g.val + q.val, by omega⟩ 0) fun a => ?_).trans (R.s _ _ _)
    match a with
    | ⟨0, _⟩ => rfl
    | ⟨1, _⟩ => rfl
    | ⟨2, _⟩ => show n.val = n.val % 16 + 0; omega
    | ⟨3, _⟩ => show 128 * g.val + q.val = 0 + (128 * g.val + q.val); omega
    | ⟨4, _⟩ => rfl

theorem dks_at (r : Fin 2304) (l : Fin 128) : (B.dks i (ix2 r l) : EReal) = rowsE (fun n j => ∑ g : Fin 4, if l.val / 64 = g.val % 2 then
    ∑ q, dsE u w P b n h g q j * (qE u b n h g q ⟨l.val % 64, by omega⟩ * scale) else 0) r.val := by
  refine (sums_at _ _ r l (by pointwise [k0_pay138])).trans (congrArg (fun D => rowsE D r.val) ?_)
  funext n j
  exact dk_at (reads R i hi n) j l

theorem dvs_at (r : Fin 2304) (l : Fin 128) : (B.dvs i (ix2 r l) : EReal) = rowsE (fun n j => ∑ g : Fin 4, if l.val / 64 = g.val % 2 then
    ∑ q, P (ix6 b n h g q j) * wE w b n h g q ⟨l.val % 64, by omega⟩ else 0) r.val := by
  refine (sums_at _ _ r l (by pointwise [k0_pay139])).trans (congrArg (fun D => rowsE D r.val) ?_)
  funext n j
  exact dv_at (reads R i hi n) j l

theorem dkv_at (r : Fin 2048) (l : Fin 128) : (B.dkv i (ix3 0 r l) : EReal) = if l.val < 64 then rowsE (fun n j => dkE u w P b n h j ⟨l.val % 64, by omega⟩) (r.val + 128)
    else rowsE (fun n j => dvE w P b n h j ⟨l.val % 64, by omega⟩) (r.val + 128) := by
  refine (pay146_at _ _ r l).trans ?_
  by_cases H : l.val < 64
  · rw [if_pos H, if_pos H, inner_at (B.dks i), inner_at (B.dks i), dks_at R i hi, dks_at R i hi]
    refine (rowsE_add _ _ _).trans (congrArg (fun D => rowsE D (r.val + 128)) ?_)
    funext n j
    have e0 : l.val / 64 = 0 := by omega
    have e1 : (l.val + 64) % 128 / 64 = 1 := by omega
    have e2 : (⟨(l.val + 64) % 128 % 64, by omega⟩ : Fin 64) = ⟨l.val % 64, by omega⟩ := Fin.ext (by show (l.val + 64) % 128 % 64 = l.val % 64; omega)
    simp only [e0, e1, e2]
    exact both_halves _
  · rw [if_neg H, if_neg H, inner_at (B.dvs i), inner_at (B.dvs i), dvs_at R i hi, dvs_at R i hi]
    refine (rowsE_add _ _ _).trans (congrArg (fun D => rowsE D (r.val + 128)) ?_)
    funext n j
    have e0 : l.val / 64 = 1 := by omega
    have e1 : (l.val + 64) % 128 / 64 = 0 := by omega
    have e2 : (⟨(l.val + 64) % 128 % 64, by omega⟩ : Fin 64) = ⟨l.val % 64, by omega⟩ := Fin.ext (by show (l.val + 64) % 128 % 64 = l.val % 64; omega)
    simp only [e0, e1, e2]
    exact (add_comm _ _).trans (both_halves _)

theorem dsinks_range (g : Fin 4) (l : Fin 128) (k : Nat) (hk : k ≤ 16) : ((B.blk i).dsinks g k (ix2 0 l) : EReal) =
    ∑ n ∈ Finset.range k, (if H : n < 16 then -∑ q : Fin 128, S (ix6 b ⟨n, H⟩ h g q 0) * deltaE u w P b ⟨n, H⟩ h g q else 0) := by
  induction k with
  | zero =>
    rw [Finset.sum_range_zero]
    show (k0_pay141 (F := Ideal) (ix2 0 l) : EReal) = 0
    pointwise [k0_pay141]
  | succ n ih =>
    rw [Finset.sum_range_succ, dif_pos (by omega : n < 16), ← ih (by omega)]
    exact dsink_at (reads R i hi ⟨n, by omega⟩) g l _

theorem dsinks_at (g : Fin 4) (l : Fin 128) : ((B.blk i).dsinks g 16 (ix2 0 l) : EReal) = sinkE u w P S b h g := by
  refine (dsinks_range R i hi g l 16 (le_refl _)).trans ((sum_range16 _).trans (Finset.sum_congr rfl fun n _ => ?_))
  exact dif_pos n.isLt

theorem dsk_at (r : Fin 8) (l : Fin 128) : (B.dsk i (ix4 0 0 r l) : EReal) = if H : r.val < 4 then sinkE u w P S b h ⟨r.val, H⟩ else 0 := by
  have hs : ∀ (g : Fin 4) (y : EReal), y = ((B.blk i).dsinks g 16 (ix2 0 l) : EReal) → r.val = g.val →
      y = if H : r.val < 4 then sinkE u w P S b h ⟨r.val, H⟩ else 0 := by
    intro g y e H
    rw [dif_pos (by omega : r.val < 4)]
    refine e.trans ((dsinks_at R i hi g l).trans (congrArg (sinkE u w P S b h) (Fin.ext H.symm)))
  by_cases h3 : r.val = 3
  · exact (row_hit 3 _ _ _ r l h3).trans (hs 3 _ (by pointwise [k0_pay1]) h3)
  refine (row_miss 3 inb_S1x1x8x128_S1x1x1x128_0_0_3_0 _ _ r l h3).trans ?_
  by_cases h2 : r.val = 2
  · exact (row_hit 2 _ _ _ r l h2).trans (hs 2 _ (by pointwise [k0_pay150]) h2)
  refine (row_miss 2 inb_S1x1x8x128_S1x1x1x128_0_0_2_0 _ _ r l h2).trans ?_
  by_cases h1 : r.val = 1
  · exact (row_hit 1 _ _ _ r l h1).trans (hs 1 _ (by pointwise [k0_pay149]) h1)
  refine (row_miss 1 inb_S1x1x8x128_S1x1x1x128_0_0_1_0 _ _ r l h1).trans ?_
  by_cases h0 : r.val = 0
  · exact (row_hit 0 _ _ _ r l h0).trans (hs 0 _ (by pointwise [k0_pay148]) h0)
  refine (row_miss 0 inb_S1x1x8x128_S1x1x1x128_0_0_0_0 _ _ r l h0).trans ?_
  refine (congrFun (View.canon_cons_unit_zero zeros4 inb_S1x1x8x128_S1x1x8x128_0_0_0_0 _ _) _).trans ?_
  rw [dif_neg (by omega)]
  pointwise [k0_pay147]

theorem dq_at (r : Fin 2048) (l : Fin 256) : ((B.blk i).dq (ix3 0 r l) : EReal) =
    dqE u w P b ⟨r.val / 128, by omega⟩ h ⟨l.val / 64, by omega⟩ ⟨r.val % 128, by omega⟩ ⟨l.val % 64, by omega⟩ := by
  by_cases H : l.val < 128
  · refine (dif_pos (show ((ix3 0 r l : S1x2048x256.Idx) 2).val < 128 from H)).trans ?_
    refine (congrArg (Win.half _ _ _) (ix3_eq_valueIdx _ _ _).symm).trans ?_
    refine (half_at (reads R i hi ⟨r.val / 128, by omega⟩) ⟨r.val % 128, by omega⟩ ⟨l.val, H⟩ 0 1 rfl rfl).trans ?_
    exact congrArg (fun g => dqE u w P b _ h g _ _) (Fin.ext (Nat.zero_add _))
  · refine (dif_neg (show ¬ ((ix3 0 r l : S1x2048x256.Idx) 2).val < 128 from H)).trans ?_
    refine (congrArg (Win.half _ _ _) (ix3_eq_valueIdx _ _ _).symm).trans ?_
    refine (half_at (reads R i hi ⟨r.val / 128, by omega⟩) ⟨r.val % 128, by omega⟩ ⟨l.val - 128, by omega⟩ 2 3 rfl rfl).trans ?_
    refine congrArg₂ (fun g d => dqE u w P b _ h g _ d) (Fin.ext ?_) (Fin.ext ?_)
    · show 2 + (l.val - 128) / 64 = l.val / 64; omega
    · show (l.val - 128) % 64 = l.val % 64; omega
end Point

end Cert.Proof.Attn
end
-- ==== Proof.Attn.RefRead.lean ====
/- The attention reference's arrays read at an element. -/
module

public import proofs.«01_k».proof.Proof.Gen.AttnRefIdeal.Run
public import proofs.«01_k».proof.Proof.Attn.Math

@[expose] public section

set_option maxRecDepth 16384

noncomputable section

namespace Cert.Proof.Attn.Ref

open Idealize.ShloMosaic Idealize.ShloMosaic.TcCoe Idealize.SL.Sem
open Cert.AttnRefIdeal Cert.AttnRefIdeal.Value Cert.AttnRefIdeal.Gen

variable (V0 : Valuation τ sig (Elt Ideal))

/-! The layer's inputs to the attention, the sinks, the incoming gradient, and the reference's arrays with their
elements as extended reals. -/

abbrev u : S2x2048x2816.Idx → EReal := (V0 (Proc.devRef .tc main_arg0) : FVec Ideal S2x2048x2816 .bf16)
abbrev sk : S1x8.Idx → EReal := (V0 (Proc.devRef .tc main_arg1) : FVec Ideal S1x8 .f32)
abbrev w : S2x2048x512.Idx → EReal := (V0 (Proc.devRef .tc main_arg2) : FVec Ideal S2x2048x512 .bf16)
abbrev scores : S2x16x2x4x128x384.Idx → EReal := res_main_v83_0 V0
abbrev mask : S2x16x2x4x128x384.Idx → BitVec 1 := res_main_v83_1 V0
abbrev top : S2x16x2x4x128.Idx → EReal := res_main_v85 V0
abbrev ties : S2x16x2x4x128x384.Idx → EReal := res_main_v89 V0
abbrev M : S2x16x2x4x128x1.Idx → EReal := res_main_v93 V0
abbrev E : S2x16x2x4x128x384.Idx → EReal := res_main_v114 V0
abbrev ES : S2x16x2x4x128x1.Idx → EReal := res_main_v119 V0
abbrev DN : S2x16x2x4x128x1.Idx → EReal := res_main_v120 V0
abbrev P : S2x16x2x4x128x384.Idx → EReal := res_main_v122 V0
abbrev S : S2x16x2x4x128x1.Idx → EReal := Host.divf (F := Ideal) (φ := .f32) (res_main_v119 V0) (res_main_v120 V0)
abbrev D : S2x16x2x4x128x384.Idx → EReal := res_main_v132 V0
abbrev T : S2x16x2x4x128x1.Idx → EReal := res_main_v140 V0
abbrev dES : S2x16x2x4x128x1.Idx → EReal := res_main_v143 V0
abbrev dS : S2x16x2x4x128x384.Idx → EReal := res_main_v150 V0
abbrev A : S2x16x2x384x128x4.Idx → EReal := res_main_v169 V0
abbrev dK : S2x16x384x2x64.Idx → EReal := res_main_v173 V0
abbrev dV : S2x16x384x2x64.Idx → EReal := res_main_v134 V0
abbrev dM : S2x16x2x4x128x1.Idx → EReal := res_main_v154 V0

variable (b : Fin 2) (n : Fin 16) (h : Fin 2) (g : Fin 4) (q : Fin 128) (j : Fin 384) (d : Fin 64)

theorem v5_at : (res_main_v5 V0 (ix6 b n q h g d) : EReal) = qE (u V0) b n h g q d := by
  pointwise [res_main_v5, res_main_v0]
  exact ev3 (u V0) rfl (by show n.val * 128 + q.val = 128 * n.val + q.val; omega) (by show 2048 + (h.val * 256 + g.val * 64 + d.val) = 2048 + 256 * h.val + 64 * g.val + d.val; omega)

theorem v131_at : (res_main_v131 V0 (ix6 b n h d g q) : EReal) = wE (w V0) b n h g q d := by
  pointwise [res_main_v131]
  exact ev3 (w V0) rfl (by show n.val * 128 + q.val = 128 * n.val + q.val; omega) (by show (h.val * 256 + g.val * 64 + d.val) = 256 * h.val + 64 * g.val + d.val; omega)

theorem v11_at (m : Fin 18) (q : Fin 128) : (res_main_v11 V0 (ix5 b m q h d) : EReal) = padE (u V0) b h d 2560 (by decide) (128 * m.val + q.val) := by
  pointwise [res_main_v11, res_main_v6, res_main_v0]
  unfold padE
  by_cases H : 128 ≤ 128 * m.val + q.val ∧ 128 * m.val + q.val < 2176
  · have h1 : ¬ m.val * 128 + q.val < 128 := by omega
    have h2 : m.val * 128 + q.val - 128 < 2048 := by omega
    refine ((dif_neg h1).trans (dif_pos h2)).trans (Eq.trans ?_ (dif_pos H).symm)
    refine ev3 (u V0) rfl ?_ ?_ <;> dsimp only <;> omega
  · refine Eq.trans ?_ (dif_neg H).symm
    by_cases H0 : m.val * 128 + q.val < 128
    · exact dif_pos H0
    · have h2 : ¬ m.val * 128 + q.val - 128 < 2048 := by omega
      exact (dif_neg H0).trans (dif_neg h2)

theorem v21_at (m : Fin 18) (q : Fin 128) : (res_main_v21 V0 (ix5 b m q h d) : EReal) = padE (u V0) b h d 2688 (by decide) (128 * m.val + q.val) := by
  pointwise [res_main_v21, res_main_v16, res_main_v0]
  unfold padE
  by_cases H : 128 ≤ 128 * m.val + q.val ∧ 128 * m.val + q.val < 2176
  · have h1 : ¬ m.val * 128 + q.val < 128 := by omega
    have h2 : m.val * 128 + q.val - 128 < 2048 := by omega
    refine ((dif_neg h1).trans (dif_pos h2)).trans (Eq.trans ?_ (dif_pos H).symm)
    refine ev3 (u V0) rfl ?_ ?_ <;> dsimp only <;> omega
  · refine Eq.trans ?_ (dif_neg H).symm
    by_cases H0 : m.val * 128 + q.val < 128
    · exact dif_pos H0
    · have h2 : ¬ m.val * 128 + q.val - 128 < 2048 := by omega
      exact (dif_neg H0).trans (dif_neg h2)

theorem v15_at : (res_main_v15 V0 (ix5 b n j h d) : EReal) = kE (u V0) b n h j d := by
  pointwise [res_main_v15]
  split_ifs
  all_goals exact (v11_at V0 b h d _ _).trans (congrArg (padE (u V0) b h d 2560 (by decide)) (by dsimp only <;> omega))

theorem v25_at : (res_main_v25 V0 (ix5 b n j h d) : EReal) = vE (u V0) b n h j d := by
  pointwise [res_main_v25]
  split_ifs
  all_goals exact (v21_at V0 b h d _ _).trans (congrArg (padE (u V0) b h d 2688 (by decide)) (by dsimp only <;> omega))

theorem D_at : D V0 (ix6 b n h g q j) = dpE (u V0) (w V0) b n h g q j := by
  pointwise [D, res_main_v132]
  exact Finset.sum_congr rfl fun x _ => congrArg₂ (· * ·) (v131_at V0 b n h g q x) (v25_at V0 b n h j x)

/-! ## The softmax's row -/

theorem sitofp_real {w : Nat} (φ : FTy) (x : BitVec w) : IsReal (FloatOps.sitofp (F := Ideal) φ x) := ⟨_, rfl⟩

theorem neg_inf : Ideal.ofBits .f32 0xFF800000#32 = ⊥ := by simp [Ideal.ofBits, Ideal.ieee]

theorem scores_at : scores V0 (ix6 b n h g q j) = ⊥ ∨ mask V0 (ix6 b n h g q j) = 1#1 ∧ scores V0 (ix6 b n h g q j) =
    (∑ d, kE (u V0) b n h j d * qE (u V0) b n h g q d) * scale
      + -Ideal.pow (Ideal.ofBits .f32 0x40000000#32) (Ideal.div (Ideal.ofBits .f32 0xC1000000#32 * (FloatOps.sitofp (F := Ideal) .f32 (BitVec.ofNat 32 (h.val * 4 + g.val)) + 1)) (Ideal.ofBits .f32 0x41000000#32))
          * FloatOps.sitofp (F := Ideal) .f32 (res_main_v39 V0 (ix2 q j)) := by
  pointwise [scores, res_main_v83_0]
  by_cases hm : mask V0 (ix6 b n h g q j) = 1#1
  · refine .inr ⟨hm, (if_pos hm).trans ?_⟩
    refine congrArg (fun x : EReal => x * scale + _) (Finset.sum_congr rfl fun x _ => ?_)
    exact congrArg₂ (· * ·) (v15_at V0 b n h j x) (v5_at V0 b n h g q x)
  · refine .inl ((if_neg hm).trans ?_)
    exact neg_inf

theorem scores_masked (hm : mask V0 (ix6 b n h g q j) ≠ 1#1) : scores V0 (ix6 b n h g q j) = ⊥ :=
  (scores_at V0 b n h g q j).elim id fun e => absurd e.1 hm

theorem fold_row (x : S2x16x2x4x128x384.Idx → EReal) (init : S_.Idx → EReal) :
    Host.reduce (FloatOps.maximumf (F := Ideal) (φ := .f32)) x init reducesTo_S2x16x2x4x128x384_S2x16x2x4x128_d5 h_S_ (ix5 b n h g q)
      = (Finset.univ : Finset (Fin 384)).fold max (init ix0) fun k => x (ix6 b n h g q k) :=
  (Host.reduce_eq_fold max x init _ _ _).trans
    ((congrArg (fun y => Finset.fold max (init y) x _) (funext fun a => a.elim0)).trans (fold_last reducesTo_S2x16x2x4x128x384_S2x16x2x4x128_d5 x (init ix0) b n h g q))

theorem top_at : top V0 (ix5 b n h g q) = (Finset.univ : Finset (Fin 384)).fold max (Ideal.ofBits .f32 0xFF800000#32) fun k => scores V0 (ix6 b n h g q k) := by
  unfold top res_main_v85
  exact fold_row b n h g q (scores V0) _

theorem sk_at : (broadcastInDim S2x16x2x4x128x1 ![0, 1, 2, 3, 4, 5] bcast_S2x1x2x4x1x1_S2x16x2x4x128x1_0_1_2_3_4_5 (res_main_v84 V0) (ix6 b n h g q 0) : EReal)
    = sk V0 (ix2 0 ⟨h.val * 4 + g.val, by omega⟩) := by
  pointwise [res_main_v84]
theorem v91_at : (res_main_v91 V0 (ix6 b n h g q 0) : EReal) = top V0 (ix5 b n h g q) := by
  unfold res_main_v91 top
  generalize res_main_v85 V0 = Y
  pointwise
theorem max_at (Y Z : FVec Ideal S2x16x2x4x128x1 .f32) (i) : (maximumf Y Z i : EReal) = max (Y i : EReal) (Z i) := rfl
theorem M_at : M V0 (ix6 b n h g q 0) = max (top V0 (ix5 b n h g q)) (sk V0 (ix2 0 ⟨h.val * 4 + g.val, by omega⟩)) :=
  (max_at (res_main_v91 V0) _ _).trans (congrArg₂ max (v91_at V0 b n h g q) (sk_at V0 b n h g q))

theorem E_at : E V0 (ix6 b n h g q j) = Ideal.exp (scores V0 (ix6 b n h g q j) - M V0 (ix6 b n h g q 0)) := by
  pointwise [E, res_main_v114]
  first | rfl | skip
theorem ES_at : ES V0 (ix6 b n h g q 0) = Ideal.exp (sk V0 (ix2 0 ⟨h.val * 4 + g.val, by omega⟩) - M V0 (ix6 b n h g q 0)) := by
  pointwise [ES, res_main_v119, res_main_v84]
  first | rfl | skip
theorem DN_at : DN V0 (ix6 b n h g q 0) = ∑ j, E V0 (ix6 b n h g q j) + ES V0 (ix6 b n h g q 0) := by
  pointwise [DN, res_main_v120]
  rw [sum_last, zero_add]
theorem P_at : P V0 (ix6 b n h g q j) = Ideal.div (E V0 (ix6 b n h g q j)) (DN V0 (ix6 b n h g q 0)) := by
  pointwise [P, res_main_v122]
  first | rfl | skip
theorem T_at : T V0 (ix6 b n h g q 0) = -∑ j, D V0 (ix6 b n h g q j) * Ideal.div 1 (DN V0 (ix6 b n h g q 0) * DN V0 (ix6 b n h g q 0)) * E V0 (ix6 b n h g q j) := by
  pointwise [T, res_main_v140]
  rw [sum_last, zero_add]
  refine congrArg Neg.neg (Finset.sum_congr rfl fun j _ => ?_)
  pointwise
  first | rfl | skip
theorem dES_at : dES V0 (ix6 b n h g q 0) = T V0 (ix6 b n h g q 0) * ES V0 (ix6 b n h g q 0) := by
  pointwise [dES, res_main_v143]
  first | rfl | skip
theorem dS_at : dS V0 (ix6 b n h g q j) = (Ideal.div (D V0 (ix6 b n h g q j)) (DN V0 (ix6 b n h g q 0)) + T V0 (ix6 b n h g q 0)) * E V0 (ix6 b n h g q j) := by
  pointwise [dS, res_main_v150]
  simp only [sum_last, zero_add, Fin.sum_univ_one]
  first | rfl | skip
theorem dM_at : dM V0 (ix6 b n h g q 0) = -dES V0 (ix6 b n h g q 0) + ∑ j, -dS V0 (ix6 b n h g q j) := by
  pointwise [dM, res_main_v154]
  simp only [sum_last, zero_add]
  first | rfl | skip

theorem A_gen (C : S2x16x2x4x128x384.Idx → BitVec 1) (X W : FVec Ideal S2x16x2x4x128x1 .f32) (G Z : FVec Ideal S2x16x2x4x128x384 .f32) :
    (transpose S2x16x2x384x128x4 [0, 1, 2, 5, 4, 3] (mulf (F := Ideal) (select C (addf G (mulf (broadcastInDim S2x16x2x4x128x384 ![0, 1, 2, 3, 4] bcast_S2x16x2x4x128_S2x16x2x4x128x384_0_1_2_3_4 (Host.divf (Host.reduceAdd (mulf X W) (constant S_ .f32 0x00000000#32) reducesTo_S2x16x2x4x128x1_S2x16x2x4x128_d5 h_S_) (Host.reduceAdd Z (constant S_ .f32 0x00000000#32) reducesTo_S2x16x2x4x128x384_S2x16x2x4x128_d5 h_S_))) Z)) (broadcastInDim S2x16x2x4x128x384 ![] bcast_S_S2x16x2x4x128x384 (constant S_ .f32 0x00000000#32))) (broadcastInDim S2x16x2x4x128x384 ![] bcast_S_S2x16x2x4x128x384 (constant S_ .f32 0x3E000000#32))) transposes_S2x16x2x4x128x384_S2x16x2x384x128x4_0_1_2_5_4_3 (ix6 b n h j q g) : EReal)
      = Scalar.select (C (ix6 b n h g q j)) (((G (ix6 b n h g q j) : EReal) + Ideal.div ((X (ix6 b n h g q 0) : EReal) * (W (ix6 b n h g q 0) : EReal)) (∑ k, (Z (ix6 b n h g q k) : EReal)) * (Z (ix6 b n h g q j) : EReal)) * scale) (0 : EReal) := by
  pointwise
  simp only [sum_last, zero_add, Fin.sum_univ_one]
  pointwise

/-- With the share a tie of the two maxima gives. -/
theorem A_at : ∃ x : EReal, A V0 (ix6 b n h j q g) =
    Scalar.select (mask V0 (ix6 b n h g q j)) ((dS V0 (ix6 b n h g q j) + Ideal.div (dM V0 (ix6 b n h g q 0) * x) (∑ k, ties V0 (ix6 b n h g q k)) * ties V0 (ix6 b n h g q j)) * scale) (0 : EReal) :=
  ⟨_, A_gen b n h g q j (mask V0) (dM V0) _ (dS V0) (ties V0)⟩

theorem ties_nonneg (i) : 0 ≤ ties V0 i := by
  have : ∃ x : BitVec 1, ties V0 i = ((x.toNat : ℝ) : EReal) := ⟨_, rfl⟩
  obtain ⟨x, hx⟩ := this
  rw [hx]; exact EReal.coe_nonneg.mpr (Nat.cast_nonneg _)

theorem dK_at : dK V0 (ix5 b n j h d) = ∑ q, ∑ g, A V0 (ix6 b n h j q g) * qE (u V0) b n h g q d := by
  pointwise [dK, res_main_v173]
  exact Finset.sum_congr rfl fun q _ => Finset.sum_congr rfl fun g _ => congrArg (A V0 (ix6 b n h j q g) * ·) (v5_at V0 b n h g q d)
theorem dV_at : dV V0 (ix5 b n j h d) = dvE (w V0) (P V0) b n h j d := by
  pointwise [dV, res_main_v134]
  exact Finset.sum_congr rfl fun g _ => Finset.sum_congr rfl fun q _ => (congrArg (· * P V0 (ix6 b n h g q j)) (v131_at V0 b n h g q d)).trans (mul_comm _ _)
theorem v186_at (r : Fin 2048) (l : Fin 128) : (res_main_v186 V0 (ix3 b r l) : EReal) = rowsE (fun n j => dV V0 (ix5 b n j ⟨l.val / 64, by omega⟩ ⟨l.val % 64, by omega⟩)) (r.val + 128) := by
  have e : r.val + 128 = 128 * (⟨(128 + r.val) / 128, by omega⟩ : Fin 18).val + (⟨(128 + r.val) % 128, by omega⟩ : Fin 128).val := by dsimp only; omega
  rw [e, rowsE_eq]
  pointwise [res_main_v186, res_main_v182]
  refine congrArg₂ (· + ·) (congrArg₂ (· + ·) ?_ ?_) ?_
  all_goals
    refine dite_ev (by omega) fun _ _ => ev5 (dV V0) rfl ?_ ?_ ?_ ?_
    all_goals first | omega | (dsimp only; omega)
theorem v199_at (r : Fin 2048) (l : Fin 128) : (res_main_v199 V0 (ix3 b r l) : EReal) = rowsE (fun n j => dK V0 (ix5 b n j ⟨l.val / 64, by omega⟩ ⟨l.val % 64, by omega⟩)) (r.val + 128) := by
  have e : r.val + 128 = 128 * (⟨(128 + r.val) / 128, by omega⟩ : Fin 18).val + (⟨(128 + r.val) % 128, by omega⟩ : Fin 128).val := by dsimp only; omega
  rw [e, rowsE_eq]
  pointwise [res_main_v199, res_main_v195]
  refine congrArg₂ (· + ·) (congrArg₂ (· + ·) ?_ ?_) ?_
  all_goals
    refine dite_ev (by omega) fun _ _ => ev5 (dK V0) rfl ?_ ?_ ?_ ?_
    all_goals first | omega | (dsimp only; omega)
theorem out_dq (r : Fin 2048) (l : Fin 512) : (val5 V0 (Proc.devRef .tc main_v209) (ix3 b r l) : EReal)
    = ∑ j, A V0 (ix6 b ⟨r.val / 128, by omega⟩ ⟨l.val / 256, by omega⟩ j ⟨r.val % 128, by omega⟩ ⟨l.val / 64 % 4, by omega⟩)
        * kE (u V0) b ⟨r.val / 128, by omega⟩ ⟨l.val / 256, by omega⟩ j ⟨l.val % 64, by omega⟩ := by
  rw [val5_main_v209]
  pointwise
  exact Finset.sum_congr (f := fun j => A V0 (ix6 b _ _ j _ _) * (res_main_v15 V0 (ix5 b _ j _ _) : EReal)) rfl fun j _ => congrArg (A V0 (ix6 b _ _ j _ _) * ·) (v15_at V0 b _ _ j _)
theorem out_dkv (r : Fin 2048) (l : Fin 256) : (val5 V0 (Proc.devRef .tc main_v210) (ix3 b r l) : EReal) =
    if l.val % 128 < 64 then rowsE (fun n j => dK V0 (ix5 b n j ⟨l.val / 128, by omega⟩ ⟨l.val % 64, by omega⟩)) (r.val + 128)
    else rowsE (fun n j => dV V0 (ix5 b n j ⟨l.val / 128, by omega⟩ ⟨l.val % 64, by omega⟩)) (r.val + 128) := by
  rw [val5_main_v210]
  pointwise
  have key : ∀ (f g : Fin 128 → EReal), (if h : l.val < 64 then f ⟨l.val, by omega⟩ else if h : l.val - 64 < 64 then g ⟨l.val - 64, by omega⟩
      else if h : l.val - 64 - 64 < 64 then f ⟨64 + (l.val - 64 - 64), by omega⟩ else g ⟨64 + (l.val - 64 - 64 - 64), by omega⟩)
      = if l.val % 128 < 64 then f ⟨l.val / 128 * 64 + l.val % 64, by omega⟩ else g ⟨l.val / 128 * 64 + l.val % 64, by omega⟩ := fun f g => by
    split_ifs <;> first | omega | (refine congrArg _ (Fin.ext ?_); dsimp only; omega)
  refine (key (fun k => res_main_v199 V0 (ix3 b r k)) (fun k => res_main_v186 V0 (ix3 b r k))).trans ?_
  refine if_congr Iff.rfl ((v199_at V0 b r _).trans ?_) ((v186_at V0 b r _).trans ?_)
  · refine congrArg (rowsE · _) (funext fun n => funext fun j => ev5 (dK V0) rfl rfl rfl ?_ ?_) <;> dsimp only <;> omega
  · refine congrArg (rowsE · _) (funext fun n => funext fun j => ev5 (dV V0) rfl rfl rfl ?_ ?_) <;> dsimp only <;> omega
theorem sink_gen (X Y W : FVec Ideal S2x16x2x4x128x1 .f32) (r : Fin 8) (l : Fin 128) : ∃ x : Fin 16 → Fin 128 → EReal, (broadcastInDim S2x2x8x128 ![0, 1, 2, 3] bcast_S2x2x8x1_S2x2x8x128_0_1_2_3 (broadcastInDim S2x2x8x1 ![0, 1, 2] bcast_S2x2x8_S2x2x8x1_0_1_2 (concatenate S2x2x8 2 [⟨S2x2x4, (shapeCast _ (shapeCast _ (addf (F := Ideal) (shapeCast _ (Host.reduceAdd X (constant S_ .f32 0x00000000#32) reducesTo_S2x16x2x4x128x1_S2x2x4x1_d1_4 h_S_) shapeCasts_S2x2x4x1_S2x1x2x4x1x1) (shapeCast _ (Host.reduceAdd (mulf Y W) (constant S_ .f32 0x00000000#32) reducesTo_S2x16x2x4x128x1_S2x2x4x1_d1_4 h_S_) shapeCasts_S2x2x4x1_S2x1x2x4x1x1)) shapeCasts_S2x1x2x4x1x1_S2x8) shapeCasts_S2x8_S2x2x4)⟩, ⟨S2x2x4, (broadcastInDim S2x2x4 ![] bcast_S_S2x2x4 (constant (F := Ideal) S_ .f32 0x00000000#32))⟩] concatenates_S2x2x4_S2x2x4_S2x2x8_d2)) (ix4 b h r l) : EReal)
    = if H : r.val < 4 then ∑ n, ∑ q, (X (ix6 b n h ⟨r.val, H⟩ q 0) : EReal) + ∑ n, ∑ q, (Y (ix6 b n h ⟨r.val, H⟩ q 0) : EReal) * x n q else 0 := by
  by_cases H : r.val < 4
  · refine ⟨fun n q => W (ix6 b n h ⟨r.val, H⟩ q 0), ?_⟩
    pointwise
    simp only [sum_two, zero_add, H]
    pointwise
  · refine ⟨fun _ _ => 0, ?_⟩
    pointwise
    simp only [H]
    pointwise
theorem out_sink (r : Fin 8) (l : Fin 128) : ∃ x : Fin 16 → Fin 128 → EReal, (val5 V0 (Proc.devRef .tc main_v212) (ix4 b h r l) : EReal) =
    if H : r.val < 4 then ∑ n, ∑ q, dES V0 (ix6 b n h ⟨r.val, H⟩ q 0) + ∑ n, ∑ q, dM V0 (ix6 b n h ⟨r.val, H⟩ q 0) * x n q else 0 := by
  rw [val5_main_v212]
  exact sink_gen b h (dES V0) (dM V0) _ r l
end Cert.Proof.Attn.Ref
end
-- ==== Proof.Attn.RefValue.lean ====
/- The attention reference's three results as the gradients' sums. -/
module

public import proofs.«01_k».proof.Proof.Attn.RefRead

@[expose] public section

noncomputable section

namespace Cert.Proof.Attn.Ref

open Idealize.ShloMosaic Idealize.ShloMosaic.TcCoe Idealize.SL.Sem
open Cert.AttnRefIdeal Cert.AttnRefIdeal.Value Cert.AttnRefIdeal.Gen

variable {V0 : Valuation τ sig (Elt Ideal)}
variable (hu : ∀ i, IsReal (u V0 i)) (hs : ∀ i, IsReal (sk V0 i)) (hw : ∀ i, IsReal (w V0 i))
variable (b : Fin 2) (n : Fin 16) (h : Fin 2) (g : Fin 4) (q : Fin 128) (j : Fin 384) (d : Fin 64)

theorem two_eq : Ideal.ofBits .f32 0x40000000#32 = ((2 : ℝ) : EReal) := by
  simp [Ideal.ofBits, Ideal.ieee, -EReal.coe_mul]; norm_num
theorem neg_eight_eq : Ideal.ofBits .f32 0xC1000000#32 = ((-8 : ℝ) : EReal) := by
  simp [Ideal.ofBits, Ideal.ieee, -EReal.coe_mul]; norm_num
theorem eight_eq : Ideal.ofBits .f32 0x41000000#32 = ((8 : ℝ) : EReal) := by
  simp [Ideal.ofBits, Ideal.ieee, -EReal.coe_mul]; norm_num

theorem pow_real {x y : EReal} (hx : IsReal x) (hy : IsReal y) : IsReal (Ideal.pow x y) := by
  obtain ⟨x, rfl⟩ := hx
  obtain ⟨y, rfl⟩ := hy
  exact ⟨_, rfl⟩

include hu in
/-- A score is real, or minus infinity where the mask drops it. -/
theorem scores_real : scores V0 (ix6 b n h g q j) = ⊥ ∨ IsReal (scores V0 (ix6 b n h g q j)) := by
  refine (scores_at V0 b n h g q j).imp_right fun e => ?_
  rw [e.2, two_eq, neg_eight_eq, eight_eq, scale_eq]
  refine ((IsReal.sum fun x => (padE_real hu ..).mul (hu _)).mul ⟨_, rfl⟩).add ((IsReal.neg (pow_real ⟨_, rfl⟩ ?_)).mul (sitofp_real ..))
  exact (IsReal.mul ⟨_, rfl⟩ ((sitofp_real ..).add ⟨1, rfl⟩)).div (by norm_num)

include hu hs in
theorem M_real : IsReal (M V0 (ix6 b n h g q 0)) := by
  rw [M_at, top_at, neg_inf]
  obtain ⟨s, e⟩ := hs (ix2 0 ⟨h.val * 4 + g.val, by omega⟩)
  rw [e]
  refine IsReal.of_ne (ne_of_gt (lt_of_lt_of_le (EReal.bot_lt_coe s) (le_max_right _ _))) (ne_of_lt (max_lt ?_ (EReal.coe_lt_top s)))
  refine Finset.fold_max_lt _ |>.mpr ⟨bot_lt_top, fun k _ => ?_⟩
  rcases scores_real hu b n h g q k with e | ⟨r, e⟩
  · rw [e]; exact bot_lt_top
  · rw [e]; exact EReal.coe_lt_top r

include hu hs in
theorem E_masked (e : scores V0 (ix6 b n h g q j) = ⊥) : E V0 (ix6 b n h g q j) = 0 := by
  obtain ⟨m, hm⟩ := M_real hu hs b n h g q
  rw [E_at, e, hm]; rfl

include hu hs in
theorem E_real : ∃ e : ℝ, 0 ≤ e ∧ E V0 (ix6 b n h g q j) = e := by
  rcases scores_real hu b n h g q j with e | ⟨r, e⟩
  · exact ⟨0, le_rfl, E_masked hu hs b n h g q j e⟩
  · obtain ⟨m, hm⟩ := M_real hu hs b n h g q
    refine ⟨Real.exp (r - m), (Real.exp_pos _).le, ?_⟩
    rw [E_at, e, hm, ← EReal.coe_sub]; rfl

include hu hs in
theorem ES_real : ∃ e : ℝ, 0 < e ∧ ES V0 (ix6 b n h g q 0) = e := by
  obtain ⟨m, hm⟩ := M_real hu hs b n h g q
  obtain ⟨s, e⟩ := hs (ix2 0 ⟨h.val * 4 + g.val, by omega⟩)
  refine ⟨Real.exp (s - m), Real.exp_pos _, ?_⟩
  rw [ES_at, e, hm, ← EReal.coe_sub]; rfl

include hu hs in
theorem DN_pos : ∃ e : ℝ, 0 < e ∧ DN V0 (ix6 b n h g q 0) = e := by
  choose e he using fun j => E_real hu hs b n h g q j
  obtain ⟨s, hs⟩ := ES_real hu hs b n h g q
  refine ⟨∑ j, e j + s, add_pos_of_nonneg_of_pos (Finset.sum_nonneg fun j _ => (he j).1) hs.1, ?_⟩
  rw [DN_at, hs.2]
  simp only [(he _).2, sum_coe, EReal.coe_add]

include hu hs in
theorem P_real : IsReal (P V0 (ix6 b n h g q j)) := by
  obtain ⟨y, hy, e⟩ := DN_pos hu hs b n h g q
  obtain ⟨x, -, ex⟩ := E_real hu hs b n h g q j
  rw [P_at, e, ex]
  exact IsReal.div ⟨_, rfl⟩ hy.ne'

include hu hs in
theorem S_real : IsReal (S V0 (ix6 b n h g q 0)) := by
  obtain ⟨y, hy, e⟩ := DN_pos hu hs b n h g q
  obtain ⟨x, -, ex⟩ := ES_real hu hs b n h g q
  show IsReal (Ideal.div (ES V0 (ix6 b n h g q 0)) (DN V0 (ix6 b n h g q 0)))
  rw [e, ex]
  exact IsReal.div ⟨_, rfl⟩ hy.ne'

include hu hs hw in
theorem delta_real : IsReal (deltaE (u V0) (w V0) (P V0) b n h g q) :=
  IsReal.sum fun j => (P_real hu hs b n h g q j).mul (dpE_real hu hw ..)

include hu hs hw in
/-- The row: the scores' gradient, the sink's, and the maximum's, which is zero. -/
theorem grads : (∀ j, dS V0 (ix6 b n h g q j) = dsE (u V0) (w V0) (P V0) b n h g q j)
    ∧ dES V0 (ix6 b n h g q 0) = -(S V0 (ix6 b n h g q 0) * deltaE (u V0) (w V0) (P V0) b n h g q) ∧ dM V0 (ix6 b n h g q 0) = 0 := by
  have hD : DN V0 (ix6 b n h g q 0) ≠ 0 := by
    obtain ⟨y, hy, e⟩ := DN_pos hu hs b n h g q
    rw [e]; exact fun h => hy.ne' (EReal.coe_eq_zero.mp h)
  have hE : ∀ j, IsReal (E V0 (ix6 b n h g q j)) := fun j => (E_real hu hs b n h g q j).imp fun _ e => e.2
  have hS : IsReal (ES V0 (ix6 b n h g q 0)) := (ES_real hu hs b n h g q).imp fun _ e => e.2
  have hDp : ∀ j, IsReal (D V0 (ix6 b n h g q j)) := fun j => by rw [D_at]; exact dpE_real hu hw ..
  have hr := row (fun j => E V0 (ix6 b n h g q j)) (fun j => D V0 (ix6 b n h g q j)) _ _ hE hDp hS (DN_at V0 b n h g q) hD
  have hd : (∑ k, Ideal.div (E V0 (ix6 b n h g q k)) (DN V0 (ix6 b n h g q 0)) * D V0 (ix6 b n h g q k)) = deltaE (u V0) (w V0) (P V0) b n h g q :=
    Finset.sum_congr rfl fun k _ => congrArg₂ (· * ·) (P_at V0 b n h g q k).symm (D_at V0 b n h g q k)
  refine ⟨fun j => ?_, ?_, ?_⟩
  · rw [dS_at, T_at]
    refine (hr.1 j).trans ?_
    rw [hd, dsE, P_at, D_at]
  · rw [dES_at, T_at]
    refine hr.2.1.trans ?_
    rw [hd]; rfl
  · rw [dM_at, dES_at, T_at]
    refine Eq.trans ?_ hr.2.2
    refine congrArg (_ + ·) (Finset.sum_congr rfl fun j _ => ?_)
    rw [dS_at, T_at]

include hu hs hw in
/-- The gradient of a score before the scale. -/
theorem A_eq : A V0 (ix6 b n h j q g) = dsE (u V0) (w V0) (P V0) b n h g q j * scale := by
  obtain ⟨x, e⟩ := A_at V0 b n h g q j
  obtain ⟨h1, -, h3⟩ := grads hu hs hw b n h g q
  have tie : Ideal.div 0 (∑ k, ties V0 (ix6 b n h g q k)) * ties V0 (ix6 b n h g q j) = 0 := by
    by_cases hz : ∑ k, ties V0 (ix6 b n h g q k) = 0
    · rw [(Finset.sum_eq_zero_iff_of_nonneg fun k _ => ties_nonneg V0 _).mp hz j (Finset.mem_univ _), mul_zero]
    · rw [Ideal.div, if_neg hz, zero_mul, zero_mul]
  rw [e, h3, zero_mul, tie, add_zero, h1]
  by_cases hm : mask V0 (ix6 b n h g q j) = 1#1
  · exact if_pos hm
  · refine (if_neg hm).trans ?_
    rw [dsE, P_at, E_masked hu hs b n h g q j (scores_masked V0 b n h g q j hm)]
    obtain ⟨y, hy, e⟩ := DN_pos hu hs b n h g q
    rw [e, ← EReal.coe_zero, div_real _ hy.ne', zero_div, EReal.coe_zero, zero_mul, zero_mul]

include hu hs hw in
theorem dq_eq (r : Fin 2048) (l : Fin 512) : (val5 V0 (Proc.devRef .tc main_v209) (ix3 b r l) : EReal)
    = dqE (u V0) (w V0) (P V0) b ⟨r.val / 128, by omega⟩ ⟨l.val / 256, by omega⟩ ⟨l.val / 64 % 4, by omega⟩ ⟨r.val % 128, by omega⟩ ⟨l.val % 64, by omega⟩ := by
  refine (out_dq V0 b r l).trans ?_
  refine Eq.trans ?_ (sum_scale _ _)
  simp only [A_eq hu hs hw]
  simp only [mul_assoc, mul_comm scale]

include hu hs hw in
theorem dK_eq : dK V0 (ix5 b n j h d) = dkE (u V0) (w V0) (P V0) b n h j d := by
  rw [dK_at, Finset.sum_comm]
  refine Finset.sum_congr rfl fun g _ => Finset.sum_congr rfl fun q _ => ?_
  rw [A_eq hu hs hw, mul_assoc, mul_comm scale]

include hu hs hw in
theorem dkv_eq (r : Fin 2048) (l : Fin 256) : (val5 V0 (Proc.devRef .tc main_v210) (ix3 b r l) : EReal) =
    if l.val % 128 < 64 then rowsE (fun n j => dkE (u V0) (w V0) (P V0) b n ⟨l.val / 128, by omega⟩ j ⟨l.val % 64, by omega⟩) (r.val + 128)
    else rowsE (fun n j => dvE (w V0) (P V0) b n ⟨l.val / 128, by omega⟩ j ⟨l.val % 64, by omega⟩) (r.val + 128) := by
  refine (out_dkv V0 b r l).trans ?_
  simp only [dK_eq hu hs hw, dV_at]

include hu hs hw in
theorem sink_eq (r : Fin 8) (l : Fin 128) : (val5 V0 (Proc.devRef .tc main_v212) (ix4 b h r l) : EReal) =
    if H : r.val < 4 then sinkE (u V0) (w V0) (P V0) (S V0) b h ⟨r.val, H⟩ else 0 := by
  obtain ⟨x, e⟩ := out_sink V0 b h r l
  refine e.trans ?_
  split_ifs with H
  · simp only [(grads hu hs hw b _ h ⟨r.val, H⟩ _).2.2, (grads hu hs hw b _ h ⟨r.val, H⟩ _).2.1, zero_mul, Finset.sum_const_zero, add_zero, sinkE,
      ← sum_neg fun q => (S_real hu hs b _ h _ q).mul (delta_real hu hs hw b _ h _ q)]
  · rfl

end Cert.Proof.Attn.Ref
end
-- ==== Proof.Attn.Saved.lean ====
/- What each point of the attention backward call reads: the launch's arguments, and the probabilities the reference's
   forward pass computes from them. -/
module

public import proofs.«01_k».proof.Proof.Attn.BlkValue
public import proofs.«01_k».proof.Proof.Attn.Frame
public import proofs.«01_k».proof.Proof.Attn.RefValue
public import Idealize.ShloMosaic.Lib.Pipeline.ValueKit.Geometry

@[expose] public section

set_option maxRecDepth 16384

noncomputable section

namespace Cert.Proof.Attn

open Idealize.ShloMosaic Idealize.ShloMosaic.TcCoe Idealize.SL.Sem Cert.AttnIdeal Cert.AttnIdeal.Gen

variable (m : (ℓ : Loc nD τ sig) → Buf (Elt Ideal) ℓ) (V0 : Valuation Cert.AttnRefIdeal.τ Cert.AttnRefIdeal.sig (Elt Ideal)) (c : Dev nD)

/-- The two launches hold the same arguments. -/
structure Same : Prop where
  a0 : V0 (Proc.devRef .tc Cert.AttnRefIdeal.main_arg0) = (m ((c.tc : Thread nD τ).loc main_arg0) : FVec Ideal S2x2048x2816 .bf16)
  a1 : V0 (Proc.devRef .tc Cert.AttnRefIdeal.main_arg1) = (m ((c.tc : Thread nD τ).loc main_arg1) : FVec Ideal S1x8 .f32)
  a2 : V0 (Proc.devRef .tc Cert.AttnRefIdeal.main_arg2) = (m ((c.tc : Thread nD τ).loc main_arg2) : FVec Ideal S2x2048x512 .bf16)

section Chain
variable (x : FVec Ideal S2x16x2x4x128x384 .f32) (k : FVec Ideal S2x1x2x4x1x1 .f32)
/-- Scores and sinks to probabilities, as both programs compute them: the largest of a row, the exponentials, their sum, the shares. -/
abbrev chainM : FVec Ideal S2x16x2x4x128x1 .f32 :=
  maximumf (broadcastInDim S2x16x2x4x128x1 ![0, 1, 2, 3, 4] bcast_S2x16x2x4x128_S2x16x2x4x128x1_0_1_2_3_4
    (Host.reduce FloatOps.maximumf x (constant S_ .f32 0xFF800000#32) reducesTo_S2x16x2x4x128x384_S2x16x2x4x128_d5 h_S_))
    (broadcastInDim S2x16x2x4x128x1 ![0, 1, 2, 3, 4, 5] bcast_S2x1x2x4x1x1_S2x16x2x4x128x1_0_1_2_3_4_5 k)
abbrev chainE : FVec Ideal S2x16x2x4x128x384 .f32 :=
  Host.exp (subf x (broadcastInDim S2x16x2x4x128x384 ![0, 1, 2, 3, 4, 5] bcast_S2x16x2x4x128x1_S2x16x2x4x128x384_0_1_2_3_4_5 (chainM x k)))
abbrev chainES : FVec Ideal S2x16x2x4x128x1 .f32 :=
  Host.exp (subf (broadcastInDim S2x16x2x4x128x1 ![0, 1, 2, 3, 4, 5] bcast_S2x1x2x4x1x1_S2x16x2x4x128x1_0_1_2_3_4_5 k) (chainM x k))
abbrev chainDN : FVec Ideal S2x16x2x4x128x1 .f32 :=
  addf (broadcastInDim S2x16x2x4x128x1 ![0, 1, 2, 3, 4] bcast_S2x16x2x4x128_S2x16x2x4x128x1_0_1_2_3_4
    (Host.reduceAdd (chainE x k) (constant S_ .f32 0x00000000#32) reducesTo_S2x16x2x4x128x384_S2x16x2x4x128_d5 h_S_)) (chainES x k)
def chainP : FVec Ideal S2x16x2x4x128x384 .f32 :=
  Host.divf (chainE x k) (broadcastInDim S2x16x2x4x128x384 ![0, 1, 2, 3, 4, 5] bcast_S2x16x2x4x128x1_S2x16x2x4x128x384_0_1_2_3_4_5 (chainDN x k))
def chainS : FVec Ideal S2x16x2x4x128x1 .f32 := Host.divf (chainES x k) (chainDN x k)

/-- The blocks' rows laid item by item, group by group, as the call is given them. -/
def laidP : FVec Ideal S2x2x16x512x384 .bf16 := truncf .bf16 (shapeCast S2x2x16x512x384
  (transpose S2x2x16x4x128x384 [0, 2, 1, 3, 4, 5] x transposes_S2x16x2x4x128x384_S2x2x16x4x128x384_0_2_1_3_4_5) shapeCasts_S2x2x16x4x128x384_S2x2x16x512x384) bitsLt_bf16_f32
def laidS (x : FVec Ideal S2x16x2x4x128x1 .f32) : FVec Ideal S2x2x16x512x1 .f32 := shapeCast S2x2x16x512x1
  (transpose S2x2x16x4x128x1 [0, 2, 1, 3, 4, 5] x transposes_S2x16x2x4x128x1_S2x2x16x4x128x1_0_2_1_3_4_5) shapeCasts_S2x2x16x4x128x1_S2x2x16x512x1
end Chain

/-- The host's last lines, on any buffers. -/
theorem tail_p (W : Valuation τ sig (Elt Ideal)) : StableHlo.after hostOps0_2 W (Proc.devRef .tc main_v90) =
    laidP (chainP (W (Proc.devRef .tc main_v70)) (shapeCast S2x1x2x4x1x1 (W (Proc.devRef .tc main_v3) : FVec Ideal S2x8 .f32) shapeCasts_S2x8_S2x1x2x4x1x1)) := by
  after_results_simp
  rfl
theorem tail_s (W : Valuation τ sig (Elt Ideal)) : StableHlo.after hostOps0_2 W (Proc.devRef .tc main_v92) =
    laidS (chainS (W (Proc.devRef .tc main_v70)) (shapeCast S2x1x2x4x1x1 (W (Proc.devRef .tc main_v3) : FVec Ideal S2x8 .f32) shapeCasts_S2x8_S2x1x2x4x1x1)) := by
  after_results_simp
  rfl

/-- The buffers before them. -/
def early : Valuation τ sig (Elt Ideal) := StableHlo.after hostOps0_1 (StableHlo.after hostOps0 fun b => m (c, b))

theorem V_early (b : Ref sig .tc) : V m c b = StableHlo.after hostOps0_2 (early m c) (Proc.devRef .tc b) := by
  show StableHlo.after (List.flatten [hostOps0, hostOps0_1, hostOps0_2]) _ _ = _
  rw [List.flatten_cons, List.flatten_cons, List.flatten_cons, List.flatten_nil, List.append_nil, StableHlo.after_append, StableHlo.after_append]
  rfl

section Host
variable {m V0 c} (H : Same m V0 c)

include H in
theorem same_update : V0 = Function.update (Function.update V0 (Proc.devRef .tc Cert.AttnRefIdeal.main_arg0) (m ((c.tc : Thread nD τ).loc main_arg0) : FVec Ideal S2x2048x2816 .bf16))
    (Proc.devRef .tc Cert.AttnRefIdeal.main_arg1) (m ((c.tc : Thread nD τ).loc main_arg1) : FVec Ideal S1x8 .f32) := by
  rw [← H.a0, ← H.a1, Function.update_eq_self, Function.update_eq_self]

set_option maxHeartbeats 4000000 in
include H in
theorem early_scores : early m c (Proc.devRef .tc main_v70) = Cert.AttnRefIdeal.Value.res_main_v83_0 V0 := by
  rw [same_update H]
  rfl

include H in
theorem early_sinks : early m c (Proc.devRef .tc main_v3) = broadcastInDim S2x8 ![0, 1] bcast_S1x8_S2x8_0_1 (V0 (Proc.devRef .tc Cert.AttnRefIdeal.main_arg1) : FVec Ideal S1x8 .f32) := by
  rw [H.a1]
  rfl

include H in
theorem saved_p : V m c main_v90 = laidP (Ref.P V0) := by
  rw [V_early, tail_p, early_scores H, early_sinks H]
  rfl
include H in
theorem saved_s : V m c main_v92 = laidS (Ref.S V0) := by
  rw [V_early, tail_s, early_scores H, early_sinks H]
  rfl
end Host

end Cert.Proof.Attn
end
-- ==== Proof.Attn.BlkRead.lean ====
/- Which rows and columns each point of the attention backward call reads and writes. -/
module

public import proofs.«01_k».proof.Proof.Attn.Frame
public import Idealize.ShloMosaic.Lib.Pointwise
public import Idealize.ShloMosaic.Lib.Pipeline.ValueKit.Geometry

@[expose] public section

set_option maxRecDepth 16384

noncomputable section

namespace Cert.Proof.Attn

open Idealize.ShloMosaic Idealize.ShloMosaic.TcCoe Idealize.SL.Sem Cert.AttnIdeal Cert.AttnIdeal.Gen

theorem points4 : cfg0.N = 4 := by decide +kernel

/-- Point `t`'s item and group. -/
def item (t : Fin cfg0.N) : Fin 2 := ⟨t.val / 2, by have := t.isLt; have := points4; omega⟩
def group (t : Fin cfg0.N) : Fin 2 := ⟨t.val % 2, by omega⟩

theorem coord1 (t : Fin cfg0.N) : (grid0.coords t 1).val = (group t).val := by
  have e : (grid0.coords t 1).val = t.val / 1 % 2 := Pipeline.Grid.coords_val t 1 (by decide) rfl
  rw [e, Nat.div_one]; rfl

theorem at0 : ∀ t : Fin cfg0.N, win0_0.index t 0 = t.val / 2 ∧ win0_0.index t 1 = 0 ∧ win0_0.index t 2 = 8 + t.val % 2 := by decide +kernel
theorem at1 : ∀ t : Fin cfg0.N, win0_1.index t 0 = t.val / 2 ∧ win0_1.index t 1 = 0 ∧ win0_1.index t 2 = 20 := by decide +kernel
theorem at2 : ∀ t : Fin cfg0.N, win0_2.index t 0 = t.val / 2 ∧ win0_2.index t 1 = 0 ∧ win0_2.index t 2 = 21 := by decide +kernel
theorem at3 : ∀ t : Fin cfg0.N, win0_3.index t 0 = t.val / 2 ∧ win0_3.index t 1 = 0 ∧ win0_3.index t 2 = t.val % 2 := by decide +kernel
theorem at4 : ∀ t : Fin cfg0.N, win0_4.index t 0 = t.val / 2 ∧ win0_4.index t 1 = t.val % 2 ∧ win0_4.index t 2 = 0 ∧ win0_4.index t 3 = 0 ∧ win0_4.index t 4 = 0 := by decide +kernel
theorem at5 : ∀ t : Fin cfg0.N, win0_5.index t 0 = t.val / 2 ∧ win0_5.index t 1 = t.val % 2 ∧ win0_5.index t 2 = 0 ∧ win0_5.index t 3 = 0 ∧ win0_5.index t 4 = 0 := by decide +kernel
theorem at6 : ∀ t : Fin cfg0.N, win0_6.index t 0 = t.val / 2 ∧ win0_6.index t 1 = 0 ∧ win0_6.index t 2 = t.val % 2 := by decide +kernel
theorem at7 : ∀ t : Fin cfg0.N, win0_7.index t 0 = t.val / 2 ∧ win0_7.index t 1 = 0 ∧ win0_7.index t 2 = t.val % 2 := by decide +kernel
theorem at8 : ∀ t : Fin cfg0.N, win0_8.index t 0 = t.val / 2 ∧ win0_8.index t 1 = t.val % 2 ∧ win0_8.index t 2 = 0 ∧ win0_8.index t 3 = 0 := by decide +kernel

section Blocks
variable (t : Fin cfg0.N)
theorem read_0 (X : FVec Ideal S2x2048x2816 .bf16) (r : Fin 2048) (l : Fin 256) :
    ((win0_0.blk t).view.read (Elt Ideal) X (ix3 0 r l) : EReal) = (X (ix3 (item t) r ⟨2048 + 256 * (group t).val + l.val, by omega⟩) : EReal) := by
  blk_simp
  refine congrArg X (funext fun a => Fin.ext ?_)
  match a with
  | ⟨0, _⟩ => blk_simp; exact (at0 t).1
  | ⟨1, _⟩ => blk_simp; rw [(at0 t).2.1]; omega
  | ⟨2, _⟩ => blk_simp; rw [(at0 t).2.2]; show (8 + t.val % 2) * 256 + l.val = 2048 + 256 * (t.val % 2) + l.val; omega
theorem read_4 (X : FVec Ideal S2x2x16x512x384 .bf16) (n : Fin 16) (q : Fin 512) (j : Fin 384) :
    ((win0_4.blk t).view.read (Elt Ideal) X (ix5 0 0 n q j) : EReal) = (X (ix5 (item t) (group t) n q j) : EReal) := by
  blk_simp
  refine congrArg X (funext fun a => Fin.ext ?_)
  match a with
  | ⟨0, _⟩ => blk_simp; exact (at4 t).1
  | ⟨1, _⟩ => blk_simp; exact (at4 t).2.1
  | ⟨2, _⟩ => blk_simp; rw [(at4 t).2.2.1]; omega
  | ⟨3, _⟩ => blk_simp; rw [(at4 t).2.2.2.1]; omega
  | ⟨4, _⟩ => blk_simp; rw [(at4 t).2.2.2.2]; omega
theorem read_1 (X : FVec Ideal S2x2048x2816 .bf16) (r : Fin 2048) (l : Fin 128) :
    ((win0_1.blk t).view.read (Elt Ideal) X (ix3 0 r l) : EReal) = (X (ix3 (item t) r ⟨2560 + l.val, by omega⟩) : EReal) := by
  blk_simp
  refine congrArg X (funext fun a => Fin.ext ?_)
  match a with
  | ⟨0, _⟩ => blk_simp; exact (at1 t).1
  | ⟨1, _⟩ => blk_simp; rw [(at1 t).2.1]; omega
  | ⟨2, _⟩ => blk_simp; rw [(at1 t).2.2]
theorem read_2 (X : FVec Ideal S2x2048x2816 .bf16) (r : Fin 2048) (l : Fin 128) :
    ((win0_2.blk t).view.read (Elt Ideal) X (ix3 0 r l) : EReal) = (X (ix3 (item t) r ⟨2688 + l.val, by omega⟩) : EReal) := by
  blk_simp
  refine congrArg X (funext fun a => Fin.ext ?_)
  match a with
  | ⟨0, _⟩ => blk_simp; exact (at2 t).1
  | ⟨1, _⟩ => blk_simp; rw [(at2 t).2.1]; omega
  | ⟨2, _⟩ => blk_simp; rw [(at2 t).2.2]
theorem read_3 (X : FVec Ideal S2x2048x512 .bf16) (r : Fin 2048) (l : Fin 256) :
    ((win0_3.blk t).view.read (Elt Ideal) X (ix3 0 r l) : EReal) = (X (ix3 (item t) r ⟨256 * (group t).val + l.val, by omega⟩) : EReal) := by
  blk_simp
  refine congrArg X (funext fun a => Fin.ext ?_)
  match a with
  | ⟨0, _⟩ => blk_simp; exact (at3 t).1
  | ⟨1, _⟩ => blk_simp; rw [(at3 t).2.1]; omega
  | ⟨2, _⟩ => blk_simp; rw [(at3 t).2.2]; show t.val % 2 * 256 + l.val = 256 * (t.val % 2) + l.val; omega
theorem read_5 (X : FVec Ideal S2x2x16x512x1 .f32) (n : Fin 16) (q : Fin 512) :
    ((win0_5.blk t).view.read (Elt Ideal) X (ix5 0 0 n q 0) : EReal) = (X (ix5 (item t) (group t) n q 0) : EReal) := by
  blk_simp
  refine congrArg X (funext fun a => Fin.ext ?_)
  match a with
  | ⟨0, _⟩ => blk_simp; exact (at5 t).1
  | ⟨1, _⟩ => blk_simp; exact (at5 t).2.1
  | ⟨2, _⟩ => blk_simp; rw [(at5 t).2.2.1]; omega
  | ⟨3, _⟩ => blk_simp; rw [(at5 t).2.2.2.1]; omega
  | ⟨4, _⟩ => blk_simp; exact (at5 t).2.2.2.2

theorem emb_6 (r : Fin 2048) (l : Fin 256) : (win0_6.blk t).view.emb (ix3 0 r l : S1x2048x256.Idx) = (ix3 (item t) r ⟨256 * (group t).val + l.val, by omega⟩ : S2x2048x512.Idx) := by
  refine funext fun a => Fin.ext ?_
  match a with
  | ⟨0, _⟩ => blk_simp; exact (at6 t).1
  | ⟨1, _⟩ => blk_simp; rw [(at6 t).2.1]; omega
  | ⟨2, _⟩ => blk_simp; rw [(at6 t).2.2]; show t.val % 2 * 256 + l.val = 256 * (t.val % 2) + l.val; omega
theorem emb_7 (r : Fin 2048) (l : Fin 128) : (win0_7.blk t).view.emb (ix3 0 r l : S1x2048x128.Idx) = (ix3 (item t) r ⟨128 * (group t).val + l.val, by omega⟩ : S2x2048x256.Idx) := by
  refine funext fun a => Fin.ext ?_
  match a with
  | ⟨0, _⟩ => blk_simp; exact (at7 t).1
  | ⟨1, _⟩ => blk_simp; rw [(at7 t).2.1]; omega
  | ⟨2, _⟩ => blk_simp; rw [(at7 t).2.2]; show t.val % 2 * 128 + l.val = 128 * (t.val % 2) + l.val; omega
theorem emb_8 (r : Fin 8) (l : Fin 128) : (win0_8.blk t).view.emb (ix4 0 0 r l : S1x1x8x128.Idx) = (ix4 (item t) (group t) r l : S2x2x8x128.Idx) := by
  refine funext fun a => Fin.ext ?_
  match a with
  | ⟨0, _⟩ => blk_simp; exact (at8 t).1
  | ⟨1, _⟩ => blk_simp; exact (at8 t).2.1
  | ⟨2, _⟩ => blk_simp; rw [(at8 t).2.2.1]; omega
  | ⟨3, _⟩ => blk_simp; rw [(at8 t).2.2.2]; omega
end Blocks

end Cert.Proof.Attn
end
-- ==== Proof.Attn.Value.lean ====
/- The attention backward call's results are the reference's. -/
module

public import proofs.«01_k».proof.Proof.Attn.Saved
public import proofs.«01_k».proof.Proof.Attn.BlkRead
public import proofs.«01_k».proof.Proof.Attn.Claims
public import proofs.«01_k».proof.Proof.Gen.Pre_finite_attn

@[expose] public section

set_option maxRecDepth 16384

noncomputable section

namespace Cert.Proof.Attn

open Idealize.ShloMosaic Idealize.ShloMosaic.StableHlo Idealize.ShloMosaic.TcCoe Idealize.SL.Sem
open Cert.AttnIdeal Cert.AttnIdeal.Gen
open Cert.AttnRefIdeal.Value (val5)

variable {m : (ℓ : Loc nD τ sig) → Buf (Elt Ideal) ℓ} {V0 : Valuation Cert.AttnRefIdeal.τ Cert.AttnRefIdeal.sig (Elt Ideal)} {c : Dev nD}

/-! ## The precondition -/

theorem finite_of_pre (h : Cert.Pre_AttnIdeal_finite_attn m) (H : Same m V0 c) :
    (∀ i, IsReal (Ref.u V0 i)) ∧ (∀ i, IsReal (Ref.sk V0 i)) ∧ ∀ i, IsReal (Ref.w V0 i) := by
  have e := congrFun (h c) (fun i => i.elim0)
  obtain ⟨e, e2⟩ := IntOp.andi_eq_one.1 e
  obtain ⟨e, e1⟩ := IntOp.andi_eq_one.1 e
  refine ⟨fun i => ?_, fun i => ?_, fun i => ?_⟩
  · rw [Ref.u, H.a0]; exact isReal_of_all _ _ _ _ _ e i
  · rw [Ref.sk, H.a1]; exact isReal_of_all _ _ _ _ _ e1 i
  · rw [Ref.w, H.a2]; exact isReal_of_all _ _ _ _ _ e2 i

/-! ## What a point reads -/

theorem split_p (X : FVec Ideal S2x16x2x4x128x384 .f32) (b h : Fin 2) (n : Fin 16) (g : Fin 4) (q : Fin 128) (j : Fin 384) :
    (laidP X (ix5 b h n ⟨128 * g.val + q.val, by omega⟩ j) : EReal) = (X (ix6 b n h g q j) : EReal) := by
  pointwise [laidP]
theorem split_s (X : FVec Ideal S2x16x2x4x128x1 .f32) (b h : Fin 2) (n : Fin 16) (g : Fin 4) (q : Fin 128) :
    (laidS X (ix5 b h n ⟨128 * g.val + q.val, by omega⟩ 0) : EReal) = (X (ix6 b n h g q 0) : EReal) := by
  pointwise [laidS]

section Inputs
variable (H : Same m V0 c) (t : Fin cfg0.N)
include H
theorem in_u : (V m c main_arg0 : S2x2048x2816.Idx → EReal) = Ref.u V0 := (V_main_arg0 m c).trans H.a0.symm
theorem in_w : (V m c main_arg2 : S2x2048x512.Idx → EReal) = Ref.w V0 := (V_main_arg2 m c).trans H.a2.symm
theorem in_p (n : Fin 16) (g : Fin 4) (q : Fin 128) (j : Fin 384) :
    (V m c main_v90 (ix5 (item t) (group t) n ⟨128 * g.val + q.val, by omega⟩ j) : EReal) = Ref.P V0 (ix6 (item t) n (group t) g q j) := by
  rw [saved_p H]
  exact split_p (Ref.P V0) _ _ n g q j
theorem in_s (n : Fin 16) (g : Fin 4) (q : Fin 128) :
    (V m c main_v92 (ix5 (item t) (group t) n ⟨128 * g.val + q.val, by omega⟩ 0) : EReal) = Ref.S V0 (ix6 (item t) n (group t) g q 0) := by
  rw [saved_s H]
  exact split_s (Ref.S V0) _ _ n g q

theorem in_0 (r : Fin 2048) (l : Fin 256) : ((inAt m c t).q (ix3 0 r l) : EReal) = Ref.u V0 (ix3 (item t) r ⟨2048 + 256 * (group t).val + l.val, by omega⟩) :=
  (read_0 t (V m c main_arg0) r l).trans (congrFun (in_u H) _)
theorem in_1 (r : Fin 2048) (l : Fin 128) : ((inAt m c t).k (ix3 0 r l) : EReal) = Ref.u V0 (ix3 (item t) r ⟨2560 + l.val, by omega⟩) :=
  (read_1 t (V m c main_arg0) r l).trans (congrFun (in_u H) _)
theorem in_2 (r : Fin 2048) (l : Fin 128) : ((inAt m c t).v (ix3 0 r l) : EReal) = Ref.u V0 (ix3 (item t) r ⟨2688 + l.val, by omega⟩) :=
  (read_2 t (V m c main_arg0) r l).trans (congrFun (in_u H) _)
theorem in_3 (r : Fin 2048) (l : Fin 256) : ((inAt m c t).d (ix3 0 r l) : EReal) = Ref.w V0 (ix3 (item t) r ⟨256 * (group t).val + l.val, by omega⟩) :=
  (read_3 t (V m c main_arg2) r l).trans (congrFun (in_w H) _)
theorem in_4 (n : Fin 16) (g : Fin 4) (q : Fin 128) (j : Fin 384) : ((inAt m c t).p (ix5 0 0 n ⟨128 * g.val + q.val, by omega⟩ j) : EReal) = Ref.P V0 (ix6 (item t) n (group t) g q j) :=
  (read_4 t (V m c main_v90) n _ j).trans (in_p H t n g q j)
theorem in_5 (n : Fin 16) (g : Fin 4) (q : Fin 128) : ((inAt m c t).s (ix5 0 0 n ⟨128 * g.val + q.val, by omega⟩ 0) : EReal) = Ref.S V0 (ix6 (item t) n (group t) g q 0) :=
  (read_5 t (V m c main_v92) n _).trans (in_s H t n g q)

theorem inReads : InReads (inAt m c t) (Ref.u V0) (Ref.w V0) (Ref.P V0) (Ref.S V0) (item t) (group t) :=
  ⟨in_0 H t, in_1 H t, in_2 H t, in_3 H t, in_4 H t, in_5 H t⟩
end Inputs

/-! ## The arrays, from their blocks -/

theorem after_6 (t : Fin cfg0.N) : (dats m 0 c).after 6 t = ((inAt m c t).blk (grid0.coords t)).dq := by dsimp only [dats]
theorem after_7 (t : Fin cfg0.N) : (dats m 0 c).after 7 t = (inAt m c t).dkv (grid0.coords t) := by dsimp only [dats]
theorem after_8 (t : Fin cfg0.N) : (dats m 0 c).after 8 t = (inAt m c t).dsk (grid0.coords t) := by dsimp only [dats]

theorem idx3 {n0 n1 : Nat} (y : (⟨3, ![1, n0, n1]⟩ : Shape).Idx) : y = ix3 0 (y 1) (y 2) :=
  funext fun a => match a with | ⟨0, _⟩ => Fin.ext (Nat.lt_one_iff.mp (y 0).isLt) | ⟨1, _⟩ => rfl | ⟨2, _⟩ => rfl
theorem idx4 {n0 n1 : Nat} (y : (⟨4, ![1, 1, n0, n1]⟩ : Shape).Idx) : y = ix4 0 0 (y 2) (y 3) :=
  funext fun a => match a with | ⟨0, _⟩ => Fin.ext (Nat.lt_one_iff.mp (y 0).isLt) | ⟨1, _⟩ => Fin.ext (Nat.lt_one_iff.mp (y 1).isLt) | ⟨2, _⟩ => rfl | ⟨3, _⟩ => rfl

theorem arr_6 {G : S2x2048x512.Idx → EReal} (hG : ∀ t r l, (((inAt m c t).blk (grid0.coords t)).dq (ix3 0 r l) : EReal) = G (ix3 (item t) r ⟨256 * (group t).val + l.val, by omega⟩)) :
    (dats m 0 c).arrAt 6 cfg0.N = G := by
  funext i
  refine (dats m 0 c).arrAt_forall_of_covers 6 (fun i v => v = G i) (by decide +kernel) (fun t _ => ?_) i
  blk_simp
  rw [after_6]
  show ∀ y : S1x2048x256.Idx, (((inAt m c t).blk (grid0.coords t)).dq y : EReal) = G ((win0_6.blk t).view.emb y)
  intro y
  rw [idx3 y]
  exact (hG t _ _).trans (congrArg G (emb_6 t _ _).symm)
theorem arr_7 {G : S2x2048x256.Idx → EReal} (hG : ∀ t r l, ((inAt m c t).dkv (grid0.coords t) (ix3 0 r l) : EReal) = G (ix3 (item t) r ⟨128 * (group t).val + l.val, by omega⟩)) :
    (dats m 0 c).arrAt 7 cfg0.N = G := by
  funext i
  refine (dats m 0 c).arrAt_forall_of_covers 7 (fun i v => v = G i) (by decide +kernel) (fun t _ => ?_) i
  blk_simp
  rw [after_7]
  show ∀ y : S1x2048x128.Idx, ((inAt m c t).dkv (grid0.coords t) y : EReal) = G ((win0_7.blk t).view.emb y)
  intro y
  rw [idx3 y]
  exact (hG t _ _).trans (congrArg G (emb_7 t _ _).symm)
theorem arr_8 {G : S2x2x8x128.Idx → EReal} (hG : ∀ t r l, ((inAt m c t).dsk (grid0.coords t) (ix4 0 0 r l) : EReal) = G (ix4 (item t) (group t) r l)) :
    (dats m 0 c).arrAt 8 cfg0.N = G := by
  funext i
  refine (dats m 0 c).arrAt_forall_of_covers 8 (fun i v => v = G i) (by decide +kernel) (fun t _ => ?_) i
  blk_simp
  rw [after_8]
  show ∀ y : S1x1x8x128.Idx, ((inAt m c t).dsk (grid0.coords t) y : EReal) = G ((win0_8.blk t).view.emb y)
  intro y
  rw [idx4 y]
  exact (hG t _ _).trans (congrArg G (emb_8 t _ _).symm)

/-- The arrays after the run, as the reference writes them. -/
theorem arrays (h : Cert.Pre_AttnIdeal_finite_attn m) (H : Same m V0 c) :
    (dats m 0 c).arrAt 6 cfg0.N = (val5 V0 (Proc.devRef .tc Cert.AttnRefIdeal.main_v209) : S2x2048x512.Idx → EReal)
    ∧ (dats m 0 c).arrAt 7 cfg0.N = (val5 V0 (Proc.devRef .tc Cert.AttnRefIdeal.main_v210) : S2x2048x256.Idx → EReal)
    ∧ (dats m 0 c).arrAt 8 cfg0.N = (val5 V0 (Proc.devRef .tc Cert.AttnRefIdeal.main_v212) : S2x2x8x128.Idx → EReal) := by
  obtain ⟨hu, hs, hw⟩ := finite_of_pre h H
  refine ⟨arr_6 fun t r l => ?_, arr_7 fun t r l => ?_, arr_8 fun t r l => ?_⟩
  · refine (dq_at (inReads H t) (grid0.coords t) (coord1 t) r l).trans (Eq.symm ?_)
    refine (Ref.dq_eq hu hs hw (item t) r ⟨256 * (group t).val + l.val, by omega⟩).trans ?_
    have e0 : (⟨(256 * (group t).val + l.val) / 256, by omega⟩ : Fin 2) = group t := Fin.ext (by show (256 * (group t).val + l.val) / 256 = (group t).val; omega)
    have e1 : (⟨(256 * (group t).val + l.val) / 64 % 4, by omega⟩ : Fin 4) = ⟨l.val / 64, by omega⟩ := Fin.ext (by show (256 * (group t).val + l.val) / 64 % 4 = l.val / 64; omega)
    have e2 : (⟨(256 * (group t).val + l.val) % 64, by omega⟩ : Fin 64) = ⟨l.val % 64, by omega⟩ := Fin.ext (by show (256 * (group t).val + l.val) % 64 = l.val % 64; omega)
    simp only [e0, e1, e2]
  · refine (dkv_at (inReads H t) (grid0.coords t) (coord1 t) r l).trans (Eq.symm ?_)
    refine (Ref.dkv_eq hu hs hw (item t) r ⟨128 * (group t).val + l.val, by omega⟩).trans ?_
    have e0 : (⟨(128 * (group t).val + l.val) / 128, by omega⟩ : Fin 2) = group t := Fin.ext (by show (128 * (group t).val + l.val) / 128 = (group t).val; omega)
    have e1 : (128 * (group t).val + l.val) % 128 = l.val := by omega
    have e2 : (⟨(128 * (group t).val + l.val) % 64, by omega⟩ : Fin 64) = ⟨l.val % 64, by omega⟩ := Fin.ext (by show (128 * (group t).val + l.val) % 64 = l.val % 64; omega)
    simp only [e0, e1, e2]
  · exact (dsk_at (inReads H t) (grid0.coords t) (coord1 t) r l).trans (Ref.sink_eq hu hs hw (item t) (group t) r l).symm

set_option maxHeartbeats 2000000 in
set_option backward.isDefEq.respectTransparency.types false in
/-- From finite arguments the kernel leaves in its three results what the reference leaves in its. -/
theorem algebraic : Cert.algebraic_AttnIdeal_AttnRefIdeal_pre_finite_attn := by
  intro m g m' g' hpre hargs
  have H (c : Dev nD) : Same m (launchContents m' c) c := ⟨(hargs c).1, (hargs c).2.1, (hargs c).2.2⟩
  refine ⟨_, _, _, ?_, Cert.AttnRefIdeal.Value.run (F := Ideal) m' g'⟩
  refine (θ_run defs _ _).mono (fun r h c => ?_) (θ_run_and (run_main m g) (frame m g))
  obtain ⟨e6, e7, e8⟩ := arrays hpre (H c)
  have hw := (h.1 c).1
  exact ⟨(hw 6).trans (e6.trans (Cert.AttnRefIdeal.Value.val5_main_v209 _)), (hw 7).trans (e7.trans (Cert.AttnRefIdeal.Value.val5_main_v210 _)),
    (hw 8).trans (e8.trans (Cert.AttnRefIdeal.Value.val5_main_v212 _)), h.2.1 c⟩

end Cert.Proof.Attn

end
-- ==== Proof.Copies.lean ====
/- Reading back a block that whole stores, or copies in quarters, filled. -/
module

public import Idealize.ShloMosaic.Lib.Pipeline.Value
public import Idealize.ShloMosaic.Lib.Claim

@[expose] public section

noncomputable section

namespace Cert.Proof.Copies

open Idealize.ShloMosaic Idealize.SL.Sem

variable {F : FTy → Type} [FloatOps F] {sig : RefSig} {κ κ' : Kind} {sp sp' : Space}

theorem zeros : (![0, 0] : Fin 2 → Nat) = fun _ => 0 := funext fun a => match a with | ⟨0, _⟩ => rfl | ⟨1, _⟩ => rfl

/-- A load of a whole rank-two block reads its contents. -/
theorem ld_all {e : EltTy} {m n : Nat} (X : (⟨2, ![m, n]⟩ : Shape).Idx → Elt F e) (inb) :
    View.ld X (Rect.unit (s := ⟨2, ![m, n]⟩) ![0, 0] ![m, n] inb) = X := View.ld_unit_zero zeros inb X

/-- A buffer that one whole store filled reads what was stored. -/
theorem read_all {e : EltTy} {m n : Nat} (v : View sig κ sp ⟨2, ![m, n]⟩ e) (f : v.ty.Contents (Elt F)) (inb)
    (w : (⟨2, ![m, n]⟩ : Shape).Idx → Elt F e) (L : List (View.Piece (Elt F) ⟨2, ![m, n]⟩ e)) :
    v.read (Elt F) (v.writes (Elt F) f (⟨Rect.unit (s := ⟨2, ![m, n]⟩) ![0, 0] ![m, n] inb, w⟩ :: L)) = w := by
  have cover : ∀ y, ∃ p ∈ (⟨Rect.unit (s := ⟨2, ![m, n]⟩) ![0, 0] ![m, n] inb, w⟩ :: L : List (View.Piece (Elt F) ⟨2, ![m, n]⟩ e)), y ∈ p.1.set :=
    fun y => ⟨_, List.mem_cons_self, View.mem_set_unit_zero zeros inb y⟩
  rw [View.read_writes_eq_canon _ _ _ cover]
  exact View.canon_cons_unit_zero zeros inb w L

/-- Membership in a rectangle of a rank-two shape, coordinate by coordinate. -/
theorem mem_rect {m n o₀ o₁ s₀ s₁ : Nat} (inb) (y : (⟨2, ![m, n]⟩ : Shape).Idx) (h₀ : o₀ ≤ (y 0).val) (h₀' : (y 0).val < o₀ + s₀)
    (h₁ : o₁ ≤ (y 1).val) (h₁' : (y 1).val < o₁ + s₁) : y ∈ (Rect.unit (s := ⟨2, ![m, n]⟩) ![o₀, o₁] ![s₀, s₁] inb).set :=
  Rect.mem_set_unit.2 fun a => match a with | ⟨0, _⟩ => ⟨h₀, h₀'⟩ | ⟨1, _⟩ => ⟨h₁, h₁'⟩

/-- Pieces that cover a block and agree with `W` leave `W`, -/
theorem read_pieces {s : Shape} {e : EltTy} (v : View sig κ sp s e) (f : v.ty.Contents (Elt F)) (W : s.Idx → Elt F e) (L : List (View.Piece (Elt F) s e))
    (hW : ∀ p ∈ L, ∀ x : p.1.shape.Idx, p.2 x = W (p.1.emb x)) (cover : ∀ y, ∃ p ∈ L, y ∈ p.1.set) : v.read (Elt F) (v.writes (Elt F) f L) = W := by
  rw [View.read_writes_eq_canon _ _ _ cover]
  exact funext fun y => View.canon_apply_of_pieces W L hW y (cover y)

/-- and a load reads `W`. -/
theorem readCov_pieces {s : Shape} {e : EltTy} (v : View sig κ sp s e) (W : s.Idx → Elt F e) (L : List (View.Piece (Elt F) s e))
    (hW : ∀ p ∈ L, ∀ x : p.1.shape.Idx, p.2 x = W (p.1.emb x)) (cover : ∀ y, ∃ p ∈ L, y ∈ p.1.set) (r : Rect s) :
    v.readCov L r.toLoadRect = View.ld W r := by
  rw [View.readCov_eq_canon_ld _ _ _ cover, show View.canon L = W from funext fun y => View.canon_apply_of_pieces W L hW y (cover y)]

/-- Four blocks of rows cover a tall block. -/
theorem rows_cover {e : EltTy} (i₀ i₁ i₂ i₃) (w₀ w₁ w₂ w₃) (y : (⟨2, ![2816, 1024]⟩ : Shape).Idx) :
    ∃ p ∈ ([⟨Rect.unit ![2112, 0] ![704, 1024] i₃, w₃⟩, ⟨Rect.unit ![1408, 0] ![704, 1024] i₂, w₂⟩, ⟨Rect.unit ![704, 0] ![704, 1024] i₁, w₁⟩,
      ⟨Rect.unit ![0, 0] ![704, 1024] i₀, w₀⟩] : List (View.Piece (Elt F) ⟨2, ![2816, 1024]⟩ e)), y ∈ p.1.set := by
  have h0 : (y 0).val < 2816 := (y 0).isLt
  have h1 : (y 1).val < 1024 := (y 1).isLt
  rcases (by omega : (y 0).val < 704 ∨ 704 ≤ (y 0).val ∧ (y 0).val < 1408 ∨ 1408 ≤ (y 0).val ∧ (y 0).val < 2112 ∨ 2112 ≤ (y 0).val) with h | h | h | h
  · exact ⟨_, .tail _ (.tail _ (.tail _ (.head _))), mem_rect i₀ y (Nat.zero_le _) (by omega) (Nat.zero_le _) (by omega)⟩
  · exact ⟨_, .tail _ (.tail _ (.head _)), mem_rect i₁ y (by omega) (by omega) (Nat.zero_le _) (by omega)⟩
  · exact ⟨_, .tail _ (.head _), mem_rect i₂ y (by omega) (by omega) (Nat.zero_le _) (by omega)⟩
  · exact ⟨_, .head _, mem_rect i₃ y (by omega) (by omega) (Nat.zero_le _) (by omega)⟩

/-- Four blocks of columns cover a wide block. -/
theorem cols_cover {e : EltTy} (i₀ i₁ i₂ i₃) (w₀ w₁ w₂ w₃) (y : (⟨2, ![256, 1024]⟩ : Shape).Idx) :
    ∃ p ∈ ([⟨Rect.unit ![0, 768] ![256, 256] i₃, w₃⟩, ⟨Rect.unit ![0, 512] ![256, 256] i₂, w₂⟩, ⟨Rect.unit ![0, 256] ![256, 256] i₁, w₁⟩,
      ⟨Rect.unit ![0, 0] ![256, 256] i₀, w₀⟩] : List (View.Piece (Elt F) ⟨2, ![256, 1024]⟩ e)), y ∈ p.1.set := by
  have h0 : (y 0).val < 256 := (y 0).isLt
  have h1 : (y 1).val < 1024 := (y 1).isLt
  rcases (by omega : (y 1).val < 256 ∨ 256 ≤ (y 1).val ∧ (y 1).val < 512 ∨ 512 ≤ (y 1).val ∧ (y 1).val < 768 ∨ 768 ≤ (y 1).val) with h | h | h | h
  · exact ⟨_, .tail _ (.tail _ (.tail _ (.head _))), mem_rect i₀ y (Nat.zero_le _) (by omega) (Nat.zero_le _) (by omega)⟩
  · exact ⟨_, .tail _ (.tail _ (.head _)), mem_rect i₁ y (Nat.zero_le _) (by omega) (by omega) (by omega)⟩
  · exact ⟨_, .tail _ (.head _), mem_rect i₂ y (Nat.zero_le _) (by omega) (by omega) (by omega)⟩
  · exact ⟨_, .head _, mem_rect i₃ y (Nat.zero_le _) (by omega) (by omega) (by omega)⟩

/-- A box at `o` of extents `n` lies in extents `d`. -/
abbrev Fits {k : Nat} (o n d : Fin k → Nat) : Prop := ∀ a, o a + n a ≤ d a

/-- A weight's four copies, each spelt as the copy's own read of the weight's memory. -/
abbrev copies (H : View sig κ' sp' ⟨2, ![2816, 1024]⟩ .bf16) (X : H.ty.Contents (Elt F)) (i₀ : Fits ![0, 0] ![704, 1024] ![2816, 1024]) (i₁ : Fits ![704, 0] ![704, 1024] ![2816, 1024]) (i₂ : Fits ![1408, 0] ![704, 1024] ![2816, 1024]) (i₃ : Fits ![2112, 0] ![704, 1024] ![2816, 1024]) : List (View.Piece (Elt F) ⟨2, ![2816, 1024]⟩ .bf16) :=
  [⟨Rect.unit ![2112, 0] ![704, 1024] i₃, (ReadAs.same : ReadAs (Elt F) ⟨2, ![704, 1024]⟩ .bf16 ⟨2, ![704, 1024]⟩ .bf16).apply (View.read (Elt F) (H.slice (Rect.unit ![2112, 0] ![704, 1024] i₃)) X)⟩,
   ⟨Rect.unit ![1408, 0] ![704, 1024] i₂, (ReadAs.same : ReadAs (Elt F) ⟨2, ![704, 1024]⟩ .bf16 ⟨2, ![704, 1024]⟩ .bf16).apply (View.read (Elt F) (H.slice (Rect.unit ![1408, 0] ![704, 1024] i₂)) X)⟩,
   ⟨Rect.unit ![704, 0] ![704, 1024] i₁, (ReadAs.same : ReadAs (Elt F) ⟨2, ![704, 1024]⟩ .bf16 ⟨2, ![704, 1024]⟩ .bf16).apply (View.read (Elt F) (H.slice (Rect.unit ![704, 0] ![704, 1024] i₁)) X)⟩,
   ⟨Rect.unit ![0, 0] ![704, 1024] i₀, (ReadAs.same : ReadAs (Elt F) ⟨2, ![704, 1024]⟩ .bf16 ⟨2, ![704, 1024]⟩ .bf16).apply (View.read (Elt F) (H.slice (Rect.unit ![0, 0] ![704, 1024] i₀)) X)⟩]

theorem copies_agree (H : View sig κ' sp' ⟨2, ![2816, 1024]⟩ .bf16) (X : H.ty.Contents (Elt F)) (i₀ i₁ i₂ i₃) :
    ∀ p ∈ copies H X i₀ i₁ i₂ i₃, ∀ x : p.1.shape.Idx, p.2 x = H.read (Elt F) X (p.1.emb x) := by
  intro p hp x
  simp only [copies, List.mem_cons, List.not_mem_nil, or_false] at hp
  rcases hp with rfl | rfl | rfl | rfl <;> rfl

/-- After the four copies the memory holds the weight, -/
theorem read_copies (v : View sig κ sp ⟨2, ![2816, 1024]⟩ .bf16) (f : v.ty.Contents (Elt F)) (H : View sig κ' sp' ⟨2, ![2816, 1024]⟩ .bf16) (X : H.ty.Contents (Elt F)) (i₀ i₁ i₂ i₃) :
    v.read (Elt F) (v.writes (Elt F) f (copies H X i₀ i₁ i₂ i₃)) = H.read (Elt F) X :=
  read_pieces v f _ _ (copies_agree H X i₀ i₁ i₂ i₃) (rows_cover i₀ i₁ i₂ i₃ _ _ _ _)

/-- and a load from it reads the weight's rows. -/
theorem readCov_copies (v : View sig κ sp ⟨2, ![2816, 1024]⟩ .bf16) (H : View sig κ' sp' ⟨2, ![2816, 1024]⟩ .bf16) (X : H.ty.Contents (Elt F)) (i₀ i₁ i₂ i₃)
    (r : Rect ⟨2, ![2816, 1024]⟩) : v.readCov (copies H X i₀ i₁ i₂ i₃) r.toLoadRect = View.ld (H.read (Elt F) X) r :=
  readCov_pieces v _ _ (copies_agree H X i₀ i₁ i₂ i₃) (rows_cover i₀ i₁ i₂ i₃ _ _ _ _) r

/-- A wide weight kept as four blocks of columns, copied side by side: each copy spelt as its own read of the weight's memory. -/
abbrev colCopies (H : View sig κ' sp' ⟨3, ![4, 256, 256]⟩ .bf16) (X : H.ty.Contents (Elt F)) (i₀ : Fits ![0, 0] ![256, 256] ![256, 1024]) (i₁ : Fits ![0, 256] ![256, 256] ![256, 1024]) (i₂ : Fits ![0, 512] ![256, 256] ![256, 1024]) (i₃ : Fits ![0, 768] ![256, 256] ![256, 1024]) (k₀ : Fits ![0, 0, 0] ![1, 256, 256] ![4, 256, 256]) (k₁ : Fits ![1, 0, 0] ![1, 256, 256] ![4, 256, 256]) (k₂ : Fits ![2, 0, 0] ![1, 256, 256] ![4, 256, 256]) (k₃ : Fits ![3, 0, 0] ![1, 256, 256] ![4, 256, 256])
    (h : (⟨2, ![256, 256]⟩ : Shape).numel = (⟨3, ![1, 256, 256]⟩ : Shape).numel) : List (View.Piece (Elt F) ⟨2, ![256, 1024]⟩ .bf16) :=
  [⟨Rect.unit ![0, 768] ![256, 256] i₃, (ReadAs.same : ReadAs (Elt F) ⟨2, ![256, 256]⟩ .bf16 ⟨2, ![256, 256]⟩ .bf16).apply (View.read (Elt F) ((H.slice (Rect.unit ![3, 0, 0] ![1, 256, 256] k₃)).reshape ⟨2, ![256, 256]⟩ h) X)⟩,
   ⟨Rect.unit ![0, 512] ![256, 256] i₂, (ReadAs.same : ReadAs (Elt F) ⟨2, ![256, 256]⟩ .bf16 ⟨2, ![256, 256]⟩ .bf16).apply (View.read (Elt F) ((H.slice (Rect.unit ![2, 0, 0] ![1, 256, 256] k₂)).reshape ⟨2, ![256, 256]⟩ h) X)⟩,
   ⟨Rect.unit ![0, 256] ![256, 256] i₁, (ReadAs.same : ReadAs (Elt F) ⟨2, ![256, 256]⟩ .bf16 ⟨2, ![256, 256]⟩ .bf16).apply (View.read (Elt F) ((H.slice (Rect.unit ![1, 0, 0] ![1, 256, 256] k₁)).reshape ⟨2, ![256, 256]⟩ h) X)⟩,
   ⟨Rect.unit ![0, 0] ![256, 256] i₀, (ReadAs.same : ReadAs (Elt F) ⟨2, ![256, 256]⟩ .bf16 ⟨2, ![256, 256]⟩ .bf16).apply (View.read (Elt F) ((H.slice (Rect.unit ![0, 0, 0] ![1, 256, 256] k₀)).reshape ⟨2, ![256, 256]⟩ h) X)⟩]

/-- The blocks of columns side by side. -/
def beside (W : (⟨3, ![4, 256, 256]⟩ : Shape).Idx → Elt F .bf16) : (⟨2, ![256, 1024]⟩ : Shape).Idx → Elt F .bf16 := fun i => W (fun a => match a with
  | ⟨0, _⟩ => (⟨(i 1).val / 256, by have : (i 1).val < 1024 := (i 1).isLt; show _ < 4; omega⟩ : Fin 4)
  | ⟨1, _⟩ => (i 0 : Fin 256)
  | ⟨2, _⟩ => (⟨(i 1).val % 256, Nat.mod_lt _ (by decide)⟩ : Fin 256))

theorem reshape_idx (h : (⟨2, ![256, 256]⟩ : Shape).numel = (⟨3, ![1, 256, 256]⟩ : Shape).numel) (x : (⟨2, ![256, 256]⟩ : Shape).Idx) :
    (Shape.reshapeEquiv h x 1).val = (x 0).val ∧ (Shape.reshapeEquiv h x 2).val = (x 1).val := by
  have e := Shape.rowMajor_reshapeEquiv h x
  rw [Shape.rowMajor_val_three, Shape.rowMajor_val_two] at e
  have q0 : (Shape.reshapeEquiv h x 0).val < 1 := (Shape.reshapeEquiv h x 0).isLt
  have q1 : (Shape.reshapeEquiv h x 1).val < 256 := (Shape.reshapeEquiv h x 1).isLt
  have q2 : (Shape.reshapeEquiv h x 2).val < 256 := (Shape.reshapeEquiv h x 2).isLt
  have x0 : (x 0).val < 256 := (x 0).isLt
  have x1 : (x 1).val < 256 := (x 1).isLt
  change ((Shape.reshapeEquiv h x 0).val * 256 + (Shape.reshapeEquiv h x 1).val) * 256 + (Shape.reshapeEquiv h x 2).val = (x 0).val * 256 + (x 1).val at e
  omega

theorem colCopies_agree (H : View sig κ' sp' ⟨3, ![4, 256, 256]⟩ .bf16) (X : H.ty.Contents (Elt F)) (i₀ i₁ i₂ i₃ k₀ k₁ k₂ k₃) (h) :
    ∀ p ∈ colCopies H X i₀ i₁ i₂ i₃ k₀ k₁ k₂ k₃ h, ∀ x : p.1.shape.Idx, p.2 x = beside (H.read (Elt F) X) (p.1.emb x) := by
  have key : ∀ (j : Fin 4) (k) (i) (x : (⟨2, ![256, 256]⟩ : Shape).Idx),
      View.read (Elt F) ((H.slice (Rect.unit ![j.val, 0, 0] ![1, 256, 256] k)).reshape ⟨2, ![256, 256]⟩ h) X x
        = beside (H.read (Elt F) X) ((Rect.unit (s := ⟨2, ![256, 1024]⟩) ![0, 256 * j.val] ![256, 256] i).emb x) := by
    intro j k i x
    obtain ⟨e1, e2⟩ := reshape_idx h x
    have q0 : (Shape.reshapeEquiv h x 0).val < 1 := (Shape.reshapeEquiv h x 0).isLt
    have x1 : (x 1).val < 256 := (x 1).isLt
    refine congrArg (H.read (Elt F) X) (funext fun a => Fin.ext ?_)
    match a with
    | ⟨0, _⟩ => show j.val + 1 * (Shape.reshapeEquiv h x 0).val = (256 * j.val + 1 * (x 1).val) / 256; omega
    | ⟨1, _⟩ => show 0 + 1 * (Shape.reshapeEquiv h x 1).val = 0 + 1 * (x 0).val; omega
    | ⟨2, _⟩ => show 0 + 1 * (Shape.reshapeEquiv h x 2).val = (256 * j.val + 1 * (x 1).val) % 256; omega
  intro p hp x
  simp only [colCopies, List.mem_cons, List.not_mem_nil, or_false] at hp
  rcases hp with rfl | rfl | rfl | rfl
  · exact key 3 k₃ i₃ x
  · exact key 2 k₂ i₂ x
  · exact key 1 k₁ i₁ x
  · exact key 0 k₀ i₀ x

theorem read_colCopies (v : View sig κ sp ⟨2, ![256, 1024]⟩ .bf16) (f : v.ty.Contents (Elt F)) (H : View sig κ' sp' ⟨3, ![4, 256, 256]⟩ .bf16) (X : H.ty.Contents (Elt F))
    (i₀ i₁ i₂ i₃ k₀ k₁ k₂ k₃) (h) : v.read (Elt F) (v.writes (Elt F) f (colCopies H X i₀ i₁ i₂ i₃ k₀ k₁ k₂ k₃ h)) = beside (H.read (Elt F) X) :=
  read_pieces v f _ _ (colCopies_agree H X i₀ i₁ i₂ i₃ k₀ k₁ k₂ k₃ h) (cols_cover i₀ i₁ i₂ i₃ _ _ _ _)

theorem readCov_colCopies (v : View sig κ sp ⟨2, ![256, 1024]⟩ .bf16) (H : View sig κ' sp' ⟨3, ![4, 256, 256]⟩ .bf16) (X : H.ty.Contents (Elt F))
    (i₀ i₁ i₂ i₃ k₀ k₁ k₂ k₃) (h) (inb) :
    v.readCov (colCopies H X i₀ i₁ i₂ i₃ k₀ k₁ k₂ k₃ h) (Rect.unit (s := ⟨2, ![256, 1024]⟩) ![0, 0] ![256, 1024] inb).toLoadRect = beside (H.read (Elt F) X) :=
  (readCov_pieces v _ _ (colCopies_agree H X i₀ i₁ i₂ i₃ k₀ k₁ k₂ k₃ h) (cols_cover i₀ i₁ i₂ i₃ _ _ _ _) _).trans (ld_all (F := F) (e := .bf16) _ inb)

/-- A square weight is copied whole. -/
theorem read_copy (v : View sig κ sp ⟨2, ![1024, 1024]⟩ .bf16) (f : v.ty.Contents (Elt F)) (X : (⟨2, ![1024, 1024]⟩ : Shape).Idx → Elt F .bf16) :
    v.read (Elt F) (v.writes (Elt F) f [⟨Rect.whole ⟨2, ![1024, 1024]⟩, X⟩]) = X := by
  refine read_pieces v f X _ (fun p hp x => ?_) fun y => ⟨_, List.mem_cons_self, by
    show y ∈ (Rect.whole ⟨2, ![1024, 1024]⟩).set; rw [Rect.set_whole]; exact Finset.mem_univ y⟩
  obtain rfl := List.mem_singleton.1 hp
  exact congrArg X (Rect.emb_whole_apply _ x).symm

theorem readCov_copy (v : View sig κ sp ⟨2, ![1024, 1024]⟩ .bf16) (X : (⟨2, ![1024, 1024]⟩ : Shape).Idx → Elt F .bf16) (inb) :
    v.readCov [⟨Rect.whole ⟨2, ![1024, 1024]⟩, X⟩] (Rect.unit (s := ⟨2, ![1024, 1024]⟩) ![0, 0] ![1024, 1024] inb).toLoadRect = X :=
  (ld_all (F := F) (e := .bf16) _ inb).trans (read_copy v v.junk X)

end Cert.Proof.Copies

end
-- ==== Proof.Loss.Block.lean ====
/- What one grid point of the feed-forward call computes from its blocks: the gated unit chunk by chunk, the
   embeddings and their gate, the second layer norm's rows, their gradient and the three running sums. -/
module

public import proofs.«01_k».proof.Proof.Gen.LossIdeal.Skeleton
public import proofs.«01_k».proof.Proof.Copies

@[expose] public section

noncomputable section

namespace Cert.Proof.Loss

open Idealize.ShloMosaic Idealize.SL.Sem Cert.LossIdeal Cert.LossIdeal.Gen

/-- The blocks one grid point reads: its rows of the eight inputs and the five whole weights. -/
structure Blk (F : FTy → Type) where
  zh : Vec F S256x1024 .f32
  hb : Vec F S256x1024 .bf16
  p : Vec F S256x256 .f32
  tgt : Vec F S256x1024 .f32
  g1 : Vec F S1x1024 .f32
  b1 : Vec F S1x1024 .f32
  g2 : Vec F S1x1024 .f32
  b2 : Vec F S1x1024 .f32
  wg : Vec F S2816x1024 .bf16
  wu : Vec F S2816x1024 .bf16
  wd : Vec F S2816x1024 .bf16
  wp : Vec F S4x256x256 .bf16
  wpg : Vec F S1024x1024 .bf16

/-- The columns of chunk `n` of a hidden block. -/
def colRect (n : Fin 11) : Rect S256x2816 := Rect.unit ![0, 256 * n.val] S256x256.size (by
  have := n.isLt
  intro a; match a with | ⟨0, _⟩ => show 0 + 256 ≤ 256; omega | ⟨1, _⟩ => show 256 * n.val + 256 ≤ 2816; omega)

/-- The rows of chunk `n` of a weight with the hidden axis first. -/
def rowRect (n : Fin 11) : Rect S2816x1024 := Rect.unit ![256 * n.val, 0] S256x1024.size (by
  have := n.isLt
  intro a; match a with | ⟨0, _⟩ => show 256 * n.val + 256 ≤ 2816; omega | ⟨1, _⟩ => show 0 + 1024 ≤ 1024; omega)

variable {F : FTy → Type} [FloatOps F]

namespace Blk
variable (b : Blk F)

/-- The gate's input, the up projection and the gated unit on chunk `n`. -/
def g (n : Fin 11) : FVec F S256x256 .bf16 := k0_pay15 (k0_pay6 b.hb) (View.ld (Val := Elt F) b.wg (rowRect n))
def u (n : Fin 11) : FVec F S256x256 .bf16 := k0_pay16 (k0_pay6 b.hb) (View.ld (Val := Elt F) b.wu (rowRect n))
def a (n : Fin 11) : FVec F S256x256 .bf16 :=
  k0_pay17 (k0_pay6 b.hb) (View.ld (Val := Elt F) b.wg (rowRect n)) (View.ld (Val := Elt F) b.wu (rowRect n))

/-- The feed-forward output after the first `n` chunks. -/
def ffnTo : Nat → FVec F S256x1024 .f32
  | 0 => k0_pay7
  | n + 1 => k0_pay24 (b.a (Fin.ofNat 11 n)) (ffnTo n) (View.ld (Val := Elt F) b.wd (rowRect (Fin.ofNat 11 n)))

/-- The hidden column a chunk and a column in it name, read back from the column. -/
def chunkOf (k : Fin 2816) : Fin 11 := ⟨k.val / 256, by have := k.isLt; omega⟩
def inChunk (k : Fin 2816) : Fin 256 := ⟨k.val % 256, Nat.mod_lt _ (by decide)⟩

/-- A hidden block from its chunks. -/
def join (G : Fin 11 → FVec F S256x256 .bf16) : Vec F S256x2816 .bf16 :=
  fun i => G (chunkOf (i 1)) (fun a => match a with | ⟨0, _⟩ => i 0 | ⟨1, _⟩ => inChunk (i 1))

/-- The embeddings' projection as the resident memory holds it: its four blocks of columns side by side. -/
def wpe : Vec F S256x1024 .bf16 := Copies.beside b.wp

/-- The embeddings and their gate before rounding. -/
def ple32 : FVec F S256x1024 .f32 := k0_pay73 b.p b.wpe
def pg32 : FVec F S256x1024 .f32 := k0_pay74 (k0_pay6 b.hb) b.wpg

/-- The second layer norm: centred rows, inverse root, normed rows, and the two parts of its output. -/
def cen : FVec F S256x1024 .f32 := k0_pay77 (b.ffnTo 11) b.ple32 b.pg32 b.zh b.g1 b.b1
def r : FVec F S256x1 .f32 := k0_pay78 (b.ffnTo 11) b.ple32 b.pg32 b.zh b.g1 b.b1
def zh2 : FVec F S256x1024 .f32 := k0_pay79 (b.ffnTo 11) b.ple32 b.pg32 b.zh b.g1 b.b1
def zg : FVec F S256x1024 .f32 := k0_pay80 (b.ffnTo 11) b.ple32 b.pg32 b.zh b.g1 b.b1 b.g2

/-- The ten blocks it leaves. -/
def dz : Vec F S256x1024 .f32 := k0_pay84 b.tgt b.g2 b.r b.zh2 b.zg (k0_pay81 b.b2)
def dzb : Vec F S256x1024 .bf16 := k0_pay87 b.tgt b.g2 b.r b.zh2 b.zg (k0_pay81 b.b2)
def gs : Vec F S256x2816 .bf16 := join b.g
def us : Vec F S256x2816 .bf16 := join b.u
def act : Vec F S256x2816 .bf16 := join b.a
def pg : Vec F S256x1024 .bf16 := k0_pay75 (k0_pay6 b.hb) b.wpg
def ple : Vec F S256x1024 .bf16 := k0_pay76 b.ple32
def sq (prev : Vec F S8x128 .f32) : Vec F S8x128 .f32 := k0_pay88 b.tgt b.zg (k0_pay81 b.b2) prev
def dg2 (prev : Vec F S1x1024 .f32) : Vec F S1x1024 .f32 := k0_pay1 (k0_pay85 b.tgt b.zh2 b.zg (k0_pay81 b.b2)) prev
def db2 (prev : Vec F S1x1024 .f32) : Vec F S1x1024 .f32 := k0_pay2 (k0_pay86 b.tgt b.zg (k0_pay81 b.b2)) prev

/-- Read through a chunk's columns a joined block is the chunk's own. -/
theorem join_chunk (G : Fin 11 → FVec F S256x256 .bf16) (n : Fin 11) (x : (colRect n).shape.Idx) : G n x = join G ((colRect n).emb x) := by
  have h0 : ((colRect n).emb x 0).val = (x 0).val := by show 0 + 1 * (x 0).val = _; omega
  have h1 : ((colRect n).emb x 1).val = 256 * n.val + (x 1).val := by show 256 * n.val + 1 * (x 1).val = _; omega
  have hx : (x 1).val < 256 := (x 1).isLt
  have e1 : chunkOf ((colRect n).emb x 1) = n := Fin.ext (by show ((colRect n).emb x 1).val / 256 = n.val; omega)
  have e2 : (fun a : Fin 2 => match a with | ⟨0, _⟩ => (colRect n).emb x 0 | ⟨1, _⟩ => inChunk ((colRect n).emb x 1) : S256x256.Idx) = x := by
    refine funext fun a => Fin.ext ?_
    match a with
    | ⟨0, _⟩ => exact h0
    | ⟨1, _⟩ => show ((colRect n).emb x 1).val % 256 = (x 1).val; omega
  unfold join; rw [e1]; exact congrArg _ e2.symm

end Blk

/-! The chunks' payloads are one computation each, whichever part of the body spells them. -/

theorem same_g : k0_pay19 (F := F) = k0_pay13 ∧ k0_pay25 (F := F) = k0_pay13 ∧ k0_pay31 (F := F) = k0_pay13 ∧ k0_pay36 (F := F) = k0_pay13 ∧ k0_pay42 (F := F) = k0_pay13 ∧ k0_pay48 (F := F) = k0_pay13 ∧ k0_pay55 (F := F) = k0_pay13 ∧ k0_pay61 (F := F) = k0_pay13 ∧ k0_pay67 (F := F) = k0_pay13 :=
  ⟨rfl, rfl, rfl, rfl, rfl, rfl, rfl, rfl, rfl⟩
theorem same_u : k0_pay20 (F := F) = k0_pay14 ∧ k0_pay26 (F := F) = k0_pay14 ∧ k0_pay32 (F := F) = k0_pay14 ∧ k0_pay37 (F := F) = k0_pay14 ∧ k0_pay43 (F := F) = k0_pay14 ∧ k0_pay49 (F := F) = k0_pay14 ∧ k0_pay56 (F := F) = k0_pay14 ∧ k0_pay62 (F := F) = k0_pay14 ∧ k0_pay68 (F := F) = k0_pay14 :=
  ⟨rfl, rfl, rfl, rfl, rfl, rfl, rfl, rfl, rfl⟩
theorem same_a : k0_pay23 (F := F) = k0_pay17 ∧ k0_pay35 (F := F) = k0_pay17 ∧ k0_pay40 (F := F) = k0_pay17 ∧ k0_pay59 (F := F) = k0_pay17 ∧ k0_pay65 (F := F) = k0_pay17 ∧ k0_pay71 (F := F) = k0_pay29 :=
  ⟨rfl, rfl, rfl, rfl, rfl, rfl⟩

variable (hb : Vec F S256x1024 .bf16) (h : FVec F S256x1024 .bf16) (w v d e : Vec F S256x1024 .bf16) (x : FVec F S256x1024 .f32) (a a' : FVec F S256x256 .bf16)

theorem first_a : k0_pay12 (k0_pay8 hb w) (k0_pay9 hb v) = k0_pay17 (k0_pay6 hb) w v := rfl
theorem first_ffn : k0_pay18 x (k0_pay8 hb w) (k0_pay9 hb v) d = k0_pay24 (k0_pay17 (k0_pay6 hb) w v) x d := rfl
theorem a_split : k0_pay29 (k0_pay13 h w) (k0_pay14 h v) = k0_pay17 h w v := rfl
theorem a_split' : k0_pay46 h (k0_pay13 h w) v = k0_pay17 h w v := rfl
theorem a_split'' : k0_pay53 (k0_pay13 h w) (k0_pay14 h v) (k0_pay52 h w) (Scalar.ofBits .f32 0x3F800000#32) = k0_pay17 h w v := rfl
theorem two_chunks : k0_pay41 a x a' d e = k0_pay24 a' (k0_pay24 a x d) e := rfl
theorem two_chunks' : k0_pay66 x a (k0_pay60 (k0_pay13 h w) (k0_pay14 h v) (k0_pay52 h w) (Scalar.ofBits .f32 0x3F800000#32) d) e
    = k0_pay24 a (k0_pay24 (k0_pay17 h w v) x d) e := rfl
theorem two_chunks'' : k0_pay72 a x (k0_pay13 h w) (k0_pay14 h v) d e = k0_pay24 (k0_pay17 h w v) (k0_pay24 a x d) e := rfl

end Cert.Proof.Loss

end
-- ==== Proof.Loss.Body.lean ====
/- The run of one grid point of the feed-forward call: at the first point, which copies the weights in
   and clears the three running sums, and at every later point, which finds them there. -/
module

public import proofs.«01_k».proof.Proof.Gen.LossIdeal.Frame.Runs
public import proofs.«01_k».proof.Proof.Loss.Block

@[expose] public section

set_option maxRecDepth 16384

noncomputable section

namespace Cert.Proof.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LossIdeal Cert.LossIdeal.Gen

variable {F : FTy → Type} [FloatOps F]

local notation "𝕄" => MT nD τ sig Unit (Elt F) ℕ (Pipeline.UD sig nD τ) ℕ

/-- The staging and scratch memory the body is called with. -/
structure Mems where
  arg1 : Memref sig .tc .vmem S256x1024 .f32
  harg1 : arg1.IsWhole
  arg2 : Memref sig .tc .vmem S256x1024 .bf16
  harg2 : arg2.IsWhole
  arg3 : Memref sig .tc .vmem S256x256 .f32
  harg3 : arg3.IsWhole
  arg4 : Memref sig .tc .vmem S256x1024 .f32
  harg4 : arg4.IsWhole
  arg5 : Memref sig .tc .vmem S1x1024 .f32
  harg5 : arg5.IsWhole
  arg6 : Memref sig .tc .vmem S1x1024 .f32
  harg6 : arg6.IsWhole
  arg7 : Memref sig .tc .vmem S1x1024 .f32
  harg7 : arg7.IsWhole
  arg8 : Memref sig .tc .vmem S1x1024 .f32
  harg8 : arg8.IsWhole
  arg14 : Memref sig .tc .vmem S256x1024 .f32
  harg14 : arg14.IsWhole
  arg15 : Memref sig .tc .vmem S256x1024 .bf16
  harg15 : arg15.IsWhole
  arg16 : Memref sig .tc .vmem S256x2816 .bf16
  harg16 : arg16.IsWhole
  arg17 : Memref sig .tc .vmem S256x2816 .bf16
  harg17 : arg17.IsWhole
  arg18 : Memref sig .tc .vmem S256x2816 .bf16
  harg18 : arg18.IsWhole
  arg19 : Memref sig .tc .vmem S256x1024 .bf16
  harg19 : arg19.IsWhole
  arg20 : Memref sig .tc .vmem S256x1024 .bf16
  harg20 : arg20.IsWhole
  arg21 : Memref sig .tc .vmem S8x128 .f32
  harg21 : arg21.IsWhole
  arg22 : Memref sig .tc .vmem S1x1024 .f32
  harg22 : arg22.IsWhole
  arg23 : Memref sig .tc .vmem S1x1024 .f32
  harg23 : arg23.IsWhole
  arg24 : Memref sig .tc .vmem S2816x1024 .bf16
  harg24 : arg24.IsWhole
  arg25 : Memref sig .tc .vmem S2816x1024 .bf16
  harg25 : arg25.IsWhole
  arg26 : Memref sig .tc .vmem S2816x1024 .bf16
  harg26 : arg26.IsWhole
  arg27 : Memref sig .tc .vmem S256x1024 .bf16
  harg27 : arg27.IsWhole
  arg28 : Memref sig .tc .vmem S1024x1024 .bf16
  harg28 : arg28.IsWhole

/-- The eight inputs' blocks in their staging memory. -/
def ins (c : Dev nD) (M : Mems) (b : Blk F) : sProp 𝕄 :=
  iprop(owns (c : Thread nD τ) M.arg1 fullShare b.zh ∗ owns (c : Thread nD τ) M.arg2 fullShare b.hb ∗
    owns (c : Thread nD τ) M.arg3 fullShare b.p ∗ owns (c : Thread nD τ) M.arg4 fullShare b.tgt ∗
    owns (c : Thread nD τ) M.arg5 fullShare b.g1 ∗ owns (c : Thread nD τ) M.arg6 fullShare b.b1 ∗
    owns (c : Thread nD τ) M.arg7 fullShare b.g2 ∗ owns (c : Thread nD τ) M.arg8 fullShare b.b2)

/-- The ten results' staging memory, each at some contents. -/
def outsAny (c : Dev nD) (M : Mems) : sProp 𝕄 :=
  iprop((∃ d, owns (c : Thread nD τ) M.arg14 fullShare d) ∗ (∃ d, owns (c : Thread nD τ) M.arg15 fullShare d) ∗
    (∃ d, owns (c : Thread nD τ) M.arg16 fullShare d) ∗ (∃ d, owns (c : Thread nD τ) M.arg17 fullShare d) ∗
    (∃ d, owns (c : Thread nD τ) M.arg18 fullShare d) ∗ (∃ d, owns (c : Thread nD τ) M.arg19 fullShare d) ∗
    (∃ d, owns (c : Thread nD τ) M.arg20 fullShare d) ∗ (∃ d, owns (c : Thread nD τ) M.arg21 fullShare d) ∗
    (∃ d, owns (c : Thread nD τ) M.arg22 fullShare d) ∗ (∃ d, owns (c : Thread nD τ) M.arg23 fullShare d))

/-- The running sums: the squares in every lane, and the two rows of the second layer norm's gradients. -/
structure Sums (F : FTy → Type) where
  sq : Vec F S8x128 .f32
  dg2 : Vec F S1x1024 .f32
  db2 : Vec F S1x1024 .f32

/-- The sums at the start, and after a grid point. -/
def Sums.zero : Sums F := ⟨k0_pay3, k0_pay4, k0_pay5⟩
def Sums.next (b : Blk F) (s : Sums F) : Sums F := ⟨b.sq s.sq, b.dg2 s.dg2, b.db2 s.db2⟩

/-- The same memory with the three sums at known contents. -/
def outsKept (c : Dev nD) (M : Mems) (s : Sums F) : sProp 𝕄 :=
  iprop((∃ d, owns (c : Thread nD τ) M.arg14 fullShare d) ∗ (∃ d, owns (c : Thread nD τ) M.arg15 fullShare d) ∗
    (∃ d, owns (c : Thread nD τ) M.arg16 fullShare d) ∗ (∃ d, owns (c : Thread nD τ) M.arg17 fullShare d) ∗
    (∃ d, owns (c : Thread nD τ) M.arg18 fullShare d) ∗ (∃ d, owns (c : Thread nD τ) M.arg19 fullShare d) ∗
    (∃ d, owns (c : Thread nD τ) M.arg20 fullShare d) ∗ owns (c : Thread nD τ) M.arg21 fullShare s.sq ∗
    owns (c : Thread nD τ) M.arg22 fullShare s.dg2 ∗ owns (c : Thread nD τ) M.arg23 fullShare s.db2)

/-- What a grid point leaves in the results' staging memory, from the sums before it. -/
def outs (c : Dev nD) (M : Mems) (b : Blk F) (s : Sums F) : sProp 𝕄 :=
  iprop(owns (c : Thread nD τ) M.arg14 fullShare b.dz ∗ owns (c : Thread nD τ) M.arg15 fullShare b.dzb ∗
    owns (c : Thread nD τ) M.arg16 fullShare b.gs ∗ owns (c : Thread nD τ) M.arg17 fullShare b.us ∗
    owns (c : Thread nD τ) M.arg18 fullShare b.act ∗ owns (c : Thread nD τ) M.arg19 fullShare b.pg ∗
    owns (c : Thread nD τ) M.arg20 fullShare b.ple ∗ owns (c : Thread nD τ) M.arg21 fullShare (s.next b).sq ∗
    owns (c : Thread nD τ) M.arg22 fullShare (s.next b).dg2 ∗ owns (c : Thread nD τ) M.arg23 fullShare (s.next b).db2)

/-- The resident weights' memory at some contents, and holding the weights. -/
def scrAny (c : Dev nD) (M : Mems) : sProp 𝕄 :=
  iprop((∃ d, owns (c : Thread nD τ) M.arg24 fullShare d) ∗ (∃ d, owns (c : Thread nD τ) M.arg25 fullShare d) ∗
    (∃ d, owns (c : Thread nD τ) M.arg26 fullShare d) ∗ (∃ d, owns (c : Thread nD τ) M.arg27 fullShare d) ∗
    (∃ d, owns (c : Thread nD τ) M.arg28 fullShare d))
def scr (c : Dev nD) (M : Mems) (b : Blk F) : sProp 𝕄 :=
  iprop(owns (c : Thread nD τ) M.arg24 fullShare b.wg ∗ owns (c : Thread nD τ) M.arg25 fullShare b.wu ∗
    owns (c : Thread nD τ) M.arg26 fullShare b.wd ∗ owns (c : Thread nD τ) M.arg27 fullShare b.wpe ∗
    owns (c : Thread nD τ) M.arg28 fullShare b.wpg)

/-- The copies' cells at zero, and the weights in the large memory. -/
def cells (c : Dev nD) : sProp 𝕄 :=
  iprop(semVal ((c : Thread nD τ), SemLoc.dma 29) 0 ∗ semVal ((c : Thread nD τ), SemLoc.dma 30) 0 ∗
    semVal ((c : Thread nD τ), SemLoc.dma 31) 0 ∗ semVal ((c : Thread nD τ), SemLoc.dma 32) 0 ∗
    semVal ((c : Thread nD τ), SemLoc.dma 33) 0 ∗ semVal ((c : Thread nD τ), SemLoc.dma 34) 0 ∗
    semVal ((c : Thread nD τ), SemLoc.dma 35) 0 ∗ semVal ((c : Thread nD τ), SemLoc.dma 36) 0 ∗
    semVal ((c : Thread nD τ), SemLoc.dma 37) 0 ∗ semVal ((c : Thread nD τ), SemLoc.dma 38) 0 ∗
    semVal ((c : Thread nD τ), SemLoc.dma 39) 0 ∗ semVal ((c : Thread nD τ), SemLoc.dma 40) 0 ∗
    semVal ((c : Thread nD τ), SemLoc.dma 41) 0 ∗ semVal ((c : Thread nD τ), SemLoc.dma 42) 0 ∗
    semVal ((c : Thread nD τ), SemLoc.dma 43) 0 ∗ semVal ((c : Thread nD τ), SemLoc.dma 44) 0 ∗
    semVal ((c : Thread nD τ), SemLoc.dma 45) 0)
def hbm (c : Dev nD) (b : Blk F) : sProp 𝕄 :=
  iprop(hbPt0 c hbM0_0 b.wg ∗ hbPt0 c hbM0_1 b.wu ∗ hbPt0 c hbM0_2 b.wd ∗ hbPt0 c hbM0_3 b.wp ∗ hbPt0 c hbM0_4 b.wpg)

/-- The body on the memory `M`. -/
def body (i : grid0.Coords) (M : Mems) : Prog (TpuEff nD τ sig (Elt F) Λ₀ .tc) PUnit :=
  cc0_ffn_fwd i M.arg1 M.harg1 M.arg2 M.harg2 M.arg3 M.harg3 M.arg4 M.harg4 M.arg5 M.harg5 M.arg6 M.harg6 M.arg7 M.harg7 M.arg8 M.harg8 (Memref.whole main_v28) (Memref.isWhole_whole _) (Memref.whole main_v30) (Memref.isWhole_whole _)
    (Memref.whole main_v35) (Memref.isWhole_whole _) (Memref.whole main_v33) (Memref.isWhole_whole _)
    (Memref.whole main_v36) (Memref.isWhole_whole _) M.arg14 M.harg14 M.arg15 M.harg15 M.arg16 M.harg16 M.arg17 M.harg17 M.arg18 M.harg18 M.arg19 M.harg19 M.arg20 M.harg20 M.arg21 M.harg21 M.arg22 M.harg22 M.arg23 M.harg23 M.arg24 M.harg24 M.arg25 M.harg25 M.arg26 M.harg26 M.arg27 M.harg27 M.arg28 M.harg28 cc0_scratch5

/-- The eleven chunks of a hidden block. -/
abbrev chunks (G : Fin 11 → FVec F S256x256 .bf16) : List (View.Piece (Elt F) S256x2816 .bf16) :=
  [⟨colRect 10, G 10⟩, ⟨colRect 9, G 9⟩, ⟨colRect 8, G 8⟩, ⟨colRect 7, G 7⟩, ⟨colRect 6, G 6⟩, ⟨colRect 5, G 5⟩,
   ⟨colRect 4, G 4⟩, ⟨colRect 3, G 3⟩, ⟨colRect 2, G 2⟩, ⟨colRect 1, G 1⟩, ⟨colRect 0, G 0⟩]

theorem mem_chunks (G : Fin 11 → FVec F S256x256 .bf16) (p : View.Piece (Elt F) S256x2816 .bf16) :
    p ∈ chunks G ↔ ∃ n, p = ⟨colRect n, G n⟩ := by
  constructor
  · intro h
    simp only [chunks, List.mem_cons, List.not_mem_nil, or_false] at h
    rcases h with h | h | h | h | h | h | h | h | h | h | h <;> exact ⟨_, h⟩
  · rintro ⟨n, rfl⟩
    fin_cases n <;> simp [chunks]

/-- A hidden block stored chunk by chunk. -/
theorem read_chunks {κ : Kind} {sp : Space} (v : View sig κ sp S256x2816 .bf16) (f : v.ty.Contents (Elt F)) (G : Fin 11 → FVec F S256x256 .bf16) :
    v.read (Elt F) (v.writes (Elt F) f (chunks G)) = Blk.join G := by
  refine Copies.read_pieces v f _ _ (fun p hp x => ?_) fun y => ?_
  · obtain ⟨n, rfl⟩ := (mem_chunks G p).1 hp
    exact Blk.join_chunk G n x
  · have h0 : (y 0).val < 256 := (y 0).isLt
    have h1 : (y 1).val < 2816 := (y 1).isLt
    let q : Fin 11 := ⟨(y 1).val / 256, by omega⟩
    refine ⟨⟨colRect q, G q⟩, (mem_chunks G _).2 ⟨q, rfl⟩, ?_⟩
    show y ∈ (colRect q).set
    unfold colRect
    exact Copies.mem_rect _ y (Nat.zero_le _) (by omega) (by show 256 * ((y 1).val / 256) ≤ _; omega) (by show _ < 256 * ((y 1).val / 256) + 256; omega)

/-- A buffer's contents handed over by what they read. -/
theorem held (c : Dev nD) {sp : Space} {S : Shape} {e : EltTy} (M : Memref sig .tc sp S e) {f : BufTy.Contents (Elt F) M.view.ty} {x : S.Idx → Elt F e}
    (h : M.view.read (Elt F) f = x) :
    (M.view.loc (c : Thread nD τ) ↦[M.view.set]{fullShare} f : sProp 𝕄) ⊢
      iprop(∃ f, ⌜M.view.read (Elt F) f = x⌝ ∗ M.view.loc (c : Thread nD τ) ↦[M.view.set]{fullShare} f) := by
  iintro H
  iexists _; isplitr; · ipureintro; exact h
  iexact H

set_option maxHeartbeats 4000000 in set_option sl_exec.dmaWindow true in set_option sl_exec.dmaWindowSet true in
/-- The first grid point copies the weights in, clears the sums and leaves its blocks. -/
theorem first_point (c : Dev nD) (i : grid0.Coords) (M : Mems) (b : Blk F) (hc0 : cond0_0 i) (hc1 : cond0_1 i) (W : Waits sig Unit) (K : PUnit → sProp 𝕄) :
    iprop(ins c M b ∗ outsAny c M ∗ scrAny c M ∗ cells c ∗ hbm c b ∗ owes (c : Thread nD τ) 0 W ∗
      (iprop(ins c M b ∗ outs c M b Sums.zero ∗ scr c M b ∗ cells c ∗ hbm c b ∗ (∃ W', owes (c : Thread nD τ) 0 W')) -∗ K ⟨⟩))
    ⊢ wp frame (wpE (defs₀ (F := F)) Variants.none c none) Set.univ (body i M) K := by
  obtain ⟨arg1, harg1, arg2, harg2, arg3, harg3, arg4, harg4, arg5, harg5, arg6, harg6, arg7, harg7, arg8, harg8, arg14, harg14, arg15, harg15, arg16, harg16, arg17, harg17, arg18, harg18, arg19, harg19, arg20, harg20, arg21, harg21, arg22, harg22, arg23, harg23, arg24, harg24, arg25, harg25, arg26, harg26, arg27, harg27, arg28, harg28⟩ := M
  obtain ⟨zh, hb, p, tgt, g1, b1, g2, b2, wg, wu, wd, wp, wpg⟩ := b
  unfold body
  simp only [cc0_ffn_fwd_eq_skeleton]; unfold cc0_ffn_fwd_skel
  simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins outsAny scrAny cells hbm owns; dsimp only
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, ⟨⟨%ds0, %fs0, -, HS0⟩, ⟨%ds1, %fs1, -, HS1⟩, ⟨%ds2, %fs2, -, HS2⟩, ⟨%ds3, %fs3, -, HS3⟩, ⟨%ds4, %fs4, -, HS4⟩⟩, ⟨Hq0, Hq1, Hq2, Hq3, Hq4, Hq5, Hq6, Hq7, Hq8, Hq9, Hq10, Hq11, Hq12, Hq13, Hq14, Hq15, Hq16⟩, ⟨Hh0, Hh1, Hh2, Hh3, Hh4⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  have qg := Copies.readCov_copies (F := F) arg24.view (View.whole main_v28) wg
  have qu := Copies.readCov_copies (F := F) arg25.view (View.whole main_v30) wu
  have qd := Copies.readCov_copies (F := F) arg26.view (View.whole main_v35) wd
  have qp := Copies.readCov_colCopies (F := F) arg27.view (View.whole main_v33) wp
  obtain ⟨e1, e2, e3, e4, e5, e6, e7, e8, e9⟩ := same_g (F := F)
  obtain ⟨u1, u2, u3, u4, u5, u6, u7, u8, u9⟩ := same_u (F := F)
  obtain ⟨a1, a2, a3, a4, a5, a6⟩ := same_a (F := F)
  sl_exec (disch := first | sl_exact hc0 | sl_exact hc1)
  sl_step
  iapply Hk
  unfold outs scr owns; dsimp only
  isplitl [H0 H1 H2 H3 H4 H5 H6 H7]
  · isplitl [H0]; · iapply held c arg1 (harg1.read_unread _); iexact H0
    isplitl [H1]; · iapply held c arg2 (harg2.read_unread _); iexact H1
    isplitl [H2]; · iapply held c arg3 (harg3.read_unread _); iexact H2
    isplitl [H3]; · iapply held c arg4 (harg4.read_unread _); iexact H3
    isplitl [H4]; · iapply held c arg5 (harg5.read_unread _); iexact H4
    isplitl [H5]; · iapply held c arg6 (harg6.read_unread _); iexact H5
    isplitl [H6]; · iapply held c arg7 (harg7.read_unread _); iexact H6
    iapply held c arg8 (harg8.read_unread _); iexact H7
  isplitl [H8 H9 H10 H11 H12 H13 H14 H15 H16 H17]
  · isplitl [H8]; · iexists _; isplitr; swap; (iexact H8); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H9]; · iexists _; isplitr; swap; (iexact H9); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H10]; · iexists _; isplitr; swap; (iexact H10); ipureintro; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.g ⟨zh, hb, p, tgt, g1, b1, g2, b2, wg, wu, wd, wp, wpg⟩)
    isplitl [H11]; · iexists _; isplitr; swap; (iexact H11); ipureintro; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.u ⟨zh, hb, p, tgt, g1, b1, g2, b2, wg, wu, wd, wp, wpg⟩)
    isplitl [H12]; · iexists _; isplitr; swap; (iexact H12); ipureintro; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.a ⟨zh, hb, p, tgt, g1, b1, g2, b2, wg, wu, wd, wp, wpg⟩)
    isplitl [H13]; · iexists _; isplitr; swap; (iexact H13); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H14]; · iexists _; isplitr; swap; (iexact H14); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H15]; · iexists _; isplitr; swap; (iexact H15); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H16]; · iexists _; isplitr; swap; (iexact H16); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
    iexists _; isplitr; swap; (iexact H17); ipureintro; refine (Copies.read_all _ _ _ _ _).trans ?_; sl_unfold_run_names; simp only [View.readAt_eq_ld, hf0, hf1, hf2, hf3, hf4, hf5, hf6, hf7, Copies.ld_all, qg, qu, qd, qp, Copies.readCov_copy, View.readCov_cons_toLoadRect, View.read_whole, e1, e2, e3, e4, e5, e6, e7, e8, e9, u1, u2, u3, u4, u5, u6, u7, u8, u9, a1, a2, a3, a4, a5, a6, first_a, first_ffn, a_split, a_split', a_split'', two_chunks, two_chunks', two_chunks'']; rfl
  isplitl [HS0 HS1 HS2 HS3 HS4]
  · isplitl [HS0]; · iapply held c arg24 (Copies.read_copies _ _ (View.whole main_v28) wg _ _ _ _); iexact HS0
    isplitl [HS1]; · iapply held c arg25 (Copies.read_copies _ _ (View.whole main_v30) wu _ _ _ _); iexact HS1
    isplitl [HS2]; · iapply held c arg26 (Copies.read_copies _ _ (View.whole main_v35) wd _ _ _ _); iexact HS2
    isplitl [HS3]; · iapply held c arg27 (Copies.read_colCopies _ _ (View.whole main_v33) wp _ _ _ _ _ _ _ _ _); iexact HS3
    iapply held c arg28 (Copies.read_copy _ _ wpg); iexact HS4
  isplitl [Hq0 Hq1 Hq2 Hq3 Hq4 Hq5 Hq6 Hq7 Hq8 Hq9 Hq10 Hq11 Hq12 Hq13 Hq14 Hq15 Hq16]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    iexact Hq16
  isplitl [Hh0 Hh1 Hh2 Hh3 Hh4]; · iframe
  iexists _; iexact HW

set_option maxHeartbeats 4000000 in
/-- A later grid point finds the weights in and leaves its blocks, the sums added to. -/
theorem later_point (c : Dev nD) (i : grid0.Coords) (M : Mems) (b : Blk F) (s : Sums F) (hc0 : ¬cond0_0 i) (hc1 : ¬cond0_1 i) (W : Waits sig Unit) (K : PUnit → sProp 𝕄) :
    iprop(ins c M b ∗ outsKept c M s ∗ scr c M b ∗ owes (c : Thread nD τ) 0 W ∗
      (iprop(ins c M b ∗ outs c M b s ∗ scr c M b ∗ (∃ W', owes (c : Thread nD τ) 0 W')) -∗ K ⟨⟩))
    ⊢ wp frame (wpE (defs₀ (F := F)) Variants.none c none) Set.univ (body i M) K := by
  obtain ⟨arg1, harg1, arg2, harg2, arg3, harg3, arg4, harg4, arg5, harg5, arg6, harg6, arg7, harg7, arg8, harg8, arg14, harg14, arg15, harg15, arg16, harg16, arg17, harg17, arg18, harg18, arg19, harg19, arg20, harg20, arg21, harg21, arg22, harg22, arg23, harg23, arg24, harg24, arg25, harg25, arg26, harg26, arg27, harg27, arg28, harg28⟩ := M
  obtain ⟨zh, hb, p, tgt, g1, b1, g2, b2, wg, wu, wd, wp, wpg⟩ := b
  obtain ⟨s0, s1, s2⟩ := s
  unfold body
  simp only [cc0_ffn_fwd_eq_skeleton]; unfold cc0_ffn_fwd_skel
  simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold ins outsKept scr owns; dsimp only
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, ⟨%f17, %hf17, H17⟩⟩, ⟨⟨%fs0, %hs0, HS0⟩, ⟨%fs1, %hs1, HS1⟩, ⟨%fs2, %hs2, HS2⟩, ⟨%fs3, %hs3, HS3⟩, ⟨%fs4, %hs4, HS4⟩⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg21.eq_unread hf15; obtain rfl := harg22.eq_unread hf16; obtain rfl := harg23.eq_unread hf17; obtain rfl := harg24.eq_unread hs0; obtain rfl := harg25.eq_unread hs1; obtain rfl := harg26.eq_unread hs2; obtain rfl := harg27.eq_unread hs3; obtain rfl := harg28.eq_unread hs4
  obtain ⟨e1, e2, e3, e4, e5, e6, e7, e8, e9⟩ := same_g (F := F)
  obtain ⟨u1, u2, u3, u4, u5, u6, u7, u8, u9⟩ := same_u (F := F)
  obtain ⟨a1, a2, a3, a4, a5, a6⟩ := same_a (F := F)
  sl_exec (disch := first | sl_exact hc0 | sl_exact hc1)
  sl_step
  iapply Hk
  unfold outs owns; dsimp only
  isplitl [H0 H1 H2 H3 H4 H5 H6 H7]
  · isplitl [H0]; · iapply held c arg1 (harg1.read_unread _); iexact H0
    isplitl [H1]; · iapply held c arg2 (harg2.read_unread _); iexact H1
    isplitl [H2]; · iapply held c arg3 (harg3.read_unread _); iexact H2
    isplitl [H3]; · iapply held c arg4 (harg4.read_unread _); iexact H3
    isplitl [H4]; · iapply held c arg5 (harg5.read_unread _); iexact H4
    isplitl [H5]; · iapply held c arg6 (harg6.read_unread _); iexact H5
    isplitl [H6]; · iapply held c arg7 (harg7.read_unread _); iexact H6
    iapply held c arg8 (harg8.read_unread _); iexact H7
  isplitl [H8 H9 H10 H11 H12 H13 H14 H15 H16 H17]
  · isplitl [H8]; · iexists _; isplitr; swap; (iexact H8); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H9]; · iexists _; isplitr; swap; (iexact H9); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H10]; · iexists _; isplitr; swap; (iexact H10); ipureintro; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.g ⟨zh, hb, p, tgt, g1, b1, g2, b2, wg, wu, wd, wp, wpg⟩)
    isplitl [H11]; · iexists _; isplitr; swap; (iexact H11); ipureintro; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.u ⟨zh, hb, p, tgt, g1, b1, g2, b2, wg, wu, wd, wp, wpg⟩)
    isplitl [H12]; · iexists _; isplitr; swap; (iexact H12); ipureintro; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; exact read_chunks _ _ (Blk.a ⟨zh, hb, p, tgt, g1, b1, g2, b2, wg, wu, wd, wp, wpg⟩)
    isplitl [H13]; · iexists _; isplitr; swap; (iexact H13); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H14]; · iexists _; isplitr; swap; (iexact H14); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H15]; · iexists _; isplitr; swap; (iexact H15); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    isplitl [H16]; · iexists _; isplitr; swap; (iexact H16); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
    iexists _; isplitr; swap; (iexact H17); ipureintro; refine (Copies.read_all _ _ _ _ _).trans ?_; sl_unfold_run_names; simp only [View.readAt_eq_ld, hf0, hf1, hf2, hf3, hf4, hf5, hf6, hf7, hf15, hf16, hf17, hs0, hs1, hs2, hs3, hs4, Copies.ld_all, e1, e2, e3, e4, e5, e6, e7, e8, e9, u1, u2, u3, u4, u5, u6, u7, u8, u9, a1, a2, a3, a4, a5, a6, first_a, first_ffn, a_split, a_split', a_split'', two_chunks, two_chunks', two_chunks'']; rfl
  isplitl [HS0 HS1 HS2 HS3 HS4]
  · isplitl [HS0]; · iapply held c arg24 (harg24.read_unread _); iexact HS0
    isplitl [HS1]; · iapply held c arg25 (harg25.read_unread _); iexact HS1
    isplitl [HS2]; · iapply held c arg26 (harg26.read_unread _); iexact HS2
    isplitl [HS3]; · iapply held c arg27 (harg27.read_unread _); iexact HS3
    iapply held c arg28 (harg28.read_unread _); iexact HS4
  iexists _; iexact HW

end Cert.Proof.Loss

end
-- ==== Proof.Loss.Frame.lean ====
/- The feed-forward call's run: the proof data of its pipeline, point by point from the body's two
   triples, and its frame. -/
module

public import proofs.«01_k».proof.Proof.Loss.Body
public import Idealize.ShloMosaic.Lib.Claim

@[expose] public section

set_option maxRecDepth 16384

noncomputable section

namespace Cert.Proof.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossIdeal Cert.LossIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The memory the body is called with at point `t`. -/
def mems (t : Fin cfg0.N) : Mems := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, scM0_0, Memref.isWhole_whole _, scM0_1, Memref.isWhole_whole _, scM0_2, Memref.isWhole_whole _, scM0_3, Memref.isWhole_whole _, scM0_4, Memref.isWhole_whole _⟩

/-- The blocks it finds there. -/
def blk (c : Dev nD) (t : Fin cfg0.N) : Blk F :=
  ⟨iblk m c 0 t, iblk m c 1 t, iblk m c 2 t, iblk m c 3 t, iblk m c 4 t, iblk m c 5 t, iblk m c 6 t, iblk m c 7 t,
   V m c main_v28, V m c main_v30, V m c main_v35, V m c main_v33, V m c main_v36⟩

theorem points : cfg0.N = 16 := N_0

/-- Point `n`. -/
def pt (n : Nat) : Fin cfg0.N := ⟨n % cfg0.N, Nat.mod_lt _ (by rw [points]; decide)⟩
theorem pt_val (t : Fin cfg0.N) : pt t.val = t := Fin.ext (Nat.mod_eq_of_lt t.isLt)

/-- The running sums before point `n`. -/
def sumsBefore (c : Dev nD) : Nat → Sums F
  | 0 => Sums.zero
  | n + 1 => (sumsBefore c n).next (blk m c (pt n))

/-- What holds between points: at first the launch's memory, later the weights in their resident memory. -/
def Phi (c : Dev nD) : Nat → sProp 𝕄
  | 0 => Pipeline.ΦD osem0 spec0 H0 (V m) c
  | n + 1 => iprop(scr c (mems (pt n)) (blk m c (pt n)) ∗ (∃ r, prngReg c r) ∗ cells c ∗ hbm c (blk m c (pt n)))

/-- The launch's memory, in the same parts. -/
theorem PhiD_eq (c : Dev nD) (t : Fin cfg0.N) : (Pipeline.ΦD osem0 spec0 H0 (V m) c : sProp 𝕄)
    = iprop(scrAny c (mems t) ∗ (∃ r, prngReg c r) ∗ cells c ∗ hbm c (blk m c t)) := by
  rw [PhiD0_eq]; rfl

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blk m c t).dz
    | ⟨9, _⟩ => (blk m c t).dzb
    | ⟨10, _⟩ => (blk m c t).gs
    | ⟨11, _⟩ => (blk m c t).us
    | ⟨12, _⟩ => (blk m c t).act
    | ⟨13, _⟩ => (blk m c t).pg
    | ⟨14, _⟩ => (blk m c t).ple
    | ⟨15, _⟩ => ((sumsBefore m c t.val).next (blk m c t)).sq
    | ⟨16, _⟩ => ((sumsBefore m c t.val).next (blk m c t)).dg2
    | ⟨17, _⟩ => ((sumsBefore m c t.val).next (blk m c t)).db2
    | ⟨_ + 18, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d

/-- At a later point each sum's memory holds what the point before left. -/
theorem before_15 (c : Dev nD) (t : Fin cfg0.N) (h : t.val ≠ 0) (d) : (dats m 0 c).before 15 t d = (sumsBefore m c t.val).sq := by
  have hN : t.val < 16 := lt_of_lt_of_eq t.isLt points
  obtain ⟨n, hn⟩ : ∃ n, t.val = n + 1 := ⟨t.val - 1, by omega⟩
  rw [Dat.before_out_kept _ 15 rfl t (by omega) (Bool.eq_false_iff.mpr fun h => by have := (flush0_15 _).mp h; dsimp only at this; omega)
    (fun _ => rfl) (fun _ _ => rfl)]
  dsimp only [dats]
  simp only [hn, Nat.add_sub_cancel]
  rw [← pt_val ⟨n, _⟩]
  rfl
theorem before_16 (c : Dev nD) (t : Fin cfg0.N) (h : t.val ≠ 0) (d) : (dats m 0 c).before 16 t d = (sumsBefore m c t.val).dg2 := by
  have hN : t.val < 16 := lt_of_lt_of_eq t.isLt points
  obtain ⟨n, hn⟩ : ∃ n, t.val = n + 1 := ⟨t.val - 1, by omega⟩
  rw [Dat.before_out_kept _ 16 rfl t (by omega) (Bool.eq_false_iff.mpr fun h => by have := (flush0_16 _).mp h; dsimp only at this; omega)
    (fun _ => rfl) (fun _ _ => rfl)]
  dsimp only [dats]
  simp only [hn, Nat.add_sub_cancel]
  rw [← pt_val ⟨n, _⟩]
  rfl
theorem before_17 (c : Dev nD) (t : Fin cfg0.N) (h : t.val ≠ 0) (d) : (dats m 0 c).before 17 t d = (sumsBefore m c t.val).db2 := by
  have hN : t.val < 16 := lt_of_lt_of_eq t.isLt points
  obtain ⟨n, hn⟩ : ∃ n, t.val = n + 1 := ⟨t.val - 1, by omega⟩
  rw [Dat.before_out_kept _ 17 rfl t (by omega) (Bool.eq_false_iff.mpr fun h => by have := (flush0_17 _).mp h; dsimp only at this; omega)
    (fun _ => rfl) (fun _ _ => rfl)]
  dsimp only [dats]
  simp only [hn, Nat.add_sub_cancel]
  rw [← pt_val ⟨n, _⟩]
  rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 4000000 in
/-- The body at any point: the first by `first_point`, a later one by `later_point`. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt points
  have hsucc : (dats m 0 c).Φ t.succ = iprop(scr c (mems t) (blk m c t) ∗ (∃ r, prngReg c r) ∗ cells c ∗ hbm c (blk m c t)) := by
    show Phi m c (t.val + 1) = _
    rw [Phi, pt_val]
  have hbody : bodyAt0 (F := F) t = body (grid0.coords t) (mems t) := rfl
  unfold bodyPre bodyPost
  rw [hsucc, hbody]
  simp only [before_0, before_1, before_2, before_3, before_4, before_5, before_6, before_7]
  unfold Dat.owesAt Pipeline.owesWithin
  rw [show (dats m 0 c).owed t.castSucc = 0 from rfl, show (dats m 0 c).owed t.succ = 0 from rfl]
  by_cases h0 : t.val = 0
  · have hc : t.val % 16 = 0 := by omega
    rw [show (dats m 0 c).Φ t.castSucc = Pipeline.ΦD osem0 spec0 H0 (V m) c from by show Phi m c t.val = _; rw [h0, Phi], PhiD_eq m c t]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply first_point c (grid0.coords t) (mems t) (blk m c t) ((hcond0_0 t).mpr hc) ((hcond0_1 t).mpr hc) W _
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15 H16 H17]
    · unfold outsAny
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      iexists _; iexact H17
    isplitl [HS]; · iexact HS
    isplitl [Hq]; · iexact Hq
    isplitl [Hh]; · iexact Hh
    isplitl [HW]; · iexact HW
    iintro ⟨Hins, Houts, HS, Hq, Hh, HW⟩
    isplitl [HS Hg Hq Hh]
    · isplitl [HS]; · iexact HS
      isplitl [Hg]; · iexact Hg
      isplitl [Hq]; · iexact Hq
      iexact Hh
    isplitl [HW]
    · icases HW with ⟨%W', HW⟩; iexists W'; isplitr; · ipureintro; exact fun _ _ => Or.inl trivial
      iexact HW
    unfold ins outs; dsimp only [dats, mems, blk]
    icases Hins with ⟨H0, H1, H2, H3, H4, H5, H6, H7⟩
    icases Houts with ⟨H8, H9, H10, H11, H12, H13, H14, H15, H16, H17⟩
    rw [h0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · have hc : ¬t.val % 16 = 0 := by omega
    obtain ⟨n, hn⟩ : ∃ n, t.val = n + 1 := ⟨t.val - 1, by omega⟩
    rw [show (dats m 0 c).Φ t.castSucc = iprop(scr c (mems t) (blk m c t) ∗ (∃ r, prngReg c r) ∗ cells c ∗ hbm c (blk m c t)) from by
      show Phi m c t.val = _; rw [hn, Phi]; rfl]
    simp only [before_15 m c t h0, before_16 m c t h0, before_17 m c t h0]
    iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply later_point c (grid0.coords t) (mems t) (blk m c t) (sumsBefore m c t.val) (fun h => hc ((hcond0_0 t).mp h)) (fun h => hc ((hcond0_1 t).mp h)) W _
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 H11 H12 H13 H14 H15 H16 H17]
    · unfold outsKept
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexact H15
      isplitl [H16]; · iexact H16
      iexact H17
    isplitl [HS]; · iexact HS
    isplitl [HW]; · iexact HW
    iintro ⟨Hins, Houts, HS, HW⟩
    isplitl [HS Hg Hq Hh]
    · isplitl [HS]; · iexact HS
      isplitl [Hg]; · iexact Hg
      isplitl [Hq]; · iexact Hq
      iexact Hh
    isplitl [HW]
    · icases HW with ⟨%W', HW⟩; iexists W'; isplitr; · ipureintro; exact fun _ _ => Or.inl trivial
      iexact HW
    unfold ins outs; dsimp only [dats, mems, blk]
    icases Hins with ⟨H0, H1, H2, H3, H4, H5, H6, H7⟩
    icases Houts with ⟨H8, H9, H10, H11, H12, H13, H14, H15, H16, H17⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Pipeline.ΦD osem0 spec0 H0 (V m) c from rfl]

/-- After the last point the resident memory is given back. -/
theorem hout (c : Dev nD) : (dats m 0 c).Φ (Fin.last cfg0.N) ⊢ Pipeline.ΦD osem0 spec0 H0 (V m) c := by
  rw [show (dats m 0 c).Φ (Fin.last cfg0.N) = iprop(scr c (mems (pt 15)) (blk m c (pt 15)) ∗ (∃ r, prngReg c r) ∗ cells c ∗ hbm c (blk m c (pt 15))) from by
    show Phi m c (Fin.last cfg0.N).val = _; rw [Fin.val_last, points, Phi], PhiD_eq m c (pt 15)]
  unfold scr scrAny
  iintro ⟨⟨HS0, HS1, HS2, HS3, HS4⟩, Hg, Hq, Hh⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  isplitl [Hg]; · iexact Hg
  isplitl [Hq]; · iexact Hq
  iexact Hh

set_option backward.isDefEq.respectTransparency.types false in
/-- The launch: every array of the pipeline ends as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame's statement: the arguments end unchanged and every counter at zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0)

theorem frame : Kept m ρ :=
  θ_run_and (frame_of m ρ (dats m) (A_eq m) (run_main m ρ)) ((θ_run defs _ _).mono (fun _ h => h.2) (run_main_quiescent m ρ))

end Cert.Proof.Loss
-- ==== Proof.Loss.Claims.lean ====
/- The frames of the feed-forward call, of its idealization and of their reference. -/
module

public import proofs.«01_k».proof.Defs
public import proofs.«01_k».proof.Proof.Gen.Loss
public import proofs.«01_k».proof.Proof.Loss.Frame
public import proofs.«01_k».proof.Proof.Gen.LossRefIdeal.Run
public import Idealize.ShloMosaic.Lib.Quiescent

@[expose] public section

noncomputable section

namespace Cert.Proof.Loss

open Idealize.ShloMosaic Idealize.SL.Sem

/-- The kernel's frame on machine numbers: the idealization has the same text, so its run, which holds over any
    float values, is the kernel's. -/
theorem frame_loss : Cert.quiescent_Loss := by
  have same : Cert.quiescent_Loss = ∀ m ρ, True → Kept (F := Bits) m ρ := by sl_kernel_rfl
  rw [same]
  exact fun m ρ _ => frame m ρ

theorem frame_lossIdeal : Cert.quiescent_LossIdeal := fun m ρ _ => Cert.Proof.Loss.frame (F := Ideal) m ρ

/-- The reference keeps its arguments, and has no semaphore. -/
theorem frame_lossRefIdeal : Cert.quiescent_LossRefIdeal := fun m ρ _ =>
  (θ_run Cert.LossRefIdeal.defs _ _).mono (fun r h => ⟨fun c => (h c).2.2.2.2.2.2.2.2.2.2, sem_eq_zero_of_no_sems rfl r.2⟩)
    (Cert.LossRefIdeal.Value.run (F := Ideal) m ρ)

end Cert.Proof.Loss

end
-- ==== Proof.Loss.Row.lean ====
/- The mathematics of the feed-forward call on one row: the gated unit, the embeddings and their gate, the second layer
   norm, the error against the target and the gradient of the norm's input, as extended reals. -/
module

public import proofs.«01_k».proof.Proof.Ffn.Norm

@[expose] public section

noncomputable section

namespace Cert.Proof.Loss

open Idealize.ShloMosaic
open Cert.Proof.Ffn (scale width width_eq scale_real two_eq)

/-- One row of what the call is run on: the first layer norm's normed values and output, the embedding's row and the
    target's. -/
structure Row where
  zh : Fin 1024 → EReal
  h : Fin 1024 → EReal
  p : Fin 256 → EReal
  tgt : Fin 1024 → EReal

/-- The weights, the two hidden projections with the hidden axis first. -/
structure Weights where
  g1 : Fin 1024 → EReal
  b1 : Fin 1024 → EReal
  g2 : Fin 1024 → EReal
  b2 : Fin 1024 → EReal
  wg : Fin 2816 → Fin 1024 → EReal
  wu : Fin 2816 → Fin 1024 → EReal
  wd : Fin 2816 → Fin 1024 → EReal
  wp : Fin 256 → Fin 1024 → EReal
  wpg : Fin 1024 → Fin 1024 → EReal

/-- The inverse width, as the kernel writes it. -/
def invWidth : EReal := Ideal.ofBits .f32 0x3A800000#32

namespace Row
variable (x : Row) (w : Weights)

def g (k : Fin 2816) : EReal := ∑ d, x.h d * w.wg k d
def u (k : Fin 2816) : EReal := ∑ d, x.h d * w.wu k d
def a (k : Fin 2816) : EReal := x.g w k * sg (x.g w k) * x.u w k
def ffn (d : Fin 1024) : EReal := ∑ k, x.a w k * w.wd k d
def ple (d : Fin 1024) : EReal := ∑ e, x.p e * w.wp e d
def pg (d : Fin 1024) : EReal := sg (∑ e, x.h e * w.wpg e d)
/-- The second layer norm's input and normed values. -/
def z2 (d : Fin 1024) : EReal := scale * (x.zh d * w.g1 d + w.b1 d) + (x.ffn w d + x.pg w d * x.ple w d)
def zh2 (d : Fin 1024) : EReal := Norm.normed (x.z2 w) d
/-- The error, the gradient of the norm's output, of its normed values, and of its input. -/
def err (d : Fin 1024) : EReal := x.zh2 w d * w.g2 d + w.b2 d - x.tgt d
def dy (d : Fin 1024) : EReal := x.err w d * invWidth
def dyg (d : Fin 1024) : EReal := x.dy w d * w.g2 d
def dz (d : Fin 1024) : EReal :=
  Norm.inv (x.z2 w) * (x.dyg w d - Ideal.div (∑ e, x.dyg w e) width - x.zh2 w d * Ideal.div (∑ e, x.dyg w e * x.zh2 w e) width)

end Row

/-! ## Constants -/

theorem half_eq : Ideal.ofBits .f32 0x3F000000#32 = ((1 / 2 : ℝ) : EReal) := by
  simp [Ideal.ofBits, Ideal.ieee, -EReal.coe_mul]; norm_num
theorem invWidth_eq : invWidth = ((1 / 1024 : ℝ) : EReal) := by
  unfold invWidth; simp [Ideal.ofBits, Ideal.ieee, -EReal.coe_mul]; norm_num
theorem twice_width_eq : Ideal.ofBits .f32 0x45000000#32 = ((2048 : ℝ) : EReal) := by
  simp [Ideal.ofBits, Ideal.ieee, -EReal.coe_mul]; norm_num

/-- The gradient of a mean of halved squares: the error over the width. -/
theorem mean_square (e : EReal) :
    Ideal.div (Ideal.ofBits .f32 0x3F000000#32 * Ideal.ofBits .f32 0x3F800000#32) width * (Ideal.ofBits .f32 0x40000000#32 * e) = e * invWidth := by
  rw [Ideal.ofBits_one_f32, mul_one, half_eq, width_eq, two_eq, invWidth_eq, div_real _ (by norm_num), ← mul_assoc, mul_comm e, ← EReal.coe_mul]
  congr 2
  norm_num

/-- Half the sum of the rows' mean squares, times twice the width, is the sum of the squares. -/
theorem sum_squares {n : Nat} {f : Fin n → EReal} (h : ∀ t, IsReal (f t)) :
    Ideal.ofBits .f32 0x3F000000#32 * (∑ t, Ideal.div (f t) width) * Ideal.ofBits .f32 0x45000000#32 = ∑ t, f t := by
  choose f' hf using h
  simp only [hf, width_eq, half_eq, twice_width_eq, div_real _ (show (1024 : ℝ) ≠ 0 by norm_num), sum_coe, ← EReal.coe_mul]
  congr 1
  rw [← Finset.sum_div]
  ring

end Cert.Proof.Loss

end
-- ==== Proof.Loss.Total.lean ====
/- Sums over whole arrays: the host's sum of a vector, and the sum a grid point takes of its block. -/
module

public import proofs.«01_k».proof.Proof.Real
public import proofs.«01_k».proof.Proof.Gen.LossIdeal.Skeleton
import Idealize.ShloMosaic.Lib.Pointwise.Reduce

@[expose] public section

noncomputable section

namespace Cert.Proof.Loss

open Idealize.ShloMosaic Cert.LossIdeal Cert.LossIdeal.Gen

theorem sum_vec {n : Nat} (h' : (⟨1, ![n]⟩ : Shape).ReducesTo [0] ⟨0, ![]⟩) (hu : 0 < (⟨0, ![]⟩ : Shape).numel) (x : FVec Ideal ⟨1, ![n]⟩ .f32)
    (init : (⟨0, ![]⟩ : Shape).Idx → Ideal .f32) (h0 : init (Shape.Idx.first hu) = (0 : EReal)) (j) :
    Host.reduceAdd x init h' hu j = ∑ t : Fin n, x (ValueIdx.ix1 t) := by
  rw [ValueIdx.hostReduceAdd_apply]
  refine (Ideal.hostReduceAdd_r1_a0 h' x _ j).trans ?_
  rw [h0, zero_add]
  refine Finset.sum_congr rfl fun t _ => congrArg x (funext fun a => ?_)
  match a with
  | ⟨0, _⟩ => rfl

theorem sum_block (v : FVec Ideal S256x1024 .f32) :
    extractAt ![0, 0, 0] (shapeCast S1x1x1 (multiReduction .add [1, 2] S1 (shapeCast S1x256x1024 v shapeCasts_S256x1024_S1x256x1024) 0x00000000#32 reduces_S1x256x1024_S1 (.inl rfl) rfl) shapeCasts_S1_S1x1x1) inpos_S1x1x1_p0_0_0
      = (∑ r : Fin 256, ∑ d : Fin 1024, v (ValueIdx.ix2 r d) : EReal) := by
  refine (shapeCast_apply (s := S1) (t := S1x1x1) _ _ _ (ValueIdx.ix1 0) (by rw [Shape.rowMajor_val_one, Shape.rowMajor_val_three]; rfl)).trans ?_
  refine (Ideal.reduceAdd_r3_a12 (n0 := 1) (n1 := 256) (n2 := 1024) reduces_S1x256x1024_S1 (shapeCast S1x256x1024 v shapeCasts_S256x1024_S1x256x1024) _).trans ?_
  refine Finset.sum_congr rfl fun r _ => Finset.sum_congr rfl fun d _ => shapeCast_apply _ _ _ (ValueIdx.ix2 r d) ?_
  rw [Shape.rowMajor_val_two, Shape.rowMajor_val_three]
  show r.val * 1024 + d.val = (0 * 256 + r.val) * 1024 + d.val
  omega

/-- The block's sum of squares, added to every lane of what was there. -/
theorem pay88_apply (tgt : Vec Ideal S256x1024 .f32) (zg bb : FVec Ideal S256x1024 .f32) (prev : Vec Ideal S8x128 .f32) (i : S8x128.Idx) :
    k0_pay88 tgt zg bb prev i = (prev i + ∑ r : Fin 256, ∑ d : Fin 1024, k0_pay82 tgt zg bb (ValueIdx.ix2 r d) * k0_pay82 tgt zg bb (ValueIdx.ix2 r d) : EReal) := by
  have e : k0_pay88 tgt zg bb prev = addf (shapeCast S8x128 prev shapeCasts_S8x128_S8x128) (broadcast S8x128 (extractAt ![0, 0, 0] (shapeCast S1x1x1 (multiReduction .add [1, 2] S1
      (shapeCast S1x256x1024 (mulf (k0_pay82 tgt zg bb) (k0_pay82 tgt zg bb)) shapeCasts_S256x1024_S1x256x1024) 0x00000000#32 reduces_S1x256x1024_S1 (.inl rfl) rfl) shapeCasts_S1_S1x1x1) inpos_S1x1x1_p0_0_0)) := rfl
  rw [e, sum_block, shapeCast_self]
  generalize k0_pay82 tgt zg bb = v
  rfl

end Cert.Proof.Loss

end
-- ==== Proof.Loss.BlockValue.lean ====
/- One grid point's blocks, read element by element: each row of them is the mathematics of that row. -/
module

public import proofs.«01_k».proof.Proof.Loss.Block
public import proofs.«01_k».proof.Proof.Loss.Row
public import proofs.«01_k».proof.Proof.Loss.Total
public import proofs.«01_k».proof.Proof.Ffn.BlockValue

@[expose] public section

noncomputable section

namespace Cert.Proof.Loss

open Idealize.ShloMosaic Idealize.ShloMosaic.ValueIdx Idealize.SL.Sem Cert.LossIdeal Cert.LossIdeal.Gen
open Cert.Proof.Ffn (scale width col sum_row sum_col)
open Cert.Proof.Ffn.Blk (sum_chunks col_chunk)

/-! ## The payloads -/

theorem pay13_apply (h : FVec Ideal S256x1024 .bf16) (w : Vec Ideal S256x1024 .bf16) (r c : Fin 256) :
    k0_pay13 h w (ix2 r c) = ∑ d, h (ix2 r d) * w (ix2 c d) := by
  refine (Ideal.matmul_transposedRhs_apply (M := 256) (K := 1024) (N := 256) none h w _ r c).trans ?_
  show Ideal.ofBits .f32 0#32 + _ = _
  rw [Ideal.ofBits_zero_f32, zero_add]

/-- The logistic function as the kernel writes it. -/
theorem sg_kernel (x : EReal) : Ideal.div (Ideal.ofBits .f32 0x3F800000#32) (Ideal.ofBits .f32 0x3F800000#32 + Ideal.exp (Ideal.ofBits .f32 0x00000000#32 - x)) = sg x := by
  rw [Ideal.ofBits_one_f32, Ideal.ofBits_zero_f32, zero_sub]; rfl

theorem pay17_apply (h : FVec Ideal S256x1024 .bf16) (w v : Vec Ideal S256x1024 .bf16) (i : S256x256.Idx) :
    k0_pay17 h w v i = k0_pay13 h w i * sg (k0_pay13 h w i) * k0_pay13 h v i :=
  congrArg (fun s : EReal => k0_pay13 h w i * s * k0_pay13 h v i) (sg_kernel _)

theorem plain_apply {K : Nat} (x : FVec Ideal ⟨2, ![256, K]⟩ .bf16) (v : FVec Ideal ⟨2, ![K, 1024]⟩ .bf16) (r : Fin 256) (d : Fin 1024) :
    matmul (F := Ideal) (DotDims.plain 256 K 1024) none x v (constant ⟨2, ![256, 1024]⟩ .f32 0x00000000#32) (ix2 r d) = ∑ j, x (ix2 r j) * v (ix2 j d) := by
  refine (Ideal.matmul_plain_apply (M := 256) (K := K) (N := 1024) none x v _ r d).trans ?_
  show Ideal.ofBits .f32 0#32 + _ = _
  rw [Ideal.ofBits_zero_f32, zero_add]

theorem row_bcast (v : Vec Ideal S256x1 .f32) (r : Fin 256) (d : Fin 1024) : broadcastTo S256x1024 v broadcasts_S256x1_S256x1024 (ix2 r d) = v (ix2 r 0) :=
  broadcastTo_apply _ _ _ _ fun a => match a with | ⟨0, _⟩ => rfl | ⟨1, _⟩ => rfl
theorem col_bcast (g : Vec Ideal S1x1024 .f32) (r : Fin 256) (e : Fin 1024) : broadcastTo S256x1024 g broadcasts_S1x1024_S256x1024 (ix2 r e) = g (ix2 0 e) :=
  broadcastTo_apply _ _ _ _ fun a => match a with | ⟨0, _⟩ => rfl | ⟨1, _⟩ => rfl

section Norm
variable (f l p : FVec Ideal S256x1024 .f32) (z : Vec Ideal S256x1024 .f32) (g b : Vec Ideal S1x1024 .f32) (r : Fin 256) {y : Fin 1024 → EReal}
  (hy : ∀ e, scale * (z (ix2 r e) * g (ix2 0 e) + b (ix2 0 e)) + (f (ix2 r e) + p (ix2 r e) * l (ix2 r e)) = y e)
include hy

theorem pay77_apply (d : Fin 1024) : k0_pay77 f l p z g b (ix2 r d) = Norm.cen y d := by
  dsimp only [k0_pay77]
  simp only [shapeCast_self]
  have hz (e : Fin 1024) : scale * (z (ix2 r e) * broadcastTo S256x1024 g broadcasts_S1x1024_S256x1024 (ix2 r e) + broadcastTo S256x1024 b broadcasts_S1x1024_S256x1024 (ix2 r e))
      + (f (ix2 r e) + p (ix2 r e) * l (ix2 r e)) = y e := by rw [col_bcast, col_bcast]; exact hy e
  exact congrArg₂ (· - ·) (hz d) ((row_bcast _ r d).trans (congrArg (Ideal.div · width) ((sum_row _ r).trans (Finset.sum_congr rfl fun e _ => hz e))))

theorem pay78_apply : k0_pay78 f l p z g b (ix2 r 0) = Norm.inv y := by
  refine congrArg (fun x => Ideal.rsqrt (Ideal.div x width + Ideal.ofBits .f32 0x3727C5AC#32)) ((sum_row _ r).trans (Finset.sum_congr rfl fun e _ => ?_))
  exact congrArg₂ (· * ·) (pay77_apply f l p z g b r hy e) (pay77_apply f l p z g b r hy e)

theorem pay79_apply (d : Fin 1024) : k0_pay79 f l p z g b (ix2 r d) = Norm.normed y d :=
  congrArg₂ (· * ·) (pay77_apply f l p z g b r hy d) ((row_bcast _ r d).trans (pay78_apply f l p z g b r hy))

end Norm

section Tail
variable (tgt : Vec Ideal S256x1024 .f32) (g2 b2 : Vec Ideal S1x1024 .f32) (q : FVec Ideal S256x1 .f32) (z zg : FVec Ideal S256x1024 .f32) (r : Fin 256) {y : Fin 1024 → EReal}
  (hy : ∀ e, zg (ix2 r e) + b2 (ix2 0 e) - tgt (ix2 r e) = y e)
include hy

theorem pay82_apply (d : Fin 1024) : k0_pay82 tgt zg (k0_pay81 b2) (ix2 r d) = y d :=
  (congrArg (fun x : EReal => zg (ix2 r d) + x - tgt (ix2 r d)) (col_bcast b2 r d)).trans (hy d)
theorem pay83_apply (d : Fin 1024) : k0_pay83 tgt zg (k0_pay81 b2) (ix2 r d) = y d * invWidth :=
  congrArg (· * invWidth) (pay82_apply tgt b2 zg r hy d)
theorem pay84_apply (d : Fin 1024) : k0_pay84 tgt g2 q z zg (k0_pay81 b2) (ix2 r d)
    = q (ix2 r 0) * (y d * invWidth * g2 (ix2 0 d) - Ideal.div (∑ e, y e * invWidth * g2 (ix2 0 e)) width
      - z (ix2 r d) * Ideal.div (∑ e, y e * invWidth * g2 (ix2 0 e) * z (ix2 r e)) width) := by
  have hg (e : Fin 1024) : k0_pay83 tgt zg (k0_pay81 b2) (ix2 r e) * broadcastTo S256x1024 g2 broadcasts_S1x1024_S256x1024 (ix2 r e) = y e * invWidth * g2 (ix2 0 e) :=
    congrArg₂ (· * ·) (pay83_apply tgt b2 zg r hy e) (col_bcast g2 r e)
  dsimp only [k0_pay84]
  refine congrArg₂ (· * ·) (row_bcast q r d) (congrArg₂ (· - ·) (congrArg₂ (· - ·) (hg d) ((row_bcast _ r d).trans ?_)) (congrArg (z (ix2 r d) * ·) ((row_bcast _ r d).trans ?_)))
  · exact congrArg (Ideal.div · width) ((sum_row _ r).trans (Finset.sum_congr rfl fun e _ => hg e))
  · exact congrArg (Ideal.div · width) ((sum_row _ r).trans (Finset.sum_congr rfl fun e _ => congrArg (· * z (ix2 r e)) (hg e)))

end Tail

namespace Blk
variable (b : Blk Ideal)

/-- The block's rows and weights. -/
def row (r : Fin 256) : Row where
  zh d := b.zh (ix2 r d)
  h d := b.hb (ix2 r d)
  p e := b.p (ix2 r e)
  tgt d := b.tgt (ix2 r d)

def weights : Weights where
  g1 d := b.g1 (ix2 0 d)
  b1 d := b.b1 (ix2 0 d)
  g2 d := b.g2 (ix2 0 d)
  b2 d := b.b2 (ix2 0 d)
  wg k d := b.wg (ix2 k d)
  wu k d := b.wu (ix2 k d)
  wd k d := b.wd (ix2 k d)
  wp e d := b.wpe (ix2 e d)
  wpg e d := b.wpg (ix2 e d)

theorem ld_rows (w : Vec Ideal S2816x1024 .bf16) (n : Fin 11) (j : Fin 256) (d : Fin 1024) :
    View.ld (Val := Elt Ideal) w (rowRect n) (ix2 j d) = w (ix2 (col n j) d) :=
  Ffn.Blk.ld_rows w n j d

theorem pay6_eq : k0_pay6 b.hb = b.hb := by unfold k0_pay6; rw [shapeCast_self]

theorem pre_apply (w : Vec Ideal S2816x1024 .bf16) (n : Fin 11) (r j : Fin 256) :
    k0_pay13 (k0_pay6 b.hb) (View.ld (Val := Elt Ideal) w (rowRect n)) (ix2 r j) = ∑ d, b.hb (ix2 r d) * w (ix2 (col n j) d) := by
  rw [pay6_eq]
  exact (pay13_apply _ _ _ _).trans (Finset.sum_congr rfl fun d _ => congrArg (b.hb (ix2 r d) * ·) (ld_rows w n j d))

theorem g_apply (n : Fin 11) (r j : Fin 256) : b.g n (ix2 r j) = (b.row r).g b.weights (col n j) := b.pre_apply b.wg n r j
theorem u_apply (n : Fin 11) (r j : Fin 256) : b.u n (ix2 r j) = (b.row r).u b.weights (col n j) := b.pre_apply b.wu n r j
theorem a_apply (n : Fin 11) (r j : Fin 256) : b.a n (ix2 r j) = (b.row r).a b.weights (col n j) :=
  (pay17_apply _ _ _ _).trans (congrArg₂ (fun x y : EReal => x * sg x * y) (b.pre_apply b.wg n r j) (b.pre_apply b.wu n r j))

theorem join_apply {G : Fin 11 → FVec Ideal S256x256 .bf16} {f : Fin 2816 → EReal} (r : Fin 256) (h : ∀ n j, G n (ix2 r j) = f (col n j)) (k : Fin 2816) :
    join G (ix2 r k) = f k :=
  (congrArg (G (chunkOf k)) (Ffn.Blk.idx_eq r k)).trans ((h _ _).trans (congrArg f (col_chunk k)))

theorem gs_apply (r : Fin 256) (k : Fin 2816) : b.gs (ix2 r k) = (b.row r).g b.weights k := join_apply r (fun n j => b.g_apply n r j) k
theorem us_apply (r : Fin 256) (k : Fin 2816) : b.us (ix2 r k) = (b.row r).u b.weights k := join_apply r (fun n j => b.u_apply n r j) k
theorem act_apply (r : Fin 256) (k : Fin 2816) : b.act (ix2 r k) = (b.row r).a b.weights k := join_apply r (fun n j => b.a_apply n r j) k

/-- The feed-forward output after `n` chunks: the sum of theirs. -/
theorem ffnTo_apply (r : Fin 256) (d : Fin 1024) (n : Nat) :
    b.ffnTo n (ix2 r d) = ∑ i ∈ Finset.range n, ∑ j, (b.row r).a b.weights (col (Fin.ofNat 11 i) j) * b.wd (ix2 (col (Fin.ofNat 11 i) j) d) := by
  induction n with
  | zero => rw [Finset.sum_range_zero]; exact Ideal.ofBits_zero_f32
  | succ n ih =>
    rw [Finset.sum_range_succ, ← ih]
    refine congrArg (b.ffnTo n (ix2 r d) + ·) ((plain_apply _ _ r d).trans (Finset.sum_congr rfl fun j _ => ?_))
    exact congrArg₂ (· * ·) (b.a_apply _ r j) (ld_rows b.wd _ j d)

theorem ffn_apply (r : Fin 256) (d : Fin 1024) : b.ffnTo 11 (ix2 r d) = (b.row r).ffn b.weights d := by
  rw [ffnTo_apply, Row.ffn, sum_chunks, Finset.sum_range]
  refine Finset.sum_congr rfl fun n _ => ?_
  rw [show Fin.ofNat 11 n.val = n from Fin.ext (Nat.mod_eq_of_lt n.isLt)]; rfl

theorem ple32_apply (r : Fin 256) (d : Fin 1024) : b.ple32 (ix2 r d) = (b.row r).ple b.weights d := plain_apply (K := 256) _ _ r d
theorem pg32_apply (r : Fin 256) (d : Fin 1024) : b.pg32 (ix2 r d) = (b.row r).pg b.weights d := by
  unfold pg32; rw [pay6_eq]
  exact (sg_kernel _).trans (congrArg sg (plain_apply (K := 1024) b.hb b.wpg r d))
theorem ple_apply (r : Fin 256) (d : Fin 1024) : b.ple (ix2 r d) = (b.row r).ple b.weights d := b.ple32_apply r d
theorem pg_apply (r : Fin 256) (d : Fin 1024) : b.pg (ix2 r d) = (b.row r).pg b.weights d := b.pg32_apply r d

theorem z2_apply (r : Fin 256) (d : Fin 1024) :
    scale * (b.zh (ix2 r d) * b.g1 (ix2 0 d) + b.b1 (ix2 0 d)) + (b.ffnTo 11 (ix2 r d) + b.pg32 (ix2 r d) * b.ple32 (ix2 r d)) = (b.row r).z2 b.weights d := by
  rw [ffn_apply, pg32_apply, ple32_apply]; rfl
theorem r_apply (r : Fin 256) : b.r (ix2 r 0) = Norm.inv ((b.row r).z2 b.weights) := pay78_apply _ _ _ _ _ _ r (b.z2_apply r)
theorem zh2_apply (r : Fin 256) (d : Fin 1024) : b.zh2 (ix2 r d) = (b.row r).zh2 b.weights d := pay79_apply _ _ _ _ _ _ r (b.z2_apply r) d
theorem zg_apply (r : Fin 256) (d : Fin 1024) : b.zg (ix2 r d) = (b.row r).zh2 b.weights d * b.g2 (ix2 0 d) :=
  congrArg₂ (· * ·) (b.zh2_apply r d) (col_bcast b.g2 r d)
theorem err_apply (r : Fin 256) (d : Fin 1024) : b.zg (ix2 r d) + b.b2 (ix2 0 d) - b.tgt (ix2 r d) = (b.row r).err b.weights d := by
  rw [zg_apply]; rfl

theorem dz_apply (r : Fin 256) (d : Fin 1024) : b.dz (ix2 r d) = (b.row r).dz b.weights d := by
  refine (pay84_apply b.tgt b.g2 b.b2 b.r b.zh2 b.zg r (b.err_apply r) d).trans ?_
  simp only [r_apply, zh2_apply]; rfl
theorem dzb_apply (r : Fin 256) (d : Fin 1024) : b.dzb (ix2 r d) = (b.row r).dz b.weights d := b.dz_apply r d

theorem dg2_apply (p : Vec Ideal S1x1024 .f32) (d : Fin 1024) : b.dg2 p (ix2 0 d) = p (ix2 0 d) + ∑ r : Fin 256, (b.row r).dy b.weights d * (b.row r).zh2 b.weights d := by
  unfold dg2
  dsimp only [k0_pay1]
  rw [shapeCast_self]
  exact congrArg (p (ix2 0 d) + ·) ((sum_col _ d).trans (Finset.sum_congr rfl fun r _ =>
    congrArg₂ (· * ·) (pay83_apply b.tgt b.b2 b.zg r (b.err_apply r) d) (b.zh2_apply r d)))

theorem db2_apply (p : Vec Ideal S1x1024 .f32) (d : Fin 1024) : b.db2 p (ix2 0 d) = p (ix2 0 d) + ∑ r : Fin 256, (b.row r).dy b.weights d := by
  unfold db2
  dsimp only [k0_pay2]
  rw [shapeCast_self]
  exact congrArg (p (ix2 0 d) + ·) ((sum_col _ d).trans (Finset.sum_congr rfl fun r _ => pay83_apply b.tgt b.b2 b.zg r (b.err_apply r) d))

theorem sq_apply (p : Vec Ideal S8x128 .f32) (i : S8x128.Idx) : b.sq p i = p i + ∑ r : Fin 256, ∑ d, (b.row r).err b.weights d * (b.row r).err b.weights d := by
  refine (pay88_apply b.tgt b.zg (k0_pay81 b.b2) p i).trans (congrArg (p i + ·) (Finset.sum_congr rfl fun r _ => Finset.sum_congr rfl fun d _ => ?_))
  rw [pay82_apply b.tgt b.b2 b.zg r (b.err_apply r) d]

end Blk

end Cert.Proof.Loss

end
-- ==== Proof.Loss.RefValue.lean ====
/- The reference's results, read element by element: each row of them is the mathematics of that row, where the first
   layer norm is the forward pass's. -/
module

public import proofs.«01_k».proof.Proof.Loss.Row
public import proofs.«01_k».proof.Proof.Ffn.RefValue
public import proofs.«01_k».proof.Proof.Gen.LossRefIdeal.Run
public import proofs.«01_k».proof.Proof.Loss.Total

@[expose] public section

noncomputable section

namespace Cert.Proof.Loss

open Idealize.ShloMosaic Idealize.ShloMosaic.ValueIdx Idealize.SL.Sem Cert.LossRefIdeal Cert.LossRefIdeal.Gen Cert.LossRefIdeal.Value
open Cert.Proof.Ffn (scale width width_eq scale_real row_apply vec_row_apply vec_col_apply gain_apply cast_col_apply cast_row_apply sum0 sum1 sum11)

/-- The arguments. -/
structure Args where
  x : FVec Ideal S4096x1024 .f32
  yr : FVec Ideal S4096x512 .f32
  ya : FVec Ideal S4096x512 .f32
  p : FVec Ideal S4096x256 .f32
  tgt : FVec Ideal S4096x1024 .f32
  wo : FVec Ideal S1024x1024 .f32
  g1 : FVec Ideal S1x1024 .f32
  b1 : FVec Ideal S1x1024 .f32
  wg : FVec Ideal S1024x2816 .f32
  wu : FVec Ideal S1024x2816 .f32
  wd : FVec Ideal S2816x1024 .f32
  wp : FVec Ideal S256x1024 .f32
  wpg : FVec Ideal S1024x1024 .f32
  g2 : FVec Ideal S1x1024 .f32
  b2 : FVec Ideal S1x1024 .f32

/-- Every argument finite. -/
structure Args.Finite (a : Args) : Prop where
  x : ∀ i, IsReal (a.x i)
  yr : ∀ i, IsReal (a.yr i)
  ya : ∀ i, IsReal (a.ya i)
  p : ∀ i, IsReal (a.p i)
  tgt : ∀ i, IsReal (a.tgt i)
  wo : ∀ i, IsReal (a.wo i)
  g1 : ∀ i, IsReal (a.g1 i)
  b1 : ∀ i, IsReal (a.b1 i)
  wg : ∀ i, IsReal (a.wg i)
  wu : ∀ i, IsReal (a.wu i)
  wd : ∀ i, IsReal (a.wd i)
  wp : ∀ i, IsReal (a.wp i)
  wpg : ∀ i, IsReal (a.wpg i)
  g2 : ∀ i, IsReal (a.g2 i)
  b2 : ∀ i, IsReal (a.b2 i)

variable (V0 : Valuation τ sig (Elt Ideal))

/-- The reference's arguments. -/
def args : Args where
  x := V0 (Proc.devRef .tc main_arg0)
  yr := V0 (Proc.devRef .tc main_arg1)
  ya := V0 (Proc.devRef .tc main_arg2)
  p := V0 (Proc.devRef .tc main_arg3)
  tgt := V0 (Proc.devRef .tc main_arg4)
  wo := V0 (Proc.devRef .tc main_arg5)
  g1 := V0 (Proc.devRef .tc main_arg6)
  b1 := V0 (Proc.devRef .tc main_arg7)
  wg := V0 (Proc.devRef .tc main_arg8)
  wu := V0 (Proc.devRef .tc main_arg9)
  wd := V0 (Proc.devRef .tc main_arg10)
  wp := V0 (Proc.devRef .tc main_arg11)
  wpg := V0 (Proc.devRef .tc main_arg12)
  g2 := V0 (Proc.devRef .tc main_arg13)
  b2 := V0 (Proc.devRef .tc main_arg14)

/-- The first layer norm's normed values. -/
def zh1 : FVec Ideal S4096x1024 .f32 :=
  mulf (subf (res_main_v4 V0) (broadcastInDim S4096x1024 ![0, 1] bcast_S4096x1_S4096x1024_0_1 (res_main_v8 V0)))
    (broadcastInDim S4096x1024 ![0, 1] bcast_S4096x1_S4096x1024_0_1 (Host.rsqrt (addf (Host.divf (broadcastInDim S4096x1 ![0] bcast_S4096_S4096x1_0
      (Host.reduceAdd (mulf (res_main_v10 V0) (res_main_v10 V0)) (constant S_ .f32 0x00000000#32) reducesTo_S4096x1024_S4096_d1 h_S_))
      (broadcastInDim S4096x1 ![] bcast_S_S4096x1 (constant S_ .f32 0x44800000#32))) (broadcastInDim S4096x1 ![] bcast_S_S4096x1 (constant S_ .f32 0x3727C5AC#32)))))

/-- Row `t` of the first layer norm, of the embeddings and of the target. -/
def refRow (t : Fin 4096) : Row where
  zh d := zh1 V0 (ix2 t d)
  h d := res_main_v26 V0 (ix2 t d)
  p e := (args V0).p (ix2 t e)
  tgt d := (args V0).tgt (ix2 t d)

def refWeights : Weights where
  g1 d := (args V0).g1 (ix2 0 d)
  b1 d := (args V0).b1 (ix2 0 d)
  g2 d := (args V0).g2 (ix2 0 d)
  b2 d := (args V0).b2 (ix2 0 d)
  wg k d := (args V0).wg (ix2 d k)
  wu k d := (args V0).wu (ix2 d k)
  wd k d := (args V0).wd (ix2 k d)
  wp e d := (args V0).wp (ix2 e d)
  wpg e d := (args V0).wpg (ix2 e d)

/-! ## The first layer norm is finite -/

def z1 (t : Fin 4096) (d : Fin 1024) : EReal := res_main_v4 V0 (ix2 t d)

theorem z1_apply (t : Fin 4096) (d : Fin 1024) : ∃ y : Fin 1024 → EReal, ((args V0).Finite → ∀ e, IsReal (y e))
    ∧ z1 V0 t d = scale * (args V0).x (ix2 t d) + ∑ e, y e * (args V0).wo (ix2 e d) := by
  refine ⟨fun e => concatenate S4096x1024 1 [⟨S4096x512, (args V0).yr⟩, ⟨S4096x512, (args V0).ya⟩] concatenates_S4096x512_S4096x512_S4096x1024_d1 (ix2 t e), fun h e => Ffn.mix_real h.yr h.ya t e, ?_⟩
  exact congrArg (scale * (args V0).x (ix2 t d) + ·) (dotPlain_apply (M := 4096) (K := 1024) (N := 1024) _ _ t d)

theorem cen1_apply (t : Fin 4096) (d : Fin 1024) : (res_main_v10 V0 (ix2 t d) : EReal) = Norm.cen (z1 V0 t) d :=
  congrArg (z1 V0 t d - ·) ((row_apply _ t d).trans (congrArg (Ideal.div · width) ((vec_col_apply _ t).trans (sum1 _ t))))
theorem zh1_apply (t : Fin 4096) (d : Fin 1024) : zh1 V0 (ix2 t d) = Norm.normed (z1 V0 t) d := by
  refine congrArg₂ (· * ·) (cen1_apply V0 t d) ((row_apply _ t d).trans (congrArg (fun x => Ideal.rsqrt (Ideal.div x width + Ideal.ofBits .f32 0x3727C5AC#32))
    ((vec_col_apply _ t).trans ((sum1 _ t).trans (Finset.sum_congr rfl fun e _ => ?_)))))
  exact congrArg₂ (· * ·) (cen1_apply V0 t e) (cen1_apply V0 t e)
theorem h_apply (t : Fin 4096) (d : Fin 1024) : (refRow V0 t).h d = (refRow V0 t).zh d * (refWeights V0).g1 d + (refWeights V0).b1 d :=
  congrArg₂ (fun x y : EReal => (refRow V0 t).zh d * x + y) (gain_apply _ t d) (gain_apply _ t d)

section Finite
variable {V0} (h : (args V0).Finite) (t : Fin 4096)
include h

theorem zh_real (d : Fin 1024) : IsReal ((refRow V0 t).zh d) := by
  have hz (d : Fin 1024) : IsReal (z1 V0 t d) := by
    obtain ⟨y, hy, e⟩ := z1_apply V0 t d
    rw [e]
    exact (scale_real.mul (h.x _)).add (.sum fun k => (hy h k).mul (h.wo _))
  exact (congrArg IsReal (zh1_apply V0 t d)).mpr (Norm.normed_real hz d)
theorem h_real (d : Fin 1024) : IsReal ((refRow V0 t).h d) := by
  rw [h_apply]; exact ((zh_real h t d).mul (h.g1 _)).add (h.b1 _)
theorem z2_real (d : Fin 1024) : IsReal ((refRow V0 t).z2 (refWeights V0) d) := by
  have hg (k : Fin 2816) : IsReal ((refRow V0 t).g (refWeights V0) k) := .sum fun d => (h_real h t d).mul (h.wg _)
  have hu (k : Fin 2816) : IsReal ((refRow V0 t).u (refWeights V0) k) := .sum fun d => (h_real h t d).mul (h.wu _)
  have hp : IsReal ((refRow V0 t).ple (refWeights V0) d) := .sum fun e => (h.p _).mul (h.wp _)
  have hs : IsReal ((refRow V0 t).pg (refWeights V0) d) := (IsReal.sum fun e => (h_real h t e).mul (h.wpg _)).sg
  exact (scale_real.mul (((zh_real h t d).mul (h.g1 _)).add (h.b1 _))).add ((IsReal.sum fun k => (((hg k).mul (hg k).sg).mul (hu k)).mul (h.wd _)).add (hs.mul hp))
theorem err_real (d : Fin 1024) : IsReal ((refRow V0 t).err (refWeights V0) d) :=
  (((Norm.normed_real (z2_real h t) d).mul (h.g2 _)).add (h.b2 _)).sub (h.tgt _)
theorem dyg_real (d : Fin 1024) : IsReal ((refRow V0 t).dyg (refWeights V0) d) :=
  ((err_real h t d).mul (invWidth_eq ▸ .coe _)).mul (h.g2 _)

end Finite

/-! ## The results -/

/-- An entry of an array, as an extended real. -/
def ev {s : Shape} (x : FVec Ideal s .f32) (i : s.Idx) : EReal := x i

section Results
variable (t : Fin 4096)

theorem g_ref (k : Fin 2816) : ev (res_main_v27 V0) (ix2 t k) = (refRow V0 t).g (refWeights V0) k := dotPlain_apply (M := 4096) (K := 1024) (N := 2816) _ _ t k
theorem u_ref (k : Fin 2816) : ev (res_main_v28 V0) (ix2 t k) = (refRow V0 t).u (refWeights V0) k := dotPlain_apply (M := 4096) (K := 1024) (N := 2816) _ _ t k
theorem a_ref (k : Fin 2816) : ev (res_main_v30 V0) (ix2 t k) = (refRow V0 t).a (refWeights V0) k := by
  show ev (res_main_v27 V0) (ix2 t k) * Ideal.div (Ideal.ofBits .f32 0x3F800000#32) (Ideal.ofBits .f32 0x3F800000#32 + Ideal.exp (-ev (res_main_v27 V0) (ix2 t k)))
    * ev (res_main_v28 V0) (ix2 t k) = _
  rw [Ideal.ofBits_one_f32, g_ref, u_ref]; rfl
theorem ple_ref (d : Fin 1024) : ev (res_main_v32 V0) (ix2 t d) = (refRow V0 t).ple (refWeights V0) d := dotPlain_apply (M := 4096) (K := 256) (N := 1024) _ _ t d
theorem pg_ref (d : Fin 1024) : ev (res_main_v39 V0) (ix2 t d) = (refRow V0 t).pg (refWeights V0) d := by
  refine Eq.trans (b := _) ?_ (congrArg sg (dotPlain_apply (φ₁ := .f32) (φ₂ := .f32) (M := 4096) (K := 1024) (N := 1024) (res_main_v26 V0) (args V0).wpg t d))
  show Ideal.div (Ideal.ofBits .f32 0x3F800000#32) (Ideal.ofBits .f32 0x3F800000#32 + _) = _
  rw [Ideal.ofBits_one_f32]; rfl

theorem z2_ref (d : Fin 1024) : ev (res_main_v44 V0) (ix2 t d) = (refRow V0 t).z2 (refWeights V0) d := by
  have e : Host.dotGeneral (F := Ideal) (φ₁ := .f32) (φ₂ := .f32) dot_S4096x2816_S2816x1024_S4096x1024_1_0_0_1_n_n none (res_main_v30 V0) (args V0).wd (ix2 t d)
      = (refRow V0 t).ffn (refWeights V0) d :=
    (dotPlain_apply (M := 4096) (K := 2816) (N := 1024) _ _ t d).trans (Finset.sum_congr rfl fun k _ => congrArg (· * (args V0).wd (ix2 k d)) (a_ref V0 t k))
  refine (congrArg₂ (· + ·) (congrArg₂ (· + ·) (congrArg (scale * ·) (h_apply V0 t d)) e) (congrArg₂ (· * ·) (pg_ref V0 t d) (ple_ref V0 t d))).trans ?_
  exact add_assoc _ _ _

/-- The second layer norm: the centred values, the variance, the inverse root, the normed values and the error. -/
theorem cen_ref (d : Fin 1024) : ev (res_main_v50 V0) (ix2 t d) = Norm.cen ((refRow V0 t).z2 (refWeights V0)) d := by
  refine congrArg₂ (· - ·) (z2_ref V0 t d) ((row_apply _ t d).trans (congrArg (Ideal.div · width) ((vec_col_apply _ t).trans ((sum1 _ t).trans ?_))))
  exact Finset.sum_congr rfl fun e _ => z2_ref V0 t e
theorem var_ref : ev (res_main_v61 V0) (ix2 t 0) = Norm.var ((refRow V0 t).z2 (refWeights V0)) := by
  refine congrArg (fun x => Ideal.div x width + Ideal.ofBits .f32 0x3727C5AC#32) ((vec_col_apply _ t).trans ((sum1 _ t).trans (Finset.sum_congr rfl fun e _ => ?_)))
  exact congrArg₂ (· * ·) (cen_ref V0 t e) (cen_ref V0 t e)
theorem inv_ref : ev (res_main_v62 V0) (ix2 t 0) = Norm.inv ((refRow V0 t).z2 (refWeights V0)) := congrArg Ideal.rsqrt (var_ref V0 t)
theorem zh2_ref (d : Fin 1024) : ev (res_main_v67 V0) (ix2 t d) = (refRow V0 t).zh2 (refWeights V0) d :=
  congrArg₂ (· * ·) (cen_ref V0 t d) ((row_apply _ t d).trans (inv_ref V0 t))
theorem err_ref (d : Fin 1024) : ev (res_main_v72 V0) (ix2 t d) = (refRow V0 t).err (refWeights V0) d :=
  congrArg (· - (args V0).tgt (ix2 t d)) (congrArg₂ (· + ·) (congrArg₂ (· * ·) (zh2_ref V0 t d) (gain_apply _ t d)) (gain_apply _ t d))
theorem dy_ref (d : Fin 1024) : ev (res_main_v86 V0) (ix2 t d) = (refRow V0 t).dy (refWeights V0) d :=
  (congrArg₂ (· * ·) (vec_row_apply _ t d) (congrArg (Ideal.ofBits .f32 0x40000000#32 * ·) (err_ref V0 t d))).trans (mean_square _)
theorem dyg_ref (d : Fin 1024) : ev (res_main_v93 V0) (ix2 t d) = (refRow V0 t).dyg (refWeights V0) d :=
  congrArg₂ (· * ·) (dy_ref V0 t d) (gain_apply _ t d)

/-- The gradient of the layer norm's input, as the reference writes it. -/
def dzRef : FVec Ideal S4096x1024 .f32 :=
  addf (addf (res_main_v98 V0) (res_main_v107 V0)) (broadcastInDim S4096x1024 ![0] bcast_S4096_S4096x1024_0 (Host.reduceAdd (Host.divf (addf (shapeCast _ (Host.reduceAdd (Host.negf (res_main_v98 V0)) (constant S_ .f32 0x00000000#32) reducesTo_S4096x1024_S4096_d1 h_S_) shapeCasts_S4096_S4096x1) (shapeCast _ (Host.reduceAdd (Host.negf (res_main_v107 V0)) (constant S_ .f32 0x00000000#32) reducesTo_S4096x1024_S4096_d1 h_S_) shapeCasts_S4096_S4096x1)) (broadcastInDim S4096x1 ![] bcast_S_S4096x1 (constant S_ .f32 0x44800000#32))) (constant S_ .f32 0x00000000#32) reducesTo_S4096x1_S4096_d1 h_S_))

theorem v98_ref (d : Fin 1024) : ev (res_main_v98 V0) (ix2 t d) = (refRow V0 t).dyg (refWeights V0) d * Norm.inv ((refRow V0 t).z2 (refWeights V0)) :=
  congrArg₂ (· * ·) (dyg_ref V0 t d) ((row_apply _ t d).trans (inv_ref V0 t))

theorem v107_ref (d : Fin 1024) : ev (res_main_v107 V0) (ix2 t d)
    = Ideal.div ((∑ e, Norm.cen ((refRow V0 t).z2 (refWeights V0)) e * (refRow V0 t).dyg (refWeights V0) e)
        * (Ideal.ofBits .f32 0xBF000000#32 * Ideal.div (Norm.inv ((refRow V0 t).z2 (refWeights V0))) (Norm.var ((refRow V0 t).z2 (refWeights V0))))) width
      * (Ideal.ofBits .f32 0x40000000#32 * Norm.cen ((refRow V0 t).z2 (refWeights V0)) d) := by
  refine congrArg₂ (· * ·) ((vec_row_apply _ t d).trans ((sum11 _ t).trans (congrArg (Ideal.div · width) ?_))) (congrArg (Ideal.ofBits .f32 0x40000000#32 * ·) (cen_ref V0 t d))
  refine congrArg₂ (· * ·) ((cast_col_apply _ t).trans ((sum1 _ t).trans (Finset.sum_congr rfl fun e _ => congrArg₂ (· * ·) (cen_ref V0 t e) (dyg_ref V0 t e))))
    (congrArg (Ideal.ofBits .f32 0xBF000000#32 * ·) (congrArg₂ Ideal.div (inv_ref V0 t) (var_ref V0 t)))

theorem dz_ref {V0 : Valuation τ sig (Elt Ideal)} (h : (args V0).Finite) (t : Fin 4096) (d : Fin 1024) : dzRef V0 (ix2 t d) = (refRow V0 t).dz (refWeights V0) d := by
  have e1 : dzRef V0 (ix2 t d) = ev (res_main_v98 V0) (ix2 t d) + ev (res_main_v107 V0) (ix2 t d)
      + Ideal.div (∑ e, -ev (res_main_v98 V0) (ix2 t e) + ∑ e, -ev (res_main_v107 V0) (ix2 t e)) width := by
    refine congrArg (ev (res_main_v98 V0) (ix2 t d) + ev (res_main_v107 V0) (ix2 t d) + ·) ((vec_row_apply _ t d).trans ((sum11 _ t).trans ?_))
    exact congrArg (Ideal.div · width) (congrArg₂ (· + ·) ((cast_col_apply _ t).trans (sum1 _ t)) ((cast_col_apply _ t).trans (sum1 _ t)))
  rw [e1]
  simp only [v98_ref, v107_ref]
  have hz := z2_real h t
  obtain ⟨hr, hv, hv0, hrv⟩ := Norm.inv_eq hz
  exact Ffn.layer_norm (Norm.cen_real hz) (dyg_real h t) hr hv hv0 hrv (Norm.cen_sum hz) d

end Results

/-- The sum of squares, as the reference writes it, in every lane. -/
def squaresRef : FVec Ideal S8x128 .f32 :=
  broadcastInDim S8x128 ![] bcast_S_S8x128 (mulf (mulf (constant S_ .f32 0x3F000000#32) (Host.reduceAdd (Host.divf (Host.reduceAdd (mulf (res_main_v72 V0) (res_main_v72 V0)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) (constant S_ .f32 0x45000000#32))

theorem squares_ref {V0 : Valuation τ sig (Elt Ideal)} (h : (args V0).Finite) (i : S8x128.Idx) :
    squaresRef V0 i = ∑ t, ∑ d, (refRow V0 t).err (refWeights V0) d * (refRow V0 t).err (refWeights V0) d := by
  rw [← sum_squares fun t => IsReal.sum fun d => (err_real h t d).mul (err_real h t d)]
  refine congrArg (Ideal.ofBits .f32 0x3F000000#32 * · * Ideal.ofBits .f32 0x45000000#32) ?_
  refine (sum_vec reducesTo_S4096_S_d0 h_S_ _ _ Ideal.ofBits_zero_f32 _).trans ?_
  exact Finset.sum_congr rfl fun t _ => congrArg (Ideal.div · width)
    ((sum1 _ t).trans (Finset.sum_congr rfl fun d _ => congrArg₂ (· * ·) (err_ref V0 t d) (err_ref V0 t d)))

theorem dg2_ref (d : Fin 1024) :
    shapeCast S1x1024 (Host.reduceAdd (F := Ideal) (φ := .f32) (mulf (res_main_v67 V0) (res_main_v86 V0)) (constant S_ .f32 0x00000000#32) reducesTo_S4096x1024_S1024_d0 h_S_) shapeCasts_S1024_S1x1024 (ix2 0 d)
      = ∑ t, (refRow V0 t).dy (refWeights V0) d * (refRow V0 t).zh2 (refWeights V0) d :=
  (cast_row_apply _ d).trans ((sum0 _ d).trans (Finset.sum_congr rfl fun t _ =>
    (congrArg₂ (· * ·) (zh2_ref V0 t d) (dy_ref V0 t d)).trans (mul_comm _ _)))

theorem db2_ref (d : Fin 1024) :
    shapeCast S1x1024 (Host.reduceAdd (F := Ideal) (φ := .f32) (res_main_v86 V0) (constant S_ .f32 0x00000000#32) reducesTo_S4096x1024_S1024_d0 h_S_) shapeCasts_S1024_S1x1024 (ix2 0 d)
      = ∑ t, (refRow V0 t).dy (refWeights V0) d :=
  (cast_row_apply _ d).trans ((sum0 _ d).trans (Finset.sum_congr rfl fun t _ => dy_ref V0 t d))

end Cert.Proof.Loss

end
-- ==== Proof.Loss.Saved.lean ====
/- The values the feed-forward call is run on are the reference's forward values. -/
module

public import proofs.«01_k».proof.Proof.Loss.BlockValue
public import proofs.«01_k».proof.Proof.Loss.Frame
public import proofs.«01_k».proof.Proof.Loss.RefValue
public import proofs.«01_k».proof.Proof.Gen.LossRefIdeal.Read
public import Idealize.ShloMosaic.Lib.Pipeline.ValueKit.Geometry

@[expose] public section

noncomputable section

namespace Cert.Proof.Loss

open Idealize.ShloMosaic Idealize.ShloMosaic.TcCoe Idealize.ShloMosaic.ValueIdx Idealize.SL.Sem
open Cert.LossIdeal Cert.LossIdeal.Gen
open Cert.LossRefIdeal.Read (val_main_v22 val_main_v26)

variable (m : (ℓ : Loc nD τ sig) → Buf (Elt Ideal) ℓ)
variable (V0 : Valuation Cert.LossRefIdeal.τ Cert.LossRefIdeal.sig (Elt Ideal))

/-- The kernel's arguments on core `c`. -/
def kargs (c : Dev nD) : Args where
  x := m ((c.tc : Thread nD τ).loc main_arg0)
  yr := m ((c.tc : Thread nD τ).loc main_arg1)
  ya := m ((c.tc : Thread nD τ).loc main_arg2)
  p := m ((c.tc : Thread nD τ).loc main_arg3)
  tgt := m ((c.tc : Thread nD τ).loc main_arg4)
  wo := m ((c.tc : Thread nD τ).loc main_arg5)
  g1 := m ((c.tc : Thread nD τ).loc main_arg6)
  b1 := m ((c.tc : Thread nD τ).loc main_arg7)
  wg := m ((c.tc : Thread nD τ).loc main_arg8)
  wu := m ((c.tc : Thread nD τ).loc main_arg9)
  wd := m ((c.tc : Thread nD τ).loc main_arg10)
  wp := m ((c.tc : Thread nD τ).loc main_arg11)
  wpg := m ((c.tc : Thread nD τ).loc main_arg12)
  g2 := m ((c.tc : Thread nD τ).loc main_arg13)
  b2 := m ((c.tc : Thread nD τ).loc main_arg14)

/-- Row `r` of point `t`'s block, in the whole array. -/
def rowOf (t : Fin cfg0.N) (r : Fin 256) : Fin 4096 := ⟨256 * t.val + r.val, by have := t.isLt; have := points; have := r.isLt; omega⟩

section Rows
variable (c : Dev nD) (t : Fin cfg0.N) (r : Fin 256)

theorem coords_val : (grid0.coords t 0).val = t.val := by
  have := t.isLt; have := points
  have e0 : (grid0.coords t 0).val = t.val / 1 % 16 := Pipeline.Grid.coords_val t 0 (by decide) rfl
  omega

theorem idx_ext {n k : Nat} (i j : (⟨2, ![n, k]⟩ : Shape).Idx) (h0 : (i 0).val = (j 0).val) (h1 : (i 1).val = (j 1).val) : i = j :=
  funext fun a => Fin.ext (match a with | ⟨0, _⟩ => h0 | ⟨1, _⟩ => h1)

/-- Point `t`'s block starts at row `256 t`. -/
theorem row_val : (BitVec.ofNat 32 (grid0.coords t 0).val).toNat * 256 + r.val = 256 * t.val + r.val := by
  have := t.isLt; have := points
  rw [coords_val, BitVec.toNat_ofNat, Nat.mod_eq_of_lt (by omega), Nat.mul_comm]
theorem col_val (d : Nat) (n : Nat) : (0#32).toNat * n + d = d := by simp

theorem iblk_0 (d : Fin 1024) : iblk m c 0 t (ix2 r d) = V m c main_v22 (ix2 (rowOf t r) d) := by
  unfold iblk; blk_simp
  exact congrArg (V m c main_v22) (idx_ext _ _ (by blk_simp; exact row_val t r) (by blk_simp; exact col_val _ _))
theorem iblk_1 (d : Fin 1024) : iblk m c 1 t (ix2 r d) = V m c main_v34 (ix2 (rowOf t r) d) := by
  unfold iblk; blk_simp
  exact congrArg (V m c main_v34) (idx_ext _ _ (by blk_simp; exact row_val t r) (by blk_simp; exact col_val _ _))
theorem iblk_2 (e : Fin 256) : iblk m c 2 t (ix2 r e) = V m c main_arg3 (ix2 (rowOf t r) e) := by
  unfold iblk; blk_simp
  exact congrArg (V m c main_arg3) (idx_ext _ _ (by blk_simp; exact row_val t r) (by blk_simp; exact col_val _ _))
theorem iblk_3 (d : Fin 1024) : iblk m c 3 t (ix2 r d) = V m c main_arg4 (ix2 (rowOf t r) d) := by
  unfold iblk; blk_simp
  exact congrArg (V m c main_arg4) (idx_ext _ _ (by blk_simp; exact row_val t r) (by blk_simp; exact col_val _ _))
theorem iblk_4 (d : Fin 1024) : iblk m c 4 t (ix2 0 d) = V m c main_arg6 (ix2 0 d) := by
  unfold iblk; blk_simp
  exact congrArg (V m c main_arg6) (idx_ext _ _ (by blk_simp; rfl) (by blk_simp; exact col_val _ _))
theorem iblk_5 (d : Fin 1024) : iblk m c 5 t (ix2 0 d) = V m c main_arg7 (ix2 0 d) := by
  unfold iblk; blk_simp
  exact congrArg (V m c main_arg7) (idx_ext _ _ (by blk_simp; rfl) (by blk_simp; exact col_val _ _))
theorem iblk_6 (d : Fin 1024) : iblk m c 6 t (ix2 0 d) = V m c main_arg13 (ix2 0 d) := by
  unfold iblk; blk_simp
  exact congrArg (V m c main_arg13) (idx_ext _ _ (by blk_simp; rfl) (by blk_simp; exact col_val _ _))
theorem iblk_7 (d : Fin 1024) : iblk m c 7 t (ix2 0 d) = V m c main_arg14 (ix2 0 d) := by
  unfold iblk; blk_simp
  exact congrArg (V m c main_arg14) (idx_ext _ _ (by blk_simp; rfl) (by blk_simp; exact col_val _ _))

end Rows

/-! ## The saved values are the reference's forward values -/

section Saved
variable {m V0} {c : Dev nD} (hA : args V0 = kargs m c)
include hA

set_option maxHeartbeats 1600000 in
theorem row_eq (t : Fin cfg0.N) (r : Fin 256) : (blk m c t).row r = refRow V0 (rowOf t r) := by
  have e0 : V m c main_v22 = zh1 V0 :=
    (congrArg (fun a : Args => val_main_v22 (F := Ideal) a.x a.yr a.ya a.wo) hA).symm
  have e1 : V m c main_v34 = Cert.LossRefIdeal.Value.res_main_v26 V0 :=
    (congrArg (fun a : Args => val_main_v26 (F := Ideal) a.x a.yr a.ya a.wo a.g1 a.b1) hA).symm
  have e2 : V m c main_arg3 = (args V0).p := hA ▸ V_main_arg3 m c
  have e3 : V m c main_arg4 = (args V0).tgt := hA ▸ V_main_arg4 m c
  refine (Row.mk.injEq ..).mpr ⟨?_, ?_, ?_, ?_⟩
  · exact funext fun d => (iblk_0 m c t r d).trans (congrFun e0 _)
  · exact funext fun d => (iblk_1 m c t r d).trans (congrFun e1 _)
  · exact funext fun d => (iblk_2 m c t r d).trans (congrFun e2 _)
  · exact funext fun d => (iblk_3 m c t r d).trans (congrFun e3 _)

/-- The four column blocks of the small projection, side by side, are the whole. -/
theorem beside_wp (e : Fin 256) (d : Fin 1024) : Copies.beside (V m c main_v33) (ix2 e d) = (args V0).wp (ix2 e d) := by
  rw [hA]
  refine (congrFun (show V m c main_v33 = transpose S4x256x256 [1, 0, 2] (shapeCast S256x4x256 (kargs m c).wp shapeCasts_S256x1024_S256x4x256) transposes_S256x4x256_S4x256x256_1_0_2 from rfl) _).trans ?_
  refine (transpose_apply _ _ _ _ (ix3 (n0 := 256) (n1 := 4) (n2 := 256) e ⟨d.val / 256, by omega⟩ ⟨d.val % 256, by omega⟩)
    (fun b => match b with | ⟨0, _⟩ => rfl | ⟨1, _⟩ => rfl | ⟨2, _⟩ => rfl)).trans ?_
  refine shapeCast_apply _ _ _ (ix2 e d) ?_
  rw [Shape.rowMajor_val_two, Shape.rowMajor_val_three]
  show e.val * 1024 + d.val = (e.val * 4 + d.val / 256) * 256 + d.val % 256
  omega

set_option maxHeartbeats 1600000 in
theorem weights_eq (t : Fin cfg0.N) : (blk m c t).weights = refWeights V0 := by
  have e : refWeights V0 = ⟨fun d => (kargs m c).g1 (ix2 0 d), fun d => (kargs m c).b1 (ix2 0 d), fun d => (kargs m c).g2 (ix2 0 d), fun d => (kargs m c).b2 (ix2 0 d),
      fun k d => (kargs m c).wg (ix2 d k), fun k d => (kargs m c).wu (ix2 d k), fun k d => (kargs m c).wd (ix2 k d), fun e d => (kargs m c).wp (ix2 e d), fun e d => (kargs m c).wpg (ix2 e d)⟩ := hA ▸ rfl
  rw [e]
  refine (Weights.mk.injEq ..).mpr ⟨?_, ?_, ?_, ?_, ?_, ?_, ?_, ?_, ?_⟩
  · exact funext fun d => (iblk_4 m c t d).trans (congrFun (V_main_arg6 m c) _)
  · exact funext fun d => (iblk_5 m c t d).trans (congrFun (V_main_arg7 m c) _)
  · exact funext fun d => (iblk_6 m c t d).trans (congrFun (V_main_arg13 m c) _)
  · exact funext fun d => (iblk_7 m c t d).trans (congrFun (V_main_arg14 m c) _)
  · exact funext fun k => funext fun d => (congrFun (show V m c main_v28 = transpose S2816x1024 [1, 0] (kargs m c).wg transposes_S1024x2816_S2816x1024_1_0 from rfl) _).trans
      (transpose_apply _ _ _ _ (ix2 d k) (fun b => match b with | ⟨0, _⟩ => rfl | ⟨1, _⟩ => rfl))
  · exact funext fun k => funext fun d => (congrFun (show V m c main_v30 = transpose S2816x1024 [1, 0] (kargs m c).wu transposes_S1024x2816_S2816x1024_1_0 from rfl) _).trans
      (transpose_apply _ _ _ _ (ix2 d k) (fun b => match b with | ⟨0, _⟩ => rfl | ⟨1, _⟩ => rfl))
  · rfl
  · exact funext fun e => funext fun d => (beside_wp hA e d).trans (congrArg (fun a : Args => a.wp (ix2 e d)) hA)
  · rfl

end Saved

end Cert.Proof.Loss

end
-- ==== Proof.Loss.Value.lean ====
/- The feed-forward call's results are the reference's. -/
module

public import proofs.«01_k».proof.Proof.Loss.Saved
public import proofs.«01_k».proof.Proof.Loss.Claims
public import proofs.«01_k».proof.Proof.Gen.Pre_finite_loss

@[expose] public section

noncomputable section

namespace Cert.Proof.Loss

open Idealize.ShloMosaic Idealize.ShloMosaic.StableHlo Idealize.ShloMosaic.TcCoe Idealize.ShloMosaic.ValueIdx Idealize.SL.Sem
open Cert.LossIdeal Cert.LossIdeal.Gen

variable {m : (ℓ : Loc nD τ sig) → Buf (Elt Ideal) ℓ} {V0 : Valuation Cert.LossRefIdeal.τ Cert.LossRefIdeal.sig (Elt Ideal)}

/-! ## The precondition -/

theorem finite_of_pre (h : Cert.Pre_LossIdeal_finite_loss m) (c : Dev nD) : (kargs m c).Finite := by
  have e := congrFun (h c) (fun i => i.elim0)
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨isReal_of_all _ _ _ _ _ e, isReal_of_all _ _ _ _ _ e1, isReal_of_all _ _ _ _ _ e2, isReal_of_all _ _ _ _ _ e3, isReal_of_all _ _ _ _ _ e4, isReal_of_all _ _ _ _ _ e5, isReal_of_all _ _ _ _ _ e6, isReal_of_all _ _ _ _ _ e7, isReal_of_all _ _ _ _ _ e8, isReal_of_all _ _ _ _ _ e9, isReal_of_all _ _ _ _ _ e10, isReal_of_all _ _ _ _ _ e11, isReal_of_all _ _ _ _ _ e12, isReal_of_all _ _ _ _ _ e13, isReal_of_all _ _ _ _ _ e14⟩

/-! ## The arrays, from their blocks -/

section Arrays
variable {c : Dev nD}

theorem after_8 (t : Fin cfg0.N) : (dats m 0 c).after 8 t = (blk m c t).dz := by dsimp only [dats]
theorem emb_8 (t : Fin cfg0.N) (y : S256x1024.Idx) : (win0_8.blk t).view.emb y = ix2 (rowOf t (y 0)) (y 1) :=
  idx_ext _ _ (by blk_simp; exact row_val t (y 0)) (by blk_simp; exact col_val _ _)
theorem arr_8 {G : S4096x1024.Idx → EReal} (hG : ∀ t r k, (blk m c t).dz (ix2 r k) = G (ix2 (rowOf t r) k)) : (dats m 0 c).arrAt 8 cfg0.N = G := by
  funext i
  refine (dats m 0 c).arrAt_forall_of_covers 8 (fun i v => v = G i) (by decide +kernel) (fun t _ => ?_) i
  blk_simp
  rw [after_8]
  show ∀ y : S256x1024.Idx, (blk m c t).dz y = G ((win0_8.blk t).view.emb y)
  exact fun y => (congrArg (blk m c t).dz (idx_ext y (ix2 (y 0) (y 1)) rfl rfl)).trans ((hG t (y 0) (y 1)).trans (congrArg G (emb_8 t y).symm))
theorem after_9 (t : Fin cfg0.N) : (dats m 0 c).after 9 t = (blk m c t).dzb := by dsimp only [dats]
theorem emb_9 (t : Fin cfg0.N) (y : S256x1024.Idx) : (win0_9.blk t).view.emb y = ix2 (rowOf t (y 0)) (y 1) :=
  idx_ext _ _ (by blk_simp; exact row_val t (y 0)) (by blk_simp; exact col_val _ _)
theorem arr_9 {G : S4096x1024.Idx → EReal} (hG : ∀ t r k, (blk m c t).dzb (ix2 r k) = G (ix2 (rowOf t r) k)) : (dats m 0 c).arrAt 9 cfg0.N = G := by
  funext i
  refine (dats m 0 c).arrAt_forall_of_covers 9 (fun i v => v = G i) (by decide +kernel) (fun t _ => ?_) i
  blk_simp
  rw [after_9]
  show ∀ y : S256x1024.Idx, (blk m c t).dzb y = G ((win0_9.blk t).view.emb y)
  exact fun y => (congrArg (blk m c t).dzb (idx_ext y (ix2 (y 0) (y 1)) rfl rfl)).trans ((hG t (y 0) (y 1)).trans (congrArg G (emb_9 t y).symm))
theorem after_10 (t : Fin cfg0.N) : (dats m 0 c).after 10 t = (blk m c t).gs := by dsimp only [dats]
theorem emb_10 (t : Fin cfg0.N) (y : S256x2816.Idx) : (win0_10.blk t).view.emb y = ix2 (rowOf t (y 0)) (y 1) :=
  idx_ext _ _ (by blk_simp; exact row_val t (y 0)) (by blk_simp; exact col_val _ _)
theorem arr_10 {G : S4096x2816.Idx → EReal} (hG : ∀ t r k, (blk m c t).gs (ix2 r k) = G (ix2 (rowOf t r) k)) : (dats m 0 c).arrAt 10 cfg0.N = G := by
  funext i
  refine (dats m 0 c).arrAt_forall_of_covers 10 (fun i v => v = G i) (by decide +kernel) (fun t _ => ?_) i
  blk_simp
  rw [after_10]
  show ∀ y : S256x2816.Idx, (blk m c t).gs y = G ((win0_10.blk t).view.emb y)
  exact fun y => (congrArg (blk m c t).gs (idx_ext y (ix2 (y 0) (y 1)) rfl rfl)).trans ((hG t (y 0) (y 1)).trans (congrArg G (emb_10 t y).symm))
theorem after_11 (t : Fin cfg0.N) : (dats m 0 c).after 11 t = (blk m c t).us := by dsimp only [dats]
theorem emb_11 (t : Fin cfg0.N) (y : S256x2816.Idx) : (win0_11.blk t).view.emb y = ix2 (rowOf t (y 0)) (y 1) :=
  idx_ext _ _ (by blk_simp; exact row_val t (y 0)) (by blk_simp; exact col_val _ _)
theorem arr_11 {G : S4096x2816.Idx → EReal} (hG : ∀ t r k, (blk m c t).us (ix2 r k) = G (ix2 (rowOf t r) k)) : (dats m 0 c).arrAt 11 cfg0.N = G := by
  funext i
  refine (dats m 0 c).arrAt_forall_of_covers 11 (fun i v => v = G i) (by decide +kernel) (fun t _ => ?_) i
  blk_simp
  rw [after_11]
  show ∀ y : S256x2816.Idx, (blk m c t).us y = G ((win0_11.blk t).view.emb y)
  exact fun y => (congrArg (blk m c t).us (idx_ext y (ix2 (y 0) (y 1)) rfl rfl)).trans ((hG t (y 0) (y 1)).trans (congrArg G (emb_11 t y).symm))
theorem after_12 (t : Fin cfg0.N) : (dats m 0 c).after 12 t = (blk m c t).act := by dsimp only [dats]
theorem emb_12 (t : Fin cfg0.N) (y : S256x2816.Idx) : (win0_12.blk t).view.emb y = ix2 (rowOf t (y 0)) (y 1) :=
  idx_ext _ _ (by blk_simp; exact row_val t (y 0)) (by blk_simp; exact col_val _ _)
theorem arr_12 {G : S4096x2816.Idx → EReal} (hG : ∀ t r k, (blk m c t).act (ix2 r k) = G (ix2 (rowOf t r) k)) : (dats m 0 c).arrAt 12 cfg0.N = G := by
  funext i
  refine (dats m 0 c).arrAt_forall_of_covers 12 (fun i v => v = G i) (by decide +kernel) (fun t _ => ?_) i
  blk_simp
  rw [after_12]
  show ∀ y : S256x2816.Idx, (blk m c t).act y = G ((win0_12.blk t).view.emb y)
  exact fun y => (congrArg (blk m c t).act (idx_ext y (ix2 (y 0) (y 1)) rfl rfl)).trans ((hG t (y 0) (y 1)).trans (congrArg G (emb_12 t y).symm))
theorem after_13 (t : Fin cfg0.N) : (dats m 0 c).after 13 t = (blk m c t).pg := by dsimp only [dats]
theorem emb_13 (t : Fin cfg0.N) (y : S256x1024.Idx) : (win0_13.blk t).view.emb y = ix2 (rowOf t (y 0)) (y 1) :=
  idx_ext _ _ (by blk_simp; exact row_val t (y 0)) (by blk_simp; exact col_val _ _)
theorem arr_13 {G : S4096x1024.Idx → EReal} (hG : ∀ t r k, (blk m c t).pg (ix2 r k) = G (ix2 (rowOf t r) k)) : (dats m 0 c).arrAt 13 cfg0.N = G := by
  funext i
  refine (dats m 0 c).arrAt_forall_of_covers 13 (fun i v => v = G i) (by decide +kernel) (fun t _ => ?_) i
  blk_simp
  rw [after_13]
  show ∀ y : S256x1024.Idx, (blk m c t).pg y = G ((win0_13.blk t).view.emb y)
  exact fun y => (congrArg (blk m c t).pg (idx_ext y (ix2 (y 0) (y 1)) rfl rfl)).trans ((hG t (y 0) (y 1)).trans (congrArg G (emb_13 t y).symm))
theorem after_14 (t : Fin cfg0.N) : (dats m 0 c).after 14 t = (blk m c t).ple := by dsimp only [dats]
theorem emb_14 (t : Fin cfg0.N) (y : S256x1024.Idx) : (win0_14.blk t).view.emb y = ix2 (rowOf t (y 0)) (y 1) :=
  idx_ext _ _ (by blk_simp; exact row_val t (y 0)) (by blk_simp; exact col_val _ _)
theorem arr_14 {G : S4096x1024.Idx → EReal} (hG : ∀ t r k, (blk m c t).ple (ix2 r k) = G (ix2 (rowOf t r) k)) : (dats m 0 c).arrAt 14 cfg0.N = G := by
  funext i
  refine (dats m 0 c).arrAt_forall_of_covers 14 (fun i v => v = G i) (by decide +kernel) (fun t _ => ?_) i
  blk_simp
  rw [after_14]
  show ∀ y : S256x1024.Idx, (blk m c t).ple y = G ((win0_14.blk t).view.emb y)
  exact fun y => (congrArg (blk m c t).ple (idx_ext y (ix2 (y 0) (y 1)) rfl rfl)).trans ((hG t (y 0) (y 1)).trans (congrArg G (emb_14 t y).symm))
theorem after_15 (t : Fin cfg0.N) : (dats m 0 c).after 15 t = ((sumsBefore m c t.val).next (blk m c t)).sq := by dsimp only [dats]
theorem arr_15 : (dats m 0 c).arrAt 15 cfg0.N = (sumsBefore m c 16).sq := by
  funext i
  refine ((dats m 0 c).arrAt_emb_eq_after_last 15 (pt 15) (by decide +kernel) i).trans ?_
  blk_simp
  rw [after_15]
  show ((sumsBefore m c (pt 15).val).next (blk m c (pt 15))).sq i = (sumsBefore m c (15 + 1)).sq i
  rw [show (pt 15).val = 15 from by show 15 % cfg0.N = 15; rw [points]]
  rfl
theorem after_16 (t : Fin cfg0.N) : (dats m 0 c).after 16 t = ((sumsBefore m c t.val).next (blk m c t)).dg2 := by dsimp only [dats]
theorem arr_16 : (dats m 0 c).arrAt 16 cfg0.N = (sumsBefore m c 16).dg2 := by
  funext i
  refine ((dats m 0 c).arrAt_emb_eq_after_last 16 (pt 15) (by decide +kernel) i).trans ?_
  blk_simp
  rw [after_16]
  show ((sumsBefore m c (pt 15).val).next (blk m c (pt 15))).dg2 i = (sumsBefore m c (15 + 1)).dg2 i
  rw [show (pt 15).val = 15 from by show 15 % cfg0.N = 15; rw [points]]
  rfl
theorem after_17 (t : Fin cfg0.N) : (dats m 0 c).after 17 t = ((sumsBefore m c t.val).next (blk m c t)).db2 := by dsimp only [dats]
theorem arr_17 : (dats m 0 c).arrAt 17 cfg0.N = (sumsBefore m c 16).db2 := by
  funext i
  refine ((dats m 0 c).arrAt_emb_eq_after_last 17 (pt 15) (by decide +kernel) i).trans ?_
  blk_simp
  rw [after_17]
  show ((sumsBefore m c (pt 15).val).next (blk m c (pt 15))).db2 i = (sumsBefore m c (15 + 1)).db2 i
  rw [show (pt 15).val = 15 from by show 15 % cfg0.N = 15; rw [points]]
  rfl

end Arrays

/-- A sum over the rows, block by block. -/
theorem sum_rows (f : Fin 4096 → EReal) : ∑ t, f t = ∑ n ∈ Finset.range 16, ∑ r, f (rowOf (pt n) r) := by
  rw [← Fin.sum_univ_eq_sum_range (fun n => ∑ r, f (rowOf (pt n) r)) 16, ← Fintype.sum_prod_type', ← Equiv.sum_comp (finProdFinEquiv (m := 16) (n := 256)) (fun k : Fin (16 * 256) => f k)]
  refine Finset.sum_congr rfl fun x _ => congrArg f (Fin.ext ?_)
  show x.2.val + 256 * x.1.val = 256 * (x.1.val % cfg0.N) + x.2.val
  rw [points, Nat.mod_eq_of_lt x.1.isLt, Nat.add_comm]

section Results
variable {c : Dev nD} (hA : args V0 = kargs m c)
include hA

theorem sq_to (n : Nat) (i : S8x128.Idx) : (sumsBefore m c n).sq i
    = ∑ j ∈ Finset.range n, ∑ r, ∑ d, (refRow V0 (rowOf (pt j) r)).err (refWeights V0) d * (refRow V0 (rowOf (pt j) r)).err (refWeights V0) d := by
  induction n with
  | zero => rw [Finset.sum_range_zero]; exact Ideal.ofBits_zero_f32
  | succ n ih =>
    refine (Blk.sq_apply _ _ _).trans ?_
    rw [ih, Finset.sum_range_succ]
    simp only [row_eq hA, weights_eq hA]
theorem dg2_to (n : Nat) (d : Fin 1024) : (sumsBefore m c n).dg2 (ix2 0 d)
    = ∑ i ∈ Finset.range n, ∑ r, (refRow V0 (rowOf (pt i) r)).dy (refWeights V0) d * (refRow V0 (rowOf (pt i) r)).zh2 (refWeights V0) d := by
  induction n with
  | zero => rw [Finset.sum_range_zero]; exact Ideal.ofBits_zero_f32
  | succ n ih =>
    refine (Blk.dg2_apply _ _ _).trans ?_
    rw [ih, Finset.sum_range_succ]
    simp only [row_eq hA, weights_eq hA]
theorem db2_to (n : Nat) (d : Fin 1024) : (sumsBefore m c n).db2 (ix2 0 d)
    = ∑ i ∈ Finset.range n, ∑ r, (refRow V0 (rowOf (pt i) r)).dy (refWeights V0) d := by
  induction n with
  | zero => rw [Finset.sum_range_zero]; exact Ideal.ofBits_zero_f32
  | succ n ih =>
    refine (Blk.db2_apply _ _ _).trans ?_
    rw [ih, Finset.sum_range_succ]
    simp only [row_eq hA, weights_eq hA]

end Results

/-- The arrays after the run, as the reference writes them. -/
theorem arrays {c : Dev nD} (hA : args V0 = kargs m c) (hF : (args V0).Finite) :
    (dats m 0 c).arrAt 8 cfg0.N = (dzRef V0 : S4096x1024.Idx → EReal)
    ∧ (dats m 0 c).arrAt 9 cfg0.N = (dzRef V0 : S4096x1024.Idx → EReal)
    ∧ (dats m 0 c).arrAt 10 cfg0.N = (Cert.LossRefIdeal.Value.res_main_v27 V0 : S4096x2816.Idx → EReal)
    ∧ (dats m 0 c).arrAt 11 cfg0.N = (Cert.LossRefIdeal.Value.res_main_v28 V0 : S4096x2816.Idx → EReal)
    ∧ (dats m 0 c).arrAt 12 cfg0.N = (Cert.LossRefIdeal.Value.res_main_v30 V0 : S4096x2816.Idx → EReal)
    ∧ (dats m 0 c).arrAt 13 cfg0.N = (Cert.LossRefIdeal.Value.res_main_v39 V0 : S4096x1024.Idx → EReal)
    ∧ (dats m 0 c).arrAt 14 cfg0.N = (Cert.LossRefIdeal.Value.res_main_v32 V0 : S4096x1024.Idx → EReal) := by
  refine ⟨arr_8 fun t r k => ?_, arr_9 fun t r k => ?_, arr_10 fun t r k => ?_, arr_11 fun t r k => ?_, arr_12 fun t r k => ?_, arr_13 fun t r k => ?_, arr_14 fun t r k => ?_⟩
  · rw [Blk.dz_apply, row_eq hA, weights_eq hA]; exact (dz_ref hF _ _).symm
  · rw [Blk.dzb_apply, row_eq hA, weights_eq hA]; exact (dz_ref hF _ _).symm
  · rw [Blk.gs_apply, row_eq hA, weights_eq hA]; exact (g_ref _ _ _).symm
  · rw [Blk.us_apply, row_eq hA, weights_eq hA]; exact (u_ref _ _ _).symm
  · rw [Blk.act_apply, row_eq hA, weights_eq hA]; exact (a_ref _ _ _).symm
  · rw [Blk.pg_apply, row_eq hA, weights_eq hA]; exact (pg_ref _ _ _).symm
  · rw [Blk.ple_apply, row_eq hA, weights_eq hA]; exact (ple_ref _ _ _).symm

/-- The three sums after the run. -/
theorem sums {c : Dev nD} (hA : args V0 = kargs m c) (hF : (args V0).Finite) :
    (dats m 0 c).arrAt 15 cfg0.N = (squaresRef V0 : S8x128.Idx → EReal)
    ∧ (dats m 0 c).arrAt 16 cfg0.N = (shapeCast S1x1024 (Host.reduceAdd (F := Ideal) (φ := .f32) (mulf (Cert.LossRefIdeal.Value.res_main_v67 V0) (Cert.LossRefIdeal.Value.res_main_v86 V0)) (constant Cert.LossRefIdeal.S_ .f32 0x00000000#32) Cert.LossRefIdeal.Gen.reducesTo_S4096x1024_S1024_d0 Cert.LossRefIdeal.Gen.h_S_) Cert.LossRefIdeal.Gen.shapeCasts_S1024_S1x1024 : S1x1024.Idx → EReal)
    ∧ (dats m 0 c).arrAt 17 cfg0.N = (shapeCast S1x1024 (Host.reduceAdd (F := Ideal) (φ := .f32) (Cert.LossRefIdeal.Value.res_main_v86 V0) (constant Cert.LossRefIdeal.S_ .f32 0x00000000#32) Cert.LossRefIdeal.Gen.reducesTo_S4096x1024_S1024_d0 Cert.LossRefIdeal.Gen.h_S_) Cert.LossRefIdeal.Gen.shapeCasts_S1024_S1x1024 : S1x1024.Idx → EReal) := by
  have row (i : S1x1024.Idx) : i = ix2 0 (i 1) := idx_ext _ _ (Nat.lt_one_iff.mp (i 0).isLt) rfl
  refine ⟨arr_15.trans (funext fun i => ?_), arr_16.trans (funext fun i => ?_), arr_17.trans (funext fun i => ?_)⟩
  · exact (sq_to hA 16 i).trans ((sum_rows _).symm.trans (squares_ref hF i).symm)
  · rw [row i]
    exact (dg2_to hA 16 _).trans ((sum_rows _).symm.trans (dg2_ref _ _).symm)
  · rw [row i]
    exact (db2_to hA 16 _).trans ((sum_rows _).symm.trans (db2_ref _ _).symm)

set_option maxHeartbeats 2000000 in
set_option backward.isDefEq.respectTransparency.types false in
/-- From finite arguments the kernel leaves in its ten results what the reference leaves in its. -/
theorem algebraic : Cert.algebraic_LossIdeal_LossRefIdeal_pre_finite_loss := by
  intro m g m' g' hpre hargs
  have hA (c : Dev nD) : args (launchContents m' c) = kargs m c := by
    obtain ⟨h0, h1, h2, h3, h4, h5, h6, h7, h8, h9, h10, h11, h12, h13, h14⟩ := hargs c
    exact (Args.mk.injEq ..).mpr ⟨h0, h1, h2, h3, h4, h5, h6, h7, h8, h9, h10, h11, h12, h13, h14⟩
  have hF (c : Dev nD) : (args (launchContents m' c)).Finite := (hA c).symm ▸ finite_of_pre hpre c
  refine ⟨_, _, _, _, _, _, _, _, _, _, ?_, Cert.LossRefIdeal.Value.run (F := Ideal) m' g'⟩
  refine (θ_run defs _ _).mono (fun r h c => ?_) (θ_run_and (run_main m g) (frame m g))
  obtain ⟨e8, e9, e10, e11, e12, e13, e14⟩ := arrays (hA c) (hF c)
  obtain ⟨e15, e16, e17⟩ := sums (hA c) (hF c)
  have hw := (h.1 c).1
  exact ⟨(hw 8).trans e8, (hw 9).trans e9, (hw 10).trans e10, (hw 11).trans e11, (hw 12).trans e12, (hw 13).trans e13, (hw 14).trans e14, (hw 15).trans e15, (hw 16).trans e16, (hw 17).trans e17, h.2.1 c⟩

end Cert.Proof.Loss

end
-- ==== Proof.Fwd.Claims.lean ====
/- The frames of the attention forward call: the programs end and keep their arguments. -/
module

public import proofs.«01_k».proof.Defs
public import proofs.«01_k».proof.Proof.Gen.Fwd
public import proofs.«01_k».proof.Proof.Gen.FwdIdeal.Frame
public import proofs.«01_k».proof.Proof.Gen.FwdRefIdeal.Run
public import Idealize.ShloMosaic.Lib.Quiescent

@[expose] public section

noncomputable section

namespace Cert.Proof.Fwd

open Idealize.ShloMosaic Idealize.ShloMosaic.TcCoe Idealize.SL.Sem

section
open Cert.FwdIdeal Cert.FwdIdeal.Gen
variable {F : FTy → Type} [FloatOps F] (m : (ℓ : Loc nD τ sig) → Buf (Elt F) ℓ) (ρ : Dev nD → PrngReg)

/-- From `m` the call ends, its arguments unchanged and its counters zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)
theorem kept : Kept m ρ := frame m ρ
end

/-- The kernel's frame on machine numbers: the idealization has the same text, so its run, which holds over any
    float values, is the kernel's. -/
theorem frame_fwd : Cert.quiescent_Fwd := by
  have same : Cert.quiescent_Fwd = ∀ m ρ, True → Kept (F := Bits) m ρ := by sl_kernel_rfl
  rw [same]
  exact fun m ρ _ => kept m ρ

theorem frame_fwdIdeal : Cert.quiescent_FwdIdeal := fun m ρ _ => kept (F := Ideal) m ρ

/-- The reference keeps its arguments, and has no semaphore. -/
theorem frame_fwdRefIdeal : Cert.quiescent_FwdRefIdeal := fun m ρ _ =>
  (θ_run Cert.FwdRefIdeal.defs _ _).mono (fun r h => ⟨fun c => (h c).2.2.2, sem_eq_zero_of_no_sems rfl r.2⟩)
    (Cert.FwdRefIdeal.Value.run (F := Ideal) m ρ)

end Cert.Proof.Fwd

end
-- ==== Proof.Fwd.Block.lean ====
/- What the attention forward call computes from one block of 128 queries: the scores, the probabilities and the sinks'
   probabilities of the four heads of a group, and the weighted values. -/
module

public import proofs.«01_k».proof.Proof.Attn.Block
public import proofs.«01_k».proof.Proof.Gen.FwdIdeal.Skeleton

@[expose] public section

noncomputable section

namespace Cert.Proof.Fwd

open Idealize.ShloMosaic Idealize.SL.Sem Cert.FwdIdeal Cert.FwdIdeal.Gen

variable {F : FTy → Type} [FloatOps F]

/-- What one block of queries reads: its rows of the queries, the keys and values in its window, where the window is
    attended, and each head's slope and sink. -/
structure Win (F : FTy → Type) where
  q : Vec F S1x128x256 .bf16
  kw : Vec F S384x128 .bf16
  vw : Vec F S384x128 .bf16
  ok : IVec S128x384 1
  sl : Fin 4 → F .f32
  sk : Fin 4 → F .f32

namespace Win
variable (w : Win F) (g : Fin 4)

/-- The scaled queries, stacked, and their products with the keys. -/
def qs : FVec F S512x128 .bf16 :=
  truncf .bf16 (Attn.stack (mulf (extf .f32 (shapeCast S128x256 w.q shapeCasts_S1x128x256_S128x256) bitsLt_bf16_f32) (broadcast S128x256 (Scalar.ofBits .f32 0x3E000000#32)))) bitsLt_bf16_f32
def qk : FVec F S512x384 .f32 := matmul dot_S512x128_S384x128_S512x384_1_1_0_0_n_n none w.qs w.kw (constant S512x384 .f32 0x00000000#32)
/-- Head `g`'s scores, and the largest of a row's scores and the sink. -/
def sc : FVec F S128x384 .f32 :=
  select w.ok (subf (extractStridedSlice S128x384 ![128 * g.val, 0] w.qk (Attn.slices_head g)) (mulf (broadcast S128x384 (w.sl g)) (sitofp .f32 k0_pay9)))
    (broadcast S128x384 (Scalar.ofBits .f32 0xF149F2CA#32))
def top : FVec F S128x1 .f32 :=
  maximumf (shapeCast S128x1 (multiReduction .maximumf [1] S128 (w.sc g) 0xFF800000#32 reduces_S128x384_S128 (.inl rfl) rfl) shapeCasts_S128_S128x1) (broadcast S128x1 (w.sk g))
/-- The exponentials, and the reciprocal of their sum. -/
def ex : FVec F S128x384 .f32 := exp (subf (w.sc g) (broadcastTo S128x384 (w.top g) broadcasts_S128x1_S128x384))
def es : FVec F S128x1 .f32 := exp (subf (broadcast S128x1 (w.sk g)) (w.top g))
def den : FVec F S128x1 .f32 :=
  addf (shapeCast S128x1 (multiReduction .add [1] S128 (w.ex g) 0x00000000#32 reduces_S128x384_S128 (.inl rfl) rfl) shapeCasts_S128_S128x1) (w.es g)
def inv : FVec F S128x1 .f32 := divf (broadcast S128x1 (Scalar.ofBits .f32 0x3F800000#32)) (w.den g)
/-- The probabilities and the sink's. -/
def ph : FVec F S128x384 .bf16 := truncf .bf16 (mulf (w.ex g) (broadcastTo S128x384 (w.inv g) broadcasts_S128x1_S128x384)) bitsLt_bf16_f32
def psh : FVec F S128x1 .f32 := mulf (w.es g) (w.inv g)
/-- All four heads' probabilities stacked, and as stored. -/
def pr : FVec F S512x384 .bf16 :=
  concatenate S512x384 0 [⟨S128x384, w.ph 0⟩, ⟨S128x384, w.ph 1⟩, ⟨S128x384, w.ph 2⟩, ⟨S128x384, w.ph 3⟩] concatenates_S128x384_S128x384_S128x384_S128x384_S512x384_d0
def p : FVec F S1x1x1x512x384 .bf16 := shapeCast S1x1x1x512x384 w.pr shapeCasts_S512x384_S1x1x1x512x384
def s : FVec F S1x1x1x512x1 .f32 :=
  shapeCast S1x1x1x512x1 (concatenate S512x1 0 [⟨S128x1, w.psh 0⟩, ⟨S128x1, w.psh 1⟩, ⟨S128x1, w.psh 2⟩, ⟨S128x1, w.psh 3⟩] concatenates_S128x1_S128x1_S128x1_S128x1_S512x1_d0) shapeCasts_S512x1_S1x1x1x512x1
/-- The weighted values, two heads side by side. -/
def pv : FVec F S512x128 .f32 := matmul dot_S512x384_S384x128_S512x128_1_0_0_1_n_n none w.pr w.vw (constant S512x128 .f32 0x00000000#32)
def half (a b : Fin 4) : FVec F S1x128x128 .bf16 :=
  shapeCast S1x128x128 (truncf .bf16 (select k0_pay4 (extractStridedSlice S128x128 ![128 * a.val, 0] w.pv (Attn.slices_quarter a))
    (extractStridedSlice S128x128 ![128 * b.val, 0] w.pv (Attn.slices_quarter b))) bitsLt_bf16_f32) shapeCasts_S128x128_S1x128x128
end Win

end Cert.Proof.Fwd
-- ==== Proof.Fwd.Trip.lean ====
/- One trip of the attention forward call's loop: a block of 128 queries, the probabilities of a group's four heads. -/
module

public import proofs.«01_k».proof.Proof.Fwd.Block
public import proofs.«01_k».proof.Proof.Gen.FwdIdeal.Loops
import all proofs.«01_k».proof.Proof.Gen.FwdIdeal.Loops

@[expose] public section

set_option maxRecDepth 16384

noncomputable section

namespace Cert.Proof.Fwd

open Idealize.ShloMosaic Idealize.ShloMosaic.TcCoe Idealize.SL.Sem Cert.FwdIdeal Cert.FwdIdeal.Gen

variable {F : FTy → Type} [FloatOps F]

section
variable (𝒱 : Variants) (c : Dev nD) (bd : Option 𝒱.V) (i : grid0.Coords)
  (arg2 : Memref sig .tc .smem S8 .f32) (harg2 : arg2.IsWhole) (arg3 : Memref sig .tc .smem S8 .f32) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x256 .bf16) (harg7 : arg7.IsWhole)
  (arg8 : Memref sig .tc .vmem S1x1x16x512x384 .bf16) (harg8 : arg8.IsWhole) (arg9 : Memref sig .tc .vmem S1x1x16x512x1 .f32) (harg9 : arg9.IsWhole)
  (arg10 : Memref sig .tc .vmem S2304x128 .bf16) (harg10 : arg10.IsWhole) (arg11 : Memref sig .tc .vmem S2304x128 .bf16) (harg11 : arg11.IsWhole)
  (arg1 : BitVec 32)
  (X2 : BufTy.Contents (Elt F) arg2.view.ty) (X3 : BufTy.Contents (Elt F) arg3.view.ty) (X4 : BufTy.Contents (Elt F) arg4.view.ty)
  (X10 : BufTy.Contents (Elt F) arg10.view.ty) (X11 : BufTy.Contents (Elt F) arg11.view.ty)

local notation "TRIP" => trip_k0_t1 (F := F) 𝒱 c bd i arg2 harg2 arg3 harg3 arg4 harg4 arg5 harg5 arg6 harg6 arg7 harg7 arg8 harg8 arg9 harg9 arg10 harg10 arg11 harg11 arg1 X2 X3 X4 X10 X11

/-- What trip `k`'s block reads. -/
def win (k : Fin k0_t1_loop.trips) : Win F where
  q := View.readAt (Elt F) arg4.view (Rect.unit (s := S1x2048x256) (k0_off2 k) S1x128x256.size (k0_off2_inb k)).toLoadRect X4
  kw := View.readAt (Elt F) arg10.view (Rect.unit (s := S2304x128) (k0_off1 k) S384x128.size (k0_off1_inb k)).toLoadRect X10
  vw := View.readAt (Elt F) arg11.view (Rect.unit (s := S2304x128) (k0_off1 k) S384x128.size (k0_off1_inb k)).toLoadRect X11
  ok := k0_pay10 0#32 1#32 k
  sl g := View.readAt (Elt F) arg2.view (Rect.unit (s := S8) (k0_off3 i (BitVec.ofNat 32 g.val)) S1.size (k0_off3_inb i g)).toLoadRect X2 (Shape.Idx.first (show 0 < S1.numel by decide))
  sk g := View.readAt (Elt F) arg3.view (Rect.unit (s := S8) (k0_off3 i (BitVec.ofNat 32 g.val)) S1.size (k0_off3_inb i g)).toLoadRect X3 (Shape.Idx.first (show 0 < S1.numel by decide))

local notation "WIN" => win (F := F) i arg2 arg3 arg4 arg10 arg11 X2 X3 X4 X10 X11

/-- What the trip stores. -/
abbrev pPiece (W : Win F) (k : Fin k0_t1_loop.trips) : View.Piece (Elt F) S1x1x16x512x384 .bf16 :=
  ⟨Rect.unit (s := S1x1x16x512x384) (k0_off4 k) S1x1x1x512x384.size (k0_off4_inb k), W.p⟩
abbrev sPiece (W : Win F) (k : Fin k0_t1_loop.trips) : View.Piece (Elt F) S1x1x16x512x1 .f32 :=
  ⟨Rect.unit (s := S1x1x16x512x1) (k0_off5 k) S1x1x1x512x1.size (k0_off5_inb k), W.s⟩
abbrev leftPiece (W : Win F) (k : Fin k0_t1_loop.trips) : View.Piece (Elt F) S1x2048x256 .bf16 :=
  ⟨Rect.unit (s := S1x2048x256) (k0_off6 k) S1x128x128.size (k0_off6_inb k), W.half 0 1⟩
abbrev rightPiece (W : Win F) (k : Fin k0_t1_loop.trips) : View.Piece (Elt F) S1x2048x256 .bf16 :=
  ⟨Rect.unit (s := S1x2048x256) (k0_off7 k) S1x128x128.size (k0_off7_inb k), W.half 2 3⟩

set_option maxHeartbeats 4000000 in
theorem trip_arg9 (k) : (TRIP k).2.2.1 = [sPiece (WIN k) k] := by
  unfold trip_k0_t1; rfl

set_option maxHeartbeats 4000000 in
theorem trip_arg8 (k) : (TRIP k).2.1 = [pPiece (WIN k) k] := by
  unfold trip_k0_t1; rfl

set_option maxHeartbeats 4000000 in
theorem trip_arg7 (k) : (TRIP k).1 = [rightPiece (WIN k) k, leftPiece (WIN k) k] := by
  unfold trip_k0_t1; rfl
end

end Cert.Proof.Fwd
-- ==== Proof.Fwd.Loop.lean ====
/- The attention forward call's loop: after its trips the results hold the blocks' probabilities, sinks' probabilities and
   weighted values. -/
module

public import proofs.«01_k».proof.Proof.Fwd.Trip
public import Idealize.ShloMosaic.Lib.WritesUnit
public import Idealize.ShloMosaic.Lib.ValueIdx

@[expose] public section

set_option maxRecDepth 16384

noncomputable section

namespace Cert.Proof.Fwd

open Idealize.ShloMosaic Idealize.ShloMosaic.TcCoe Idealize.SL.Sem Cert.FwdIdeal Cert.FwdIdeal.Gen

variable {F : FTy → Type} [FloatOps F]

theorem trips16 : k0_t1_loop.trips = 16 := by decide +kernel

/-- The trip of block `n`. -/
def tripOf (n : Nat) (h : n < 16) : Fin k0_t1_loop.trips := ⟨n, lt_of_lt_of_eq h trips16.symm⟩

/-- What the loop reads: the slopes, the sinks, the queries, the padded keys and values. -/
structure Blk (F : FTy → Type) where
  sl : Vec F S8 .f32
  sk : Vec F S8 .f32
  q : Vec F S1x2048x256 .bf16
  kp : Vec F S2304x128 .bf16
  vp : Vec F S2304x128 .bf16

theorem off1 (k : Fin k0_t1_loop.trips) : k0_off1 k = ![128 * k.val, 0] := by revert k; decide +kernel
theorem off2 (k : Fin k0_t1_loop.trips) : k0_off2 k = ![0, 128 * k.val, 0] := by revert k; decide +kernel
theorem off4 (k : Fin k0_t1_loop.trips) : k0_off4 k = ![0, 0, k.val, 0, 0] := by revert k; decide +kernel
theorem off5 (k : Fin k0_t1_loop.trips) : k0_off5 k = ![0, 0, k.val, 0, 0] := by revert k; decide +kernel
theorem off6 (k : Fin k0_t1_loop.trips) : k0_off6 k = ![0, 128 * k.val, 0] := by revert k; decide +kernel
theorem off7 (k : Fin k0_t1_loop.trips) : k0_off7 k = ![0, 128 * k.val, 128] := by revert k; decide +kernel

namespace Blk
variable (b : Blk F) (i : grid0.Coords)

/-- What trip `k` reads. -/
def win (k : Fin k0_t1_loop.trips) : Win F where
  q := View.ld b.q (Rect.unit (s := S1x2048x256) (k0_off2 k) S1x128x256.size (k0_off2_inb k))
  kw := View.ld b.kp (Rect.unit (s := S2304x128) (k0_off1 k) S384x128.size (k0_off1_inb k))
  vw := View.ld b.vp (Rect.unit (s := S2304x128) (k0_off1 k) S384x128.size (k0_off1_inb k))
  ok := k0_pay10 0#32 1#32 k
  sl g := View.ld b.sl (Rect.unit (s := S8) (k0_off3 i (BitVec.ofNat 32 g.val)) S1.size (k0_off3_inb i g)) (Shape.Idx.first (show 0 < S1.numel by decide))
  sk g := View.ld b.sk (Rect.unit (s := S8) (k0_off3 i (BitVec.ofNat 32 g.val)) S1.size (k0_off3_inb i g)) (Shape.Idx.first (show 0 < S1.numel by decide))

/-- The weighted values, the probabilities and the sinks' probabilities. -/
def o : Vec F S1x2048x256 .bf16 := fun y =>
  have hy : (y 1).val < 2048 := (y 1).isLt
  if h : (y 2).val < 128 then (b.win i (tripOf ((y 1).val / 128) (by omega))).half 0 1 (ValueIdx.ix3 0 ⟨(y 1).val % 128, Nat.mod_lt _ (by decide)⟩ ⟨(y 2).val, h⟩)
  else (b.win i (tripOf ((y 1).val / 128) (by omega))).half 2 3 (ValueIdx.ix3 0 ⟨(y 1).val % 128, Nat.mod_lt _ (by decide)⟩ ⟨(y 2).val - 128, by have : (y 2).val < 256 := (y 2).isLt; omega⟩)
def p : Vec F S1x1x16x512x384 .bf16 := fun y =>
  have h2 : (y 2).val < 16 := (y 2).isLt
  have h3 : (y 3).val < 512 := (y 3).isLt
  have h4 : (y 4).val < 384 := (y 4).isLt
  (b.win i (tripOf (y 2).val h2)).p (ValueIdx.ix5 0 0 0 ⟨(y 3).val, h3⟩ ⟨(y 4).val, h4⟩)
def s : Vec F S1x1x16x512x1 .f32 := fun y =>
  have h2 : (y 2).val < 16 := (y 2).isLt
  have h3 : (y 3).val < 512 := (y 3).isLt
  have h4 : (y 4).val < 1 := (y 4).isLt
  (b.win i (tripOf (y 2).val h2)).s (ValueIdx.ix5 0 0 0 ⟨(y 3).val, h3⟩ ⟨(y 4).val, h4⟩)

variable (k : Fin k0_t1_loop.trips)

theorem left_at (x) : (leftPiece (b.win i k) k).2 x = b.o i ((leftPiece (b.win i k) k).1.emb x) := by
  have hk : k.val < 16 := lt_of_lt_of_eq k.isLt trips16
  have h1 : (x 1).val < 128 := (x 1).isLt
  have h2 : (x 2).val < 128 := (x 2).isLt
  have e1 : (((leftPiece (b.win i k) k).1.emb x) 1).val = 128 * k.val + (x 1).val := by
    have := congrFun (off6 k) 1
    show k0_off6 k 1 + 1 * (x 1).val = _
    rw [this]; show 128 * k.val + 1 * (x 1).val = _; omega
  have e2 : (((leftPiece (b.win i k) k).1.emb x) 2).val = (x 2).val := by
    have := congrFun (off6 k) 2
    show k0_off6 k 2 + 1 * (x 2).val = _
    rw [this]; show 0 + 1 * (x 2).val = _; omega
  generalize (leftPiece (b.win i k) k).1.emb x = y at e1 e2
  unfold Blk.o
  dsimp only
  rw [dif_pos (by omega), show tripOf ((y 1).val / 128) _ = k from Fin.ext (by show (y 1).val / 128 = k.val; omega)]
  refine congrArg ((b.win i k).half 0 1) ?_
  funext a; match a with
    | ⟨0, _⟩ => exact Fin.ext (by have : (x 0).val < 1 := (x 0).isLt; show (x 0).val = 0; omega)
    | ⟨1, _⟩ => exact Fin.ext (by show (x 1).val = (y 1).val % 128; omega)
    | ⟨2, _⟩ => exact Fin.ext e2.symm
theorem right_at (x) : (rightPiece (b.win i k) k).2 x = b.o i ((rightPiece (b.win i k) k).1.emb x) := by
  have hk : k.val < 16 := lt_of_lt_of_eq k.isLt trips16
  have h1 : (x 1).val < 128 := (x 1).isLt
  have h2 : (x 2).val < 128 := (x 2).isLt
  have e1 : (((rightPiece (b.win i k) k).1.emb x) 1).val = 128 * k.val + (x 1).val := by
    have := congrFun (off7 k) 1
    show k0_off7 k 1 + 1 * (x 1).val = _
    rw [this]; show 128 * k.val + 1 * (x 1).val = _; omega
  have e2 : (((rightPiece (b.win i k) k).1.emb x) 2).val = 128 + (x 2).val := by
    have := congrFun (off7 k) 2
    show k0_off7 k 2 + 1 * (x 2).val = _
    rw [this]; show 128 + 1 * (x 2).val = _; omega
  generalize (rightPiece (b.win i k) k).1.emb x = y at e1 e2
  unfold Blk.o
  dsimp only
  rw [dif_neg (by omega), show tripOf ((y 1).val / 128) _ = k from Fin.ext (by show (y 1).val / 128 = k.val; omega)]
  refine congrArg ((b.win i k).half 2 3) ?_
  funext a; match a with
    | ⟨0, _⟩ => exact Fin.ext (by have : (x 0).val < 1 := (x 0).isLt; show (x 0).val = 0; omega)
    | ⟨1, _⟩ => exact Fin.ext (by show (x 1).val = (y 1).val % 128; omega)
    | ⟨2, _⟩ => exact Fin.ext (by show (x 2).val = (y 2).val - 128; omega)

/-- A block's place in an array of sixteen. -/
theorem place {n : Nat} {y : (⟨5, ![1, 1, 16, 512, n]⟩ : Shape).Idx} {x : (⟨5, ![1, 1, 1, 512, n]⟩ : Shape).Idx} (e3 : (y 3).val = (x 3).val) (e4 : (y 4).val = (x 4).val) :
    x = ValueIdx.ix5 0 0 0 ⟨(y 3).val, (y 3).isLt⟩ ⟨(y 4).val, (y 4).isLt⟩ := by
  funext a; match a with
    | ⟨0, _⟩ => exact Fin.ext (Nat.lt_one_iff.mp (x 0).isLt)
    | ⟨1, _⟩ => exact Fin.ext (Nat.lt_one_iff.mp (x 1).isLt)
    | ⟨2, _⟩ => exact Fin.ext (Nat.lt_one_iff.mp (x 2).isLt)
    | ⟨3, _⟩ => exact Fin.ext e3.symm
    | ⟨4, _⟩ => exact Fin.ext e4.symm

theorem p_at (x) : (pPiece (b.win i k) k).2 x = b.p i ((pPiece (b.win i k) k).1.emb x) := by
  have h2 : (x 2).val < 1 := (x 2).isLt
  have e (a) : (((pPiece (b.win i k) k).1.emb x) a).val = (![0, 0, k.val, 0, 0] : Fin 5 → Nat) a + (x a).val := by
    have := congrFun (off4 k) a
    show k0_off4 k a + 1 * (x a).val = _
    rw [this, Nat.one_mul]
  have e2 : (((pPiece (b.win i k) k).1.emb x) 2).val = k.val := (e 2).trans (by show k.val + (x 2).val = k.val; omega)
  have e3 : (((pPiece (b.win i k) k).1.emb x) 3).val = (x 3).val := (e 3).trans (Nat.zero_add _)
  have e4 : (((pPiece (b.win i k) k).1.emb x) 4).val = (x 4).val := (e 4).trans (Nat.zero_add _)
  clear e
  generalize (pPiece (b.win i k) k).1.emb x = y at e2 e3 e4
  exact congrArg₂ (fun k x => (b.win i k).p x) (Fin.ext e2.symm) (place e3 e4)
theorem s_at (x) : (sPiece (b.win i k) k).2 x = b.s i ((sPiece (b.win i k) k).1.emb x) := by
  have h2 : (x 2).val < 1 := (x 2).isLt
  have e (a) : (((sPiece (b.win i k) k).1.emb x) a).val = (![0, 0, k.val, 0, 0] : Fin 5 → Nat) a + (x a).val := by
    have := congrFun (off5 k) a
    show k0_off5 k a + 1 * (x a).val = _
    rw [this, Nat.one_mul]
  have e2 : (((sPiece (b.win i k) k).1.emb x) 2).val = k.val := (e 2).trans (by show k.val + (x 2).val = k.val; omega)
  have e3 : (((sPiece (b.win i k) k).1.emb x) 3).val = (x 3).val := (e 3).trans (Nat.zero_add _)
  have e4 : (((sPiece (b.win i k) k).1.emb x) 4).val = (x 4).val := (e 4).trans (Nat.zero_add _)
  clear e
  generalize (sPiece (b.win i k) k).1.emb x = y at e2 e3 e4
  exact congrArg₂ (fun k x => (b.win i k).s x) (Fin.ext e2.symm) (place e3 e4)
end Blk

section
variable (𝒱 : Variants) (c : Dev nD) (bd : Option 𝒱.V) (i : grid0.Coords)
  (arg2 : Memref sig .tc .smem S8 .f32) (harg2 : arg2.IsWhole) (arg3 : Memref sig .tc .smem S8 .f32) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x256 .bf16) (harg7 : arg7.IsWhole)
  (arg8 : Memref sig .tc .vmem S1x1x16x512x384 .bf16) (harg8 : arg8.IsWhole) (arg9 : Memref sig .tc .vmem S1x1x16x512x1 .f32) (harg9 : arg9.IsWhole)
  (arg10 : Memref sig .tc .vmem S2304x128 .bf16) (harg10 : arg10.IsWhole) (arg11 : Memref sig .tc .vmem S2304x128 .bf16) (harg11 : arg11.IsWhole)
  (arg1 : BitVec 32)
  (X2 : BufTy.Contents (Elt F) arg2.view.ty) (X3 : BufTy.Contents (Elt F) arg3.view.ty) (X4 : BufTy.Contents (Elt F) arg4.view.ty)
  (X10 : BufTy.Contents (Elt F) arg10.view.ty) (X11 : BufTy.Contents (Elt F) arg11.view.ty)

/-- The pieces the trips store are the results' rows. -/
theorem pieces_at (b : Blk F) (h2 : arg2.view.read (Elt F) X2 = b.sl) (h3 : arg3.view.read (Elt F) X3 = b.sk) (h4 : arg4.view.read (Elt F) X4 = b.q)
    (h10 : arg10.view.read (Elt F) X10 = b.kp) (h11 : arg11.view.read (Elt F) X11 = b.vp) (n : Nat) (hn : n ≤ 16) :
    let PB := pb_k0_t1 (F := F) 𝒱 c bd i arg2 harg2 arg3 harg3 arg4 harg4 arg5 harg5 arg6 harg6 arg7 harg7 arg8 harg8 arg9 harg9 arg10 harg10 arg11 harg11 arg1 X2 X3 X4 X10 X11 n
    (∀ p ∈ PB.1, ∀ x, p.2 x = b.o i (p.1.emb x)) ∧ (∀ p ∈ PB.2.1, ∀ x, p.2 x = b.p i (p.1.emb x)) ∧ ∀ p ∈ PB.2.2, ∀ x, p.2 x = b.s i (p.1.emb x) := by
  induction n with
  | zero => exact ⟨fun p hp => absurd hp List.not_mem_nil, fun p hp => absurd hp List.not_mem_nil, fun p hp => absurd hp List.not_mem_nil⟩
  | succ n ih =>
    obtain ⟨i1, i2, i3⟩ := ih (by omega)
    have hs := pb_k0_t1_succ (F := F) 𝒱 c bd i arg2 harg2 arg3 harg3 arg4 harg4 arg5 harg5 arg6 harg6 arg7 harg7 arg8 harg8 arg9 harg9 arg10 harg10 arg11 harg11 arg1 X2 X3 X4 X10 X11 (tripOf n hn)
    have hw : win (F := F) i arg2 arg3 arg4 arg10 arg11 X2 X3 X4 X10 X11 (tripOf n hn) = b.win i (tripOf n hn) := by
      unfold win Blk.win
      congr 1
      · exact (View.readAt_eq_ld _ _ _).trans (congrArg (fun X => View.ld X _) h4)
      · exact (View.readAt_eq_ld _ _ _).trans (congrArg (fun X => View.ld X _) h10)
      · exact (View.readAt_eq_ld _ _ _).trans (congrArg (fun X => View.ld X _) h11)
      · exact funext fun g => congrFun ((View.readAt_eq_ld _ _ _).trans (congrArg (fun X => View.ld X _) h2)) _
      · exact funext fun g => congrFun ((View.readAt_eq_ld _ _ _).trans (congrArg (fun X => View.ld X _) h3)) _
    have t7 := trip_arg7 (F := F) 𝒱 c bd i arg2 harg2 arg3 harg3 arg4 harg4 arg5 harg5 arg6 harg6 arg7 harg7 arg8 harg8 arg9 harg9 arg10 harg10 arg11 harg11 arg1 X2 X3 X4 X10 X11 (tripOf n hn)
    have t8 := trip_arg8 (F := F) 𝒱 c bd i arg2 harg2 arg3 harg3 arg4 harg4 arg5 harg5 arg6 harg6 arg7 harg7 arg8 harg8 arg9 harg9 arg10 harg10 arg11 harg11 arg1 X2 X3 X4 X10 X11 (tripOf n hn)
    have t9 := trip_arg9 (F := F) 𝒱 c bd i arg2 harg2 arg3 harg3 arg4 harg4 arg5 harg5 arg6 harg6 arg7 harg7 arg8 harg8 arg9 harg9 arg10 harg10 arg11 harg11 arg1 X2 X3 X4 X10 X11 (tripOf n hn)
    rw [hw] at t7 t8 t9
    have hA : tripL_k0_t1 (F := F) 𝒱 c bd i arg2 harg2 arg3 harg3 arg4 harg4 arg5 harg5 arg6 harg6 arg7 harg7 arg8 harg8 arg9 harg9 arg10 harg10 arg11 harg11 arg1 X2 X3 X4 X10 X11 (tripOf n hn) = ([rightPiece (b.win i (tripOf n hn)) (tripOf n hn), leftPiece (b.win i (tripOf n hn)) (tripOf n hn)], [pPiece (b.win i (tripOf n hn)) (tripOf n hn)], [sPiece (b.win i (tripOf n hn)) (tripOf n hn)]) :=
      Prod.ext t7 (Prod.ext t8 t9)
    rw [hA] at hs
    refine hs ▸ ?_
    refine ⟨fun p hp => ?_, fun p hp => ?_, fun p hp => ?_⟩
    · rcases List.mem_append.1 hp with hp | hp
      · simp only [List.mem_cons, List.not_mem_nil, or_false] at hp
        rcases hp with rfl | rfl
        · exact b.right_at i _
        · exact b.left_at i _
      · exact i1 p hp
    · rcases List.mem_append.1 hp with hp | hp
      · rw [List.mem_singleton.1 hp]; exact b.p_at i _
      · exact i2 p hp
    · rcases List.mem_append.1 hp with hp | hp
      · rw [List.mem_singleton.1 hp]; exact b.s_at i _
      · exact i3 p hp
end

end Cert.Proof.Fwd
-- ==== Proof.Fwd.Body.lean ====
/- What one grid point of the attention forward call leaves in its results' memory: the keys and values are padded, and the
   loop goes over the blocks. -/
module

public import proofs.«01_k».proof.Proof.Attn.Body
public import proofs.«01_k».proof.Proof.Fwd.Loop
public import proofs.«01_k».proof.Proof.Gen.FwdIdeal.Frame
import all proofs.«01_k».proof.Proof.Gen.FwdIdeal.Frame.RunA
import all proofs.«01_k».proof.Proof.Gen.FwdIdeal.Frame

@[expose] public section

set_option maxRecDepth 16384

noncomputable section

namespace Cert.Proof.Fwd

open Idealize.ShloMosaic Idealize.ShloMosaic.TcCoe Idealize.SL.Sem Cert.FwdIdeal Cert.FwdIdeal.Gen

variable {F : FTy → Type} [FloatOps F]

/-- What a grid point reads. -/
structure In (F : FTy → Type) where
  sl : Vec F S8 .f32
  sk : Vec F S8 .f32
  q : Vec F S1x2048x256 .bf16
  k : Vec F S1x2048x128 .bf16
  v : Vec F S1x2048x128 .bf16

/-- What its loop reads. -/
def In.blk (b : In F) (i : grid0.Coords) : Blk F := ⟨b.sl, b.sk, b.q, Attn.padded k0_pay44 (k0_pay45 i b.k) k0_pay46,
  Attn.padded k0_pay1 (k0_pay2 (k0_pay47 b.v) (k0_pay48 i) (constantI S2048x128 1 1#1)) k0_pay3⟩

section
variable (c : Dev nD) (i : grid0.Coords)
  (arg2 : Memref sig .tc .smem S8 .f32) (harg2 : arg2.IsWhole) (arg3 : Memref sig .tc .smem S8 .f32) (harg3 : arg3.IsWhole)
  (arg4 : Memref sig .tc .vmem S1x2048x256 .bf16) (harg4 : arg4.IsWhole) (arg5 : Memref sig .tc .vmem S1x2048x128 .bf16) (harg5 : arg5.IsWhole)
  (arg6 : Memref sig .tc .vmem S1x2048x128 .bf16) (harg6 : arg6.IsWhole) (arg7 : Memref sig .tc .vmem S1x2048x256 .bf16) (harg7 : arg7.IsWhole)
  (arg8 : Memref sig .tc .vmem S1x1x16x512x384 .bf16) (harg8 : arg8.IsWhole) (arg9 : Memref sig .tc .vmem S1x1x16x512x1 .f32) (harg9 : arg9.IsWhole)
  (arg10 : Memref sig .tc .vmem S2304x128 .bf16) (harg10 : arg10.IsWhole) (arg11 : Memref sig .tc .vmem S2304x128 .bf16) (harg11 : arg11.IsWhole)
  (sl sk : Vec F S8 .f32) (q : Vec F S1x2048x256 .bf16) (k v : Vec F S1x2048x128 .bf16)

/-- The loop's pieces, on the memory the point holds when it starts. -/
abbrev loopPieces := pb_k0_t1 (F := F) Variants.none c none i arg2 harg2 arg3 harg3 arg4 harg4 arg5 harg5 arg6 harg6 arg7 harg7 arg8 harg8 arg9 harg9 arg10 harg10 arg11 harg11
  (BitVec.ofNat 32 (i 1).val) (harg2.unread sl) (harg3.unread sk) (harg4.unread q)
  (arg10.view.writes (Elt F) arg10.view.junk (Attn.padPieces k0_pay44 (k0_pay45 i k) k0_pay46))
  (arg11.view.writes (Elt F) arg11.view.junk (Attn.padPieces k0_pay1 (k0_pay2 (k0_pay47 v) (k0_pay48 i) (constantI S2048x128 1 1#1)) k0_pay3)) k0_t1_loop.trips

local notation "PB" => loopPieces (F := F) c i arg2 harg2 arg3 harg3 arg4 harg4 arg5 harg5 arg6 harg6 arg7 harg7 arg8 harg8 arg9 harg9 arg10 harg10 arg11 harg11 sl sk q k v
local notation "RUN" => kernelRun0_A (F := F) c i arg2 harg2 arg3 harg3 arg4 harg4 arg5 harg5 arg6 harg6 arg7 harg7 arg8 harg8 arg9 harg9 arg10 harg10 arg11 harg11 sl sk q k v

theorem read_all (arg : Memref sig .tc .vmem S1x2048x128 .bf16) (h : arg.IsWhole) :
    View.readAt (Elt F) arg.view (Rect.unit (s := S1x2048x128) ![0, 0, 0] S1x2048x128.size inb_S1x2048x128_S1x2048x128_0_0_0).toLoadRect (h.unread k) = k := by
  refine (View.readAt_eq_ld _ _ _).trans ?_
  rw [h.read_unread]
  exact Attn.ld_all3 _ _
theorem pad_k : kernelRun0_A.sl.HS0_3 (F := F) c i arg5 harg5 k = Attn.padPieces k0_pay44 (k0_pay45 i k) k0_pay46 := by
  unfold kernelRun0_A.sl.HS0_3
  rw [read_all]
theorem pad_v : kernelRun0_A.sl.HS1_3 (F := F) c i arg6 harg6 v = Attn.padPieces k0_pay1 (k0_pay2 (k0_pay47 v) (k0_pay48 i) (constantI S2048x128 1 1#1)) k0_pay3 := by
  unfold kernelRun0_A.sl.HS1_3 kernelRun0_A.sl.r kernelRun0_A.sl.cst_14
  rw [read_all]
theorem run_1 : (RUN).1 = (PB).1 := by
  unfold kernelRun0_A loopPieces
  dsimp only
  rw [pad_k, pad_v]
theorem run_2 : (RUN).2.1 = (PB).2.1 := by
  unfold kernelRun0_A loopPieces
  dsimp only
  rw [pad_k, pad_v]
theorem run_3 : (RUN).2.2.1 = (PB).2.2 := by
  unfold kernelRun0_A loopPieces
  dsimp only
  rw [pad_k, pad_v]
set_option maxHeartbeats 2000000 in
theorem loop_at : (∀ p ∈ (PB).1, ∀ x, p.2 x = ((⟨sl, sk, q, k, v⟩ : In F).blk i).o i (p.1.emb x))
    ∧ (∀ p ∈ (PB).2.1, ∀ x, p.2 x = ((⟨sl, sk, q, k, v⟩ : In F).blk i).p i (p.1.emb x))
    ∧ ∀ p ∈ (PB).2.2, ∀ x, p.2 x = ((⟨sl, sk, q, k, v⟩ : In F).blk i).s i (p.1.emb x) :=
  pieces_at (F := F) Variants.none c none i arg2 harg2 arg3 harg3 arg4 harg4 arg5 harg5 arg6 harg6 arg7 harg7 arg8 harg8 arg9 harg9 arg10 harg10 arg11 harg11
    _ _ _ _ _ _ ((⟨sl, sk, q, k, v⟩ : In F).blk i) (harg2.read_unread _) (harg3.read_unread _) (harg4.read_unread _) (View.read_writes_eq_canon _ _ _ (Attn.padPieces_cover _ _ _)) (View.read_writes_eq_canon _ _ _ (Attn.padPieces_cover _ _ _)) k0_t1_loop.trips (le_of_eq trips16)
theorem out_5 : out0_A_5 (F := F) c i arg2 harg2 arg3 harg3 arg4 harg4 arg5 harg5 arg6 harg6 arg7 harg7 arg8 harg8 arg9 harg9 arg10 harg10 arg11 harg11 sl sk q k v = ((⟨sl, sk, q, k, v⟩ : In F).blk i).o i := by
  funext y
  have h := loop_at (F := F) c i arg2 harg2 arg3 harg3 arg4 harg4 arg5 harg5 arg6 harg6 arg7 harg7 arg8 harg8 arg9 harg9 arg10 harg10 arg11 harg11 sl sk q k v
  refine View.read_writes_apply_of_pieces _ _ _ _ ?_ y (cover0_A_5 c i arg2 harg2 arg3 harg3 arg4 harg4 arg5 harg5 arg6 harg6 arg7 harg7 arg8 harg8 arg9 harg9 arg10 harg10 arg11 harg11 sl sk q k v y)
  rw [run_1]
  exact h.1
theorem out_6 : out0_A_6 (F := F) c i arg2 harg2 arg3 harg3 arg4 harg4 arg5 harg5 arg6 harg6 arg7 harg7 arg8 harg8 arg9 harg9 arg10 harg10 arg11 harg11 sl sk q k v = ((⟨sl, sk, q, k, v⟩ : In F).blk i).p i := by
  funext y
  have h := loop_at (F := F) c i arg2 harg2 arg3 harg3 arg4 harg4 arg5 harg5 arg6 harg6 arg7 harg7 arg8 harg8 arg9 harg9 arg10 harg10 arg11 harg11 sl sk q k v
  refine View.read_writes_apply_of_pieces _ _ _ _ ?_ y (cover0_A_6 c i arg2 harg2 arg3 harg3 arg4 harg4 arg5 harg5 arg6 harg6 arg7 harg7 arg8 harg8 arg9 harg9 arg10 harg10 arg11 harg11 sl sk q k v y)
  rw [run_2]
  exact h.2.1
theorem out_7 : out0_A_7 (F := F) c i arg2 harg2 arg3 harg3 arg4 harg4 arg5 harg5 arg6 harg6 arg7 harg7 arg8 harg8 arg9 harg9 arg10 harg10 arg11 harg11 sl sk q k v = ((⟨sl, sk, q, k, v⟩ : In F).blk i).s i := by
  funext y
  have h := loop_at (F := F) c i arg2 harg2 arg3 harg3 arg4 harg4 arg5 harg5 arg6 harg6 arg7 harg7 arg8 harg8 arg9 harg9 arg10 harg10 arg11 harg11 sl sk q k v
  refine View.read_writes_apply_of_pieces _ _ _ _ ?_ y (cover0_A_7 c i arg2 harg2 arg3 harg3 arg4 harg4 arg5 harg5 arg6 harg6 arg7 harg7 arg8 harg8 arg9 harg9 arg10 harg10 arg11 harg11 sl sk q k v y)
  rw [run_3]
  exact h.2.2
end

section
variable (m : (ℓ : Loc nD τ sig) → Buf (Elt F) ℓ) (c : Dev nD) (t : Fin cfg0.N)
/-- What point `t` reads. -/
def inAt : In F := ⟨iblk m c 0 t, iblk m c 1 t, iblk m c 2 t, iblk m c 3 t, iblk m c 4 t⟩

theorem after_5 : (dats m 0 c).after 5 t = ((inAt m c t).blk (grid0.coords t)).o (grid0.coords t) := by
  rw [after0_5]; unfold outsAt0; exact out_5 (F := F) ..
theorem after_6 : (dats m 0 c).after 6 t = ((inAt m c t).blk (grid0.coords t)).p (grid0.coords t) := by
  rw [after0_6]; unfold outsAt0; exact out_6 (F := F) ..
theorem after_7 : (dats m 0 c).after 7 t = ((inAt m c t).blk (grid0.coords t)).s (grid0.coords t) := by
  rw [after0_7]; unfold outsAt0; exact out_7 (F := F) ..
end

end Cert.Proof.Fwd
-- ==== Proof.Fwd.RefRead.lean ====
/- The attention forward reference's results, by their parts. -/
module

public import proofs.«01_k».proof.Proof.Gen.FwdRefIdeal.Run
public import proofs.«01_k».proof.Proof.Attn.Saved
import all proofs.«01_k».proof.Proof.Gen.FwdRefIdeal.Run

@[expose] public section

set_option maxRecDepth 16384

noncomputable section

namespace Cert.Proof.Fwd.Ref

open Idealize.ShloMosaic Idealize.ShloMosaic.TcCoe Idealize.SL.Sem
open Cert.FwdRefIdeal Cert.FwdRefIdeal.Value Cert.FwdRefIdeal.Gen
open Cert.Proof.Attn (chainP chainS chainE chainES chainDN chainM laidP laidS)

variable (x : FVec Ideal S2x2048x2816 .bf16) (y : FVec Ideal S8 .f32)

/-- The padded keys or values (by their column), block by block, and the three blocks of each window. -/
def blocks (o : Nat) (h : S2x2048x2816.Slices ![0, 0, o] S2x2048x128) : FVec Ideal S2x18x128x2x64 .f32 :=
  shapeCast _ (pad S2x2304x2x64 ![0, 128, 0, 0] ![0, 128, 0, 0] ![0, 0, 0, 0]
    (shapeCast _ (extractStridedSlice S2x2048x128 ![0, 0, o] (extf .f32 x bitsLt_bf16_f32) h) shapeCasts_S2x2048x128_S2x2048x2x64)
    (sitofp .f32 (constantI S_ 32 0#32) : FVec Ideal S_ .f32) pads_S2x2048x2x64_S2x2304x2x64_000_1281280_000_000 h_S_) shapeCasts_S2x2304x2x64_S2x18x128x2x64
def windows (b : FVec Ideal S2x18x128x2x64 .f32) : FVec Ideal S2x16x384x2x64 .f32 :=
  concatenate S2x16x384x2x64 2 [⟨S2x16x128x2x64, extractStridedSlice S2x16x128x2x64 ![0, 0, 0, 0, 0] b slices_S2x18x128x2x64_S2x16x128x2x64_0_0_0_0_0⟩,
    ⟨S2x16x128x2x64, extractStridedSlice S2x16x128x2x64 ![0, 1, 0, 0, 0] b slices_S2x18x128x2x64_S2x16x128x2x64_0_1_0_0_0⟩,
    ⟨S2x16x128x2x64, extractStridedSlice S2x16x128x2x64 ![0, 2, 0, 0, 0] b slices_S2x18x128x2x64_S2x16x128x2x64_0_2_0_0_0⟩] concatenates_S2x16x128x2x64_S2x16x128x2x64_S2x16x128x2x64_S2x16x384x2x64_d2
def keys : FVec Ideal S2x16x384x2x64 .f32 := windows (blocks x 2560 slices_S2x2048x2816_S2x2048x128_0_0_2560)
def values : FVec Ideal S2x16x384x2x64 .f32 := windows (blocks x 2688 slices_S2x2048x2816_S2x2048x128_0_0_2688)
def queries : FVec Ideal S2x16x128x2x4x64 .f32 :=
  shapeCast _ (extractStridedSlice S2x2048x512 ![0, 0, 2048] (extf .f32 x bitsLt_bf16_f32) slices_S2x2048x2816_S2x2048x512_0_0_2048) shapeCasts_S2x2048x512_S2x16x128x2x4x64
/-- How far key `j` of a window is from query `q`, and which row of the sequence it is. -/
def dist : IVec S128x384 32 := absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))
def place : IVec S16x384 32 := addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))
def mask : IVec S2x16x2x4x128x384 1 := broadcastInDim S2x16x2x4x128x384 ![0, 1, 2, 3, 4, 5] bcast_S1x16x1x1x128x384_S2x16x2x4x128x384_0_1_2_3_4_5
  (broadcastInDim S1x16x1x1x128x384 ![1, 4, 5] bcast_S16x128x384_S1x16x1x1x128x384_1_4_5
    (andi (broadcastInDim S16x128x384 ![0, 1, 2] bcast_S1x128x384_S16x128x384_0_1_2 (broadcastInDim S1x128x384 ![1, 2] bcast_S128x384_S1x128x384_1_2 (cmpi .sle dist (broadcastInDim S128x384 ![] bcast_S_S128x384 (constantI S_ 32 128#32)))))
      (broadcastInDim S16x128x384 ![0, 1, 2] bcast_S16x1x384_S16x128x384_0_1_2 (broadcastInDim S16x1x384 ![0, 2] bcast_S16x384_S16x1x384_0_2
        (andi (cmpi .sge place (broadcastInDim S16x384 ![] bcast_S_S16x384 (constantI S_ 32 0#32))) (cmpi .slt place (broadcastInDim S16x384 ![] bcast_S_S16x384 (constantI S_ 32 2048#32))))))))
/-- The slopes, and what they take off the scores. -/
def slopes : FVec Ideal S8 .f32 := Host.powf (broadcastInDim S8 ![] bcast_S_S8 (constant S_ .f32 0x40000000#32)) (Host.divf (mulf (broadcastInDim S8 ![] bcast_S_S8 (constant S_ .f32 0xC1000000#32)) (addf (sitofp .f32 (iotaInDim S8 32 0)) (broadcastInDim S8 ![] bcast_S_S8 (constant S_ .f32 0x3F800000#32)))) (broadcastInDim S8 ![] bcast_S_S8 (constant S_ .f32 0x41000000#32)))
def bias : FVec Ideal S2x16x2x4x128x384 .f32 := broadcastInDim S2x16x2x4x128x384 ![0, 1, 2, 3, 4, 5] bcast_S1x1x2x4x128x384_S2x16x2x4x128x384_0_1_2_3_4_5 (broadcastInDim S1x1x2x4x128x384 ![2, 3, 4, 5] bcast_S2x4x128x384_S1x1x2x4x128x384_2_3_4_5
  (mulf (broadcastInDim S2x4x128x384 ![0, 1, 2, 3] bcast_S2x4x1x1_S2x4x128x384_0_1_2_3 (Host.negf (broadcastInDim S2x4x1x1 ![0, 1] bcast_S2x4_S2x4x1x1_0_1 (shapeCast _ slopes shapeCasts_S8_S2x4))))
    (broadcastInDim S2x4x128x384 ![0, 1, 2, 3] bcast_S1x1x128x384_S2x4x128x384_0_1_2_3 (broadcastInDim S1x1x128x384 ![2, 3] bcast_S128x384_S1x1x128x384_2_3 (sitofp .f32 dist)))))
def scores : FVec Ideal S2x16x2x4x128x384 .f32 :=
  select mask (addf (mulf (transpose S2x16x2x4x128x384 [0, 1, 2, 5, 4, 3] (Host.dotGeneral dot_S2x16x384x2x64_S2x16x128x2x4x64_S2x16x2x384x128x4_4_5_2_24_013_013 none (keys x) (queries x)) transposes_S2x16x2x384x128x4_S2x16x2x4x128x384_0_1_2_5_4_3)
    (broadcastInDim S2x16x2x4x128x384 ![] bcast_S_S2x16x2x4x128x384 (constant S_ .f32 0x3E000000#32))) bias)
    (broadcastInDim S2x16x2x4x128x384 ![] bcast_S_S2x16x2x4x128x384 (id (constant S_ .f32 0xF149F2CA#32)))
def sinks : FVec Ideal S2x1x2x4x1x1 .f32 := shapeCast _ (broadcastInDim S2x8 ![1] bcast_S8_S2x8_1 y) shapeCasts_S2x8_S2x1x2x4x1x1
def out : FVec Ideal S2x2048x512 .bf16 :=
  truncf .bf16 (shapeCast _ (transpose S2x16x128x2x4x64 [0, 1, 5, 2, 4, 3] (Host.dotGeneral dot_S2x16x384x2x64_S2x16x2x4x128x384_S2x16x2x64x4x128_2_5_4_34_013_012 none (values x) (chainP (scores x) (sinks y)))
    transposes_S2x16x2x64x4x128_S2x16x128x2x4x64_0_1_5_2_4_3) shapeCasts_S2x16x128x2x4x64_S2x2048x512) bitsLt_bf16_f32

section
variable (m : (ℓ : Loc nD τ sig) → Buf (Elt Ideal) ℓ) (c : Dev nD)
theorem out_eq : res_main_v102 m c = out (m ((c.tc : Thread nD τ).loc main_arg0)) (m ((c.tc : Thread nD τ).loc main_arg1)) := by
  unfold res_main_v102; rfl
theorem p_eq : res_main_v103 m c = laidP (chainP (scores (m ((c.tc : Thread nD τ).loc main_arg0))) (sinks (m ((c.tc : Thread nD τ).loc main_arg1)))) := by
  unfold res_main_v103; rfl
theorem s_eq : res_main_v101 m c = laidS (chainS (scores (m ((c.tc : Thread nD τ).loc main_arg0))) (sinks (m ((c.tc : Thread nD τ).loc main_arg1)))) := by
  unfold res_main_v101; rfl
end

end Cert.Proof.Fwd.Ref
end
-- ==== Proof.Fwd.Math.lean ====
/- The attention's forward pass as sums of extended reals: what both programs compute, element by element. -/
module

public import proofs.«01_k».proof.Proof.Fwd.RefRead

@[expose] public section

noncomputable section

namespace Cert.Proof.Fwd

open Idealize.ShloMosaic
open Cert.Proof.Attn (qE kE vE scale scale_eq padE_real)

/-- Whether window `n` attends key `j` from query `q`. -/
def maskE (n : Fin 16) (q : Fin 128) (j : Fin 384) : BitVec 1 :=
  IntOp.andi (IntOp.cmpi .sle (Ref.dist (ix2 q j)) 128#32) (IntOp.andi (IntOp.cmpi .sge (Ref.place (ix2 n j)) 0#32) (IntOp.cmpi .slt (Ref.place (ix2 n j)) 2048#32))
/-- A head's slope, and the score of a key that is not attended. -/
def slopeE (k : Fin 8) : EReal := Ideal.pow ((2 : ℝ) : EReal) ((-((k.val : ℝ) + 1) : ℝ) : EReal)
abbrev low : EReal := Ideal.ofBits .f32 0xF149F2CA#32
abbrev head (h : Fin 2) (g : Fin 4) : Fin 8 := ⟨h.val * 4 + g.val, by omega⟩

section Elements
variable (u : (⟨3, ![2, 2048, 2816]⟩ : Shape).Idx → EReal) (y : (⟨1, ![8]⟩ : Shape).Idx → EReal)
variable (b : Fin 2) (n : Fin 16) (h : Fin 2) (g : Fin 4) (q : Fin 128) (j : Fin 384) (d : Fin 64)

/-- The scores, the largest of a row, the exponentials, their sum, the shares, and the weighted values. -/
def scE : EReal := Scalar.select (maskE n q j)
  ((∑ d, kE u b n h j d * qE u b n h g q d) * scale + -(slopeE (head h g) * FloatOps.sitofp (F := Ideal) .f32 (Ref.dist (ix2 q j)))) low
def topE : EReal := max ((Finset.univ : Finset (Fin 384)).fold max ⊥ fun j => scE u b n h g q j) (y (ix1 (head h g)))
def eE : EReal := Ideal.exp (scE u b n h g q j - topE u y b n h g q)
def esE : EReal := Ideal.exp (y (ix1 (head h g)) - topE u y b n h g q)
def dnE : EReal := ∑ j, eE u y b n h g q j + esE u y b n h g q
def pE : EReal := Ideal.div (eE u y b n h g q j) (dnE u y b n h g q)
def psE : EReal := Ideal.div (esE u y b n h g q) (dnE u y b n h g q)
def oE : EReal := ∑ j, pE u y b n h g q j * vE u b n h j d
end Elements

theorem low_real : IsReal low := by
  refine ⟨-(13234890 * 2 ^ 76), ?_⟩
  simp [low, Ideal.ofBits, Ideal.ieee, -EReal.coe_mul, -EReal.coe_neg]

section Reals
variable {u : (⟨3, ![2, 2048, 2816]⟩ : Shape).Idx → EReal} {y : (⟨1, ![8]⟩ : Shape).Idx → EReal} (hu : ∀ i, IsReal (u i)) (hy : ∀ i, IsReal (y i))
variable (b : Fin 2) (n : Fin 16) (h : Fin 2) (g : Fin 4) (q : Fin 128) (j : Fin 384)

include hu
theorem scE_real : IsReal (scE u b n h g q j) := by
  unfold scE Scalar.select
  split_ifs
  · rw [scale_eq]
    refine ((IsReal.sum fun x => (padE_real hu ..).mul (hu _)).mul ⟨_, rfl⟩).add (IsReal.neg (IsReal.mul ?_ ⟨_, rfl⟩))
    exact Attn.Ref.pow_real ⟨_, rfl⟩ ⟨_, rfl⟩
  · exact low_real
include hy
theorem topE_real : IsReal (topE u y b n h g q) := by
  obtain ⟨s, e⟩ := hy (ix1 (head h g))
  unfold topE
  rw [e]
  refine IsReal.of_ne (ne_of_gt (lt_of_lt_of_le (EReal.bot_lt_coe s) (le_max_right _ _))) (ne_of_lt (max_lt ?_ (EReal.coe_lt_top s)))
  refine Finset.fold_max_lt _ |>.mpr ⟨bot_lt_top, fun k _ => ?_⟩
  obtain ⟨r, e⟩ := scE_real hu b n h g q k
  rw [e]; exact EReal.coe_lt_top r
theorem dnE_pos : ∃ e : ℝ, 0 < e ∧ dnE u y b n h g q = e := by
  obtain ⟨m, hm⟩ := topE_real hu hy b n h g q
  obtain ⟨s, hs⟩ := hy (ix1 (head h g))
  choose r hr using fun j => scE_real hu b n h g q j
  refine ⟨∑ j, Real.exp (r j - m) + Real.exp (s - m), add_pos_of_nonneg_of_pos (Finset.sum_nonneg fun j _ => (Real.exp_pos _).le) (Real.exp_pos _), ?_⟩
  unfold dnE eE esE
  simp only [hr, hm, hs, ← EReal.coe_sub, EReal.coe_add, ← sum_coe]
  rfl
/-- A product with the sum's reciprocal is the quotient. -/
theorem mul_inv (x : EReal) : x * Ideal.div 1 (dnE u y b n h g q) = Ideal.div x (dnE u y b n h g q) := by
  obtain ⟨e, he, h⟩ := dnE_pos hu hy b n h g q
  have h0 : ((e : ℝ) : EReal) ≠ 0 := fun h => he.ne' (EReal.coe_eq_zero.mp h)
  rw [h, Ideal.div, if_neg h0, Ideal.div, if_neg h0, one_mul]
end Reals

/-! ## Slopes -/

theorem one_eq : Ideal.ofBits .f32 0x3F800000#32 = ((1 : ℝ) : EReal) := by
  simp [Ideal.ofBits, Ideal.ieee, -EReal.coe_mul]; try norm_num
theorem count (k : Fin 8) : FloatOps.sitofp (F := Ideal) .f32 (BitVec.ofNat 32 k.val) = ((k.val : ℝ) : EReal) := by
  have : (BitVec.ofNat 32 k.val).toInt = (k.val : ℤ) := by revert k; decide
  show (((BitVec.ofNat 32 k.val).toInt : ℝ) : EReal) = _
  rw [this]; rfl
/-- The two programs' powers of two. -/
theorem slope_ker (k : Fin 8) : Ideal.pow (Ideal.ofBits .f32 0x40000000#32) (-(FloatOps.sitofp (F := Ideal) .f32 (BitVec.ofNat 32 k.val) + Ideal.ofBits .f32 0x3F800000#32)) = slopeE k := by
  rw [Attn.Ref.two_eq, count, one_eq, ← EReal.coe_add, ← EReal.coe_neg]; rfl
theorem slope_ref (k : Fin 8) : Ideal.pow (Ideal.ofBits .f32 0x40000000#32) (Ideal.div (Ideal.ofBits .f32 0xC1000000#32 * (FloatOps.sitofp (F := Ideal) .f32 (BitVec.ofNat 32 k.val) + Ideal.ofBits .f32 0x3F800000#32)) (Ideal.ofBits .f32 0x41000000#32)) = slopeE k := by
  rw [Attn.Ref.two_eq, Attn.Ref.neg_eight_eq, Attn.Ref.eight_eq, count, one_eq, ← EReal.coe_add, ← EReal.coe_mul, div_real _ (by norm_num)]
  unfold slopeE
  congr 2; ring

end Cert.Proof.Fwd
end
-- ==== Proof.Fwd.WinValue.lean ====
/- One block of queries of the attention forward call, element by element. -/
module

public import proofs.«01_k».proof.Proof.Fwd.Block
public import proofs.«01_k».proof.Proof.Fwd.Math
public import proofs.«01_k».proof.Proof.Attn.WinValue

@[expose] public section

set_option maxRecDepth 16384

noncomputable section

namespace Cert.Proof.Fwd

open Idealize.ShloMosaic Idealize.SL.Sem Cert.FwdIdeal Cert.FwdIdeal.Gen
open Cert.Proof.Attn (qE kE vE scale sum_half quarter sum_scale)

/-- What a block of queries reads, from the arguments. -/
structure Reads (w : Win Ideal) (u : (⟨3, ![2, 2048, 2816]⟩ : Shape).Idx → EReal) (y : (⟨1, ![8]⟩ : Shape).Idx → EReal)
    (b : Fin 2) (n : Fin 16) (h : Fin 2) : Prop where
  q : ∀ (q : Fin 128) (l : Fin 256), (w.q (ix3 0 q l) : EReal) = qE u b n h ⟨l.val / 64, by omega⟩ q ⟨l.val % 64, by omega⟩
  kw : ∀ (j : Fin 384) (l : Fin 128), (w.kw (ix2 j l) : EReal) = kE u b n h j ⟨l.val % 64, by omega⟩
  vw : ∀ (j : Fin 384) (l : Fin 128), (w.vw (ix2 j l) : EReal) = vE u b n h j ⟨l.val % 64, by omega⟩
  ok : ∀ (q : Fin 128) (j : Fin 384), w.ok (ix2 q j) = maskE n q j
  sl : ∀ g : Fin 4, (w.sl g : EReal) = slopeE (head h g)
  sk : ∀ g : Fin 4, (w.sk g : EReal) = y (ix1 (head h g))

theorem dist_at (q : Fin 128) (j : Fin 384) : k0_pay9 (ix2 q j) = Ref.dist (ix2 q j) := by
  pointwise [k0_pay9, Ref.dist]
  try rfl

section Values
variable {w : Win Ideal} {u : (⟨3, ![2, 2048, 2816]⟩ : Shape).Idx → EReal} {y : (⟨1, ![8]⟩ : Shape).Idx → EReal}
variable {b : Fin 2} {n : Fin 16} {h : Fin 2} (R : Reads w u y b n h)
variable (g : Fin 4) (q : Fin 128) (j : Fin 384) (l : Fin 128)
include R

theorem qs_at : (w.qs (ix2 ⟨128 * g.val + q.val, by omega⟩ l) : EReal)
    = if l.val / 64 = g.val % 2 then qE u b n h g q ⟨l.val % 64, by omega⟩ * scale else 0 := by
  refine (Attn.stack_at _ g q l).trans (if_congr Iff.rfl ?_ rfl)
  pointwise
  refine congrArg (· * scale) ((R.q q _).trans ?_)
  congr 1
  · exact Fin.ext (by dsimp only; omega)
  · exact Fin.ext (by dsimp only; omega)

theorem qk_at : (w.qk (ix2 ⟨128 * g.val + q.val, by omega⟩ j) : EReal) = (∑ d, kE u b n h j d * qE u b n h g q d) * scale := by
  pointwise [Win.qk]
  refine Eq.trans ?_ ((sum_half (g.val % 2) (by omega) fun d => kE u b n h j d * qE u b n h g q d * scale).trans (sum_scale _ _))
  refine Finset.sum_congr rfl fun l _ => ?_
  refine (congrArg₂ (fun x y : EReal => x * y) (qs_at R g q l) (R.kw j l)).trans ?_
  split_ifs
  · rw [mul_comm, ← mul_assoc]
  · exact zero_mul _

theorem sc_at : (w.sc g (ix2 q j) : EReal) = scE u b n h g q j := by
  pointwise [Win.sc]
  refine (congrArg (fun c => Scalar.select c _ _) (R.ok q j)).trans ?_
  unfold scE
  refine congrArg (fun x : EReal => Scalar.select (maskE n q j) x low) ?_
  rw [← sub_eq_add_neg]
  refine congrArg₂ (fun x y : EReal => x - y) (qk_at R g q j) (congrArg₂ (fun x y : EReal => x * y) (R.sl g) ?_)
  exact congrArg (FloatOps.sitofp (F := Ideal) .f32) (dist_at q j)

theorem top_at : (w.top g (ix2 q 0) : EReal) = topE u y b n h g q := by
  pointwise [Win.top]
  rw [Attn.Ref.neg_inf]
  unfold topE
  exact congrArg₂ max (congrArg (fun f => Finset.fold max ⊥ f Finset.univ) (funext fun j => sc_at R g q j)) (R.sk g)

theorem ex_at : (w.ex g (ix2 q j) : EReal) = eE u y b n h g q j := by
  pointwise [Win.ex]
  exact congrArg Ideal.exp (congrArg₂ (fun x y : EReal => x - y) (sc_at R g q j) (top_at R g q))
theorem es_at : (w.es g (ix2 q 0) : EReal) = esE u y b n h g q := by
  pointwise [Win.es]
  exact congrArg Ideal.exp (congrArg₂ (fun x y : EReal => x - y) (R.sk g) (top_at R g q))
theorem den_at : (w.den g (ix2 q 0) : EReal) = dnE u y b n h g q := by
  pointwise [Win.den]
  exact congrArg₂ (fun x y : EReal => x + y) (Finset.sum_congr rfl fun j _ => ex_at R g q j) (es_at R g q)

variable (hu : ∀ i, IsReal (u i)) (hy : ∀ i, IsReal (y i))
include hu hy
theorem inv_at : (w.inv g (ix2 q 0) : EReal) = Ideal.div 1 (dnE u y b n h g q) := by
  pointwise [Win.inv]
  exact congrArg (Ideal.div 1) (den_at R g q)
theorem ph_at : (w.ph g (ix2 q j) : EReal) = pE u y b n h g q j := by
  pointwise [Win.ph]
  exact (congrArg₂ (fun x y : EReal => x * y) (ex_at R g q j) (inv_at R g q hu hy)).trans (mul_inv hu hy b n h g q _)
theorem psh_at : (w.psh g (ix2 q 0) : EReal) = psE u y b n h g q := by
  pointwise [Win.psh]
  exact (congrArg₂ (fun x y : EReal => x * y) (es_at R g q) (inv_at R g q hu hy)).trans (mul_inv hu hy b n h g q _)
theorem pr_at : (w.pr (ix2 ⟨128 * g.val + q.val, by omega⟩ j) : EReal) = pE u y b n h g q j := by
  pointwise [Win.pr]
  exact quarter (fun g q => pE u y b n h g q j) (fun q => ph_at R 0 q j hu hy) (fun q => ph_at R 1 q j hu hy) (fun q => ph_at R 2 q j hu hy) (fun q => ph_at R 3 q j hu hy) g q
theorem p_at : (w.p (ix5 0 0 0 ⟨128 * g.val + q.val, by omega⟩ j) : EReal) = pE u y b n h g q j := by
  pointwise [Win.p]
  exact pr_at R g q j hu hy
theorem s_at : (w.s (ix5 0 0 0 ⟨128 * g.val + q.val, by omega⟩ 0) : EReal) = psE u y b n h g q := by
  pointwise [Win.s]
  exact quarter (fun g q => psE u y b n h g q) (fun q => psh_at R 0 q hu hy) (fun q => psh_at R 1 q hu hy) (fun q => psh_at R 2 q hu hy) (fun q => psh_at R 3 q hu hy) g q
theorem pv_at : (w.pv (ix2 ⟨128 * g.val + q.val, by omega⟩ l) : EReal) = oE u y b n h g q ⟨l.val % 64, by omega⟩ := by
  pointwise [Win.pv]
  exact Finset.sum_congr rfl fun j _ => congrArg₂ (fun x y : EReal => x * y) (pr_at R g q j hu hy) (R.vw j l)
theorem half_at (a e : Fin 4) (ha : a.val % 2 = 0) (he : e.val = a.val + 1) :
    (w.half a e (ix3 0 q l) : EReal) = oE u y b n h ⟨a.val + l.val / 64, by omega⟩ q ⟨l.val % 64, by omega⟩ := by
  pointwise [Win.half]
  refine (Attn.select_low q l _ _).trans ?_
  split_ifs with hl
  · refine (pv_at R a q l hu hy).trans ?_
    have : a = ⟨a.val + l.val / 64, by omega⟩ := Fin.ext (by dsimp only; omega)
    rw [← this]
  · refine (pv_at R e q l hu hy).trans ?_
    have : e = ⟨a.val + l.val / 64, by omega⟩ := Fin.ext (by dsimp only; omega)
    rw [← this]
end Values

end Cert.Proof.Fwd
end
-- ==== Proof.Fwd.BlkValue.lean ====
/- One grid point of the attention forward call, element by element. -/
module

public import proofs.«01_k».proof.Proof.Fwd.Body
public import proofs.«01_k».proof.Proof.Fwd.WinValue
public import proofs.«01_k».proof.Proof.Attn.BlkValue

@[expose] public section

set_option maxRecDepth 16384

noncomputable section

namespace Cert.Proof.Fwd

open Idealize.ShloMosaic Idealize.SL.Sem Cert.FwdIdeal Cert.FwdIdeal.Gen
open Cert.Proof.Attn (padE ev3 keep_lane own_half padded_at)

/-- What a grid point reads, from the arguments. -/
structure InReads (B : In Ideal) (u : (⟨3, ![2, 2048, 2816]⟩ : Shape).Idx → EReal) (y : (⟨1, ![8]⟩ : Shape).Idx → EReal) (b h : Fin 2) : Prop where
  sl : ∀ k : Fin 8, (B.sl (ix1 k) : EReal) = slopeE k
  sk : ∀ k : Fin 8, (B.sk (ix1 k) : EReal) = y (ix1 k)
  q : ∀ (r : Fin 2048) (l : Fin 256), (B.q (ix3 0 r l) : EReal) = u (ix3 b r ⟨2048 + 256 * h.val + l.val, by omega⟩)
  k : ∀ (r : Fin 2048) (l : Fin 128), (B.k (ix3 0 r l) : EReal) = u (ix3 b r ⟨2560 + l.val, by omega⟩)
  v : ∀ (r : Fin 2048) (l : Fin 128), (B.v (ix3 0 r l) : EReal) = u (ix3 b r ⟨2688 + l.val, by omega⟩)

section Half
variable (i : grid0.Coords) (h : Fin 2) (hi : (i 1).val = h.val) (x : Vec Ideal S1x2048x128 .bf16) (r : Fin 2048) (l : Fin 128)
include hi
theorem pay45_at : (k0_pay45 i x (ix2 r l) : EReal) = (x (ix3 0 r ⟨64 * h.val + l.val % 64, by omega⟩) : EReal) := by
  pointwise [k0_pay45]
  rw [hi, keep_lane]
  exact own_half (fun l => x (ix3 0 r l)) h l
theorem pay2_at : (k0_pay2 (k0_pay47 x) (k0_pay48 i) (constantI S2048x128 1 1#1) (ix2 r l) : EReal) =
    (x (ix3 0 r ⟨64 * h.val + l.val % 64, by omega⟩) : EReal) := by
  pointwise [k0_pay2, k0_pay47, k0_pay48]
  rw [hi, keep_lane]
  exact own_half (fun l => x (ix3 0 r l)) h l
theorem off3 (g : Fin 4) : k0_off3 i (BitVec.ofNat 32 g.val) = ![h.val * 4 + g.val] := by
  unfold k0_off3
  rw [hi]
  clear hi
  revert h g
  decide +kernel
end Half

theorem iv_eq (n : Fin 16) : Scf.iv 0#32 1#32 (tripOf n.val n.isLt) = BitVec.ofNat 32 n.val := by
  revert n; decide +kernel

theorem ok_at (n : Fin 16) (q : Fin 128) (j : Fin 384) : k0_pay10 0#32 1#32 (tripOf n.val n.isLt) (ix2 q j) = maskE n q j := by
  unfold maskE
  rw [← dist_at]
  pointwise [k0_pay10, Ref.place]
  rw [iv_eq]
  exact BitVec.and_assoc _ _ _

section Point
variable {B : In Ideal} {u : (⟨3, ![2, 2048, 2816]⟩ : Shape).Idx → EReal} {y : (⟨1, ![8]⟩ : Shape).Idx → EReal} {b h : Fin 2}
  (R : InReads B u y b h) (i : grid0.Coords) (hi : (i 1).val = h.val)
include R hi

theorem keys_at (r : Fin 2304) (l : Fin 128) : ((B.blk i).kp (ix2 r l) : EReal) = padE u b h ⟨l.val % 64, by omega⟩ 2560 (by decide) r.val := by
  refine (padded_at _ _ _ (fun x l => by pointwise [k0_pay44]) (fun x l => by pointwise [k0_pay46]) r l).trans ?_
  unfold padE
  by_cases H : 128 ≤ r.val ∧ r.val < 2176
  · rw [dif_pos H, dif_pos H]
    refine (pay45_at i h hi B.k _ l).trans ((R.k _ _).trans (ev3 u rfl rfl ?_))
    show 2560 + (64 * h.val + l.val % 64) = 2560 + 64 * h.val + l.val % 64
    omega
  · rw [dif_neg H, dif_neg H]

theorem values_at (r : Fin 2304) (l : Fin 128) : ((B.blk i).vp (ix2 r l) : EReal) = padE u b h ⟨l.val % 64, by omega⟩ 2688 (by decide) r.val := by
  refine (padded_at _ _ _ (fun x l => by pointwise [k0_pay1]) (fun x l => by pointwise [k0_pay3]) r l).trans ?_
  unfold padE
  by_cases H : 128 ≤ r.val ∧ r.val < 2176
  · rw [dif_pos H, dif_pos H]
    refine (pay2_at i h hi B.v _ l).trans ((R.v _ _).trans (ev3 u rfl rfl ?_))
    show 2688 + (64 * h.val + l.val % 64) = 2688 + 64 * h.val + l.val % 64
    omega
  · rw [dif_neg H, dif_neg H]

theorem reads (n : Fin 16) : Reads ((B.blk i).win i (tripOf n.val n.isLt)) u y b n h := by
  have o1 := off1 (tripOf n.val n.isLt)
  have o2 := off2 (tripOf n.val n.isLt)
  refine ⟨fun q l => ?_, fun j l => ?_, fun j l => ?_, fun q j => ok_at n q j, fun g => ?_, fun g => ?_⟩
  · refine (View.ld_unit_apply_of B.q _ _ _ _ (ix3 0 ⟨128 * n.val + q.val, by omega⟩ l) fun a => ?_).trans ((R.q _ _).trans (ev3 u rfl rfl ?_))
    · refine Eq.trans ?_ (congrArg (· + _) (congrFun o2 a).symm)
      match a with
      | ⟨0, _⟩ => rfl
      | ⟨1, _⟩ => rfl
      | ⟨2, _⟩ => show l.val = 0 + l.val; omega
    · show 2048 + 256 * h.val + l.val = 2048 + 256 * h.val + 64 * (l.val / 64) + l.val % 64
      omega
  · refine (View.ld_unit_apply_of (B.blk i).kp _ _ _ _ (ix2 ⟨128 * n.val + j.val, by omega⟩ l) fun a => ?_).trans (keys_at R i hi _ _)
    refine Eq.trans ?_ (congrArg (· + _) (congrFun o1 a).symm)
    match a with
    | ⟨0, _⟩ => rfl
    | ⟨1, _⟩ => show l.val = 0 + l.val; omega
  · refine (View.ld_unit_apply_of (B.blk i).vp _ _ _ _ (ix2 ⟨128 * n.val + j.val, by omega⟩ l) fun a => ?_).trans (values_at R i hi _ _)
    refine Eq.trans ?_ (congrArg (· + _) (congrFun o1 a).symm)
    match a with
    | ⟨0, _⟩ => rfl
    | ⟨1, _⟩ => show l.val = 0 + l.val; omega
  · refine (View.ld_unit_apply_of B.sl _ _ _ _ (ix1 (head h g)) fun a => ?_).trans (R.sl _)
    refine Eq.trans ?_ (congrArg (· + _) (congrFun (off3 i h hi g) a).symm)
    match a with
    | ⟨0, _⟩ => rfl
  · refine (View.ld_unit_apply_of B.sk _ _ _ _ (ix1 (head h g)) fun a => ?_).trans (R.sk _)
    refine Eq.trans ?_ (congrArg (· + _) (congrFun (off3 i h hi g) a).symm)
    match a with
    | ⟨0, _⟩ => rfl

variable (hu : ∀ i, IsReal (u i)) (hy : ∀ i, IsReal (y i))
include hu hy
theorem p_point (n : Fin 16) (g : Fin 4) (q : Fin 128) (j : Fin 384) : ((B.blk i).p i (ix5 0 0 n ⟨128 * g.val + q.val, by omega⟩ j) : EReal) = pE u y b n h g q j :=
  p_at (reads R i hi n) g q j hu hy
theorem s_point (n : Fin 16) (g : Fin 4) (q : Fin 128) : ((B.blk i).s i (ix5 0 0 n ⟨128 * g.val + q.val, by omega⟩ 0) : EReal) = psE u y b n h g q :=
  s_at (reads R i hi n) g q hu hy
theorem o_point (r : Fin 2048) (l : Fin 256) : ((B.blk i).o i (ix3 0 r l) : EReal) =
    oE u y b ⟨r.val / 128, by omega⟩ h ⟨l.val / 64, by omega⟩ ⟨r.val % 128, by omega⟩ ⟨l.val % 64, by omega⟩ := by
  have hr := reads R i hi ⟨r.val / 128, by omega⟩
  by_cases H : l.val < 128
  · refine (dif_pos H).trans ((half_at hr ⟨r.val % 128, by omega⟩ ⟨l.val, H⟩ hu hy 0 1 rfl rfl).trans ?_)
    congr 1
    exact Fin.ext (show 0 + l.val / 64 = l.val / 64 by omega)
  · refine (dif_neg H).trans ((half_at hr ⟨r.val % 128, by omega⟩ ⟨l.val - 128, by omega⟩ hu hy 2 3 rfl rfl).trans ?_)
    congr 1
    · exact Fin.ext (show 2 + (l.val - 128) / 64 = l.val / 64 by omega)
    · exact Fin.ext (show (l.val - 128) % 64 = l.val % 64 by omega)
end Point

end Cert.Proof.Fwd
end
-- ==== Proof.Fwd.BlkRead.lean ====
/- Which rows and columns each point of the attention forward call reads and writes. -/
module

public import proofs.«01_k».proof.Proof.Gen.FwdIdeal.Frame
public import Idealize.ShloMosaic.Lib.Pointwise
public import Idealize.ShloMosaic.Lib.Pipeline.ValueKit.Geometry

@[expose] public section

set_option maxRecDepth 16384

noncomputable section

namespace Cert.Proof.Fwd

open Idealize.ShloMosaic Idealize.ShloMosaic.TcCoe Idealize.SL.Sem Cert.FwdIdeal Cert.FwdIdeal.Gen

theorem points4 : cfg0.N = 4 := by decide +kernel

/-- Point `t`'s item and group. -/
def item (t : Fin cfg0.N) : Fin 2 := ⟨t.val / 2, by have := t.isLt; have := points4; omega⟩
def group (t : Fin cfg0.N) : Fin 2 := ⟨t.val % 2, by omega⟩

theorem coord1 (t : Fin cfg0.N) : (grid0.coords t 1).val = (group t).val := by
  have e : (grid0.coords t 1).val = t.val / 1 % 2 := Pipeline.Grid.coords_val t 1 (by decide) rfl
  rw [e, Nat.div_one]; rfl

theorem at0 : ∀ t : Fin cfg0.N, win0_0.index t 0 = 0 := by decide +kernel
theorem at1 : ∀ t : Fin cfg0.N, win0_1.index t 0 = 0 := by decide +kernel
theorem at2 : ∀ t : Fin cfg0.N, win0_2.index t 0 = t.val / 2 ∧ win0_2.index t 1 = 0 ∧ win0_2.index t 2 = 8 + t.val % 2 := by decide +kernel
theorem at3 : ∀ t : Fin cfg0.N, win0_3.index t 0 = t.val / 2 ∧ win0_3.index t 1 = 0 ∧ win0_3.index t 2 = 20 := by decide +kernel
theorem at4 : ∀ t : Fin cfg0.N, win0_4.index t 0 = t.val / 2 ∧ win0_4.index t 1 = 0 ∧ win0_4.index t 2 = 21 := by decide +kernel
theorem at5 : ∀ t : Fin cfg0.N, win0_5.index t 0 = t.val / 2 ∧ win0_5.index t 1 = 0 ∧ win0_5.index t 2 = t.val % 2 := by decide +kernel
theorem at6 : ∀ t : Fin cfg0.N, win0_6.index t 0 = t.val / 2 ∧ win0_6.index t 1 = t.val % 2 ∧ win0_6.index t 2 = 0 ∧ win0_6.index t 3 = 0 ∧ win0_6.index t 4 = 0 := by decide +kernel
theorem at7 : ∀ t : Fin cfg0.N, win0_7.index t 0 = t.val / 2 ∧ win0_7.index t 1 = t.val % 2 ∧ win0_7.index t 2 = 0 ∧ win0_7.index t 3 = 0 ∧ win0_7.index t 4 = 0 := by decide +kernel

section Blocks
variable (t : Fin cfg0.N)
theorem read_0 (X : FVec Ideal S8 .f32) (k : Fin 8) : ((win0_0.blk t).view.read (Elt Ideal) X (ix1 k) : EReal) = (X (ix1 k) : EReal) := by
  blk_simp
  refine congrArg X (funext fun a => Fin.ext ?_)
  match a with
  | ⟨0, _⟩ => blk_simp; rw [at0 t]; omega
theorem read_1 (X : FVec Ideal S8 .f32) (k : Fin 8) : ((win0_1.blk t).view.read (Elt Ideal) X (ix1 k) : EReal) = (X (ix1 k) : EReal) := by
  blk_simp
  refine congrArg X (funext fun a => Fin.ext ?_)
  match a with
  | ⟨0, _⟩ => blk_simp; rw [at1 t]; omega
theorem read_2 (X : FVec Ideal S2x2048x2816 .bf16) (r : Fin 2048) (l : Fin 256) :
    ((win0_2.blk t).view.read (Elt Ideal) X (ix3 0 r l) : EReal) = (X (ix3 (item t) r ⟨2048 + 256 * (group t).val + l.val, by omega⟩) : EReal) := by
  blk_simp
  refine congrArg X (funext fun a => Fin.ext ?_)
  match a with
  | ⟨0, _⟩ => blk_simp; exact (at2 t).1
  | ⟨1, _⟩ => blk_simp; rw [(at2 t).2.1]; omega
  | ⟨2, _⟩ => blk_simp; rw [(at2 t).2.2]; show (8 + t.val % 2) * 256 + l.val = 2048 + 256 * (t.val % 2) + l.val; omega
theorem read_3 (X : FVec Ideal S2x2048x2816 .bf16) (r : Fin 2048) (l : Fin 128) :
    ((win0_3.blk t).view.read (Elt Ideal) X (ix3 0 r l) : EReal) = (X (ix3 (item t) r ⟨2560 + l.val, by omega⟩) : EReal) := by
  blk_simp
  refine congrArg X (funext fun a => Fin.ext ?_)
  match a with
  | ⟨0, _⟩ => blk_simp; exact (at3 t).1
  | ⟨1, _⟩ => blk_simp; rw [(at3 t).2.1]; omega
  | ⟨2, _⟩ => blk_simp; rw [(at3 t).2.2]
theorem read_4 (X : FVec Ideal S2x2048x2816 .bf16) (r : Fin 2048) (l : Fin 128) :
    ((win0_4.blk t).view.read (Elt Ideal) X (ix3 0 r l) : EReal) = (X (ix3 (item t) r ⟨2688 + l.val, by omega⟩) : EReal) := by
  blk_simp
  refine congrArg X (funext fun a => Fin.ext ?_)
  match a with
  | ⟨0, _⟩ => blk_simp; exact (at4 t).1
  | ⟨1, _⟩ => blk_simp; rw [(at4 t).2.1]; omega
  | ⟨2, _⟩ => blk_simp; rw [(at4 t).2.2]

theorem emb_5 (r : Fin 2048) (l : Fin 256) : (win0_5.blk t).view.emb (ix3 0 r l : S1x2048x256.Idx) = (ix3 (item t) r ⟨256 * (group t).val + l.val, by omega⟩ : S2x2048x512.Idx) := by
  refine funext fun a => Fin.ext ?_
  match a with
  | ⟨0, _⟩ => blk_simp; exact (at5 t).1
  | ⟨1, _⟩ => blk_simp; rw [(at5 t).2.1]; omega
  | ⟨2, _⟩ => blk_simp; rw [(at5 t).2.2]; show t.val % 2 * 256 + l.val = 256 * (t.val % 2) + l.val; omega
theorem emb_6 (n : Fin 16) (q : Fin 512) (j : Fin 384) : (win0_6.blk t).view.emb (ix5 0 0 n q j : S1x1x16x512x384.Idx) = (ix5 (item t) (group t) n q j : S2x2x16x512x384.Idx) := by
  refine funext fun a => Fin.ext ?_
  match a with
  | ⟨0, _⟩ => blk_simp; exact (at6 t).1
  | ⟨1, _⟩ => blk_simp; exact (at6 t).2.1
  | ⟨2, _⟩ => blk_simp; rw [(at6 t).2.2.1]; omega
  | ⟨3, _⟩ => blk_simp; rw [(at6 t).2.2.2.1]; omega
  | ⟨4, _⟩ => blk_simp; rw [(at6 t).2.2.2.2]; omega
theorem emb_7 (n : Fin 16) (q : Fin 512) : (win0_7.blk t).view.emb (ix5 0 0 n q 0 : S1x1x16x512x1.Idx) = (ix5 (item t) (group t) n q 0 : S2x2x16x512x1.Idx) := by
  refine funext fun a => Fin.ext ?_
  match a with
  | ⟨0, _⟩ => blk_simp; exact (at7 t).1
  | ⟨1, _⟩ => blk_simp; exact (at7 t).2.1
  | ⟨2, _⟩ => blk_simp; rw [(at7 t).2.2.1]; omega
  | ⟨3, _⟩ => blk_simp; rw [(at7 t).2.2.2.1]; omega
  | ⟨4, _⟩ => blk_simp; exact (at7 t).2.2.2.2
end Blocks

end Cert.Proof.Fwd
end
-- ==== Proof.Fwd.RefValue.lean ====
/- The attention forward reference's results, element by element. -/
module

public import proofs.«01_k».proof.Proof.Fwd.Math

@[expose] public section

set_option maxRecDepth 16384

noncomputable section

namespace Cert.Proof.Fwd.Ref

open Idealize.ShloMosaic Idealize.ShloMosaic.TcCoe Idealize.SL.Sem
open Cert.FwdRefIdeal Cert.FwdRefIdeal.Value Cert.FwdRefIdeal.Gen
open Cert.Proof.Attn (chainP chainS chainE chainES chainDN chainM laidP laidS qE kE vE padE scale ev3 sum_last)

variable (x : FVec Ideal S2x2048x2816 .bf16) (y : FVec Ideal S8 .f32)

/-! The arguments with their elements as extended reals. -/

abbrev ue : S2x2048x2816.Idx → EReal := x
abbrev ye : S8.Idx → EReal := y

variable (b : Fin 2) (n : Fin 16) (h : Fin 2) (g : Fin 4) (q : Fin 128) (j : Fin 384) (d : Fin 64)

theorem queries_at : (queries x (ix6 b n q h g d) : EReal) = qE (ue x) b n h g q d := by
  pointwise [queries]
  exact ev3 (ue x) rfl (by show n.val * 128 + q.val = 128 * n.val + q.val; omega) (by show 2048 + (h.val * 256 + g.val * 64 + d.val) = 2048 + 256 * h.val + 64 * g.val + d.val; omega)

theorem blocks_at (o : Nat) (ho : o + 128 ≤ 2816) (s) (m : Fin 18) : (blocks x o s (ix5 b m q h d) : EReal) = padE (ue x) b h d o ho (128 * m.val + q.val) := by
  pointwise [blocks]
  unfold padE
  by_cases H : 128 ≤ 128 * m.val + q.val ∧ 128 * m.val + q.val < 2176
  · have H' : 128 ≤ m.val * 128 + q.val ∧ m.val * 128 + q.val - 128 < 2048 := by omega
    refine (dif_pos H').trans (Eq.trans ?_ (dif_pos H).symm)
    refine ev3 (ue x) rfl ?_ ?_ <;> dsimp only <;> omega
  · have H' : ¬ (128 ≤ m.val * 128 + q.val ∧ m.val * 128 + q.val - 128 < 2048) := by omega
    refine (dif_neg H').trans (Eq.trans ?_ (dif_neg H).symm)
    show (((0 : Int) : ℝ) : EReal) = 0
    simp

theorem windows_at (B : FVec Ideal S2x18x128x2x64 .f32) (f : Nat → EReal) (hB : ∀ (m : Fin 18) (q : Fin 128), (B (ix5 b m q h d) : EReal) = f (128 * m.val + q.val)) :
    (windows B (ix5 b n j h d) : EReal) = f (128 * n.val + j.val) := by
  pointwise [windows]
  split_ifs
  all_goals exact (hB _ _).trans (congrArg f (by dsimp only <;> omega))
theorem keys_at : (keys x (ix5 b n j h d) : EReal) = kE (ue x) b n h j d :=
  windows_at b n h j d _ _ fun m q => blocks_at x b h q d 2560 (by decide) _ m
theorem values_at : (values x (ix5 b n j h d) : EReal) = vE (ue x) b n h j d :=
  windows_at b n h j d _ _ fun m q => blocks_at x b h q d 2688 (by decide) _ m

theorem mask_at : mask (ix6 b n h g q j) = maskE n q j := by
  unfold maskE
  pointwise [mask]
  try rfl
theorem slopes_at (k : Fin 8) : (slopes (ix1 k) : EReal) = slopeE k := by
  refine Eq.trans ?_ (slope_ref k)
  pointwise [slopes]
  try rfl
theorem bias_at : (bias (ix6 b n h g q j) : EReal) = -(slopeE (head h g) * FloatOps.sitofp (F := Ideal) .f32 (dist (ix2 q j))) := by
  rw [← EReal.neg_mul, ← slopes_at]
  pointwise [bias]
  try rfl
theorem scores_at : (scores x (ix6 b n h g q j) : EReal) = scE (ue x) b n h g q j := by
  pointwise [scores]
  refine (congrArg (fun c => Scalar.select c _ _) (mask_at b n h g q j)).trans ?_
  unfold scE
  refine congrArg (fun x : EReal => Scalar.select (maskE n q j) x low) ?_
  refine congrArg₂ (fun x y : EReal => x + y) (congrArg (· * scale) (Finset.sum_congr rfl fun d _ => ?_)) (bias_at b n h g q j)
  exact congrArg₂ (fun x y : EReal => x * y) (keys_at x b n h j d) (queries_at x b n h g q d)
theorem sinks_at : (sinks y (ix6 b 0 h g 0 0) : EReal) = ye y (ix1 (head h g)) := by
  pointwise [sinks]
  try rfl

section Chain
variable (X : FVec Ideal S2x16x2x4x128x384 .f32) (K : FVec Ideal S2x1x2x4x1x1 .f32)
theorem chainM_at : (chainM X K (ix6 b n h g q 0) : EReal) = max ((Finset.univ : Finset (Fin 384)).fold max ⊥ fun j => (X (ix6 b n h g q j) : EReal)) (K (ix6 b 0 h g 0 0) : EReal) := by
  refine (Attn.Ref.max_at _ _ _).trans (congrArg₂ max ?_ ?_)
  · refine Eq.trans ?_ ((Attn.Ref.fold_row b n h g q X (constant (F := Ideal) S_ .f32 0xFF800000#32)).trans (congrArg (fun a => Finset.fold max a _ _) Attn.Ref.neg_inf))
    generalize Host.reduce _ X _ _ _ = Y
    pointwise
  · pointwise
theorem chainE_at : (chainE X K (ix6 b n h g q j) : EReal) = Ideal.exp ((X (ix6 b n h g q j) : EReal) - (chainM X K (ix6 b n h g q 0) : EReal)) := by
  unfold chainE
  generalize chainM X K = M
  pointwise
  try rfl
theorem chainES_at : (chainES X K (ix6 b n h g q 0) : EReal) = Ideal.exp ((K (ix6 b 0 h g 0 0) : EReal) - (chainM X K (ix6 b n h g q 0) : EReal)) := by
  unfold chainES
  generalize chainM X K = M
  pointwise
  try rfl
theorem chainDN_at : (chainDN X K (ix6 b n h g q 0) : EReal) = ∑ j, (chainE X K (ix6 b n h g q j) : EReal) + (chainES X K (ix6 b n h g q 0) : EReal) := by
  unfold chainDN
  generalize chainE X K = E
  generalize chainES X K = S
  pointwise
  rw [sum_last, zero_add]
theorem chainP_at : (chainP X K (ix6 b n h g q j) : EReal) = Ideal.div (chainE X K (ix6 b n h g q j) : EReal) (chainDN X K (ix6 b n h g q 0) : EReal) := by
  unfold chainP
  generalize chainE X K = E
  generalize chainDN X K = D
  pointwise
  try rfl
theorem chainS_at : (chainS X K (ix6 b n h g q 0) : EReal) = Ideal.div (chainES X K (ix6 b n h g q 0) : EReal) (chainDN X K (ix6 b n h g q 0) : EReal) := by
  unfold chainS
  generalize chainES X K = E
  generalize chainDN X K = D
  pointwise
  try rfl
end Chain

theorem M_at : (chainM (scores x) (sinks y) (ix6 b n h g q 0) : EReal) = topE (ue x) (ye y) b n h g q := by
  rw [chainM_at, sinks_at]
  unfold topE
  simp only [scores_at]
theorem E_at : (chainE (scores x) (sinks y) (ix6 b n h g q j) : EReal) = eE (ue x) (ye y) b n h g q j := by
  rw [chainE_at, M_at, scores_at]; rfl
theorem ES_at : (chainES (scores x) (sinks y) (ix6 b n h g q 0) : EReal) = esE (ue x) (ye y) b n h g q := by
  rw [chainES_at, M_at, sinks_at]; rfl
theorem DN_at : (chainDN (scores x) (sinks y) (ix6 b n h g q 0) : EReal) = dnE (ue x) (ye y) b n h g q := by
  rw [chainDN_at, ES_at]
  simp only [E_at]
  rfl
theorem P_at : (chainP (scores x) (sinks y) (ix6 b n h g q j) : EReal) = pE (ue x) (ye y) b n h g q j := by
  rw [chainP_at, E_at, DN_at]; rfl
theorem S_at : (chainS (scores x) (sinks y) (ix6 b n h g q 0) : EReal) = psE (ue x) (ye y) b n h g q := by
  rw [chainS_at, ES_at, DN_at]; rfl
theorem out_at (r : Fin 2048) (l : Fin 512) : (out x y (ix3 b r l) : EReal) =
    oE (ue x) (ye y) b ⟨r.val / 128, by omega⟩ ⟨l.val / 256, by omega⟩ ⟨l.val / 64 % 4, by omega⟩ ⟨r.val % 128, by omega⟩ ⟨l.val % 64, by omega⟩ := by
  unfold out
  have hP := P_at x y
  generalize chainP (scores x) (sinks y) = P at hP ⊢
  pointwise
  refine Finset.sum_congr rfl fun j _ => ?_
  exact (congrArg₂ (fun x y : EReal => x * y) (values_at x b _ _ j _) (hP b _ _ _ _ j)).trans (mul_comm _ _)

end Cert.Proof.Fwd.Ref
end
-- ==== Proof.Fwd.Value.lean ====
/- The attention forward call's results are the reference's. -/
module

public import proofs.«01_k».proof.Proof.Fwd.BlkValue
public import proofs.«01_k».proof.Proof.Fwd.BlkRead
public import proofs.«01_k».proof.Proof.Fwd.RefValue
public import proofs.«01_k».proof.Proof.Fwd.Claims
public import proofs.«01_k».proof.Proof.Attn.Value
public import proofs.«01_k».proof.Proof.Gen.Pre_finite_fwd

@[expose] public section

set_option maxRecDepth 16384

noncomputable section

namespace Cert.Proof.Fwd

open Idealize.ShloMosaic Idealize.ShloMosaic.StableHlo Idealize.ShloMosaic.TcCoe Idealize.SL.Sem
open Cert.FwdIdeal Cert.FwdIdeal.Gen
open Cert.Proof.Attn (chainP chainS laidP laidS split_p split_s idx3)

variable {m : (ℓ : Loc nD τ sig) → Buf (Elt Ideal) ℓ} {c : Dev nD}

/-- The two arguments, their elements as extended reals. -/
abbrev argU (m : (ℓ : Loc nD τ sig) → Buf (Elt Ideal) ℓ) (c : Dev nD) : S2x2048x2816.Idx → EReal := m ((c.tc : Thread nD τ).loc main_arg0)
abbrev argY (m : (ℓ : Loc nD τ sig) → Buf (Elt Ideal) ℓ) (c : Dev nD) : S8.Idx → EReal := m ((c.tc : Thread nD τ).loc main_arg1)

/-! ## The precondition -/

theorem finite_of_pre (h : Cert.Pre_FwdIdeal_finite_fwd m) : (∀ i, IsReal (argU m c i)) ∧ ∀ i, IsReal (argY m c i) := by
  have e := congrFun (h c) (fun i => i.elim0)
  obtain ⟨e, e1⟩ := IntOp.andi_eq_one.1 e
  exact ⟨fun i => isReal_of_all _ _ _ _ _ e i, fun i => isReal_of_all _ _ _ _ _ e1 i⟩

/-! ## What a point reads -/

theorem V_slopes : V m c main_v5 = (Host.powf (broadcastInDim S8 ![] bcast_S_S8 (constant S_ .f32 0x40000000#32) : FVec Ideal S8 .f32)
    (Host.negf (addf (sitofp .f32 (iotaInDim S8 32 0)) (broadcastInDim S8 ![] bcast_S_S8 (constant S_ .f32 0x3F800000#32)))) : FVec Ideal S8 .f32) := by
  rfl
theorem slopes_run (k : Fin 8) : (V m c main_v5 (ix1 k) : EReal) = slopeE k := by
  rw [V_slopes]
  refine Eq.trans ?_ (slope_ker k)
  pointwise []

section Inputs
variable (t : Fin cfg0.N)
theorem inReads : InReads (inAt m c t) (argU m c) (argY m c) (item t) (group t) :=
  ⟨fun k => (read_0 t (V m c main_v5) k).trans (slopes_run k),
   fun k => (read_1 t (V m c main_arg1) k).trans (congrFun (V_main_arg1 m c) _),
   fun r l => (read_2 t (V m c main_arg0) r l).trans (congrFun (V_main_arg0 m c) _),
   fun r l => (read_3 t (V m c main_arg0) r l).trans (congrFun (V_main_arg0 m c) _),
   fun r l => (read_4 t (V m c main_arg0) r l).trans (congrFun (V_main_arg0 m c) _)⟩
end Inputs

/-! ## The arrays, from their blocks -/

theorem idx5 {n0 n1 n2 : Nat} (y : (⟨5, ![1, 1, n0, n1, n2]⟩ : Shape).Idx) : y = ix5 0 0 (y 2) (y 3) (y 4) :=
  funext fun a => match a with | ⟨0, _⟩ => Fin.ext (Nat.lt_one_iff.mp (y 0).isLt) | ⟨1, _⟩ => Fin.ext (Nat.lt_one_iff.mp (y 1).isLt) | ⟨2, _⟩ => rfl | ⟨3, _⟩ => rfl | ⟨4, _⟩ => rfl

/-- A row of a block of four heads is one head's row. -/
theorem head_row (r : Fin 512) : r = ⟨128 * (⟨r.val / 128, by omega⟩ : Fin 4).val + (⟨r.val % 128, by omega⟩ : Fin 128).val, by dsimp only; omega⟩ :=
  Fin.ext (show r.val = 128 * (r.val / 128) + r.val % 128 by omega)

theorem arr_5 {G : S2x2048x512.Idx → EReal} (hG : ∀ t r l, (((inAt m c t).blk (grid0.coords t)).o (grid0.coords t) (ix3 0 r l) : EReal) = G (ix3 (item t) r ⟨256 * (group t).val + l.val, by omega⟩)) :
    (dats m 0 c).arrAt 5 cfg0.N = G := by
  funext i
  refine (dats m 0 c).arrAt_forall_of_covers 5 (fun i v => v = G i) (by decide +kernel) (fun t _ => ?_) i
  blk_simp
  rw [after_5]
  show ∀ y : S1x2048x256.Idx, (((inAt m c t).blk (grid0.coords t)).o (grid0.coords t) y : EReal) = G ((win0_5.blk t).view.emb y)
  intro y
  rw [idx3 y]
  exact (hG t _ _).trans (congrArg G (emb_5 t _ _).symm)
theorem arr_6 {G : S2x2x16x512x384.Idx → EReal} (hG : ∀ t n (g : Fin 4) (q : Fin 128) j, (((inAt m c t).blk (grid0.coords t)).p (grid0.coords t) (ix5 0 0 n ⟨128 * g.val + q.val, by omega⟩ j) : EReal) = G (ix5 (item t) (group t) n ⟨128 * g.val + q.val, by omega⟩ j)) :
    (dats m 0 c).arrAt 6 cfg0.N = G := by
  funext i
  refine (dats m 0 c).arrAt_forall_of_covers 6 (fun i v => v = G i) (by decide +kernel) (fun t _ => ?_) i
  blk_simp
  rw [after_6]
  show ∀ y : S1x1x16x512x384.Idx, (((inAt m c t).blk (grid0.coords t)).p (grid0.coords t) y : EReal) = G ((win0_6.blk t).view.emb y)
  intro y
  rw [idx5 y, head_row (y 3)]
  exact (hG t _ _ _ _).trans (congrArg G (emb_6 t _ _ _).symm)
theorem arr_7 {G : S2x2x16x512x1.Idx → EReal} (hG : ∀ t n (g : Fin 4) (q : Fin 128), (((inAt m c t).blk (grid0.coords t)).s (grid0.coords t) (ix5 0 0 n ⟨128 * g.val + q.val, by omega⟩ 0) : EReal) = G (ix5 (item t) (group t) n ⟨128 * g.val + q.val, by omega⟩ 0)) :
    (dats m 0 c).arrAt 7 cfg0.N = G := by
  funext i
  refine (dats m 0 c).arrAt_forall_of_covers 7 (fun i v => v = G i) (by decide +kernel) (fun t _ => ?_) i
  blk_simp
  rw [after_7]
  show ∀ y : S1x1x16x512x1.Idx, (((inAt m c t).blk (grid0.coords t)).s (grid0.coords t) y : EReal) = G ((win0_7.blk t).view.emb y)
  intro y
  have e : y = ix5 0 0 (y 2) (y 3) 0 := (idx5 y).trans (congrArg (ix5 0 0 (y 2) (y 3)) (Fin.ext (Nat.lt_one_iff.mp (y 4).isLt)))
  rw [e, head_row (y 3)]
  exact (hG t _ _ _).trans (congrArg G (emb_7 t _ _).symm)

section Arrays
variable (h : Cert.Pre_FwdIdeal_finite_fwd m)
include h
theorem out_run : (dats m 0 c).arrAt 5 cfg0.N = (Ref.out (argU m c) (argY m c) : S2x2048x512.Idx → EReal) := by
  obtain ⟨hu, hy⟩ := finite_of_pre (c := c) h
  refine arr_5 fun t r l => (o_point (inReads t) (grid0.coords t) (coord1 t) hu hy r l).trans (Eq.symm ?_)
  refine (Ref.out_at (argU m c) (argY m c) (item t) r ⟨256 * (group t).val + l.val, by omega⟩).trans ?_
  have e0 : (⟨(256 * (group t).val + l.val) / 256, by omega⟩ : Fin 2) = group t := Fin.ext (by show (256 * (group t).val + l.val) / 256 = (group t).val; omega)
  have e1 : (⟨(256 * (group t).val + l.val) / 64 % 4, by omega⟩ : Fin 4) = ⟨l.val / 64, by omega⟩ := Fin.ext (by show (256 * (group t).val + l.val) / 64 % 4 = l.val / 64; omega)
  have e2 : (⟨(256 * (group t).val + l.val) % 64, by omega⟩ : Fin 64) = ⟨l.val % 64, by omega⟩ := Fin.ext (by show (256 * (group t).val + l.val) % 64 = l.val % 64; omega)
  simp only [e0, e1, e2]
theorem p_run : (dats m 0 c).arrAt 6 cfg0.N = (laidP (chainP (Ref.scores (argU m c)) (Ref.sinks (argY m c))) : S2x2x16x512x384.Idx → EReal) := by
  obtain ⟨hu, hy⟩ := finite_of_pre (c := c) h
  exact arr_6 fun t n g q j => (p_point (inReads t) (grid0.coords t) (coord1 t) hu hy n g q j).trans
    ((split_p _ (item t) (group t) n g q j).trans (Ref.P_at (argU m c) (argY m c) (item t) n (group t) g q j)).symm
theorem s_run : (dats m 0 c).arrAt 7 cfg0.N = (laidS (chainS (Ref.scores (argU m c)) (Ref.sinks (argY m c))) : S2x2x16x512x1.Idx → EReal) := by
  obtain ⟨hu, hy⟩ := finite_of_pre (c := c) h
  exact arr_7 fun t n g q => (s_point (inReads t) (grid0.coords t) (coord1 t) hu hy n g q).trans
    ((split_s _ (item t) (group t) n g q).trans (Ref.S_at (argU m c) (argY m c) (item t) n (group t) g q)).symm
end Arrays

section Reference
variable {m' : (ℓ : Loc Cert.FwdRefIdeal.nD Cert.FwdRefIdeal.τ Cert.FwdRefIdeal.sig) → Buf (Elt Ideal) ℓ}
  (h0 : m' ((c.tc : Thread Cert.FwdRefIdeal.nD Cert.FwdRefIdeal.τ).loc Cert.FwdRefIdeal.main_arg0) = argU m c)
  (h1 : m' ((c.tc : Thread Cert.FwdRefIdeal.nD Cert.FwdRefIdeal.τ).loc Cert.FwdRefIdeal.main_arg1) = argY m c)
include h0 h1
theorem out_ref : Cert.FwdRefIdeal.Value.res_main_v102 m' c = Ref.out (argU m c) (argY m c) :=
  (Ref.out_eq m' c).trans (congrArg₂ Ref.out h0 h1)
theorem p_ref : Cert.FwdRefIdeal.Value.res_main_v103 m' c = laidP (chainP (Ref.scores (argU m c)) (Ref.sinks (argY m c))) :=
  (Ref.p_eq m' c).trans (congrArg₂ (fun x y => laidP (chainP (Ref.scores x) (Ref.sinks y))) h0 h1)
theorem s_ref : Cert.FwdRefIdeal.Value.res_main_v101 m' c = laidS (chainS (Ref.scores (argU m c)) (Ref.sinks (argY m c))) :=
  (Ref.s_eq m' c).trans (congrArg₂ (fun x y => laidS (chainS (Ref.scores x) (Ref.sinks y))) h0 h1)
end Reference

set_option maxHeartbeats 2000000 in
set_option backward.isDefEq.respectTransparency.types false in
/-- From finite arguments the kernel leaves in its three results what the reference leaves in its. -/
theorem algebraic : Cert.algebraic_FwdIdeal_FwdRefIdeal_pre_finite_fwd := by
  intro m g m' g' hpre hargs
  refine ⟨_, _, _, ?_, Cert.FwdRefIdeal.Value.run (F := Ideal) m' g'⟩
  refine (θ_run defs _ _).mono (fun r h c => ?_) (θ_run_and (run_main m g) (frame m g))
  have hw := (h.1 c).1
  have h0 := (hargs c).1
  have h1 := (hargs c).2
  exact ⟨(hw 5).trans ((out_run hpre).trans (out_ref h0 h1).symm), (hw 6).trans ((p_run hpre).trans (p_ref h0 h1).symm),
    (hw 7).trans ((s_run hpre).trans (s_ref h0 h1).symm), h.2.1 c⟩

end Cert.Proof.Fwd

end
-- ==== Proof.Ln1.Claims.lean ====
/- The frames of the projection with the first layer norm: the programs end and keep their arguments. -/
module

public import proofs.«01_k».proof.Defs
public import proofs.«01_k».proof.Proof.Gen.Ln1
public import proofs.«01_k».proof.Proof.Gen.Ln1Ideal.Frame
public import proofs.«01_k».proof.Proof.Gen.Ln1RefIdeal.Run
public import Idealize.ShloMosaic.Lib.Quiescent

@[expose] public section

noncomputable section

namespace Cert.Proof.Ln1

open Idealize.ShloMosaic Idealize.ShloMosaic.TcCoe Idealize.SL.Sem

section
open Cert.Ln1Ideal Cert.Ln1Ideal.Gen
variable {F : FTy → Type} [FloatOps F] (m : (ℓ : Loc nD τ sig) → Buf (Elt F) ℓ) (ρ : Dev nD → PrngReg)

/-- From `m` the call ends, its arguments unchanged and its counters zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
theorem kept : Kept m ρ := frame m ρ
end

/-- The kernel's frame on machine numbers: the idealization has the same text, so its run, which holds over any
    float values, is the kernel's. -/
theorem frame_ln1 : Cert.quiescent_Ln1 := by
  have same : Cert.quiescent_Ln1 = ∀ m ρ, True → Kept (F := Bits) m ρ := by sl_kernel_rfl
  rw [same]
  exact fun m ρ _ => kept m ρ

theorem frame_ln1Ideal : Cert.quiescent_Ln1Ideal := fun m ρ _ => kept (F := Ideal) m ρ

/-- The reference keeps its arguments, and has no semaphore. -/
theorem frame_ln1RefIdeal : Cert.quiescent_Ln1RefIdeal := fun m ρ _ =>
  (θ_run Cert.Ln1RefIdeal.defs _ _).mono (fun r h => ⟨fun c => (h c).2.2.2, sem_eq_zero_of_no_sems rfl r.2⟩)
    (Cert.Ln1RefIdeal.Value.run (F := Ideal) m ρ)

end Cert.Proof.Ln1

end
-- ==== Proof.Ln1.Ref.lean ====
/- The reference's projection and first layer norm, element by element. -/
module

public import proofs.«01_k».proof.Proof.Ffn.Norm
public import proofs.«01_k».proof.Proof.Gen.Ln1RefIdeal.Run
public import Idealize.ShloMosaic.Lib.Pointwise

@[expose] public section

set_option maxRecDepth 16384

noncomputable section

namespace Cert.Proof.Ln1

open Idealize.ShloMosaic Idealize.ShloMosaic.TcCoe Idealize.SL.Sem
open Cert.Ln1RefIdeal Cert.Ln1RefIdeal.Value Cert.Ln1RefIdeal.Gen
open Cert.Proof.Ffn (scale width)

/-- A row of the layer norm's input: the residual and the two mixers' products. -/
def zE (X : S4096x1024.Idx → EReal) (Y Z : S4096x512.Idx → EReal) (W : S1024x1024.Idx → EReal) (t : Fin 4096) (d : Fin 1024) : EReal :=
  scale * X (ix2 t d) + (∑ k : Fin 512, Y (ix2 t k) * W (ix2 ⟨k.val, by omega⟩ d) + ∑ k : Fin 512, Z (ix2 t k) * W (ix2 ⟨512 + k.val, by omega⟩ d))

namespace Ref
variable (x : FVec Ideal S4096x1024 .f32) (y z : FVec Ideal S4096x512 .f32) (w : FVec Ideal S1024x1024 .f32) (g b : FVec Ideal S1x1024 .f32)

def input : FVec Ideal S4096x1024 .f32 :=
  addf (mulf (broadcastInDim S4096x1024 ![] bcast_S_S4096x1024 (constant S_ .f32 0x3F9837F0#32)) x)
    (Host.dotGeneral dot_S4096x1024_S1024x1024_S4096x1024_1_0_0_1_n_n none (concatenate S4096x1024 1 [⟨S4096x512, y⟩, ⟨S4096x512, z⟩] concatenates_S4096x512_S4096x512_S4096x1024_d1) w)
def mean (v : FVec Ideal S4096x1024 .f32) : FVec Ideal S4096x1 .f32 :=
  Host.divf (broadcastInDim S4096x1 ![0] bcast_S4096_S4096x1_0 (Host.reduceAdd v (constant S_ .f32 0x00000000#32) reducesTo_S4096x1024_S4096_d1 h_S_))
    (broadcastInDim S4096x1 ![] bcast_S_S4096x1 (constant S_ .f32 0x44800000#32))
def centred (v : FVec Ideal S4096x1024 .f32) : FVec Ideal S4096x1024 .f32 := subf v (broadcastInDim S4096x1024 ![0, 1] bcast_S4096x1_S4096x1024_0_1 (mean v))
def inverse (v : FVec Ideal S4096x1024 .f32) : FVec Ideal S4096x1 .f32 :=
  Host.rsqrt (addf (mean (mulf (centred v) (centred v))) (broadcastInDim S4096x1 ![] bcast_S_S4096x1 (constant S_ .f32 0x3727C5AC#32)))
def normal (v : FVec Ideal S4096x1024 .f32) : FVec Ideal S4096x1024 .f32 := mulf (centred v) (broadcastInDim S4096x1024 ![0, 1] bcast_S4096x1_S4096x1024_0_1 (inverse v))
def out (v : FVec Ideal S4096x1024 .f32) : FVec Ideal S4096x1024 .bf16 :=
  truncf .bf16 (addf (mulf (normal v) (broadcastInDim S4096x1024 ![0, 1] bcast_S1x1024_S4096x1024_0_1 g)) (broadcastInDim S4096x1024 ![0, 1] bcast_S1x1024_S4096x1024_0_1 b)) bitsLt_bf16_f32

variable (m : (ℓ : Loc nD τ sig) → Buf (Elt Ideal) ℓ) (c : Dev nD)
theorem out_eq : res_main_v45 m c = out (m ((c.tc : Thread nD τ).loc main_arg4)) (m ((c.tc : Thread nD τ).loc main_arg5))
    (input (m ((c.tc : Thread nD τ).loc main_arg0)) (m ((c.tc : Thread nD τ).loc main_arg1)) (m ((c.tc : Thread nD τ).loc main_arg2)) (m ((c.tc : Thread nD τ).loc main_arg3))) := by
  unfold res_main_v45; rfl

variable (t : Fin 4096) (d : Fin 1024)

theorem input_at : (input x y z w (ix2 t d) : EReal) = zE x y z w t d := by
  unfold zE scale
  pointwise [input]

variable (v : FVec Ideal S4096x1024 .f32) (r : Fin 1024 → EReal) (h : ∀ d, (v (ix2 t d) : EReal) = r d)
include h
theorem mean_at : (mean v (ix2 t 0) : EReal) = Ideal.div (∑ d, r d) width := by
  unfold width
  pointwise [mean]
  simp only [h]
theorem centred_at : (centred v (ix2 t d) : EReal) = Norm.cen r d := by
  unfold Norm.cen
  rw [← mean_at t v r h, ← h d]
  pointwise [centred]
theorem inverse_at : (inverse v (ix2 t 0) : EReal) = Norm.inv r := by
  unfold Norm.inv Norm.var
  rw [← mean_at t (mulf (centred v) (centred v)) (fun d => Norm.cen r d * Norm.cen r d) (fun d => by rw [← centred_at t d v r h]; pointwise [])]
  pointwise [inverse]
theorem normal_at : (normal v (ix2 t d) : EReal) = Norm.normed r d := by
  unfold Norm.normed
  rw [← centred_at t d v r h, ← inverse_at t v r h]
  pointwise [normal]
theorem out_at : (out g b v (ix2 t d) : EReal) = Norm.normed r d * (g (ix2 0 d) : EReal) + (b (ix2 0 d) : EReal) := by
  rw [← normal_at t d v r h]
  pointwise [out]
end Ref

end Cert.Proof.Ln1
end
-- ==== Proof.Ln1.Value.lean ====
/- The projection with the first layer norm: its results are the reference's. -/
module

public import proofs.«01_k».proof.Proof.Ln1.Ref
public import proofs.«01_k».proof.Proof.Ln1.Claims
public import Idealize.ShloMosaic.Lib.Pipeline.ValueKit.Geometry
public import Idealize.ShloMosaic.Lib.Pipeline.ValueKit.Tiles

@[expose] public section

set_option maxRecDepth 16384

noncomputable section

namespace Cert.Proof.Ln1

open Idealize.ShloMosaic Idealize.ShloMosaic.StableHlo Idealize.ShloMosaic.TcCoe Idealize.SL.Sem
open Cert.Ln1Ideal Cert.Ln1Ideal.Gen
open Cert.Proof.Ffn (scale width)

/-! ## A block -/

section Block
variable (y z : Vec Ideal S512x512 .bf16) (x : Vec Ideal S512x1024 .f32) (w : Vec Ideal S1024x1024 .bf16) (g b : Vec Ideal S1x1024 .f32)
  (r : Fin 1024 → EReal) (t : Fin 512) (d : Fin 1024)
  (h : ∀ d : Fin 1024, scale * (x (ix2 t d) : EReal) + ((∑ k : Fin 512, (y (ix2 t k) : EReal) * (w (ix2 ⟨k.val, by omega⟩ d) : EReal))
    + ∑ k : Fin 512, (z (ix2 t k) : EReal) * (w (ix2 ⟨512 + k.val, by omega⟩ d) : EReal)) = r d)
include h

/-- The centred rows, the inverse roots and the normed rows of a block, as the body reads them. -/
theorem centred_at : (k0_pay2 (View.ld y r0_0) (View.ld w r0_1) (View.ld z r0_0) (View.ld w r0_2) (View.ld x r0_3) (ix2 t d) : EReal) = Norm.cen r d := by
  unfold Norm.cen
  simp only [← h]
  unfold scale width
  pointwise [k0_pay2]
theorem inverse_at : (k0_pay3 (View.ld y r0_0) (View.ld w r0_1) (View.ld z r0_0) (View.ld w r0_2) (View.ld x r0_3) (ix2 t 0) : EReal) = Norm.inv r := by
  unfold Norm.inv Norm.var
  simp only [← centred_at y z x w r t _ h]
  unfold width
  pointwise [k0_pay3]
theorem normal_at : (k0_pay4 (View.ld y r0_0) (View.ld w r0_1) (View.ld z r0_0) (View.ld w r0_2) (View.ld x r0_3) (ix2 t d) : EReal) = Norm.normed r d := by
  unfold Norm.normed
  rw [← centred_at y z x w r t d h, ← inverse_at y z x w r t h]
  pointwise [k0_pay4]
theorem out_at : (k0_pay1 (k0_pay4 (View.ld y r0_0) (View.ld w r0_1) (View.ld z r0_0) (View.ld w r0_2) (View.ld x r0_3)) (View.ld g r0_5) (View.ld b r0_5) (ix2 t d) : EReal)
    = Norm.normed r d * (g (ix2 0 d) : EReal) + (b (ix2 0 d) : EReal) := by
  rw [← normal_at y z x w r t d h]
  pointwise [k0_pay1]
end Block

section Stored
variable (y z : Vec Ideal S512x512 .bf16) (x : Vec Ideal S512x1024 .f32) (w : Vec Ideal S1024x1024 .bf16) (g b : Vec Ideal S1x1024 .f32)
theorem out_6 : out0_6 y z x w g b = k0_pay4 (View.ld y r0_0) (View.ld w r0_1) (View.ld z r0_0) (View.ld w r0_2) (View.ld x r0_3) := by
  unfold out0_6
  exact View.canon_cons_unit_lit _ _ _ (by decide)
theorem out_7 : out0_7 y z x w g b = k0_pay3 (View.ld y r0_0) (View.ld w r0_1) (View.ld z r0_0) (View.ld w r0_2) (View.ld x r0_3) := by
  unfold out0_7
  exact View.canon_cons_unit_lit _ _ _ (by decide)
theorem out_8 : out0_8 y z x w g b = k0_pay1 (k0_pay4 (View.ld y r0_0) (View.ld w r0_1) (View.ld z r0_0) (View.ld w r0_2) (View.ld x r0_3)) (View.ld g r0_5) (View.ld b r0_5) := by
  unfold out0_8
  exact View.canon_cons_unit_lit _ _ _ (by decide)
end Stored

/-! ## The blocks' rows -/

theorem points8 : cfg0.N = 8 := by decide +kernel
theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = t.val ∧ win0_8.index t 1 = 0 := by decide +kernel

/-- A block's row among all rows. -/
def row (t : Fin cfg0.N) (r : Fin 512) : Fin 4096 := ⟨512 * t.val + r.val, by have := t.isLt; have := points8; omega⟩

section Blocks
variable (t : Fin cfg0.N)
theorem read_0 (X : FVec Ideal S4096x512 .bf16) (r l : Fin 512) : ((win0_0.blk t).view.read (Elt Ideal) X (ix2 r l) : EReal) = (X (ix2 (row t r) l) : EReal) := by
  blk_simp
  refine congrArg X (funext fun a => Fin.ext ?_)
  match a with
  | ⟨0, _⟩ => blk_simp; rw [(at0 t).1]; show t.val * 512 + r.val = 512 * t.val + r.val; omega
  | ⟨1, _⟩ => blk_simp; rw [(at0 t).2]; omega
theorem read_1 (X : FVec Ideal S4096x512 .bf16) (r l : Fin 512) : ((win0_1.blk t).view.read (Elt Ideal) X (ix2 r l) : EReal) = (X (ix2 (row t r) l) : EReal) := by
  blk_simp
  refine congrArg X (funext fun a => Fin.ext ?_)
  match a with
  | ⟨0, _⟩ => blk_simp; rw [(at1 t).1]; show t.val * 512 + r.val = 512 * t.val + r.val; omega
  | ⟨1, _⟩ => blk_simp; rw [(at1 t).2]; omega
theorem read_2 (X : FVec Ideal S4096x1024 .f32) (r : Fin 512) (l : Fin 1024) : ((win0_2.blk t).view.read (Elt Ideal) X (ix2 r l) : EReal) = (X (ix2 (row t r) l) : EReal) := by
  blk_simp
  refine congrArg X (funext fun a => Fin.ext ?_)
  match a with
  | ⟨0, _⟩ => blk_simp; rw [(at2 t).1]; show t.val * 512 + r.val = 512 * t.val + r.val; omega
  | ⟨1, _⟩ => blk_simp; rw [(at2 t).2]; omega
theorem read_3 (X : FVec Ideal S1024x1024 .bf16) (k l : Fin 1024) : ((win0_3.blk t).view.read (Elt Ideal) X (ix2 k l) : EReal) = (X (ix2 k l) : EReal) := by
  blk_simp
  refine congrArg X (funext fun a => Fin.ext ?_)
  match a with
  | ⟨0, _⟩ => blk_simp; rw [(at3 t).1]; omega
  | ⟨1, _⟩ => blk_simp; rw [(at3 t).2]; omega
theorem read_4 (X : FVec Ideal S1x1024 .f32) (l : Fin 1024) : ((win0_4.blk t).view.read (Elt Ideal) X (ix2 0 l) : EReal) = (X (ix2 0 l) : EReal) := by
  blk_simp
  refine congrArg X (funext fun a => Fin.ext ?_)
  match a with
  | ⟨0, _⟩ => blk_simp; exact (at4 t).1
  | ⟨1, _⟩ => blk_simp; rw [(at4 t).2]; omega
theorem read_5 (X : FVec Ideal S1x1024 .f32) (l : Fin 1024) : ((win0_5.blk t).view.read (Elt Ideal) X (ix2 0 l) : EReal) = (X (ix2 0 l) : EReal) := by
  blk_simp
  refine congrArg X (funext fun a => Fin.ext ?_)
  match a with
  | ⟨0, _⟩ => blk_simp; exact (at5 t).1
  | ⟨1, _⟩ => blk_simp; rw [(at5 t).2]; omega
theorem emb_6 (r : Fin 512) (l : Fin 1024) : (win0_6.blk t).view.emb (ix2 r l : S512x1024.Idx) = (ix2 (row t r) l : S4096x1024.Idx) := by
  refine funext fun a => Fin.ext ?_
  match a with
  | ⟨0, _⟩ => blk_simp; rw [(at6 t).1]; show t.val * 512 + r.val = 512 * t.val + r.val; omega
  | ⟨1, _⟩ => blk_simp; rw [(at6 t).2]; omega
theorem emb_7 (r : Fin 512) : (win0_7.blk t).view.emb (ix2 r 0 : S512x1.Idx) = (ix2 (row t r) 0 : S4096x1.Idx) := by
  refine funext fun a => Fin.ext ?_
  match a with
  | ⟨0, _⟩ => blk_simp; rw [(at7 t).1]; show t.val * 512 + r.val = 512 * t.val + r.val; omega
  | ⟨1, _⟩ => blk_simp; exact (at7 t).2
theorem emb_8 (r : Fin 512) (l : Fin 1024) : (win0_8.blk t).view.emb (ix2 r l : S512x1024.Idx) = (ix2 (row t r) l : S4096x1024.Idx) := by
  refine funext fun a => Fin.ext ?_
  match a with
  | ⟨0, _⟩ => blk_simp; rw [(at8 t).1]; show t.val * 512 + r.val = 512 * t.val + r.val; omega
  | ⟨1, _⟩ => blk_simp; rw [(at8 t).2]; omega
end Blocks

/-! ## What a point leaves -/

variable {m : (ℓ : Loc nD τ sig) → Buf (Elt Ideal) ℓ} {c : Dev nD}

/-- The arguments, their elements as extended reals. -/
abbrev argX (m : (ℓ : Loc nD τ sig) → Buf (Elt Ideal) ℓ) (c : Dev nD) : S4096x1024.Idx → EReal := m ((c.tc : Thread nD τ).loc main_arg0)
abbrev argY (m : (ℓ : Loc nD τ sig) → Buf (Elt Ideal) ℓ) (c : Dev nD) : S4096x512.Idx → EReal := m ((c.tc : Thread nD τ).loc main_arg1)
abbrev argZ (m : (ℓ : Loc nD τ sig) → Buf (Elt Ideal) ℓ) (c : Dev nD) : S4096x512.Idx → EReal := m ((c.tc : Thread nD τ).loc main_arg2)
abbrev argW (m : (ℓ : Loc nD τ sig) → Buf (Elt Ideal) ℓ) (c : Dev nD) : S1024x1024.Idx → EReal := m ((c.tc : Thread nD τ).loc main_arg3)
abbrev argG (m : (ℓ : Loc nD τ sig) → Buf (Elt Ideal) ℓ) (c : Dev nD) : S1x1024.Idx → EReal := m ((c.tc : Thread nD τ).loc main_arg4)
abbrev argB (m : (ℓ : Loc nD τ sig) → Buf (Elt Ideal) ℓ) (c : Dev nD) : S1x1024.Idx → EReal := m ((c.tc : Thread nD τ).loc main_arg5)
/-- The layer norm's input, as the reference forms it, and its row. -/
abbrev inputR (m : (ℓ : Loc nD τ sig) → Buf (Elt Ideal) ℓ) (c : Dev nD) : FVec Ideal Cert.Ln1RefIdeal.S4096x1024 .f32 := Ref.input (argX m c) (argY m c) (argZ m c) (argW m c)
abbrev rowE (m : (ℓ : Loc nD τ sig) → Buf (Elt Ideal) ℓ) (c : Dev nD) (t : Fin 4096) : Fin 1024 → EReal := zE (argX m c) (argY m c) (argZ m c) (argW m c) t

theorem V_y : (V m c main_v0 : S4096x512.Idx → EReal) = argY m c := rfl
theorem V_z : (V m c main_v1 : S4096x512.Idx → EReal) = argZ m c := rfl
theorem V_w : (V m c main_v2 : S1024x1024.Idx → EReal) = argW m c := rfl

/-- The blocks a point reads. -/
abbrev blkY (m : (ℓ : Loc nD τ sig) → Buf (Elt Ideal) ℓ) (c : Dev nD) (t : Fin cfg0.N) : S512x512.Idx → EReal := iblk m c 0 t
abbrev blkZ (m : (ℓ : Loc nD τ sig) → Buf (Elt Ideal) ℓ) (c : Dev nD) (t : Fin cfg0.N) : S512x512.Idx → EReal := iblk m c 1 t
abbrev blkX (m : (ℓ : Loc nD τ sig) → Buf (Elt Ideal) ℓ) (c : Dev nD) (t : Fin cfg0.N) : S512x1024.Idx → EReal := iblk m c 2 t
abbrev blkW (m : (ℓ : Loc nD τ sig) → Buf (Elt Ideal) ℓ) (c : Dev nD) (t : Fin cfg0.N) : S1024x1024.Idx → EReal := iblk m c 3 t

section Points
variable (t : Fin cfg0.N) (r : Fin 512)
theorem row_in (d : Fin 1024) : scale * blkX m c t (ix2 r d) + ((∑ k : Fin 512, blkY m c t (ix2 r k) * blkW m c t (ix2 ⟨k.val, by omega⟩ d))
    + ∑ k : Fin 512, blkZ m c t (ix2 r k) * blkW m c t (ix2 ⟨512 + k.val, by omega⟩ d)) = rowE m c (row t r) d := by
  have e0 (k : Fin 512) : (iblk m c 0 t (ix2 r k : S512x512.Idx) : EReal) = argY m c (ix2 (row t r) k) := (read_0 t (V m c main_v0) r k).trans (congrFun V_y _)
  have e1 (k : Fin 512) : (iblk m c 1 t (ix2 r k : S512x512.Idx) : EReal) = argZ m c (ix2 (row t r) k) := (read_1 t (V m c main_v1) r k).trans (congrFun V_z _)
  have e2 : (iblk m c 2 t (ix2 r d : S512x1024.Idx) : EReal) = argX m c (ix2 (row t r) d) := (read_2 t (V m c main_arg0) r d).trans (congrFun (V_main_arg0 m c) _)
  have e3 (k : Fin 1024) : (iblk m c 3 t (ix2 k d : S1024x1024.Idx) : EReal) = argW m c (ix2 k d) := (read_3 t (V m c main_v2) k d).trans (congrFun V_w _)
  exact congrArg₂ (· + ·) (congrArg (scale * ·) e2) (congrArg₂ (· + ·) (Finset.sum_congr rfl fun k _ => congrArg₂ (· * ·) (e0 k) (e3 _))
    (Finset.sum_congr rfl fun k _ => congrArg₂ (· * ·) (e1 k) (e3 _)))
theorem gain_in (d : Fin 1024) : (iblk m c 4 t (ix2 0 d : S1x1024.Idx) : EReal) = argG m c (ix2 0 d) := (read_4 t (V m c main_arg4) d).trans (congrFun (V_main_arg4 m c) _)
theorem bias_in (d : Fin 1024) : (iblk m c 5 t (ix2 0 d : S1x1024.Idx) : EReal) = argB m c (ix2 0 d) := (read_5 t (V m c main_arg5) d).trans (congrFun (V_main_arg5 m c) _)

theorem left_6 (d : Fin 1024) : ((dats m 0 c).after 6 t (ix2 r d : S512x1024.Idx) : EReal) = Norm.normed (rowE m c (row t r)) d := by
  rw [after0_6]
  refine (congrFun (out_6 _ _ _ _ _ _) _).trans (normal_at _ _ _ _ _ r d (row_in t r))
theorem left_7 : ((dats m 0 c).after 7 t (ix2 r 0 : S512x1.Idx) : EReal) = Norm.inv (rowE m c (row t r)) := by
  rw [after0_7]
  refine (congrFun (out_7 _ _ _ _ _ _) _).trans (inverse_at _ _ _ _ _ r (row_in t r))
theorem left_8 (d : Fin 1024) : ((dats m 0 c).after 8 t (ix2 r d : S512x1024.Idx) : EReal) = Norm.normed (rowE m c (row t r)) d * argG m c (ix2 0 d) + argB m c (ix2 0 d) := by
  rw [after0_8]
  refine (congrFun (out_8 _ _ _ _ _ _) _).trans ((out_at _ _ _ _ _ _ _ r d (row_in t r)).trans ?_)
  exact congrArg₂ (· + ·) (congrArg (Norm.normed _ _ * ·) (gain_in t d)) (bias_in t d)
end Points

/-! ## The arrays, from their blocks -/

theorem idx2 {n0 n1 : Nat} (y : (⟨2, ![n0, n1]⟩ : Shape).Idx) : y = ix2 (y 0) (y 1) :=
  funext fun a => match a with | ⟨0, _⟩ => rfl | ⟨1, _⟩ => rfl

theorem arr_6 : (dats m 0 c).arrAt 6 cfg0.N = (Ref.normal (inputR m c) : S4096x1024.Idx → EReal) := by
  funext i
  refine (dats m 0 c).arrAt_forall_of_covers 6 (fun i v => v = (Ref.normal (inputR m c) : S4096x1024.Idx → EReal) i) (by decide +kernel) (fun t _ => ?_) i
  blk_simp
  show ∀ y : S512x1024.Idx, ((dats m 0 c).after 6 t y : EReal) = (Ref.normal (inputR m c) : S4096x1024.Idx → EReal) ((win0_6.blk t).view.emb y)
  intro y
  rw [idx2 y]
  exact (left_6 t _ _).trans ((Ref.normal_at _ _ _ _ (Ref.input_at _ _ _ _ _)).symm.trans (congrArg (Ref.normal (inputR m c)) (emb_6 t _ _).symm))
theorem arr_7 : (dats m 0 c).arrAt 7 cfg0.N = (Ref.inverse (inputR m c) : S4096x1.Idx → EReal) := by
  funext i
  refine (dats m 0 c).arrAt_forall_of_covers 7 (fun i v => v = (Ref.inverse (inputR m c) : S4096x1.Idx → EReal) i) (by decide +kernel) (fun t _ => ?_) i
  blk_simp
  show ∀ y : S512x1.Idx, ((dats m 0 c).after 7 t y : EReal) = (Ref.inverse (inputR m c) : S4096x1.Idx → EReal) ((win0_7.blk t).view.emb y)
  intro y
  have e : y = ix2 (y 0) 0 := (idx2 y).trans (congrArg (ix2 (y 0)) (Fin.ext (Nat.lt_one_iff.mp (y 1).isLt)))
  rw [e]
  exact (left_7 t _).trans ((Ref.inverse_at _ _ _ (Ref.input_at _ _ _ _ _)).symm.trans (congrArg (Ref.inverse (inputR m c)) (emb_7 t _).symm))
theorem arr_8 : (dats m 0 c).arrAt 8 cfg0.N = (Ref.out (argG m c) (argB m c) (inputR m c) : S4096x1024.Idx → EReal) := by
  funext i
  refine (dats m 0 c).arrAt_forall_of_covers 8 (fun i v => v = (Ref.out (argG m c) (argB m c) (inputR m c) : S4096x1024.Idx → EReal) i) (by decide +kernel) (fun t _ => ?_) i
  blk_simp
  show ∀ y : S512x1024.Idx, ((dats m 0 c).after 8 t y : EReal) = (Ref.out (argG m c) (argB m c) (inputR m c) : S4096x1024.Idx → EReal) ((win0_8.blk t).view.emb y)
  intro y
  rw [idx2 y]
  exact (left_8 t _ _).trans ((Ref.out_at _ _ _ _ _ _ (Ref.input_at _ _ _ _ _)).symm.trans (congrArg (Ref.out (argG m c) (argB m c) (inputR m c)) (emb_8 t _ _).symm))

theorem input_eq {x x' : FVec Ideal Cert.Ln1RefIdeal.S4096x1024 .f32} {y y' z z' : FVec Ideal Cert.Ln1RefIdeal.S4096x512 .f32} {w w' : FVec Ideal Cert.Ln1RefIdeal.S1024x1024 .f32}
    (hx : x = x') (hy : y = y') (hz : z = z') (hw : w = w') : Ref.input x y z w = Ref.input x' y' z' w' := by
  subst hx hy hz hw; rfl
theorem out_eq {g g' b b' : FVec Ideal Cert.Ln1RefIdeal.S1x1024 .f32} {v v' : FVec Ideal Cert.Ln1RefIdeal.S4096x1024 .f32}
    (hg : g = g') (hb : b = b') (hv : v = v') : Ref.out g b v = Ref.out g' b' v' := by
  subst hg hb hv; rfl

set_option maxHeartbeats 2000000 in
set_option backward.isDefEq.respectTransparency.types false in
/-- The kernel leaves in its three results what the reference leaves in its. -/
theorem algebraic : Cert.algebraic_Ln1Ideal_Ln1RefIdeal := by
  intro m g m' g' _ hargs
  have e (c : Dev nD) : Ref.input (m' ((c.tc : Thread nD τ).loc Cert.Ln1RefIdeal.main_arg0)) (m' ((c.tc : Thread nD τ).loc Cert.Ln1RefIdeal.main_arg1))
      (m' ((c.tc : Thread nD τ).loc Cert.Ln1RefIdeal.main_arg2)) (m' ((c.tc : Thread nD τ).loc Cert.Ln1RefIdeal.main_arg3)) = inputR m c := by
    obtain ⟨h0, h1, h2, h3, _, _⟩ := hargs c
    exact input_eq h0 h1 h2 h3
  refine ⟨_, _, _, ?_, Cert.Ln1RefIdeal.Value.run (F := Ideal) m' g'⟩
  refine (θ_run defs _ _).mono (fun r h c => ?_) (θ_run_and (run_main m g) (frame m g))
  have hw := (h.1 c).1
  obtain ⟨_, _, _, _, h4, h5⟩ := hargs c
  exact ⟨(hw 6).trans (arr_6.trans (congrArg Ref.normal (e c)).symm), (hw 7).trans (arr_7.trans (congrArg Ref.inverse (e c)).symm),
    (hw 8).trans (arr_8.trans ((Ref.out_eq m' c).trans (out_eq h4 h5 (e c))).symm), h.2.1 c⟩

end Cert.Proof.Ln1
end
-- ==== Proof.Dx.Claims.lean ====
/- The frames of the input projection's backward call: the programs end and keep their arguments. -/
module

public import proofs.«01_k».proof.Defs
public import proofs.«01_k».proof.Proof.Gen.Dx
public import proofs.«01_k».proof.Proof.Gen.DxIdeal.Frame
public import proofs.«01_k».proof.Proof.Gen.DxRefIdeal.Run
public import Idealize.ShloMosaic.Lib.Quiescent

@[expose] public section

noncomputable section

namespace Cert.Proof.Dx

open Idealize.ShloMosaic Idealize.ShloMosaic.TcCoe Idealize.SL.Sem

section
open Cert.DxIdeal Cert.DxIdeal.Gen
variable {F : FTy → Type} [FloatOps F] (m : (ℓ : Loc nD τ sig) → Buf (Elt F) ℓ) (ρ : Dev nD → PrngReg)

/-- From `m` the call ends, its arguments unchanged and its counters zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)
theorem kept : Kept m ρ := frame m ρ
end

/-- The kernel's frame on machine numbers: the idealization has the same text, so its run, which holds over any
    float values, is the kernel's. -/
theorem frame_dx : Cert.quiescent_Dx := by
  have same : Cert.quiescent_Dx = ∀ m ρ, True → Kept (F := Bits) m ρ := by sl_kernel_rfl
  rw [same]
  exact fun m ρ _ => kept m ρ

theorem frame_dxIdeal : Cert.quiescent_DxIdeal := fun m ρ _ => kept (F := Ideal) m ρ

/-- The reference keeps its arguments, and has no semaphore. -/
theorem frame_dxRefIdeal : Cert.quiescent_DxRefIdeal := fun m ρ _ =>
  (θ_run Cert.DxRefIdeal.defs _ _).mono (fun r h => ⟨fun c => (h c).2, sem_eq_zero_of_no_sems rfl r.2⟩)
    (Cert.DxRefIdeal.Value.run (F := Ideal) m ρ)

end Cert.Proof.Dx

end
-- ==== Proof.Dx.Ref.lean ====
/- The reference's gradient of the layer's input, element by element. -/
module

public import proofs.«01_k».proof.Proof.Ffn.Norm
public import proofs.«01_k».proof.Proof.Gen.DxRefIdeal.Run
public import Idealize.ShloMosaic.Lib.Pointwise

@[expose] public section

set_option maxRecDepth 16384

noncomputable section

namespace Cert.Proof.Dx

open Idealize.ShloMosaic Idealize.ShloMosaic.TcCoe Idealize.SL.Sem
open Cert.DxRefIdeal Cert.DxRefIdeal.Value Cert.DxRefIdeal.Gen
open Cert.Proof.Ffn (scale)

/-- The product of `n` entries of a row `p`, from `i` on, with a row `w` of the weight from `o` on. -/
def part {a b : Nat} (n : Nat) (p : Fin a → EReal) (i : Nat) (hi : i + n ≤ a) (w : Fin b → EReal) (o : Nat) (ho : o + n ≤ b) : EReal :=
  ∑ k : Fin n, p ⟨i + k.val, by omega⟩ * w ⟨o + k.val, by omega⟩

/-- The products of the rows of six gradients with a row of the weight; the last row holds each head's key beside its value. -/
def products (p0 p1 p2 p3 p4 : Fin 512 → EReal) (kv : Fin 256 → EReal) (w : Fin 2816 → EReal) : EReal :=
  part 512 p0 0 (by omega) w 0 (by omega) + part 512 p1 0 (by omega) w 512 (by omega) + part 512 p2 0 (by omega) w 1024 (by omega)
    + part 512 p3 0 (by omega) w 1536 (by omega) + part 512 p4 0 (by omega) w 2048 (by omega)
    + (part 64 kv 0 (by omega) w 2560 (by omega) + part 64 kv 64 (by omega) w 2688 (by omega)
      + part 64 kv 128 (by omega) w 2624 (by omega) + part 64 kv 192 (by omega) w 2752 (by omega))

/-- A sum over 2816 terms, cut into five of 512 and four of 64. -/
theorem cut (f : Fin 2816 → EReal) : ∑ n, f n
    = (∑ k : Fin 512, f ⟨k.val, by omega⟩) + (∑ k : Fin 512, f ⟨512 + k.val, by omega⟩) + (∑ k : Fin 512, f ⟨1024 + k.val, by omega⟩)
      + (∑ k : Fin 512, f ⟨1536 + k.val, by omega⟩) + (∑ k : Fin 512, f ⟨2048 + k.val, by omega⟩)
      + ((∑ k : Fin 64, f ⟨2560 + k.val, by omega⟩) + (∑ k : Fin 64, f ⟨2688 + k.val, by omega⟩)
        + (∑ k : Fin 64, f ⟨2624 + k.val, by omega⟩) + (∑ k : Fin 64, f ⟨2752 + k.val, by omega⟩)) := by
  have step (a b o : Nat) (h : o + (a + b) ≤ 2816) : (∑ k : Fin (a + b), f ⟨o + k.val, by omega⟩)
      = (∑ k : Fin a, f ⟨o + k.val, by omega⟩) + ∑ k : Fin b, f ⟨o + a + k.val, by omega⟩ := by
    rw [Fin.sum_univ_add]
    exact congrArg _ (Finset.sum_congr rfl fun k _ => congrArg f (Fin.ext (Nat.add_assoc _ _ _).symm))
  have h0 : ∑ n, f n = ∑ k : Fin (512 + 2304), f ⟨0 + k.val, by omega⟩ := Finset.sum_congr rfl fun k _ => congrArg f (Fin.ext (Nat.zero_add _).symm)
  have z : (∑ k : Fin 512, f ⟨0 + k.val, by omega⟩) = ∑ k : Fin 512, f ⟨k.val, by omega⟩ := Finset.sum_congr rfl fun k _ => congrArg f (Fin.ext (Nat.zero_add _))
  rw [h0, step 512 2304 0 (by omega), z, step 512 1792 512 (by omega), step 512 1280 1024 (by omega), step 512 768 1536 (by omega),
    step 512 256 2048 (by omega), step 64 192 2560 (by omega), step 64 128 2624 (by omega), step 64 64 2688 (by omega)]
  abel

theorem products_eq {p0 p1 p2 p3 p4 q0 q1 q2 q3 q4 : Fin 512 → EReal} {kv lv : Fin 256 → EReal} {w v : Fin 2816 → EReal}
    (h0 : p0 = q0) (h1 : p1 = q1) (h2 : p2 = q2) (h3 : p3 = q3) (h4 : p4 = q4) (hk : kv = lv) (hw : w = v) :
    products p0 p1 p2 p3 p4 kv w = products q0 q1 q2 q3 q4 lv v := by
  subst h0 h1 h2 h3 h4 hk hw; rfl

namespace Ref
variable (x : FVec Ideal S4096x1024 .f32) (p0 p1 p2 p3 p4 : FVec Ideal S4096x512 .f32) (kv : FVec Ideal S4096x256 .f32) (w : FVec Ideal S1024x2816 .f32)

def grad : FVec Ideal S4096x1024 .f32 :=
  addf (Host.dotGeneral dot_S4096x2816_S1024x2816_S4096x1024_1_1_0_0_n_n none
      (concatenate S4096x2816 1 [⟨S4096x512, p0⟩, ⟨S4096x512, p1⟩, ⟨S4096x512, p2⟩, ⟨S4096x512, p3⟩, ⟨S4096x512, p4⟩,
        ⟨S4096x128, concatenate S4096x128 1 [⟨S4096x64, extractStridedSlice S4096x64 ![0, 0] kv slices_S4096x256_S4096x64_0_0⟩,
          ⟨S4096x64, extractStridedSlice S4096x64 ![0, 128] kv slices_S4096x256_S4096x64_0_128⟩] concatenates_S4096x64_S4096x64_S4096x128_d1⟩,
        ⟨S4096x128, concatenate S4096x128 1 [⟨S4096x64, extractStridedSlice S4096x64 ![0, 64] kv slices_S4096x256_S4096x64_0_64⟩,
          ⟨S4096x64, extractStridedSlice S4096x64 ![0, 192] kv slices_S4096x256_S4096x64_0_192⟩] concatenates_S4096x64_S4096x64_S4096x128_d1⟩]
        concatenates_S4096x512_S4096x512_S4096x512_S4096x512_S4096x512_S4096x128_S4096x128_S4096x2816_d1) w)
    (mulf (broadcastInDim S4096x1024 ![] bcast_S_S4096x1024 (constant S_ .f32 0x3F9837F0#32)) x)

theorem grad_at (t : Fin 4096) (d : Fin 1024) : (grad x p0 p1 p2 p3 p4 kv w (ix2 t d) : EReal)
    = products (fun k => p0 (ix2 t k)) (fun k => p1 (ix2 t k)) (fun k => p2 (ix2 t k)) (fun k => p3 (ix2 t k)) (fun k => p4 (ix2 t k)) (fun k => kv (ix2 t k)) (fun k => w (ix2 d k))
      + scale * x (ix2 t d) := by
  unfold products part scale
  pointwise [grad]
  rw [cut]
  refine congrArg (· + _) ?_
  refine congrArg₂ (· + ·) (congrArg₂ (· + ·) (congrArg₂ (· + ·) (congrArg₂ (· + ·) (congrArg₂ (· + ·) ?_ ?_) ?_) ?_) ?_)
    (congrArg₂ (· + ·) (congrArg₂ (· + ·) (congrArg₂ (· + ·) ?_ ?_) ?_) ?_) <;> refine Finset.sum_congr rfl fun k _ => ?_ <;> have hk := k.isLt
  all_goals simp (disch := omega) only [dif_pos, dif_neg, Nat.sub_sub, Nat.reduceAdd, Nat.add_sub_cancel_left]
theorem grad_eq {x y : FVec Ideal S4096x1024 .f32} {p0 p1 p2 p3 p4 q0 q1 q2 q3 q4 : FVec Ideal S4096x512 .f32} {kv lv : FVec Ideal S4096x256 .f32} {w v : FVec Ideal S1024x2816 .f32}
    (hx : x = y) (h0 : p0 = q0) (h1 : p1 = q1) (h2 : p2 = q2) (h3 : p3 = q3) (h4 : p4 = q4) (hk : kv = lv) (hw : w = v) :
    grad x p0 p1 p2 p3 p4 kv w = grad y q0 q1 q2 q3 q4 lv v := by
  subst hx h0 h1 h2 h3 h4 hk hw; rfl
end Ref

end Cert.Proof.Dx
end
-- ==== Proof.Dx.Value.lean ====
/- The input projection's backward call: its result is the reference's gradient. -/
module

public import proofs.«01_k».proof.Proof.Dx.Ref
public import proofs.«01_k».proof.Proof.Dx.Claims
public import proofs.«01_k».proof.Proof.Gen.DxIdeal.Value
public import Idealize.ShloMosaic.Lib.Pipeline.ValueKit.Geometry
public import Idealize.ShloMosaic.Lib.Pipeline.ValueKit.Tiles

@[expose] public section

set_option maxRecDepth 16384

noncomputable section

namespace Cert.Proof.Dx

open Idealize.ShloMosaic Idealize.ShloMosaic.StableHlo Idealize.ShloMosaic.TcCoe Idealize.SL.Sem
open Cert.DxIdeal Cert.DxIdeal.Gen
open Cert.Proof.Ffn (scale)

/-! ## A block -/

/-- A sum over 256 terms, cut into four. -/
theorem cut4 (f : Fin 256 → EReal) : ∑ n, f n
    = (∑ k : Fin 64, f ⟨k.val, by omega⟩) + (∑ k : Fin 64, f ⟨64 + k.val, by omega⟩)
        + (∑ k : Fin 64, f ⟨128 + k.val, by omega⟩) + (∑ k : Fin 64, f ⟨192 + k.val, by omega⟩) := by
  have h0 : ∑ n, f n = ∑ k : Fin (64 + 64 + 64 + 64), f k := rfl
  rw [h0, Fin.sum_univ_add, Fin.sum_univ_add, Fin.sum_univ_add]
  rfl

section Block
variable (x : Vec Ideal S512x1024 .f32) (p0 p1 p2 p3 p4 : Vec Ideal S512x512 .bf16) (kv : Vec Ideal S512x256 .bf16) (w : Vec Ideal S2816x1024 .bf16)

/-- The value the body stores. -/
abbrev stored : FVec Ideal S512x1024 .f32 :=
  k0_pay1 (k0_pay2 (View.ld x r0_0) (View.ld p0 r0_1) (View.ld w r0_2) (View.ld p1 r0_1) (View.ld w r0_3) (View.ld p2 r0_1) (View.ld w r0_4) (View.ld p3 r0_1) (View.ld w r0_5))
    (k0_pay3 (View.ld p4 r0_1)) (k0_pay4 (View.ld w r0_6)) (constant S512x1024 .f32 0x00000000#32)
    (View.ld w r0_7) (View.ld w r0_8) (View.ld w r0_9) (View.ld w r0_10) (View.ld kv r0_11)

theorem out_8 : out0_8 x p0 p1 p2 p3 p4 kv w = stored x p0 p1 p2 p3 p4 kv w := by
  unfold out0_8
  exact View.canon_cons_unit_lit _ _ _ (by decide)

theorem stored_at (t : Fin 512) (d : Fin 1024) : (stored x p0 p1 p2 p3 p4 kv w (ix2 t d) : EReal)
    = products (fun k => p0 (ix2 t k)) (fun k => p1 (ix2 t k)) (fun k => p2 (ix2 t k)) (fun k => p3 (ix2 t k)) (fun k => p4 (ix2 t k)) (fun k => kv (ix2 t k)) (fun k => w (ix2 k d))
      + scale * x (ix2 t d) := by
  unfold products part scale
  pointwise [stored, k0_pay1, k0_pay2, k0_pay3, k0_pay4]
  rw [cut4]
  have shuffle (a s0 s1 s2 s3 s4 s : EReal) : a + s0 + s1 + s2 + s3 + s4 + s = s0 + s1 + s2 + s3 + s4 + s + a := by abel
  refine Eq.trans ?_ (shuffle _ _ _ _ _ _ _)
  refine congrArg₂ (· + ·) rfl ?_
  refine congrArg₂ (· + ·) (congrArg₂ (· + ·) (congrArg₂ (· + ·) ?_ ?_) ?_) ?_ <;> refine Finset.sum_congr rfl fun k _ => congrArg (_ * ·) ?_ <;> have hk := k.isLt
  all_goals simp (disch := omega) only [dif_pos, dif_neg, Nat.sub_sub, Nat.reduceAdd, Nat.add_sub_cancel_left]
end Block

/-! ## The blocks' rows -/

theorem points8 : cfg0.N = 8 := by decide +kernel
/-- The row blocks' windows move with the grid's point, the weight's stands still. -/
theorem at_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_8.index t 0 = t.val ∧ win0_8.index t 1 = 0) := by decide +kernel
theorem at_weight : ∀ t : Fin cfg0.N, win0_7.index t 0 = 0 ∧ win0_7.index t 1 = 0 := by decide +kernel

/-- A block's row among all rows. -/
def row (t : Fin cfg0.N) (r : Fin 512) : Fin 4096 := ⟨512 * t.val + r.val, by have := t.isLt; have := points8; omega⟩

/-- The two entries of a row block's index, from the window's place. -/
theorem entry (t : Fin cfg0.N) (r : Fin 512) {n : Nat} (l : Fin n) {i0 i1 : Nat} (h : i0 = t.val ∧ i1 = 0) :
    i0 * 512 + r.val = (row t r).val ∧ i1 * n + l.val = l.val := by
  obtain ⟨rfl, rfl⟩ := h
  exact ⟨by show _ = 512 * _ + _; omega, by omega⟩

section Blocks
variable (t : Fin cfg0.N) (r : Fin 512)
theorem read_0 (X : FVec Ideal S4096x1024 .f32) (l : Fin 1024) : ((win0_0.blk t).view.read (Elt Ideal) X (ix2 r l) : EReal) = (X (ix2 (row t r) l) : EReal) := by
  blk_simp
  refine congrArg X (funext fun a => Fin.ext ?_)
  match a with
  | ⟨0, _⟩ => blk_simp; exact (entry t r l (at_rows t).1).1
  | ⟨1, _⟩ => blk_simp; exact (entry t r l (at_rows t).1).2
theorem read_1 (X : FVec Ideal S4096x512 .bf16) (l : Fin 512) : ((win0_1.blk t).view.read (Elt Ideal) X (ix2 r l) : EReal) = (X (ix2 (row t r) l) : EReal) := by
  blk_simp
  refine congrArg X (funext fun a => Fin.ext ?_)
  match a with
  | ⟨0, _⟩ => blk_simp; exact (entry t r l (at_rows t).2.1).1
  | ⟨1, _⟩ => blk_simp; exact (entry t r l (at_rows t).2.1).2
theorem read_6 (X : FVec Ideal S4096x256 .bf16) (l : Fin 256) : ((win0_6.blk t).view.read (Elt Ideal) X (ix2 r l) : EReal) = (X (ix2 (row t r) l) : EReal) := by
  blk_simp
  refine congrArg X (funext fun a => Fin.ext ?_)
  match a with
  | ⟨0, _⟩ => blk_simp; exact (entry t r l (at_rows t).2.2.2.2.2.2.1).1
  | ⟨1, _⟩ => blk_simp; exact (entry t r l (at_rows t).2.2.2.2.2.2.1).2
theorem read_7 (X : FVec Ideal S2816x1024 .bf16) (k : Fin 2816) (l : Fin 1024) : ((win0_7.blk t).view.read (Elt Ideal) X (ix2 k l) : EReal) = (X (ix2 k l) : EReal) := by
  blk_simp
  refine congrArg X (funext fun a => Fin.ext ?_)
  match a with
  | ⟨0, _⟩ => blk_simp; rw [(at_weight t).1]; omega
  | ⟨1, _⟩ => blk_simp; rw [(at_weight t).2]; omega
theorem emb_8 (l : Fin 1024) : (win0_8.blk t).view.emb (ix2 r l : S512x1024.Idx) = (ix2 (row t r) l : S4096x1024.Idx) := by
  refine funext fun a => Fin.ext ?_
  match a with
  | ⟨0, _⟩ => blk_simp; exact (entry t r l (at_rows t).2.2.2.2.2.2.2).1
  | ⟨1, _⟩ => blk_simp; exact (entry t r l (at_rows t).2.2.2.2.2.2.2).2
/-- The other four gradients' windows are the first's, over other arrays. -/
theorem read_2 (X : FVec Ideal S4096x512 .bf16) (l : Fin 512) : ((win0_2.blk t).view.read (Elt Ideal) X (ix2 r l) : EReal) = (X (ix2 (row t r) l) : EReal) := read_1 t r X l
theorem read_3 (X : FVec Ideal S4096x512 .bf16) (l : Fin 512) : ((win0_3.blk t).view.read (Elt Ideal) X (ix2 r l) : EReal) = (X (ix2 (row t r) l) : EReal) := read_1 t r X l
theorem read_4 (X : FVec Ideal S4096x512 .bf16) (l : Fin 512) : ((win0_4.blk t).view.read (Elt Ideal) X (ix2 r l) : EReal) = (X (ix2 (row t r) l) : EReal) := read_1 t r X l
theorem read_5 (X : FVec Ideal S4096x512 .bf16) (l : Fin 512) : ((win0_5.blk t).view.read (Elt Ideal) X (ix2 r l) : EReal) = (X (ix2 (row t r) l) : EReal) := read_1 t r X l
end Blocks

/-! ## What a point leaves -/

variable {m : (ℓ : Loc nD τ sig) → Buf (Elt Ideal) ℓ} {c : Dev nD}

/-- The arguments, their elements as extended reals. -/
abbrev argX (m : (ℓ : Loc nD τ sig) → Buf (Elt Ideal) ℓ) (c : Dev nD) : S4096x1024.Idx → EReal := m ((c.tc : Thread nD τ).loc main_arg0)
abbrev arg1 (m : (ℓ : Loc nD τ sig) → Buf (Elt Ideal) ℓ) (c : Dev nD) : S4096x512.Idx → EReal := m ((c.tc : Thread nD τ).loc main_arg1)
abbrev arg2 (m : (ℓ : Loc nD τ sig) → Buf (Elt Ideal) ℓ) (c : Dev nD) : S4096x512.Idx → EReal := m ((c.tc : Thread nD τ).loc main_arg2)
abbrev arg3 (m : (ℓ : Loc nD τ sig) → Buf (Elt Ideal) ℓ) (c : Dev nD) : S4096x512.Idx → EReal := m ((c.tc : Thread nD τ).loc main_arg3)
abbrev arg4 (m : (ℓ : Loc nD τ sig) → Buf (Elt Ideal) ℓ) (c : Dev nD) : S4096x512.Idx → EReal := m ((c.tc : Thread nD τ).loc main_arg4)
abbrev arg5 (m : (ℓ : Loc nD τ sig) → Buf (Elt Ideal) ℓ) (c : Dev nD) : S4096x512.Idx → EReal := m ((c.tc : Thread nD τ).loc main_arg5)
abbrev argKV (m : (ℓ : Loc nD τ sig) → Buf (Elt Ideal) ℓ) (c : Dev nD) : S4096x256.Idx → EReal := m ((c.tc : Thread nD τ).loc main_arg6)
abbrev argW (m : (ℓ : Loc nD τ sig) → Buf (Elt Ideal) ℓ) (c : Dev nD) : S1024x2816.Idx → EReal := m ((c.tc : Thread nD τ).loc main_arg7)
/-- The reference's gradient of the kernel's arguments. -/
abbrev gradR (m : (ℓ : Loc nD τ sig) → Buf (Elt Ideal) ℓ) (c : Dev nD) : FVec Ideal Cert.DxRefIdeal.S4096x1024 .f32 :=
  Ref.grad (argX m c) (arg1 m c) (arg2 m c) (arg3 m c) (arg4 m c) (arg5 m c) (argKV m c) (argW m c)

theorem weight (k : Fin 2816) (d : Fin 1024) : (V m c main_v7 (ix2 k d : S2816x1024.Idx) : EReal) = argW m c (ix2 d k) := by
  have e : V m c main_v7 = (truncf (F := Ideal) .bf16 (transpose S2816x1024 [1, 0] (m ((c.tc : Thread nD τ).loc main_arg7)) transposes_S1024x2816_S2816x1024_1_0) bitsLt_bf16_f32 : FVec Ideal S2816x1024 .bf16) := rfl
  rw [e]
  pointwise []

theorem left (t : Fin cfg0.N) (r : Fin 512) (d : Fin 1024) : ((dats m 0 c).after 8 t (ix2 r d : S512x1024.Idx) : EReal) = gradR m c (ix2 (row t r) d) := by
  rw [after0_8]
  refine (congrFun (out_8 _ _ _ _ _ _ _ _) _).trans ((stored_at _ _ _ _ _ _ _ _ r d).trans (Eq.trans ?_ (Ref.grad_at _ _ _ _ _ _ _ _ _ d).symm))
  have e0 : (iblk m c 0 t (ix2 r d : S512x1024.Idx) : EReal) = argX m c (ix2 (row t r) d) := (read_0 t r (V m c main_arg0) d).trans (congrFun (V_main_arg0 m c) _)
  refine congrArg₂ (· + ·) ?_ (congrArg (scale * ·) e0)
  have e1 : (fun k : Fin 512 => (iblk m c 1 t (ix2 r k : S512x512.Idx) : EReal)) = fun k => arg1 m c (ix2 (row t r) k) := funext fun k => read_1 t r (V m c main_v0) k
  have e2 : (fun k : Fin 512 => (iblk m c 2 t (ix2 r k : S512x512.Idx) : EReal)) = fun k => arg2 m c (ix2 (row t r) k) := funext fun k => read_2 t r (V m c main_v1) k
  have e3 : (fun k : Fin 512 => (iblk m c 3 t (ix2 r k : S512x512.Idx) : EReal)) = fun k => arg3 m c (ix2 (row t r) k) := funext fun k => read_3 t r (V m c main_v2) k
  have e4 : (fun k : Fin 512 => (iblk m c 4 t (ix2 r k : S512x512.Idx) : EReal)) = fun k => arg4 m c (ix2 (row t r) k) := funext fun k => read_4 t r (V m c main_v3) k
  have e5 : (fun k : Fin 512 => (iblk m c 5 t (ix2 r k : S512x512.Idx) : EReal)) = fun k => arg5 m c (ix2 (row t r) k) := funext fun k => read_5 t r (V m c main_v4) k
  have e6 : (fun k : Fin 256 => (iblk m c 6 t (ix2 r k : S512x256.Idx) : EReal)) = fun k => argKV m c (ix2 (row t r) k) := funext fun k => read_6 t r (V m c main_v5) k
  have e7 : (fun k : Fin 2816 => (iblk m c 7 t (ix2 k d : S2816x1024.Idx) : EReal)) = fun k => argW m c (ix2 d k) := funext fun k => (read_7 t (V m c main_v7) k d).trans (weight k d)
  exact products_eq e1 e2 e3 e4 e5 e6 e7

/-! ## The array, from its blocks -/

theorem idx2 {n0 n1 : Nat} (y : (⟨2, ![n0, n1]⟩ : Shape).Idx) : y = ix2 (y 0) (y 1) :=
  funext fun a => match a with | ⟨0, _⟩ => rfl | ⟨1, _⟩ => rfl

theorem arr : (dats m 0 c).arrAt 8 cfg0.N = (gradR m c : S4096x1024.Idx → EReal) := by
  funext i
  refine (dats m 0 c).arrAt_forall_of_covers 8 (fun i v => v = (gradR m c : S4096x1024.Idx → EReal) i) (by decide +kernel) (fun t _ => ?_) i
  blk_simp
  show ∀ y : S512x1024.Idx, ((dats m 0 c).after 8 t y : EReal) = (gradR m c : S4096x1024.Idx → EReal) ((win0_8.blk t).view.emb y)
  intro y
  rw [idx2 y]
  exact (left t _ _).trans (congrArg (gradR m c) (emb_8 t _ _).symm)

set_option maxHeartbeats 2000000 in
set_option backward.isDefEq.respectTransparency.types false in
/-- The kernel leaves in its result what the reference leaves in its. -/
theorem algebraic : Cert.algebraic_DxIdeal_DxRefIdeal := by
  intro m g m' g' _ hargs
  refine ⟨_, ?_, Cert.DxRefIdeal.Value.run (F := Ideal) m' g'⟩
  refine (θ_run defs _ _).mono (fun r h c => ?_) (Value.run_blocks m g)
  obtain ⟨h0, h1, h2, h3, h4, h5, h6, h7⟩ := hargs c
  exact ⟨(h c).1.trans (arr.trans (Ref.grad_eq h0 h1 h2 h3 h4 h5 h6 h7).symm), (h c).2⟩

end Cert.Proof.Dx
end
-- ==== Proof.Inproj.Claims.lean ====
/- The frames of the input projection's forward call: the programs end and keep their arguments. -/
module

public import proofs.«01_k».proof.Defs
public import proofs.«01_k».proof.Proof.Gen.Inproj
public import proofs.«01_k».proof.Proof.Gen.InprojIdeal.Frame
public import proofs.«01_k».proof.Proof.Gen.InprojRefIdeal.Run
public import Idealize.ShloMosaic.Lib.Quiescent

@[expose] public section

noncomputable section

namespace Cert.Proof.Inproj

open Idealize.ShloMosaic Idealize.ShloMosaic.TcCoe Idealize.SL.Sem

section
open Cert.InprojIdeal Cert.InprojIdeal.Gen
variable {F : FTy → Type} [FloatOps F] (m : (ℓ : Loc nD τ sig) → Buf (Elt F) ℓ) (ρ : Dev nD → PrngReg)

/-- From `m` the call ends, its arguments unchanged and its counters zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)
theorem kept : Kept m ρ := frame m ρ
end

/-- The kernel's frame on machine numbers: the idealization has the same text, so its run, which holds over any
    float values, is the kernel's. -/
theorem frame_inproj : Cert.quiescent_Inproj := by
  have same : Cert.quiescent_Inproj = ∀ m ρ, True → Kept (F := Bits) m ρ := by sl_kernel_rfl
  rw [same]
  exact fun m ρ _ => kept m ρ

theorem frame_inprojIdeal : Cert.quiescent_InprojIdeal := fun m ρ _ => kept (F := Ideal) m ρ

/-- The reference keeps its arguments, and has no semaphore. -/
theorem frame_inprojRefIdeal : Cert.quiescent_InprojRefIdeal := fun m ρ _ =>
  (θ_run Cert.InprojRefIdeal.defs _ _).mono (fun r h => ⟨fun c => (h c).2, sem_eq_zero_of_no_sems rfl r.2⟩)
    (Cert.InprojRefIdeal.Value.run (F := Ideal) m ρ)

end Cert.Proof.Inproj

end
-- ==== Proof.Inproj.Value.lean ====
/- The input projection's forward call: its result is the reference's product. -/
module

public import proofs.«01_k».proof.Proof.Inproj.Claims
public import proofs.«01_k».proof.Proof.Gen.InprojIdeal.Value
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Inproj

open Idealize.ShloMosaic Idealize.ShloMosaic.StableHlo Idealize.ShloMosaic.TcCoe Idealize.SL.Sem
open Cert.InprojIdeal Cert.InprojIdeal.Gen

theorem idx2 {n0 n1 : Nat} (y : (⟨2, ![n0, n1]⟩ : Shape).Idx) : y = ix2 (y 0) (y 1) :=
  funext fun a => match a with | ⟨0, _⟩ => rfl | ⟨1, _⟩ => rfl

/-! ## A block -/

/-- The products of a block's rows with the weight's. -/
def block (x : S512x1024.Idx → EReal) (w : S2816x1024.Idx → EReal) : S512x2816.Idx → EReal := fun y =>
  ∑ k : Fin 1024, x (ix2 (y 0) k) * w (ix2 (y 1) k)

/-- The product the body stores for 256 of the weight's rows. -/
def piece (x : Vec Ideal S512x1024 .f32) (v : Vec Ideal S256x1024 .bf16) : FVec Ideal S512x256 .bf16 :=
  truncf .bf16 (matmul dot_S512x1024_S256x1024_S512x256_1_1_0_0_n_n none (truncf .bf16 x bitsLt_bf16_f32) (shapeCast S256x1024 v shapeCasts_S256x1024_S256x1024 : FVec Ideal S256x1024 .bf16) (constant S512x256 .f32 0x00000000#32)) bitsLt_bf16_f32

theorem piece_at (x : Vec Ideal S512x1024 .f32) (v : Vec Ideal S256x1024 .bf16) (r : Fin 512) (f : Fin 256) :
    (piece x v (ix2 r f) : EReal) = ∑ k : Fin 1024, (x (ix2 r k) : EReal) * (v (ix2 f k) : EReal) := by
  pointwise [piece]

theorem piece_block (x : Vec Ideal S512x1024 .f32) (w : Vec Ideal S2816x1024 .bf16) (o : Nat)
    (hw : ∀ a, (![o, 0] : Fin 2 → Nat) a + S256x1024.size a ≤ S2816x1024.size a) (ho : ∀ a, (![0, o] : Fin 2 → Nat) a + S512x256.size a ≤ S512x2816.size a) (y : S512x256.Idx) :
    (piece (View.ld x r0_0) (View.ld w (Rect.unit (s := S2816x1024) ![o, 0] S256x1024.size hw)) y : EReal)
      = block x w ((Rect.unit (s := S512x2816) ![0, o] S512x256.size ho).emb y) := by
  rw [idx2 y]
  refine (piece_at _ _ _ _).trans (Finset.sum_congr rfl fun k _ => ?_)
  refine congrArg₂ (· * ·) (congrArg x (funext fun a => Fin.ext ?_)) (congrArg w (funext fun a => Fin.ext ?_))
  · match a with
    | ⟨0, _⟩ => rfl
    | ⟨1, _⟩ => show 0 + 1 * k.val = k.val; omega
  · match a with
    | ⟨0, _⟩ => rfl
    | ⟨1, _⟩ => show 0 + 1 * k.val = k.val; omega

theorem out_2 (x : Vec Ideal S512x1024 .f32) (w : Vec Ideal S2816x1024 .bf16) : (out0_2 x w : S512x2816.Idx → EReal) = block x w := by
  unfold out0_2
  refine funext fun y => View.canon_apply_of_pieces (Val := Elt Ideal) (e := .bf16) (block x w) _ (fun p hp z => ?_) y (cover0_2 _ _ _ _ _ _ _ _ _ _ _ y)
  simp only [List.mem_cons, List.not_mem_nil, or_false] at hp
  rcases hp with h | h | h | h | h | h | h | h | h | h | h <;> subst h
  · exact piece_block x w 2560 inb_S2816x1024_S256x1024_2560_0 inb_S512x2816_S512x256_0_2560 z
  · exact piece_block x w 2304 inb_S2816x1024_S256x1024_2304_0 inb_S512x2816_S512x256_0_2304 z
  · exact piece_block x w 2048 inb_S2816x1024_S256x1024_2048_0 inb_S512x2816_S512x256_0_2048 z
  · exact piece_block x w 1792 inb_S2816x1024_S256x1024_1792_0 inb_S512x2816_S512x256_0_1792 z
  · exact piece_block x w 1536 inb_S2816x1024_S256x1024_1536_0 inb_S512x2816_S512x256_0_1536 z
  · exact piece_block x w 1280 inb_S2816x1024_S256x1024_1280_0 inb_S512x2816_S512x256_0_1280 z
  · exact piece_block x w 1024 inb_S2816x1024_S256x1024_1024_0 inb_S512x2816_S512x256_0_1024 z
  · exact piece_block x w 768 inb_S2816x1024_S256x1024_768_0 inb_S512x2816_S512x256_0_768 z
  · exact piece_block x w 512 inb_S2816x1024_S256x1024_512_0 inb_S512x2816_S512x256_0_512 z
  · exact piece_block x w 256 inb_S2816x1024_S256x1024_256_0 inb_S512x2816_S512x256_0_256 z
  · exact piece_block x w 0 inb_S2816x1024_S256x1024_0_0 inb_S512x2816_S512x256_0_0 z

/-! ## The blocks' rows -/

theorem points8 : cfg0.N = 8 := by decide +kernel
theorem at_rows : ∀ t : Fin cfg0.N, (win0_0.index t 0 = t.val ∧ win0_0.index t 1 = 0) ∧ (win0_2.index t 0 = t.val ∧ win0_2.index t 1 = 0) := by decide +kernel
theorem at_weight : ∀ t : Fin cfg0.N, win0_1.index t 0 = 0 ∧ win0_1.index t 1 = 0 := by decide +kernel

/-- A block's row among all rows. -/
def row (t : Fin cfg0.N) (r : Fin 512) : Fin 4096 := ⟨512 * t.val + r.val, by have := t.isLt; have := points8; omega⟩

section Blocks
variable (t : Fin cfg0.N) (r : Fin 512)
theorem read_0 (X : FVec Ideal S4096x1024 .f32) (l : Fin 1024) : ((win0_0.blk t).view.read (Elt Ideal) X (ix2 r l) : EReal) = (X (ix2 (row t r) l) : EReal) := by
  blk_simp
  refine congrArg X (funext fun a => Fin.ext ?_)
  match a with
  | ⟨0, _⟩ => blk_simp; rw [(at_rows t).1.1]; show _ = 512 * _ + _; omega
  | ⟨1, _⟩ => blk_simp; rw [(at_rows t).1.2]; omega
theorem read_1 (X : FVec Ideal S2816x1024 .bf16) (f : Fin 2816) (l : Fin 1024) : ((win0_1.blk t).view.read (Elt Ideal) X (ix2 f l) : EReal) = (X (ix2 f l) : EReal) := by
  blk_simp
  refine congrArg X (funext fun a => Fin.ext ?_)
  match a with
  | ⟨0, _⟩ => blk_simp; rw [(at_weight t).1]; omega
  | ⟨1, _⟩ => blk_simp; rw [(at_weight t).2]; omega
theorem emb_2 (f : Fin 2816) : (win0_2.blk t).view.emb (ix2 r f : S512x2816.Idx) = (ix2 (row t r) f : S4096x2816.Idx) := by
  refine funext fun a => Fin.ext ?_
  match a with
  | ⟨0, _⟩ => blk_simp; rw [(at_rows t).2.1]; show _ = 512 * _ + _; omega
  | ⟨1, _⟩ => blk_simp; rw [(at_rows t).2.2]; omega
end Blocks

/-! ## What a point leaves -/

variable {m : (ℓ : Loc nD τ sig) → Buf (Elt Ideal) ℓ} {c : Dev nD}

/-- The arguments, their elements as extended reals, -/
abbrev argX (m : (ℓ : Loc nD τ sig) → Buf (Elt Ideal) ℓ) (c : Dev nD) : S4096x1024.Idx → EReal := m ((c.tc : Thread nD τ).loc main_arg0)
abbrev argW (m : (ℓ : Loc nD τ sig) → Buf (Elt Ideal) ℓ) (c : Dev nD) : S1024x2816.Idx → EReal := m ((c.tc : Thread nD τ).loc main_arg1)
/-- and their product. -/
def prod (x : S4096x1024.Idx → EReal) (w : S1024x2816.Idx → EReal) : S4096x2816.Idx → EReal := fun i =>
  ∑ k : Fin 1024, x (ix2 (i 0) k) * w (ix2 k (i 1))

theorem weight (f : Fin 2816) (k : Fin 1024) : (V m c main_v1 (ix2 f k : S2816x1024.Idx) : EReal) = argW m c (ix2 k f) := by
  have e : V m c main_v1 = (truncf (F := Ideal) .bf16 (transpose S2816x1024 [1, 0] (m ((c.tc : Thread nD τ).loc main_arg1)) transposes_S1024x2816_S2816x1024_1_0) bitsLt_bf16_f32 : FVec Ideal S2816x1024 .bf16) := rfl
  rw [e]
  pointwise []

theorem left (t : Fin cfg0.N) (r : Fin 512) (f : Fin 2816) : ((dats m 0 c).after 2 t (ix2 r f : S512x2816.Idx) : EReal) = prod (argX m c) (argW m c) (ix2 (row t r) f : S4096x2816.Idx) := by
  rw [after0_2]
  refine (congrFun (out_2 _ _) _).trans (Finset.sum_congr rfl fun k _ => ?_)
  exact congrArg₂ (· * ·) ((read_0 t r (V m c main_arg0) k).trans (congrFun (V_main_arg0 m c) _)) ((read_1 t (V m c main_v1) f k).trans (weight f k))

/-! ## The array, from its blocks -/

theorem arr : (dats m 0 c).arrAt 2 cfg0.N = prod (argX m c) (argW m c) := by
  funext i
  refine (dats m 0 c).arrAt_forall_of_covers 2 (fun i v => v = (prod (argX m c) (argW m c) : S4096x2816.Idx → EReal) i) (by decide +kernel) (fun t _ => ?_) i
  blk_simp
  show ∀ y : S512x2816.Idx, ((dats m 0 c).after 2 t y : EReal) = (prod (argX m c) (argW m c) : S4096x2816.Idx → EReal) ((win0_2.blk t).view.emb y)
  intro y
  rw [idx2 y]
  exact (left t _ _).trans (congrArg (prod (argX m c) (argW m c)) (emb_2 t _ _).symm)

/-! ## The reference -/

namespace Ref
def prodR (x : FVec Ideal Cert.InprojRefIdeal.S4096x1024 .f32) (w : FVec Ideal Cert.InprojRefIdeal.S1024x2816 .f32) : FVec Ideal Cert.InprojRefIdeal.S4096x2816 .bf16 :=
  truncf .bf16 (Host.dotGeneral Cert.InprojRefIdeal.dot_S4096x1024_S1024x2816_S4096x2816_1_0_0_1_n_n none x w) Cert.InprojRefIdeal.Gen.bitsLt_bf16_f32

theorem prod_eq {x x' : FVec Ideal Cert.InprojRefIdeal.S4096x1024 .f32} {w w' : FVec Ideal Cert.InprojRefIdeal.S1024x2816 .f32} (hx : x = x') (hw : w = w') : prodR x w = prod x' w' := by
  subst hx hw
  funext i
  rw [idx2 i]
  show (prodR x w (ix2 (i 0) (i 1)) : EReal) = ∑ k : Fin 1024, (x (ix2 (i 0) k) : EReal) * (w (ix2 k (i 1)) : EReal)
  pointwise [prodR]
end Ref

set_option maxHeartbeats 2000000 in
set_option backward.isDefEq.respectTransparency.types false in
/-- The kernel leaves in its result what the reference leaves in its. -/
theorem algebraic : Cert.algebraic_InprojIdeal_InprojRefIdeal := by
  intro m g m' g' _ hargs
  refine ⟨_, ?_, Cert.InprojRefIdeal.Value.run (F := Ideal) m' g'⟩
  refine (θ_run defs _ _).mono (fun r h c => ?_) (Value.run_blocks m g)
  obtain ⟨h0, h1⟩ := hargs c
  exact ⟨(h c).1.trans (arr.trans (Ref.prod_eq h0 h1).symm), (h c).2⟩

end Cert.Proof.Inproj
end
-- ==== Proof.Dffn.Claims.lean ====
/- The frames of the feed-forward weights' gradient call: the programs end and keep their arguments. -/
module

public import proofs.«01_k».proof.Defs
public import proofs.«01_k».proof.Proof.Gen.Dffn
public import proofs.«01_k».proof.Proof.Gen.DffnIdeal.Frame
public import proofs.«01_k».proof.Proof.Gen.DffnRefIdeal.Run
public import Idealize.ShloMosaic.Lib.Quiescent

@[expose] public section

noncomputable section

namespace Cert.Proof.Dffn

open Idealize.ShloMosaic Idealize.ShloMosaic.TcCoe Idealize.SL.Sem

section
open Cert.DffnIdeal Cert.DffnIdeal.Gen
variable {F : FTy → Type} [FloatOps F] (m : (ℓ : Loc nD τ sig) → Buf (Elt F) ℓ) (ρ : Dev nD → PrngReg)

/-- From `m` the call ends, its arguments unchanged and its counters zero. -/
def Kept : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
theorem kept : Kept m ρ := frame m ρ
end

/-- The kernel's frame on machine numbers: the idealization has the same text, so its run, which holds over any
    float values, is the kernel's. -/
theorem frame_dffn : Cert.quiescent_Dffn := by
  have same : Cert.quiescent_Dffn = ∀ m ρ, True → Kept (F := Bits) m ρ := by sl_kernel_rfl
  rw [same]
  exact fun m ρ _ => kept m ρ

theorem frame_dffnIdeal : Cert.quiescent_DffnIdeal := fun m ρ _ => kept (F := Ideal) m ρ

/-- The reference keeps its arguments, and has no semaphore. -/
theorem frame_dffnRefIdeal : Cert.quiescent_DffnRefIdeal := fun m ρ _ =>
  (θ_run Cert.DffnRefIdeal.defs _ _).mono (fun r h => ⟨fun c => (h c).2.2.2, sem_eq_zero_of_no_sems rfl r.2⟩)
    (Cert.DffnRefIdeal.Value.run (F := Ideal) m ρ)

end Cert.Proof.Dffn

end
-- ==== Proof.Dffn.Value.lean ====
/- The feed-forward weights' gradient call: its three results are the reference's. -/
module

public import proofs.«01_k».proof.Proof.Dffn.Claims
public import proofs.«01_k».proof.Proof.Gen.DffnIdeal.Value
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Dffn

open Idealize.ShloMosaic Idealize.ShloMosaic.StableHlo Idealize.ShloMosaic.TcCoe Idealize.SL.Sem
open Cert.DffnIdeal Cert.DffnIdeal.Gen

/-! ## The gradient, and its blocks of rows -/

/-- One weight's gradient: the products of two arrays' columns, summed over the rows. -/
def grad (a : S4096x2816.Idx → EReal) (b : S4096x1024.Idx → EReal) : S2816x1024.Idx → EReal := fun i =>
  ∑ n : Fin 4096, a (ix2 n (i 0)) * b (ix2 n (i 1))

/-- A point's row of the arrays, and its column of the wider one. -/
def row (n : Nat) (k : Fin 512) : Fin 4096 := ⟨512 * (n % 8) + k.val, by omega⟩
def col (n : Nat) (f : Fin 1408) : Fin 2816 := ⟨1408 * (n / 8 % 2) + f.val, by omega⟩

/-- What a point adds: the sum over its block of rows. -/
def addend (a : S4096x2816.Idx → EReal) (b : S4096x1024.Idx → EReal) (n : Nat) : S1408x1024.Idx → EReal := fun i =>
  ∑ k : Fin 512, a (ix2 (row n k) (col n (i 0))) * b (ix2 (row n k) (i 1))

/-- A sum over the rows, cut into eight blocks. -/
theorem cut8 (f : Fin 4096 → EReal) : ∑ n, f n = ∑ s : Fin 8, ∑ k : Fin 512, f ⟨512 * s.val + k.val, by omega⟩ := by
  have h0 : ∑ n, f n = ∑ n : Fin (8 * 512), f n := rfl
  rw [h0, ← finProdFinEquiv.sum_comp, Fintype.sum_prod_type]
  exact Finset.sum_congr rfl fun s _ => Finset.sum_congr rfl fun k _ => congrArg f (Fin.ext (Nat.add_comm _ _))

theorem addends (a : S4096x2816.Idx → EReal) (b : S4096x1024.Idx → EReal) (q : Nat) (hq : q < 2) (f : Fin 1408) (d : Fin 1024) :
    0 + ∑ s ∈ Finset.range (7 + 1), addend a b (8 * q + s) (ix2 f d : S1408x1024.Idx) = grad a b (ix2 ⟨1408 * q + f.val, by omega⟩ d : S2816x1024.Idx) := by
  rw [zero_add, Finset.sum_range]
  refine Eq.trans ?_ (cut8 _).symm
  refine Finset.sum_congr rfl fun s _ => Finset.sum_congr rfl fun k _ => ?_
  have hs : s.val < 8 := s.isLt
  have hr : row (8 * q + s.val) k = ⟨512 * s.val + k.val, by omega⟩ := Fin.ext (show 512 * ((8 * q + s.val) % 8) + k.val = 512 * s.val + k.val by omega)
  have hc : col (8 * q + s.val) f = ⟨1408 * q + f.val, by omega⟩ := Fin.ext (show 1408 * ((8 * q + s.val) / 8 % 2) + f.val = 1408 * q + f.val by omega)
  show a (ix2 (row (8 * q + s.val) k) (col (8 * q + s.val) f)) * b (ix2 (row (8 * q + s.val) k) d) = _
  rw [hr, hc]
  rfl

/-! ## The blocks' reads -/

theorem points16 : cfg0.N = 16 := by decide +kernel
theorem at_wide : ∀ t : Fin cfg0.N, (win0_0.index t 0 = t.val % 8 ∧ win0_0.index t 1 = t.val / 8 % 2) ∧ (win0_1.index t 0 = t.val % 8 ∧ win0_1.index t 1 = t.val / 8 % 2)
    ∧ (win0_2.index t 0 = t.val % 8 ∧ win0_2.index t 1 = t.val / 8 % 2) := by decide +kernel
theorem at_rows : ∀ t : Fin cfg0.N, (win0_3.index t 0 = t.val % 8 ∧ win0_3.index t 1 = 0) ∧ (win0_4.index t 0 = t.val % 8 ∧ win0_4.index t 1 = 0) := by decide +kernel

section Reads
variable (t : Fin cfg0.N) (k : Fin 512)
theorem read_0 (X : FVec Ideal S4096x2816 .bf16) (f : Fin 1408) : ((win0_0.blk t).view.read (Elt Ideal) X (ix2 k f) : EReal) = (X (ix2 (row t.val k) (col t.val f)) : EReal) := by
  blk_simp
  refine congrArg X (funext fun a => Fin.ext ?_)
  match a with
  | ⟨0, _⟩ => blk_simp; rw [(at_wide t).1.1]; show _ = 512 * _ + _; omega
  | ⟨1, _⟩ => blk_simp; rw [(at_wide t).1.2]; show _ = 1408 * _ + _; omega
theorem read_1 (X : FVec Ideal S4096x2816 .bf16) (f : Fin 1408) : ((win0_1.blk t).view.read (Elt Ideal) X (ix2 k f) : EReal) = (X (ix2 (row t.val k) (col t.val f)) : EReal) := read_0 t k X f
theorem read_2 (X : FVec Ideal S4096x2816 .bf16) (f : Fin 1408) : ((win0_2.blk t).view.read (Elt Ideal) X (ix2 k f) : EReal) = (X (ix2 (row t.val k) (col t.val f)) : EReal) := read_0 t k X f
theorem read_3 (X : FVec Ideal S4096x1024 .bf16) (d : Fin 1024) : ((win0_3.blk t).view.read (Elt Ideal) X (ix2 k d) : EReal) = (X (ix2 (row t.val k) d) : EReal) := by
  blk_simp
  refine congrArg X (funext fun a => Fin.ext ?_)
  match a with
  | ⟨0, _⟩ => blk_simp; rw [(at_rows t).1.1]; show _ = 512 * _ + _; omega
  | ⟨1, _⟩ => blk_simp; rw [(at_rows t).1.2]; omega
theorem read_4 (X : FVec Ideal S4096x1024 .bf16) (d : Fin 1024) : ((win0_4.blk t).view.read (Elt Ideal) X (ix2 k d) : EReal) = (X (ix2 (row t.val k) d) : EReal) := read_3 t k X d
end Reads

/-! ## What a point's step does -/

theorem idx2 {n0 n1 : Nat} (y : (⟨2, ![n0, n1]⟩ : Shape).Idx) : y = ix2 (y 0) (y 1) :=
  funext fun a => match a with | ⟨0, _⟩ => rfl | ⟨1, _⟩ => rfl

theorem pay5_at (b : Vec Ideal S512x1024 .bf16) (acc : Vec Ideal S1408x1024 .f32) (a : Vec Ideal S512x1408 .bf16) (f : Fin 1408) (d : Fin 1024) :
    (k0_pay5 b acc a (ix2 f d) : EReal) = (acc (ix2 f d) : EReal) + ∑ k : Fin 512, (a (ix2 k f) : EReal) * (b (ix2 k d) : EReal) := by
  pointwise [k0_pay5, k0_pay4]
theorem pay6_at (b : Vec Ideal S512x1024 .bf16) (acc : Vec Ideal S1408x1024 .f32) (a : Vec Ideal S512x1408 .bf16) (f : Fin 1408) (d : Fin 1024) :
    (k0_pay6 b acc a (ix2 f d) : EReal) = (acc (ix2 f d) : EReal) + ∑ k : Fin 512, (a (ix2 k f) : EReal) * (b (ix2 k d) : EReal) := by
  pointwise [k0_pay6, k0_pay4]
theorem pay7_at (acc : Vec Ideal S1408x1024 .f32) (a : Vec Ideal S512x1408 .bf16) (b : Vec Ideal S512x1024 .bf16) (f : Fin 1408) (d : Fin 1024) :
    (k0_pay7 acc a b (ix2 f d) : EReal) = (acc (ix2 f d) : EReal) + ∑ k : Fin 512, (a (ix2 k f) : EReal) * (b (ix2 k d) : EReal) := by
  pointwise [k0_pay7]
theorem pay1_at (i : S1408x1024.Idx) : (k0_pay1 (F := Ideal) i : EReal) = 0 := by rw [idx2 i]; pointwise [k0_pay1]
theorem pay2_at (i : S1408x1024.Idx) : (k0_pay2 (F := Ideal) i : EReal) = 0 := by rw [idx2 i]; pointwise [k0_pay2]
theorem pay3_at (i : S1408x1024.Idx) : (k0_pay3 (F := Ideal) i : EReal) = 0 := by rw [idx2 i]; pointwise [k0_pay3]

variable {m : (ℓ : Loc nD τ sig) → Buf (Elt Ideal) ℓ} {c : Dev nD}

/-- The arguments, their elements as extended reals. -/
abbrev argA (m : (ℓ : Loc nD τ sig) → Buf (Elt Ideal) ℓ) (c : Dev nD) : S4096x2816.Idx → EReal := m ((c.tc : Thread nD τ).loc main_arg0)
abbrev argG (m : (ℓ : Loc nD τ sig) → Buf (Elt Ideal) ℓ) (c : Dev nD) : S4096x2816.Idx → EReal := m ((c.tc : Thread nD τ).loc main_arg1)
abbrev argU (m : (ℓ : Loc nD τ sig) → Buf (Elt Ideal) ℓ) (c : Dev nD) : S4096x2816.Idx → EReal := m ((c.tc : Thread nD τ).loc main_arg2)
abbrev argH (m : (ℓ : Loc nD τ sig) → Buf (Elt Ideal) ℓ) (c : Dev nD) : S4096x1024.Idx → EReal := m ((c.tc : Thread nD τ).loc main_arg3)
abbrev argZ (m : (ℓ : Loc nD τ sig) → Buf (Elt Ideal) ℓ) (c : Dev nD) : S4096x1024.Idx → EReal := m ((c.tc : Thread nD τ).loc main_arg4)

theorem step5_at (n : Nat) (h : n < cfg0.N) (acc : S1408x1024.Idx → EReal) (i : S1408x1024.Idx) :
    (Value.step5 m c n h acc i : EReal) = acc i + addend (argG m c) (argH m c) n i := by
  rw [idx2 i]
  refine (pay5_at _ _ _ _ _).trans (congrArg₂ (· + ·) rfl (Finset.sum_congr rfl fun k _ => ?_))
  exact congrArg₂ (· * ·) (read_1 ⟨n, h⟩ k (V m c main_v1) _) (read_3 ⟨n, h⟩ k (V m c main_v3) _)
theorem step6_at (n : Nat) (h : n < cfg0.N) (acc : S1408x1024.Idx → EReal) (i : S1408x1024.Idx) :
    (Value.step6 m c n h acc i : EReal) = acc i + addend (argU m c) (argH m c) n i := by
  rw [idx2 i]
  refine (pay6_at _ _ _ _ _).trans (congrArg₂ (· + ·) rfl (Finset.sum_congr rfl fun k _ => ?_))
  exact congrArg₂ (· * ·) (read_2 ⟨n, h⟩ k (V m c main_v2) _) (read_3 ⟨n, h⟩ k (V m c main_v3) _)
theorem step7_at (n : Nat) (h : n < cfg0.N) (acc : S1408x1024.Idx → EReal) (i : S1408x1024.Idx) :
    (Value.step7 m c n h acc i : EReal) = acc i + addend (argA m c) (argZ m c) n i := by
  rw [idx2 i]
  refine (pay7_at _ _ _ _ _).trans (congrArg₂ (· + ·) rfl (Finset.sum_congr rfl fun k _ => ?_))
  exact congrArg₂ (· * ·) (read_0 ⟨n, h⟩ k (V m c main_v0) _) (read_4 ⟨n, h⟩ k (V m c main_v4) _)
theorem reset5_at (n : Nat) (h : n < cfg0.N) (i : S1408x1024.Idx) : (Value.reset5 m c n h i : EReal) = 0 + addend (argG m c) (argH m c) n i :=
  (step5_at n h (k0_pay1 (F := Ideal)) i).trans (congrArg (· + _) (pay1_at i))
theorem reset6_at (n : Nat) (h : n < cfg0.N) (i : S1408x1024.Idx) : (Value.reset6 m c n h i : EReal) = 0 + addend (argU m c) (argH m c) n i :=
  (step6_at n h (k0_pay2 (F := Ideal)) i).trans (congrArg (· + _) (pay2_at i))
theorem reset7_at (n : Nat) (h : n < cfg0.N) (i : S1408x1024.Idx) : (Value.reset7 m c n h i : EReal) = 0 + addend (argA m c) (argZ m c) n i :=
  (step7_at n h (k0_pay3 (F := Ideal)) i).trans (congrArg (· + _) (pay3_at i))

/-! ## The arrays -/

/-- The fold over a run, when each point adds its block's sum, is the gradient's block. -/
theorem fold (a : S4096x2816.Idx → EReal) (b : S4096x1024.Idx → EReal) (reset : (n : Nat) → n < cfg0.N → S1408x1024.Idx → EReal)
    (step : (n : Nat) → n < cfg0.N → (S1408x1024.Idx → EReal) → S1408x1024.Idx → EReal)
    (hr : ∀ n h i, reset n h i = 0 + addend a b n i) (hs : ∀ n h acc i, step n h acc i = acc i + addend a b n i)
    (i : S2816x1024.Idx) (q : Nat) (hq : q = (i 0).val / 1408) (l : S1408x1024.Idx) (hl0 : (l 0).val = (i 0).val % 1408) (hl1 : (l 1).val = (i 1).val) (h : 8 * q + 7 < cfg0.N) :
    Pipeline.accAt reset step (8 * q) 7 h l = grad a b i := by
  have hi : (i 0).val < 2816 := (i 0).isLt
  rw [Pipeline.accAt_add_apply reset step (fun _ => 0) (addend a b) (8 * q) 7 (fun h i => hr _ h i) (fun n h acc i _ _ => hs n h acc i) 7 (Nat.le_refl _) h l, idx2 l]
  refine (addends a b q (by omega) (l 0) (l 1)).trans (congrArg (grad a b) ?_)
  refine funext fun x => Fin.ext ?_
  match x with
  | ⟨0, _⟩ => show 1408 * q + (l 0).val = (i 0).val; omega
  | ⟨1, _⟩ => exact hl1

theorem run_lt (i : S2816x1024.Idx) : 8 * (1 * ((i 0).val / 1408 - 0) + 1 * ((i 1).val / 1024 - 0)) + 7 < cfg0.N := by
  have h0 : (i 0).val < 2816 := (i 0).isLt
  have h1 : (i 1).val < 1024 := (i 1).isLt
  rw [points16]; omega
theorem run_eq (i : S2816x1024.Idx) : 1 * ((i 0).val / 1408 - 0) + 1 * ((i 1).val / 1024 - 0) = (i 0).val / 1408 := by
  have h1 : (i 1).val < 1024 := (i 1).isLt
  omega

theorem gate : Value.G5 m c = grad (argG m c) (argH m c) := by
  funext i
  refine (dif_pos (run_lt i)).trans ?_
  exact fold _ _ (Value.reset5 m c) (Value.step5 m c) (fun n h i => reset5_at n h i) (fun n h acc i => step5_at n h acc i) i _ (run_eq i) _ rfl (Nat.mod_eq_of_lt (i 1).isLt) _
theorem up : Value.G6 m c = grad (argU m c) (argH m c) := by
  funext i
  refine (dif_pos (run_lt i)).trans ?_
  exact fold _ _ (Value.reset6 m c) (Value.step6 m c) (fun n h i => reset6_at n h i) (fun n h acc i => step6_at n h acc i) i _ (run_eq i) _ rfl (Nat.mod_eq_of_lt (i 1).isLt) _
theorem down : Value.G7 m c = grad (argA m c) (argZ m c) := by
  funext i
  refine (dif_pos (run_lt i)).trans ?_
  exact fold _ _ (Value.reset7 m c) (Value.step7 m c) (fun n h i => reset7_at n h i) (fun n h acc i => step7_at n h acc i) i _ (run_eq i) _ rfl (Nat.mod_eq_of_lt (i 1).isLt) _

/-! ## The reference -/

namespace Ref
def turned (a : FVec Ideal Cert.DffnRefIdeal.S4096x2816 .f32) (b : FVec Ideal Cert.DffnRefIdeal.S4096x1024 .f32) : FVec Ideal Cert.DffnRefIdeal.S2816x1024 .f32 :=
  transpose Cert.DffnRefIdeal.S2816x1024 [1, 0] (transpose Cert.DffnRefIdeal.S1024x2816 [1, 0] (Host.dotGeneral Cert.DffnRefIdeal.dot_S4096x2816_S4096x1024_S2816x1024_0_0_1_1_n_n none a b) Cert.DffnRefIdeal.Gen.transposes_S2816x1024_S1024x2816_1_0) Cert.DffnRefIdeal.Gen.transposes_S1024x2816_S2816x1024_1_0
def swapped (a : FVec Ideal Cert.DffnRefIdeal.S4096x2816 .f32) (b : FVec Ideal Cert.DffnRefIdeal.S4096x1024 .f32) : FVec Ideal Cert.DffnRefIdeal.S2816x1024 .f32 :=
  transpose Cert.DffnRefIdeal.S2816x1024 [1, 0] (Host.dotGeneral Cert.DffnRefIdeal.dot_S4096x1024_S4096x2816_S1024x2816_0_0_1_1_n_n none b a) Cert.DffnRefIdeal.Gen.transposes_S1024x2816_S2816x1024_1_0

theorem turned_eq {a a' : FVec Ideal Cert.DffnRefIdeal.S4096x2816 .f32} {b b' : FVec Ideal Cert.DffnRefIdeal.S4096x1024 .f32} (ha : a = a') (hb : b = b') : turned a b = grad a' b' := by
  subst ha hb
  funext i
  rw [idx2 i]
  show (turned a b (ix2 (i 0) (i 1)) : EReal) = ∑ n : Fin 4096, (a (ix2 n (i 0)) : EReal) * (b (ix2 n (i 1)) : EReal)
  pointwise [turned]
theorem swapped_eq {a a' : FVec Ideal Cert.DffnRefIdeal.S4096x2816 .f32} {b b' : FVec Ideal Cert.DffnRefIdeal.S4096x1024 .f32} (ha : a = a') (hb : b = b') : swapped a b = grad a' b' := by
  subst ha hb
  funext i
  rw [idx2 i]
  show (swapped a b (ix2 (i 0) (i 1)) : EReal) = ∑ n : Fin 4096, (a (ix2 n (i 0)) : EReal) * (b (ix2 n (i 1)) : EReal)
  pointwise [swapped]
  exact Finset.sum_congr rfl fun n _ => mul_comm _ _
end Ref

set_option maxHeartbeats 2000000 in
set_option backward.isDefEq.respectTransparency.types false in
/-- The kernel leaves in its three results what the reference leaves in its. -/
theorem algebraic : Cert.algebraic_DffnIdeal_DffnRefIdeal := by
  intro m g m' g' _ hargs
  refine ⟨_, _, _, ?_, Cert.DffnRefIdeal.Value.run (F := Ideal) m' g'⟩
  refine (θ_run defs _ _).mono (fun r h c => ?_) (Value.run m g)
  obtain ⟨h0, h1, h2, h3, h4⟩ := hargs c
  exact ⟨(h c).1.trans (gate.trans (Ref.turned_eq h1 h3).symm), (h c).2.1.trans (up.trans (Ref.turned_eq h2 h3).symm),
    (h c).2.2.1.trans (down.trans (Ref.swapped_eq h0 h4).symm), (h c).2.2.2⟩

end Cert.Proof.Dffn
end
-- ==== Proof.lean ====
/- The certificate: the frames and the values of the feed-forward layer's backward call, of the windowed
   attention's two calls, of the feed-forward call with the second layer norm and the loss, of the output
   projection with the first layer norm, of the input projection's two calls, and of the feed-forward weights'
   gradient call. -/
module

public import proofs.«01_k».proof.Defs
public import proofs.«01_k».proof.Proof.Ffn.Claims
public import proofs.«01_k».proof.Proof.Ffn.Value
public import proofs.«01_k».proof.Proof.Attn.Claims
public import proofs.«01_k».proof.Proof.Attn.Value
public import proofs.«01_k».proof.Proof.Loss.Claims
public import proofs.«01_k».proof.Proof.Loss.Value
public import proofs.«01_k».proof.Proof.Fwd.Claims
public import proofs.«01_k».proof.Proof.Fwd.Value
public import proofs.«01_k».proof.Proof.Ln1.Claims
public import proofs.«01_k».proof.Proof.Ln1.Value
public import proofs.«01_k».proof.Proof.Dx.Claims
public import proofs.«01_k».proof.Proof.Dx.Value
public import proofs.«01_k».proof.Proof.Inproj.Claims
public import proofs.«01_k».proof.Proof.Inproj.Value
public import proofs.«01_k».proof.Proof.Dffn.Claims
public import proofs.«01_k».proof.Proof.Dffn.Value

@[expose] public section
noncomputable section
namespace Cert.Proof
open Idealize.ShloMosaic Idealize.SL.Sem

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Loss.Gen.facts, Cert.LossIdeal.Gen.facts, Cert.LossRefIdeal.Gen.facts,
  Cert.Fwd.Gen.facts, Cert.FwdIdeal.Gen.facts, Cert.FwdRefIdeal.Gen.facts,
  Cert.Ln1.Gen.facts, Cert.Ln1Ideal.Gen.facts, Cert.Ln1RefIdeal.Gen.facts,
  Cert.Dx.Gen.facts, Cert.DxIdeal.Gen.facts, Cert.DxRefIdeal.Gen.facts,
  Cert.Inproj.Gen.facts, Cert.InprojIdeal.Gen.facts, Cert.InprojRefIdeal.Gen.facts,
  Cert.Dffn.Gen.facts, Cert.DffnIdeal.Gen.facts, Cert.DffnRefIdeal.Gen.facts,
  Cert.Pre_finite_ffn.Gen.facts, Cert.Pre_finite_attn.Gen.facts, Cert.Pre_finite_loss.Gen.facts, Cert.Pre_finite_fwd.Gen.facts,
  Ffn.frame_ffn, Ffn.frame_ffnIdeal, fun m ρ _ => Ffn.frame_ffnIdeal m ρ trivial,
  Ffn.frame_ffnRefIdeal, fun m ρ _ => Ffn.frame_ffnRefIdeal m ρ trivial,
  Attn.frame_attn, Attn.frame_attnIdeal, fun m ρ _ => Attn.frame_attnIdeal m ρ trivial,
  Attn.frame_attnRefIdeal, fun m ρ _ => Attn.frame_attnRefIdeal m ρ trivial,
  Loss.frame_loss, Loss.frame_lossIdeal, fun m ρ _ => Loss.frame_lossIdeal m ρ trivial,
  Loss.frame_lossRefIdeal, fun m ρ _ => Loss.frame_lossRefIdeal m ρ trivial,
  Fwd.frame_fwd, Fwd.frame_fwdIdeal, fun m ρ _ => Fwd.frame_fwdIdeal m ρ trivial,
  Fwd.frame_fwdRefIdeal, fun m ρ _ => Fwd.frame_fwdRefIdeal m ρ trivial,
  Ln1.frame_ln1, Ln1.frame_ln1Ideal, Ln1.frame_ln1RefIdeal,
  Dx.frame_dx, Dx.frame_dxIdeal, Dx.frame_dxRefIdeal,
  Inproj.frame_inproj, Inproj.frame_inprojIdeal, Inproj.frame_inprojRefIdeal,
  Dffn.frame_dffn, Dffn.frame_dffnIdeal, Dffn.frame_dffnRefIdeal,
  trivial, Ffn.algebraic, trivial, Attn.algebraic, trivial, Loss.algebraic, trivial, Fwd.algebraic,
  trivial, Ln1.algebraic, trivial, Dx.algebraic, trivial, Inproj.algebraic, trivial, Dffn.algebraic⟩
end Cert.Proof
end
